-- ==== Defs.lean ====
def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def preserves_Prep_PrepIdeal : Prop :=
  True

def preserves_Attn_AttnIdeal : Prop :=
  IdealRules.named_const.Statement Cert.AttnIdeal.κ "exp_scale" .f32 0x3D8293EE#32 (((11863283 / 268435456) * (Real.log 2)⁻¹ : ℝ) : EReal)

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v3_0)) (v1 : (c : Dev Cert.AttnIdeal.nD) → Buf (Elt Ideal) ((c.tc : Thread Cert.AttnIdeal.nD Cert.AttnIdeal.τ).loc Cert.AttnIdeal.main_v3_1)) (v2 : (c : Dev Cert.AttnIdeal.nD) → Buf (Elt Ideal) ((c.tc : Thread Cert.AttnIdeal.nD Cert.AttnIdeal.τ).loc Cert.AttnIdeal.main_v3_2)) (v3 : (c : Dev Cert.AttnIdeal.nD) → Buf (Elt Ideal) ((c.tc : Thread Cert.AttnIdeal.nD Cert.AttnIdeal.τ).loc Cert.AttnIdeal.main_v3_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3_0) = v0 c
          ∧ r.2.mem ((c.tc : Thread Cert.AttnIdeal.nD Cert.AttnIdeal.τ).loc Cert.AttnIdeal.main_v3_1) = v1 c
          ∧ r.2.mem ((c.tc : Thread Cert.AttnIdeal.nD Cert.AttnIdeal.τ).loc Cert.AttnIdeal.main_v3_2) = v2 c
          ∧ r.2.mem ((c.tc : Thread Cert.AttnIdeal.nD Cert.AttnIdeal.τ).loc Cert.AttnIdeal.main_v3_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v62_0) = v0 c
          ∧ r.2.mem ((c.tc : Thread Cert.AttnRefIdeal.nD Cert.AttnRefIdeal.τ).loc Cert.AttnRefIdeal.main_v62_1) = v1 c
          ∧ r.2.mem ((c.tc : Thread Cert.AttnRefIdeal.nD Cert.AttnRefIdeal.τ).loc Cert.AttnRefIdeal.main_v62_2) = v2 c
          ∧ r.2.mem ((c.tc : Thread Cert.AttnRefIdeal.nD Cert.AttnRefIdeal.τ).loc Cert.AttnRefIdeal.main_v63) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def Claim : Prop :=
  ∃ (hPrep : Cert.Prep.Facts) (hPrepIdeal : Cert.PrepIdeal.Facts) (hPrepRefIdeal : Cert.PrepRefIdeal.Facts) (hAttn : Cert.Attn.Facts) (hAttnIdeal : Cert.AttnIdeal.Facts) (hAttnRefIdeal : Cert.AttnRefIdeal.Facts),
    quiescent_Prep (hPrep := hPrep)
    ∧ quiescent_PrepIdeal (hPrepIdeal := hPrepIdeal)
    ∧ quiescent_PrepRefIdeal (hPrepRefIdeal := hPrepRefIdeal)
    ∧ quiescent_Attn (hAttn := hAttn)
    ∧ quiescent_AttnIdeal (hAttnIdeal := hAttnIdeal)
    ∧ quiescent_AttnRefIdeal (hAttnRefIdeal := hAttnRefIdeal)
    ∧ preserves_Prep_PrepIdeal
    ∧ preserves_Attn_AttnIdeal
    ∧ algebraic_AttnIdeal_AttnRefIdeal (hAttnIdeal := hAttnIdeal) (hAttnRefIdeal := hAttnRefIdeal)
-- ==== Prep.lean ====
abbrev S10x512x8192 : Shape := ⟨3, ![10, 512, 8192]⟩
abbrev S512 : Shape := ⟨1, ![512]⟩
abbrev S512x512 : Shape := ⟨2, ![512, 512]⟩
abbrev S512x1 : Shape := ⟨2, ![512, 1]⟩
abbrev S10x1x8192 : Shape := ⟨3, ![10, 1, 8192]⟩
abbrev S10x8192x512 : Shape := ⟨3, ![10, 8192, 512]⟩
abbrev S1x512x8192 : Shape := ⟨3, ![1, 512, 8192]⟩
abbrev S1x512x512 : Shape := ⟨3, ![1, 512, 512]⟩
abbrev S1x1x512 : Shape := ⟨3, ![1, 1, 512]⟩
abbrev S512x128 : Shape := ⟨2, ![512, 128]⟩
abbrev S1x16x8192 : Shape := ⟨3, ![1, 16, 8192]⟩
abbrev S16x8192 : Shape := ⟨2, ![16, 8192]⟩
abbrev S1 : Shape := ⟨1, ![1]⟩
abbrev S1x1x1 : Shape := ⟨3, ![1, 1, 1]⟩
abbrev S1x1 : Shape := ⟨2, ![1, 1]⟩
abbrev S16x128 : Shape := ⟨2, ![16, 128]⟩
abbrev S1x512 : Shape := ⟨2, ![1, 512]⟩

abbrev nBuf : Space → Nat
  | .hbm => 26
  | .vmem => 24
  | .smem => 0
  | _ => 0

abbrev bufTy : (tb : Table) → Fin (tcTables nBuf tb) → BufTy
  | .hbm, ⟨0, _⟩ => ⟨S10x512x8192, .bf16⟩
  | .hbm, ⟨1, _⟩ => ⟨S512, .f32⟩
  | .hbm, ⟨2, _⟩ => ⟨S512, .f32⟩
  | .hbm, ⟨3, _⟩ => ⟨S512x512, .fp8e4m3⟩
  | .hbm, ⟨4, _⟩ => ⟨S512x512, .fp8e4m3⟩
  | .hbm, ⟨5, _⟩ => ⟨S512x512, .fp8e4m3⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512x1, .f32⟩
  | .hbm, ⟨12, _⟩ => ⟨S512x1, .f32⟩
  | .hbm, ⟨13, _⟩ => ⟨S512x512, .fp8e4m3⟩
  | .hbm, ⟨14, _⟩ => ⟨S512x512, .fp8e4m3⟩
  | .hbm, ⟨15, _⟩ => ⟨S512x512, .fp8e4m3⟩
  | .hbm, ⟨16, _⟩ => ⟨S512x1, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x1, .f32⟩
  | .hbm, ⟨21, _⟩ => ⟨S10x512x8192, .fp8e4m3⟩
  | .hbm, ⟨22, _⟩ => ⟨S10x1x8192, .f32⟩
  | .hbm, ⟨23, _⟩ => ⟨S10x512x8192, .bf16⟩
  | .hbm, ⟨24, _⟩ => ⟨S10x8192x512, .bf16⟩
  | .hbm, ⟨25, _⟩ => ⟨S10x512x8192, .bf16⟩
  | .local _ .vmem, ⟨0, _⟩ => ⟨S1x512x8192, .bf16⟩
  | .local _ .vmem, ⟨1, _⟩ => ⟨S1x512x8192, .bf16⟩
  | .local _ .vmem, ⟨2, _⟩ => ⟨S512x1, .f32⟩
  | .local _ .vmem, ⟨3, _⟩ => ⟨S512x1, .f32⟩
  | .local _ .vmem, ⟨4, _⟩ => ⟨S512x512, .fp8e4m3⟩
  | .local _ .vmem, ⟨5, _⟩ => ⟨S512x512, .fp8e4m3⟩
  | .local _ .vmem, ⟨6, _⟩ => ⟨S512x512, .fp8e4m3⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S1x512x512, .fp8e4m3⟩
  | .local _ .vmem, ⟨13, _⟩ => ⟨S1x512x512, .fp8e4m3⟩
  | .local _ .vmem, ⟨14, _⟩ => ⟨S1x1x512, .f32⟩
  | .local _ .vmem, ⟨15, _⟩ => ⟨S1x1x512, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S512x128, .f32⟩
  | .local _ .vmem, ⟨23, _⟩ => ⟨S512x128, .f32⟩
  | _, _ => ⟨S10x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨2, ![10, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_68 : BitVec 32 := 0#32
  let c32_i32_69 : BitVec 32 := 32#32
  let v181 : BitVec 32 := Scalar.addi c0_i32_68 c32_i32_69
  let c1_i32_70 : BitVec 32 := 1#32
  ⟨c0_i32_68, v181, c1_i32_70⟩
def k0_mult1 (k0_t1 : Fin k0_t1_loop.trips) : BitVec 32 :=
  let c0_i32_68 : BitVec 32 := 0#32
  let c1_i32_70 : BitVec 32 := 1#32
  let arg20 : BitVec 32 := Scf.iv c0_i32_68 c1_i32_70 k0_t1
  let c16_i32_72 : BitVec 32 := 16#32
  let v182 : BitVec 32 := Scalar.muli arg20 c16_i32_72
  v182
def k0_off1 (k0_t1 : Fin k0_t1_loop.trips) : Fin 3 → Nat :=
  let c0_73 : Index := 0#32
  let c0_i32_68 : BitVec 32 := 0#32
  let c1_i32_70 : BitVec 32 := 1#32
  let arg20 : BitVec 32 := Scf.iv c0_i32_68 c1_i32_70 k0_t1
  let c16_i32_72 : BitVec 32 := 16#32
  let v182 : BitVec 32 := Scalar.muli arg20 c16_i32_72
  let v183 : BitVec 32 := v182
  let v184 : Index := Scalar.indexCast v183
  let c0_74 : Index := 0#32
  ![0, v184.toNat, 0]
def k0_off2 (k0_t1 : Fin k0_t1_loop.trips) : Fin 2 → Nat :=
  let c0_i32_68 : BitVec 32 := 0#32
  let c1_i32_70 : BitVec 32 := 1#32
  let arg20 : BitVec 32 := Scf.iv c0_i32_68 c1_i32_70 k0_t1
  let c16_i32_72 : BitVec 32 := 16#32
  let v182 : BitVec 32 := Scalar.muli arg20 c16_i32_72
  let v183 : BitVec 32 := v182
  let v207 : Index := Scalar.indexCast v183
  let c0_79 : Index := 0#32
  ![v207.toNat, 0]
def k0_mult2 (i : grid0.Coords) : BitVec 32 :=
  let arg1 : BitVec 32 := BitVec.ofNat 32 (i 1).val
  let c512_i32 : BitVec 32 := 512#32
  let v3 : BitVec 32 := Scalar.muli arg1 c512_i32
  v3
def k0_off3 (i : grid0.Coords) : Fin 3 → Nat :=
  let c0 : Index := 0#32
  let c0_1 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, 0, v5.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== PrepRefIdeal.lean ====
abbrev S10x512x8192 : Shape := ⟨3, ![10, 512, 8192]⟩
abbrev S512 : Shape := ⟨1, ![512]⟩
abbrev S512x512 : Shape := ⟨2, ![512, 512]⟩
abbrev S10x32x16x8192 : Shape := ⟨4, ![10, 32, 16, 8192]⟩
abbrev S_ : Shape := ⟨0, ![]⟩
abbrev S10x32 : Shape := ⟨2, ![10, 32]⟩
abbrev S10x32x1x1 : Shape := ⟨4, ![10, 32, 1, 1]⟩
abbrev S1x512x1 : Shape := ⟨3, ![1, 512, 1]⟩
abbrev S10x8192 : Shape := ⟨2, ![10, 8192]⟩
abbrev S254 : Shape := ⟨1, ![254]⟩
abbrev S10x8192x1 : Shape := ⟨3, ![10, 8192, 1]⟩
abbrev S1x1x254 : Shape := ⟨3, ![1, 1, 254]⟩
abbrev S10x8192x254 : Shape := ⟨3, ![10, 8192, 254]⟩
abbrev S10x8192x512 : Shape := ⟨3, ![10, 8192, 512]⟩
abbrev S10x1x8192 : Shape := ⟨3, ![10, 1, 8192]⟩
abbrev S1x512x512 : Shape := ⟨3, ![1, 512, 512]⟩
abbrev S10x512x512 : Shape := ⟨3, ![10, 512, 512]⟩

abbrev nBuf : Space → Nat
  | .hbm => 125
  | .vmem => 16
  | .smem => 0
  | _ => 0

abbrev bufTy : (tb : Table) → Fin (tcTables nBuf tb) → BufTy
  | .hbm, ⟨0, _⟩ => ⟨S10x512x8192, .bf16⟩
  | .hbm, ⟨1, _⟩ => ⟨S512, .f32⟩
  | .hbm, ⟨2, _⟩ => ⟨S512, .f32⟩
  | .hbm, ⟨3, _⟩ => ⟨S512x512, .fp8e4m3⟩
  | .hbm, ⟨4, _⟩ => ⟨S512x512, .fp8e4m3⟩
  | .hbm, ⟨5, _⟩ => ⟨S512x512, .fp8e4m3⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S10x512x8192, .f32⟩
  | .hbm, ⟨12, _⟩ => ⟨S10x32x16x8192, .f32⟩
  | .hbm, ⟨13, _⟩ => ⟨S_, .f32⟩
  | .hbm, ⟨14, _⟩ => ⟨S10x32, .f32⟩
  | .hbm, ⟨15, _⟩ => ⟨S10x32x1x1, .f32⟩
  | .hbm, ⟨16, _⟩ => ⟨S_, .f32⟩
  | .hbm, ⟨17, _⟩ => ⟨S10x32x1x1, .f32⟩
  | .hbm, ⟨18, _⟩ => ⟨S10x32x1x1, .f32⟩
  | .hbm, ⟨19, _⟩ => ⟨S10x32x16x8192, .f32⟩
  | .hbm, ⟨20, _⟩ => ⟨S10x32x16x8192, .f32⟩
  | .hbm, ⟨21, _⟩ => ⟨S10x32x16x8192, .f32⟩
  | .hbm, ⟨22, _⟩ => ⟨S_, .f32⟩
  | .hbm, ⟨23, _⟩ => ⟨S10x32, .f32⟩
  | .hbm, ⟨24, _⟩ => ⟨S10x32x1x1, .f32⟩
  | .hbm, ⟨25, _⟩ => ⟨S_, .f32⟩
  | .hbm, ⟨26, _⟩ => ⟨S10x32x1x1, .f32⟩
  | .hbm, ⟨27, _⟩ => ⟨S10x32x1x1, .f32⟩
  | .hbm, ⟨28, _⟩ => ⟨S_, .f32⟩
  | .hbm, ⟨29, _⟩ => ⟨S10x32x1x1, .f32⟩
  | .hbm, ⟨30, _⟩ => ⟨S10x32x1x1, .f32⟩
  | .hbm, ⟨31, _⟩ => ⟨S10x32x1x1, .f32⟩
  | .hbm, ⟨32, _⟩ => ⟨S10x32x16x8192, .f32⟩
  | .hbm, ⟨33, _⟩ => ⟨S10x32x16x8192, .f32⟩
  | .hbm, ⟨34, _⟩ => ⟨S10x512x8192, .f32⟩
  | .hbm, ⟨35, _⟩ => ⟨S1x512x1, .f32⟩
  | .hbm, ⟨36, _⟩ => ⟨S10x512x8192, .f32⟩
  | .hbm, ⟨37, _⟩ => ⟨S10x512x8192, .f32⟩
  | .hbm, ⟨38, _⟩ => ⟨S1x512x1, .f32⟩
  | .hbm, ⟨39, _⟩ => ⟨S10x512x8192, .f32⟩
  | .hbm, ⟨40, _⟩ => ⟨S10x512x8192, .f32⟩
  | .hbm, ⟨41, _⟩ => ⟨S10x512x8192, .f32⟩
  | .hbm, ⟨42, _⟩ => ⟨S_, .f32⟩
  | .hbm, ⟨43, _⟩ => ⟨S10x8192, .f32⟩
  | .hbm, ⟨44, _⟩ => ⟨S_, .f32⟩
  | .hbm, ⟨45, _⟩ => ⟨S10x8192, .f32⟩
  | .hbm, ⟨46, _⟩ => ⟨S10x8192, .f32⟩
  | .hbm, ⟨47, _⟩ => ⟨S254, .i32⟩
  | .hbm, ⟨48, _⟩ => ⟨S_, .i32⟩
  | .hbm, ⟨49, _⟩ => ⟨S254, .i32⟩
  | .hbm, ⟨50, _⟩ => ⟨S254, .i32⟩
  | .hbm, ⟨51, _⟩ => ⟨S_, .f32⟩
  | .hbm, ⟨52, _⟩ => ⟨S254, .f32⟩
  | .hbm, ⟨53, _⟩ => ⟨S254, .f32⟩
  | .hbm, ⟨54, _⟩ => ⟨S254, .f32⟩
  | .hbm, ⟨55, _⟩ => ⟨S10x8192x1, .f32⟩
  | .hbm, ⟨56, _⟩ => ⟨S1x1x254, .f32⟩
  | .hbm, ⟨57, _⟩ => ⟨S10x8192x254, .f32⟩
  | .hbm, ⟨58, _⟩ => ⟨S10x8192x254, .f32⟩
  | .hbm, ⟨59, _⟩ => ⟨S10x8192x254, .i1⟩
  | .hbm, ⟨60, _⟩ => ⟨S10x8192x254, .i32⟩
  | .hbm, ⟨61, _⟩ => ⟨S_, .i32⟩
  | .hbm, ⟨62, _⟩ => ⟨S10x8192, .i32⟩
  | .hbm, ⟨63, _⟩ => ⟨S_, .i32⟩
  | .hbm, ⟨64, _⟩ => ⟨S10x8192, .i32⟩
  | .hbm, ⟨65, _⟩ => ⟨S10x8192, .i1⟩
  | .hbm, ⟨66, _⟩ => ⟨S_, .f32⟩
  | .hbm, ⟨67, _⟩ => ⟨S10x8192, .f32⟩
  | .hbm, ⟨68, _⟩ => ⟨S10x8192, .i1⟩
  | .hbm, ⟨69, _⟩ => ⟨S10x8192, .i1⟩
  | .hbm, ⟨70, _⟩ => ⟨S_, .i32⟩
  | .hbm, ⟨71, _⟩ => ⟨S10x8192, .i32⟩
  | .hbm, ⟨72, _⟩ => ⟨S10x8192, .i32⟩
  | .hbm, ⟨73, _⟩ => ⟨S_, .i32⟩
  | .hbm, ⟨74, _⟩ => ⟨S_, .i32⟩
  | .hbm, ⟨75, _⟩ => ⟨S10x8192, .i32⟩
  | .hbm, ⟨76, _⟩ => ⟨S10x8192, .i32⟩
  | .hbm, ⟨77, _⟩ => ⟨S_, .i32⟩
  | .hbm, ⟨78, _⟩ => ⟨S10x8192, .i32⟩
  | .hbm, ⟨79, _⟩ => ⟨S10x8192, .i1⟩
  | .hbm, ⟨80, _⟩ => ⟨S_, .i32⟩
  | .hbm, ⟨81, _⟩ => ⟨S10x8192, .i32⟩
  | .hbm, ⟨82, _⟩ => ⟨S10x8192, .i1⟩
  | .hbm, ⟨83, _⟩ => ⟨S_, .f32⟩
  | .hbm, ⟨84, _⟩ => ⟨S10x8192, .f32⟩
  | .hbm, ⟨85, _⟩ => ⟨S10x8192, .f32⟩
  | .hbm, ⟨86, _⟩ => ⟨S10x8192, .f32⟩
  | .hbm, ⟨87, _⟩ => ⟨S_, .f32⟩
  | .hbm, ⟨88, _⟩ => ⟨S_, .f32⟩
  | .hbm, ⟨89, _⟩ => ⟨S10x8192, .f32⟩
  | .hbm, ⟨90, _⟩ => ⟨S10x8192, .f32⟩
  | .hbm, ⟨91, _⟩ => ⟨S_, .f32⟩
  | .hbm, ⟨92, _⟩ => ⟨S_, .f32⟩
  | .hbm, ⟨93, _⟩ => ⟨S10x8192, .f32⟩
  | .hbm, ⟨94, _⟩ => ⟨S10x8192, .f32⟩
  | .hbm, ⟨95, _⟩ => ⟨S10x8192, .i32⟩
  | .hbm, ⟨96, _⟩ => ⟨S_, .i32⟩
  | .hbm, ⟨97, _⟩ => ⟨S10x8192, .i32⟩
  | .hbm, ⟨98, _⟩ => ⟨S10x8192, .i1⟩
  | .hbm, ⟨99, _⟩ => ⟨S_, .i32⟩
  | .hbm, ⟨100, _⟩ => ⟨S10x8192, .i32⟩
  | .hbm, ⟨101, _⟩ => ⟨S10x8192, .i1⟩
  | .hbm, ⟨102, _⟩ => ⟨S_, .f32⟩
  | .hbm, ⟨103, _⟩ => ⟨S10x8192, .f32⟩
  | .hbm, ⟨104, _⟩ => ⟨S10x8192, .f32⟩
  | .hbm, ⟨105, _⟩ => ⟨S10x8192, .f32⟩
  | .hbm, ⟨106, _⟩ => ⟨S_, .f32⟩
  | .hbm, ⟨107, _⟩ => ⟨S_, .f32⟩
  | .hbm, ⟨108, _⟩ => ⟨S10x8192, .f32⟩
  | .hbm, ⟨109, _⟩ => ⟨S10x8192, .f32⟩
  | .hbm, ⟨110, _⟩ => ⟨S_, .f32⟩
  | .hbm, ⟨111, _⟩ => ⟨S_, .f32⟩
  | .hbm, ⟨112, _⟩ => ⟨S10x8192, .f32⟩
  | .hbm, ⟨113, _⟩ => ⟨S10x8192, .f32⟩
  | .hbm, ⟨114, _⟩ => ⟨S1x512x1, .f32⟩
  | .hbm, ⟨115, _⟩ => ⟨S1x512x1, .f32⟩
  | .hbm, ⟨116, _⟩ => ⟨S1x512x1, .f32⟩
  | .hbm, ⟨117, _⟩ => ⟨S1x512x1, .f32⟩
  | .hbm, ⟨118, _⟩ => ⟨S1x512x1, .f32⟩
  | .hbm, ⟨119, _⟩ => ⟨S10x512x8192, .fp8e4m3⟩
  | .hbm, ⟨120, _⟩ => ⟨S10x8192, .f32⟩
  | .hbm, ⟨121, _⟩ => ⟨S10x512x8192, .bf16⟩
  | .hbm, ⟨122, _⟩ => ⟨S10x8192x512, .bf16⟩
  | .hbm, ⟨123, _⟩ => ⟨S10x512x8192, .bf16⟩
  | .hbm, ⟨124, _⟩ => ⟨S10x1x8192, .f32⟩
  | .local _ .vmem, ⟨0, _⟩ => ⟨S10x512x8192, .f32⟩
  | .local _ .vmem, ⟨1, _⟩ => ⟨S10x8192, .f32⟩
  | .local _ .vmem, ⟨2, _⟩ => ⟨S10x8192, .f32⟩
  | .local _ .vmem, ⟨3, _⟩ => ⟨S512x512, .fp8e4m3⟩
  | .local _ .vmem, ⟨4, _⟩ => ⟨S512x512, .fp8e4m3⟩
  | .local _ .vmem, ⟨5, _⟩ => ⟨S512x512, .fp8e4m3⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S1x512x1, .f32⟩
  | .local _ .vmem, ⟨11, _⟩ => ⟨S10x512x8192, .fp8e4m3⟩
  | .local _ .vmem, ⟨12, _⟩ => ⟨S10x8192, .f32⟩
  | .local _ .vmem, ⟨13, _⟩ => ⟨S10x512x8192, .bf16⟩
  | .local _ .vmem, ⟨14, _⟩ => ⟨S10x8192x512, .bf16⟩
  | .local _ .vmem, ⟨15, _⟩ => ⟨S10x512x8192, .bf16⟩
  | _, _ => ⟨S10x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_c_11 : Ref sig .tc := ⟨.hbm, 73, rfl⟩
abbrev main_call0_v0 : Ref sig .tc := ⟨.hbm, 74, rfl⟩
abbrev main_call0_v1 : Ref sig .tc := ⟨.hbm, 75, rfl⟩
abbrev main_v49 : Ref sig .tc := ⟨.hbm, 76, rfl⟩
abbrev main_c_12 : Ref sig .tc := ⟨.hbm, 77, rfl⟩
abbrev main_v50 : Ref sig .tc := ⟨.hbm, 78, rfl⟩
abbrev main_v51 : Ref sig .tc := ⟨.hbm, 79, rfl⟩
abbrev main_c_13 : Ref sig .tc := ⟨.hbm, 80, rfl⟩
abbrev main_v52 : Ref sig .tc := ⟨.hbm, 81, rfl⟩
abbrev main_v53 : Ref sig .tc := ⟨.hbm, 82, rfl⟩
abbrev main_cst_14 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_15 : Ref sig .tc := ⟨.hbm, 87, rfl⟩
abbrev main_call1_v0 : Ref sig .tc := ⟨.hbm, 88, rfl⟩
abbrev main_call1_v1 : Ref sig .tc := ⟨.hbm, 89, rfl⟩
abbrev main_v57 : Ref sig .tc := ⟨.hbm, 90, rfl⟩
abbrev main_cst_16 : Ref sig .tc := ⟨.hbm, 91, rfl⟩
abbrev main_call2_v0 : Ref sig .tc := ⟨.hbm, 92, rfl⟩
abbrev main_call2_v1 : Ref sig .tc := ⟨.hbm, 93, rfl⟩
abbrev main_v58 : Ref sig .tc := ⟨.hbm, 94, rfl⟩
abbrev main_v59 : Ref sig .tc := ⟨.hbm, 95, rfl⟩
abbrev main_c_17 : Ref sig .tc := ⟨.hbm, 96, rfl⟩
abbrev main_v60 : Ref sig .tc := ⟨.hbm, 97, rfl⟩
abbrev main_v61 : Ref sig .tc := ⟨.hbm, 98, rfl⟩
abbrev main_c_18 : Ref sig .tc := ⟨.hbm, 99, rfl⟩
abbrev main_v62 : Ref sig .tc := ⟨.hbm, 100, rfl⟩
abbrev main_v63 : Ref sig .tc := ⟨.hbm, 101, rfl⟩
abbrev main_cst_19 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_20 : Ref sig .tc := ⟨.hbm, 106, rfl⟩
abbrev main_call3_v0 : Ref sig .tc := ⟨.hbm, 107, rfl⟩
abbrev main_call3_v1 : Ref sig .tc := ⟨.hbm, 108, rfl⟩
abbrev main_v67 : Ref sig .tc := ⟨.hbm, 109, rfl⟩
abbrev main_cst_21 : Ref sig .tc := ⟨.hbm, 110, rfl⟩
abbrev main_call4_v0 : Ref sig .tc := ⟨.hbm, 111, rfl⟩
abbrev main_call4_v1 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74_0 : Ref sig .tc := ⟨.hbm, 119, rfl⟩
abbrev main_v74_1 : Ref sig .tc := ⟨.hbm, 120, rfl⟩
abbrev main_v74_2 : Ref sig .tc := ⟨.hbm, 121, rfl⟩
abbrev main_v74_3 : Ref sig .tc := ⟨.hbm, 122, rfl⟩
abbrev main_v74_4 : Ref sig .tc := ⟨.hbm, 123, rfl⟩
abbrev main_v75 : Ref sig .tc := ⟨.hbm, 124, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S10x512x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S10x512x8192 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S10x8192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S10x512x8192 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S10x8192x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S10x512x8192 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Attn.lean ====
abbrev S10x512x8192 : Shape := ⟨3, ![10, 512, 8192]⟩
abbrev S10x8192x512 : Shape := ⟨3, ![10, 8192, 512]⟩
abbrev S512x512 : Shape := ⟨2, ![512, 512]⟩
abbrev S512 : Shape := ⟨1, ![512]⟩
abbrev S512x1 : Shape := ⟨2, ![512, 1]⟩
abbrev S10x1x8192 : Shape := ⟨3, ![10, 1, 8192]⟩
abbrev S1x512x512 : Shape := ⟨3, ![1, 512, 512]⟩
abbrev S1x8192x512 : Shape := ⟨3, ![1, 8192, 512]⟩
abbrev S1x512x8192 : Shape := ⟨3, ![1, 512, 8192]⟩
abbrev S1x1x512 : Shape := ⟨3, ![1, 1, 512]⟩
abbrev S8192x512 : Shape := ⟨2, ![8192, 512]⟩
abbrev S256x512 : Shape := ⟨2, ![256, 512]⟩
abbrev S2x8x512 : Shape := ⟨3, ![2, 8, 512]⟩
abbrev S8x256 : Shape := ⟨2, ![8, 256]⟩
abbrev S1x256x256 : Shape := ⟨3, ![1, 256, 256]⟩
abbrev S256x256 : Shape := ⟨2, ![256, 256]⟩
abbrev S32x8x256 : Shape := ⟨3, ![32, 8, 256]⟩
abbrev S1x8x256 : Shape := ⟨3, ![1, 8, 256]⟩
abbrev S256 : Shape := ⟨1, ![256]⟩
abbrev S1x256 : Shape := ⟨2, ![1, 256]⟩
abbrev S1x512x256 : Shape := ⟨3, ![1, 512, 256]⟩
abbrev S512x256 : Shape := ⟨2, ![512, 256]⟩
abbrev S1x512 : Shape := ⟨2, ![1, 512]⟩
abbrev S1x1x256 : Shape := ⟨3, ![1, 1, 256]⟩
abbrev S256x1 : Shape := ⟨2, ![256, 1]⟩

abbrev nBuf : Space → Nat
  | .hbm => 14
  | .vmem => 23
  | .smem => 0
  | _ => 0

abbrev bufTy : (tb : Table) → Fin (tcTables nBuf tb) → BufTy
  | .hbm, ⟨0, _⟩ => ⟨S10x512x8192, .bf16⟩
  | .hbm, ⟨1, _⟩ => ⟨S10x8192x512, .bf16⟩
  | .hbm, ⟨2, _⟩ => ⟨S10x512x8192, .bf16⟩
  | .hbm, ⟨3, _⟩ => ⟨S10x512x8192, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S512x512, .fp8e4m3⟩
  | .hbm, ⟨8, _⟩ => ⟨S512x1, .f32⟩
  | .hbm, ⟨9, _⟩ => ⟨S512x1, .f32⟩
  | .hbm, ⟨10, _⟩ => ⟨S10x512x8192, .bf16⟩
  | .hbm, ⟨11, _⟩ => ⟨S10x512x8192, .bf16⟩
  | .hbm, ⟨12, _⟩ => ⟨S10x512x8192, .fp8e4m3⟩
  | .hbm, ⟨13, _⟩ => ⟨S10x1x8192, .f32⟩
  | .local _ .vmem, ⟨0, _⟩ => ⟨S1x512x512, .bf16⟩
  | .local _ .vmem, ⟨1, _⟩ => ⟨S1x512x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x512x8192, .bf16⟩
  | .local _ .vmem, ⟨5, _⟩ => ⟨S1x512x8192, .bf16⟩
  | .local _ .vmem, ⟨6, _⟩ => ⟨S1x512x512, .bf16⟩
  | .local _ .vmem, ⟨7, _⟩ => ⟨S1x512x512, .bf16⟩
  | .local _ .vmem, ⟨8, _⟩ => ⟨S512x512, .fp8e4m3⟩
  | .local _ .vmem, ⟨9, _⟩ => ⟨S512x1, .f32⟩
  | .local _ .vmem, ⟨10, _⟩ => ⟨S512x1, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .fp8e4m3⟩
  | .local _ .vmem, ⟨16, _⟩ => ⟨S1x512x512, .fp8e4m3⟩
  | .local _ .vmem, ⟨17, _⟩ => ⟨S1x1x512, .f32⟩
  | .local _ .vmem, ⟨18, _⟩ => ⟨S1x1x512, .f32⟩
  | .local _ .vmem, ⟨19, _⟩ => ⟨S8192x512, .f32⟩
  | .local _ .vmem, ⟨20, _⟩ => ⟨S256x512, .f32⟩
  | .local _ .vmem, ⟨21, _⟩ => ⟨S2x8x512, .f32⟩
  | .local _ .vmem, ⟨22, _⟩ => ⟨S512x512, .f32⟩
  | _, _ => ⟨S10x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![162], ![false]⟩

def k0_cond1 (i : grid0.Coords) : BitVec 1 :=
  let arg0 : BitVec 32 := BitVec.ofNat 32 (i 0).val
  let c0_i32_r0 : BitVec 32 := 0#32
  let v0_r0 : BitVec 1 := Scalar.cmpi .eq arg0 c0_i32_r0
  let v1_r0 : BitVec 32 := Scalar.extui v0_r0
  let c0_i32_0_r0 : BitVec 32 := 0#32
  let v2_r0 : BitVec 1 := Scalar.cmpi .ne v1_r0 c0_i32_0_r0
  v2_r0

def k0_mult1 : BitVec 32 :=
  let c0_i32_13_r0 : BitVec 32 := 0#32
  c0_i32_13_r0
def k0_mult2 : BitVec 32 :=
  let c0_i32_14_r0 : BitVec 32 := 0#32
  c0_i32_14_r0
def k0_mult3 : BitVec 32 :=
  let c256_i32_r0 : BitVec 32 := 256#32
  c256_i32_r0
def k0_mult4 : BitVec 32 :=
  let c8_i32_r0 : BitVec 32 := 8#32
  c8_i32_r0
def k0_mult5 : BitVec 32 :=
  let c512_i32_r0 : BitVec 32 := 512#32
  c512_i32_r0
def k0_mult6 : BitVec 32 :=
  let c16_i32_r0 : BitVec 32 := 16#32
  c16_i32_r0
def k0_mult7 : BitVec 32 :=
  let c768_i32_r0 : BitVec 32 := 768#32
  c768_i32_r0
def k0_mult8 : BitVec 32 :=
  let c24_i32_r0 : BitVec 32 := 24#32
  c24_i32_r0
@[reducible] def k0_t1_loop : Scf.Loop 32 :=
  let c1_i32_143_r0 : BitVec 32 := 1#32
  let c6_i32_r0 : BitVec 32 := 6#32
  let v321_r0 : BitVec 32 := Scalar.addi c1_i32_143_r0 c6_i32_r0
  let c1_i32_144_r0 : BitVec 32 := 1#32
  ⟨c1_i32_143_r0, v321_r0, c1_i32_144_r0⟩
def k0_mult9 (k0_t1 : Fin k0_t1_loop.trips) : BitVec 32 :=
  let c1_i32_143_r0 : BitVec 32 := 1#32
  let c1_i32_144_r0 : BitVec 32 := 1#32
  let arg16_r0 : BitVec 32 := Scf.iv c1_i32_143_r0 c1_i32_144_r0 k0_t1
  let c4_i32_r0 : BitVec 32 := 4#32
  let v659_r0 : BitVec 32 := Scalar.muli arg16_r0 c4_i32_r0
  let c0_i32_287_r0 : BitVec 32 := 0#32
  let v660_r0 : BitVec 32 := Scalar.addi v659_r0 c0_i32_287_r0
  let c256_i32_288_r0 : BitVec 32 := 256#32
  let v661_r0 : BitVec 32 := Scalar.muli v660_r0 c256_i32_288_r0
  v661_r0
def k0_mult10 (k0_t1 : Fin k0_t1_loop.trips) : BitVec 32 :=
  let c1_i32_143_r0 : BitVec 32 := 1#32
  let c1_i32_144_r0 : BitVec 32 := 1#32
  let arg16_r0 : BitVec 32 := Scf.iv c1_i32_143_r0 c1_i32_144_r0 k0_t1
  let c4_i32_r0 : BitVec 32 := 4#32
  let v659_r0 : BitVec 32 := Scalar.muli arg16_r0 c4_i32_r0
  let c0_i32_287_r0 : BitVec 32 := 0#32
  let v660_r0 : BitVec 32 := Scalar.addi v659_r0 c0_i32_287_r0
  let c8_i32_289_r0 : BitVec 32 := 8#32
  let v663_r0 : BitVec 32 := Scalar.muli v660_r0 c8_i32_289_r0
  v663_r0
def k0_off1 (k0_t1 : Fin k0_t1_loop.trips) (c0_i32_287_r0 : BitVec 32) : Fin 3 → Nat :=
  let c0_290_r0 : Index := 0#32
  let c1_i32_143_r0 : BitVec 32 := 1#32
  let c1_i32_144_r0 : BitVec 32 := 1#32
  let arg16_r0 : BitVec 32 := Scf.iv c1_i32_143_r0 c1_i32_144_r0 k0_t1
  let c4_i32_r0 : BitVec 32 := 4#32
  let v659_r0 : BitVec 32 := Scalar.muli arg16_r0 c4_i32_r0
  let v660_r0 : BitVec 32 := Scalar.addi v659_r0 c0_i32_287_r0
  let c256_i32_288_r0 : BitVec 32 := 256#32
  let v661_r0 : BitVec 32 := Scalar.muli v660_r0 c256_i32_288_r0
  let v662_r0 : BitVec 32 := v661_r0
  let v665_r0 : Index := Scalar.indexCast v662_r0
  let c0_291_r0 : Index := 0#32
  ![0, v665_r0.toNat, 0]
def k0_off2 (k0_t1 : Fin k0_t1_loop.trips) (c0_i32_287_r0 : BitVec 32) : Fin 3 → Nat :=
  let c0_300_r0 : Index := 0#32
  let c1_i32_143_r0 : BitVec 32 := 1#32
  let c1_i32_144_r0 : BitVec 32 := 1#32
  let arg16_r0 : BitVec 32 := Scf.iv c1_i32_143_r0 c1_i32_144_r0 k0_t1
  let c4_i32_r0 : BitVec 32 := 4#32
  let v659_r0 : BitVec 32 := Scalar.muli arg16_r0 c4_i32_r0
  let v660_r0 : BitVec 32 := Scalar.addi v659_r0 c0_i32_287_r0
  let c256_i32_288_r0 : BitVec 32 := 256#32
  let v661_r0 : BitVec 32 := Scalar.muli v660_r0 c256_i32_288_r0
  let v662_r0 : BitVec 32 := v661_r0
  let v675_r0 : Index := Scalar.indexCast v662_r0
  let c256_301_r0 : Index := 256#32
  ![0, v675_r0.toNat, 256]
def k0_off3 (k0_t1 : Fin k0_t1_loop.trips) (c0_i32_287_r0 : BitVec 32) : Fin 2 → Nat :=
  let c1_i32_143_r0 : BitVec 32 := 1#32
  let c1_i32_144_r0 : BitVec 32 := 1#32
  let arg16_r0 : BitVec 32 := Scf.iv c1_i32_143_r0 c1_i32_144_r0 k0_t1
  let c4_i32_r0 : BitVec 32 := 4#32
  let v659_r0 : BitVec 32 := Scalar.muli arg16_r0 c4_i32_r0
  let v660_r0 : BitVec 32 := Scalar.addi v659_r0 c0_i32_287_r0
  let c256_i32_288_r0 : BitVec 32 := 256#32
  let v661_r0 : BitVec 32 := Scalar.muli v660_r0 c256_i32_288_r0
  let v662_r0 : BitVec 32 := v661_r0
  let v703_r0 : Index := Scalar.indexCast v662_r0
  let c0_314_r0 : Index := 0#32
  ![v703_r0.toNat, 0]
def k0_off4 (k0_t1 : Fin k0_t1_loop.trips) (c0_i32_287_r0 : BitVec 32) : Fin 2 → Nat :=
  let c1_i32_143_r0 : BitVec 32 := 1#32
  let c1_i32_144_r0 : BitVec 32 := 1#32
  let arg16_r0 : BitVec 32 := Scf.iv c1_i32_143_r0 c1_i32_144_r0 k0_t1
  let c4_i32_r0 : BitVec 32 := 4#32
  let v659_r0 : BitVec 32 := Scalar.muli arg16_r0 c4_i32_r0
  let v660_r0 : BitVec 32 := Scalar.addi v659_r0 c0_i32_287_r0
  let c8_i32_289_r0 : BitVec 32 := 8#32
  let v663_r0 : BitVec 32 := Scalar.muli v660_r0 c8_i32_289_r0
  let v664_r0 : BitVec 32 := v663_r0
  let v707_r0 : Index := Scalar.indexCast v664_r0
  let c0_315_r0 : Index := 0#32
  ![v707_r0.toNat, 0]
def k0_off5 (k0_t1 : Fin k0_t1_loop.trips) (c0_i32_287_r0 : BitVec 32) : Fin 2 → Nat :=
  let c1_i32_143_r0 : BitVec 32 := 1#32
  let c1_i32_144_r0 : BitVec 32 := 1#32
  let arg16_r0 : BitVec 32 := Scf.iv c1_i32_143_r0 c1_i32_144_r0 k0_t1
  let c4_i32_r0 : BitVec 32 := 4#32
  let v659_r0 : BitVec 32 := Scalar.muli arg16_r0 c4_i32_r0
  let v660_r0 : BitVec 32 := Scalar.addi v659_r0 c0_i32_287_r0
  let c256_i32_288_r0 : BitVec 32 := 256#32
  let v661_r0 : BitVec 32 := Scalar.muli v660_r0 c256_i32_288_r0
  let v662_r0 : BitVec 32 := v661_r0
  let v729_r0 : Index := Scalar.indexCast v662_r0
  let c256_320_r0 : Index := 256#32
  ![v729_r0.toNat, 256]
def k0_off6 (k0_t1 : Fin k0_t1_loop.trips) (c0_i32_287_r0 : BitVec 32) : Fin 2 → Nat :=
  let c1_i32_143_r0 : BitVec 32 := 1#32
  let c1_i32_144_r0 : BitVec 32 := 1#32
  let arg16_r0 : BitVec 32 := Scf.iv c1_i32_143_r0 c1_i32_144_r0 k0_t1
  let c4_i32_r0 : BitVec 32 := 4#32
  let v659_r0 : BitVec 32 := Scalar.muli arg16_r0 c4_i32_r0
  let v660_r0 : BitVec 32 := Scalar.addi v659_r0 c0_i32_287_r0
  let c8_i32_289_r0 : BitVec 32 := 8#32
  let v663_r0 : BitVec 32 := Scalar.muli v660_r0 c8_i32_289_r0
  let v664_r0 : BitVec 32 := v663_r0
  let v733_r0 : Index := Scalar.indexCast v664_r0
  let c256_321_r0 : Index := 256#32
  ![v733_r0.toNat, 256]
def k0_mult11 (k0_t1 : Fin k0_t1_loop.trips) : BitVec 32 :=
  let c1_i32_143_r0 : BitVec 32 := 1#32
  let c1_i32_144_r0 : BitVec 32 := 1#32
  let arg16_r0 : BitVec 32 := Scf.iv c1_i32_143_r0 c1_i32_144_r0 k0_t1
  let c4_i32_322_r0 : BitVec 32 := 4#32
  let v737_r0 : BitVec 32 := Scalar.muli arg16_r0 c4_i32_322_r0
  let c1_i32_323_r0 : BitVec 32 := 1#32
  let v738_r0 : BitVec 32 := Scalar.addi v737_r0 c1_i32_323_r0
  let c256_i32_324_r0 : BitVec 32 := 256#32
  let v739_r0 : BitVec 32 := Scalar.muli v738_r0 c256_i32_324_r0
  v739_r0
def k0_mult12 (k0_t1 : Fin k0_t1_loop.trips) : BitVec 32 :=
  let c1_i32_143_r0 : BitVec 32 := 1#32
  let c1_i32_144_r0 : BitVec 32 := 1#32
  let arg16_r0 : BitVec 32 := Scf.iv c1_i32_143_r0 c1_i32_144_r0 k0_t1
  let c4_i32_322_r0 : BitVec 32 := 4#32
  let v737_r0 : BitVec 32 := Scalar.muli arg16_r0 c4_i32_322_r0
  let c1_i32_323_r0 : BitVec 32 := 1#32
  let v738_r0 : BitVec 32 := Scalar.addi v737_r0 c1_i32_323_r0
  let c8_i32_325_r0 : BitVec 32 := 8#32
  let v741_r0 : BitVec 32 := Scalar.muli v738_r0 c8_i32_325_r0
  v741_r0
def k0_mult13 (k0_t1 : Fin k0_t1_loop.trips) : BitVec 32 :=
  let c1_i32_143_r0 : BitVec 32 := 1#32
  let c1_i32_144_r0 : BitVec 32 := 1#32
  let arg16_r0 : BitVec 32 := Scf.iv c1_i32_143_r0 c1_i32_144_r0 k0_t1
  let c4_i32_358_r0 : BitVec 32 := 4#32
  let v815_r0 : BitVec 32 := Scalar.muli arg16_r0 c4_i32_358_r0
  let c2_i32_359_r0 : BitVec 32 := 2#32
  let v816_r0 : BitVec 32 := Scalar.addi v815_r0 c2_i32_359_r0
  let c256_i32_360_r0 : BitVec 32 := 256#32
  let v817_r0 : BitVec 32 := Scalar.muli v816_r0 c256_i32_360_r0
  v817_r0
def k0_mult14 (k0_t1 : Fin k0_t1_loop.trips) : BitVec 32 :=
  let c1_i32_143_r0 : BitVec 32 := 1#32
  let c1_i32_144_r0 : BitVec 32 := 1#32
  let arg16_r0 : BitVec 32 := Scf.iv c1_i32_143_r0 c1_i32_144_r0 k0_t1
  let c4_i32_358_r0 : BitVec 32 := 4#32
  let v815_r0 : BitVec 32 := Scalar.muli arg16_r0 c4_i32_358_r0
  let c2_i32_359_r0 : BitVec 32 := 2#32
  let v816_r0 : BitVec 32 := Scalar.addi v815_r0 c2_i32_359_r0
  let c8_i32_361_r0 : BitVec 32 := 8#32
  let v819_r0 : BitVec 32 := Scalar.muli v816_r0 c8_i32_361_r0
  v819_r0
def k0_mult15 (k0_t1 : Fin k0_t1_loop.trips) : BitVec 32 :=
  let c1_i32_143_r0 : BitVec 32 := 1#32
  let c1_i32_144_r0 : BitVec 32 := 1#32
  let arg16_r0 : BitVec 32 := Scf.iv c1_i32_143_r0 c1_i32_144_r0 k0_t1
  let c4_i32_394_r0 : BitVec 32 := 4#32
  let v893_r0 : BitVec 32 := Scalar.muli arg16_r0 c4_i32_394_r0
  let c3_i32_r0 : BitVec 32 := 3#32
  let v894_r0 : BitVec 32 := Scalar.addi v893_r0 c3_i32_r0
  let c256_i32_395_r0 : BitVec 32 := 256#32
  let v895_r0 : BitVec 32 := Scalar.muli v894_r0 c256_i32_395_r0
  v895_r0
def k0_mult16 (k0_t1 : Fin k0_t1_loop.trips) : BitVec 32 :=
  let c1_i32_143_r0 : BitVec 32 := 1#32
  let c1_i32_144_r0 : BitVec 32 := 1#32
  let arg16_r0 : BitVec 32 := Scf.iv c1_i32_143_r0 c1_i32_144_r0 k0_t1
  let c4_i32_394_r0 : BitVec 32 := 4#32
  let v893_r0 : BitVec 32 := Scalar.muli arg16_r0 c4_i32_394_r0
  let c3_i32_r0 : BitVec 32 := 3#32
  let v894_r0 : BitVec 32 := Scalar.addi v893_r0 c3_i32_r0
  let c8_i32_396_r0 : BitVec 32 := 8#32
  let v897_r0 : BitVec 32 := Scalar.muli v894_r0 c8_i32_396_r0
  v897_r0
def k0_mult17 : BitVec 32 :=
  let c7168_i32_r0 : BitVec 32 := 7168#32
  c7168_i32_r0
def k0_mult18 : BitVec 32 :=
  let c224_i32_r0 : BitVec 32 := 224#32
  c224_i32_r0
def k0_mult19 : BitVec 32 :=
  let c7424_i32_r0 : BitVec 32 := 7424#32
  c7424_i32_r0
def k0_mult20 : BitVec 32 :=
  let c232_i32_r0 : BitVec 32 := 232#32
  c232_i32_r0
def k0_mult21 : BitVec 32 :=
  let c7680_i32_r0 : BitVec 32 := 7680#32
  c7680_i32_r0
def k0_mult22 : BitVec 32 :=
  let c240_i32_r0 : BitVec 32 := 240#32
  c240_i32_r0
def k0_mult23 : BitVec 32 :=
  let c7936_i32_r0 : BitVec 32 := 7936#32
  c7936_i32_r0
def k0_mult24 : BitVec 32 :=
  let c248_i32_r0 : BitVec 32 := 248#32
  c248_i32_r0
def k0_cond2 (i : grid0.Coords) : BitVec 1 :=
  let arg0 : BitVec 32 := BitVec.ofNat 32 (i 0).val
  let c1_i32_r0 : BitVec 32 := 1#32
  let v3_r0 : BitVec 1 := Scalar.cmpi .eq arg0 c1_i32_r0
  let v4_r0 : BitVec 32 := Scalar.extui v3_r0
  let c0_i32_1_r0 : BitVec 32 := 0#32
  let v5_r0 : BitVec 1 := Scalar.cmpi .ne v4_r0 c0_i32_1_r0
  v5_r0

def k0_mult25 : BitVec 32 :=
  let c0_i32_13_r0 : BitVec 32 := 0#32
  c0_i32_13_r0
def k0_mult26 : BitVec 32 :=
  let c0_i32_14_r0 : BitVec 32 := 0#32
  c0_i32_14_r0
def k0_mult27 : BitVec 32 :=
  let c256_i32_r0 : BitVec 32 := 256#32
  c256_i32_r0
def k0_mult28 : BitVec 32 :=
  let c8_i32_r0 : BitVec 32 := 8#32
  c8_i32_r0
def k0_mult29 : BitVec 32 :=
  let c512_i32_r0 : BitVec 32 := 512#32
  c512_i32_r0
def k0_mult30 : BitVec 32 :=
  let c16_i32_r0 : BitVec 32 := 16#32
  c16_i32_r0
def k0_mult31 : BitVec 32 :=
  let c768_i32_r0 : BitVec 32 := 768#32
  c768_i32_r0
def k0_mult32 : BitVec 32 :=
  let c24_i32_r0 : BitVec 32 := 24#32
  c24_i32_r0
@[reducible] def k0_t2_loop : Scf.Loop 32 :=
  let c1_i32_230_r0 : BitVec 32 := 1#32
  let c6_i32_r0 : BitVec 32 := 6#32
  let v497_r0 : BitVec 32 := Scalar.addi c1_i32_230_r0 c6_i32_r0
  let c1_i32_231_r0 : BitVec 32 := 1#32
  ⟨c1_i32_230_r0, v497_r0, c1_i32_231_r0⟩
def k0_mult33 (k0_t2 : Fin k0_t2_loop.trips) : BitVec 32 :=
  let c1_i32_230_r0 : BitVec 32 := 1#32
  let c1_i32_231_r0 : BitVec 32 := 1#32
  let arg16_r0 : BitVec 32 := Scf.iv c1_i32_230_r0 c1_i32_231_r0 k0_t2
  let c4_i32_r0 : BitVec 32 := 4#32
  let v1019_r0 : BitVec 32 := Scalar.muli arg16_r0 c4_i32_r0
  let c0_i32_467_r0 : BitVec 32 := 0#32
  let v1020_r0 : BitVec 32 := Scalar.addi v1019_r0 c0_i32_467_r0
  let c256_i32_468_r0 : BitVec 32 := 256#32
  let v1021_r0 : BitVec 32 := Scalar.muli v1020_r0 c256_i32_468_r0
  v1021_r0
def k0_mult34 (k0_t2 : Fin k0_t2_loop.trips) : BitVec 32 :=
  let c1_i32_230_r0 : BitVec 32 := 1#32
  let c1_i32_231_r0 : BitVec 32 := 1#32
  let arg16_r0 : BitVec 32 := Scf.iv c1_i32_230_r0 c1_i32_231_r0 k0_t2
  let c4_i32_r0 : BitVec 32 := 4#32
  let v1019_r0 : BitVec 32 := Scalar.muli arg16_r0 c4_i32_r0
  let c0_i32_467_r0 : BitVec 32 := 0#32
  let v1020_r0 : BitVec 32 := Scalar.addi v1019_r0 c0_i32_467_r0
  let c8_i32_469_r0 : BitVec 32 := 8#32
  let v1023_r0 : BitVec 32 := Scalar.muli v1020_r0 c8_i32_469_r0
  v1023_r0
def k0_off7 (k0_t2 : Fin k0_t2_loop.trips) (c0_i32_467_r0 : BitVec 32) : Fin 3 → Nat :=
  let c0_470_r0 : Index := 0#32
  let c1_i32_230_r0 : BitVec 32 := 1#32
  let c1_i32_231_r0 : BitVec 32 := 1#32
  let arg16_r0 : BitVec 32 := Scf.iv c1_i32_230_r0 c1_i32_231_r0 k0_t2
  let c4_i32_r0 : BitVec 32 := 4#32
  let v1019_r0 : BitVec 32 := Scalar.muli arg16_r0 c4_i32_r0
  let v1020_r0 : BitVec 32 := Scalar.addi v1019_r0 c0_i32_467_r0
  let c256_i32_468_r0 : BitVec 32 := 256#32
  let v1021_r0 : BitVec 32 := Scalar.muli v1020_r0 c256_i32_468_r0
  let v1022_r0 : BitVec 32 := v1021_r0
  let v1025_r0 : Index := Scalar.indexCast v1022_r0
  let c0_471_r0 : Index := 0#32
  ![0, v1025_r0.toNat, 0]
def k0_off8 (k0_t2 : Fin k0_t2_loop.trips) (c0_i32_467_r0 : BitVec 32) : Fin 3 → Nat :=
  let c0_480_r0 : Index := 0#32
  let c1_i32_230_r0 : BitVec 32 := 1#32
  let c1_i32_231_r0 : BitVec 32 := 1#32
  let arg16_r0 : BitVec 32 := Scf.iv c1_i32_230_r0 c1_i32_231_r0 k0_t2
  let c4_i32_r0 : BitVec 32 := 4#32
  let v1019_r0 : BitVec 32 := Scalar.muli arg16_r0 c4_i32_r0
  let v1020_r0 : BitVec 32 := Scalar.addi v1019_r0 c0_i32_467_r0
  let c256_i32_468_r0 : BitVec 32 := 256#32
  let v1021_r0 : BitVec 32 := Scalar.muli v1020_r0 c256_i32_468_r0
  let v1022_r0 : BitVec 32 := v1021_r0
  let v1035_r0 : Index := Scalar.indexCast v1022_r0
  let c256_481_r0 : Index := 256#32
  ![0, v1035_r0.toNat, 256]
def k0_off9 (k0_t2 : Fin k0_t2_loop.trips) (c0_i32_467_r0 : BitVec 32) : Fin 2 → Nat :=
  let c1_i32_230_r0 : BitVec 32 := 1#32
  let c1_i32_231_r0 : BitVec 32 := 1#32
  let arg16_r0 : BitVec 32 := Scf.iv c1_i32_230_r0 c1_i32_231_r0 k0_t2
  let c4_i32_r0 : BitVec 32 := 4#32
  let v1019_r0 : BitVec 32 := Scalar.muli arg16_r0 c4_i32_r0
  let v1020_r0 : BitVec 32 := Scalar.addi v1019_r0 c0_i32_467_r0
  let c8_i32_469_r0 : BitVec 32 := 8#32
  let v1023_r0 : BitVec 32 := Scalar.muli v1020_r0 c8_i32_469_r0
  let v1024_r0 : BitVec 32 := v1023_r0
  let v1041_r0 : Index := Scalar.indexCast v1024_r0
  let c0_484_r0 : Index := 0#32
  ![v1041_r0.toNat, 0]
def k0_off10 (k0_t2 : Fin k0_t2_loop.trips) (c0_i32_467_r0 : BitVec 32) : Fin 2 → Nat :=
  let c1_i32_230_r0 : BitVec 32 := 1#32
  let c1_i32_231_r0 : BitVec 32 := 1#32
  let arg16_r0 : BitVec 32 := Scf.iv c1_i32_230_r0 c1_i32_231_r0 k0_t2
  let c4_i32_r0 : BitVec 32 := 4#32
  let v1019_r0 : BitVec 32 := Scalar.muli arg16_r0 c4_i32_r0
  let v1020_r0 : BitVec 32 := Scalar.addi v1019_r0 c0_i32_467_r0
  let c256_i32_468_r0 : BitVec 32 := 256#32
  let v1021_r0 : BitVec 32 := Scalar.muli v1020_r0 c256_i32_468_r0
  let v1022_r0 : BitVec 32 := v1021_r0
  let v1052_r0 : Index := Scalar.indexCast v1022_r0
  let c0_492_r0 : Index := 0#32
  ![v1052_r0.toNat, 0]
def k0_off11 (k0_t2 : Fin k0_t2_loop.trips) (c0_i32_467_r0 : BitVec 32) : Fin 2 → Nat :=
  let c1_i32_230_r0 : BitVec 32 := 1#32
  let c1_i32_231_r0 : BitVec 32 := 1#32
  let arg16_r0 : BitVec 32 := Scf.iv c1_i32_230_r0 c1_i32_231_r0 k0_t2
  let c4_i32_r0 : BitVec 32 := 4#32
  let v1019_r0 : BitVec 32 := Scalar.muli arg16_r0 c4_i32_r0
  let v1020_r0 : BitVec 32 := Scalar.addi v1019_r0 c0_i32_467_r0
  let c8_i32_469_r0 : BitVec 32 := 8#32
  let v1023_r0 : BitVec 32 := Scalar.muli v1020_r0 c8_i32_469_r0
  let v1024_r0 : BitVec 32 := v1023_r0
  let v1060_r0 : Index := Scalar.indexCast v1024_r0
  let c256_493_r0 : Index := 256#32
  ![v1060_r0.toNat, 256]
def k0_off12 (k0_t2 : Fin k0_t2_loop.trips) (c0_i32_467_r0 : BitVec 32) : Fin 2 → Nat :=
  let c1_i32_230_r0 : BitVec 32 := 1#32
  let c1_i32_231_r0 : BitVec 32 := 1#32
  let arg16_r0 : BitVec 32 := Scf.iv c1_i32_230_r0 c1_i32_231_r0 k0_t2
  let c4_i32_r0 : BitVec 32 := 4#32
  let v1019_r0 : BitVec 32 := Scalar.muli arg16_r0 c4_i32_r0
  let v1020_r0 : BitVec 32 := Scalar.addi v1019_r0 c0_i32_467_r0
  let c256_i32_468_r0 : BitVec 32 := 256#32
  let v1021_r0 : BitVec 32 := Scalar.muli v1020_r0 c256_i32_468_r0
  let v1022_r0 : BitVec 32 := v1021_r0
  let v1071_r0 : Index := Scalar.indexCast v1022_r0
  let c256_501_r0 : Index := 256#32
  ![v1071_r0.toNat, 256]
def k0_off13 (k0_t2 : Fin k0_t2_loop.trips) (c0_i32_467_r0 : BitVec 32) : Fin 3 → Nat :=
  let c0_502_r0 : Index := 0#32
  let c0_503_r0 : Index := 0#32
  let c1_i32_230_r0 : BitVec 32 := 1#32
  let c1_i32_231_r0 : BitVec 32 := 1#32
  let arg16_r0 : BitVec 32 := Scf.iv c1_i32_230_r0 c1_i32_231_r0 k0_t2
  let c4_i32_r0 : BitVec 32 := 4#32
  let v1019_r0 : BitVec 32 := Scalar.muli arg16_r0 c4_i32_r0
  let v1020_r0 : BitVec 32 := Scalar.addi v1019_r0 c0_i32_467_r0
  let c256_i32_468_r0 : BitVec 32 := 256#32
  let v1021_r0 : BitVec 32 := Scalar.muli v1020_r0 c256_i32_468_r0
  let v1022_r0 : BitVec 32 := v1021_r0
  let v1079_r0 : Index := Scalar.indexCast v1022_r0
  ![0, 0, v1079_r0.toNat]
def k0_mult35 (k0_t2 : Fin k0_t2_loop.trips) : BitVec 32 :=
  let c1_i32_230_r0 : BitVec 32 := 1#32
  let c1_i32_231_r0 : BitVec 32 := 1#32
  let arg16_r0 : BitVec 32 := Scf.iv c1_i32_230_r0 c1_i32_231_r0 k0_t2
  let c4_i32_524_r0 : BitVec 32 := 4#32
  let v1141_r0 : BitVec 32 := Scalar.muli arg16_r0 c4_i32_524_r0
  let c1_i32_525_r0 : BitVec 32 := 1#32
  let v1142_r0 : BitVec 32 := Scalar.addi v1141_r0 c1_i32_525_r0
  let c256_i32_526_r0 : BitVec 32 := 256#32
  let v1143_r0 : BitVec 32 := Scalar.muli v1142_r0 c256_i32_526_r0
  v1143_r0
def k0_mult36 (k0_t2 : Fin k0_t2_loop.trips) : BitVec 32 :=
  let c1_i32_230_r0 : BitVec 32 := 1#32
  let c1_i32_231_r0 : BitVec 32 := 1#32
  let arg16_r0 : BitVec 32 := Scf.iv c1_i32_230_r0 c1_i32_231_r0 k0_t2
  let c4_i32_524_r0 : BitVec 32 := 4#32
  let v1141_r0 : BitVec 32 := Scalar.muli arg16_r0 c4_i32_524_r0
  let c1_i32_525_r0 : BitVec 32 := 1#32
  let v1142_r0 : BitVec 32 := Scalar.addi v1141_r0 c1_i32_525_r0
  let c8_i32_527_r0 : BitVec 32 := 8#32
  let v1145_r0 : BitVec 32 := Scalar.muli v1142_r0 c8_i32_527_r0
  v1145_r0
def k0_mult37 (k0_t2 : Fin k0_t2_loop.trips) : BitVec 32 :=
  let c1_i32_230_r0 : BitVec 32 := 1#32
  let c1_i32_231_r0 : BitVec 32 := 1#32
  let arg16_r0 : BitVec 32 := Scf.iv c1_i32_230_r0 c1_i32_231_r0 k0_t2
  let c4_i32_582_r0 : BitVec 32 := 4#32
  let v1263_r0 : BitVec 32 := Scalar.muli arg16_r0 c4_i32_582_r0
  let c2_i32_583_r0 : BitVec 32 := 2#32
  let v1264_r0 : BitVec 32 := Scalar.addi v1263_r0 c2_i32_583_r0
  let c256_i32_584_r0 : BitVec 32 := 256#32
  let v1265_r0 : BitVec 32 := Scalar.muli v1264_r0 c256_i32_584_r0
  v1265_r0
def k0_mult38 (k0_t2 : Fin k0_t2_loop.trips) : BitVec 32 :=
  let c1_i32_230_r0 : BitVec 32 := 1#32
  let c1_i32_231_r0 : BitVec 32 := 1#32
  let arg16_r0 : BitVec 32 := Scf.iv c1_i32_230_r0 c1_i32_231_r0 k0_t2
  let c4_i32_582_r0 : BitVec 32 := 4#32
  let v1263_r0 : BitVec 32 := Scalar.muli arg16_r0 c4_i32_582_r0
  let c2_i32_583_r0 : BitVec 32 := 2#32
  let v1264_r0 : BitVec 32 := Scalar.addi v1263_r0 c2_i32_583_r0
  let c8_i32_585_r0 : BitVec 32 := 8#32
  let v1267_r0 : BitVec 32 := Scalar.muli v1264_r0 c8_i32_585_r0
  v1267_r0
def k0_mult39 (k0_t2 : Fin k0_t2_loop.trips) : BitVec 32 :=
  let c1_i32_230_r0 : BitVec 32 := 1#32
  let c1_i32_231_r0 : BitVec 32 := 1#32
  let arg16_r0 : BitVec 32 := Scf.iv c1_i32_230_r0 c1_i32_231_r0 k0_t2
  let c4_i32_640_r0 : BitVec 32 := 4#32
  let v1385_r0 : BitVec 32 := Scalar.muli arg16_r0 c4_i32_640_r0
  let c3_i32_r0 : BitVec 32 := 3#32
  let v1386_r0 : BitVec 32 := Scalar.addi v1385_r0 c3_i32_r0
  let c256_i32_641_r0 : BitVec 32 := 256#32
  let v1387_r0 : BitVec 32 := Scalar.muli v1386_r0 c256_i32_641_r0
  v1387_r0
def k0_mult40 (k0_t2 : Fin k0_t2_loop.trips) : BitVec 32 :=
  let c1_i32_230_r0 : BitVec 32 := 1#32
  let c1_i32_231_r0 : BitVec 32 := 1#32
  let arg16_r0 : BitVec 32 := Scf.iv c1_i32_230_r0 c1_i32_231_r0 k0_t2
  let c4_i32_640_r0 : BitVec 32 := 4#32
  let v1385_r0 : BitVec 32 := Scalar.muli arg16_r0 c4_i32_640_r0
  let c3_i32_r0 : BitVec 32 := 3#32
  let v1386_r0 : BitVec 32 := Scalar.addi v1385_r0 c3_i32_r0
  let c8_i32_642_r0 : BitVec 32 := 8#32
  let v1389_r0 : BitVec 32 := Scalar.muli v1386_r0 c8_i32_642_r0
  v1389_r0
def k0_mult41 : BitVec 32 :=
  let c7168_i32_r0 : BitVec 32 := 7168#32
  c7168_i32_r0
def k0_mult42 : BitVec 32 :=
  let c224_i32_r0 : BitVec 32 := 224#32
  c224_i32_r0
def k0_mult43 : BitVec 32 :=
  let c7424_i32_r0 : BitVec 32 := 7424#32
  c7424_i32_r0
def k0_mult44 : BitVec 32 :=
  let c232_i32_r0 : BitVec 32 := 232#32
  c232_i32_r0
def k0_mult45 : BitVec 32 :=
  let c7680_i32_r0 : BitVec 32 := 7680#32
  c7680_i32_r0
def k0_mult46 : BitVec 32 :=
  let c240_i32_r0 : BitVec 32 := 240#32
  c240_i32_r0
def k0_mult47 : BitVec 32 :=
  let c7936_i32_r0 : BitVec 32 := 7936#32
  c7936_i32_r0
def k0_mult48 : BitVec 32 :=
  let c248_i32_r0 : BitVec 32 := 248#32
  c248_i32_r0
def k0_cond3 (i : grid0.Coords) : BitVec 1 :=
  let arg0 : BitVec 32 := BitVec.ofNat 32 (i 0).val
  let c2_i32_r0 : BitVec 32 := 2#32
  let v6_r0 : BitVec 1 := Scalar.cmpi .sge arg0 c2_i32_r0
  let c160_i32_r0 : BitVec 32 := 160#32
  let v7_r0 : BitVec 1 := Scalar.cmpi .slt arg0 c160_i32_r0
  let v8_r0 : BitVec 1 := Scalar.andi v6_r0 v7_r0
  let v9_r0 : BitVec 32 := Scalar.extui v8_r0
  let c0_i32_2_r0 : BitVec 32 := 0#32
  let v10_r0 : BitVec 1 := Scalar.cmpi .ne v9_r0 c0_i32_2_r0
  v10_r0

def k0_mult49 : BitVec 32 :=
  let c0_i32_48_r0 : BitVec 32 := 0#32
  c0_i32_48_r0
def k0_mult50 : BitVec 32 :=
  let c0_i32_49_r0 : BitVec 32 := 0#32
  c0_i32_49_r0
def k0_mult51 : BitVec 32 :=
  let c256_i32_r0 : BitVec 32 := 256#32
  c256_i32_r0
def k0_mult52 : BitVec 32 :=
  let c8_i32_103_r0 : BitVec 32 := 8#32
  c8_i32_103_r0
def k0_mult53 : BitVec 32 :=
  let c512_i32_r0 : BitVec 32 := 512#32
  c512_i32_r0
def k0_mult54 : BitVec 32 :=
  let c16_i32_210_r0 : BitVec 32 := 16#32
  c16_i32_210_r0
def k0_mult55 : BitVec 32 :=
  let c768_i32_r0 : BitVec 32 := 768#32
  c768_i32_r0
def k0_mult56 : BitVec 32 :=
  let c24_i32_r0 : BitVec 32 := 24#32
  c24_i32_r0
@[reducible] def k0_t3_loop : Scf.Loop 32 :=
  let c1_i32_371_r0 : BitVec 32 := 1#32
  let c6_i32_r0 : BitVec 32 := 6#32
  let v756_r0 : BitVec 32 := Scalar.addi c1_i32_371_r0 c6_i32_r0
  let c1_i32_372_r0 : BitVec 32 := 1#32
  ⟨c1_i32_371_r0, v756_r0, c1_i32_372_r0⟩
def k0_mult57 (k0_t3 : Fin k0_t3_loop.trips) : BitVec 32 :=
  let c1_i32_371_r0 : BitVec 32 := 1#32
  let c1_i32_372_r0 : BitVec 32 := 1#32
  let arg16_r0 : BitVec 32 := Scf.iv c1_i32_371_r0 c1_i32_372_r0 k0_t3
  let c4_i32_608_r0 : BitVec 32 := 4#32
  let v1278_r0 : BitVec 32 := Scalar.muli arg16_r0 c4_i32_608_r0
  let c0_i32_609_r0 : BitVec 32 := 0#32
  let v1279_r0 : BitVec 32 := Scalar.addi v1278_r0 c0_i32_609_r0
  let c256_i32_610_r0 : BitVec 32 := 256#32
  let v1280_r0 : BitVec 32 := Scalar.muli v1279_r0 c256_i32_610_r0
  v1280_r0
def k0_mult58 (k0_t3 : Fin k0_t3_loop.trips) : BitVec 32 :=
  let c1_i32_371_r0 : BitVec 32 := 1#32
  let c1_i32_372_r0 : BitVec 32 := 1#32
  let arg16_r0 : BitVec 32 := Scf.iv c1_i32_371_r0 c1_i32_372_r0 k0_t3
  let c4_i32_608_r0 : BitVec 32 := 4#32
  let v1278_r0 : BitVec 32 := Scalar.muli arg16_r0 c4_i32_608_r0
  let c0_i32_609_r0 : BitVec 32 := 0#32
  let v1279_r0 : BitVec 32 := Scalar.addi v1278_r0 c0_i32_609_r0
  let c8_i32_611_r0 : BitVec 32 := 8#32
  let v1282_r0 : BitVec 32 := Scalar.muli v1279_r0 c8_i32_611_r0
  v1282_r0
def k0_off14 (k0_t3 : Fin k0_t3_loop.trips) (c0_i32_609_r0 : BitVec 32) : Fin 3 → Nat :=
  let c0_612_r0 : Index := 0#32
  let c1_i32_371_r0 : BitVec 32 := 1#32
  let c1_i32_372_r0 : BitVec 32 := 1#32
  let arg16_r0 : BitVec 32 := Scf.iv c1_i32_371_r0 c1_i32_372_r0 k0_t3
  let c4_i32_608_r0 : BitVec 32 := 4#32
  let v1278_r0 : BitVec 32 := Scalar.muli arg16_r0 c4_i32_608_r0
  let v1279_r0 : BitVec 32 := Scalar.addi v1278_r0 c0_i32_609_r0
  let c256_i32_610_r0 : BitVec 32 := 256#32
  let v1280_r0 : BitVec 32 := Scalar.muli v1279_r0 c256_i32_610_r0
  let v1281_r0 : BitVec 32 := v1280_r0
  let v1284_r0 : Index := Scalar.indexCast v1281_r0
  let c0_613_r0 : Index := 0#32
  ![0, v1284_r0.toNat, 0]
def k0_off15 (k0_t3 : Fin k0_t3_loop.trips) (c0_i32_609_r0 : BitVec 32) : Fin 3 → Nat :=
  let c0_622_r0 : Index := 0#32
  let c1_i32_371_r0 : BitVec 32 := 1#32
  let c1_i32_372_r0 : BitVec 32 := 1#32
  let arg16_r0 : BitVec 32 := Scf.iv c1_i32_371_r0 c1_i32_372_r0 k0_t3
  let c4_i32_608_r0 : BitVec 32 := 4#32
  let v1278_r0 : BitVec 32 := Scalar.muli arg16_r0 c4_i32_608_r0
  let v1279_r0 : BitVec 32 := Scalar.addi v1278_r0 c0_i32_609_r0
  let c256_i32_610_r0 : BitVec 32 := 256#32
  let v1280_r0 : BitVec 32 := Scalar.muli v1279_r0 c256_i32_610_r0
  let v1281_r0 : BitVec 32 := v1280_r0
  let v1294_r0 : Index := Scalar.indexCast v1281_r0
  let c256_623_r0 : Index := 256#32
  ![0, v1294_r0.toNat, 256]
def k0_off16 (k0_t3 : Fin k0_t3_loop.trips) (c0_i32_609_r0 : BitVec 32) : Fin 2 → Nat :=
  let c1_i32_371_r0 : BitVec 32 := 1#32
  let c1_i32_372_r0 : BitVec 32 := 1#32
  let arg16_r0 : BitVec 32 := Scf.iv c1_i32_371_r0 c1_i32_372_r0 k0_t3
  let c4_i32_608_r0 : BitVec 32 := 4#32
  let v1278_r0 : BitVec 32 := Scalar.muli arg16_r0 c4_i32_608_r0
  let v1279_r0 : BitVec 32 := Scalar.addi v1278_r0 c0_i32_609_r0
  let c8_i32_611_r0 : BitVec 32 := 8#32
  let v1282_r0 : BitVec 32 := Scalar.muli v1279_r0 c8_i32_611_r0
  let v1283_r0 : BitVec 32 := v1282_r0
  let v1300_r0 : Index := Scalar.indexCast v1283_r0
  let c0_626_r0 : Index := 0#32
  ![v1300_r0.toNat, 0]
def k0_off17 (k0_t3 : Fin k0_t3_loop.trips) (c0_i32_609_r0 : BitVec 32) : Fin 2 → Nat :=
  let c1_i32_371_r0 : BitVec 32 := 1#32
  let c1_i32_372_r0 : BitVec 32 := 1#32
  let arg16_r0 : BitVec 32 := Scf.iv c1_i32_371_r0 c1_i32_372_r0 k0_t3
  let c4_i32_608_r0 : BitVec 32 := 4#32
  let v1278_r0 : BitVec 32 := Scalar.muli arg16_r0 c4_i32_608_r0
  let v1279_r0 : BitVec 32 := Scalar.addi v1278_r0 c0_i32_609_r0
  let c256_i32_610_r0 : BitVec 32 := 256#32
  let v1280_r0 : BitVec 32 := Scalar.muli v1279_r0 c256_i32_610_r0
  let v1281_r0 : BitVec 32 := v1280_r0
  let v1311_r0 : Index := Scalar.indexCast v1281_r0
  let c0_634_r0 : Index := 0#32
  ![v1311_r0.toNat, 0]
def k0_off18 (k0_t3 : Fin k0_t3_loop.trips) (c0_i32_609_r0 : BitVec 32) : Fin 2 → Nat :=
  let c1_i32_371_r0 : BitVec 32 := 1#32
  let c1_i32_372_r0 : BitVec 32 := 1#32
  let arg16_r0 : BitVec 32 := Scf.iv c1_i32_371_r0 c1_i32_372_r0 k0_t3
  let c4_i32_608_r0 : BitVec 32 := 4#32
  let v1278_r0 : BitVec 32 := Scalar.muli arg16_r0 c4_i32_608_r0
  let v1279_r0 : BitVec 32 := Scalar.addi v1278_r0 c0_i32_609_r0
  let c8_i32_611_r0 : BitVec 32 := 8#32
  let v1282_r0 : BitVec 32 := Scalar.muli v1279_r0 c8_i32_611_r0
  let v1283_r0 : BitVec 32 := v1282_r0
  let v1319_r0 : Index := Scalar.indexCast v1283_r0
  let c256_635_r0 : Index := 256#32
  ![v1319_r0.toNat, 256]
def k0_off19 (k0_t3 : Fin k0_t3_loop.trips) (c0_i32_609_r0 : BitVec 32) : Fin 2 → Nat :=
  let c1_i32_371_r0 : BitVec 32 := 1#32
  let c1_i32_372_r0 : BitVec 32 := 1#32
  let arg16_r0 : BitVec 32 := Scf.iv c1_i32_371_r0 c1_i32_372_r0 k0_t3
  let c4_i32_608_r0 : BitVec 32 := 4#32
  let v1278_r0 : BitVec 32 := Scalar.muli arg16_r0 c4_i32_608_r0
  let v1279_r0 : BitVec 32 := Scalar.addi v1278_r0 c0_i32_609_r0
  let c256_i32_610_r0 : BitVec 32 := 256#32
  let v1280_r0 : BitVec 32 := Scalar.muli v1279_r0 c256_i32_610_r0
  let v1281_r0 : BitVec 32 := v1280_r0
  let v1330_r0 : Index := Scalar.indexCast v1281_r0
  let c256_643_r0 : Index := 256#32
  ![v1330_r0.toNat, 256]
def k0_off20 (k0_t3 : Fin k0_t3_loop.trips) (c0_i32_609_r0 : BitVec 32) : Fin 3 → Nat :=
  let c0_644_r0 : Index := 0#32
  let c0_645_r0 : Index := 0#32
  let c1_i32_371_r0 : BitVec 32 := 1#32
  let c1_i32_372_r0 : BitVec 32 := 1#32
  let arg16_r0 : BitVec 32 := Scf.iv c1_i32_371_r0 c1_i32_372_r0 k0_t3
  let c4_i32_608_r0 : BitVec 32 := 4#32
  let v1278_r0 : BitVec 32 := Scalar.muli arg16_r0 c4_i32_608_r0
  let v1279_r0 : BitVec 32 := Scalar.addi v1278_r0 c0_i32_609_r0
  let c256_i32_610_r0 : BitVec 32 := 256#32
  let v1280_r0 : BitVec 32 := Scalar.muli v1279_r0 c256_i32_610_r0
  let v1281_r0 : BitVec 32 := v1280_r0
  let v1338_r0 : Index := Scalar.indexCast v1281_r0
  ![0, 0, v1338_r0.toNat]
def k0_mult59 (k0_t3 : Fin k0_t3_loop.trips) : BitVec 32 :=
  let c1_i32_371_r0 : BitVec 32 := 1#32
  let c1_i32_372_r0 : BitVec 32 := 1#32
  let arg16_r0 : BitVec 32 := Scf.iv c1_i32_371_r0 c1_i32_372_r0 k0_t3
  let c4_i32_666_r0 : BitVec 32 := 4#32
  let v1400_r0 : BitVec 32 := Scalar.muli arg16_r0 c4_i32_666_r0
  let c1_i32_667_r0 : BitVec 32 := 1#32
  let v1401_r0 : BitVec 32 := Scalar.addi v1400_r0 c1_i32_667_r0
  let c256_i32_668_r0 : BitVec 32 := 256#32
  let v1402_r0 : BitVec 32 := Scalar.muli v1401_r0 c256_i32_668_r0
  v1402_r0
def k0_mult60 (k0_t3 : Fin k0_t3_loop.trips) : BitVec 32 :=
  let c1_i32_371_r0 : BitVec 32 := 1#32
  let c1_i32_372_r0 : BitVec 32 := 1#32
  let arg16_r0 : BitVec 32 := Scf.iv c1_i32_371_r0 c1_i32_372_r0 k0_t3
  let c4_i32_666_r0 : BitVec 32 := 4#32
  let v1400_r0 : BitVec 32 := Scalar.muli arg16_r0 c4_i32_666_r0
  let c1_i32_667_r0 : BitVec 32 := 1#32
  let v1401_r0 : BitVec 32 := Scalar.addi v1400_r0 c1_i32_667_r0
  let c8_i32_669_r0 : BitVec 32 := 8#32
  let v1404_r0 : BitVec 32 := Scalar.muli v1401_r0 c8_i32_669_r0
  v1404_r0
def k0_mult61 (k0_t3 : Fin k0_t3_loop.trips) : BitVec 32 :=
  let c1_i32_371_r0 : BitVec 32 := 1#32
  let c1_i32_372_r0 : BitVec 32 := 1#32
  let arg16_r0 : BitVec 32 := Scf.iv c1_i32_371_r0 c1_i32_372_r0 k0_t3
  let c4_i32_724_r0 : BitVec 32 := 4#32
  let v1522_r0 : BitVec 32 := Scalar.muli arg16_r0 c4_i32_724_r0
  let c2_i32_725_r0 : BitVec 32 := 2#32
  let v1523_r0 : BitVec 32 := Scalar.addi v1522_r0 c2_i32_725_r0
  let c256_i32_726_r0 : BitVec 32 := 256#32
  let v1524_r0 : BitVec 32 := Scalar.muli v1523_r0 c256_i32_726_r0
  v1524_r0
def k0_mult62 (k0_t3 : Fin k0_t3_loop.trips) : BitVec 32 :=
  let c1_i32_371_r0 : BitVec 32 := 1#32
  let c1_i32_372_r0 : BitVec 32 := 1#32
  let arg16_r0 : BitVec 32 := Scf.iv c1_i32_371_r0 c1_i32_372_r0 k0_t3
  let c4_i32_724_r0 : BitVec 32 := 4#32
  let v1522_r0 : BitVec 32 := Scalar.muli arg16_r0 c4_i32_724_r0
  let c2_i32_725_r0 : BitVec 32 := 2#32
  let v1523_r0 : BitVec 32 := Scalar.addi v1522_r0 c2_i32_725_r0
  let c8_i32_727_r0 : BitVec 32 := 8#32
  let v1526_r0 : BitVec 32 := Scalar.muli v1523_r0 c8_i32_727_r0
  v1526_r0
def k0_mult63 (k0_t3 : Fin k0_t3_loop.trips) : BitVec 32 :=
  let c1_i32_371_r0 : BitVec 32 := 1#32
  let c1_i32_372_r0 : BitVec 32 := 1#32
  let arg16_r0 : BitVec 32 := Scf.iv c1_i32_371_r0 c1_i32_372_r0 k0_t3
  let c4_i32_782_r0 : BitVec 32 := 4#32
  let v1644_r0 : BitVec 32 := Scalar.muli arg16_r0 c4_i32_782_r0
  let c3_i32_r0 : BitVec 32 := 3#32
  let v1645_r0 : BitVec 32 := Scalar.addi v1644_r0 c3_i32_r0
  let c256_i32_783_r0 : BitVec 32 := 256#32
  let v1646_r0 : BitVec 32 := Scalar.muli v1645_r0 c256_i32_783_r0
  v1646_r0
def k0_mult64 (k0_t3 : Fin k0_t3_loop.trips) : BitVec 32 :=
  let c1_i32_371_r0 : BitVec 32 := 1#32
  let c1_i32_372_r0 : BitVec 32 := 1#32
  let arg16_r0 : BitVec 32 := Scf.iv c1_i32_371_r0 c1_i32_372_r0 k0_t3
  let c4_i32_782_r0 : BitVec 32 := 4#32
  let v1644_r0 : BitVec 32 := Scalar.muli arg16_r0 c4_i32_782_r0
  let c3_i32_r0 : BitVec 32 := 3#32
  let v1645_r0 : BitVec 32 := Scalar.addi v1644_r0 c3_i32_r0
  let c8_i32_784_r0 : BitVec 32 := 8#32
  let v1648_r0 : BitVec 32 := Scalar.muli v1645_r0 c8_i32_784_r0
  v1648_r0
def k0_mult65 : BitVec 32 :=
  let c7168_i32_r0 : BitVec 32 := 7168#32
  c7168_i32_r0
def k0_mult66 : BitVec 32 :=
  let c224_i32_r0 : BitVec 32 := 224#32
  c224_i32_r0
def k0_mult67 : BitVec 32 :=
  let c7424_i32_r0 : BitVec 32 := 7424#32
  c7424_i32_r0
def k0_mult68 : BitVec 32 :=
  let c232_i32_r0 : BitVec 32 := 232#32
  c232_i32_r0
def k0_mult69 : BitVec 32 :=
  let c7680_i32_r0 : BitVec 32 := 7680#32
  c7680_i32_r0
def k0_mult70 : BitVec 32 :=
  let c240_i32_r0 : BitVec 32 := 240#32
  c240_i32_r0
def k0_mult71 : BitVec 32 :=
  let c7936_i32_r0 : BitVec 32 := 7936#32
  c7936_i32_r0
def k0_mult72 : BitVec 32 :=
  let c248_i32_r0 : BitVec 32 := 248#32
  c248_i32_r0
def k0_cond4 (i : grid0.Coords) : BitVec 1 :=
  let arg0 : BitVec 32 := BitVec.ofNat 32 (i 0).val
  let c160_i32_3_r0 : BitVec 32 := 160#32
  let v11_r0 : BitVec 1 := Scalar.cmpi .eq arg0 c160_i32_3_r0
  let v12_r0 : BitVec 32 := Scalar.extui v11_r0
  let c0_i32_4_r0 : BitVec 32 := 0#32
  let v13_r0 : BitVec 1 := Scalar.cmpi .ne v12_r0 c0_i32_4_r0
  v13_r0

def k0_mult73 : BitVec 32 :=
  let c0_i32_43_r0 : BitVec 32 := 0#32
  c0_i32_43_r0
def k0_mult74 : BitVec 32 :=
  let c0_i32_44_r0 : BitVec 32 := 0#32
  c0_i32_44_r0
def k0_mult75 : BitVec 32 :=
  let c256_i32_r0 : BitVec 32 := 256#32
  c256_i32_r0
def k0_mult76 : BitVec 32 :=
  let c8_i32_65_r0 : BitVec 32 := 8#32
  c8_i32_65_r0
def k0_mult77 : BitVec 32 :=
  let c512_i32_r0 : BitVec 32 := 512#32
  c512_i32_r0
def k0_mult78 : BitVec 32 :=
  let c16_i32_140_r0 : BitVec 32 := 16#32
  c16_i32_140_r0
def k0_mult79 : BitVec 32 :=
  let c768_i32_r0 : BitVec 32 := 768#32
  c768_i32_r0
def k0_mult80 : BitVec 32 :=
  let c24_i32_r0 : BitVec 32 := 24#32
  c24_i32_r0
@[reducible] def k0_t4_loop : Scf.Loop 32 :=
  let c1_i32_237_r0 : BitVec 32 := 1#32
  let c6_i32_r0 : BitVec 32 := 6#32
  let v464_r0 : BitVec 32 := Scalar.addi c1_i32_237_r0 c6_i32_r0
  let c1_i32_238_r0 : BitVec 32 := 1#32
  ⟨c1_i32_237_r0, v464_r0, c1_i32_238_r0⟩
def k0_mult81 (k0_t4 : Fin k0_t4_loop.trips) : BitVec 32 :=
  let c1_i32_237_r0 : BitVec 32 := 1#32
  let c1_i32_238_r0 : BitVec 32 := 1#32
  let arg16_r0 : BitVec 32 := Scf.iv c1_i32_237_r0 c1_i32_238_r0 k0_t4
  let c4_i32_332_r0 : BitVec 32 := 4#32
  let v657_r0 : BitVec 32 := Scalar.muli arg16_r0 c4_i32_332_r0
  let c0_i32_333_r0 : BitVec 32 := 0#32
  let v658_r0 : BitVec 32 := Scalar.addi v657_r0 c0_i32_333_r0
  let c256_i32_334_r0 : BitVec 32 := 256#32
  let v659_r0 : BitVec 32 := Scalar.muli v658_r0 c256_i32_334_r0
  v659_r0
def k0_mult82 (k0_t4 : Fin k0_t4_loop.trips) : BitVec 32 :=
  let c1_i32_237_r0 : BitVec 32 := 1#32
  let c1_i32_238_r0 : BitVec 32 := 1#32
  let arg16_r0 : BitVec 32 := Scf.iv c1_i32_237_r0 c1_i32_238_r0 k0_t4
  let c4_i32_332_r0 : BitVec 32 := 4#32
  let v657_r0 : BitVec 32 := Scalar.muli arg16_r0 c4_i32_332_r0
  let c0_i32_333_r0 : BitVec 32 := 0#32
  let v658_r0 : BitVec 32 := Scalar.addi v657_r0 c0_i32_333_r0
  let c8_i32_335_r0 : BitVec 32 := 8#32
  let v661_r0 : BitVec 32 := Scalar.muli v658_r0 c8_i32_335_r0
  v661_r0
def k0_off21 (k0_t4 : Fin k0_t4_loop.trips) (c0_i32_333_r0 : BitVec 32) : Fin 2 → Nat :=
  let c1_i32_237_r0 : BitVec 32 := 1#32
  let c1_i32_238_r0 : BitVec 32 := 1#32
  let arg16_r0 : BitVec 32 := Scf.iv c1_i32_237_r0 c1_i32_238_r0 k0_t4
  let c4_i32_332_r0 : BitVec 32 := 4#32
  let v657_r0 : BitVec 32 := Scalar.muli arg16_r0 c4_i32_332_r0
  let v658_r0 : BitVec 32 := Scalar.addi v657_r0 c0_i32_333_r0
  let c8_i32_335_r0 : BitVec 32 := 8#32
  let v661_r0 : BitVec 32 := Scalar.muli v658_r0 c8_i32_335_r0
  let v662_r0 : BitVec 32 := v661_r0
  let v663_r0 : Index := Scalar.indexCast v662_r0
  let c0_336_r0 : Index := 0#32
  ![v663_r0.toNat, 0]
def k0_off22 (k0_t4 : Fin k0_t4_loop.trips) (c0_i32_333_r0 : BitVec 32) : Fin 2 → Nat :=
  let c1_i32_237_r0 : BitVec 32 := 1#32
  let c1_i32_238_r0 : BitVec 32 := 1#32
  let arg16_r0 : BitVec 32 := Scf.iv c1_i32_237_r0 c1_i32_238_r0 k0_t4
  let c4_i32_332_r0 : BitVec 32 := 4#32
  let v657_r0 : BitVec 32 := Scalar.muli arg16_r0 c4_i32_332_r0
  let v658_r0 : BitVec 32 := Scalar.addi v657_r0 c0_i32_333_r0
  let c256_i32_334_r0 : BitVec 32 := 256#32
  let v659_r0 : BitVec 32 := Scalar.muli v658_r0 c256_i32_334_r0
  let v660_r0 : BitVec 32 := v659_r0
  let v674_r0 : Index := Scalar.indexCast v660_r0
  let c0_344_r0 : Index := 0#32
  ![v674_r0.toNat, 0]
def k0_off23 (k0_t4 : Fin k0_t4_loop.trips) (c0_i32_333_r0 : BitVec 32) : Fin 2 → Nat :=
  let c1_i32_237_r0 : BitVec 32 := 1#32
  let c1_i32_238_r0 : BitVec 32 := 1#32
  let arg16_r0 : BitVec 32 := Scf.iv c1_i32_237_r0 c1_i32_238_r0 k0_t4
  let c4_i32_332_r0 : BitVec 32 := 4#32
  let v657_r0 : BitVec 32 := Scalar.muli arg16_r0 c4_i32_332_r0
  let v658_r0 : BitVec 32 := Scalar.addi v657_r0 c0_i32_333_r0
  let c8_i32_335_r0 : BitVec 32 := 8#32
  let v661_r0 : BitVec 32 := Scalar.muli v658_r0 c8_i32_335_r0
  let v662_r0 : BitVec 32 := v661_r0
  let v682_r0 : Index := Scalar.indexCast v662_r0
  let c256_345_r0 : Index := 256#32
  ![v682_r0.toNat, 256]
def k0_off24 (k0_t4 : Fin k0_t4_loop.trips) (c0_i32_333_r0 : BitVec 32) : Fin 2 → Nat :=
  let c1_i32_237_r0 : BitVec 32 := 1#32
  let c1_i32_238_r0 : BitVec 32 := 1#32
  let arg16_r0 : BitVec 32 := Scf.iv c1_i32_237_r0 c1_i32_238_r0 k0_t4
  let c4_i32_332_r0 : BitVec 32 := 4#32
  let v657_r0 : BitVec 32 := Scalar.muli arg16_r0 c4_i32_332_r0
  let v658_r0 : BitVec 32 := Scalar.addi v657_r0 c0_i32_333_r0
  let c256_i32_334_r0 : BitVec 32 := 256#32
  let v659_r0 : BitVec 32 := Scalar.muli v658_r0 c256_i32_334_r0
  let v660_r0 : BitVec 32 := v659_r0
  let v693_r0 : Index := Scalar.indexCast v660_r0
  let c256_353_r0 : Index := 256#32
  ![v693_r0.toNat, 256]
def k0_off25 (k0_t4 : Fin k0_t4_loop.trips) (c0_i32_333_r0 : BitVec 32) : Fin 3 → Nat :=
  let c0_354_r0 : Index := 0#32
  let c0_355_r0 : Index := 0#32
  let c1_i32_237_r0 : BitVec 32 := 1#32
  let c1_i32_238_r0 : BitVec 32 := 1#32
  let arg16_r0 : BitVec 32 := Scf.iv c1_i32_237_r0 c1_i32_238_r0 k0_t4
  let c4_i32_332_r0 : BitVec 32 := 4#32
  let v657_r0 : BitVec 32 := Scalar.muli arg16_r0 c4_i32_332_r0
  let v658_r0 : BitVec 32 := Scalar.addi v657_r0 c0_i32_333_r0
  let c256_i32_334_r0 : BitVec 32 := 256#32
  let v659_r0 : BitVec 32 := Scalar.muli v658_r0 c256_i32_334_r0
  let v660_r0 : BitVec 32 := v659_r0
  let v701_r0 : Index := Scalar.indexCast v660_r0
  ![0, 0, v701_r0.toNat]
def k0_mult83 (k0_t4 : Fin k0_t4_loop.trips) : BitVec 32 :=
  let c1_i32_237_r0 : BitVec 32 := 1#32
  let c1_i32_238_r0 : BitVec 32 := 1#32
  let arg16_r0 : BitVec 32 := Scf.iv c1_i32_237_r0 c1_i32_238_r0 k0_t4
  let c4_i32_358_r0 : BitVec 32 := 4#32
  let v707_r0 : BitVec 32 := Scalar.muli arg16_r0 c4_i32_358_r0
  let c1_i32_359_r0 : BitVec 32 := 1#32
  let v708_r0 : BitVec 32 := Scalar.addi v707_r0 c1_i32_359_r0
  let c256_i32_360_r0 : BitVec 32 := 256#32
  let v709_r0 : BitVec 32 := Scalar.muli v708_r0 c256_i32_360_r0
  v709_r0
def k0_mult84 (k0_t4 : Fin k0_t4_loop.trips) : BitVec 32 :=
  let c1_i32_237_r0 : BitVec 32 := 1#32
  let c1_i32_238_r0 : BitVec 32 := 1#32
  let arg16_r0 : BitVec 32 := Scf.iv c1_i32_237_r0 c1_i32_238_r0 k0_t4
  let c4_i32_358_r0 : BitVec 32 := 4#32
  let v707_r0 : BitVec 32 := Scalar.muli arg16_r0 c4_i32_358_r0
  let c1_i32_359_r0 : BitVec 32 := 1#32
  let v708_r0 : BitVec 32 := Scalar.addi v707_r0 c1_i32_359_r0
  let c8_i32_361_r0 : BitVec 32 := 8#32
  let v711_r0 : BitVec 32 := Scalar.muli v708_r0 c8_i32_361_r0
  v711_r0
def k0_mult85 (k0_t4 : Fin k0_t4_loop.trips) : BitVec 32 :=
  let c1_i32_237_r0 : BitVec 32 := 1#32
  let c1_i32_238_r0 : BitVec 32 := 1#32
  let arg16_r0 : BitVec 32 := Scf.iv c1_i32_237_r0 c1_i32_238_r0 k0_t4
  let c4_i32_384_r0 : BitVec 32 := 4#32
  let v757_r0 : BitVec 32 := Scalar.muli arg16_r0 c4_i32_384_r0
  let c2_i32_385_r0 : BitVec 32 := 2#32
  let v758_r0 : BitVec 32 := Scalar.addi v757_r0 c2_i32_385_r0
  let c256_i32_386_r0 : BitVec 32 := 256#32
  let v759_r0 : BitVec 32 := Scalar.muli v758_r0 c256_i32_386_r0
  v759_r0
def k0_mult86 (k0_t4 : Fin k0_t4_loop.trips) : BitVec 32 :=
  let c1_i32_237_r0 : BitVec 32 := 1#32
  let c1_i32_238_r0 : BitVec 32 := 1#32
  let arg16_r0 : BitVec 32 := Scf.iv c1_i32_237_r0 c1_i32_238_r0 k0_t4
  let c4_i32_384_r0 : BitVec 32 := 4#32
  let v757_r0 : BitVec 32 := Scalar.muli arg16_r0 c4_i32_384_r0
  let c2_i32_385_r0 : BitVec 32 := 2#32
  let v758_r0 : BitVec 32 := Scalar.addi v757_r0 c2_i32_385_r0
  let c8_i32_387_r0 : BitVec 32 := 8#32
  let v761_r0 : BitVec 32 := Scalar.muli v758_r0 c8_i32_387_r0
  v761_r0
def k0_mult87 (k0_t4 : Fin k0_t4_loop.trips) : BitVec 32 :=
  let c1_i32_237_r0 : BitVec 32 := 1#32
  let c1_i32_238_r0 : BitVec 32 := 1#32
  let arg16_r0 : BitVec 32 := Scf.iv c1_i32_237_r0 c1_i32_238_r0 k0_t4
  let c4_i32_410_r0 : BitVec 32 := 4#32
  let v807_r0 : BitVec 32 := Scalar.muli arg16_r0 c4_i32_410_r0
  let c3_i32_r0 : BitVec 32 := 3#32
  let v808_r0 : BitVec 32 := Scalar.addi v807_r0 c3_i32_r0
  let c256_i32_411_r0 : BitVec 32 := 256#32
  let v809_r0 : BitVec 32 := Scalar.muli v808_r0 c256_i32_411_r0
  v809_r0
def k0_mult88 (k0_t4 : Fin k0_t4_loop.trips) : BitVec 32 :=
  let c1_i32_237_r0 : BitVec 32 := 1#32
  let c1_i32_238_r0 : BitVec 32 := 1#32
  let arg16_r0 : BitVec 32 := Scf.iv c1_i32_237_r0 c1_i32_238_r0 k0_t4
  let c4_i32_410_r0 : BitVec 32 := 4#32
  let v807_r0 : BitVec 32 := Scalar.muli arg16_r0 c4_i32_410_r0
  let c3_i32_r0 : BitVec 32 := 3#32
  let v808_r0 : BitVec 32 := Scalar.addi v807_r0 c3_i32_r0
  let c8_i32_412_r0 : BitVec 32 := 8#32
  let v811_r0 : BitVec 32 := Scalar.muli v808_r0 c8_i32_412_r0
  v811_r0
def k0_mult89 : BitVec 32 :=
  let c7168_i32_r0 : BitVec 32 := 7168#32
  c7168_i32_r0
def k0_mult90 : BitVec 32 :=
  let c224_i32_r0 : BitVec 32 := 224#32
  c224_i32_r0
def k0_mult91 : BitVec 32 :=
  let c7424_i32_r0 : BitVec 32 := 7424#32
  c7424_i32_r0
def k0_mult92 : BitVec 32 :=
  let c232_i32_r0 : BitVec 32 := 232#32
  c232_i32_r0
def k0_mult93 : BitVec 32 :=
  let c7680_i32_r0 : BitVec 32 := 7680#32
  c7680_i32_r0
def k0_mult94 : BitVec 32 :=
  let c240_i32_r0 : BitVec 32 := 240#32
  c240_i32_r0
def k0_mult95 : BitVec 32 :=
  let c7936_i32_r0 : BitVec 32 := 7936#32
  c7936_i32_r0
def k0_mult96 : BitVec 32 :=
  let c248_i32_r0 : BitVec 32 := 248#32
  c248_i32_r0
def k0_cond5 (i : grid0.Coords) : BitVec 1 :=
  let arg0 : BitVec 32 := BitVec.ofNat 32 (i 0).val
  let c161_i32_r0 : BitVec 32 := 161#32
  let v14_r0 : BitVec 1 := Scalar.cmpi .eq arg0 c161_i32_r0
  let v15_r0 : BitVec 32 := Scalar.extui v14_r0
  let c0_i32_5_r0 : BitVec 32 := 0#32
  let v16_r0 : BitVec 1 := Scalar.cmpi .ne v15_r0 c0_i32_5_r0
  v16_r0

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c159_i32 : BitVec 32 := 159#32
  let v1 : BitVec 32 := Scalar.maxsi c0_i32_0 v0
  let v2 : BitVec 32 := Scalar.minsi c159_i32 v1
  let c16_i32 : BitVec 32 := 16#32
  let v3 : BitVec 32 := Scalar.divsi v2 c16_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32 c0_i32_3
  let v10 : BitVec 32 := Scalar.extui v9
  let c0_i32_4 : BitVec 32 := 0#32
  let v11 : BitVec 1 := Scalar.cmpi .slt c16_i32 c0_i32_4
  let v12 : BitVec 32 := Scalar.extui v11
  let v13 : BitVec 32 := Scalar.subi v10 v12
  let v14 : BitVec 1 := Scalar.cmpi .ne v8 v13
  let v15 : BitVec 32 := Scalar.remsi v2 c16_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c16_i32_6 : BitVec 32 := 16#32
  let c0_i32_7 : BitVec 32 := 0#32
  let v20 : BitVec 1 := Scalar.cmpi .eq c16_i32_6 c0_i32_7
  let c1_i32_8 : BitVec 32 := 1#32
  let v21 : BitVec 32 := Scalar.select v20 c1_i32_8 c16_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, c0_i32_12.toNat, v29.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c159_i32 : BitVec 32 := 159#32
  let v1 : BitVec 32 := Scalar.maxsi c0_i32_0 v0
  let v2 : BitVec 32 := Scalar.minsi c159_i32 v1
  let c16_i32 : BitVec 32 := 16#32
  let v3 : BitVec 32 := Scalar.divsi v2 c16_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32 c0_i32_3
  let v10 : BitVec 32 := Scalar.extui v9
  let c0_i32_4 : BitVec 32 := 0#32
  let v11 : BitVec 1 := Scalar.cmpi .slt c16_i32 c0_i32_4
  let v12 : BitVec 32 := Scalar.extui v11
  let v13 : BitVec 32 := Scalar.subi v10 v12
  let v14 : BitVec 1 := Scalar.cmpi .ne v8 v13
  let v15 : BitVec 32 := Scalar.remsi v2 c16_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let c0_i32_7 : BitVec 32 := 0#32
  let c0_i32_8 : BitVec 32 := 0#32
  ![v19.toNat, c0_i32_6.toNat, c0_i32_7.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c159_i32 : BitVec 32 := 159#32
  let v1 : BitVec 32 := Scalar.maxsi c0_i32 v0
  let v2 : BitVec 32 := Scalar.minsi c159_i32 v1
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  let c0_i32_8 : BitVec 32 := 0#32
  ![v19.toNat, c0_i32_6.toNat, c0_i32_7.toNat]

def cc0_transform_3 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c159_i32 : BitVec 32 := 159#32
  let v1 : BitVec 32 := Scalar.maxsi c0_i32 v0
  let v2 : BitVec 32 := Scalar.minsi c159_i32 v1
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c16_i32_5 : BitVec 32 := 16#32
  let c0_i32_6 : BitVec 32 := 0#32
  let v20 : BitVec 1 := Scalar.cmpi .eq c16_i32_5 c0_i32_6
  let c1_i32_7 : BitVec 32 := 1#32
  let v21 : BitVec 32 := Scalar.select v20 c1_i32_7 c16_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, c0_i32_11.toNat, v29.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c159_i32 : BitVec 32 := 159#32
  let v1 : BitVec 32 := Scalar.maxsi c0_i32 v0
  let v2 : BitVec 32 := Scalar.minsi c159_i32 v1
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c16_i32_5 : BitVec 32 := 16#32
  let c0_i32_6 : BitVec 32 := 0#32
  let v20 : BitVec 1 := Scalar.cmpi .eq c16_i32_5 c0_i32_6
  let c1_i32_7 : BitVec 32 := 1#32
  let v21 : BitVec 32 := Scalar.select v20 c1_i32_7 c16_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, c0_i32_11.toNat, v29.toNat]

def cc0_transform_8 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c159_i32 : BitVec 32 := 159#32
  let v1 : BitVec 32 := Scalar.maxsi c0_i32 v0
  let v2 : BitVec 32 := Scalar.minsi c159_i32 v1
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c16_i32_5 : BitVec 32 := 16#32
  let c0_i32_6 : BitVec 32 := 0#32
  let v20 : BitVec 1 := Scalar.cmpi .eq c16_i32_5 c0_i32_6
  let c1_i32_7 : BitVec 32 := 1#32
  let v21 : BitVec 32 := Scalar.select v20 c1_i32_7 c16_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, c0_i32_11.toNat, v29.toNat]

def cc0_transform_9 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c159_i32 : BitVec 32 := 159#32
  let v1 : BitVec 32 := Scalar.maxsi c0_i32 v0
  let v2 : BitVec 32 := Scalar.minsi c159_i32 v1
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c16_i32_5 : BitVec 32 := 16#32
  let c0_i32_6 : BitVec 32 := 0#32
  let v20 : BitVec 1 := Scalar.cmpi .eq c16_i32_5 c0_i32_6
  let c1_i32_7 : BitVec 32 := 1#32
  let v21 : BitVec 32 := Scalar.select v20 c1_i32_7 c16_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, c0_i32_11.toNat, v29.toNat]

def cc0_transform_10 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c159_i32 : BitVec 32 := 159#32
  let v1 : BitVec 32 := Scalar.maxsi c0_i32 v0
  let v2 : BitVec 32 := Scalar.minsi c159_i32 v1
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c16_i32_5 : BitVec 32 := 16#32
  let c0_i32_6 : BitVec 32 := 0#32
  let v20 : BitVec 1 := Scalar.cmpi .eq c16_i32_5 c0_i32_6
  let c1_i32_7 : BitVec 32 := 1#32
  let v21 : BitVec 32 := Scalar.select v20 c1_i32_7 c16_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, c0_i32_11.toNat, v29.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AttnIdeal.lean ====
variable {F : FTy → Type} [FloatOps F] [Named F]
def κ : String → Option EReal := fun
  | "exp_scale" => some (((11863283 / 268435456) * (Real.log 2)⁻¹ : ℝ) : EReal)
  | _ => none
-- ==== AttnRefIdeal.lean ====
abbrev S10x512x8192 : Shape := ⟨3, ![10, 512, 8192]⟩
abbrev S10x8192x512 : Shape := ⟨3, ![10, 8192, 512]⟩
abbrev S512x512 : Shape := ⟨2, ![512, 512]⟩
abbrev S512 : Shape := ⟨1, ![512]⟩
abbrev S10x8192x8192 : Shape := ⟨3, ![10, 8192, 8192]⟩
abbrev S_ : Shape := ⟨0, ![]⟩
abbrev S10x8192 : Shape := ⟨2, ![10, 8192]⟩
abbrev S10x8192x1 : Shape := ⟨3, ![10, 8192, 1]⟩
abbrev S254 : Shape := ⟨1, ![254]⟩
abbrev S1x1x254 : Shape := ⟨3, ![1, 1, 254]⟩
abbrev S10x8192x254 : Shape := ⟨3, ![10, 8192, 254]⟩
abbrev S1x512x1 : Shape := ⟨3, ![1, 512, 1]⟩
abbrev S10x1x8192 : Shape := ⟨3, ![10, 1, 8192]⟩
abbrev S1x512x512 : Shape := ⟨3, ![1, 512, 512]⟩
abbrev S10x512x512 : Shape := ⟨3, ![10, 512, 512]⟩

abbrev nBuf : Space → Nat
  | .hbm => 107
  | .vmem => 11
  | .smem => 0
  | _ => 0

abbrev bufTy : (tb : Table) → Fin (tcTables nBuf tb) → BufTy
  | .hbm, ⟨0, _⟩ => ⟨S10x512x8192, .bf16⟩
  | .hbm, ⟨1, _⟩ => ⟨S10x8192x512, .bf16⟩
  | .hbm, ⟨2, _⟩ => ⟨S10x512x8192, .bf16⟩
  | .hbm, ⟨3, _⟩ => ⟨S10x512x8192, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S10x8192x8192, .f32⟩
  | .hbm, ⟨8, _⟩ => ⟨S_, .f32⟩
  | .hbm, ⟨9, _⟩ => ⟨S10x8192x8192, .f32⟩
  | .hbm, ⟨10, _⟩ => ⟨S10x8192x8192, .f32⟩
  | .hbm, ⟨11, _⟩ => ⟨S_, .f32⟩
  | .hbm, ⟨12, _⟩ => ⟨S10x8192, .f32⟩
  | .hbm, ⟨13, _⟩ => ⟨S10x8192x1, .f32⟩
  | .hbm, ⟨14, _⟩ => ⟨S10x8192x8192, .f32⟩
  | .hbm, ⟨15, _⟩ => ⟨S10x8192x8192, .f32⟩
  | .hbm, ⟨16, _⟩ => ⟨S10x8192x8192, .f32⟩
  | .hbm, ⟨17, _⟩ => ⟨S_, .f32⟩
  | .hbm, ⟨18, _⟩ => ⟨S10x8192, .f32⟩
  | .hbm, ⟨19, _⟩ => ⟨S10x8192x1, .f32⟩
  | .hbm, ⟨20, _⟩ => ⟨S_, .f32⟩
  | .hbm, ⟨21, _⟩ => ⟨S10x8192x1, .f32⟩
  | .hbm, ⟨22, _⟩ => ⟨S10x8192x1, .f32⟩
  | .hbm, ⟨23, _⟩ => ⟨S10x8192x8192, .f32⟩
  | .hbm, ⟨24, _⟩ => ⟨S10x8192x8192, .f32⟩
  | .hbm, ⟨25, _⟩ => ⟨S10x8192x8192, .bf16⟩
  | .hbm, ⟨26, _⟩ => ⟨S10x512x8192, .f32⟩
  | .hbm, ⟨27, _⟩ => ⟨S10x512x8192, .f32⟩
  | .hbm, ⟨28, _⟩ => ⟨S_, .f32⟩
  | .hbm, ⟨29, _⟩ => ⟨S10x8192, .f32⟩
  | .hbm, ⟨30, _⟩ => ⟨S_, .f32⟩
  | .hbm, ⟨31, _⟩ => ⟨S10x8192, .f32⟩
  | .hbm, ⟨32, _⟩ => ⟨S10x8192, .f32⟩
  | .hbm, ⟨33, _⟩ => ⟨S254, .i32⟩
  | .hbm, ⟨34, _⟩ => ⟨S_, .i32⟩
  | .hbm, ⟨35, _⟩ => ⟨S254, .i32⟩
  | .hbm, ⟨36, _⟩ => ⟨S254, .i32⟩
  | .hbm, ⟨37, _⟩ => ⟨S_, .f32⟩
  | .hbm, ⟨38, _⟩ => ⟨S254, .f32⟩
  | .hbm, ⟨39, _⟩ => ⟨S254, .f32⟩
  | .hbm, ⟨40, _⟩ => ⟨S254, .f32⟩
  | .hbm, ⟨41, _⟩ => ⟨S10x8192x1, .f32⟩
  | .hbm, ⟨42, _⟩ => ⟨S1x1x254, .f32⟩
  | .hbm, ⟨43, _⟩ => ⟨S10x8192x254, .f32⟩
  | .hbm, ⟨44, _⟩ => ⟨S10x8192x254, .f32⟩
  | .hbm, ⟨45, _⟩ => ⟨S10x8192x254, .i1⟩
  | .hbm, ⟨46, _⟩ => ⟨S10x8192x254, .i32⟩
  | .hbm, ⟨47, _⟩ => ⟨S_, .i32⟩
  | .hbm, ⟨48, _⟩ => ⟨S10x8192, .i32⟩
  | .hbm, ⟨49, _⟩ => ⟨S_, .i32⟩
  | .hbm, ⟨50, _⟩ => ⟨S10x8192, .i32⟩
  | .hbm, ⟨51, _⟩ => ⟨S10x8192, .i1⟩
  | .hbm, ⟨52, _⟩ => ⟨S_, .f32⟩
  | .hbm, ⟨53, _⟩ => ⟨S10x8192, .f32⟩
  | .hbm, ⟨54, _⟩ => ⟨S10x8192, .i1⟩
  | .hbm, ⟨55, _⟩ => ⟨S10x8192, .i1⟩
  | .hbm, ⟨56, _⟩ => ⟨S_, .i32⟩
  | .hbm, ⟨57, _⟩ => ⟨S10x8192, .i32⟩
  | .hbm, ⟨58, _⟩ => ⟨S10x8192, .i32⟩
  | .hbm, ⟨59, _⟩ => ⟨S_, .i32⟩
  | .hbm, ⟨60, _⟩ => ⟨S_, .i32⟩
  | .hbm, ⟨61, _⟩ => ⟨S10x8192, .i32⟩
  | .hbm, ⟨62, _⟩ => ⟨S10x8192, .i32⟩
  | .hbm, ⟨63, _⟩ => ⟨S_, .i32⟩
  | .hbm, ⟨64, _⟩ => ⟨S10x8192, .i32⟩
  | .hbm, ⟨65, _⟩ => ⟨S10x8192, .i1⟩
  | .hbm, ⟨66, _⟩ => ⟨S_, .i32⟩
  | .hbm, ⟨67, _⟩ => ⟨S10x8192, .i32⟩
  | .hbm, ⟨68, _⟩ => ⟨S10x8192, .i1⟩
  | .hbm, ⟨69, _⟩ => ⟨S_, .f32⟩
  | .hbm, ⟨70, _⟩ => ⟨S10x8192, .f32⟩
  | .hbm, ⟨71, _⟩ => ⟨S10x8192, .f32⟩
  | .hbm, ⟨72, _⟩ => ⟨S10x8192, .f32⟩
  | .hbm, ⟨73, _⟩ => ⟨S_, .f32⟩
  | .hbm, ⟨74, _⟩ => ⟨S_, .f32⟩
  | .hbm, ⟨75, _⟩ => ⟨S10x8192, .f32⟩
  | .hbm, ⟨76, _⟩ => ⟨S10x8192, .f32⟩
  | .hbm, ⟨77, _⟩ => ⟨S_, .f32⟩
  | .hbm, ⟨78, _⟩ => ⟨S_, .f32⟩
  | .hbm, ⟨79, _⟩ => ⟨S10x8192, .f32⟩
  | .hbm, ⟨80, _⟩ => ⟨S10x8192, .f32⟩
  | .hbm, ⟨81, _⟩ => ⟨S10x8192, .i32⟩
  | .hbm, ⟨82, _⟩ => ⟨S_, .i32⟩
  | .hbm, ⟨83, _⟩ => ⟨S10x8192, .i32⟩
  | .hbm, ⟨84, _⟩ => ⟨S10x8192, .i1⟩
  | .hbm, ⟨85, _⟩ => ⟨S_, .i32⟩
  | .hbm, ⟨86, _⟩ => ⟨S10x8192, .i32⟩
  | .hbm, ⟨87, _⟩ => ⟨S10x8192, .i1⟩
  | .hbm, ⟨88, _⟩ => ⟨S_, .f32⟩
  | .hbm, ⟨89, _⟩ => ⟨S10x8192, .f32⟩
  | .hbm, ⟨90, _⟩ => ⟨S10x8192, .f32⟩
  | .hbm, ⟨91, _⟩ => ⟨S10x8192, .f32⟩
  | .hbm, ⟨92, _⟩ => ⟨S_, .f32⟩
  | .hbm, ⟨93, _⟩ => ⟨S_, .f32⟩
  | .hbm, ⟨94, _⟩ => ⟨S10x8192, .f32⟩
  | .hbm, ⟨95, _⟩ => ⟨S10x8192, .f32⟩
  | .hbm, ⟨96, _⟩ => ⟨S_, .f32⟩
  | .hbm, ⟨97, _⟩ => ⟨S_, .f32⟩
  | .hbm, ⟨98, _⟩ => ⟨S10x8192, .f32⟩
  | .hbm, ⟨99, _⟩ => ⟨S10x8192, .f32⟩
  | .hbm, ⟨100, _⟩ => ⟨S1x512x1, .f32⟩
  | .hbm, ⟨101, _⟩ => ⟨S1x512x1, .f32⟩
  | .hbm, ⟨102, _⟩ => ⟨S10x512x8192, .bf16⟩
  | .hbm, ⟨103, _⟩ => ⟨S10x512x8192, .bf16⟩
  | .hbm, ⟨104, _⟩ => ⟨S10x512x8192, .fp8e4m3⟩
  | .hbm, ⟨105, _⟩ => ⟨S10x8192, .f32⟩
  | .hbm, ⟨106, _⟩ => ⟨S10x1x8192, .f32⟩
  | .local _ .vmem, ⟨0, _⟩ => ⟨S10x512x8192, .f32⟩
  | .local _ .vmem, ⟨1, _⟩ => ⟨S10x8192, .f32⟩
  | .local _ .vmem, ⟨2, _⟩ => ⟨S10x8192, .f32⟩
  | .local _ .vmem, ⟨3, _⟩ => ⟨S10x512x8192, .bf16⟩
  | .local _ .vmem, ⟨4, _⟩ => ⟨S512x512, .fp8e4m3⟩
  | .local _ .vmem, ⟨5, _⟩ => ⟨S1x512x1, .f32⟩
  | .local _ .vmem, ⟨6, _⟩ => ⟨S1x512x1, .f32⟩
  | .local _ .vmem, ⟨7, _⟩ => ⟨S10x512x8192, .bf16⟩
  | .local _ .vmem, ⟨8, _⟩ => ⟨S10x512x8192, .bf16⟩
  | .local _ .vmem, ⟨9, _⟩ => ⟨S10x512x8192, .fp8e4m3⟩
  | .local _ .vmem, ⟨10, _⟩ => ⟨S10x8192, .f32⟩
  | _, _ => ⟨S10x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_call0_v0 : Ref sig .tc := ⟨.hbm, 60, rfl⟩
abbrev main_call0_v1 : Ref sig .tc := ⟨.hbm, 61, rfl⟩
abbrev main_v40 : Ref sig .tc := ⟨.hbm, 62, rfl⟩
abbrev main_c_11 : Ref sig .tc := ⟨.hbm, 63, rfl⟩
abbrev main_v41 : Ref sig .tc := ⟨.hbm, 64, rfl⟩
abbrev main_v42 : Ref sig .tc := ⟨.hbm, 65, rfl⟩
abbrev main_c_12 : Ref sig .tc := ⟨.hbm, 66, rfl⟩
abbrev main_v43 : Ref sig .tc := ⟨.hbm, 67, rfl⟩
abbrev main_v44 : Ref sig .tc := ⟨.hbm, 68, rfl⟩
abbrev main_cst_13 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_14 : Ref sig .tc := ⟨.hbm, 73, rfl⟩
abbrev main_call1_v0 : Ref sig .tc := ⟨.hbm, 74, rfl⟩
abbrev main_call1_v1 : Ref sig .tc := ⟨.hbm, 75, rfl⟩
abbrev main_v48 : Ref sig .tc := ⟨.hbm, 76, rfl⟩
abbrev main_cst_15 : Ref sig .tc := ⟨.hbm, 77, rfl⟩
abbrev main_call2_v0 : Ref sig .tc := ⟨.hbm, 78, rfl⟩
abbrev main_call2_v1 : Ref sig .tc := ⟨.hbm, 79, rfl⟩
abbrev main_v49 : Ref sig .tc := ⟨.hbm, 80, rfl⟩
abbrev main_v50 : Ref sig .tc := ⟨.hbm, 81, rfl⟩
abbrev main_c_16 : Ref sig .tc := ⟨.hbm, 82, rfl⟩
abbrev main_v51 : Ref sig .tc := ⟨.hbm, 83, rfl⟩
abbrev main_v52 : Ref sig .tc := ⟨.hbm, 84, rfl⟩
abbrev main_c_17 : Ref sig .tc := ⟨.hbm, 85, rfl⟩
abbrev main_v53 : Ref sig .tc := ⟨.hbm, 86, rfl⟩
abbrev main_v54 : Ref sig .tc := ⟨.hbm, 87, rfl⟩
abbrev main_cst_18 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_19 : Ref sig .tc := ⟨.hbm, 92, rfl⟩
abbrev main_call3_v0 : Ref sig .tc := ⟨.hbm, 93, rfl⟩
abbrev main_call3_v1 : Ref sig .tc := ⟨.hbm, 94, rfl⟩
abbrev main_v58 : Ref sig .tc := ⟨.hbm, 95, rfl⟩
abbrev main_cst_20 : Ref sig .tc := ⟨.hbm, 96, rfl⟩
abbrev main_call4_v0 : Ref sig .tc := ⟨.hbm, 97, rfl⟩
abbrev main_call4_v1 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62_0 : Ref sig .tc := ⟨.hbm, 102, rfl⟩
abbrev main_v62_1 : Ref sig .tc := ⟨.hbm, 103, rfl⟩
abbrev main_v62_2 : Ref sig .tc := ⟨.hbm, 104, rfl⟩
abbrev main_v62_3 : Ref sig .tc := ⟨.hbm, 105, rfl⟩
abbrev main_v63 : Ref sig .tc := ⟨.hbm, 106, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S10x512x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x512x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10x512x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10x512x8192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S10x512x8192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S10x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.AttnProg.lean ====
/- The body of the attention kernel as a composition of named pieces. -/
module

public import proofs.«01_k».proof.Proof.Gen.AttnIdeal

@[expose] public section

set_option maxRecDepth 16384

namespace Cert.AttnIdeal.Body

open Idealize.ShloMosaic Idealize.SL.Sem
open Cert.AttnIdeal Facts₀ Facts

variable {F : FTy → Type} [FloatOps F] [Named F] [Facts]
variable (arg1 : Memref sig .tc .vmem S1x512x512 .bf16) (harg1 : arg1.IsWhole) (arg2 : Memref sig .tc .vmem S1x8192x512 .bf16) (harg2 : arg2.IsWhole) (arg3 : Memref sig .tc .vmem S1x512x8192 .bf16) (harg3 : arg3.IsWhole)
  (arg4 : Memref sig .tc .vmem S1x512x512 .bf16) (harg4 : arg4.IsWhole) (arg5 : Memref sig .tc .vmem S512x512 .fp8e4m3) (harg5 : arg5.IsWhole) (arg6 : Memref sig .tc .vmem S512x1 .f32) (harg6 : arg6.IsWhole)
  (arg7 : Memref sig .tc .vmem S512x1 .f32) (harg7 : arg7.IsWhole) (arg8 : Memref sig .tc .vmem S1x512x512 .bf16) (harg8 : arg8.IsWhole) (arg9 : Memref sig .tc .vmem S1x512x512 .bf16) (harg9 : arg9.IsWhole)
  (arg10 : Memref sig .tc .vmem S1x512x512 .fp8e4m3) (harg10 : arg10.IsWhole) (arg11 : Memref sig .tc .vmem S1x1x512 .f32) (harg11 : arg11.IsWhole) (arg12 : Memref sig .tc .vmem S8192x512 .f32) (harg12 : arg12.IsWhole)
  (arg13 : Memref sig .tc .vmem S256x512 .f32) (harg13 : arg13.IsWhole) (arg14 : Memref sig .tc .vmem S2x8x512 .f32) (harg14 : arg14.IsWhole) (arg15 : Memref sig .tc .vmem S512x512 .f32) (harg15 : arg15.IsWhole)

/-- One fold of a key block accumulated against the query fold staged in register 0 of both units. -/
noncomputable def accK (A : Nat) (hA : Mxu.Fits A 256) (o : Fin 3 → Nat) (ho : ∀ a, o a + S1x256x256.size a ≤ S1x8192x512.size a) (s : Mxu F) :
    Prog (TpuEff nD τ sig (Elt F) Λ₀ .tc) (Mxu F) := do
  let v641 : Vec F S1x256x256 .bf16 ← Prog.lift (.load arg2 (Rect.unit (s := S1x8192x512) o S1x256x256.size ho).toLoadRect (View.loadsAt_vmem h_S1x256x256))
  have v642 : FVec F S256x256 .bf16 := shapeCast S256x256 v641 shapeCasts_S1x256x256_S256x256
  have k0_mxu363 : Mxu F := s.accLhs 0 0 A v642 hA
  let v644 : Vec F S1x256x256 .bf16 ← Prog.lift (.load arg2 (Rect.unit (s := S1x8192x512) o S1x256x256.size ho).toLoadRect (View.loadsAt_vmem h_S1x256x256))
  have v645 : FVec F S256x256 .bf16 := shapeCast S256x256 v644 shapeCasts_S1x256x256_S256x256
  have k0_mxu364 : Mxu F := k0_mxu363.accLhs 1 0 A v645 hA
  pure k0_mxu364

/-- One fold of the query tile pushed to register 0, lanes 0-255 to unit 0, lanes 256-511 to unit 1. -/
noncomputable def pushQ (o : Fin 3 → Nat) (ho : ∀ a, o a + S1x256x256.size a ≤ S1x512x512.size a) (p : Fin 3 → Nat) (hp : ∀ a, p a + S1x256x256.size a ≤ S1x512x512.size a) (s : Mxu F) :
    Prog (TpuEff nD τ sig (Elt F) Λ₀ .tc) (Mxu F) := do
  let v646 : Vec F S1x256x256 .bf16 ← Prog.lift (.load arg1 (Rect.unit (s := S1x512x512) o S1x256x256.size ho).toLoadRect (View.loadsAt_vmem h_S1x256x256))
  have v647 : FVec F S256x256 .bf16 := shapeCast S256x256 v646 shapeCasts_S1x256x256_S256x256
  let k0_mxu365 : Mxu F ← s.pushRhs 0 0 false v647
  let v648 : Vec F S1x256x256 .bf16 ← Prog.lift (.load arg1 (Rect.unit (s := S1x512x512) p S1x256x256.size hp).toLoadRect (View.loadsAt_vmem h_S1x256x256))
  have v649 : FVec F S256x256 .bf16 := shapeCast S256x256 v648 shapeCasts_S1x256x256_S256x256
  let k0_mxu366 : Mxu F ← k0_mxu365.pushRhs 1 0 false v649
  pure k0_mxu366

/-- The probabilities of a key block, from the stored exponentials, pushed to register 1 of unit `c`. -/
noncomputable def valP (c : Fin 2) (ob : Fin 2 → Nat) (hob : ∀ a, ob a + S8x256.size a ≤ S256x512.size a) (oa : Fin 3 → Nat) (hoa : ∀ a, oa a + S1x8x256.size a ≤ S2x8x512.size a) (ol : Fin 3 → Nat) (hol : ∀ a, ol a + S1x8x256.size a ≤ S2x8x512.size a)
    (oe : Fin 2 → Nat) (hoe : ∀ a, oe a + S256x256.size a ≤ S8192x512.size a) (s : Mxu F) :
    Prog (TpuEff nD τ sig (Elt F) Λ₀ .tc) (Mxu F) := do
  let v657 : Vec F S8x256 .f32 ← Prog.lift (.load arg13 (Rect.unit (s := S256x512) ob S8x256.size hob).toLoadRect (View.loadsAt_vmem h_S8x256))
  let v658 : Vec F S1x8x256 .f32 ← Prog.lift (.load arg14 (Rect.unit (s := S2x8x512) oa S1x8x256.size hoa).toLoadRect (View.loadsAt_vmem h_S1x8x256))
  have v659 : FVec F S8x256 .f32 := shapeCast S8x256 v658 shapeCasts_S1x8x256_S8x256
  have v660 : FVec F S8x256 .f32 := subf v657 v659
  have cst_335 : F .f32 := Named.named κ "exp_scale" 0x3D8293EE#32
  have v661 : FVec F S8x256 .f32 := broadcast S8x256 cst_335
  have v662 : FVec F S8x256 .f32 := mulf v660 v661
  have v663 : FVec F S8x256 .f32 := exp2 v662
  let v664 : Vec F S1x8x256 .f32 ← Prog.lift (.load arg14 (Rect.unit (s := S2x8x512) ol S1x8x256.size hol).toLoadRect (View.loadsAt_vmem h_S1x8x256))
  have v665 : FVec F S8x256 .f32 := shapeCast S8x256 v664 shapeCasts_S1x8x256_S8x256
  have v666 : FVec F S8x256 .f32 := mulf v663 v665
  let v668 : Vec F S256x256 .f32 ← Prog.lift (.load arg12 (Rect.unit (s := S8192x512) oe S256x256.size hoe).toLoadRect (View.loadsAt_vmem h_S256x256))
  have v669 : FVec F S32x8x256 .f32 := shapeCast S32x8x256 v668 shapeCasts_S256x256_S32x8x256
  have v670 : FVec F S1x8x256 .f32 := shapeCast S1x8x256 v666 shapeCasts_S8x256_S1x8x256
  have v671 : FVec F S32x8x256 .f32 := broadcastTo S32x8x256 v670 broadcasts_S1x8x256_S32x8x256
  have v672 : FVec F S32x8x256 .f32 := mulf v669 v671
  have v673 : FVec F S256x256 .f32 := shapeCast S256x256 v672 shapeCasts_S32x8x256_S256x256
  have v674 : FVec F S256x256 .bf16 := truncf .bf16 v673 bitsLt_bf16_f32
  let k0_mxu369 : Mxu F ← s.pushRhs c 1 false v674
  pure k0_mxu369

/-- The value rows of a key block accumulated against the staged probabilities. -/
noncomputable def accV (o : Fin 3 → Nat) (ho : ∀ a, o a + S1x512x256.size a ≤ S1x512x8192.size a) (s : Mxu F) :
    Prog (TpuEff nD τ sig (Elt F) Λ₀ .tc) (Mxu F) := do
  let v695 : Vec F S1x512x256 .bf16 ← Prog.lift (.load arg3 (Rect.unit (s := S1x512x8192) o S1x512x256.size ho).toLoadRect (View.loadsAt_vmem h_S1x512x256))
  have v696 : FVec F S512x256 .bf16 := shapeCast S512x256 v695 shapeCasts_S1x512x256_S512x256
  have k0_mxu371 : Mxu F := s.accLhs 0 1 0 v696 fits_0_512
  let v698 : Vec F S1x512x256 .bf16 ← Prog.lift (.load arg3 (Rect.unit (s := S1x512x8192) o S1x512x256.size ho).toLoadRect (View.loadsAt_vmem h_S1x512x256))
  have v699 : FVec F S512x256 .bf16 := shapeCast S512x256 v698 shapeCasts_S1x512x256_S512x256
  have k0_mxu372 : Mxu F := k0_mxu371.accLhs 1 1 0 v699 fits_0_512
  pure k0_mxu372

/-- The scores of a key block popped from unit `c`: the running maximum and sum, the exponentials and the maximum stored. -/
noncomputable def scF (c : Fin 2) (A : Nat) (hA : Mxu.Fits A 256) (ob : Fin 2 → Nat) (hob : ∀ a, ob a + S8x256.size a ≤ S256x512.size a) (oe : Fin 2 → Nat) (hoe : ∀ a, oe a + S256x256.size a ≤ S8192x512.size a)
    (m l : FVec F S8x256 .f32) (s : Mxu F) :
    Prog (TpuEff nD τ sig (Elt F) Λ₀ .tc) (FVec F S8x256 .f32 × FVec F S8x256 .f32 × Mxu F) := do
  have v704 : FVec F S256x256 .f32 := s.read c A hA
  have k0_mxu375 : Mxu F := s.pop c A 256 hA
  have v705 : FVec F S32x8x256 .f32 := shapeCast S32x8x256 v704 shapeCasts_S256x256_S32x8x256
  have cst_359 : FVec F S8x256 .f32 := constant S8x256 .f32 0xFF800000#32
  have v706 : FVec F S8x256 .f32 := multiReduction .maximumf [0] S8x256 v705 0xFF800000#32 reduces_S32x8x256_S8x256 (.inl rfl) rfl
  have v707 : FVec F S8x256 .f32 := maximumf m v706
  have v708 : FVec F S1x8x256 .f32 := shapeCast S1x8x256 v707 shapeCasts_S8x256_S1x8x256
  have v709 : FVec F S32x8x256 .f32 := broadcastTo S32x8x256 v708 broadcasts_S1x8x256_S32x8x256
  have v710 : FVec F S32x8x256 .f32 := subf v705 v709
  have cst_360 : F .f32 := Named.named κ "exp_scale" 0x3D8293EE#32
  have v711 : FVec F S32x8x256 .f32 := broadcast S32x8x256 cst_360
  have v712 : FVec F S32x8x256 .f32 := mulf v710 v711
  have v713 : FVec F S32x8x256 .f32 := exp2 v712
  have v714 : FVec F S8x256 .f32 := subf m v707
  have cst_361 : F .f32 := Named.named κ "exp_scale" 0x3D8293EE#32
  have v715 : FVec F S8x256 .f32 := broadcast S8x256 cst_361
  have v716 : FVec F S8x256 .f32 := mulf v714 v715
  have v717 : FVec F S8x256 .f32 := exp2 v716
  have v718 : FVec F S8x256 .f32 := mulf l v717
  have cst_362 : FVec F S8x256 .f32 := constant S8x256 .f32 0x00000000#32
  have v719 : FVec F S8x256 .f32 := multiReduction .add [0] S8x256 v713 0x00000000#32 reduces_S32x8x256_S8x256 (.inl rfl) rfl
  have v720 : FVec F S8x256 .f32 := addf v718 v719
  have v721 : FVec F S256x256 .f32 := shapeCast S256x256 v713 shapeCasts_S32x8x256_S256x256
  let v723 : Vec F S256x256 .f32 ← Prog.lift (.load arg12 (Rect.unit (s := S8192x512) oe S256x256.size hoe).toLoadRect (View.loadsAt_vmem h_S256x256))
  have v724 : FVec F S256x256 .f32 := shapeCast S256x256 v723 shapeCasts_S256x256_S256x256
  have v725 : FVec F S256x256 .f32 := shapeCast S256x256 v721 shapeCasts_S256x256_S256x256
  Prog.lift (.store arg12 (Rect.unit (s := S8192x512) oe S256x256.size hoe) v725 Finset.univ (View.stores_vmem_bits_univ h_S256x256 rfl) (.inl rfl))
  let v727 : Vec F S8x256 .f32 ← Prog.lift (.load arg13 (Rect.unit (s := S256x512) ob S8x256.size hob).toLoadRect (View.loadsAt_vmem h_S8x256))
  have v728 : FVec F S8x256 .f32 := shapeCast S8x256 v727 shapeCasts_S8x256_S8x256
  have v729 : FVec F S8x256 .f32 := shapeCast S8x256 v707 shapeCasts_S8x256_S8x256
  Prog.lift (.store arg13 (Rect.unit (s := S256x512) ob S8x256.size hob) v729 Finset.univ (View.stores_vmem_bits_univ h_S8x256 rfl) (.inl rfl))
  pure (v707, v720, k0_mxu375)

/-- The output tile quantised: codes and scale stored. -/
noncomputable def quantO  :
    Prog (TpuEff nD τ sig (Elt F) Λ₀ .tc) PUnit := do
  let v21 : Vec F S512x512 .f32 ← Prog.lift (.load arg15 (Rect.unit (s := S512x512) ![0, 0] S512x512.size inb_S512x512_S512x512_0_0).toLoadRect (View.loadsAt_vmem h_S512x512))
  have v22 : FVec F S512x512 .f32 := absf v21
  have cst_10 : FVec F S512 .f32 := constant S512 .f32 0xFF800000#32
  have v23 : FVec F S512 .f32 := multiReduction .maximumf [0] S512 v22 0xFF800000#32 reduces_S512x512_S512 (.inl rfl) rfl
  have v24 : FVec F S1x512 .f32 := shapeCast S1x512 v23 shapeCasts_S512_S1x512
  have cst_11 : F .f32 := Scalar.ofBits .f32 0x3B124925#32
  have v25 : FVec F S1x512 .f32 := broadcast S1x512 cst_11
  have v26 : FVec F S1x512 .f32 := mulf v24 v25
  let c0_i32_12 : BitVec 32 := 0#32
  have v27 : IVec S1x512 32 := broadcast S1x512 c0_i32_12
  let c128_i32 : BitVec 32 := 128#32
  have v28 : IVec S1x512 32 := broadcast S1x512 c128_i32
  have v29 : IVec S1x512 32 := addi v27 v28
  let c23_i32 : BitVec 32 := 23#32
  have v30 : IVec S1x512 32 := broadcast S1x512 c23_i32
  have v31 : IVec S1x512 32 := shli v29 v30
  have v32 : FVec F S1x512 .f32 := bitcastToFloat .f32 v31
  have v33 : IVec S1x512 1 := cmpf .oge v26 v32
  let c128_i32_13 : BitVec 32 := 128#32
  have v34 : IVec S1x512 32 := broadcast S1x512 c128_i32_13
  have v35 : IVec S1x512 32 := addi v27 v34
  have v36 : IVec S1x512 32 := select v33 v35 v27
  let c64_i32 : BitVec 32 := 64#32
  have v37 : IVec S1x512 32 := broadcast S1x512 c64_i32
  have v38 : IVec S1x512 32 := addi v36 v37
  let c23_i32_14 : BitVec 32 := 23#32
  have v39 : IVec S1x512 32 := broadcast S1x512 c23_i32_14
  have v40 : IVec S1x512 32 := shli v38 v39
  have v41 : FVec F S1x512 .f32 := bitcastToFloat .f32 v40
  have v42 : IVec S1x512 1 := cmpf .oge v26 v41
  let c64_i32_15 : BitVec 32 := 64#32
  have v43 : IVec S1x512 32 := broadcast S1x512 c64_i32_15
  have v44 : IVec S1x512 32 := addi v36 v43
  have v45 : IVec S1x512 32 := select v42 v44 v36
  let c32_i32 : BitVec 32 := 32#32
  have v46 : IVec S1x512 32 := broadcast S1x512 c32_i32
  have v47 : IVec S1x512 32 := addi v45 v46
  let c23_i32_16 : BitVec 32 := 23#32
  have v48 : IVec S1x512 32 := broadcast S1x512 c23_i32_16
  have v49 : IVec S1x512 32 := shli v47 v48
  have v50 : FVec F S1x512 .f32 := bitcastToFloat .f32 v49
  have v51 : IVec S1x512 1 := cmpf .oge v26 v50
  let c32_i32_17 : BitVec 32 := 32#32
  have v52 : IVec S1x512 32 := broadcast S1x512 c32_i32_17
  have v53 : IVec S1x512 32 := addi v45 v52
  have v54 : IVec S1x512 32 := select v51 v53 v45
  let c16_i32 : BitVec 32 := 16#32
  have v55 : IVec S1x512 32 := broadcast S1x512 c16_i32
  have v56 : IVec S1x512 32 := addi v54 v55
  let c23_i32_18 : BitVec 32 := 23#32
  have v57 : IVec S1x512 32 := broadcast S1x512 c23_i32_18
  have v58 : IVec S1x512 32 := shli v56 v57
  have v59 : FVec F S1x512 .f32 := bitcastToFloat .f32 v58
  have v60 : IVec S1x512 1 := cmpf .oge v26 v59
  let c16_i32_19 : BitVec 32 := 16#32
  have v61 : IVec S1x512 32 := broadcast S1x512 c16_i32_19
  have v62 : IVec S1x512 32 := addi v54 v61
  have v63 : IVec S1x512 32 := select v60 v62 v54
  let c8_i32 : BitVec 32 := 8#32
  have v64 : IVec S1x512 32 := broadcast S1x512 c8_i32
  have v65 : IVec S1x512 32 := addi v63 v64
  let c23_i32_20 : BitVec 32 := 23#32
  have v66 : IVec S1x512 32 := broadcast S1x512 c23_i32_20
  have v67 : IVec S1x512 32 := shli v65 v66
  have v68 : FVec F S1x512 .f32 := bitcastToFloat .f32 v67
  have v69 : IVec S1x512 1 := cmpf .oge v26 v68
  let c8_i32_21 : BitVec 32 := 8#32
  have v70 : IVec S1x512 32 := broadcast S1x512 c8_i32_21
  have v71 : IVec S1x512 32 := addi v63 v70
  have v72 : IVec S1x512 32 := select v69 v71 v63
  let c4_i32 : BitVec 32 := 4#32
  have v73 : IVec S1x512 32 := broadcast S1x512 c4_i32
  have v74 : IVec S1x512 32 := addi v72 v73
  let c23_i32_22 : BitVec 32 := 23#32
  have v75 : IVec S1x512 32 := broadcast S1x512 c23_i32_22
  have v76 : IVec S1x512 32 := shli v74 v75
  have v77 : FVec F S1x512 .f32 := bitcastToFloat .f32 v76
  have v78 : IVec S1x512 1 := cmpf .oge v26 v77
  let c4_i32_23 : BitVec 32 := 4#32
  have v79 : IVec S1x512 32 := broadcast S1x512 c4_i32_23
  have v80 : IVec S1x512 32 := addi v72 v79
  have v81 : IVec S1x512 32 := select v78 v80 v72
  let c2_i32_24 : BitVec 32 := 2#32
  have v82 : IVec S1x512 32 := broadcast S1x512 c2_i32_24
  have v83 : IVec S1x512 32 := addi v81 v82
  let c23_i32_25 : BitVec 32 := 23#32
  have v84 : IVec S1x512 32 := broadcast S1x512 c23_i32_25
  have v85 : IVec S1x512 32 := shli v83 v84
  have v86 : FVec F S1x512 .f32 := bitcastToFloat .f32 v85
  have v87 : IVec S1x512 1 := cmpf .oge v26 v86
  let c2_i32_26 : BitVec 32 := 2#32
  have v88 : IVec S1x512 32 := broadcast S1x512 c2_i32_26
  have v89 : IVec S1x512 32 := addi v81 v88
  have v90 : IVec S1x512 32 := select v87 v89 v81
  let c1_i32_27 : BitVec 32 := 1#32
  have v91 : IVec S1x512 32 := broadcast S1x512 c1_i32_27
  have v92 : IVec S1x512 32 := addi v90 v91
  let c23_i32_28 : BitVec 32 := 23#32
  have v93 : IVec S1x512 32 := broadcast S1x512 c23_i32_28
  have v94 : IVec S1x512 32 := shli v92 v93
  have v95 : FVec F S1x512 .f32 := bitcastToFloat .f32 v94
  have v96 : IVec S1x512 1 := cmpf .oge v26 v95
  let c1_i32_29 : BitVec 32 := 1#32
  have v97 : IVec S1x512 32 := broadcast S1x512 c1_i32_29
  have v98 : IVec S1x512 32 := addi v90 v97
  have v99 : IVec S1x512 32 := select v96 v98 v90
  let c0_i32_30 : BitVec 32 := 0#32
  have v100 : IVec S1x512 32 := broadcast S1x512 c0_i32_30
  have v101 : IVec S1x512 1 := cmpi .eq v99 v100
  let c255_i32 : BitVec 32 := 255#32
  have v102 : IVec S1x512 32 := broadcast S1x512 c255_i32
  have v103 : IVec S1x512 1 := cmpi .eq v99 v102
  have v104 : IVec S1x512 1 := ori v101 v103
  let c126_i32 : BitVec 32 := 126#32
  have v105 : IVec S1x512 32 := broadcast S1x512 c126_i32
  have v106 : IVec S1x512 32 := select v104 v105 v99
  let c1_i32_31 : BitVec 32 := 1#32
  have v107 : IVec S1x512 32 := broadcast S1x512 c1_i32_31
  have v108 : IVec S1x512 32 := addi v106 v107
  let c23_i32_32 : BitVec 32 := 23#32
  have v109 : IVec S1x512 32 := broadcast S1x512 c23_i32_32
  have v110 : IVec S1x512 32 := shli v108 v109
  have v111 : FVec F S1x512 .f32 := bitcastToFloat .f32 v110
  let c253_i32 : BitVec 32 := 253#32
  have v112 : IVec S1x512 32 := broadcast S1x512 c253_i32
  have v113 : IVec S1x512 32 := subi v112 v106
  let c0_i32_33 : BitVec 32 := 0#32
  have v114 : IVec S1x512 32 := broadcast S1x512 c0_i32_33
  have v115 : IVec S1x512 32 := maxsi v113 v114
  let c23_i32_34 : BitVec 32 := 23#32
  have v116 : IVec S1x512 32 := broadcast S1x512 c23_i32_34
  have v117 : IVec S1x512 32 := shli v115 v116
  have v118 : FVec F S1x512 .f32 := bitcastToFloat .f32 v117
  have v119 : FVec F S512x512 .f32 := broadcastTo S512x512 v118 broadcasts_S1x512_S512x512
  have v120 : FVec F S512x512 .f32 := mulf v21 v119
  have cst_35 : F .f32 := Scalar.ofBits .f32 0xC3E00000#32
  have cst_36 : F .f32 := Scalar.ofBits .f32 0x43E00000#32
  have v121 : FVec F S512x512 .f32 := broadcast S512x512 cst_35
  have v122 : FVec F S512x512 .f32 := maximumf v121 v120
  have v123 : FVec F S512x512 .f32 := broadcast S512x512 cst_36
  have v124 : FVec F S512x512 .f32 := minimumf v123 v122
  have v125 : FVec F S512x512 .fp8e4m3 := truncf .fp8e4m3 v124 bitsLt_fp8e4m3_f32
  let v126 : Vec F S1x512x512 .fp8e4m3 ← Prog.lift (.load arg10 (Rect.unit (s := S1x512x512) ![0, 0, 0] S1x512x512.size inb_S1x512x512_S1x512x512_0_0_0).toLoadRect (View.loadsAt_vmem h_S1x512x512))
  have v127 : FVec F S512x512 .fp8e4m3 := shapeCast S512x512 v126 shapeCasts_S1x512x512_S512x512
  have v128 : FVec F S1x512x512 .fp8e4m3 := shapeCast S1x512x512 v125 shapeCasts_S512x512_S1x512x512
  Prog.lift (.store arg10 (Rect.unit (s := S1x512x512) ![0, 0, 0] S1x512x512.size inb_S1x512x512_S1x512x512_0_0_0) v128 Finset.univ (View.stores_vmem h_S1x512x512 (harg10.storeExact_slice rfl _ packedfp8e4m3_S1x512x512_S1x512x512_0_0_0) (fun _ => rfl)) (.inl rfl))
  let v129 : Vec F S1x1x512 .f32 ← Prog.lift (.load arg11 (Rect.unit (s := S1x1x512) ![0, 0, 0] S1x1x512.size inb_S1x1x512_S1x1x512_0_0_0).toLoadRect (View.loadsAt_vmem h_S1x1x512))
  have v130 : FVec F S1x512 .f32 := shapeCast S1x512 v129 shapeCasts_S1x1x512_S1x512
  have v131 : FVec F S1x1x512 .f32 := shapeCast S1x1x512 v111 shapeCasts_S1x512_S1x1x512
  Prog.lift (.store arg11 (Rect.unit (s := S1x1x512) ![0, 0, 0] S1x1x512.size inb_S1x1x512_S1x1x512_0_0_0) v131 Finset.univ (View.stores_vmem_bits_univ h_S1x1x512 rfl) (.inl rfl))
  pure PUnit.unit

/-- Half of the output projection accumulated: two folds of the codes against two tiles of the weight. -/
noncomputable def projAcc (A : Nat) (hA : Mxu.Fits A 256) (o : Fin 2 → Nat) (ho : ∀ a, o a + S256x256.size a ≤ S512x512.size a) (p : Fin 2 → Nat) (hp : ∀ a, p a + S256x256.size a ≤ S512x512.size a) (s : Mxu F) :
    Prog (TpuEff nD τ sig (Elt F) Λ₀ .tc) (Mxu F) := do
  let v132 : Vec F S1x256x256 .fp8e4m3 ← Prog.lift (.load arg10 (Rect.unit (s := S1x512x512) ![0, 0, 0] S1x256x256.size inb_S1x512x512_S1x256x256_0_0_0).toLoadRect (View.loadsAt_vmem h_S1x256x256))
  have v133 : FVec F S256x256 .fp8e4m3 := shapeCast S256x256 v132 shapeCasts_S1x256x256_S256x256
  have v134 : FVec F S256x256 .bf16 := extf .bf16 v133 bitsLt_fp8e4m3_bf16
  let k0_mxu565 : Mxu F ← s.pushRhs 0 1 false v134
  let v135 : Vec F S1x256x256 .fp8e4m3 ← Prog.lift (.load arg10 (Rect.unit (s := S1x512x512) ![0, 0, 256] S1x256x256.size inb_S1x512x512_S1x256x256_0_0_256).toLoadRect (View.loadsAt_vmem h_S1x256x256))
  have v136 : FVec F S256x256 .fp8e4m3 := shapeCast S256x256 v135 shapeCasts_S1x256x256_S256x256
  have v137 : FVec F S256x256 .bf16 := extf .bf16 v136 bitsLt_fp8e4m3_bf16
  let k0_mxu566 : Mxu F ← k0_mxu565.pushRhs 1 1 false v137
  let v138 : Vec F S256x256 .fp8e4m3 ← Prog.lift (.load arg5 (Rect.unit (s := S512x512) o S256x256.size ho).toLoadRect (View.loadsAt_vmem h_S256x256))
  have v139 : FVec F S256x256 .fp8e4m3 := shapeCast S256x256 v138 shapeCasts_S256x256_S256x256
  have v140 : FVec F S256x256 .bf16 := extf .bf16 v139 bitsLt_fp8e4m3_bf16
  have k0_mxu567 : Mxu F := k0_mxu566.accLhs 0 1 A v140 hA
  let v141 : Vec F S256x256 .fp8e4m3 ← Prog.lift (.load arg5 (Rect.unit (s := S512x512) o S256x256.size ho).toLoadRect (View.loadsAt_vmem h_S256x256))
  have v142 : FVec F S256x256 .fp8e4m3 := shapeCast S256x256 v141 shapeCasts_S256x256_S256x256
  have v143 : FVec F S256x256 .bf16 := extf .bf16 v142 bitsLt_fp8e4m3_bf16
  have k0_mxu568 : Mxu F := k0_mxu567.accLhs 1 1 A v143 hA
  let v144 : Vec F S1x256x256 .fp8e4m3 ← Prog.lift (.load arg10 (Rect.unit (s := S1x512x512) ![0, 256, 0] S1x256x256.size inb_S1x512x512_S1x256x256_0_256_0).toLoadRect (View.loadsAt_vmem h_S1x256x256))
  have v145 : FVec F S256x256 .fp8e4m3 := shapeCast S256x256 v144 shapeCasts_S1x256x256_S256x256
  have v146 : FVec F S256x256 .bf16 := extf .bf16 v145 bitsLt_fp8e4m3_bf16
  let k0_mxu569 : Mxu F ← k0_mxu568.pushRhs 0 1 false v146
  let v147 : Vec F S1x256x256 .fp8e4m3 ← Prog.lift (.load arg10 (Rect.unit (s := S1x512x512) ![0, 256, 256] S1x256x256.size inb_S1x512x512_S1x256x256_0_256_256).toLoadRect (View.loadsAt_vmem h_S1x256x256))
  have v148 : FVec F S256x256 .fp8e4m3 := shapeCast S256x256 v147 shapeCasts_S1x256x256_S256x256
  have v149 : FVec F S256x256 .bf16 := extf .bf16 v148 bitsLt_fp8e4m3_bf16
  let k0_mxu570 : Mxu F ← k0_mxu569.pushRhs 1 1 false v149
  let v150 : Vec F S256x256 .fp8e4m3 ← Prog.lift (.load arg5 (Rect.unit (s := S512x512) p S256x256.size hp).toLoadRect (View.loadsAt_vmem h_S256x256))
  have v151 : FVec F S256x256 .fp8e4m3 := shapeCast S256x256 v150 shapeCasts_S256x256_S256x256
  have v152 : FVec F S256x256 .bf16 := extf .bf16 v151 bitsLt_fp8e4m3_bf16
  have k0_mxu571 : Mxu F := k0_mxu570.accLhs 0 1 A v152 hA
  let v153 : Vec F S256x256 .fp8e4m3 ← Prog.lift (.load arg5 (Rect.unit (s := S512x512) p S256x256.size hp).toLoadRect (View.loadsAt_vmem h_S256x256))
  have v154 : FVec F S256x256 .fp8e4m3 := shapeCast S256x256 v153 shapeCasts_S256x256_S256x256
  have v155 : FVec F S256x256 .bf16 := extf .bf16 v154 bitsLt_fp8e4m3_bf16
  have k0_mxu572 : Mxu F := k0_mxu571.accLhs 1 1 A v155 hA
  pure k0_mxu572

/-- The projected half popped from unit `c`, scaled, with its bias: stored, and stored again with the residual added. -/
noncomputable def projF (c : Fin 2) (A : Nat) (hA : Mxu.Fits A 256) (os : Fin 3 → Nat) (hos : ∀ a, os a + S1x1x256.size a ≤ S1x1x512.size a) (ow : Fin 2 → Nat) (how : ∀ a, ow a + S256x1.size a ≤ S512x1.size a)
    (o : Fin 3 → Nat) (ho : ∀ a, o a + S1x256x256.size a ≤ S1x512x512.size a)
    (pk : (Rect.unit (s := S1x512x512) o S1x256x256.size ho).PackedRows (EltTy.packing .bf16)) (s : Mxu F) :
    Prog (TpuEff nD τ sig (Elt F) Λ₀ .tc) (Mxu F) := do
  have v156 : FVec F S256x256 .f32 := s.read c A hA
  have k0_mxu573 : Mxu F := s.pop c A 256 hA
  let v157 : Vec F S1x1x256 .f32 ← Prog.lift (.load arg11 (Rect.unit (s := S1x1x512) os S1x1x256.size hos).toLoadRect (View.loadsAt_vmem h_S1x1x256))
  have v158 : FVec F S1x256 .f32 := shapeCast S1x256 v157 shapeCasts_S1x1x256_S1x256
  have v159 : FVec F S256x256 .f32 := broadcastTo S256x256 v158 broadcasts_S1x256_S256x256
  have v160 : FVec F S256x256 .f32 := mulf v156 v159
  let v161 : Vec F S256x1 .f32 ← Prog.lift (.load arg6 (Rect.unit (s := S512x1) ow S256x1.size how).toLoadRect (View.loadsAt_vmem h_S256x1))
  have v162 : FVec F S256x1 .f32 := shapeCast S256x1 v161 shapeCasts_S256x1_S256x1
  have v163 : FVec F S256x256 .f32 := broadcastTo S256x256 v162 broadcasts_S256x1_S256x256
  have v164 : FVec F S256x256 .f32 := mulf v160 v163
  let v165 : Vec F S256x1 .f32 ← Prog.lift (.load arg7 (Rect.unit (s := S512x1) ow S256x1.size how).toLoadRect (View.loadsAt_vmem h_S256x1))
  have v166 : FVec F S256x1 .f32 := shapeCast S256x1 v165 shapeCasts_S256x1_S256x1
  have v167 : FVec F S256x256 .f32 := broadcastTo S256x256 v166 broadcasts_S256x1_S256x256
  have v168 : FVec F S256x256 .f32 := addf v164 v167
  have v169 : FVec F S256x256 .bf16 := truncf .bf16 v168 bitsLt_bf16_f32
  let v170 : Vec F S1x256x256 .bf16 ← Prog.lift (.load arg9 (Rect.unit (s := S1x512x512) o S1x256x256.size ho).toLoadRect (View.loadsAt_vmem h_S1x256x256))
  have v171 : FVec F S256x256 .bf16 := shapeCast S256x256 v170 shapeCasts_S1x256x256_S256x256
  have v172 : FVec F S1x256x256 .bf16 := shapeCast S1x256x256 v169 shapeCasts_S256x256_S1x256x256
  Prog.lift (.store arg9 (Rect.unit (s := S1x512x512) o S1x256x256.size ho) v172 Finset.univ (View.stores_vmem h_S1x256x256 (harg9.storeExact_slice rfl _ pk) (fun _ => rfl)) (.inl rfl))
  let v173 : Vec F S1x256x256 .bf16 ← Prog.lift (.load arg4 (Rect.unit (s := S1x512x512) o S1x256x256.size ho).toLoadRect (View.loadsAt_vmem h_S1x256x256))
  have v174 : FVec F S256x256 .bf16 := shapeCast S256x256 v173 shapeCasts_S1x256x256_S256x256
  have v175 : FVec F S256x256 .f32 := extf .f32 v174 bitsLt_bf16_f32
  have v176 : FVec F S256x256 .f32 := addf v175 v168
  have v177 : FVec F S256x256 .bf16 := truncf .bf16 v176 bitsLt_bf16_f32
  let v178 : Vec F S1x256x256 .bf16 ← Prog.lift (.load arg8 (Rect.unit (s := S1x512x512) o S1x256x256.size ho).toLoadRect (View.loadsAt_vmem h_S1x256x256))
  have v179 : FVec F S256x256 .bf16 := shapeCast S256x256 v178 shapeCasts_S1x256x256_S256x256
  have v180 : FVec F S1x256x256 .bf16 := shapeCast S1x256x256 v177 shapeCasts_S256x256_S1x256x256
  Prog.lift (.store arg8 (Rect.unit (s := S1x512x512) o S1x256x256.size ho) v180 Finset.univ (View.stores_vmem h_S1x256x256 (harg8.storeExact_slice rfl _ pk) (fun _ => rfl)) (.inl rfl))
  pure k0_mxu573

/-- The attention output of unit `c` popped and stored. -/
noncomputable def popO (c : Fin 2) (o : Fin 2 → Nat) (ho : ∀ a, o a + S512x256.size a ≤ S512x512.size a) (s : Mxu F) :
    Prog (TpuEff nD τ sig (Elt F) Λ₀ .tc) (Mxu F) := do
  have v1226 : FVec F S512x256 .f32 := s.read c 0 fits_0_512
  have k0_mxu489 : Mxu F := s.pop c 0 512 fits_0_512
  let v1227 : Vec F S512x256 .f32 ← Prog.lift (.load arg15 (Rect.unit (s := S512x512) o S512x256.size ho).toLoadRect (View.loadsAt_vmem h_S512x256))
  have v1228 : FVec F S512x256 .f32 := shapeCast S512x256 v1227 shapeCasts_S512x256_S512x256
  have v1229 : FVec F S512x256 .f32 := shapeCast S512x256 v1226 shapeCasts_S512x256_S512x256
  Prog.lift (.store arg15 (Rect.unit (s := S512x512) o S512x256.size ho) v1229 Finset.univ (View.stores_vmem_bits_univ h_S512x256 rfl) (.inl rfl))
  pure k0_mxu489

/-- The final maximum and the reciprocal of the final sum stored. -/
noncomputable def stat (oa : Fin 3 → Nat) (hoa : ∀ a, oa a + S1x8x256.size a ≤ S2x8x512.size a) (ol : Fin 3 → Nat) (hol : ∀ a, ol a + S1x8x256.size a ≤ S2x8x512.size a) (m l : FVec F S8x256 .f32) :
    Prog (TpuEff nD τ sig (Elt F) Λ₀ .tc) PUnit := do
  have v1234 : FVec F S256 .f32 := multiReduction .maximumf [0] S256 m 0xFF800000#32 reduces_S8x256_S256 (.inl rfl) rfl
  have v1235 : FVec F S1x256 .f32 := shapeCast S1x256 v1234 shapeCasts_S256_S1x256
  have v1236 : FVec F S8x256 .f32 := broadcastTo S8x256 v1235 broadcasts_S1x256_S8x256
  have v1237 : FVec F S8x256 .f32 := subf m v1236
  have cst_589 : F .f32 := Named.named κ "exp_scale" 0x3D8293EE#32
  have v1238 : FVec F S8x256 .f32 := broadcast S8x256 cst_589
  have v1239 : FVec F S8x256 .f32 := mulf v1237 v1238
  have v1240 : FVec F S8x256 .f32 := exp2 v1239
  have v1241 : FVec F S8x256 .f32 := mulf l v1240
  have cst_590 : FVec F S256 .f32 := constant S256 .f32 0x00000000#32
  have v1242 : FVec F S256 .f32 := multiReduction .add [0] S256 v1241 0x00000000#32 reduces_S8x256_S256 (.inl rfl) rfl
  have v1243 : FVec F S1x256 .f32 := shapeCast S1x256 v1242 shapeCasts_S256_S1x256
  have v1244 : FVec F S1x256 .f32 := shapeCast S1x256 v1235 shapeCasts_S1x256_S1x256
  have v1245 : FVec F S8x256 .f32 := broadcastTo S8x256 v1244 broadcasts_S1x256_S8x256
  let v1246 : Vec F S1x8x256 .f32 ← Prog.lift (.load arg14 (Rect.unit (s := S2x8x512) oa S1x8x256.size hoa).toLoadRect (View.loadsAt_vmem h_S1x8x256))
  have v1247 : FVec F S8x256 .f32 := shapeCast S8x256 v1246 shapeCasts_S1x8x256_S8x256
  have v1248 : FVec F S1x8x256 .f32 := shapeCast S1x8x256 v1245 shapeCasts_S8x256_S1x8x256
  Prog.lift (.store arg14 (Rect.unit (s := S2x8x512) oa S1x8x256.size hoa) v1248 Finset.univ (View.stores_vmem_bits_univ h_S1x8x256 rfl) (.inl rfl))
  have cst_594 : F .f32 := Scalar.ofBits .f32 0x3F800000#32
  have v1249 : FVec F S1x256 .f32 := broadcast S1x256 cst_594
  have v1250 : FVec F S1x256 .f32 := divf v1249 v1243
  have v1251 : FVec F S1x256 .f32 := shapeCast S1x256 v1250 shapeCasts_S1x256_S1x256
  have v1252 : FVec F S8x256 .f32 := broadcastTo S8x256 v1251 broadcasts_S1x256_S8x256
  let v1253 : Vec F S1x8x256 .f32 ← Prog.lift (.load arg14 (Rect.unit (s := S2x8x512) ol S1x8x256.size hol).toLoadRect (View.loadsAt_vmem h_S1x8x256))
  have v1254 : FVec F S8x256 .f32 := shapeCast S8x256 v1253 shapeCasts_S1x8x256_S8x256
  have v1255 : FVec F S1x8x256 .f32 := shapeCast S1x8x256 v1252 shapeCasts_S8x256_S1x8x256
  Prog.lift (.store arg14 (Rect.unit (s := S2x8x512) ol S1x8x256.size hol) v1255 Finset.univ (View.stores_vmem_bits_univ h_S1x8x256 rfl) (.inl rfl))
  pure PUnit.unit

/-- A key block of the scores of one query tile and of the values of the one before; the next block's first query fold staged. -/
noncomputable def blkSV (A : Nat) (hA : Mxu.Fits A 256) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (v : Fin 3 → Nat) (hv : ∀ a, v a + S1x512x256.size a ≤ S1x512x8192.size a) (m0 l0 m1 l1 : FVec F S8x256 .f32) (s : Mxu F) :
    Prog (TpuEff nD τ sig (Elt F) Λ₀ .tc) (FVec F S8x256 .f32 × FVec F S8x256 .f32 × FVec F S8x256 .f32 × FVec F S8x256 .f32 × Mxu F) := do
  let s ← accK arg2 A hA kt0 hkt0 s
  let s ← pushQ arg1 ![0, 256, 0] inb_S1x512x512_S1x256x256_0_256_0 ![0, 256, 256] inb_S1x512x512_S1x256x256_0_256_256 s
  let s ← accK arg2 A hA kt1 hkt1 s
  let s ← valP arg12 arg13 arg14 0 b0 hb0 ![0, 0, 0] inb_S2x8x512_S1x8x256_0_0_0 ![1, 0, 0] inb_S2x8x512_S1x8x256_1_0_0 e0 he0 s
  let s ← valP arg12 arg13 arg14 1 b1 hb1 ![0, 0, 256] inb_S2x8x512_S1x8x256_0_0_256 ![1, 0, 256] inb_S2x8x512_S1x8x256_1_0_256 e1 he1 s
  let s ← accV arg3 v hv s
  let s ← pushQ arg1 ![0, 0, 0] inb_S1x512x512_S1x256x256_0_0_0 ![0, 0, 256] inb_S1x512x512_S1x256x256_0_0_256 s
  let (m0, l0, s) ← scF arg12 arg13 0 A hA b0 hb0 e0 he0 m0 l0 s
  let (m1, l1, s) ← scF arg12 arg13 1 A hA b1 hb1 e1 he1 m1 l1 s
  pure (m0, l0, m1, l1, s)

/-- The last such key block: nothing staged after it. -/
noncomputable def blkSVL (A : Nat) (hA : Mxu.Fits A 256) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (v : Fin 3 → Nat) (hv : ∀ a, v a + S1x512x256.size a ≤ S1x512x8192.size a) (m0 l0 m1 l1 : FVec F S8x256 .f32) (s : Mxu F) :
    Prog (TpuEff nD τ sig (Elt F) Λ₀ .tc) (FVec F S8x256 .f32 × FVec F S8x256 .f32 × FVec F S8x256 .f32 × FVec F S8x256 .f32 × Mxu F) := do
  let s ← accK arg2 A hA kt0 hkt0 s
  let s ← pushQ arg1 ![0, 256, 0] inb_S1x512x512_S1x256x256_0_256_0 ![0, 256, 256] inb_S1x512x512_S1x256x256_0_256_256 s
  let s ← accK arg2 A hA kt1 hkt1 s
  let s ← valP arg12 arg13 arg14 0 b0 hb0 ![0, 0, 0] inb_S2x8x512_S1x8x256_0_0_0 ![1, 0, 0] inb_S2x8x512_S1x8x256_1_0_0 e0 he0 s
  let s ← valP arg12 arg13 arg14 1 b1 hb1 ![0, 0, 256] inb_S2x8x512_S1x8x256_0_0_256 ![1, 0, 256] inb_S2x8x512_S1x8x256_1_0_256 e1 he1 s
  let s ← accV arg3 v hv s
  let (m0, l0, s) ← scF arg12 arg13 0 A hA b0 hb0 e0 he0 m0 l0 s
  let (m1, l1, s) ← scF arg12 arg13 1 A hA b1 hb1 e1 he1 m1 l1 s
  pure (m0, l0, m1, l1, s)

/-- A key block of the scores alone. -/
noncomputable def blkS (A : Nat) (hA : Mxu.Fits A 256) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (m0 l0 m1 l1 : FVec F S8x256 .f32) (s : Mxu F) :
    Prog (TpuEff nD τ sig (Elt F) Λ₀ .tc) (FVec F S8x256 .f32 × FVec F S8x256 .f32 × FVec F S8x256 .f32 × FVec F S8x256 .f32 × Mxu F) := do
  let s ← accK arg2 A hA kt0 hkt0 s
  let s ← pushQ arg1 ![0, 256, 0] inb_S1x512x512_S1x256x256_0_256_0 ![0, 256, 256] inb_S1x512x512_S1x256x256_0_256_256 s
  let s ← accK arg2 A hA kt1 hkt1 s
  let s ← pushQ arg1 ![0, 0, 0] inb_S1x512x512_S1x256x256_0_0_0 ![0, 0, 256] inb_S1x512x512_S1x256x256_0_0_256 s
  let (m0, l0, s) ← scF arg12 arg13 0 A hA b0 hb0 e0 he0 m0 l0 s
  let (m1, l1, s) ← scF arg12 arg13 1 A hA b1 hb1 e1 he1 m1 l1 s
  pure (m0, l0, m1, l1, s)

/-- The last key block of the scores alone. -/
noncomputable def blkSL (A : Nat) (hA : Mxu.Fits A 256) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (m0 l0 m1 l1 : FVec F S8x256 .f32) (s : Mxu F) :
    Prog (TpuEff nD τ sig (Elt F) Λ₀ .tc) (FVec F S8x256 .f32 × FVec F S8x256 .f32 × FVec F S8x256 .f32 × FVec F S8x256 .f32 × Mxu F) := do
  let s ← accK arg2 A hA kt0 hkt0 s
  let s ← pushQ arg1 ![0, 256, 0] inb_S1x512x512_S1x256x256_0_256_0 ![0, 256, 256] inb_S1x512x512_S1x256x256_0_256_256 s
  let s ← accK arg2 A hA kt1 hkt1 s
  let (m0, l0, s) ← scF arg12 arg13 0 A hA b0 hb0 e0 he0 m0 l0 s
  let (m1, l1, s) ← scF arg12 arg13 1 A hA b1 hb1 e1 he1 m1 l1 s
  pure (m0, l0, m1, l1, s)

/-- A key block of the values alone. -/
noncomputable def blkV (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (v : Fin 3 → Nat) (hv : ∀ a, v a + S1x512x256.size a ≤ S1x512x8192.size a) (s : Mxu F) :
    Prog (TpuEff nD τ sig (Elt F) Λ₀ .tc) (Mxu F) := do
  let s ← valP arg12 arg13 arg14 0 b0 hb0 ![0, 0, 0] inb_S2x8x512_S1x8x256_0_0_0 ![1, 0, 0] inb_S2x8x512_S1x8x256_1_0_0 e0 he0 s
  let s ← valP arg12 arg13 arg14 1 b1 hb1 ![0, 0, 256] inb_S2x8x512_S1x8x256_0_0_256 ![1, 0, 256] inb_S2x8x512_S1x8x256_1_0_256 e1 he1 s
  accV arg3 v hv s

/-- The first half of the output projection. -/
noncomputable def proj0 (s : Mxu F) :
    Prog (TpuEff nD τ sig (Elt F) Λ₀ .tc) (Mxu F) := do
  let s ← projAcc arg5 arg10 192 fits_192_256 ![0, 0] inb_S512x512_S256x256_0_0 ![0, 256] inb_S512x512_S256x256_0_256 s
  let s ← projF arg4 arg6 arg7 arg8 harg8 arg9 harg9 arg11 0 192 fits_192_256 ![0, 0, 0] inb_S1x1x512_S1x1x256_0_0_0 ![0, 0] inb_S512x1_S256x1_0_0 ![0, 0, 0] inb_S1x512x512_S1x256x256_0_0_0 packedbf16_S1x512x512_S1x256x256_0_0_0 s
  projF arg4 arg6 arg7 arg8 harg8 arg9 harg9 arg11 1 192 fits_192_256 ![0, 0, 256] inb_S1x1x512_S1x1x256_0_0_256 ![0, 0] inb_S512x1_S256x1_0_0 ![0, 0, 256] inb_S1x512x512_S1x256x256_0_0_256 packedbf16_S1x512x512_S1x256x256_0_0_256 s

/-- The second half of the output projection. -/
noncomputable def proj1 (s : Mxu F) :
    Prog (TpuEff nD τ sig (Elt F) Λ₀ .tc) (Mxu F) := do
  let s ← projAcc arg5 arg10 128 fits_128_256 ![256, 0] inb_S512x512_S256x256_256_0 ![256, 256] inb_S512x512_S256x256_256_256 s
  let s ← projF arg4 arg6 arg7 arg8 harg8 arg9 harg9 arg11 0 128 fits_128_256 ![0, 0, 0] inb_S1x1x512_S1x1x256_0_0_0 ![256, 0] inb_S512x1_S256x1_256_0 ![0, 256, 0] inb_S1x512x512_S1x256x256_0_256_0 packedbf16_S1x512x512_S1x256x256_0_256_0 s
  projF arg4 arg6 arg7 arg8 harg8 arg9 harg9 arg11 1 128 fits_128_256 ![0, 0, 256] inb_S1x1x512_S1x1x256_0_0_256 ![256, 0] inb_S512x1_S256x1_256_0 ![0, 256, 256] inb_S1x512x512_S1x256x256_0_256_256 packedbf16_S1x512x512_S1x256x256_0_256_256 s

/-- One trip of the counted loop of branch 1: four key blocks. -/
noncomputable def trip1 (i : grid0.Coords) (k0_h1 : k0_cond1 i = 1#1) (k0_t1 : Fin k0_t1_loop.trips) (x : FVec F S8x256 .f32 × FVec F S8x256 .f32 × FVec F S8x256 .f32 × FVec F S8x256 .f32 × Mxu F) :
    Prog (TpuEff nD τ sig (Elt F) Λ₀ .tc) (FVec F S8x256 .f32 × FVec F S8x256 .f32 × FVec F S8x256 .f32 × FVec F S8x256 .f32 × Mxu F) := do
  let (m0, l0, m1, l1, s) := x
  let (m0, l0, m1, l1, s) ← blkS arg1 arg2 arg12 arg13 128 fits_128_256 (k0_off1 k0_t1 0#32) (k0_off1_inb i k0_t1 k0_h1 0) (k0_off2 k0_t1 0#32) (k0_off2_inb i k0_t1 k0_h1 0) (k0_off4 k0_t1 0#32) (k0_off4_inb i k0_t1 k0_h1 0) (k0_off3 k0_t1 0#32) (k0_off3_inb i k0_t1 k0_h1 0) (k0_off6 k0_t1 0#32) (k0_off6_inb i k0_t1 k0_h1 0) (k0_off5 k0_t1 0#32) (k0_off5_inb i k0_t1 k0_h1 0) m0 l0 m1 l1 s
  let (m0, l0, m1, l1, s) ← blkS arg1 arg2 arg12 arg13 192 fits_192_256 (k0_off1 k0_t1 1#32) (k0_off1_inb i k0_t1 k0_h1 1) (k0_off2 k0_t1 1#32) (k0_off2_inb i k0_t1 k0_h1 1) (k0_off4 k0_t1 1#32) (k0_off4_inb i k0_t1 k0_h1 1) (k0_off3 k0_t1 1#32) (k0_off3_inb i k0_t1 k0_h1 1) (k0_off6 k0_t1 1#32) (k0_off6_inb i k0_t1 k0_h1 1) (k0_off5 k0_t1 1#32) (k0_off5_inb i k0_t1 k0_h1 1) m0 l0 m1 l1 s
  let (m0, l0, m1, l1, s) ← blkS arg1 arg2 arg12 arg13 128 fits_128_256 (k0_off1 k0_t1 2#32) (k0_off1_inb i k0_t1 k0_h1 2) (k0_off2 k0_t1 2#32) (k0_off2_inb i k0_t1 k0_h1 2) (k0_off4 k0_t1 2#32) (k0_off4_inb i k0_t1 k0_h1 2) (k0_off3 k0_t1 2#32) (k0_off3_inb i k0_t1 k0_h1 2) (k0_off6 k0_t1 2#32) (k0_off6_inb i k0_t1 k0_h1 2) (k0_off5 k0_t1 2#32) (k0_off5_inb i k0_t1 k0_h1 2) m0 l0 m1 l1 s
  blkS arg1 arg2 arg12 arg13 192 fits_192_256 (k0_off1 k0_t1 3#32) (k0_off1_inb i k0_t1 k0_h1 3) (k0_off2 k0_t1 3#32) (k0_off2_inb i k0_t1 k0_h1 3) (k0_off4 k0_t1 3#32) (k0_off4_inb i k0_t1 k0_h1 3) (k0_off3 k0_t1 3#32) (k0_off3_inb i k0_t1 k0_h1 3) (k0_off6 k0_t1 3#32) (k0_off6_inb i k0_t1 k0_h1 3) (k0_off5 k0_t1 3#32) (k0_off5_inb i k0_t1 k0_h1 3) m0 l0 m1 l1 s

/-- One trip of the counted loop of branch 2: four key blocks. -/
noncomputable def trip2 (i : grid0.Coords) (k0_h2 : k0_cond2 i = 1#1) (k0_t2 : Fin k0_t2_loop.trips) (x : FVec F S8x256 .f32 × FVec F S8x256 .f32 × FVec F S8x256 .f32 × FVec F S8x256 .f32 × Mxu F) :
    Prog (TpuEff nD τ sig (Elt F) Λ₀ .tc) (FVec F S8x256 .f32 × FVec F S8x256 .f32 × FVec F S8x256 .f32 × FVec F S8x256 .f32 × Mxu F) := do
  let (m0, l0, m1, l1, s) := x
  let (m0, l0, m1, l1, s) ← blkSV arg1 arg2 arg3 arg12 arg13 arg14 128 fits_128_256 (k0_off7 k0_t2 0#32) (k0_off7_inb i k0_t2 k0_h2 0) (k0_off8 k0_t2 0#32) (k0_off8_inb i k0_t2 k0_h2 0) (k0_off9 k0_t2 0#32) (k0_off9_inb i k0_t2 k0_h2 0) (k0_off10 k0_t2 0#32) (k0_off10_inb i k0_t2 k0_h2 0) (k0_off11 k0_t2 0#32) (k0_off11_inb i k0_t2 k0_h2 0) (k0_off12 k0_t2 0#32) (k0_off12_inb i k0_t2 k0_h2 0) (k0_off13 k0_t2 0#32) (k0_off13_inb i k0_t2 k0_h2 0) m0 l0 m1 l1 s
  let (m0, l0, m1, l1, s) ← blkSV arg1 arg2 arg3 arg12 arg13 arg14 192 fits_192_256 (k0_off7 k0_t2 1#32) (k0_off7_inb i k0_t2 k0_h2 1) (k0_off8 k0_t2 1#32) (k0_off8_inb i k0_t2 k0_h2 1) (k0_off9 k0_t2 1#32) (k0_off9_inb i k0_t2 k0_h2 1) (k0_off10 k0_t2 1#32) (k0_off10_inb i k0_t2 k0_h2 1) (k0_off11 k0_t2 1#32) (k0_off11_inb i k0_t2 k0_h2 1) (k0_off12 k0_t2 1#32) (k0_off12_inb i k0_t2 k0_h2 1) (k0_off13 k0_t2 1#32) (k0_off13_inb i k0_t2 k0_h2 1) m0 l0 m1 l1 s
  let (m0, l0, m1, l1, s) ← blkSV arg1 arg2 arg3 arg12 arg13 arg14 128 fits_128_256 (k0_off7 k0_t2 2#32) (k0_off7_inb i k0_t2 k0_h2 2) (k0_off8 k0_t2 2#32) (k0_off8_inb i k0_t2 k0_h2 2) (k0_off9 k0_t2 2#32) (k0_off9_inb i k0_t2 k0_h2 2) (k0_off10 k0_t2 2#32) (k0_off10_inb i k0_t2 k0_h2 2) (k0_off11 k0_t2 2#32) (k0_off11_inb i k0_t2 k0_h2 2) (k0_off12 k0_t2 2#32) (k0_off12_inb i k0_t2 k0_h2 2) (k0_off13 k0_t2 2#32) (k0_off13_inb i k0_t2 k0_h2 2) m0 l0 m1 l1 s
  blkSV arg1 arg2 arg3 arg12 arg13 arg14 192 fits_192_256 (k0_off7 k0_t2 3#32) (k0_off7_inb i k0_t2 k0_h2 3) (k0_off8 k0_t2 3#32) (k0_off8_inb i k0_t2 k0_h2 3) (k0_off9 k0_t2 3#32) (k0_off9_inb i k0_t2 k0_h2 3) (k0_off10 k0_t2 3#32) (k0_off10_inb i k0_t2 k0_h2 3) (k0_off11 k0_t2 3#32) (k0_off11_inb i k0_t2 k0_h2 3) (k0_off12 k0_t2 3#32) (k0_off12_inb i k0_t2 k0_h2 3) (k0_off13 k0_t2 3#32) (k0_off13_inb i k0_t2 k0_h2 3) m0 l0 m1 l1 s

/-- One trip of the counted loop of branch 3: four key blocks. -/
noncomputable def trip3 (i : grid0.Coords) (k0_h3 : k0_cond3 i = 1#1) (k0_t3 : Fin k0_t3_loop.trips) (x : FVec F S8x256 .f32 × FVec F S8x256 .f32 × FVec F S8x256 .f32 × FVec F S8x256 .f32 × Mxu F) :
    Prog (TpuEff nD τ sig (Elt F) Λ₀ .tc) (FVec F S8x256 .f32 × FVec F S8x256 .f32 × FVec F S8x256 .f32 × FVec F S8x256 .f32 × Mxu F) := do
  let (m0, l0, m1, l1, s) := x
  let (m0, l0, m1, l1, s) ← blkSV arg1 arg2 arg3 arg12 arg13 arg14 128 fits_128_256 (k0_off14 k0_t3 0#32) (k0_off14_inb i k0_t3 k0_h3 0) (k0_off15 k0_t3 0#32) (k0_off15_inb i k0_t3 k0_h3 0) (k0_off16 k0_t3 0#32) (k0_off16_inb i k0_t3 k0_h3 0) (k0_off17 k0_t3 0#32) (k0_off17_inb i k0_t3 k0_h3 0) (k0_off18 k0_t3 0#32) (k0_off18_inb i k0_t3 k0_h3 0) (k0_off19 k0_t3 0#32) (k0_off19_inb i k0_t3 k0_h3 0) (k0_off20 k0_t3 0#32) (k0_off20_inb i k0_t3 k0_h3 0) m0 l0 m1 l1 s
  let (m0, l0, m1, l1, s) ← blkSV arg1 arg2 arg3 arg12 arg13 arg14 192 fits_192_256 (k0_off14 k0_t3 1#32) (k0_off14_inb i k0_t3 k0_h3 1) (k0_off15 k0_t3 1#32) (k0_off15_inb i k0_t3 k0_h3 1) (k0_off16 k0_t3 1#32) (k0_off16_inb i k0_t3 k0_h3 1) (k0_off17 k0_t3 1#32) (k0_off17_inb i k0_t3 k0_h3 1) (k0_off18 k0_t3 1#32) (k0_off18_inb i k0_t3 k0_h3 1) (k0_off19 k0_t3 1#32) (k0_off19_inb i k0_t3 k0_h3 1) (k0_off20 k0_t3 1#32) (k0_off20_inb i k0_t3 k0_h3 1) m0 l0 m1 l1 s
  let (m0, l0, m1, l1, s) ← blkSV arg1 arg2 arg3 arg12 arg13 arg14 128 fits_128_256 (k0_off14 k0_t3 2#32) (k0_off14_inb i k0_t3 k0_h3 2) (k0_off15 k0_t3 2#32) (k0_off15_inb i k0_t3 k0_h3 2) (k0_off16 k0_t3 2#32) (k0_off16_inb i k0_t3 k0_h3 2) (k0_off17 k0_t3 2#32) (k0_off17_inb i k0_t3 k0_h3 2) (k0_off18 k0_t3 2#32) (k0_off18_inb i k0_t3 k0_h3 2) (k0_off19 k0_t3 2#32) (k0_off19_inb i k0_t3 k0_h3 2) (k0_off20 k0_t3 2#32) (k0_off20_inb i k0_t3 k0_h3 2) m0 l0 m1 l1 s
  blkSV arg1 arg2 arg3 arg12 arg13 arg14 192 fits_192_256 (k0_off14 k0_t3 3#32) (k0_off14_inb i k0_t3 k0_h3 3) (k0_off15 k0_t3 3#32) (k0_off15_inb i k0_t3 k0_h3 3) (k0_off16 k0_t3 3#32) (k0_off16_inb i k0_t3 k0_h3 3) (k0_off17 k0_t3 3#32) (k0_off17_inb i k0_t3 k0_h3 3) (k0_off18 k0_t3 3#32) (k0_off18_inb i k0_t3 k0_h3 3) (k0_off19 k0_t3 3#32) (k0_off19_inb i k0_t3 k0_h3 3) (k0_off20 k0_t3 3#32) (k0_off20_inb i k0_t3 k0_h3 3) m0 l0 m1 l1 s

/-- One trip of the counted loop of branch 4: four key blocks. -/
noncomputable def trip4 (i : grid0.Coords) (k0_h4 : k0_cond4 i = 1#1) (k0_t4 : Fin k0_t4_loop.trips) (s : Mxu F) :
    Prog (TpuEff nD τ sig (Elt F) Λ₀ .tc) (Mxu F) := do
  let s ← blkV arg3 arg12 arg13 arg14 (k0_off21 k0_t4 0#32) (k0_off21_inb i k0_t4 k0_h4 0) (k0_off22 k0_t4 0#32) (k0_off22_inb i k0_t4 k0_h4 0) (k0_off23 k0_t4 0#32) (k0_off23_inb i k0_t4 k0_h4 0) (k0_off24 k0_t4 0#32) (k0_off24_inb i k0_t4 k0_h4 0) (k0_off25 k0_t4 0#32) (k0_off25_inb i k0_t4 k0_h4 0) s
  let s ← blkV arg3 arg12 arg13 arg14 (k0_off21 k0_t4 1#32) (k0_off21_inb i k0_t4 k0_h4 1) (k0_off22 k0_t4 1#32) (k0_off22_inb i k0_t4 k0_h4 1) (k0_off23 k0_t4 1#32) (k0_off23_inb i k0_t4 k0_h4 1) (k0_off24 k0_t4 1#32) (k0_off24_inb i k0_t4 k0_h4 1) (k0_off25 k0_t4 1#32) (k0_off25_inb i k0_t4 k0_h4 1) s
  let s ← blkV arg3 arg12 arg13 arg14 (k0_off21 k0_t4 2#32) (k0_off21_inb i k0_t4 k0_h4 2) (k0_off22 k0_t4 2#32) (k0_off22_inb i k0_t4 k0_h4 2) (k0_off23 k0_t4 2#32) (k0_off23_inb i k0_t4 k0_h4 2) (k0_off24 k0_t4 2#32) (k0_off24_inb i k0_t4 k0_h4 2) (k0_off25 k0_t4 2#32) (k0_off25_inb i k0_t4 k0_h4 2) s
  blkV arg3 arg12 arg13 arg14 (k0_off21 k0_t4 3#32) (k0_off21_inb i k0_t4 k0_h4 3) (k0_off22 k0_t4 3#32) (k0_off22_inb i k0_t4 k0_h4 3) (k0_off23 k0_t4 3#32) (k0_off23_inb i k0_t4 k0_h4 3) (k0_off24 k0_t4 3#32) (k0_off24_inb i k0_t4 k0_h4 3) (k0_off25 k0_t4 3#32) (k0_off25_inb i k0_t4 k0_h4 3) s

/-- The body of branch 1. -/
noncomputable def br1 (i : grid0.Coords) (k0_h1 : k0_cond1 i = 1#1) (s : Mxu F) :
    Prog (TpuEff nD τ sig (Elt F) Λ₀ .tc) (Mxu F) := do
  have m0 : FVec F S8x256 .f32 := broadcast S8x256 (Scalar.ofBits .f32 0xFF800000#32)
  have l0 : FVec F S8x256 .f32 := broadcast S8x256 (Scalar.ofBits .f32 0x00000000#32)
  have m1 : FVec F S8x256 .f32 := broadcast S8x256 (Scalar.ofBits .f32 0xFF800000#32)
  have l1 : FVec F S8x256 .f32 := broadcast S8x256 (Scalar.ofBits .f32 0x00000000#32)
  let s ← pushQ arg1 ![0, 0, 0] inb_S1x512x512_S1x256x256_0_0_0 ![0, 0, 256] inb_S1x512x512_S1x256x256_0_0_256 s
  let (m0, l0, m1, l1, s) ← blkS arg1 arg2 arg12 arg13 128 fits_128_256 ![0, 0, 0] inb_S1x8192x512_S1x256x256_0_0_0 ![0, 0, 256] inb_S1x8192x512_S1x256x256_0_0_256 ![0, 0] inb_S256x512_S8x256_0_0 ![0, 0] inb_S8192x512_S256x256_0_0 ![0, 256] inb_S256x512_S8x256_0_256 ![0, 256] inb_S8192x512_S256x256_0_256 m0 l0 m1 l1 s
  let (m0, l0, m1, l1, s) ← blkS arg1 arg2 arg12 arg13 192 fits_192_256 ![0, 256, 0] inb_S1x8192x512_S1x256x256_0_256_0 ![0, 256, 256] inb_S1x8192x512_S1x256x256_0_256_256 ![8, 0] inb_S256x512_S8x256_8_0 ![256, 0] inb_S8192x512_S256x256_256_0 ![8, 256] inb_S256x512_S8x256_8_256 ![256, 256] inb_S8192x512_S256x256_256_256 m0 l0 m1 l1 s
  let (m0, l0, m1, l1, s) ← blkS arg1 arg2 arg12 arg13 128 fits_128_256 ![0, 512, 0] inb_S1x8192x512_S1x256x256_0_512_0 ![0, 512, 256] inb_S1x8192x512_S1x256x256_0_512_256 ![16, 0] inb_S256x512_S8x256_16_0 ![512, 0] inb_S8192x512_S256x256_512_0 ![16, 256] inb_S256x512_S8x256_16_256 ![512, 256] inb_S8192x512_S256x256_512_256 m0 l0 m1 l1 s
  let (m0, l0, m1, l1, s) ← blkS arg1 arg2 arg12 arg13 192 fits_192_256 ![0, 768, 0] inb_S1x8192x512_S1x256x256_0_768_0 ![0, 768, 256] inb_S1x8192x512_S1x256x256_0_768_256 ![24, 0] inb_S256x512_S8x256_24_0 ![768, 0] inb_S8192x512_S256x256_768_0 ![24, 256] inb_S256x512_S8x256_24_256 ![768, 256] inb_S8192x512_S256x256_768_256 m0 l0 m1 l1 s
  let (m0, l0, m1, l1, s) ← Scf.Loop.for k0_t1_loop (k0_t1_ok i k0_h1) (m0, l0, m1, l1, s) (trip1 arg1 arg2 arg12 arg13 i k0_h1)
  let (m0, l0, m1, l1, s) ← blkS arg1 arg2 arg12 arg13 128 fits_128_256 ![0, 7168, 0] inb_S1x8192x512_S1x256x256_0_7168_0 ![0, 7168, 256] inb_S1x8192x512_S1x256x256_0_7168_256 ![224, 0] inb_S256x512_S8x256_224_0 ![7168, 0] inb_S8192x512_S256x256_7168_0 ![224, 256] inb_S256x512_S8x256_224_256 ![7168, 256] inb_S8192x512_S256x256_7168_256 m0 l0 m1 l1 s
  let (m0, l0, m1, l1, s) ← blkS arg1 arg2 arg12 arg13 192 fits_192_256 ![0, 7424, 0] inb_S1x8192x512_S1x256x256_0_7424_0 ![0, 7424, 256] inb_S1x8192x512_S1x256x256_0_7424_256 ![232, 0] inb_S256x512_S8x256_232_0 ![7424, 0] inb_S8192x512_S256x256_7424_0 ![232, 256] inb_S256x512_S8x256_232_256 ![7424, 256] inb_S8192x512_S256x256_7424_256 m0 l0 m1 l1 s
  let (m0, l0, m1, l1, s) ← blkS arg1 arg2 arg12 arg13 128 fits_128_256 ![0, 7680, 0] inb_S1x8192x512_S1x256x256_0_7680_0 ![0, 7680, 256] inb_S1x8192x512_S1x256x256_0_7680_256 ![240, 0] inb_S256x512_S8x256_240_0 ![7680, 0] inb_S8192x512_S256x256_7680_0 ![240, 256] inb_S256x512_S8x256_240_256 ![7680, 256] inb_S8192x512_S256x256_7680_256 m0 l0 m1 l1 s
  let (m0, l0, m1, l1, s) ← blkSL arg1 arg2 arg12 arg13 192 fits_192_256 ![0, 7936, 0] inb_S1x8192x512_S1x256x256_0_7936_0 ![0, 7936, 256] inb_S1x8192x512_S1x256x256_0_7936_256 ![248, 0] inb_S256x512_S8x256_248_0 ![7936, 0] inb_S8192x512_S256x256_7936_0 ![248, 256] inb_S256x512_S8x256_248_256 ![7936, 256] inb_S8192x512_S256x256_7936_256 m0 l0 m1 l1 s
  stat arg14 ![0, 0, 0] inb_S2x8x512_S1x8x256_0_0_0 ![1, 0, 0] inb_S2x8x512_S1x8x256_1_0_0 m0 l0
  stat arg14 ![0, 0, 256] inb_S2x8x512_S1x8x256_0_0_256 ![1, 0, 256] inb_S2x8x512_S1x8x256_1_0_256 m1 l1
  pure s

/-- The body of branch 2. -/
noncomputable def br2 (i : grid0.Coords) (k0_h2 : k0_cond2 i = 1#1) (s : Mxu F) :
    Prog (TpuEff nD τ sig (Elt F) Λ₀ .tc) (Mxu F) := do
  have m0 : FVec F S8x256 .f32 := broadcast S8x256 (Scalar.ofBits .f32 0xFF800000#32)
  have l0 : FVec F S8x256 .f32 := broadcast S8x256 (Scalar.ofBits .f32 0x00000000#32)
  have m1 : FVec F S8x256 .f32 := broadcast S8x256 (Scalar.ofBits .f32 0xFF800000#32)
  have l1 : FVec F S8x256 .f32 := broadcast S8x256 (Scalar.ofBits .f32 0x00000000#32)
  let s ← pushQ arg1 ![0, 0, 0] inb_S1x512x512_S1x256x256_0_0_0 ![0, 0, 256] inb_S1x512x512_S1x256x256_0_0_256 s
  let (m0, l0, m1, l1, s) ← blkSV arg1 arg2 arg3 arg12 arg13 arg14 128 fits_128_256 ![0, 0, 0] inb_S1x8192x512_S1x256x256_0_0_0 ![0, 0, 256] inb_S1x8192x512_S1x256x256_0_0_256 ![0, 0] inb_S256x512_S8x256_0_0 ![0, 0] inb_S8192x512_S256x256_0_0 ![0, 256] inb_S256x512_S8x256_0_256 ![0, 256] inb_S8192x512_S256x256_0_256 ![0, 0, 0] inb_S1x512x8192_S1x512x256_0_0_0 m0 l0 m1 l1 s
  let (m0, l0, m1, l1, s) ← blkSV arg1 arg2 arg3 arg12 arg13 arg14 192 fits_192_256 ![0, 256, 0] inb_S1x8192x512_S1x256x256_0_256_0 ![0, 256, 256] inb_S1x8192x512_S1x256x256_0_256_256 ![8, 0] inb_S256x512_S8x256_8_0 ![256, 0] inb_S8192x512_S256x256_256_0 ![8, 256] inb_S256x512_S8x256_8_256 ![256, 256] inb_S8192x512_S256x256_256_256 ![0, 0, 256] inb_S1x512x8192_S1x512x256_0_0_256 m0 l0 m1 l1 s
  let (m0, l0, m1, l1, s) ← blkSV arg1 arg2 arg3 arg12 arg13 arg14 128 fits_128_256 ![0, 512, 0] inb_S1x8192x512_S1x256x256_0_512_0 ![0, 512, 256] inb_S1x8192x512_S1x256x256_0_512_256 ![16, 0] inb_S256x512_S8x256_16_0 ![512, 0] inb_S8192x512_S256x256_512_0 ![16, 256] inb_S256x512_S8x256_16_256 ![512, 256] inb_S8192x512_S256x256_512_256 ![0, 0, 512] inb_S1x512x8192_S1x512x256_0_0_512 m0 l0 m1 l1 s
  let (m0, l0, m1, l1, s) ← blkSV arg1 arg2 arg3 arg12 arg13 arg14 192 fits_192_256 ![0, 768, 0] inb_S1x8192x512_S1x256x256_0_768_0 ![0, 768, 256] inb_S1x8192x512_S1x256x256_0_768_256 ![24, 0] inb_S256x512_S8x256_24_0 ![768, 0] inb_S8192x512_S256x256_768_0 ![24, 256] inb_S256x512_S8x256_24_256 ![768, 256] inb_S8192x512_S256x256_768_256 ![0, 0, 768] inb_S1x512x8192_S1x512x256_0_0_768 m0 l0 m1 l1 s
  let (m0, l0, m1, l1, s) ← Scf.Loop.for k0_t2_loop (k0_t2_ok i k0_h2) (m0, l0, m1, l1, s) (trip2 arg1 arg2 arg3 arg12 arg13 arg14 i k0_h2)
  let (m0, l0, m1, l1, s) ← blkSV arg1 arg2 arg3 arg12 arg13 arg14 128 fits_128_256 ![0, 7168, 0] inb_S1x8192x512_S1x256x256_0_7168_0 ![0, 7168, 256] inb_S1x8192x512_S1x256x256_0_7168_256 ![224, 0] inb_S256x512_S8x256_224_0 ![7168, 0] inb_S8192x512_S256x256_7168_0 ![224, 256] inb_S256x512_S8x256_224_256 ![7168, 256] inb_S8192x512_S256x256_7168_256 ![0, 0, 7168] inb_S1x512x8192_S1x512x256_0_0_7168 m0 l0 m1 l1 s
  let (m0, l0, m1, l1, s) ← blkSV arg1 arg2 arg3 arg12 arg13 arg14 192 fits_192_256 ![0, 7424, 0] inb_S1x8192x512_S1x256x256_0_7424_0 ![0, 7424, 256] inb_S1x8192x512_S1x256x256_0_7424_256 ![232, 0] inb_S256x512_S8x256_232_0 ![7424, 0] inb_S8192x512_S256x256_7424_0 ![232, 256] inb_S256x512_S8x256_232_256 ![7424, 256] inb_S8192x512_S256x256_7424_256 ![0, 0, 7424] inb_S1x512x8192_S1x512x256_0_0_7424 m0 l0 m1 l1 s
  let (m0, l0, m1, l1, s) ← blkSV arg1 arg2 arg3 arg12 arg13 arg14 128 fits_128_256 ![0, 7680, 0] inb_S1x8192x512_S1x256x256_0_7680_0 ![0, 7680, 256] inb_S1x8192x512_S1x256x256_0_7680_256 ![240, 0] inb_S256x512_S8x256_240_0 ![7680, 0] inb_S8192x512_S256x256_7680_0 ![240, 256] inb_S256x512_S8x256_240_256 ![7680, 256] inb_S8192x512_S256x256_7680_256 ![0, 0, 7680] inb_S1x512x8192_S1x512x256_0_0_7680 m0 l0 m1 l1 s
  let (m0, l0, m1, l1, s) ← blkSVL arg1 arg2 arg3 arg12 arg13 arg14 192 fits_192_256 ![0, 7936, 0] inb_S1x8192x512_S1x256x256_0_7936_0 ![0, 7936, 256] inb_S1x8192x512_S1x256x256_0_7936_256 ![248, 0] inb_S256x512_S8x256_248_0 ![7936, 0] inb_S8192x512_S256x256_7936_0 ![248, 256] inb_S256x512_S8x256_248_256 ![7936, 256] inb_S8192x512_S256x256_7936_256 ![0, 0, 7936] inb_S1x512x8192_S1x512x256_0_0_7936 m0 l0 m1 l1 s
  let s ← popO arg15 0 ![0, 0] inb_S512x512_S512x256_0_0 s
  let s ← popO arg15 1 ![0, 256] inb_S512x512_S512x256_0_256 s
  stat arg14 ![0, 0, 0] inb_S2x8x512_S1x8x256_0_0_0 ![1, 0, 0] inb_S2x8x512_S1x8x256_1_0_0 m0 l0
  stat arg14 ![0, 0, 256] inb_S2x8x512_S1x8x256_0_0_256 ![1, 0, 256] inb_S2x8x512_S1x8x256_1_0_256 m1 l1
  pure s

/-- The body of branch 3. -/
noncomputable def br3 (i : grid0.Coords) (k0_h3 : k0_cond3 i = 1#1) (s : Mxu F) :
    Prog (TpuEff nD τ sig (Elt F) Λ₀ .tc) (Mxu F) := do
  have m0 : FVec F S8x256 .f32 := broadcast S8x256 (Scalar.ofBits .f32 0xFF800000#32)
  have l0 : FVec F S8x256 .f32 := broadcast S8x256 (Scalar.ofBits .f32 0x00000000#32)
  have m1 : FVec F S8x256 .f32 := broadcast S8x256 (Scalar.ofBits .f32 0xFF800000#32)
  have l1 : FVec F S8x256 .f32 := broadcast S8x256 (Scalar.ofBits .f32 0x00000000#32)
  let s ← pushQ arg1 ![0, 0, 0] inb_S1x512x512_S1x256x256_0_0_0 ![0, 0, 256] inb_S1x512x512_S1x256x256_0_0_256 s
  quantO arg10 harg10 arg11 arg15
  let (m0, l0, m1, l1, s) ← blkSV arg1 arg2 arg3 arg12 arg13 arg14 128 fits_128_256 ![0, 0, 0] inb_S1x8192x512_S1x256x256_0_0_0 ![0, 0, 256] inb_S1x8192x512_S1x256x256_0_0_256 ![0, 0] inb_S256x512_S8x256_0_0 ![0, 0] inb_S8192x512_S256x256_0_0 ![0, 256] inb_S256x512_S8x256_0_256 ![0, 256] inb_S8192x512_S256x256_0_256 ![0, 0, 0] inb_S1x512x8192_S1x512x256_0_0_0 m0 l0 m1 l1 s
  let (m0, l0, m1, l1, s) ← blkSV arg1 arg2 arg3 arg12 arg13 arg14 192 fits_192_256 ![0, 256, 0] inb_S1x8192x512_S1x256x256_0_256_0 ![0, 256, 256] inb_S1x8192x512_S1x256x256_0_256_256 ![8, 0] inb_S256x512_S8x256_8_0 ![256, 0] inb_S8192x512_S256x256_256_0 ![8, 256] inb_S256x512_S8x256_8_256 ![256, 256] inb_S8192x512_S256x256_256_256 ![0, 0, 256] inb_S1x512x8192_S1x512x256_0_0_256 m0 l0 m1 l1 s
  let s ← proj0 arg4 arg5 arg6 arg7 arg8 harg8 arg9 harg9 arg10 arg11 s
  let (m0, l0, m1, l1, s) ← blkSV arg1 arg2 arg3 arg12 arg13 arg14 128 fits_128_256 ![0, 512, 0] inb_S1x8192x512_S1x256x256_0_512_0 ![0, 512, 256] inb_S1x8192x512_S1x256x256_0_512_256 ![16, 0] inb_S256x512_S8x256_16_0 ![512, 0] inb_S8192x512_S256x256_512_0 ![16, 256] inb_S256x512_S8x256_16_256 ![512, 256] inb_S8192x512_S256x256_512_256 ![0, 0, 512] inb_S1x512x8192_S1x512x256_0_0_512 m0 l0 m1 l1 s
  let s ← proj1 arg4 arg5 arg6 arg7 arg8 harg8 arg9 harg9 arg10 arg11 s
  let (m0, l0, m1, l1, s) ← blkSV arg1 arg2 arg3 arg12 arg13 arg14 192 fits_192_256 ![0, 768, 0] inb_S1x8192x512_S1x256x256_0_768_0 ![0, 768, 256] inb_S1x8192x512_S1x256x256_0_768_256 ![24, 0] inb_S256x512_S8x256_24_0 ![768, 0] inb_S8192x512_S256x256_768_0 ![24, 256] inb_S256x512_S8x256_24_256 ![768, 256] inb_S8192x512_S256x256_768_256 ![0, 0, 768] inb_S1x512x8192_S1x512x256_0_0_768 m0 l0 m1 l1 s
  let (m0, l0, m1, l1, s) ← Scf.Loop.for k0_t3_loop (k0_t3_ok i k0_h3) (m0, l0, m1, l1, s) (trip3 arg1 arg2 arg3 arg12 arg13 arg14 i k0_h3)
  let (m0, l0, m1, l1, s) ← blkSV arg1 arg2 arg3 arg12 arg13 arg14 128 fits_128_256 ![0, 7168, 0] inb_S1x8192x512_S1x256x256_0_7168_0 ![0, 7168, 256] inb_S1x8192x512_S1x256x256_0_7168_256 ![224, 0] inb_S256x512_S8x256_224_0 ![7168, 0] inb_S8192x512_S256x256_7168_0 ![224, 256] inb_S256x512_S8x256_224_256 ![7168, 256] inb_S8192x512_S256x256_7168_256 ![0, 0, 7168] inb_S1x512x8192_S1x512x256_0_0_7168 m0 l0 m1 l1 s
  let (m0, l0, m1, l1, s) ← blkSV arg1 arg2 arg3 arg12 arg13 arg14 192 fits_192_256 ![0, 7424, 0] inb_S1x8192x512_S1x256x256_0_7424_0 ![0, 7424, 256] inb_S1x8192x512_S1x256x256_0_7424_256 ![232, 0] inb_S256x512_S8x256_232_0 ![7424, 0] inb_S8192x512_S256x256_7424_0 ![232, 256] inb_S256x512_S8x256_232_256 ![7424, 256] inb_S8192x512_S256x256_7424_256 ![0, 0, 7424] inb_S1x512x8192_S1x512x256_0_0_7424 m0 l0 m1 l1 s
  let (m0, l0, m1, l1, s) ← blkSV arg1 arg2 arg3 arg12 arg13 arg14 128 fits_128_256 ![0, 7680, 0] inb_S1x8192x512_S1x256x256_0_7680_0 ![0, 7680, 256] inb_S1x8192x512_S1x256x256_0_7680_256 ![240, 0] inb_S256x512_S8x256_240_0 ![7680, 0] inb_S8192x512_S256x256_7680_0 ![240, 256] inb_S256x512_S8x256_240_256 ![7680, 256] inb_S8192x512_S256x256_7680_256 ![0, 0, 7680] inb_S1x512x8192_S1x512x256_0_0_7680 m0 l0 m1 l1 s
  let (m0, l0, m1, l1, s) ← blkSVL arg1 arg2 arg3 arg12 arg13 arg14 192 fits_192_256 ![0, 7936, 0] inb_S1x8192x512_S1x256x256_0_7936_0 ![0, 7936, 256] inb_S1x8192x512_S1x256x256_0_7936_256 ![248, 0] inb_S256x512_S8x256_248_0 ![7936, 0] inb_S8192x512_S256x256_7936_0 ![248, 256] inb_S256x512_S8x256_248_256 ![7936, 256] inb_S8192x512_S256x256_7936_256 ![0, 0, 7936] inb_S1x512x8192_S1x512x256_0_0_7936 m0 l0 m1 l1 s
  let s ← popO arg15 0 ![0, 0] inb_S512x512_S512x256_0_0 s
  let s ← popO arg15 1 ![0, 256] inb_S512x512_S512x256_0_256 s
  stat arg14 ![0, 0, 0] inb_S2x8x512_S1x8x256_0_0_0 ![1, 0, 0] inb_S2x8x512_S1x8x256_1_0_0 m0 l0
  stat arg14 ![0, 0, 256] inb_S2x8x512_S1x8x256_0_0_256 ![1, 0, 256] inb_S2x8x512_S1x8x256_1_0_256 m1 l1
  pure s

/-- The body of branch 4. -/
noncomputable def br4 (i : grid0.Coords) (k0_h4 : k0_cond4 i = 1#1) (s : Mxu F) :
    Prog (TpuEff nD τ sig (Elt F) Λ₀ .tc) (Mxu F) := do
  quantO arg10 harg10 arg11 arg15
  let s ← blkV arg3 arg12 arg13 arg14 ![0, 0] inb_S256x512_S8x256_0_0 ![0, 0] inb_S8192x512_S256x256_0_0 ![0, 256] inb_S256x512_S8x256_0_256 ![0, 256] inb_S8192x512_S256x256_0_256 ![0, 0, 0] inb_S1x512x8192_S1x512x256_0_0_0 s
  let s ← blkV arg3 arg12 arg13 arg14 ![8, 0] inb_S256x512_S8x256_8_0 ![256, 0] inb_S8192x512_S256x256_256_0 ![8, 256] inb_S256x512_S8x256_8_256 ![256, 256] inb_S8192x512_S256x256_256_256 ![0, 0, 256] inb_S1x512x8192_S1x512x256_0_0_256 s
  let s ← proj0 arg4 arg5 arg6 arg7 arg8 harg8 arg9 harg9 arg10 arg11 s
  let s ← blkV arg3 arg12 arg13 arg14 ![16, 0] inb_S256x512_S8x256_16_0 ![512, 0] inb_S8192x512_S256x256_512_0 ![16, 256] inb_S256x512_S8x256_16_256 ![512, 256] inb_S8192x512_S256x256_512_256 ![0, 0, 512] inb_S1x512x8192_S1x512x256_0_0_512 s
  let s ← proj1 arg4 arg5 arg6 arg7 arg8 harg8 arg9 harg9 arg10 arg11 s
  let s ← blkV arg3 arg12 arg13 arg14 ![24, 0] inb_S256x512_S8x256_24_0 ![768, 0] inb_S8192x512_S256x256_768_0 ![24, 256] inb_S256x512_S8x256_24_256 ![768, 256] inb_S8192x512_S256x256_768_256 ![0, 0, 768] inb_S1x512x8192_S1x512x256_0_0_768 s
  let s ← Scf.Loop.for k0_t4_loop (k0_t4_ok i k0_h4) s (trip4 arg3 arg12 arg13 arg14 i k0_h4)
  let s ← blkV arg3 arg12 arg13 arg14 ![224, 0] inb_S256x512_S8x256_224_0 ![7168, 0] inb_S8192x512_S256x256_7168_0 ![224, 256] inb_S256x512_S8x256_224_256 ![7168, 256] inb_S8192x512_S256x256_7168_256 ![0, 0, 7168] inb_S1x512x8192_S1x512x256_0_0_7168 s
  let s ← blkV arg3 arg12 arg13 arg14 ![232, 0] inb_S256x512_S8x256_232_0 ![7424, 0] inb_S8192x512_S256x256_7424_0 ![232, 256] inb_S256x512_S8x256_232_256 ![7424, 256] inb_S8192x512_S256x256_7424_256 ![0, 0, 7424] inb_S1x512x8192_S1x512x256_0_0_7424 s
  let s ← blkV arg3 arg12 arg13 arg14 ![240, 0] inb_S256x512_S8x256_240_0 ![7680, 0] inb_S8192x512_S256x256_7680_0 ![240, 256] inb_S256x512_S8x256_240_256 ![7680, 256] inb_S8192x512_S256x256_7680_256 ![0, 0, 7680] inb_S1x512x8192_S1x512x256_0_0_7680 s
  let s ← blkV arg3 arg12 arg13 arg14 ![248, 0] inb_S256x512_S8x256_248_0 ![7936, 0] inb_S8192x512_S256x256_7936_0 ![248, 256] inb_S256x512_S8x256_248_256 ![7936, 256] inb_S8192x512_S256x256_7936_256 ![0, 0, 7936] inb_S1x512x8192_S1x512x256_0_0_7936 s
  let s ← popO arg15 0 ![0, 0] inb_S512x512_S512x256_0_0 s
  let s ← popO arg15 1 ![0, 256] inb_S512x512_S512x256_0_256 s
  pure s

/-- The body of branch 5: the last output tile. -/
noncomputable def br5 (s : Mxu F) :
    Prog (TpuEff nD τ sig (Elt F) Λ₀ .tc) (Mxu F) := do
  quantO arg10 harg10 arg11 arg15
  let s ← proj0 arg4 arg5 arg6 arg7 arg8 harg8 arg9 harg9 arg10 arg11 s
  let s ← proj1 arg4 arg5 arg6 arg7 arg8 harg8 arg9 harg9 arg10 arg11 s
  pure s

/-- The kernel's body, assembled from the named pieces. -/
noncomputable def bodyS (i : grid0.Coords) (arg1 : Memref sig .tc .vmem S1x512x512 .bf16) (harg1 : arg1.IsWhole) (arg2 : Memref sig .tc .vmem S1x8192x512 .bf16) (harg2 : arg2.IsWhole) (arg3 : Memref sig .tc .vmem S1x512x8192 .bf16) (harg3 : arg3.IsWhole)
  (arg4 : Memref sig .tc .vmem S1x512x512 .bf16) (harg4 : arg4.IsWhole) (arg5 : Memref sig .tc .vmem S512x512 .fp8e4m3) (harg5 : arg5.IsWhole) (arg6 : Memref sig .tc .vmem S512x1 .f32) (harg6 : arg6.IsWhole)
  (arg7 : Memref sig .tc .vmem S512x1 .f32) (harg7 : arg7.IsWhole) (arg8 : Memref sig .tc .vmem S1x512x512 .bf16) (harg8 : arg8.IsWhole) (arg9 : Memref sig .tc .vmem S1x512x512 .bf16) (harg9 : arg9.IsWhole)
  (arg10 : Memref sig .tc .vmem S1x512x512 .fp8e4m3) (harg10 : arg10.IsWhole) (arg11 : Memref sig .tc .vmem S1x1x512 .f32) (harg11 : arg11.IsWhole) (arg12 : Memref sig .tc .vmem S8192x512 .f32) (harg12 : arg12.IsWhole)
  (arg13 : Memref sig .tc .vmem S256x512 .f32) (harg13 : arg13.IsWhole) (arg14 : Memref sig .tc .vmem S2x8x512 .f32) (harg14 : arg14.IsWhole) (arg15 : Memref sig .tc .vmem S512x512 .f32) (harg15 : arg15.IsWhole) :
    Prog (TpuEff nD τ sig (Elt F) Λ₀ .tc) PUnit := do
  have s : Mxu F := Mxu.init
  let s ← if k0_h1 : k0_cond1 i = 1#1 then br1 arg1 arg2 arg12 arg13 arg14 i k0_h1 s else pure s
  let s ← if k0_h2 : k0_cond2 i = 1#1 then br2 arg1 arg2 arg3 arg12 arg13 arg14 arg15 i k0_h2 s else pure s
  let s ← if k0_h3 : k0_cond3 i = 1#1 then br3 arg1 arg2 arg3 arg4 arg5 arg6 arg7 arg8 harg8 arg9 harg9 arg10 harg10 arg11 arg12 arg13 arg14 arg15 i k0_h3 s else pure s
  let s ← if k0_h4 : k0_cond4 i = 1#1 then br4 arg3 arg4 arg5 arg6 arg7 arg8 harg8 arg9 harg9 arg10 harg10 arg11 arg12 arg13 arg14 arg15 i k0_h4 s else pure s
  let s ← if k0_h5 : k0_cond5 i = 1#1 then br5 arg4 arg5 arg6 arg7 arg8 harg8 arg9 harg9 arg10 harg10 arg11 arg15 s else pure s
  s.exit

end Cert.AttnIdeal.Body

end
-- ==== Proof.AttnProgEq.lean ====
/- The attention kernel's body is the composition of named pieces. -/
module

public import proofs.«01_k».proof.Proof.AttnProg
public import Idealize.ShloMosaic.Lib.Tactic.ProgEq
public import Idealize.ShloMosaic.PureOps.BitExact

@[expose] public section

set_option maxRecDepth 16384

open Idealize.ShloMosaic Idealize.SL.Sem
open scoped Idealize.ShloMosaic.ProgEq

set_option maxHeartbeats 4000000 in
prog_eq Cert.AttnIdeal.Body.body_eq : Cert.AttnIdeal.cc0_attention Cert.AttnIdeal.Body.bodyS from Cert.AttnIdeal to Cert.AttnIdeal at Ideal inferInstance by
  intros; rfl

end
-- ==== Proof.MxuAbs.lean ====
/- The two matrix units as a kernel uses them that keeps three accumulators in each: one of 512 rows at address 0 and two of 256
   rows at addresses 128 and 192. The state is what the staging registers and the accumulators hold, and each operation on the
   units is a function of it. -/
module

public import Idealize.ShloMosaic.Lib.Mxu.Lemmas

@[expose] public section

noncomputable section

namespace Cert.MxuAbs

open Idealize.ShloMosaic Mxu

variable {F : FTy → Type} [FloatOps F]

theorem fits0 : Fits 0 512 := by decide
/-- The address of the small accumulator `b`. -/
def adr (b : Bool) : Nat := if b then 192 else 128
theorem fitsA (b : Bool) : Fits (adr b) 256 := by cases b <;> decide

/-- What the staging registers (unit, register) and the accumulators (per unit the large one, and per unit the two small ones)
    hold; `none` for an empty register and for an accumulator whose rows are not live. -/
@[ext] structure MA (F : FTy → Type) where
  reg : Fin 2 → Fin 2 → Option (Staged F)
  o : Fin 2 → Option (FVec F (STile 512) .f32)
  h : Fin 2 → Bool → Option (FVec F (STile 256) .f32)

/-- The rows of an accumulator hold the value, or are not live. -/
def Rows (s : Mxu F) (q : Fin 2) (A : Nat) {M : Nat} (h : Fits A M) : Option (FVec F (STile M) .f32) → Prop
  | none => ∀ r : Fin M, s.live q (row h r) = false
  | some v => (∀ r : Fin M, s.live q (row h r) = true) ∧ s.read q A h = v

/-- What an accumulate leaves of an accumulator. -/
def dep {M : Nat} : Option (FVec F (STile M) .f32) → FVec F (STile M) .f32 → FVec F (STile M) .f32
  | none, p => p
  | some v, p => addf v p

/-- The tile an accumulate multiplies by. -/
abbrev stg (t : Option (Staged F)) : Staged F := t.getD (Staged.zero F)

/-- The state `s` of the units is described by `m`. -/
structure Abs (s : Mxu F) (m : MA F) : Prop where
  reg : ∀ q r, s.reg q r = m.reg q r
  o : ∀ q, Rows s q 0 fits0 (m.o q)
  h : ∀ q b, Rows s q (adr b) (fitsA b) (m.h q b)

theorem Rows.congr {s s' : Mxu F} {q : Fin 2} {A M : Nat} {h : Fits A M} {v : Option (FVec F (STile M) .f32)} (hv : Rows s q A h v)
    (hl : ∀ r : Fin M, s'.live q (row h r) = s.live q (row h r)) (hr : s'.read q A h = s.read q A h) : Rows s' q A h v := by
  cases v with
  | none => intro r; rw [hl]; exact hv r
  | some v => exact ⟨fun r => by rw [hl]; exact hv.1 r, by rw [hr]; exact hv.2⟩

/-- Pushing a tile to an empty register. -/
def MA.push (m : MA F) (q r : Fin 2) {φ : FTy} (v : FVec F (STile 256) φ) : MA F :=
  { m with reg := fun q' r' => if q' = q ∧ r' = r then some ⟨φ, false, v⟩ else m.reg q' r' }

theorem Abs.push {s : Mxu F} {m : MA F} (H : Abs s m) (q r : Fin 2) {φ : FTy} (v : FVec F (STile 256) φ) (hn : m.reg q r = none) :
    Abs (s.pushed q r false v) (m.push q r v) where
  reg q' r' := by
    have h0 : s.reg q r = none := by rw [H.reg, hn]
    by_cases h : q' = q ∧ r' = r
    · obtain ⟨rfl, rfl⟩ := h
      rw [reg_pushed_of_none _ _ _ _ _ h0]; simp [MA.push]
    · rw [reg_pushed_ne _ _ _ _ _ _ _ h, H.reg]; simp [MA.push, h]
  o q' := (H.o q').congr (fun r => by rw [live_pushed]) (read_pushed ..)
  h q' b := (H.h q' b).congr (fun r => by rw [live_pushed]) (read_pushed ..)

theorem live_other {s : Mxu F} {q r : Fin 2} {A M : Nat} {φ : FTy} (lhs : FVec F (STile M) φ) (h : Fits A M) {q' : Fin 2} {A' M' : Nat}
    (h' : Fits A' M') (hne : q' ≠ q ∨ 4 * A' + M' ≤ 4 * A ∨ 4 * A + M ≤ 4 * A') (r' : Fin M') :
    (s.accLhs q r A lhs h).live q' (row h' r') = s.live q' (row h' r') := by
  rw [live_accLhs, if_neg]; have := r'.isLt; rintro ⟨rfl, h1, h2⟩; simp only [row] at h1 h2; omega

theorem Rows.acc {s : Mxu F} {q : Fin 2} {A M : Nat} {h : Fits A M} {v : Option (FVec F (STile M) .f32)} (hv : Rows s q A h v) (r : Fin 2)
    {φ : FTy} (lhs : FVec F (STile M) φ) : Rows (s.accLhs q r A lhs h) q A h (some (dep v ((s.staged q r).pass lhs))) := by
  refine ⟨fun r' => live_accLhs_row .., ?_⟩
  cases v with
  | none => exact read_accLhs_of_not_live _ _ _ _ _ _ hv
  | some v => rw [read_accLhs_of_live _ _ _ _ _ _ hv.1, hv.2]; rfl

theorem Rows.acc_ne {s : Mxu F} {q : Fin 2} {A M : Nat} {h : Fits A M} {v : Option (FVec F (STile M) .f32)} (hv : Rows s q A h v) (q' r : Fin 2)
    {A' M' : Nat} {φ : FTy} (lhs : FVec F (STile M') φ) (h' : Fits A' M') (hne : q ≠ q' ∨ 4 * A + M ≤ 4 * A' ∨ 4 * A' + M' ≤ 4 * A) :
    Rows (s.accLhs q' r A' lhs h') q A h v :=
  hv.congr (fun _ => live_other _ _ _ hne _) (read_accLhs_ne _ _ _ _ _ _ _ _ _ hne)

/-- Accumulating in the large accumulator against register `r`. -/
def MA.accO (m : MA F) (q r : Fin 2) {φ : FTy} (lhs : FVec F (STile 512) φ) : MA F :=
  { m with
    reg := fun q' r' => if q' = q ∧ r' = r then none else m.reg q' r'
    o := fun q' => if q' = q then some (dep (m.o q) ((stg (m.reg q r)).pass lhs)) else m.o q' }

theorem Abs.accO {s : Mxu F} {m : MA F} (H : Abs s m) (q r : Fin 2) {φ : FTy} (lhs : FVec F (STile 512) φ) (h : Fits 0 512) :
    Abs (s.accLhs q r 0 lhs h) (m.accO q r lhs) where
  reg q' r' := by
    by_cases hq : q' = q ∧ r' = r
    · obtain ⟨rfl, rfl⟩ := hq; simp [MA.accO]
    · rw [reg_accLhs_ne _ _ _ _ _ _ _ _ hq, H.reg]; simp [MA.accO, hq]
  o q' := by
    by_cases hq : q' = q
    · subst hq
      have := (H.o q').acc r lhs
      simpa [MA.accO, H.reg] using this
    · simp only [MA.accO, if_neg hq]
      exact (H.o q').acc_ne _ _ _ _ (.inl hq)
  h q' b := (H.h q' b).acc_ne _ _ _ _ (by cases b <;> simp [adr])

/-- Accumulating in the small accumulator `b` against register `r`. -/
def MA.accH (m : MA F) (q r : Fin 2) (b : Bool) {φ : FTy} (lhs : FVec F (STile 256) φ) : MA F :=
  { m with
    reg := fun q' r' => if q' = q ∧ r' = r then none else m.reg q' r'
    h := fun q' b' => if q' = q ∧ b' = b then some (dep (m.h q b) ((stg (m.reg q r)).pass lhs)) else m.h q' b' }

theorem Abs.accH {s : Mxu F} {m : MA F} (H : Abs s m) (q r : Fin 2) (b : Bool) {φ : FTy} (lhs : FVec F (STile 256) φ) (h : Fits (adr b) 256) :
    Abs (s.accLhs q r (adr b) lhs h) (m.accH q r b lhs) where
  reg q' r' := by
    by_cases hq : q' = q ∧ r' = r
    · obtain ⟨rfl, rfl⟩ := hq; simp [MA.accH]
    · rw [reg_accLhs_ne _ _ _ _ _ _ _ _ hq, H.reg]; simp [MA.accH, hq]
  o q' := (H.o q').acc_ne _ _ _ _ (by cases b <;> simp [adr])
  h q' b' := by
    by_cases hq : q' = q ∧ b' = b
    · obtain ⟨rfl, rfl⟩ := hq
      have := (H.h q' b').acc r lhs
      simpa [MA.accH, H.reg] using this
    · simp only [MA.accH, if_neg hq]
      refine (H.h q' b').acc_ne _ _ _ _ ?_
      by_cases h1 : q' = q
      · right; have : b' ≠ b := fun e => hq ⟨h1, e⟩
        cases b <;> cases b' <;> simp_all [adr]
      · exact .inl h1

theorem Rows.pop_ne {s : Mxu F} {q : Fin 2} {A M : Nat} {h : Fits A M} {v : Option (FVec F (STile M) .f32)} (hv : Rows s q A h v) (q' : Fin 2)
    {A' M' : Nat} (h' : Fits A' M') (hne : q ≠ q' ∨ 4 * A + M ≤ 4 * A' ∨ 4 * A' + M' ≤ 4 * A) : Rows (s.pop q' A' M' h') q A h v := by
  refine hv.congr (fun r => ?_) (read_pop_ne _ _ _ _ _ _ _ hne)
  rw [live_pop, if_neg]; have := r.isLt; rintro ⟨rfl, h1, h2⟩; simp only [row] at h1 h2; omega

/-- Popping the large accumulator. -/
def MA.popO (m : MA F) (q : Fin 2) : MA F := { m with o := fun q' => if q' = q then none else m.o q' }
/-- Popping the small accumulator `b`. -/
def MA.popH (m : MA F) (q : Fin 2) (b : Bool) : MA F := { m with h := fun q' b' => if q' = q ∧ b' = b then none else m.h q' b' }

theorem Abs.popO {s : Mxu F} {m : MA F} (H : Abs s m) (q : Fin 2) (h : Fits 0 512) : Abs (s.pop q 0 512 h) (m.popO q) where
  reg q' r' := by rw [reg_pop, H.reg]; rfl
  o q' := by
    by_cases hq : q' = q
    · subst hq; simp only [MA.popO, if_true]; exact fun r => live_pop_row ..
    · simp only [MA.popO, if_neg hq]; exact (H.o q').pop_ne _ _ (.inl hq)
  h q' b := (H.h q' b).pop_ne _ _ (by cases b <;> simp [adr])

theorem Abs.popH {s : Mxu F} {m : MA F} (H : Abs s m) (q : Fin 2) (b : Bool) (h : Fits (adr b) 256) :
    Abs (s.pop q (adr b) 256 h) (m.popH q b) where
  reg q' r' := by rw [reg_pop, H.reg]; rfl
  o q' := (H.o q').pop_ne _ _ (by cases b <;> simp [adr])
  h q' b' := by
    by_cases hq : q' = q ∧ b' = b
    · obtain ⟨rfl, rfl⟩ := hq; simp only [MA.popH, and_self, if_true]; exact fun r => live_pop_row ..
    · simp only [MA.popH, if_neg hq]
      refine (H.h q' b').pop_ne _ _ ?_
      by_cases h1 : q' = q
      · right; have : b' ≠ b := fun e => hq ⟨h1, e⟩
        cases b <;> cases b' <;> simp_all [adr]
      · exact .inl h1

theorem Abs.read_o {s : Mxu F} {m : MA F} (H : Abs s m) (q : Fin 2) {v : FVec F (STile 512) .f32} (hv : m.o q = some v) (h : Fits 0 512) :
    s.read q 0 h = v := by
  have := H.o q; rw [hv] at this; exact this.2

theorem Abs.read_h {s : Mxu F} {m : MA F} (H : Abs s m) (q : Fin 2) (b : Bool) {v : FVec F (STile 256) .f32} (hv : m.h q b = some v)
    (h : Fits (adr b) 256) : s.read q (adr b) h = v := by
  have := H.h q b; rw [hv] at this; exact this.2

/-- Nothing staged, nothing live. -/
def MA.empty : MA F := ⟨fun _ _ => none, fun _ => none, fun _ _ => none⟩

theorem abs_init : Abs (init : Mxu F) MA.empty := ⟨fun _ _ => rfl, fun _ _ => rfl, fun _ _ _ => rfl⟩

theorem Abs.drained {s : Mxu F} (H : Abs s MA.empty) : s.Drained := by
  refine ⟨fun q r => by rw [H.reg]; rfl, fun q R => ?_⟩
  by_cases h0 : R.val < 512
  · have := H.o q ⟨R.val, h0⟩
    rw [← this]; congr 1; ext; simp [row]
  · by_cases h1 : R.val < 768
    · have := H.h q false ⟨R.val - 512, by omega⟩
      rw [← this]; congr 1; ext; simp [row, adr]; omega
    · have := H.h q true ⟨R.val - 768, by have := R.isLt; omega⟩
      rw [← this]; congr 1; ext; simp [row, adr]; omega

end Cert.MxuAbs

end
-- ==== Proof.Hoare.lean ====
/- A small program logic: what a program leaves of a store that several memory references and a pure state describe, stated
   without separation. -/
module

public import Idealize.ShloMosaic.Lib.Mxu.Lemmas
public import Idealize.ShloMosaic.Lib.Pipeline.FrameBody
public import Idealize.ShloMosaic.Lib.Scf
public import Idealize.ShloMosaic.Lib.Tactic
public import Idealize.ShloMosaic.Lib.Claim

@[expose] public section

noncomputable section

namespace Cert.Hoare

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {F : FTy → Type} [FloatOps F] {Λ : Labels}

/-- The resource algebra of the proofs about a program of one pipeline. -/
abbrev MM (nD : Nat) (τ : Topo) (sig : RefSig) (F : FTy → Type) : Type := MT nD τ sig Unit (Elt F) ℕ (UR sig nD τ) ℕ

variable (defs : Defs nD τ sig (Elt F) Λ) (c : Dev nD) {σ : Type} (St : σ → sProp (MM nD τ sig F))

/-- From the store `St x` the program runs to its end, and leaves a store and a result that `Q` holds of. -/
def T {α : Type} (p : Prog (TpuEff nD τ sig (Elt F) Λ .tc) α) (x : σ) (Q : α → σ → Prop) : Prop :=
  St x ⊢ (wp (M := (MM nD τ sig F)) frame (wpE defs Variants.none (c : Thread nD τ) none) Set.univ p (fun r => iprop(∃ y, ⌜Q r y⌝ ∗ St y)) : sProp (MM nD τ sig F))

variable {defs c St} {α β : Type} {x : σ}

theorem T_pure {Q : α → σ → Prop} (a : α) (h : Q a x) : T defs c St (pure a) x Q := by
  unfold T
  iintro H
  sl_step
  iexists x
  isplitr; · ipureintro; exact h
  iexact H

theorem T_bind {p : Prog (TpuEff nD τ sig (Elt F) Λ .tc) α} {k : α → Prog (TpuEff nD τ sig (Elt F) Λ .tc) β}
    {R : α → σ → Prop} {Q : β → σ → Prop} (hp : T defs c St p x R) (hk : ∀ r y, R r y → T defs c St (k r) y Q) :
    T defs c St (p >>= k) x Q := by
  unfold T at *
  rw [wp_bind]
  refine hp.trans (wp_mono _ _ _ fun r => ?_)
  iintro ⟨%y, %h, H⟩
  exact hk r y h

theorem T_mono {p : Prog (TpuEff nD τ sig (Elt F) Λ .tc) α} {Q Q' : α → σ → Prop} (hp : T defs c St p x Q)
    (h : ∀ r y, Q r y → Q' r y) : T defs c St p x Q' := by
  unfold T at *
  refine hp.trans (wp_mono _ _ _ fun r => ?_)
  iintro ⟨%y, %h', H⟩
  iexists y
  isplitr; · ipureintro; exact h r y h'
  iexact H

theorem T_push {s : Mxu F} {q r : Fin 2} {φ : FTy} (v : FVec F (Mxu.STile 256) φ) {Q : Mxu F → σ → Prop}
    (h : s.reg q r = none) (hQ : Q (s.pushed q r false v) x) : T defs c St (s.pushRhs q r false v) x Q := by
  unfold T Mxu.pushRhs
  refine BIBase.Entails.trans ?_ (wp_assume (defs := defs) Variants.none (c : Thread nD τ) none _ (Mxu.pushOk_of_none s q r false h))
  exact T_pure (defs := defs) (c := c) (St := St) _ hQ

theorem T_exit {s : Mxu F} {Q : PUnit → σ → Prop} (h : s.Drained) (hQ : Q ⟨⟩ x) :
    T defs c St (s.exit : Prog (TpuEff nD τ sig (Elt F) Λ .tc) PUnit) x Q := by
  unfold T Mxu.exit
  refine BIBase.Entails.trans ?_ (wp_assume (defs := defs) Variants.none (c : Thread nD τ) none _ h)
  exact T_pure (defs := defs) (c := c) (St := St) _ hQ

/-- A counted loop, from an invariant of the carried values and the store. -/
theorem T_for {w : Nat} {lp : Scf.Loop w} {hok : lp.OK} {init : α} {body : Fin lp.trips → α → Prog (TpuEff nD τ sig (Elt F) Λ .tc) α}
    (I : Nat → α → σ → Prop) (h0 : I 0 init x)
    (hb : ∀ (k : Fin lp.trips) a y, I k.val a y → T defs c St (body k a) y (I (k.val + 1))) :
    T defs c St (Scf.Loop.for lp hok init body) x (I lp.trips) := by
  unfold T
  refine BIBase.Entails.trans ?_ (Scf.wp_for frame (wpE defs Variants.none (c : Thread nD τ) none) Set.univ lp.lb lp.ub lp.st hok init body
    (fun k a => iprop(∃ y, ⌜I k a y⌝ ∗ St y)) (fun k a => ?_))
  · iintro H
    isplitl [H]
    · iexists x; isplitr; · ipureintro; exact h0
      iexact H
    · iintro %a H; iexact H
  · iintro ⟨%y, %h, H⟩
    exact hb k a y h

/-- The store holds the reference `m` at the part `get x`, and what is written there is `set`. -/
structure Field {sp : CoreSpace} {s : Shape} {e : EltTy} (St : σ → sProp (MM nD τ sig F)) (c : Dev nD) (m : Memref sig .tc sp s e) (get : σ → s.Idx → Elt F e)
    (set : σ → (s.Idx → Elt F e) → σ) : Prop where
  out : ∀ x, St x ⊢ iprop(owns (c : Thread nD τ) m fullShare (get x) ∗ (∀ X, owns (c : Thread nD τ) m fullShare X -∗ St (set x X)))
  self : ∀ x, set x (get x) = x

theorem T_load {sp : CoreSpace} {s : Shape} {e : EltTy} {m : Memref sig .tc sp s e} {get : σ → s.Idx → Elt F e}
    {set : σ → (s.Idx → Elt F e) → σ} (hm : Field (τ := τ) St c m get set) {r : Rect s} {hl : m.view.LoadsAt r.toLoadRect} :
    T defs c St (Prog.lift (.load m r.toLoadRect hl)) x (fun v y => v = View.ld (get x) r ∧ y = x) := by
  unfold T Prog.lift
  refine (hm.out x).trans ?_
  unfold owns
  iintro ⟨⟨%f, %hf, H⟩, Hk⟩
  sl_exec
  sl_step
  iexists x
  isplitr
  · ipureintro; rw [← hf]; exact ⟨rfl, rfl⟩
  · have e : St (set x (get x)) ⊢ St x := by rw [hm.self x]
    iapply e
    iapply Hk
    iexists f
    isplitr; · ipureintro; exact hf
    iexact H

theorem T_store {sp : CoreSpace} {s : Shape} {e : EltTy} {m : Memref sig .tc sp s e} {get : σ → s.Idx → Elt F e}
    {set : σ → (s.Idx → Elt F e) → σ} (hm : Field (τ := τ) St c m get set) {r : Rect s} {w : r.shape.Idx → Elt F e}
    {hx : (m.access r).Stores Finset.univ} {hu : (Finset.univ : Finset r.shape.Idx) = Finset.univ ∨ ∀ a, r.stride a = 1} :
    T defs c St (Prog.lift (.store m r w Finset.univ hx hu)) x (fun _ y => y = set x (r.overlay (get x) w)) := by
  unfold T Prog.lift
  refine (hm.out x).trans ?_
  unfold owns
  iintro ⟨⟨%f, %hf, H⟩, Hk⟩
  sl_exec
  sl_step
  iexists (set x (r.overlay (get x) w))
  isplitr
  · ipureintro; rfl
  · iapply Hk
    iexists _
    isplitr
    swap; · iexact H
    ipureintro
    rw [← hf]
    funext y
    by_cases hy : y ∈ r.set
    · obtain ⟨j, rfl⟩ : ∃ j, r.emb j = y := r.exists_idx_of_mem hy
      rw [View.read_writes_cons_emb, Rect.overlay_emb]
    · have hy' : y ∉ Finset.univ.map r.emb := by rwa [Rect.map_emb_univ]
      rw [View.writes_cons, View.read_slice_write_of_not_mem r _ _ _ hy', Rect.overlay_of_not_mem _ _ _ hy]
      rfl

end Cert.Hoare

end
-- ==== Proof.AttnFun.lean ====
/- What the pieces of the attention kernel compute, as functions of what they read. -/
module

public import proofs.«01_k».proof.Proof.AttnProg
public import proofs.«01_k».proof.Proof.MxuAbs
public import proofs.«01_k».proof.Proof.Hoare

@[expose] public section

set_option maxRecDepth 16384

namespace Cert.AttnIdeal.Body

open Idealize.ShloMosaic Idealize.SL.Sem
open Cert.AttnIdeal Facts₀ Facts
open Cert.MxuAbs Mxu

variable {F : FTy → Type} [FloatOps F] [Named F] [Facts]

/-- The probabilities of a key block, from its stored maximum, the final maximum and reciprocal sum, and its exponentials. -/
noncomputable def pT (v657 : Vec F S8x256 .f32) (v658 : Vec F S1x8x256 .f32) (v664 : Vec F S1x8x256 .f32) (v668 : Vec F S256x256 .f32) : FVec F S256x256 .bf16 :=
  have v659 : FVec F S8x256 .f32 := shapeCast S8x256 v658 shapeCasts_S1x8x256_S8x256
  have v660 : FVec F S8x256 .f32 := subf v657 v659
  have cst_335 : F .f32 := Named.named κ "exp_scale" 0x3D8293EE#32
  have v661 : FVec F S8x256 .f32 := broadcast S8x256 cst_335
  have v662 : FVec F S8x256 .f32 := mulf v660 v661
  have v663 : FVec F S8x256 .f32 := exp2 v662
  have v665 : FVec F S8x256 .f32 := shapeCast S8x256 v664 shapeCasts_S1x8x256_S8x256
  have v666 : FVec F S8x256 .f32 := mulf v663 v665
  have v669 : FVec F S32x8x256 .f32 := shapeCast S32x8x256 v668 shapeCasts_S256x256_S32x8x256
  have v670 : FVec F S1x8x256 .f32 := shapeCast S1x8x256 v666 shapeCasts_S8x256_S1x8x256
  have v671 : FVec F S32x8x256 .f32 := broadcastTo S32x8x256 v670 broadcasts_S1x8x256_S32x8x256
  have v672 : FVec F S32x8x256 .f32 := mulf v669 v671
  have v673 : FVec F S256x256 .f32 := shapeCast S256x256 v672 shapeCasts_S32x8x256_S256x256
  truncf .bf16 v673 bitsLt_bf16_f32

/-- The running maximum after a block of scores. -/
noncomputable def scM (m : FVec F S8x256 .f32) (v704 : FVec F S256x256 .f32) : FVec F S8x256 .f32 :=
  have v705 : FVec F S32x8x256 .f32 := shapeCast S32x8x256 v704 shapeCasts_S256x256_S32x8x256
  have v706 : FVec F S8x256 .f32 := multiReduction .maximumf [0] S8x256 v705 0xFF800000#32 reduces_S32x8x256_S8x256 (.inl rfl) rfl
  maximumf m v706

/-- The running sum after a block of scores. -/
noncomputable def scL (m : FVec F S8x256 .f32) (l : FVec F S8x256 .f32) (v704 : FVec F S256x256 .f32) : FVec F S8x256 .f32 :=
  have v705 : FVec F S32x8x256 .f32 := shapeCast S32x8x256 v704 shapeCasts_S256x256_S32x8x256
  have v706 : FVec F S8x256 .f32 := multiReduction .maximumf [0] S8x256 v705 0xFF800000#32 reduces_S32x8x256_S8x256 (.inl rfl) rfl
  have v707 : FVec F S8x256 .f32 := maximumf m v706
  have v708 : FVec F S1x8x256 .f32 := shapeCast S1x8x256 v707 shapeCasts_S8x256_S1x8x256
  have v709 : FVec F S32x8x256 .f32 := broadcastTo S32x8x256 v708 broadcasts_S1x8x256_S32x8x256
  have v710 : FVec F S32x8x256 .f32 := subf v705 v709
  have cst_360 : F .f32 := Named.named κ "exp_scale" 0x3D8293EE#32
  have v711 : FVec F S32x8x256 .f32 := broadcast S32x8x256 cst_360
  have v712 : FVec F S32x8x256 .f32 := mulf v710 v711
  have v713 : FVec F S32x8x256 .f32 := exp2 v712
  have v714 : FVec F S8x256 .f32 := subf m v707
  have cst_361 : F .f32 := Named.named κ "exp_scale" 0x3D8293EE#32
  have v715 : FVec F S8x256 .f32 := broadcast S8x256 cst_361
  have v716 : FVec F S8x256 .f32 := mulf v714 v715
  have v717 : FVec F S8x256 .f32 := exp2 v716
  have v718 : FVec F S8x256 .f32 := mulf l v717
  have v719 : FVec F S8x256 .f32 := multiReduction .add [0] S8x256 v713 0x00000000#32 reduces_S32x8x256_S8x256 (.inl rfl) rfl
  addf v718 v719

/-- The exponentials stored of a block of scores. -/
noncomputable def scE (m : FVec F S8x256 .f32) (v704 : FVec F S256x256 .f32) : FVec F S256x256 .f32 :=
  have v705 : FVec F S32x8x256 .f32 := shapeCast S32x8x256 v704 shapeCasts_S256x256_S32x8x256
  have v706 : FVec F S8x256 .f32 := multiReduction .maximumf [0] S8x256 v705 0xFF800000#32 reduces_S32x8x256_S8x256 (.inl rfl) rfl
  have v707 : FVec F S8x256 .f32 := maximumf m v706
  have v708 : FVec F S1x8x256 .f32 := shapeCast S1x8x256 v707 shapeCasts_S8x256_S1x8x256
  have v709 : FVec F S32x8x256 .f32 := broadcastTo S32x8x256 v708 broadcasts_S1x8x256_S32x8x256
  have v710 : FVec F S32x8x256 .f32 := subf v705 v709
  have cst_360 : F .f32 := Named.named κ "exp_scale" 0x3D8293EE#32
  have v711 : FVec F S32x8x256 .f32 := broadcast S32x8x256 cst_360
  have v712 : FVec F S32x8x256 .f32 := mulf v710 v711
  have v713 : FVec F S32x8x256 .f32 := exp2 v712
  have v721 : FVec F S256x256 .f32 := shapeCast S256x256 v713 shapeCasts_S32x8x256_S256x256
  shapeCast S256x256 v721 shapeCasts_S256x256_S256x256

/-- The maximum stored with a block of scores. -/
noncomputable def scB (m : FVec F S8x256 .f32) (v704 : FVec F S256x256 .f32) : FVec F S8x256 .f32 :=
  have v705 : FVec F S32x8x256 .f32 := shapeCast S32x8x256 v704 shapeCasts_S256x256_S32x8x256
  have v706 : FVec F S8x256 .f32 := multiReduction .maximumf [0] S8x256 v705 0xFF800000#32 reduces_S32x8x256_S8x256 (.inl rfl) rfl
  have v707 : FVec F S8x256 .f32 := maximumf m v706
  shapeCast S8x256 v707 shapeCasts_S8x256_S8x256

/-- The codes stored of an output tile. -/
noncomputable def qCodes (v21 : Vec F S512x512 .f32) : FVec F S1x512x512 .fp8e4m3 :=
  have v22 : FVec F S512x512 .f32 := absf v21
  have v23 : FVec F S512 .f32 := multiReduction .maximumf [0] S512 v22 0xFF800000#32 reduces_S512x512_S512 (.inl rfl) rfl
  have v24 : FVec F S1x512 .f32 := shapeCast S1x512 v23 shapeCasts_S512_S1x512
  have cst_11 : F .f32 := Scalar.ofBits .f32 0x3B124925#32
  have v25 : FVec F S1x512 .f32 := broadcast S1x512 cst_11
  have v26 : FVec F S1x512 .f32 := mulf v24 v25
  let c0_i32_12 : BitVec 32 := 0#32
  have v27 : IVec S1x512 32 := broadcast S1x512 c0_i32_12
  let c128_i32 : BitVec 32 := 128#32
  have v28 : IVec S1x512 32 := broadcast S1x512 c128_i32
  have v29 : IVec S1x512 32 := addi v27 v28
  let c23_i32 : BitVec 32 := 23#32
  have v30 : IVec S1x512 32 := broadcast S1x512 c23_i32
  have v31 : IVec S1x512 32 := shli v29 v30
  have v32 : FVec F S1x512 .f32 := bitcastToFloat .f32 v31
  have v33 : IVec S1x512 1 := cmpf .oge v26 v32
  let c128_i32_13 : BitVec 32 := 128#32
  have v34 : IVec S1x512 32 := broadcast S1x512 c128_i32_13
  have v35 : IVec S1x512 32 := addi v27 v34
  have v36 : IVec S1x512 32 := select v33 v35 v27
  let c64_i32 : BitVec 32 := 64#32
  have v37 : IVec S1x512 32 := broadcast S1x512 c64_i32
  have v38 : IVec S1x512 32 := addi v36 v37
  let c23_i32_14 : BitVec 32 := 23#32
  have v39 : IVec S1x512 32 := broadcast S1x512 c23_i32_14
  have v40 : IVec S1x512 32 := shli v38 v39
  have v41 : FVec F S1x512 .f32 := bitcastToFloat .f32 v40
  have v42 : IVec S1x512 1 := cmpf .oge v26 v41
  let c64_i32_15 : BitVec 32 := 64#32
  have v43 : IVec S1x512 32 := broadcast S1x512 c64_i32_15
  have v44 : IVec S1x512 32 := addi v36 v43
  have v45 : IVec S1x512 32 := select v42 v44 v36
  let c32_i32 : BitVec 32 := 32#32
  have v46 : IVec S1x512 32 := broadcast S1x512 c32_i32
  have v47 : IVec S1x512 32 := addi v45 v46
  let c23_i32_16 : BitVec 32 := 23#32
  have v48 : IVec S1x512 32 := broadcast S1x512 c23_i32_16
  have v49 : IVec S1x512 32 := shli v47 v48
  have v50 : FVec F S1x512 .f32 := bitcastToFloat .f32 v49
  have v51 : IVec S1x512 1 := cmpf .oge v26 v50
  let c32_i32_17 : BitVec 32 := 32#32
  have v52 : IVec S1x512 32 := broadcast S1x512 c32_i32_17
  have v53 : IVec S1x512 32 := addi v45 v52
  have v54 : IVec S1x512 32 := select v51 v53 v45
  let c16_i32 : BitVec 32 := 16#32
  have v55 : IVec S1x512 32 := broadcast S1x512 c16_i32
  have v56 : IVec S1x512 32 := addi v54 v55
  let c23_i32_18 : BitVec 32 := 23#32
  have v57 : IVec S1x512 32 := broadcast S1x512 c23_i32_18
  have v58 : IVec S1x512 32 := shli v56 v57
  have v59 : FVec F S1x512 .f32 := bitcastToFloat .f32 v58
  have v60 : IVec S1x512 1 := cmpf .oge v26 v59
  let c16_i32_19 : BitVec 32 := 16#32
  have v61 : IVec S1x512 32 := broadcast S1x512 c16_i32_19
  have v62 : IVec S1x512 32 := addi v54 v61
  have v63 : IVec S1x512 32 := select v60 v62 v54
  let c8_i32 : BitVec 32 := 8#32
  have v64 : IVec S1x512 32 := broadcast S1x512 c8_i32
  have v65 : IVec S1x512 32 := addi v63 v64
  let c23_i32_20 : BitVec 32 := 23#32
  have v66 : IVec S1x512 32 := broadcast S1x512 c23_i32_20
  have v67 : IVec S1x512 32 := shli v65 v66
  have v68 : FVec F S1x512 .f32 := bitcastToFloat .f32 v67
  have v69 : IVec S1x512 1 := cmpf .oge v26 v68
  let c8_i32_21 : BitVec 32 := 8#32
  have v70 : IVec S1x512 32 := broadcast S1x512 c8_i32_21
  have v71 : IVec S1x512 32 := addi v63 v70
  have v72 : IVec S1x512 32 := select v69 v71 v63
  let c4_i32 : BitVec 32 := 4#32
  have v73 : IVec S1x512 32 := broadcast S1x512 c4_i32
  have v74 : IVec S1x512 32 := addi v72 v73
  let c23_i32_22 : BitVec 32 := 23#32
  have v75 : IVec S1x512 32 := broadcast S1x512 c23_i32_22
  have v76 : IVec S1x512 32 := shli v74 v75
  have v77 : FVec F S1x512 .f32 := bitcastToFloat .f32 v76
  have v78 : IVec S1x512 1 := cmpf .oge v26 v77
  let c4_i32_23 : BitVec 32 := 4#32
  have v79 : IVec S1x512 32 := broadcast S1x512 c4_i32_23
  have v80 : IVec S1x512 32 := addi v72 v79
  have v81 : IVec S1x512 32 := select v78 v80 v72
  let c2_i32_24 : BitVec 32 := 2#32
  have v82 : IVec S1x512 32 := broadcast S1x512 c2_i32_24
  have v83 : IVec S1x512 32 := addi v81 v82
  let c23_i32_25 : BitVec 32 := 23#32
  have v84 : IVec S1x512 32 := broadcast S1x512 c23_i32_25
  have v85 : IVec S1x512 32 := shli v83 v84
  have v86 : FVec F S1x512 .f32 := bitcastToFloat .f32 v85
  have v87 : IVec S1x512 1 := cmpf .oge v26 v86
  let c2_i32_26 : BitVec 32 := 2#32
  have v88 : IVec S1x512 32 := broadcast S1x512 c2_i32_26
  have v89 : IVec S1x512 32 := addi v81 v88
  have v90 : IVec S1x512 32 := select v87 v89 v81
  let c1_i32_27 : BitVec 32 := 1#32
  have v91 : IVec S1x512 32 := broadcast S1x512 c1_i32_27
  have v92 : IVec S1x512 32 := addi v90 v91
  let c23_i32_28 : BitVec 32 := 23#32
  have v93 : IVec S1x512 32 := broadcast S1x512 c23_i32_28
  have v94 : IVec S1x512 32 := shli v92 v93
  have v95 : FVec F S1x512 .f32 := bitcastToFloat .f32 v94
  have v96 : IVec S1x512 1 := cmpf .oge v26 v95
  let c1_i32_29 : BitVec 32 := 1#32
  have v97 : IVec S1x512 32 := broadcast S1x512 c1_i32_29
  have v98 : IVec S1x512 32 := addi v90 v97
  have v99 : IVec S1x512 32 := select v96 v98 v90
  let c0_i32_30 : BitVec 32 := 0#32
  have v100 : IVec S1x512 32 := broadcast S1x512 c0_i32_30
  have v101 : IVec S1x512 1 := cmpi .eq v99 v100
  let c255_i32 : BitVec 32 := 255#32
  have v102 : IVec S1x512 32 := broadcast S1x512 c255_i32
  have v103 : IVec S1x512 1 := cmpi .eq v99 v102
  have v104 : IVec S1x512 1 := ori v101 v103
  let c126_i32 : BitVec 32 := 126#32
  have v105 : IVec S1x512 32 := broadcast S1x512 c126_i32
  have v106 : IVec S1x512 32 := select v104 v105 v99
  let c253_i32 : BitVec 32 := 253#32
  have v112 : IVec S1x512 32 := broadcast S1x512 c253_i32
  have v113 : IVec S1x512 32 := subi v112 v106
  let c0_i32_33 : BitVec 32 := 0#32
  have v114 : IVec S1x512 32 := broadcast S1x512 c0_i32_33
  have v115 : IVec S1x512 32 := maxsi v113 v114
  let c23_i32_34 : BitVec 32 := 23#32
  have v116 : IVec S1x512 32 := broadcast S1x512 c23_i32_34
  have v117 : IVec S1x512 32 := shli v115 v116
  have v118 : FVec F S1x512 .f32 := bitcastToFloat .f32 v117
  have v119 : FVec F S512x512 .f32 := broadcastTo S512x512 v118 broadcasts_S1x512_S512x512
  have v120 : FVec F S512x512 .f32 := mulf v21 v119
  have cst_35 : F .f32 := Scalar.ofBits .f32 0xC3E00000#32
  have cst_36 : F .f32 := Scalar.ofBits .f32 0x43E00000#32
  have v121 : FVec F S512x512 .f32 := broadcast S512x512 cst_35
  have v122 : FVec F S512x512 .f32 := maximumf v121 v120
  have v123 : FVec F S512x512 .f32 := broadcast S512x512 cst_36
  have v124 : FVec F S512x512 .f32 := minimumf v123 v122
  have v125 : FVec F S512x512 .fp8e4m3 := truncf .fp8e4m3 v124 bitsLt_fp8e4m3_f32
  shapeCast S1x512x512 v125 shapeCasts_S512x512_S1x512x512

/-- The scale stored of an output tile. -/
noncomputable def qScale (v21 : Vec F S512x512 .f32) : FVec F S1x1x512 .f32 :=
  have v22 : FVec F S512x512 .f32 := absf v21
  have v23 : FVec F S512 .f32 := multiReduction .maximumf [0] S512 v22 0xFF800000#32 reduces_S512x512_S512 (.inl rfl) rfl
  have v24 : FVec F S1x512 .f32 := shapeCast S1x512 v23 shapeCasts_S512_S1x512
  have cst_11 : F .f32 := Scalar.ofBits .f32 0x3B124925#32
  have v25 : FVec F S1x512 .f32 := broadcast S1x512 cst_11
  have v26 : FVec F S1x512 .f32 := mulf v24 v25
  let c0_i32_12 : BitVec 32 := 0#32
  have v27 : IVec S1x512 32 := broadcast S1x512 c0_i32_12
  let c128_i32 : BitVec 32 := 128#32
  have v28 : IVec S1x512 32 := broadcast S1x512 c128_i32
  have v29 : IVec S1x512 32 := addi v27 v28
  let c23_i32 : BitVec 32 := 23#32
  have v30 : IVec S1x512 32 := broadcast S1x512 c23_i32
  have v31 : IVec S1x512 32 := shli v29 v30
  have v32 : FVec F S1x512 .f32 := bitcastToFloat .f32 v31
  have v33 : IVec S1x512 1 := cmpf .oge v26 v32
  let c128_i32_13 : BitVec 32 := 128#32
  have v34 : IVec S1x512 32 := broadcast S1x512 c128_i32_13
  have v35 : IVec S1x512 32 := addi v27 v34
  have v36 : IVec S1x512 32 := select v33 v35 v27
  let c64_i32 : BitVec 32 := 64#32
  have v37 : IVec S1x512 32 := broadcast S1x512 c64_i32
  have v38 : IVec S1x512 32 := addi v36 v37
  let c23_i32_14 : BitVec 32 := 23#32
  have v39 : IVec S1x512 32 := broadcast S1x512 c23_i32_14
  have v40 : IVec S1x512 32 := shli v38 v39
  have v41 : FVec F S1x512 .f32 := bitcastToFloat .f32 v40
  have v42 : IVec S1x512 1 := cmpf .oge v26 v41
  let c64_i32_15 : BitVec 32 := 64#32
  have v43 : IVec S1x512 32 := broadcast S1x512 c64_i32_15
  have v44 : IVec S1x512 32 := addi v36 v43
  have v45 : IVec S1x512 32 := select v42 v44 v36
  let c32_i32 : BitVec 32 := 32#32
  have v46 : IVec S1x512 32 := broadcast S1x512 c32_i32
  have v47 : IVec S1x512 32 := addi v45 v46
  let c23_i32_16 : BitVec 32 := 23#32
  have v48 : IVec S1x512 32 := broadcast S1x512 c23_i32_16
  have v49 : IVec S1x512 32 := shli v47 v48
  have v50 : FVec F S1x512 .f32 := bitcastToFloat .f32 v49
  have v51 : IVec S1x512 1 := cmpf .oge v26 v50
  let c32_i32_17 : BitVec 32 := 32#32
  have v52 : IVec S1x512 32 := broadcast S1x512 c32_i32_17
  have v53 : IVec S1x512 32 := addi v45 v52
  have v54 : IVec S1x512 32 := select v51 v53 v45
  let c16_i32 : BitVec 32 := 16#32
  have v55 : IVec S1x512 32 := broadcast S1x512 c16_i32
  have v56 : IVec S1x512 32 := addi v54 v55
  let c23_i32_18 : BitVec 32 := 23#32
  have v57 : IVec S1x512 32 := broadcast S1x512 c23_i32_18
  have v58 : IVec S1x512 32 := shli v56 v57
  have v59 : FVec F S1x512 .f32 := bitcastToFloat .f32 v58
  have v60 : IVec S1x512 1 := cmpf .oge v26 v59
  let c16_i32_19 : BitVec 32 := 16#32
  have v61 : IVec S1x512 32 := broadcast S1x512 c16_i32_19
  have v62 : IVec S1x512 32 := addi v54 v61
  have v63 : IVec S1x512 32 := select v60 v62 v54
  let c8_i32 : BitVec 32 := 8#32
  have v64 : IVec S1x512 32 := broadcast S1x512 c8_i32
  have v65 : IVec S1x512 32 := addi v63 v64
  let c23_i32_20 : BitVec 32 := 23#32
  have v66 : IVec S1x512 32 := broadcast S1x512 c23_i32_20
  have v67 : IVec S1x512 32 := shli v65 v66
  have v68 : FVec F S1x512 .f32 := bitcastToFloat .f32 v67
  have v69 : IVec S1x512 1 := cmpf .oge v26 v68
  let c8_i32_21 : BitVec 32 := 8#32
  have v70 : IVec S1x512 32 := broadcast S1x512 c8_i32_21
  have v71 : IVec S1x512 32 := addi v63 v70
  have v72 : IVec S1x512 32 := select v69 v71 v63
  let c4_i32 : BitVec 32 := 4#32
  have v73 : IVec S1x512 32 := broadcast S1x512 c4_i32
  have v74 : IVec S1x512 32 := addi v72 v73
  let c23_i32_22 : BitVec 32 := 23#32
  have v75 : IVec S1x512 32 := broadcast S1x512 c23_i32_22
  have v76 : IVec S1x512 32 := shli v74 v75
  have v77 : FVec F S1x512 .f32 := bitcastToFloat .f32 v76
  have v78 : IVec S1x512 1 := cmpf .oge v26 v77
  let c4_i32_23 : BitVec 32 := 4#32
  have v79 : IVec S1x512 32 := broadcast S1x512 c4_i32_23
  have v80 : IVec S1x512 32 := addi v72 v79
  have v81 : IVec S1x512 32 := select v78 v80 v72
  let c2_i32_24 : BitVec 32 := 2#32
  have v82 : IVec S1x512 32 := broadcast S1x512 c2_i32_24
  have v83 : IVec S1x512 32 := addi v81 v82
  let c23_i32_25 : BitVec 32 := 23#32
  have v84 : IVec S1x512 32 := broadcast S1x512 c23_i32_25
  have v85 : IVec S1x512 32 := shli v83 v84
  have v86 : FVec F S1x512 .f32 := bitcastToFloat .f32 v85
  have v87 : IVec S1x512 1 := cmpf .oge v26 v86
  let c2_i32_26 : BitVec 32 := 2#32
  have v88 : IVec S1x512 32 := broadcast S1x512 c2_i32_26
  have v89 : IVec S1x512 32 := addi v81 v88
  have v90 : IVec S1x512 32 := select v87 v89 v81
  let c1_i32_27 : BitVec 32 := 1#32
  have v91 : IVec S1x512 32 := broadcast S1x512 c1_i32_27
  have v92 : IVec S1x512 32 := addi v90 v91
  let c23_i32_28 : BitVec 32 := 23#32
  have v93 : IVec S1x512 32 := broadcast S1x512 c23_i32_28
  have v94 : IVec S1x512 32 := shli v92 v93
  have v95 : FVec F S1x512 .f32 := bitcastToFloat .f32 v94
  have v96 : IVec S1x512 1 := cmpf .oge v26 v95
  let c1_i32_29 : BitVec 32 := 1#32
  have v97 : IVec S1x512 32 := broadcast S1x512 c1_i32_29
  have v98 : IVec S1x512 32 := addi v90 v97
  have v99 : IVec S1x512 32 := select v96 v98 v90
  let c0_i32_30 : BitVec 32 := 0#32
  have v100 : IVec S1x512 32 := broadcast S1x512 c0_i32_30
  have v101 : IVec S1x512 1 := cmpi .eq v99 v100
  let c255_i32 : BitVec 32 := 255#32
  have v102 : IVec S1x512 32 := broadcast S1x512 c255_i32
  have v103 : IVec S1x512 1 := cmpi .eq v99 v102
  have v104 : IVec S1x512 1 := ori v101 v103
  let c126_i32 : BitVec 32 := 126#32
  have v105 : IVec S1x512 32 := broadcast S1x512 c126_i32
  have v106 : IVec S1x512 32 := select v104 v105 v99
  let c1_i32_31 : BitVec 32 := 1#32
  have v107 : IVec S1x512 32 := broadcast S1x512 c1_i32_31
  have v108 : IVec S1x512 32 := addi v106 v107
  let c23_i32_32 : BitVec 32 := 23#32
  have v109 : IVec S1x512 32 := broadcast S1x512 c23_i32_32
  have v110 : IVec S1x512 32 := shli v108 v109
  have v111 : FVec F S1x512 .f32 := bitcastToFloat .f32 v110
  shapeCast S1x1x512 v111 shapeCasts_S1x512_S1x1x512

/-- The projected half stored. -/
noncomputable def prV (v156 : FVec F S256x256 .f32) (v157 : Vec F S1x1x256 .f32) (v161 : Vec F S256x1 .f32) (v165 : Vec F S256x1 .f32) : FVec F S1x256x256 .bf16 :=
  have v158 : FVec F S1x256 .f32 := shapeCast S1x256 v157 shapeCasts_S1x1x256_S1x256
  have v159 : FVec F S256x256 .f32 := broadcastTo S256x256 v158 broadcasts_S1x256_S256x256
  have v160 : FVec F S256x256 .f32 := mulf v156 v159
  have v162 : FVec F S256x1 .f32 := shapeCast S256x1 v161 shapeCasts_S256x1_S256x1
  have v163 : FVec F S256x256 .f32 := broadcastTo S256x256 v162 broadcasts_S256x1_S256x256
  have v164 : FVec F S256x256 .f32 := mulf v160 v163
  have v166 : FVec F S256x1 .f32 := shapeCast S256x1 v165 shapeCasts_S256x1_S256x1
  have v167 : FVec F S256x256 .f32 := broadcastTo S256x256 v166 broadcasts_S256x1_S256x256
  have v168 : FVec F S256x256 .f32 := addf v164 v167
  have v169 : FVec F S256x256 .bf16 := truncf .bf16 v168 bitsLt_bf16_f32
  shapeCast S1x256x256 v169 shapeCasts_S256x256_S1x256x256

/-- The projected half with the residual added. -/
noncomputable def prR (v156 : FVec F S256x256 .f32) (v157 : Vec F S1x1x256 .f32) (v161 : Vec F S256x1 .f32) (v165 : Vec F S256x1 .f32) (v173 : Vec F S1x256x256 .bf16) : FVec F S1x256x256 .bf16 :=
  have v158 : FVec F S1x256 .f32 := shapeCast S1x256 v157 shapeCasts_S1x1x256_S1x256
  have v159 : FVec F S256x256 .f32 := broadcastTo S256x256 v158 broadcasts_S1x256_S256x256
  have v160 : FVec F S256x256 .f32 := mulf v156 v159
  have v162 : FVec F S256x1 .f32 := shapeCast S256x1 v161 shapeCasts_S256x1_S256x1
  have v163 : FVec F S256x256 .f32 := broadcastTo S256x256 v162 broadcasts_S256x1_S256x256
  have v164 : FVec F S256x256 .f32 := mulf v160 v163
  have v166 : FVec F S256x1 .f32 := shapeCast S256x1 v165 shapeCasts_S256x1_S256x1
  have v167 : FVec F S256x256 .f32 := broadcastTo S256x256 v166 broadcasts_S256x1_S256x256
  have v168 : FVec F S256x256 .f32 := addf v164 v167
  have v174 : FVec F S256x256 .bf16 := shapeCast S256x256 v173 shapeCasts_S1x256x256_S256x256
  have v175 : FVec F S256x256 .f32 := extf .f32 v174 bitsLt_bf16_f32
  have v176 : FVec F S256x256 .f32 := addf v175 v168
  have v177 : FVec F S256x256 .bf16 := truncf .bf16 v176 bitsLt_bf16_f32
  shapeCast S1x256x256 v177 shapeCasts_S256x256_S1x256x256

/-- The final maximum stored. -/
noncomputable def stM (m : FVec F S8x256 .f32) : FVec F S1x8x256 .f32 :=
  have v1234 : FVec F S256 .f32 := multiReduction .maximumf [0] S256 m 0xFF800000#32 reduces_S8x256_S256 (.inl rfl) rfl
  have v1235 : FVec F S1x256 .f32 := shapeCast S1x256 v1234 shapeCasts_S256_S1x256
  have v1244 : FVec F S1x256 .f32 := shapeCast S1x256 v1235 shapeCasts_S1x256_S1x256
  have v1245 : FVec F S8x256 .f32 := broadcastTo S8x256 v1244 broadcasts_S1x256_S8x256
  shapeCast S1x8x256 v1245 shapeCasts_S8x256_S1x8x256

/-- The reciprocal of the final sum stored. -/
noncomputable def stL (m : FVec F S8x256 .f32) (l : FVec F S8x256 .f32) : FVec F S1x8x256 .f32 :=
  have v1234 : FVec F S256 .f32 := multiReduction .maximumf [0] S256 m 0xFF800000#32 reduces_S8x256_S256 (.inl rfl) rfl
  have v1235 : FVec F S1x256 .f32 := shapeCast S1x256 v1234 shapeCasts_S256_S1x256
  have v1236 : FVec F S8x256 .f32 := broadcastTo S8x256 v1235 broadcasts_S1x256_S8x256
  have v1237 : FVec F S8x256 .f32 := subf m v1236
  have cst_589 : F .f32 := Named.named κ "exp_scale" 0x3D8293EE#32
  have v1238 : FVec F S8x256 .f32 := broadcast S8x256 cst_589
  have v1239 : FVec F S8x256 .f32 := mulf v1237 v1238
  have v1240 : FVec F S8x256 .f32 := exp2 v1239
  have v1241 : FVec F S8x256 .f32 := mulf l v1240
  have v1242 : FVec F S256 .f32 := multiReduction .add [0] S256 v1241 0x00000000#32 reduces_S8x256_S256 (.inl rfl) rfl
  have v1243 : FVec F S1x256 .f32 := shapeCast S1x256 v1242 shapeCasts_S256_S1x256
  have cst_594 : F .f32 := Scalar.ofBits .f32 0x3F800000#32
  have v1249 : FVec F S1x256 .f32 := broadcast S1x256 cst_594
  have v1250 : FVec F S1x256 .f32 := divf v1249 v1243
  have v1251 : FVec F S1x256 .f32 := shapeCast S1x256 v1250 shapeCasts_S1x256_S1x256
  have v1252 : FVec F S8x256 .f32 := broadcastTo S8x256 v1251 broadcasts_S1x256_S8x256
  shapeCast S1x8x256 v1252 shapeCasts_S8x256_S1x8x256

/-- The attention output stored. -/
noncomputable def oP (v1226 : FVec F S512x256 .f32) : FVec F S512x256 .f32 :=
  shapeCast S512x256 v1226 shapeCasts_S512x256_S512x256

/-- A staged bf16 tile. -/
abbrev sg (v : FVec F (STile 256) .bf16) : Staged F := ⟨.bf16, false, v⟩

theorem inbQ (f q : Fin 2) : ∀ a, (![0, 256 * f.val, 256 * q.val] : Fin 3 → Nat) a + S1x256x256.size a ≤ S1x512x512.size a := by
  revert f q; decide
theorem inbK (j : Fin 32) (f : Fin 2) : ∀ a, (![0, 256 * j.val, 256 * f.val] : Fin 3 → Nat) a + S1x256x256.size a ≤ S1x8192x512.size a := by
  revert j f; decide
theorem inbV (j : Fin 32) : ∀ a, (![0, 0, 256 * j.val] : Fin 3 → Nat) a + S1x512x256.size a ≤ S1x512x8192.size a := by
  revert j; decide
theorem inbE (j : Fin 32) (q : Fin 2) : ∀ a, (![256 * j.val, 256 * q.val] : Fin 2 → Nat) a + S256x256.size a ≤ S8192x512.size a := by
  revert j q; decide
theorem inbB (j : Fin 32) (q : Fin 2) : ∀ a, (![8 * j.val, 256 * q.val] : Fin 2 → Nat) a + S8x256.size a ≤ S256x512.size a := by
  revert j q; decide
theorem inbS (k q : Fin 2) : ∀ a, (![k.val, 0, 256 * q.val] : Fin 3 → Nat) a + S1x8x256.size a ≤ S2x8x512.size a := by
  revert k q; decide
theorem inbO (q : Fin 2) : ∀ a, (![0, 256 * q.val] : Fin 2 → Nat) a + S512x256.size a ≤ S512x512.size a := by
  revert q; decide
theorem inbW (h f : Fin 2) : ∀ a, (![256 * h.val, 256 * f.val] : Fin 2 → Nat) a + S256x256.size a ≤ S512x512.size a := by
  revert h f; decide
theorem inbC (h : Fin 2) : ∀ a, (![256 * h.val, 0] : Fin 2 → Nat) a + S256x1.size a ≤ S512x1.size a := by
  revert h; decide
theorem inbL (q : Fin 2) : ∀ a, (![0, 0, 256 * q.val] : Fin 3 → Nat) a + S1x1x256.size a ≤ S1x1x512.size a := by
  revert q; decide

/-- The rectangle of exponentials of block `j`, lanes of unit `q`. -/
abbrev eR (j : Fin 32) (q : Fin 2) : Rect S8192x512 := Rect.unit ![256 * j.val, 256 * q.val] S256x256.size (inbE j q)
/-- The rectangle of maxima of block `j`, lanes of unit `q`. -/
abbrev bR (j : Fin 32) (q : Fin 2) : Rect S256x512 := Rect.unit ![8 * j.val, 256 * q.val] S8x256.size (inbB j q)
/-- The rectangle of final maxima (`k = 0`) and reciprocal sums (`k = 1`), lanes of unit `q`. -/
abbrev sR (k q : Fin 2) : Rect S2x8x512 := Rect.unit ![k.val, 0, 256 * q.val] S1x8x256.size (inbS k q)
/-- The rectangle of the output tile, lanes of unit `q`. -/
abbrev oR (q : Fin 2) : Rect S512x512 := Rect.unit ![0, 256 * q.val] S512x256.size (inbO q)
/-- A quarter of a tile with a leading axis of one. -/
abbrev yR (h q : Fin 2) : Rect S1x512x512 := Rect.unit ![0, 256 * h.val, 256 * q.val] S1x256x256.size (inbQ h q)

/-- Fold `f` of the query tile, lanes of unit `q`. -/
noncomputable def qB (Q : Vec F S1x512x512 .bf16) (f q : Fin 2) : FVec F S256x256 .bf16 :=
  shapeCast S256x256 (View.ld Q (yR f q) : Vec F S1x256x256 .bf16) shapeCasts_S1x256x256_S256x256
/-- Fold `f` of key block `j`. -/
noncomputable def kB (K : Vec F S1x8192x512 .bf16) (j : Fin 32) (f : Fin 2) : FVec F S256x256 .bf16 :=
  shapeCast S256x256 (View.ld K (Rect.unit ![0, 256 * j.val, 256 * f.val] S1x256x256.size (inbK j f)) : Vec F S1x256x256 .bf16) shapeCasts_S1x256x256_S256x256
/-- The value columns of key block `j`. -/
noncomputable def vB (V : Vec F S1x512x8192 .bf16) (j : Fin 32) : FVec F S512x256 .bf16 :=
  shapeCast S512x256 (View.ld V (Rect.unit ![0, 0, 256 * j.val] S1x512x256.size (inbV j)) : Vec F S1x512x256 .bf16) shapeCasts_S1x512x256_S512x256
/-- Codes of fold `f` of the output tile, lanes of unit `q`. -/
noncomputable def cB (C : Vec F S1x512x512 .fp8e4m3) (f q : Fin 2) : FVec F S256x256 .bf16 :=
  extf .bf16 (shapeCast S256x256 (View.ld C (yR f q) : Vec F S1x256x256 .fp8e4m3) shapeCasts_S1x256x256_S256x256 : FVec F S256x256 .fp8e4m3) bitsLt_fp8e4m3_bf16
/-- Half `h`, fold `f` of the projection weight. -/
noncomputable def wB (W : Vec F S512x512 .fp8e4m3) (h f : Fin 2) : FVec F S256x256 .bf16 :=
  extf .bf16 (shapeCast S256x256 (View.ld W (Rect.unit ![256 * h.val, 256 * f.val] S256x256.size (inbW h f)) : Vec F S256x256 .fp8e4m3) shapeCasts_S256x256_S256x256 : FVec F S256x256 .fp8e4m3) bitsLt_fp8e4m3_bf16

/-- The scores of key block `j` as unit `q` computes them: two folds. -/
noncomputable def sc (Q : Vec F S1x512x512 .bf16) (K : Vec F S1x8192x512 .bf16) (j : Fin 32) (q : Fin 2) : FVec F S256x256 .f32 :=
  addf ((sg (qB Q 0 q)).pass (kB K j 0)) ((sg (qB Q 1 q)).pass (kB K j 1))
/-- The probabilities of key block `j`, lanes of unit `q`. -/
noncomputable def pB (E : Vec F S8192x512 .f32) (B : Vec F S256x512 .f32) (S : Vec F S2x8x512 .f32) (j : Fin 32) (q : Fin 2) : FVec F S256x256 .bf16 :=
  pT (View.ld B (bR j q)) (View.ld S (sR 0 q)) (View.ld S (sR 1 q)) (View.ld E (eR j q))
/-- The projection of half `h`, lanes of unit `q`. -/
noncomputable def pj (C : Vec F S1x512x512 .fp8e4m3) (W : Vec F S512x512 .fp8e4m3) (h q : Fin 2) : FVec F S256x256 .f32 :=
  addf ((sg (cB C 0 q)).pass (wB W h 0)) ((sg (cB C 1 q)).pass (wB W h 1))

/-- What the key blocks of a tile leave so far: exponentials, maxima, running maximum and sum, attention output. -/
@[ext] structure BS (F : FTy → Type) where
  f12 : Vec F S8192x512 .f32
  f13 : Vec F S256x512 .f32
  m : Fin 2 → FVec F S8x256 .f32
  l : Fin 2 → FVec F S8x256 .f32
  O : Fin 2 → Option (FVec F (STile 512) .f32)

/-- A key block of the scores. -/
noncomputable def stepS (Q : Vec F S1x512x512 .bf16) (K : Vec F S1x8192x512 .bf16) (j : Fin 32) (a : BS F) : BS F where
  f12 := (eR j 1).overlay ((eR j 0).overlay a.f12 (scE (a.m 0) (sc Q K j 0))) (scE (a.m 1) (sc Q K j 1))
  f13 := (bR j 1).overlay ((bR j 0).overlay a.f13 (scB (a.m 0) (sc Q K j 0))) (scB (a.m 1) (sc Q K j 1))
  m q := scM (a.m q) (sc Q K j q)
  l q := scL (a.m q) (a.l q) (sc Q K j q)
  O := a.O
/-- A key block of the values. -/
noncomputable def stepV (V : Vec F S1x512x8192 .bf16) (S : Vec F S2x8x512 .f32) (j : Fin 32) (a : BS F) : BS F :=
  { a with O := fun q => some (dep (a.O q) ((sg (pB a.f12 a.f13 S j q)).pass (vB V j))) }
/-- A key block of both: the values first, of what the tile before stored. -/
noncomputable def stepSV (Q : Vec F S1x512x512 .bf16) (K : Vec F S1x8192x512 .bf16) (V : Vec F S1x512x8192 .bf16) (S : Vec F S2x8x512 .f32) (j : Fin 32) (a : BS F) : BS F :=
  stepS Q K j (stepV V S j a)

/-- The first `n` blocks. -/
noncomputable def runB (step : Fin 32 → BS F → BS F) (a : BS F) : Nat → BS F
  | 0 => a
  | n + 1 => if h : n < 32 then step ⟨n, h⟩ (runB step a n) else runB step a n

theorem runB_succ (step : Fin 32 → BS F → BS F) (a : BS F) (j : Fin 32) : runB step a (j.val + 1) = step j (runB step a j.val) := by
  rw [runB, dif_pos j.isLt]

/-- Before the first block. -/
noncomputable def bs0 (E : Vec F S8192x512 .f32) (B : Vec F S256x512 .f32) : BS F :=
  ⟨E, B, fun _ => broadcast S8x256 (Scalar.ofBits .f32 0xFF800000#32), fun _ => broadcast S8x256 (Scalar.ofBits .f32 0x00000000#32), fun _ => none⟩

/-- The statistics stored after the last block. -/
noncomputable def statF (S : Vec F S2x8x512 .f32) (a : BS F) : Vec F S2x8x512 .f32 :=
  (sR 1 1).overlay ((sR 0 1).overlay ((sR 1 0).overlay ((sR 0 0).overlay S (stM (a.m 0))) (stL (a.m 0) (a.l 0))) (stM (a.m 1))) (stL (a.m 1) (a.l 1))
/-- The output tile stored after the last block. -/
noncomputable def outF (D : Vec F S512x512 .f32) (a : BS F) : Vec F S512x512 .f32 :=
  (oR 1).overlay ((oR 0).overlay D (oP ((a.O 0).getD (fun _ => Scalar.ofBits .f32 0)))) (oP ((a.O 1).getD (fun _ => Scalar.ofBits .f32 0)))

/-- The sixteenth part of the state each reference holds. -/
@[ext] structure Mem (F : FTy → Type) where
  f1 : Vec F S1x512x512 .bf16
  f2 : Vec F S1x8192x512 .bf16
  f3 : Vec F S1x512x8192 .bf16
  f4 : Vec F S1x512x512 .bf16
  f5 : Vec F S512x512 .fp8e4m3
  f6 : Vec F S512x1 .f32
  f7 : Vec F S512x1 .f32
  f8 : Vec F S1x512x512 .bf16
  f9 : Vec F S1x512x512 .bf16
  f10 : Vec F S1x512x512 .fp8e4m3
  f11 : Vec F S1x1x512 .f32
  f12 : Vec F S8192x512 .f32
  f13 : Vec F S256x512 .f32
  f14 : Vec F S2x8x512 .f32
  f15 : Vec F S512x512 .f32

namespace Mem
/-- The exponentials and maxima replaced. -/
abbrev up (x : Mem F) (a : BS F) : Mem F := { x with f12 := a.f12, f13 := a.f13 }
/-- The output tile quantised. -/
noncomputable abbrev quant (x : Mem F) : Mem F :=
  { x with
    f10 := (Rect.unit (s := S1x512x512) ![0, 0, 0] S1x512x512.size inb_S1x512x512_S1x512x512_0_0_0).overlay x.f10 (qCodes (View.ld x.f15 (Rect.unit (s := S512x512) ![0, 0] S512x512.size inb_S512x512_S512x512_0_0)))
    f11 := (Rect.unit (s := S1x1x512) ![0, 0, 0] S1x1x512.size inb_S1x1x512_S1x1x512_0_0_0).overlay x.f11 (qScale (View.ld x.f15 (Rect.unit (s := S512x512) ![0, 0] S512x512.size inb_S512x512_S512x512_0_0))) }
/-- What the projection of half `h`, lanes of unit `q`, stores. -/
noncomputable abbrev pv (x : Mem F) (h q : Fin 2) : FVec F S1x256x256 .bf16 :=
  prV (pj x.f10 x.f5 h q) (View.ld x.f11 (Rect.unit ![0, 0, 256 * q.val] S1x1x256.size (inbL q))) (View.ld x.f6 (Rect.unit ![256 * h.val, 0] S256x1.size (inbC h))) (View.ld x.f7 (Rect.unit ![256 * h.val, 0] S256x1.size (inbC h)))
/-- What it stores with the residual added. -/
noncomputable abbrev pr (x : Mem F) (h q : Fin 2) : FVec F S1x256x256 .bf16 :=
  prR (pj x.f10 x.f5 h q) (View.ld x.f11 (Rect.unit ![0, 0, 256 * q.val] S1x1x256.size (inbL q))) (View.ld x.f6 (Rect.unit ![256 * h.val, 0] S256x1.size (inbC h))) (View.ld x.f7 (Rect.unit ![256 * h.val, 0] S256x1.size (inbC h)))
    (View.ld x.f4 (yR h q))
/-- Half `h` of the projection, lanes of unit `q`, stored. -/
noncomputable abbrev proj1 (x : Mem F) (h q : Fin 2) : Mem F :=
  { x with f8 := (yR h q).overlay x.f8 (x.pr h q), f9 := (yR h q).overlay x.f9 (x.pv h q) }
/-- Half `h` of the projection stored. -/
noncomputable abbrev proj (x : Mem F) (h : Fin 2) : Mem F := (x.proj1 h 0).proj1 h 1
end Mem

end Cert.AttnIdeal.Body

end
-- ==== Proof.AttnPieces.lean ====
/- What each piece of the attention kernel does to the state: the memory references and the two matrix units. -/
module

public import proofs.«01_k».proof.Proof.AttnFun

@[expose] public section

set_option maxRecDepth 16384
set_option pp.maxSteps 300

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Facts₀ Facts
open Cert.MxuAbs Mxu Cert.Hoare

variable {F : FTy → Type} [FloatOps F] [Named F] [Facts]
variable (arg1 : Memref sig .tc .vmem S1x512x512 .bf16) (harg1 : arg1.IsWhole)
variable (arg2 : Memref sig .tc .vmem S1x8192x512 .bf16) (harg2 : arg2.IsWhole)
variable (arg3 : Memref sig .tc .vmem S1x512x8192 .bf16) (harg3 : arg3.IsWhole)
variable (arg4 : Memref sig .tc .vmem S1x512x512 .bf16) (harg4 : arg4.IsWhole)
variable (arg5 : Memref sig .tc .vmem S512x512 .fp8e4m3) (harg5 : arg5.IsWhole)
variable (arg6 : Memref sig .tc .vmem S512x1 .f32) (harg6 : arg6.IsWhole)
variable (arg7 : Memref sig .tc .vmem S512x1 .f32) (harg7 : arg7.IsWhole)
variable (arg8 : Memref sig .tc .vmem S1x512x512 .bf16) (harg8 : arg8.IsWhole)
variable (arg9 : Memref sig .tc .vmem S1x512x512 .bf16) (harg9 : arg9.IsWhole)
variable (arg10 : Memref sig .tc .vmem S1x512x512 .fp8e4m3) (harg10 : arg10.IsWhole)
variable (arg11 : Memref sig .tc .vmem S1x1x512 .f32) (harg11 : arg11.IsWhole)
variable (arg12 : Memref sig .tc .vmem S8192x512 .f32) (harg12 : arg12.IsWhole)
variable (arg13 : Memref sig .tc .vmem S256x512 .f32) (harg13 : arg13.IsWhole)
variable (arg14 : Memref sig .tc .vmem S2x8x512 .f32) (harg14 : arg14.IsWhole)
variable (arg15 : Memref sig .tc .vmem S512x512 .f32) (harg15 : arg15.IsWhole)
variable (c : Dev nD) (R : sProp (MM nD τ sig F))

/-- The references hold the state. -/
def St (x : Mem F) : sProp (MM nD τ sig F) :=
  iprop(owns (c : Thread nD τ) arg1 fullShare x.f1 ∗ owns (c : Thread nD τ) arg2 fullShare x.f2 ∗ owns (c : Thread nD τ) arg3 fullShare x.f3 ∗ owns (c : Thread nD τ) arg4 fullShare x.f4 ∗ owns (c : Thread nD τ) arg5 fullShare x.f5 ∗ owns (c : Thread nD τ) arg6 fullShare x.f6 ∗ owns (c : Thread nD τ) arg7 fullShare x.f7 ∗ owns (c : Thread nD τ) arg8 fullShare x.f8 ∗ owns (c : Thread nD τ) arg9 fullShare x.f9 ∗ owns (c : Thread nD τ) arg10 fullShare x.f10 ∗ owns (c : Thread nD τ) arg11 fullShare x.f11 ∗ owns (c : Thread nD τ) arg12 fullShare x.f12 ∗ owns (c : Thread nD τ) arg13 fullShare x.f13 ∗ owns (c : Thread nD τ) arg14 fullShare x.f14 ∗ owns (c : Thread nD τ) arg15 fullShare x.f15 ∗ R)

theorem fld1 : Field (τ := τ) (St arg1 arg2 arg3 arg4 arg5 arg6 arg7 arg8 arg9 arg10 arg11 arg12 arg13 arg14 arg15 c R) c arg1 Mem.f1 (fun x X => { x with f1 := X }) where
  out x := by
    unfold St
    iintro ⟨H1, H2, H3, H4, H5, H6, H7, H8, H9, H10, H11, H12, H13, H14, H15, HR⟩
    isplitl [H1]; · iexact H1
    iintro %X H1
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld2 : Field (τ := τ) (St arg1 arg2 arg3 arg4 arg5 arg6 arg7 arg8 arg9 arg10 arg11 arg12 arg13 arg14 arg15 c R) c arg2 Mem.f2 (fun x X => { x with f2 := X }) where
  out x := by
    unfold St
    iintro ⟨H1, H2, H3, H4, H5, H6, H7, H8, H9, H10, H11, H12, H13, H14, H15, HR⟩
    isplitl [H2]; · iexact H2
    iintro %X H2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld3 : Field (τ := τ) (St arg1 arg2 arg3 arg4 arg5 arg6 arg7 arg8 arg9 arg10 arg11 arg12 arg13 arg14 arg15 c R) c arg3 Mem.f3 (fun x X => { x with f3 := X }) where
  out x := by
    unfold St
    iintro ⟨H1, H2, H3, H4, H5, H6, H7, H8, H9, H10, H11, H12, H13, H14, H15, HR⟩
    isplitl [H3]; · iexact H3
    iintro %X H3
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld4 : Field (τ := τ) (St arg1 arg2 arg3 arg4 arg5 arg6 arg7 arg8 arg9 arg10 arg11 arg12 arg13 arg14 arg15 c R) c arg4 Mem.f4 (fun x X => { x with f4 := X }) where
  out x := by
    unfold St
    iintro ⟨H1, H2, H3, H4, H5, H6, H7, H8, H9, H10, H11, H12, H13, H14, H15, HR⟩
    isplitl [H4]; · iexact H4
    iintro %X H4
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld5 : Field (τ := τ) (St arg1 arg2 arg3 arg4 arg5 arg6 arg7 arg8 arg9 arg10 arg11 arg12 arg13 arg14 arg15 c R) c arg5 Mem.f5 (fun x X => { x with f5 := X }) where
  out x := by
    unfold St
    iintro ⟨H1, H2, H3, H4, H5, H6, H7, H8, H9, H10, H11, H12, H13, H14, H15, HR⟩
    isplitl [H5]; · iexact H5
    iintro %X H5
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld6 : Field (τ := τ) (St arg1 arg2 arg3 arg4 arg5 arg6 arg7 arg8 arg9 arg10 arg11 arg12 arg13 arg14 arg15 c R) c arg6 Mem.f6 (fun x X => { x with f6 := X }) where
  out x := by
    unfold St
    iintro ⟨H1, H2, H3, H4, H5, H6, H7, H8, H9, H10, H11, H12, H13, H14, H15, HR⟩
    isplitl [H6]; · iexact H6
    iintro %X H6
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld7 : Field (τ := τ) (St arg1 arg2 arg3 arg4 arg5 arg6 arg7 arg8 arg9 arg10 arg11 arg12 arg13 arg14 arg15 c R) c arg7 Mem.f7 (fun x X => { x with f7 := X }) where
  out x := by
    unfold St
    iintro ⟨H1, H2, H3, H4, H5, H6, H7, H8, H9, H10, H11, H12, H13, H14, H15, HR⟩
    isplitl [H7]; · iexact H7
    iintro %X H7
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld8 : Field (τ := τ) (St arg1 arg2 arg3 arg4 arg5 arg6 arg7 arg8 arg9 arg10 arg11 arg12 arg13 arg14 arg15 c R) c arg8 Mem.f8 (fun x X => { x with f8 := X }) where
  out x := by
    unfold St
    iintro ⟨H1, H2, H3, H4, H5, H6, H7, H8, H9, H10, H11, H12, H13, H14, H15, HR⟩
    isplitl [H8]; · iexact H8
    iintro %X H8
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld9 : Field (τ := τ) (St arg1 arg2 arg3 arg4 arg5 arg6 arg7 arg8 arg9 arg10 arg11 arg12 arg13 arg14 arg15 c R) c arg9 Mem.f9 (fun x X => { x with f9 := X }) where
  out x := by
    unfold St
    iintro ⟨H1, H2, H3, H4, H5, H6, H7, H8, H9, H10, H11, H12, H13, H14, H15, HR⟩
    isplitl [H9]; · iexact H9
    iintro %X H9
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld10 : Field (τ := τ) (St arg1 arg2 arg3 arg4 arg5 arg6 arg7 arg8 arg9 arg10 arg11 arg12 arg13 arg14 arg15 c R) c arg10 Mem.f10 (fun x X => { x with f10 := X }) where
  out x := by
    unfold St
    iintro ⟨H1, H2, H3, H4, H5, H6, H7, H8, H9, H10, H11, H12, H13, H14, H15, HR⟩
    isplitl [H10]; · iexact H10
    iintro %X H10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld11 : Field (τ := τ) (St arg1 arg2 arg3 arg4 arg5 arg6 arg7 arg8 arg9 arg10 arg11 arg12 arg13 arg14 arg15 c R) c arg11 Mem.f11 (fun x X => { x with f11 := X }) where
  out x := by
    unfold St
    iintro ⟨H1, H2, H3, H4, H5, H6, H7, H8, H9, H10, H11, H12, H13, H14, H15, HR⟩
    isplitl [H11]; · iexact H11
    iintro %X H11
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld12 : Field (τ := τ) (St arg1 arg2 arg3 arg4 arg5 arg6 arg7 arg8 arg9 arg10 arg11 arg12 arg13 arg14 arg15 c R) c arg12 Mem.f12 (fun x X => { x with f12 := X }) where
  out x := by
    unfold St
    iintro ⟨H1, H2, H3, H4, H5, H6, H7, H8, H9, H10, H11, H12, H13, H14, H15, HR⟩
    isplitl [H12]; · iexact H12
    iintro %X H12
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld13 : Field (τ := τ) (St arg1 arg2 arg3 arg4 arg5 arg6 arg7 arg8 arg9 arg10 arg11 arg12 arg13 arg14 arg15 c R) c arg13 Mem.f13 (fun x X => { x with f13 := X }) where
  out x := by
    unfold St
    iintro ⟨H1, H2, H3, H4, H5, H6, H7, H8, H9, H10, H11, H12, H13, H14, H15, HR⟩
    isplitl [H13]; · iexact H13
    iintro %X H13
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld14 : Field (τ := τ) (St arg1 arg2 arg3 arg4 arg5 arg6 arg7 arg8 arg9 arg10 arg11 arg12 arg13 arg14 arg15 c R) c arg14 Mem.f14 (fun x X => { x with f14 := X }) where
  out x := by
    unfold St
    iintro ⟨H1, H2, H3, H4, H5, H6, H7, H8, H9, H10, H11, H12, H13, H14, H15, HR⟩
    isplitl [H14]; · iexact H14
    iintro %X H14
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld15 : Field (τ := τ) (St arg1 arg2 arg3 arg4 arg5 arg6 arg7 arg8 arg9 arg10 arg11 arg12 arg13 arg14 arg15 c R) c arg15 Mem.f15 (fun x X => { x with f15 := X }) where
  out x := by
    unfold St
    iintro ⟨H1, H2, H3, H4, H5, H6, H7, H8, H9, H10, H11, H12, H13, H14, H15, HR⟩
    isplitl [H15]; · iexact H15
    iintro %X H15
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

variable (defs : Defs nD τ sig (Elt F) Λ₀)

/-- Programs run from a state of the references. -/
abbrev TT {α : Type} (p : Prog (TpuEff nD τ sig (Elt F) Λ₀ .tc) α) (x : Mem F) (Q : α → Mem F → Prop) : Prop :=
  T defs c (St arg1 arg2 arg3 arg4 arg5 arg6 arg7 arg8 arg9 arg10 arg11 arg12 arg13 arg14 arg15 c R) p x Q

variable {arg1 arg2 arg3 arg4 arg5 arg6 arg7 arg8 arg9 arg10 arg11 arg12 arg13 arg14 arg15 c R defs}

theorem accK_spec (b : Bool) (o : Fin 3 → Nat) (ho : ∀ a, o a + S1x256x256.size a ≤ S1x8192x512.size a) {s : Mxu F} {m : MA F} {x : Mem F}
    (j : Fin 32) (f : Fin 2) (e : o = ![0, 256 * j.val, 256 * f.val]) (H : Abs s m) :
    TT arg1 arg2 arg3 arg4 arg5 arg6 arg7 arg8 arg9 arg10 arg11 arg12 arg13 arg14 arg15 c R defs (accK arg2 (adr b) (fitsA b) o ho s) x
      (fun s' y => y = x ∧ Abs s' ((m.accH 0 0 b (kB x.f2 j f)).accH 1 0 b (kB x.f2 j f))) := by
  subst e
  unfold accK
  refine T_bind (T_load (fld2 arg1 arg2 arg3 arg4 arg5 arg6 arg7 arg8 arg9 arg10 arg11 arg12 arg13 arg14 arg15 c R)) ?_
  rintro _ _ ⟨rfl, rfl⟩
  refine T_bind (T_load (fld2 arg1 arg2 arg3 arg4 arg5 arg6 arg7 arg8 arg9 arg10 arg11 arg12 arg13 arg14 arg15 c R)) ?_
  rintro _ _ ⟨rfl, rfl⟩
  exact T_pure _ ⟨rfl, (H.accH 0 0 b _ _).accH 1 0 b _ _⟩

theorem pushQ_spec (o : Fin 3 → Nat) (ho : ∀ a, o a + S1x256x256.size a ≤ S1x512x512.size a) (p : Fin 3 → Nat) (hp : ∀ a, p a + S1x256x256.size a ≤ S1x512x512.size a)
    {s : Mxu F} {m : MA F} {x : Mem F}
    (f : Fin 2) (e : o = ![0, 256 * f.val, 0]) (e' : p = ![0, 256 * f.val, 256]) (H : Abs s m) (h0 : m.reg 0 0 = none) (h1 : m.reg 1 0 = none) :
    TT arg1 arg2 arg3 arg4 arg5 arg6 arg7 arg8 arg9 arg10 arg11 arg12 arg13 arg14 arg15 c R defs (pushQ arg1 o ho p hp s) x
      (fun s' y => y = x ∧ Abs s' ((m.push 0 0 (qB x.f1 f 0)).push 1 0 (qB x.f1 f 1))) := by
  subst e e'
  unfold pushQ
  refine T_bind (T_load (fld1 arg1 arg2 arg3 arg4 arg5 arg6 arg7 arg8 arg9 arg10 arg11 arg12 arg13 arg14 arg15 c R)) ?_
  rintro v y ⟨rfl, ey⟩; subst y
  refine T_bind (T_push _ (by rw [H.reg, h0]) ⟨rfl, H.push 0 0 _ h0⟩ (Q := fun s' y => y = x ∧ Abs s' (m.push 0 0 (qB x.f1 f 0)))) ?_
  rintro s' y ⟨ey, H'⟩; subst y
  refine T_bind (T_load (fld1 arg1 arg2 arg3 arg4 arg5 arg6 arg7 arg8 arg9 arg10 arg11 arg12 arg13 arg14 arg15 c R)) ?_
  rintro v y ⟨rfl, ey⟩; subst y
  refine T_bind (T_push _ (by rw [H'.reg]; simp [MA.push, h1]) ⟨rfl, H'.push 1 0 _ (by simp [MA.push, h1])⟩ (Q := fun s' y' => y' = x ∧ Abs s' ((m.push 0 0 (qB x.f1 f 0)).push 1 0 (qB x.f1 f 1)))) ?_
  rintro s' y ⟨ey, H''⟩; subst y
  exact T_pure _ ⟨rfl, H''⟩

theorem valP_spec (q : Fin 2) (ob : Fin 2 → Nat) (hob : ∀ a, ob a + S8x256.size a ≤ S256x512.size a) (oa : Fin 3 → Nat) (hoa : ∀ a, oa a + S1x8x256.size a ≤ S2x8x512.size a) (ol : Fin 3 → Nat) (hol : ∀ a, ol a + S1x8x256.size a ≤ S2x8x512.size a)
    (oe : Fin 2 → Nat) (hoe : ∀ a, oe a + S256x256.size a ≤ S8192x512.size a) {s : Mxu F} {m : MA F} {x : Mem F}
    (j : Fin 32) (eb : ob = ![8 * j.val, 256 * q.val]) (ea : oa = ![0, 0, 256 * q.val]) (el : ol = ![1, 0, 256 * q.val]) (ee : oe = ![256 * j.val, 256 * q.val])
    (H : Abs s m) (h1 : m.reg q 1 = none) :
    TT arg1 arg2 arg3 arg4 arg5 arg6 arg7 arg8 arg9 arg10 arg11 arg12 arg13 arg14 arg15 c R defs (valP arg12 arg13 arg14 q ob hob oa hoa ol hol oe hoe s) x
      (fun s' y => y = x ∧ Abs s' (m.push q 1 (pB x.f12 x.f13 x.f14 j q))) := by
  subst eb ea el ee
  unfold valP
  refine T_bind (T_load (fld13 arg1 arg2 arg3 arg4 arg5 arg6 arg7 arg8 arg9 arg10 arg11 arg12 arg13 arg14 arg15 c R)) ?_
  rintro _ _ ⟨rfl, rfl⟩
  refine T_bind (T_load (fld14 arg1 arg2 arg3 arg4 arg5 arg6 arg7 arg8 arg9 arg10 arg11 arg12 arg13 arg14 arg15 c R)) ?_
  rintro _ _ ⟨rfl, rfl⟩
  refine T_bind (T_load (fld14 arg1 arg2 arg3 arg4 arg5 arg6 arg7 arg8 arg9 arg10 arg11 arg12 arg13 arg14 arg15 c R)) ?_
  rintro _ _ ⟨rfl, rfl⟩
  refine T_bind (T_load (fld12 arg1 arg2 arg3 arg4 arg5 arg6 arg7 arg8 arg9 arg10 arg11 arg12 arg13 arg14 arg15 c R)) ?_
  rintro _ y ⟨rfl, rfl⟩
  refine T_bind (T_push _ (by rw [H.reg, h1]) ⟨rfl, H.push q 1 _ h1⟩ (Q := fun s' y' => y' = y ∧ Abs s' (m.push q 1 (pB y.f12 y.f13 y.f14 j q)))) ?_
  rintro s' _ ⟨rfl, H'⟩
  exact T_pure _ ⟨rfl, H'⟩

theorem accV_spec (o : Fin 3 → Nat) (ho : ∀ a, o a + S1x512x256.size a ≤ S1x512x8192.size a) {s : Mxu F} {m : MA F} {x : Mem F}
    (j : Fin 32) (e : o = ![0, 0, 256 * j.val]) (H : Abs s m) :
    TT arg1 arg2 arg3 arg4 arg5 arg6 arg7 arg8 arg9 arg10 arg11 arg12 arg13 arg14 arg15 c R defs (accV arg3 o ho s) x
      (fun s' y => y = x ∧ Abs s' ((m.accO 0 1 (vB x.f3 j)).accO 1 1 (vB x.f3 j))) := by
  subst e
  unfold accV
  refine T_bind (T_load (fld3 arg1 arg2 arg3 arg4 arg5 arg6 arg7 arg8 arg9 arg10 arg11 arg12 arg13 arg14 arg15 c R)) ?_
  rintro _ _ ⟨rfl, rfl⟩
  refine T_bind (T_load (fld3 arg1 arg2 arg3 arg4 arg5 arg6 arg7 arg8 arg9 arg10 arg11 arg12 arg13 arg14 arg15 c R)) ?_
  rintro _ _ ⟨rfl, rfl⟩
  exact T_pure _ ⟨rfl, (H.accO 0 1 _ _).accO 1 1 _ _⟩

theorem scF_spec (q : Fin 2) (b : Bool) (ob : Fin 2 → Nat) (hob : ∀ a, ob a + S8x256.size a ≤ S256x512.size a) (oe : Fin 2 → Nat) (hoe : ∀ a, oe a + S256x256.size a ≤ S8192x512.size a)
    (mm ll : FVec F S8x256 .f32) {s : Mxu F} {m : MA F} {x : Mem F} (j : Fin 32) (eb : ob = ![8 * j.val, 256 * q.val]) (ee : oe = ![256 * j.val, 256 * q.val])
    (H : Abs s m) {v : FVec F S256x256 .f32} (hv : m.h q b = some v) :
    TT arg1 arg2 arg3 arg4 arg5 arg6 arg7 arg8 arg9 arg10 arg11 arg12 arg13 arg14 arg15 c R defs (scF arg12 arg13 q (adr b) (fitsA b) ob hob oe hoe mm ll s) x
      (fun r y => y = { x with f12 := (eR j q).overlay x.f12 (scE mm v), f13 := (bR j q).overlay x.f13 (scB mm v) }
        ∧ r.1 = scM mm v ∧ r.2.1 = scL mm ll v ∧ Abs r.2.2 (m.popH q b)) := by
  subst eb ee
  obtain rfl := H.read_h q b hv (fitsA b)
  unfold scF
  refine T_bind (T_load (fld12 arg1 arg2 arg3 arg4 arg5 arg6 arg7 arg8 arg9 arg10 arg11 arg12 arg13 arg14 arg15 c R)) ?_
  rintro _ _ ⟨rfl, rfl⟩
  refine T_bind (T_store (fld12 arg1 arg2 arg3 arg4 arg5 arg6 arg7 arg8 arg9 arg10 arg11 arg12 arg13 arg14 arg15 c R)) ?_
  rintro _ _ rfl
  refine T_bind (T_load (fld13 arg1 arg2 arg3 arg4 arg5 arg6 arg7 arg8 arg9 arg10 arg11 arg12 arg13 arg14 arg15 c R)) ?_
  rintro _ _ ⟨rfl, rfl⟩
  refine T_bind (T_store (fld13 arg1 arg2 arg3 arg4 arg5 arg6 arg7 arg8 arg9 arg10 arg11 arg12 arg13 arg14 arg15 c R)) ?_
  rintro _ _ rfl
  show T _ _ _ (pure (scM mm (s.read q (adr b) (fitsA b)), scL mm ll (s.read q (adr b) (fitsA b)), s.pop q (adr b) 256 (fitsA b))) _ _
  refine T_pure _ ?_
  exact ⟨rfl, rfl, rfl, H.popH q b (fitsA b)⟩

theorem quantO_spec {x : Mem F} :
    TT arg1 arg2 arg3 arg4 arg5 arg6 arg7 arg8 arg9 arg10 arg11 arg12 arg13 arg14 arg15 c R defs (quantO arg10 harg10 arg11 arg15) x (fun _ y => y = x.quant) := by
  unfold quantO
  refine T_bind (T_load (fld15 arg1 arg2 arg3 arg4 arg5 arg6 arg7 arg8 arg9 arg10 arg11 arg12 arg13 arg14 arg15 c R)) ?_
  rintro _ _ ⟨rfl, rfl⟩
  refine T_bind (T_load (fld10 arg1 arg2 arg3 arg4 arg5 arg6 arg7 arg8 arg9 arg10 arg11 arg12 arg13 arg14 arg15 c R)) ?_
  rintro _ _ ⟨rfl, rfl⟩
  refine T_bind (T_store (fld10 arg1 arg2 arg3 arg4 arg5 arg6 arg7 arg8 arg9 arg10 arg11 arg12 arg13 arg14 arg15 c R)) ?_
  rintro _ _ rfl
  refine T_bind (T_load (fld11 arg1 arg2 arg3 arg4 arg5 arg6 arg7 arg8 arg9 arg10 arg11 arg12 arg13 arg14 arg15 c R)) ?_
  rintro _ _ ⟨rfl, rfl⟩
  refine T_bind (T_store (fld11 arg1 arg2 arg3 arg4 arg5 arg6 arg7 arg8 arg9 arg10 arg11 arg12 arg13 arg14 arg15 c R)) ?_
  rintro _ _ rfl
  exact T_pure _ rfl

theorem popO_spec (q : Fin 2) (o : Fin 2 → Nat) (ho : ∀ a, o a + S512x256.size a ≤ S512x512.size a) {s : Mxu F} {m : MA F} {x : Mem F}
    (e : o = ![0, 256 * q.val]) (H : Abs s m) {v : FVec F S512x256 .f32} (hv : m.o q = some v) :
    TT arg1 arg2 arg3 arg4 arg5 arg6 arg7 arg8 arg9 arg10 arg11 arg12 arg13 arg14 arg15 c R defs (popO arg15 q o ho s) x (fun s' y => y = { x with f15 := (oR q).overlay x.f15 (oP v) } ∧ Abs s' (m.popO q)) := by
  subst e
  obtain rfl := H.read_o q hv fits_0_512
  unfold popO
  refine T_bind (T_load (fld15 arg1 arg2 arg3 arg4 arg5 arg6 arg7 arg8 arg9 arg10 arg11 arg12 arg13 arg14 arg15 c R)) ?_
  rintro _ _ ⟨rfl, rfl⟩
  refine T_bind (T_store (fld15 arg1 arg2 arg3 arg4 arg5 arg6 arg7 arg8 arg9 arg10 arg11 arg12 arg13 arg14 arg15 c R)) ?_
  rintro _ _ rfl
  exact T_pure _ ⟨rfl, H.popO q _⟩

set_option maxHeartbeats 4000000 in
theorem stat_spec (q : Fin 2) (oa : Fin 3 → Nat) (hoa : ∀ a, oa a + S1x8x256.size a ≤ S2x8x512.size a) (ol : Fin 3 → Nat) (hol : ∀ a, ol a + S1x8x256.size a ≤ S2x8x512.size a)
    (mm ll : FVec F S8x256 .f32) {x : Mem F} (ea : oa = ![0, 0, 256 * q.val]) (el : ol = ![1, 0, 256 * q.val]) :
    TT arg1 arg2 arg3 arg4 arg5 arg6 arg7 arg8 arg9 arg10 arg11 arg12 arg13 arg14 arg15 c R defs (stat arg14 oa hoa ol hol mm ll) x
      (fun _ y => y = { x with f14 := (sR 1 q).overlay ((sR 0 q).overlay x.f14 (stM mm)) (stL mm ll) }) := by
  subst ea el
  unfold stat
  refine T_bind (T_load (fld14 arg1 arg2 arg3 arg4 arg5 arg6 arg7 arg8 arg9 arg10 arg11 arg12 arg13 arg14 arg15 c R)) ?_
  rintro _ _ ⟨rfl, rfl⟩
  refine T_bind (T_store (fld14 arg1 arg2 arg3 arg4 arg5 arg6 arg7 arg8 arg9 arg10 arg11 arg12 arg13 arg14 arg15 c R)) ?_
  rintro _ _ rfl
  refine T_bind (T_load (fld14 arg1 arg2 arg3 arg4 arg5 arg6 arg7 arg8 arg9 arg10 arg11 arg12 arg13 arg14 arg15 c R)) ?_
  rintro _ _ ⟨rfl, rfl⟩
  refine T_bind (T_store (fld14 arg1 arg2 arg3 arg4 arg5 arg6 arg7 arg8 arg9 arg10 arg11 arg12 arg13 arg14 arg15 c R)) ?_
  rintro _ _ rfl
  exact T_pure _ rfl

set_option maxHeartbeats 4000000 in
theorem projF_spec (q h : Fin 2) (b : Bool) (os : Fin 3 → Nat) (hos : ∀ a, os a + S1x1x256.size a ≤ S1x1x512.size a) (ow : Fin 2 → Nat) (how : ∀ a, ow a + S256x1.size a ≤ S512x1.size a)
    (o : Fin 3 → Nat) (ho : ∀ a, o a + S1x256x256.size a ≤ S1x512x512.size a)
    (pk : (Rect.unit (s := S1x512x512) o S1x256x256.size ho).PackedRows (EltTy.packing .bf16)) {s : Mxu F} {m : MA F} {x : Mem F}
    (es : os = ![0, 0, 256 * q.val]) (ew : ow = ![256 * h.val, 0]) (e : o = ![0, 256 * h.val, 256 * q.val])
    (H : Abs s m) (hv : m.h q b = some (pj x.f10 x.f5 h q)) :
    TT arg1 arg2 arg3 arg4 arg5 arg6 arg7 arg8 arg9 arg10 arg11 arg12 arg13 arg14 arg15 c R defs (projF arg4 arg6 arg7 arg8 harg8 arg9 harg9 arg11 q (adr b) (fitsA b) os hos ow how o ho pk s) x
      (fun s' y => y = x.proj1 h q ∧ Abs s' (m.popH q b)) := by
  subst es ew e
  have hr := H.read_h q b hv (fitsA b)
  unfold projF
  rw [hr]
  refine T_bind (T_load (fld11 arg1 arg2 arg3 arg4 arg5 arg6 arg7 arg8 arg9 arg10 arg11 arg12 arg13 arg14 arg15 c R)) ?_
  rintro _ _ ⟨rfl, rfl⟩
  refine T_bind (T_load (fld6 arg1 arg2 arg3 arg4 arg5 arg6 arg7 arg8 arg9 arg10 arg11 arg12 arg13 arg14 arg15 c R)) ?_
  rintro _ _ ⟨rfl, rfl⟩
  refine T_bind (T_load (fld7 arg1 arg2 arg3 arg4 arg5 arg6 arg7 arg8 arg9 arg10 arg11 arg12 arg13 arg14 arg15 c R)) ?_
  rintro _ _ ⟨rfl, rfl⟩
  refine T_bind (T_load (fld9 arg1 arg2 arg3 arg4 arg5 arg6 arg7 arg8 arg9 arg10 arg11 arg12 arg13 arg14 arg15 c R)) ?_
  rintro _ _ ⟨rfl, rfl⟩
  refine T_bind (T_store (fld9 arg1 arg2 arg3 arg4 arg5 arg6 arg7 arg8 arg9 arg10 arg11 arg12 arg13 arg14 arg15 c R)) ?_
  rintro _ _ rfl
  refine T_bind (T_load (fld4 arg1 arg2 arg3 arg4 arg5 arg6 arg7 arg8 arg9 arg10 arg11 arg12 arg13 arg14 arg15 c R)) ?_
  rintro _ _ ⟨rfl, rfl⟩
  refine T_bind (T_load (fld8 arg1 arg2 arg3 arg4 arg5 arg6 arg7 arg8 arg9 arg10 arg11 arg12 arg13 arg14 arg15 c R)) ?_
  rintro _ _ ⟨rfl, rfl⟩
  refine T_bind (T_store (fld8 arg1 arg2 arg3 arg4 arg5 arg6 arg7 arg8 arg9 arg10 arg11 arg12 arg13 arg14 arg15 c R)) ?_
  rintro _ _ rfl
  exact T_pure _ ⟨rfl, H.popH q b _⟩

theorem projAcc_spec (b : Bool) (o : Fin 2 → Nat) (ho : ∀ a, o a + S256x256.size a ≤ S512x512.size a) (p : Fin 2 → Nat) (hp : ∀ a, p a + S256x256.size a ≤ S512x512.size a)
    {s : Mxu F} {m : MA F} {x : Mem F} (h : Fin 2) (eo : o = ![256 * h.val, 0]) (ep : p = ![256 * h.val, 256]) (H : Abs s m)
    (h0 : ∀ q, m.reg q 1 = none) (hh : ∀ q, m.h q b = none) :
    TT arg1 arg2 arg3 arg4 arg5 arg6 arg7 arg8 arg9 arg10 arg11 arg12 arg13 arg14 arg15 c R defs (projAcc arg5 arg10 (adr b) (fitsA b) o ho p hp s) x
      (fun s' y => y = x ∧ Abs s' { m with h := fun q b' => if b' = b then some (pj x.f10 x.f5 h q) else m.h q b' }) := by
  subst eo ep
  unfold projAcc
  refine T_bind (T_load (fld10 arg1 arg2 arg3 arg4 arg5 arg6 arg7 arg8 arg9 arg10 arg11 arg12 arg13 arg14 arg15 c R)) ?_
  rintro v y ⟨rfl, ey⟩; subst y
  refine T_bind (T_push _ (by rw [H.reg, h0]) ⟨rfl, H.push 0 1 _ (h0 0)⟩ (Q := fun s' y' => y' = x ∧ Abs s' (m.push 0 1 (cB x.f10 0 0)))) ?_
  rintro s1 y ⟨ey, H1⟩; subst y
  refine T_bind (T_load (fld10 arg1 arg2 arg3 arg4 arg5 arg6 arg7 arg8 arg9 arg10 arg11 arg12 arg13 arg14 arg15 c R)) ?_
  rintro v y ⟨rfl, ey⟩; subst y
  refine T_bind (T_push _ (by rw [H1.reg]; simp [MA.push, h0]) ⟨rfl, H1.push 1 1 _ (by simp [MA.push, h0])⟩ (Q := fun s' y' => y' = x ∧ Abs s' ((m.push 0 1 (cB x.f10 0 0)).push 1 1 (cB x.f10 0 1)))) ?_
  rintro s2 y ⟨ey, H2⟩; subst y
  refine T_bind (T_load (fld5 arg1 arg2 arg3 arg4 arg5 arg6 arg7 arg8 arg9 arg10 arg11 arg12 arg13 arg14 arg15 c R)) ?_
  rintro v y ⟨rfl, ey⟩; subst y
  refine T_bind (T_load (fld5 arg1 arg2 arg3 arg4 arg5 arg6 arg7 arg8 arg9 arg10 arg11 arg12 arg13 arg14 arg15 c R)) ?_
  rintro v y ⟨rfl, ey⟩; subst y
  have H3 := (H2.accH 0 1 b (wB x.f5 h 0) (fitsA b)).accH 1 1 b (wB x.f5 h 0) (fitsA b)
  refine T_bind (T_load (fld10 arg1 arg2 arg3 arg4 arg5 arg6 arg7 arg8 arg9 arg10 arg11 arg12 arg13 arg14 arg15 c R)) ?_
  rintro v y ⟨rfl, ey⟩; subst y
  refine T_bind (T_push _ (by refine (H3.reg 0 1).trans ?_; simp [MA.push, MA.accH]) ⟨rfl, H3.push 0 1 _ (by simp [MA.push, MA.accH])⟩ (Q := fun s' y' => y' = x ∧ Abs s' ((((m.push 0 1 (cB x.f10 0 0)).push 1 1 (cB x.f10 0 1)).accH 0 1 b (wB x.f5 h 0)).accH 1 1 b (wB x.f5 h 0) |>.push 0 1 (cB x.f10 1 0)))) ?_
  rintro s4 y ⟨ey, H4⟩; subst y
  refine T_bind (T_load (fld10 arg1 arg2 arg3 arg4 arg5 arg6 arg7 arg8 arg9 arg10 arg11 arg12 arg13 arg14 arg15 c R)) ?_
  rintro v y ⟨rfl, ey⟩; subst y
  refine T_bind (T_push _ (by rw [H4.reg]; simp [MA.push, MA.accH]) ⟨rfl, H4.push 1 1 _ (by simp [MA.push, MA.accH])⟩ (Q := fun s' y' => y' = x ∧ Abs s' ((((m.push 0 1 (cB x.f10 0 0)).push 1 1 (cB x.f10 0 1)).accH 0 1 b (wB x.f5 h 0)).accH 1 1 b (wB x.f5 h 0) |>.push 0 1 (cB x.f10 1 0) |>.push 1 1 (cB x.f10 1 1)))) ?_
  rintro s5 y ⟨ey, H5⟩; subst y
  refine T_bind (T_load (fld5 arg1 arg2 arg3 arg4 arg5 arg6 arg7 arg8 arg9 arg10 arg11 arg12 arg13 arg14 arg15 c R)) ?_
  rintro v y ⟨rfl, ey⟩; subst y
  refine T_bind (T_load (fld5 arg1 arg2 arg3 arg4 arg5 arg6 arg7 arg8 arg9 arg10 arg11 arg12 arg13 arg14 arg15 c R)) ?_
  rintro v y ⟨rfl, ey⟩; subst y
  have H6 := (H5.accH 0 1 b (wB x.f5 h 1) (fitsA b)).accH 1 1 b (wB x.f5 h 1) (fitsA b)
  refine T_pure _ ⟨rfl, ?_⟩
  have e : ((((((((m.push 0 1 (cB x.f10 0 0)).push 1 1 (cB x.f10 0 1)).accH 0 1 b (wB x.f5 h 0)).accH 1 1 b (wB x.f5 h 0)).push 0 1 (cB x.f10 1 0)).push 1 1 (cB x.f10 1 1)).accH 0 1 b (wB x.f5 h 1)).accH 1 1 b (wB x.f5 h 1))
      = { m with h := fun q b' => if b' = b then some (pj x.f10 x.f5 h q) else m.h q b' } := by
    refine MA.ext ?_ rfl ?_
    · funext q r
      fin_cases q <;> fin_cases r <;> simp [MA.push, MA.accH, h0]
    · funext q b'
      by_cases hb : b' = b
      · subst hb
        fin_cases q <;> simp [MA.push, MA.accH, hh, dep, stg, pj]
      · fin_cases q <;> simp [MA.push, MA.accH, hb]
  rw [← e]
  exact H6

end Cert.AttnIdeal.Body

end
-- ==== Proof.AttnBlocks.lean ====
/- The key blocks of the attention kernel, its loops and its five branches, as functions of the state. -/
module

public import proofs.«01_k».proof.Proof.AttnPieces

@[expose] public section

set_option maxRecDepth 16384
set_option pp.maxSteps 300

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Facts₀ Facts
open Cert.MxuAbs Mxu Cert.Hoare

variable {F : FTy → Type} [FloatOps F] [Named F] [Facts]
variable {arg1 : Memref sig .tc .vmem S1x512x512 .bf16} (harg1 : arg1.IsWhole)
variable {arg2 : Memref sig .tc .vmem S1x8192x512 .bf16} (harg2 : arg2.IsWhole)
variable {arg3 : Memref sig .tc .vmem S1x512x8192 .bf16} (harg3 : arg3.IsWhole)
variable {arg4 : Memref sig .tc .vmem S1x512x512 .bf16} (harg4 : arg4.IsWhole)
variable {arg5 : Memref sig .tc .vmem S512x512 .fp8e4m3} (harg5 : arg5.IsWhole)
variable {arg6 : Memref sig .tc .vmem S512x1 .f32} (harg6 : arg6.IsWhole)
variable {arg7 : Memref sig .tc .vmem S512x1 .f32} (harg7 : arg7.IsWhole)
variable {arg8 : Memref sig .tc .vmem S1x512x512 .bf16} (harg8 : arg8.IsWhole)
variable {arg9 : Memref sig .tc .vmem S1x512x512 .bf16} (harg9 : arg9.IsWhole)
variable {arg10 : Memref sig .tc .vmem S1x512x512 .fp8e4m3} (harg10 : arg10.IsWhole)
variable {arg11 : Memref sig .tc .vmem S1x1x512 .f32} (harg11 : arg11.IsWhole)
variable {arg12 : Memref sig .tc .vmem S8192x512 .f32} (harg12 : arg12.IsWhole)
variable {arg13 : Memref sig .tc .vmem S256x512 .f32} (harg13 : arg13.IsWhole)
variable {arg14 : Memref sig .tc .vmem S2x8x512 .f32} (harg14 : arg14.IsWhole)
variable {arg15 : Memref sig .tc .vmem S512x512 .f32} (harg15 : arg15.IsWhole)
variable {c : Dev nD} {R : sProp (MM nD τ sig F)} {defs : Defs nD τ sig (Elt F) Λ₀}

/-- The units with query tiles in register 0 and `O` in the large accumulators. -/
def ma (Rg : Fin 2 → Option (Staged F)) (O : Fin 2 → Option (FVec F (STile 512) .f32)) : MA F :=
  ⟨fun q r => if r = 0 then Rg q else none, O, fun _ _ => none⟩
/-- The same with the scores `S` in the small accumulators `b`. -/
def mh (b : Bool) (S : Fin 2 → FVec F (STile 256) .f32) (Rg : Fin 2 → Option (Staged F)) (O : Fin 2 → Option (FVec F (STile 512) .f32)) : MA F :=
  ⟨fun q r => if r = 0 then Rg q else none, O, fun q b' => if b' = b then some (S q) else none⟩
/-- Fold `f` of the query tile staged. -/
def stQ (Q : Vec F S1x512x512 .bf16) (f : Fin 2) : Fin 2 → Option (Staged F) := fun q => some (sg (qB Q f q))
/-- Nothing staged. -/
def st0 : Fin 2 → Option (Staged F) := fun _ => none

theorem ma_scores (b : Bool) (Q : Vec F S1x512x512 .bf16) (K0 K1 : FVec F S256x256 .bf16) (O : Fin 2 → Option (FVec F (STile 512) .f32)) :
    ((((((ma (stQ Q 0) O).accH 0 0 b K0).accH 1 0 b K0).push 0 0 (qB Q 1 0)).push 1 0 (qB Q 1 1)).accH 0 0 b K1).accH 1 0 b K1
      = mh b (fun q => addf ((sg (qB Q 0 q)).pass K0) ((sg (qB Q 1 q)).pass K1)) st0 O := by
  refine MA.ext ?_ rfl ?_
  · funext q r
    fin_cases q <;> fin_cases r <;> simp [ma, mh, MA.push, MA.accH, st0]
  · funext q b'
    by_cases hb : b' = b
    · subst hb
      fin_cases q <;> simp [ma, mh, MA.push, MA.accH, stQ, dep, stg]
    · fin_cases q <;> simp [ma, mh, MA.push, MA.accH, hb]

theorem mh_values (b : Bool) (S : Fin 2 → FVec F (STile 256) .f32) (Rg : Fin 2 → Option (Staged F)) (O : Fin 2 → Option (FVec F (STile 512) .f32))
    (p : Fin 2 → FVec F S256x256 .bf16) (V : FVec F S512x256 .bf16) :
    ((((mh b S Rg O).push 0 1 (p 0)).push 1 1 (p 1)).accO 0 1 V).accO 1 1 V
      = mh b S Rg (fun q => some (dep (O q) ((sg (p q)).pass V))) := by
  refine MA.ext ?_ ?_ rfl
  · funext q r
    fin_cases q <;> fin_cases r <;> simp [mh, MA.push, MA.accO]
  · funext q
    fin_cases q <;> simp [mh, MA.push, MA.accO, stg]

theorem ma_values (Rg : Fin 2 → Option (Staged F)) (O : Fin 2 → Option (FVec F (STile 512) .f32))
    (p : Fin 2 → FVec F S256x256 .bf16) (V : FVec F S512x256 .bf16) :
    ((((ma Rg O).push 0 1 (p 0)).push 1 1 (p 1)).accO 0 1 V).accO 1 1 V
      = ma Rg (fun q => some (dep (O q) ((sg (p q)).pass V))) := by
  refine MA.ext ?_ ?_ rfl
  · funext q r
    fin_cases q <;> fin_cases r <;> simp [ma, MA.push, MA.accO]
  · funext q
    fin_cases q <;> simp [ma, MA.push, MA.accO, stg]

theorem mh_push (b : Bool) (S : Fin 2 → FVec F (STile 256) .f32) (Q : Vec F S1x512x512 .bf16) (f : Fin 2) (O : Fin 2 → Option (FVec F (STile 512) .f32)) :
    ((mh b S st0 O).push 0 0 (qB Q f 0)).push 1 0 (qB Q f 1) = mh b S (stQ Q f) O := by
  refine MA.ext ?_ rfl rfl
  funext q r
  fin_cases q <;> fin_cases r <;> simp [mh, MA.push, stQ]

theorem ma_push (Q : Vec F S1x512x512 .bf16) (f : Fin 2) (O : Fin 2 → Option (FVec F (STile 512) .f32)) :
    ((ma st0 O).push 0 0 (qB Q f 0)).push 1 0 (qB Q f 1) = ma (stQ Q f) O := by
  refine MA.ext ?_ rfl rfl
  funext q r
  fin_cases q <;> fin_cases r <;> simp [ma, MA.push, stQ]

theorem mh_pop (b : Bool) (S : Fin 2 → FVec F (STile 256) .f32) (Rg : Fin 2 → Option (Staged F)) (O : Fin 2 → Option (FVec F (STile 512) .f32)) :
    ((mh b S Rg O).popH 0 b).popH 1 b = ma Rg O := by
  refine MA.ext rfl rfl ?_
  funext q b'
  by_cases hb : b' = b
  · subst hb; fin_cases q <;> simp [ma, mh, MA.popH]
  · fin_cases q <;> simp [ma, mh, MA.popH, hb]

theorem ma_popO (O : Fin 2 → Option (FVec F (STile 512) .f32)) : ((ma st0 O).popO 0).popO 1 = MA.empty := by
  refine MA.ext ?_ ?_ rfl
  · funext q r; simp [ma, MA.popO, MA.empty, st0]
  · funext q; fin_cases q <;> simp [ma, MA.popO, MA.empty]

theorem ma_empty : (ma st0 (fun _ => none) : MA F) = MA.empty := by
  refine MA.ext ?_ rfl rfl
  funext q r; simp [ma, MA.empty, st0]

/-- What a block hands on: running maxima and sums of both units, and the units. -/
abbrev R5 (F : FTy → Type) [FloatOps F] : Type := FVec F S8x256 .f32 × FVec F S8x256 .f32 × FVec F S8x256 .f32 × FVec F S8x256 .f32 × Mxu F

/-- Between two blocks: the state is `x` with what `a` says of the blocks so far. -/
structure At (x : Mem F) (a : BS F) (Rg : Fin 2 → Option (Staged F)) (r : R5 F) (y : Mem F) : Prop where
  y : y = x.up a
  m0 : r.1 = a.m 0
  l0 : r.2.1 = a.l 0
  m1 : r.2.2.1 = a.m 1
  l1 : r.2.2.2.1 = a.l 1
  s : Abs r.2.2.2.2 (ma Rg a.O)

/-- The offsets of the scores of block `j`. -/
structure OffS (j : Fin 32) (kt0 kt1 : Fin 3 → Nat) (b0 e0 b1 e1 : Fin 2 → Nat) : Prop where
  k0 : kt0 = ![0, 256 * j.val, 256 * (0 : Fin 2).val]
  k1 : kt1 = ![0, 256 * j.val, 256 * (1 : Fin 2).val]
  b0 : b0 = ![8 * j.val, 256 * (0 : Fin 2).val]
  e0 : e0 = ![256 * j.val, 256 * (0 : Fin 2).val]
  b1 : b1 = ![8 * j.val, 256 * (1 : Fin 2).val]
  e1 : e1 = ![256 * j.val, 256 * (1 : Fin 2).val]

/-- The offsets of the values of block `j`. -/
structure OffV (j : Fin 32) (b0 e0 b1 e1 : Fin 2 → Nat) (v : Fin 3 → Nat) : Prop where
  b0 : b0 = ![8 * j.val, 256 * (0 : Fin 2).val]
  e0 : e0 = ![256 * j.val, 256 * (0 : Fin 2).val]
  b1 : b1 = ![8 * j.val, 256 * (1 : Fin 2).val]
  e1 : e1 = ![256 * j.val, 256 * (1 : Fin 2).val]
  v : v = ![0, 0, 256 * j.val]

set_option maxHeartbeats 4000000 in
theorem blkSV_spec (b : Bool) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (v : Fin 3 → Nat) (hv : ∀ a, v a + S1x512x256.size a ≤ S1x512x8192.size a)
    (m0 l0 m1 l1 : FVec F S8x256 .f32) (s : Mxu F) {x y : Mem F} {a : BS F} (j : Fin 32) (ho : OffS j kt0 kt1 b0 e0 b1 e1) (hw : OffV j b0 e0 b1 e1 v)
    (h : At x a (stQ x.f1 0) (m0, l0, m1, l1, s) y) :
    TT arg1 arg2 arg3 arg4 arg5 arg6 arg7 arg8 arg9 arg10 arg11 arg12 arg13 arg14 arg15 c R defs (blkSV arg1 arg2 arg3 arg12 arg13 arg14 (adr b) (fitsA b) kt0 hkt0 kt1 hkt1 b0 hb0 e0 he0 b1 hb1 e1 he1 v hv m0 l0 m1 l1 s) y
      (At x (stepSV x.f1 x.f2 x.f3 x.f14 j a) (stQ x.f1 0)) := by
  obtain ⟨ey, h1, h2, h3, h4, H⟩ := h
  subst y
  dsimp only at h1 h2 h3 h4 H
  subst h1 h2 h3 h4
  unfold blkSV
  refine T_bind (accK_spec b _ _ j 0 ho.k0 H) ?_
  rintro s1 y ⟨ey, H1⟩; subst y
  refine T_bind (pushQ_spec _ _ _ _ 1 rfl rfl H1 (by simp [MA.accH]) (by simp [MA.accH])) ?_
  rintro s2 y ⟨ey, H2⟩; subst y
  refine T_bind (accK_spec b _ _ j 1 ho.k1 H2) ?_
  rintro s3 y ⟨ey, H3⟩; subst y
  have H3 : Abs s3 (mh b (sc x.f1 x.f2 j) st0 a.O) := by
    rw [show sc x.f1 x.f2 j = (fun q => addf ((sg (qB x.f1 0 q)).pass (kB x.f2 j 0)) ((sg (qB x.f1 1 q)).pass (kB x.f2 j 1))) from rfl, ← ma_scores]
    exact H3
  refine T_bind (valP_spec 0 _ _ _ _ _ _ _ _ j hw.b0 rfl rfl hw.e0 H3 (by simp [mh])) ?_
  rintro s4 y ⟨ey, H4⟩; subst y
  refine T_bind (valP_spec 1 _ _ _ _ _ _ _ _ j hw.b1 rfl rfl hw.e1 H4 (by simp [mh, MA.push])) ?_
  rintro s5 y ⟨ey, H5⟩; subst y
  refine T_bind (accV_spec _ _ j hw.v H5) ?_
  rintro s6 y ⟨ey, H6⟩; subst y
  have H6 : Abs s6 (mh b (sc x.f1 x.f2 j) st0 (stepV x.f3 x.f14 j a).O) := by
    rw [show (stepV x.f3 x.f14 j a).O = (fun q => some (dep (a.O q) ((sg (pB a.f12 a.f13 x.f14 j q)).pass (vB x.f3 j)))) from rfl,
      ← mh_values b _ _ _ (fun q => pB a.f12 a.f13 x.f14 j q)]
    exact H6
  refine T_bind (pushQ_spec _ _ _ _ 0 rfl rfl H6 (by simp [mh, st0]) (by simp [mh, st0])) ?_
  rintro s7 y ⟨ey, H7⟩; subst y
  have H7 : Abs s7 (mh b (sc x.f1 x.f2 j) (stQ x.f1 0) (stepV x.f3 x.f14 j a).O) := by
    rw [← mh_push]; exact H7
  refine T_bind (scF_spec 0 b _ _ _ _ _ _ j ho.b0 ho.e0 H7 (v := sc x.f1 x.f2 j 0) (by simp [mh])) ?_
  rintro ⟨m0', l0', s8⟩ y ⟨ey, h1, h2, H8⟩; subst y
  dsimp only at h1 h2 H8
  subst h1 h2
  refine T_bind (scF_spec 1 b _ _ _ _ _ _ j ho.b1 ho.e1 H8 (v := sc x.f1 x.f2 j 1) (by simp [mh, MA.popH])) ?_
  rintro ⟨m1', l1', s9⟩ y ⟨ey, h1, h2, H9⟩; subst y
  dsimp only at h1 h2 H9
  subst h1 h2
  rw [mh_pop] at H9
  exact T_pure _ ⟨rfl, rfl, rfl, rfl, rfl, H9⟩

set_option maxHeartbeats 4000000 in
theorem blkSVL_spec (b : Bool) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (v : Fin 3 → Nat) (hv : ∀ a, v a + S1x512x256.size a ≤ S1x512x8192.size a)
    (m0 l0 m1 l1 : FVec F S8x256 .f32) (s : Mxu F) {x y : Mem F} {a : BS F} (j : Fin 32) (ho : OffS j kt0 kt1 b0 e0 b1 e1) (hw : OffV j b0 e0 b1 e1 v)
    (h : At x a (stQ x.f1 0) (m0, l0, m1, l1, s) y) :
    TT arg1 arg2 arg3 arg4 arg5 arg6 arg7 arg8 arg9 arg10 arg11 arg12 arg13 arg14 arg15 c R defs (blkSVL arg1 arg2 arg3 arg12 arg13 arg14 (adr b) (fitsA b) kt0 hkt0 kt1 hkt1 b0 hb0 e0 he0 b1 hb1 e1 he1 v hv m0 l0 m1 l1 s) y
      (At x (stepSV x.f1 x.f2 x.f3 x.f14 j a) st0) := by
  obtain ⟨ey, h1, h2, h3, h4, H⟩ := h
  subst y
  dsimp only at h1 h2 h3 h4 H
  subst h1 h2 h3 h4
  unfold blkSVL
  refine T_bind (accK_spec b _ _ j 0 ho.k0 H) ?_
  rintro s1 y ⟨ey, H1⟩; subst y
  refine T_bind (pushQ_spec _ _ _ _ 1 rfl rfl H1 (by simp [MA.accH]) (by simp [MA.accH])) ?_
  rintro s2 y ⟨ey, H2⟩; subst y
  refine T_bind (accK_spec b _ _ j 1 ho.k1 H2) ?_
  rintro s3 y ⟨ey, H3⟩; subst y
  have H3 : Abs s3 (mh b (sc x.f1 x.f2 j) st0 a.O) := by
    rw [show sc x.f1 x.f2 j = (fun q => addf ((sg (qB x.f1 0 q)).pass (kB x.f2 j 0)) ((sg (qB x.f1 1 q)).pass (kB x.f2 j 1))) from rfl, ← ma_scores]
    exact H3
  refine T_bind (valP_spec 0 _ _ _ _ _ _ _ _ j hw.b0 rfl rfl hw.e0 H3 (by simp [mh])) ?_
  rintro s4 y ⟨ey, H4⟩; subst y
  refine T_bind (valP_spec 1 _ _ _ _ _ _ _ _ j hw.b1 rfl rfl hw.e1 H4 (by simp [mh, MA.push])) ?_
  rintro s5 y ⟨ey, H5⟩; subst y
  refine T_bind (accV_spec _ _ j hw.v H5) ?_
  rintro s6 y ⟨ey, H6⟩; subst y
  have H6 : Abs s6 (mh b (sc x.f1 x.f2 j) st0 (stepV x.f3 x.f14 j a).O) := by
    rw [show (stepV x.f3 x.f14 j a).O = (fun q => some (dep (a.O q) ((sg (pB a.f12 a.f13 x.f14 j q)).pass (vB x.f3 j)))) from rfl,
      ← mh_values b _ _ _ (fun q => pB a.f12 a.f13 x.f14 j q)]
    exact H6
  have H7 := H6
  refine T_bind (scF_spec 0 b _ _ _ _ _ _ j ho.b0 ho.e0 H7 (v := sc x.f1 x.f2 j 0) (by simp [mh])) ?_
  rintro ⟨m0', l0', s8⟩ y ⟨ey, h1, h2, H8⟩; subst y
  dsimp only at h1 h2 H8
  subst h1 h2
  refine T_bind (scF_spec 1 b _ _ _ _ _ _ j ho.b1 ho.e1 H8 (v := sc x.f1 x.f2 j 1) (by simp [mh, MA.popH])) ?_
  rintro ⟨m1', l1', s9⟩ y ⟨ey, h1, h2, H9⟩; subst y
  dsimp only at h1 h2 H9
  subst h1 h2
  rw [mh_pop] at H9
  exact T_pure _ ⟨rfl, rfl, rfl, rfl, rfl, H9⟩

set_option maxHeartbeats 4000000 in
theorem blkS_spec (b : Bool) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (m0 l0 m1 l1 : FVec F S8x256 .f32) (s : Mxu F) {x y : Mem F} {a : BS F} (j : Fin 32) (ho : OffS j kt0 kt1 b0 e0 b1 e1)
    (h : At x a (stQ x.f1 0) (m0, l0, m1, l1, s) y) :
    TT arg1 arg2 arg3 arg4 arg5 arg6 arg7 arg8 arg9 arg10 arg11 arg12 arg13 arg14 arg15 c R defs (blkS arg1 arg2 arg12 arg13 (adr b) (fitsA b) kt0 hkt0 kt1 hkt1 b0 hb0 e0 he0 b1 hb1 e1 he1 m0 l0 m1 l1 s) y
      (At x (stepS x.f1 x.f2 j a) (stQ x.f1 0)) := by
  obtain ⟨ey, h1, h2, h3, h4, H⟩ := h
  subst y
  dsimp only at h1 h2 h3 h4 H
  subst h1 h2 h3 h4
  unfold blkS
  refine T_bind (accK_spec b _ _ j 0 ho.k0 H) ?_
  rintro s1 y ⟨ey, H1⟩; subst y
  refine T_bind (pushQ_spec _ _ _ _ 1 rfl rfl H1 (by simp [MA.accH]) (by simp [MA.accH])) ?_
  rintro s2 y ⟨ey, H2⟩; subst y
  refine T_bind (accK_spec b _ _ j 1 ho.k1 H2) ?_
  rintro s3 y ⟨ey, H3⟩; subst y
  have H3 : Abs s3 (mh b (sc x.f1 x.f2 j) st0 a.O) := by
    rw [show sc x.f1 x.f2 j = (fun q => addf ((sg (qB x.f1 0 q)).pass (kB x.f2 j 0)) ((sg (qB x.f1 1 q)).pass (kB x.f2 j 1))) from rfl, ← ma_scores]
    exact H3
  have H6 := H3
  refine T_bind (pushQ_spec _ _ _ _ 0 rfl rfl H6 (by simp [mh, st0]) (by simp [mh, st0])) ?_
  rintro s7 y ⟨ey, H7⟩; subst y
  have H7 : Abs s7 (mh b (sc x.f1 x.f2 j) (stQ x.f1 0) a.O) := by
    rw [← mh_push]; exact H7
  refine T_bind (scF_spec 0 b _ _ _ _ _ _ j ho.b0 ho.e0 H7 (v := sc x.f1 x.f2 j 0) (by simp [mh])) ?_
  rintro ⟨m0', l0', s8⟩ y ⟨ey, h1, h2, H8⟩; subst y
  dsimp only at h1 h2 H8
  subst h1 h2
  refine T_bind (scF_spec 1 b _ _ _ _ _ _ j ho.b1 ho.e1 H8 (v := sc x.f1 x.f2 j 1) (by simp [mh, MA.popH])) ?_
  rintro ⟨m1', l1', s9⟩ y ⟨ey, h1, h2, H9⟩; subst y
  dsimp only at h1 h2 H9
  subst h1 h2
  rw [mh_pop] at H9
  exact T_pure _ ⟨rfl, rfl, rfl, rfl, rfl, H9⟩

set_option maxHeartbeats 4000000 in
theorem blkSL_spec (b : Bool) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (m0 l0 m1 l1 : FVec F S8x256 .f32) (s : Mxu F) {x y : Mem F} {a : BS F} (j : Fin 32) (ho : OffS j kt0 kt1 b0 e0 b1 e1)
    (h : At x a (stQ x.f1 0) (m0, l0, m1, l1, s) y) :
    TT arg1 arg2 arg3 arg4 arg5 arg6 arg7 arg8 arg9 arg10 arg11 arg12 arg13 arg14 arg15 c R defs (blkSL arg1 arg2 arg12 arg13 (adr b) (fitsA b) kt0 hkt0 kt1 hkt1 b0 hb0 e0 he0 b1 hb1 e1 he1 m0 l0 m1 l1 s) y
      (At x (stepS x.f1 x.f2 j a) st0) := by
  obtain ⟨ey, h1, h2, h3, h4, H⟩ := h
  subst y
  dsimp only at h1 h2 h3 h4 H
  subst h1 h2 h3 h4
  unfold blkSL
  refine T_bind (accK_spec b _ _ j 0 ho.k0 H) ?_
  rintro s1 y ⟨ey, H1⟩; subst y
  refine T_bind (pushQ_spec _ _ _ _ 1 rfl rfl H1 (by simp [MA.accH]) (by simp [MA.accH])) ?_
  rintro s2 y ⟨ey, H2⟩; subst y
  refine T_bind (accK_spec b _ _ j 1 ho.k1 H2) ?_
  rintro s3 y ⟨ey, H3⟩; subst y
  have H3 : Abs s3 (mh b (sc x.f1 x.f2 j) st0 a.O) := by
    rw [show sc x.f1 x.f2 j = (fun q => addf ((sg (qB x.f1 0 q)).pass (kB x.f2 j 0)) ((sg (qB x.f1 1 q)).pass (kB x.f2 j 1))) from rfl, ← ma_scores]
    exact H3
  have H6 := H3
  have H7 := H6
  refine T_bind (scF_spec 0 b _ _ _ _ _ _ j ho.b0 ho.e0 H7 (v := sc x.f1 x.f2 j 0) (by simp [mh])) ?_
  rintro ⟨m0', l0', s8⟩ y ⟨ey, h1, h2, H8⟩; subst y
  dsimp only at h1 h2 H8
  subst h1 h2
  refine T_bind (scF_spec 1 b _ _ _ _ _ _ j ho.b1 ho.e1 H8 (v := sc x.f1 x.f2 j 1) (by simp [mh, MA.popH])) ?_
  rintro ⟨m1', l1', s9⟩ y ⟨ey, h1, h2, H9⟩; subst y
  dsimp only at h1 h2 H9
  subst h1 h2
  rw [mh_pop] at H9
  exact T_pure _ ⟨rfl, rfl, rfl, rfl, rfl, H9⟩

theorem blkV_spec (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (v : Fin 3 → Nat) (hv : ∀ a, v a + S1x512x256.size a ≤ S1x512x8192.size a) (s : Mxu F) {x y : Mem F} {a : BS F} (j : Fin 32) (hw : OffV j b0 e0 b1 e1 v) (ey : y = x.up a) (H : Abs s (ma st0 a.O)) :
    TT arg1 arg2 arg3 arg4 arg5 arg6 arg7 arg8 arg9 arg10 arg11 arg12 arg13 arg14 arg15 c R defs (blkV arg3 arg12 arg13 arg14 b0 hb0 e0 he0 b1 hb1 e1 he1 v hv s) y
      (fun s' y => y = x.up (stepV x.f3 x.f14 j a) ∧ Abs s' (ma st0 (stepV x.f3 x.f14 j a).O)) := by
  subst y
  unfold blkV
  refine T_bind (valP_spec 0 _ _ _ _ _ _ _ _ j hw.b0 rfl rfl hw.e0 H (by simp [ma])) ?_
  rintro s4 y ⟨ey, H4⟩; subst y
  refine T_bind (valP_spec 1 _ _ _ _ _ _ _ _ j hw.b1 rfl rfl hw.e1 H4 (by simp [ma, MA.push])) ?_
  rintro s5 y ⟨ey, H5⟩; subst y
  refine T_mono (accV_spec _ _ j hw.v H5) ?_
  rintro s6 y ⟨ey, H6⟩; subst y
  refine ⟨rfl, ?_⟩
  rw [show (stepV x.f3 x.f14 j a).O = (fun q => some (dep (a.O q) ((sg (pB a.f12 a.f13 x.f14 j q)).pass (vB x.f3 j)))) from rfl,
    ← ma_values _ _ (fun q => pB a.f12 a.f13 x.f14 j q)]
  exact H6

theorem ma_proj (b : Bool) (S : Fin 2 → FVec F (STile 256) .f32) (Rg : Fin 2 → Option (Staged F)) (O : Fin 2 → Option (FVec F (STile 512) .f32)) :
    ({ (ma Rg O) with h := fun q b' => if b' = b then some (S q) else (ma Rg O).h q b' } : MA F) = mh b S Rg O := rfl

theorem proj0_spec {Rg : Fin 2 → Option (Staged F)} {O : Fin 2 → Option (FVec F (STile 512) .f32)} {s : Mxu F} {x : Mem F}
    (H : Abs s (ma Rg O)) :
    TT arg1 arg2 arg3 arg4 arg5 arg6 arg7 arg8 arg9 arg10 arg11 arg12 arg13 arg14 arg15 c R defs (proj0 arg4 arg5 arg6 arg7 arg8 harg8 arg9 harg9 arg10 arg11 s) x (fun s' y => y = x.proj 0 ∧ Abs s' (ma Rg O)) := by
  unfold proj0
  refine T_bind (projAcc_spec true _ _ _ _ 0 rfl rfl H (fun q => by simp [ma]) (fun q => by simp [ma])) ?_
  rintro s1 y ⟨ey, H1⟩; subst y
  have H1 : Abs s1 (mh true (fun q => pj x.f10 x.f5 0 q) Rg O) := H1
  refine T_bind (projF_spec harg8 harg9 0 0 true _ _ _ _ _ _ _ rfl rfl rfl H1 (by simp [mh])) ?_
  rintro s2 y ⟨ey, H2⟩; subst y
  refine T_mono (projF_spec harg8 harg9 1 0 true _ _ _ _ _ _ _ rfl rfl rfl H2 (by simp [mh, MA.popH])) ?_
  rintro s3 y ⟨ey, H3⟩; subst y
  rw [mh_pop] at H3
  exact ⟨rfl, H3⟩

theorem proj1_spec {Rg : Fin 2 → Option (Staged F)} {O : Fin 2 → Option (FVec F (STile 512) .f32)} {s : Mxu F} {x : Mem F}
    (H : Abs s (ma Rg O)) :
    TT arg1 arg2 arg3 arg4 arg5 arg6 arg7 arg8 arg9 arg10 arg11 arg12 arg13 arg14 arg15 c R defs (proj1 arg4 arg5 arg6 arg7 arg8 harg8 arg9 harg9 arg10 arg11 s) x (fun s' y => y = x.proj 1 ∧ Abs s' (ma Rg O)) := by
  unfold proj1
  refine T_bind (projAcc_spec false _ _ _ _ 1 rfl rfl H (fun q => by simp [ma]) (fun q => by simp [ma])) ?_
  rintro s1 y ⟨ey, H1⟩; subst y
  have H1 : Abs s1 (mh false (fun q => pj x.f10 x.f5 1 q) Rg O) := H1
  refine T_bind (projF_spec harg8 harg9 0 1 false _ _ _ _ _ _ _ rfl rfl rfl H1 (by simp [mh])) ?_
  rintro s2 y ⟨ey, H2⟩; subst y
  refine T_mono (projF_spec harg8 harg9 1 1 false _ _ _ _ _ _ _ rfl rfl rfl H2 (by simp [mh, MA.popH])) ?_
  rintro s3 y ⟨ey, H3⟩; subst y
  rw [mh_pop] at H3
  exact ⟨rfl, H3⟩

end Cert.AttnIdeal.Body

end
-- ==== Proof.AttnTrips.lean ====
/- The loops and the five branches of the attention kernel, and its body, as functions of the state. -/
module

public import proofs.«01_k».proof.Proof.AttnBlocks

@[expose] public section

set_option maxRecDepth 16384
set_option pp.maxSteps 300

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Facts₀ Facts
open Cert.MxuAbs Mxu Cert.Hoare

variable {F : FTy → Type} [FloatOps F] [Named F] [Facts]
variable {arg1 : Memref sig .tc .vmem S1x512x512 .bf16} (harg1 : arg1.IsWhole)
variable {arg2 : Memref sig .tc .vmem S1x8192x512 .bf16} (harg2 : arg2.IsWhole)
variable {arg3 : Memref sig .tc .vmem S1x512x8192 .bf16} (harg3 : arg3.IsWhole)
variable {arg4 : Memref sig .tc .vmem S1x512x512 .bf16} (harg4 : arg4.IsWhole)
variable {arg5 : Memref sig .tc .vmem S512x512 .fp8e4m3} (harg5 : arg5.IsWhole)
variable {arg6 : Memref sig .tc .vmem S512x1 .f32} (harg6 : arg6.IsWhole)
variable {arg7 : Memref sig .tc .vmem S512x1 .f32} (harg7 : arg7.IsWhole)
variable {arg8 : Memref sig .tc .vmem S1x512x512 .bf16} (harg8 : arg8.IsWhole)
variable {arg9 : Memref sig .tc .vmem S1x512x512 .bf16} (harg9 : arg9.IsWhole)
variable {arg10 : Memref sig .tc .vmem S1x512x512 .fp8e4m3} (harg10 : arg10.IsWhole)
variable {arg11 : Memref sig .tc .vmem S1x1x512 .f32} (harg11 : arg11.IsWhole)
variable {arg12 : Memref sig .tc .vmem S8192x512 .f32} (harg12 : arg12.IsWhole)
variable {arg13 : Memref sig .tc .vmem S256x512 .f32} (harg13 : arg13.IsWhole)
variable {arg14 : Memref sig .tc .vmem S2x8x512 .f32} (harg14 : arg14.IsWhole)
variable {arg15 : Memref sig .tc .vmem S512x512 .f32} (harg15 : arg15.IsWhole)
variable {c : Dev nD} {R : sProp (MM nD τ sig F)} {defs : Defs nD τ sig (Elt F) Λ₀}

/-- The scores of a tile. -/
def scoresF (x : Mem F) : Mem F :=
  { x.up (runB (stepS x.f1 x.f2) (bs0 x.f12 x.f13) 32) with
    f14 := statF x.f14 (runB (stepS x.f1 x.f2) (bs0 x.f12 x.f13) 32) }
/-- The scores of a tile, and the values of the one before. -/
def svF (x : Mem F) : Mem F :=
  { x.up (runB (stepSV x.f1 x.f2 x.f3 x.f14) (bs0 x.f12 x.f13) 32) with
    f14 := statF x.f14 (runB (stepSV x.f1 x.f2 x.f3 x.f14) (bs0 x.f12 x.f13) 32)
    f15 := outF x.f15 (runB (stepSV x.f1 x.f2 x.f3 x.f14) (bs0 x.f12 x.f13) 32) }
/-- The values of a tile. -/
def vF (x : Mem F) : Mem F :=
  { x.up (runB (stepV x.f3 x.f14) (bs0 x.f12 x.f13) 32) with f15 := outF x.f15 (runB (stepV x.f3 x.f14) (bs0 x.f12 x.f13) 32) }
/-- An output tile quantised and projected. -/
def pF (x : Mem F) : Mem F := (x.quant.proj 0).proj 1

theorem At.next {x : Mem F} {a a' : BS F} {Rg : Fin 2 → Option (Staged F)} {r : R5 F} {y : Mem F}
    (e : a = a') (h : At x a Rg r y) : At x a' Rg r y := e ▸ h

/-- `run k` is the state after `k` blocks. -/
def Runs (step : Fin 32 → BS F → BS F) (run : Nat → BS F) : Prop := ∀ (j : Fin 32) (k k' : Nat), j.val = k → k + 1 = k' → step j (run k) = run k'

theorem runs_runB (step : Fin 32 → BS F → BS F) (a0 : BS F) : Runs step (runB step a0) := by
  rintro j _ _ rfl rfl; exact (runB_succ step a0 j).symm

theorem o3 (t u k : Nat) : (![0, 1024 * t + 256 * u + 1024, k] : Fin 3 → Nat) = ![0, 256 * (4 + 4 * t + u), k] := by
  rw [show 1024 * t + 256 * u + 1024 = 256 * (4 + 4 * t + u) by omega]
theorem o3' (t u : Nat) : (![0, 0, 1024 * t + 256 * u + 1024] : Fin 3 → Nat) = ![0, 0, 256 * (4 + 4 * t + u)] := by
  rw [show 1024 * t + 256 * u + 1024 = 256 * (4 + 4 * t + u) by omega]
theorem o2 (t u k : Nat) : (![1024 * t + 256 * u + 1024, k] : Fin 2 → Nat) = ![256 * (4 + 4 * t + u), k] := by
  rw [show 1024 * t + 256 * u + 1024 = 256 * (4 + 4 * t + u) by omega]
theorem o2' (t u k : Nat) : (![32 * t + 8 * u + 32, k] : Fin 2 → Nat) = ![8 * (4 + 4 * t + u), k] := by
  rw [show 32 * t + 8 * u + 32 = 8 * (4 + 4 * t + u) by omega]

theorem trips1 : k0_t1_loop.trips = 6 := by decide +kernel
theorem trips2 : k0_t2_loop.trips = 6 := by decide +kernel
theorem trips3 : k0_t3_loop.trips = 6 := by decide +kernel
theorem trips4 : k0_t4_loop.trips = 6 := by decide +kernel

set_option maxHeartbeats 4000000 in
theorem trip1_spec (i : grid0.Coords) (hc : k0_cond1 i = 1#1) (t : Fin k0_t1_loop.trips) (r : R5 F) {x y : Mem F} {run : Nat → BS F} (hs : Runs (stepS x.f1 x.f2) run)
    (h : At x (run (4 + 4 * t.val)) (stQ x.f1 0) r y) :
    TT arg1 arg2 arg3 arg4 arg5 arg6 arg7 arg8 arg9 arg10 arg11 arg12 arg13 arg14 arg15 c R defs (trip1 arg1 arg2 arg12 arg13 i hc t r) y (At x (run (4 + 4 * (t.val + 1))) (stQ x.f1 0)) := by
  have ht : t.val < 6 := lt_of_lt_of_eq t.isLt trips1
  obtain ⟨m0, l0, m1, l1, s⟩ := r
  unfold trip1
  refine T_bind (blkS_spec false _ _ _ _ _ _ _ _ _ _ _ _ _ _ _ _ _ ⟨4 + 4 * t.val + 0, by omega⟩ ⟨((Gen.k0_off1_eq t 0).trans (o3 t.val 0 0)), ((Gen.k0_off2_eq t 0).trans (o3 t.val 0 256)), ((Gen.k0_off4_eq t 0).trans (o2' t.val 0 0)), ((Gen.k0_off3_eq t 0).trans (o2 t.val 0 0)), ((Gen.k0_off6_eq t 0).trans (o2' t.val 0 256)), ((Gen.k0_off5_eq t 0).trans (o2 t.val 0 256))⟩ h) ?_
  rintro ⟨m0, l0, m1, l1, s⟩ y h
  replace h := At.next (hs ⟨4 + 4 * t.val + 0, by omega⟩ (4 + 4 * t.val + 0) (4 + 4 * t.val + 1) rfl rfl) h
  refine T_bind (blkS_spec true _ _ _ _ _ _ _ _ _ _ _ _ _ _ _ _ _ ⟨4 + 4 * t.val + 1, by omega⟩ ⟨((Gen.k0_off1_eq t 1).trans (o3 t.val 1 0)), ((Gen.k0_off2_eq t 1).trans (o3 t.val 1 256)), ((Gen.k0_off4_eq t 1).trans (o2' t.val 1 0)), ((Gen.k0_off3_eq t 1).trans (o2 t.val 1 0)), ((Gen.k0_off6_eq t 1).trans (o2' t.val 1 256)), ((Gen.k0_off5_eq t 1).trans (o2 t.val 1 256))⟩ h) ?_
  rintro ⟨m0, l0, m1, l1, s⟩ y h
  replace h := At.next (hs ⟨4 + 4 * t.val + 1, by omega⟩ (4 + 4 * t.val + 1) (4 + 4 * t.val + 2) rfl rfl) h
  refine T_bind (blkS_spec false _ _ _ _ _ _ _ _ _ _ _ _ _ _ _ _ _ ⟨4 + 4 * t.val + 2, by omega⟩ ⟨((Gen.k0_off1_eq t 2).trans (o3 t.val 2 0)), ((Gen.k0_off2_eq t 2).trans (o3 t.val 2 256)), ((Gen.k0_off4_eq t 2).trans (o2' t.val 2 0)), ((Gen.k0_off3_eq t 2).trans (o2 t.val 2 0)), ((Gen.k0_off6_eq t 2).trans (o2' t.val 2 256)), ((Gen.k0_off5_eq t 2).trans (o2 t.val 2 256))⟩ h) ?_
  rintro ⟨m0, l0, m1, l1, s⟩ y h
  replace h := At.next (hs ⟨4 + 4 * t.val + 2, by omega⟩ (4 + 4 * t.val + 2) (4 + 4 * t.val + 3) rfl rfl) h
  refine T_mono (blkS_spec true _ _ _ _ _ _ _ _ _ _ _ _ _ _ _ _ _ ⟨4 + 4 * t.val + 3, by omega⟩ ⟨((Gen.k0_off1_eq t 3).trans (o3 t.val 3 0)), ((Gen.k0_off2_eq t 3).trans (o3 t.val 3 256)), ((Gen.k0_off4_eq t 3).trans (o2' t.val 3 0)), ((Gen.k0_off3_eq t 3).trans (o2 t.val 3 0)), ((Gen.k0_off6_eq t 3).trans (o2' t.val 3 256)), ((Gen.k0_off5_eq t 3).trans (o2 t.val 3 256))⟩ h) ?_
  rintro r y h
  exact At.next (hs ⟨4 + 4 * t.val + 3, by omega⟩ (4 + 4 * t.val + 3) (4 + 4 * t.val + 4) rfl rfl) h

set_option maxHeartbeats 4000000 in
theorem trip2_spec (i : grid0.Coords) (hc : k0_cond2 i = 1#1) (t : Fin k0_t2_loop.trips) (r : R5 F) {x y : Mem F} {run : Nat → BS F} (hs : Runs (stepSV x.f1 x.f2 x.f3 x.f14) run)
    (h : At x (run (4 + 4 * t.val)) (stQ x.f1 0) r y) :
    TT arg1 arg2 arg3 arg4 arg5 arg6 arg7 arg8 arg9 arg10 arg11 arg12 arg13 arg14 arg15 c R defs (trip2 arg1 arg2 arg3 arg12 arg13 arg14 i hc t r) y (At x (run (4 + 4 * (t.val + 1))) (stQ x.f1 0)) := by
  have ht : t.val < 6 := lt_of_lt_of_eq t.isLt trips2
  obtain ⟨m0, l0, m1, l1, s⟩ := r
  unfold trip2
  refine T_bind (blkSV_spec false _ _ _ _ _ _ _ _ _ _ _ _ _ _ _ _ _ _ _ ⟨4 + 4 * t.val + 0, by omega⟩ ⟨((Gen.k0_off7_eq t 0).trans (o3 t.val 0 0)), ((Gen.k0_off8_eq t 0).trans (o3 t.val 0 256)), ((Gen.k0_off9_eq t 0).trans (o2' t.val 0 0)), ((Gen.k0_off10_eq t 0).trans (o2 t.val 0 0)), ((Gen.k0_off11_eq t 0).trans (o2' t.val 0 256)), ((Gen.k0_off12_eq t 0).trans (o2 t.val 0 256))⟩ ⟨((Gen.k0_off9_eq t 0).trans (o2' t.val 0 0)), ((Gen.k0_off10_eq t 0).trans (o2 t.val 0 0)), ((Gen.k0_off11_eq t 0).trans (o2' t.val 0 256)), ((Gen.k0_off12_eq t 0).trans (o2 t.val 0 256)), ((Gen.k0_off13_eq t 0).trans (o3' t.val 0))⟩ h) ?_
  rintro ⟨m0, l0, m1, l1, s⟩ y h
  replace h := At.next (hs ⟨4 + 4 * t.val + 0, by omega⟩ (4 + 4 * t.val + 0) (4 + 4 * t.val + 1) rfl rfl) h
  refine T_bind (blkSV_spec true _ _ _ _ _ _ _ _ _ _ _ _ _ _ _ _ _ _ _ ⟨4 + 4 * t.val + 1, by omega⟩ ⟨((Gen.k0_off7_eq t 1).trans (o3 t.val 1 0)), ((Gen.k0_off8_eq t 1).trans (o3 t.val 1 256)), ((Gen.k0_off9_eq t 1).trans (o2' t.val 1 0)), ((Gen.k0_off10_eq t 1).trans (o2 t.val 1 0)), ((Gen.k0_off11_eq t 1).trans (o2' t.val 1 256)), ((Gen.k0_off12_eq t 1).trans (o2 t.val 1 256))⟩ ⟨((Gen.k0_off9_eq t 1).trans (o2' t.val 1 0)), ((Gen.k0_off10_eq t 1).trans (o2 t.val 1 0)), ((Gen.k0_off11_eq t 1).trans (o2' t.val 1 256)), ((Gen.k0_off12_eq t 1).trans (o2 t.val 1 256)), ((Gen.k0_off13_eq t 1).trans (o3' t.val 1))⟩ h) ?_
  rintro ⟨m0, l0, m1, l1, s⟩ y h
  replace h := At.next (hs ⟨4 + 4 * t.val + 1, by omega⟩ (4 + 4 * t.val + 1) (4 + 4 * t.val + 2) rfl rfl) h
  refine T_bind (blkSV_spec false _ _ _ _ _ _ _ _ _ _ _ _ _ _ _ _ _ _ _ ⟨4 + 4 * t.val + 2, by omega⟩ ⟨((Gen.k0_off7_eq t 2).trans (o3 t.val 2 0)), ((Gen.k0_off8_eq t 2).trans (o3 t.val 2 256)), ((Gen.k0_off9_eq t 2).trans (o2' t.val 2 0)), ((Gen.k0_off10_eq t 2).trans (o2 t.val 2 0)), ((Gen.k0_off11_eq t 2).trans (o2' t.val 2 256)), ((Gen.k0_off12_eq t 2).trans (o2 t.val 2 256))⟩ ⟨((Gen.k0_off9_eq t 2).trans (o2' t.val 2 0)), ((Gen.k0_off10_eq t 2).trans (o2 t.val 2 0)), ((Gen.k0_off11_eq t 2).trans (o2' t.val 2 256)), ((Gen.k0_off12_eq t 2).trans (o2 t.val 2 256)), ((Gen.k0_off13_eq t 2).trans (o3' t.val 2))⟩ h) ?_
  rintro ⟨m0, l0, m1, l1, s⟩ y h
  replace h := At.next (hs ⟨4 + 4 * t.val + 2, by omega⟩ (4 + 4 * t.val + 2) (4 + 4 * t.val + 3) rfl rfl) h
  refine T_mono (blkSV_spec true _ _ _ _ _ _ _ _ _ _ _ _ _ _ _ _ _ _ _ ⟨4 + 4 * t.val + 3, by omega⟩ ⟨((Gen.k0_off7_eq t 3).trans (o3 t.val 3 0)), ((Gen.k0_off8_eq t 3).trans (o3 t.val 3 256)), ((Gen.k0_off9_eq t 3).trans (o2' t.val 3 0)), ((Gen.k0_off10_eq t 3).trans (o2 t.val 3 0)), ((Gen.k0_off11_eq t 3).trans (o2' t.val 3 256)), ((Gen.k0_off12_eq t 3).trans (o2 t.val 3 256))⟩ ⟨((Gen.k0_off9_eq t 3).trans (o2' t.val 3 0)), ((Gen.k0_off10_eq t 3).trans (o2 t.val 3 0)), ((Gen.k0_off11_eq t 3).trans (o2' t.val 3 256)), ((Gen.k0_off12_eq t 3).trans (o2 t.val 3 256)), ((Gen.k0_off13_eq t 3).trans (o3' t.val 3))⟩ h) ?_
  rintro r y h
  exact At.next (hs ⟨4 + 4 * t.val + 3, by omega⟩ (4 + 4 * t.val + 3) (4 + 4 * t.val + 4) rfl rfl) h

set_option maxHeartbeats 4000000 in
theorem trip3_spec (i : grid0.Coords) (hc : k0_cond3 i = 1#1) (t : Fin k0_t3_loop.trips) (r : R5 F) {x y : Mem F} {run : Nat → BS F} (hs : Runs (stepSV x.f1 x.f2 x.f3 x.f14) run)
    (h : At x (run (4 + 4 * t.val)) (stQ x.f1 0) r y) :
    TT arg1 arg2 arg3 arg4 arg5 arg6 arg7 arg8 arg9 arg10 arg11 arg12 arg13 arg14 arg15 c R defs (trip3 arg1 arg2 arg3 arg12 arg13 arg14 i hc t r) y (At x (run (4 + 4 * (t.val + 1))) (stQ x.f1 0)) := by
  have ht : t.val < 6 := lt_of_lt_of_eq t.isLt trips3
  obtain ⟨m0, l0, m1, l1, s⟩ := r
  unfold trip3
  refine T_bind (blkSV_spec false _ _ _ _ _ _ _ _ _ _ _ _ _ _ _ _ _ _ _ ⟨4 + 4 * t.val + 0, by omega⟩ ⟨((Gen.k0_off14_eq t 0).trans (o3 t.val 0 0)), ((Gen.k0_off15_eq t 0).trans (o3 t.val 0 256)), ((Gen.k0_off16_eq t 0).trans (o2' t.val 0 0)), ((Gen.k0_off17_eq t 0).trans (o2 t.val 0 0)), ((Gen.k0_off18_eq t 0).trans (o2' t.val 0 256)), ((Gen.k0_off19_eq t 0).trans (o2 t.val 0 256))⟩ ⟨((Gen.k0_off16_eq t 0).trans (o2' t.val 0 0)), ((Gen.k0_off17_eq t 0).trans (o2 t.val 0 0)), ((Gen.k0_off18_eq t 0).trans (o2' t.val 0 256)), ((Gen.k0_off19_eq t 0).trans (o2 t.val 0 256)), ((Gen.k0_off20_eq t 0).trans (o3' t.val 0))⟩ h) ?_
  rintro ⟨m0, l0, m1, l1, s⟩ y h
  replace h := At.next (hs ⟨4 + 4 * t.val + 0, by omega⟩ (4 + 4 * t.val + 0) (4 + 4 * t.val + 1) rfl rfl) h
  refine T_bind (blkSV_spec true _ _ _ _ _ _ _ _ _ _ _ _ _ _ _ _ _ _ _ ⟨4 + 4 * t.val + 1, by omega⟩ ⟨((Gen.k0_off14_eq t 1).trans (o3 t.val 1 0)), ((Gen.k0_off15_eq t 1).trans (o3 t.val 1 256)), ((Gen.k0_off16_eq t 1).trans (o2' t.val 1 0)), ((Gen.k0_off17_eq t 1).trans (o2 t.val 1 0)), ((Gen.k0_off18_eq t 1).trans (o2' t.val 1 256)), ((Gen.k0_off19_eq t 1).trans (o2 t.val 1 256))⟩ ⟨((Gen.k0_off16_eq t 1).trans (o2' t.val 1 0)), ((Gen.k0_off17_eq t 1).trans (o2 t.val 1 0)), ((Gen.k0_off18_eq t 1).trans (o2' t.val 1 256)), ((Gen.k0_off19_eq t 1).trans (o2 t.val 1 256)), ((Gen.k0_off20_eq t 1).trans (o3' t.val 1))⟩ h) ?_
  rintro ⟨m0, l0, m1, l1, s⟩ y h
  replace h := At.next (hs ⟨4 + 4 * t.val + 1, by omega⟩ (4 + 4 * t.val + 1) (4 + 4 * t.val + 2) rfl rfl) h
  refine T_bind (blkSV_spec false _ _ _ _ _ _ _ _ _ _ _ _ _ _ _ _ _ _ _ ⟨4 + 4 * t.val + 2, by omega⟩ ⟨((Gen.k0_off14_eq t 2).trans (o3 t.val 2 0)), ((Gen.k0_off15_eq t 2).trans (o3 t.val 2 256)), ((Gen.k0_off16_eq t 2).trans (o2' t.val 2 0)), ((Gen.k0_off17_eq t 2).trans (o2 t.val 2 0)), ((Gen.k0_off18_eq t 2).trans (o2' t.val 2 256)), ((Gen.k0_off19_eq t 2).trans (o2 t.val 2 256))⟩ ⟨((Gen.k0_off16_eq t 2).trans (o2' t.val 2 0)), ((Gen.k0_off17_eq t 2).trans (o2 t.val 2 0)), ((Gen.k0_off18_eq t 2).trans (o2' t.val 2 256)), ((Gen.k0_off19_eq t 2).trans (o2 t.val 2 256)), ((Gen.k0_off20_eq t 2).trans (o3' t.val 2))⟩ h) ?_
  rintro ⟨m0, l0, m1, l1, s⟩ y h
  replace h := At.next (hs ⟨4 + 4 * t.val + 2, by omega⟩ (4 + 4 * t.val + 2) (4 + 4 * t.val + 3) rfl rfl) h
  refine T_mono (blkSV_spec true _ _ _ _ _ _ _ _ _ _ _ _ _ _ _ _ _ _ _ ⟨4 + 4 * t.val + 3, by omega⟩ ⟨((Gen.k0_off14_eq t 3).trans (o3 t.val 3 0)), ((Gen.k0_off15_eq t 3).trans (o3 t.val 3 256)), ((Gen.k0_off16_eq t 3).trans (o2' t.val 3 0)), ((Gen.k0_off17_eq t 3).trans (o2 t.val 3 0)), ((Gen.k0_off18_eq t 3).trans (o2' t.val 3 256)), ((Gen.k0_off19_eq t 3).trans (o2 t.val 3 256))⟩ ⟨((Gen.k0_off16_eq t 3).trans (o2' t.val 3 0)), ((Gen.k0_off17_eq t 3).trans (o2 t.val 3 0)), ((Gen.k0_off18_eq t 3).trans (o2' t.val 3 256)), ((Gen.k0_off19_eq t 3).trans (o2 t.val 3 256)), ((Gen.k0_off20_eq t 3).trans (o3' t.val 3))⟩ h) ?_
  rintro r y h
  exact At.next (hs ⟨4 + 4 * t.val + 3, by omega⟩ (4 + 4 * t.val + 3) (4 + 4 * t.val + 4) rfl rfl) h

/-- Between two blocks of the values alone. -/
structure AtV (x : Mem F) (a : BS F) (s : Mxu F) (y : Mem F) : Prop where
  y : y = x.up a
  s : Abs s (ma st0 a.O)

theorem AtV.next {x : Mem F} {a a' : BS F} {s : Mxu F} {y : Mem F}
    (e : a = a') (h : y = x.up a ∧ Abs s (ma st0 a.O)) : AtV x a' s y := e ▸ ⟨h.1, h.2⟩

set_option maxHeartbeats 4000000 in
theorem trip4_spec (i : grid0.Coords) (hc : k0_cond4 i = 1#1) (t : Fin k0_t4_loop.trips) (s : Mxu F) {x y : Mem F} {run : Nat → BS F} (hs : Runs (stepV x.f3 x.f14) run)
    (h : AtV x (run (4 + 4 * t.val)) s y) :
    TT arg1 arg2 arg3 arg4 arg5 arg6 arg7 arg8 arg9 arg10 arg11 arg12 arg13 arg14 arg15 c R defs (trip4 arg3 arg12 arg13 arg14 i hc t s) y (AtV x (run (4 + 4 * (t.val + 1)))) := by
  have ht : t.val < 6 := lt_of_lt_of_eq t.isLt trips4
  unfold trip4
  refine T_bind (blkV_spec _ _ _ _ _ _ _ _ _ _ _ ⟨4 + 4 * t.val + 0, by omega⟩ ⟨((Gen.k0_off21_eq t 0).trans (o2' t.val 0 0)), ((Gen.k0_off22_eq t 0).trans (o2 t.val 0 0)), ((Gen.k0_off23_eq t 0).trans (o2' t.val 0 256)), ((Gen.k0_off24_eq t 0).trans (o2 t.val 0 256)), ((Gen.k0_off25_eq t 0).trans (o3' t.val 0))⟩ h.y h.s) ?_
  rintro s y h
  replace h := AtV.next (hs ⟨4 + 4 * t.val + 0, by omega⟩ (4 + 4 * t.val + 0) (4 + 4 * t.val + 1) rfl rfl) h
  refine T_bind (blkV_spec _ _ _ _ _ _ _ _ _ _ _ ⟨4 + 4 * t.val + 1, by omega⟩ ⟨((Gen.k0_off21_eq t 1).trans (o2' t.val 1 0)), ((Gen.k0_off22_eq t 1).trans (o2 t.val 1 0)), ((Gen.k0_off23_eq t 1).trans (o2' t.val 1 256)), ((Gen.k0_off24_eq t 1).trans (o2 t.val 1 256)), ((Gen.k0_off25_eq t 1).trans (o3' t.val 1))⟩ h.y h.s) ?_
  rintro s y h
  replace h := AtV.next (hs ⟨4 + 4 * t.val + 1, by omega⟩ (4 + 4 * t.val + 1) (4 + 4 * t.val + 2) rfl rfl) h
  refine T_bind (blkV_spec _ _ _ _ _ _ _ _ _ _ _ ⟨4 + 4 * t.val + 2, by omega⟩ ⟨((Gen.k0_off21_eq t 2).trans (o2' t.val 2 0)), ((Gen.k0_off22_eq t 2).trans (o2 t.val 2 0)), ((Gen.k0_off23_eq t 2).trans (o2' t.val 2 256)), ((Gen.k0_off24_eq t 2).trans (o2 t.val 2 256)), ((Gen.k0_off25_eq t 2).trans (o3' t.val 2))⟩ h.y h.s) ?_
  rintro s y h
  replace h := AtV.next (hs ⟨4 + 4 * t.val + 2, by omega⟩ (4 + 4 * t.val + 2) (4 + 4 * t.val + 3) rfl rfl) h
  refine T_mono (blkV_spec _ _ _ _ _ _ _ _ _ _ _ ⟨4 + 4 * t.val + 3, by omega⟩ ⟨((Gen.k0_off21_eq t 3).trans (o2' t.val 3 0)), ((Gen.k0_off22_eq t 3).trans (o2 t.val 3 0)), ((Gen.k0_off23_eq t 3).trans (o2' t.val 3 256)), ((Gen.k0_off24_eq t 3).trans (o2 t.val 3 256)), ((Gen.k0_off25_eq t 3).trans (o3' t.val 3))⟩ h.y h.s) ?_
  rintro s y h
  exact AtV.next (hs ⟨4 + 4 * t.val + 3, by omega⟩ (4 + 4 * t.val + 3) (4 + 4 * t.val + 4) rfl rfl) h

theorem getD_some {α : Type} {o : Option α} (h : o.isSome = true) (d : α) : o = some (o.getD d) := by
  cases o with
  | none => cases h
  | some v => rfl

theorem At.proj {x : Mem F} {a : BS F} {Rg : Fin 2 → Option (Staged F)} {m0 l0 m1 l1 : FVec F S8x256 .f32} {s s' : Mxu F} {y y' : Mem F}
    (h : At x a Rg (m0, l0, m1, l1, s) y) (k : Fin 2) (ey : y' = y.proj k) (H : Abs s' (ma Rg a.O)) :
    At (x.proj k) a Rg (m0, l0, m1, l1, s') y' :=
  ⟨by rw [ey, h.y], h.m0, h.l0, h.m1, h.l1, H⟩

end Cert.AttnIdeal.Body

end
-- ==== Proof.AttnBr1.lean ====
/- The loops and the five branches of the attention kernel, and its body, as functions of the state. -/
module

public import proofs.«01_k».proof.Proof.AttnTrips

@[expose] public section

set_option maxRecDepth 16384
set_option pp.maxSteps 300

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Facts₀ Facts
open Cert.MxuAbs Mxu Cert.Hoare

variable {F : FTy → Type} [FloatOps F] [Named F] [Facts]
variable {arg1 : Memref sig .tc .vmem S1x512x512 .bf16} (harg1 : arg1.IsWhole)
variable {arg2 : Memref sig .tc .vmem S1x8192x512 .bf16} (harg2 : arg2.IsWhole)
variable {arg3 : Memref sig .tc .vmem S1x512x8192 .bf16} (harg3 : arg3.IsWhole)
variable {arg4 : Memref sig .tc .vmem S1x512x512 .bf16} (harg4 : arg4.IsWhole)
variable {arg5 : Memref sig .tc .vmem S512x512 .fp8e4m3} (harg5 : arg5.IsWhole)
variable {arg6 : Memref sig .tc .vmem S512x1 .f32} (harg6 : arg6.IsWhole)
variable {arg7 : Memref sig .tc .vmem S512x1 .f32} (harg7 : arg7.IsWhole)
variable {arg8 : Memref sig .tc .vmem S1x512x512 .bf16} (harg8 : arg8.IsWhole)
variable {arg9 : Memref sig .tc .vmem S1x512x512 .bf16} (harg9 : arg9.IsWhole)
variable {arg10 : Memref sig .tc .vmem S1x512x512 .fp8e4m3} (harg10 : arg10.IsWhole)
variable {arg11 : Memref sig .tc .vmem S1x1x512 .f32} (harg11 : arg11.IsWhole)
variable {arg12 : Memref sig .tc .vmem S8192x512 .f32} (harg12 : arg12.IsWhole)
variable {arg13 : Memref sig .tc .vmem S256x512 .f32} (harg13 : arg13.IsWhole)
variable {arg14 : Memref sig .tc .vmem S2x8x512 .f32} (harg14 : arg14.IsWhole)
variable {arg15 : Memref sig .tc .vmem S512x512 .f32} (harg15 : arg15.IsWhole)
variable {c : Dev nD} {R : sProp (MM nD τ sig F)} {defs : Defs nD τ sig (Elt F) Λ₀}

attribute [local irreducible] runB

set_option maxHeartbeats 8000000 in
theorem br1_spec (i : grid0.Coords) (hc : k0_cond1 i = 1#1) {s : Mxu F} {x : Mem F} (H : Abs s MA.empty) :
    TT arg1 arg2 arg3 arg4 arg5 arg6 arg7 arg8 arg9 arg10 arg11 arg12 arg13 arg14 arg15 c R defs (br1 arg1 arg2 arg12 arg13 arg14 i hc s) x (fun s' y => y = scoresF x ∧ Abs s' MA.empty) := by
  rw [← ma_empty] at H
  unfold br1
  refine T_bind (pushQ_spec _ _ _ _ 0 rfl rfl H (by simp [ma, st0]) (by simp [ma, st0])) ?_
  rintro s y ⟨ey, H⟩; subst y
  rw [ma_push] at H
  obtain ⟨run, hr⟩ : ∃ run, run = runB (stepS x.f1 x.f2) (bs0 x.f12 x.f13) := ⟨_, rfl⟩
  have hs : Runs (stepS x.f1 x.f2) run := hr ▸ runs_runB _ _
  have h0 : run 0 = bs0 x.f12 x.f13 := by rw [hr, runB]
  have h : At x (run 0) (stQ x.f1 0)
      (broadcast S8x256 (Scalar.ofBits .f32 0xFF800000#32), broadcast S8x256 (Scalar.ofBits .f32 0x00000000#32), broadcast S8x256 (Scalar.ofBits .f32 0xFF800000#32), broadcast S8x256 (Scalar.ofBits .f32 0x00000000#32), s) x :=
    by rw [h0]; exact ⟨rfl, rfl, rfl, rfl, rfl, H⟩
  refine T_bind (blkS_spec false _ _ _ _ _ _ _ _ _ _ _ _ _ _ _ _ _ 0 ⟨rfl, rfl, rfl, rfl, rfl, rfl⟩ h) ?_
  rintro ⟨m0, l0, m1, l1, s⟩ y h
  replace h := At.next (hs 0 0 1 rfl rfl) h
  refine T_bind (blkS_spec true _ _ _ _ _ _ _ _ _ _ _ _ _ _ _ _ _ 1 ⟨rfl, rfl, rfl, rfl, rfl, rfl⟩ h) ?_
  rintro ⟨m0, l0, m1, l1, s⟩ y h
  replace h := At.next (hs 1 1 2 rfl rfl) h
  refine T_bind (blkS_spec false _ _ _ _ _ _ _ _ _ _ _ _ _ _ _ _ _ 2 ⟨rfl, rfl, rfl, rfl, rfl, rfl⟩ h) ?_
  rintro ⟨m0, l0, m1, l1, s⟩ y h
  replace h := At.next (hs 2 2 3 rfl rfl) h
  refine T_bind (blkS_spec true _ _ _ _ _ _ _ _ _ _ _ _ _ _ _ _ _ 3 ⟨rfl, rfl, rfl, rfl, rfl, rfl⟩ h) ?_
  rintro ⟨m0, l0, m1, l1, s⟩ y h
  replace h := At.next (hs 3 3 4 rfl rfl) h
  refine T_bind (T_for (fun k r y => At x (run (4 + 4 * k)) (stQ x.f1 0) r y) h
    (fun k r y h => trip1_spec i hc k r hs h)) ?_
  rintro ⟨m0, l0, m1, l1, s⟩ y h
  rw [trips1] at h
  replace h := At.next (show run (4 + 4 * 6) = run 28 from rfl) h
  refine T_bind (blkS_spec false _ _ _ _ _ _ _ _ _ _ _ _ _ _ _ _ _ 28 ⟨rfl, rfl, rfl, rfl, rfl, rfl⟩ h) ?_
  rintro ⟨m0, l0, m1, l1, s⟩ y h
  replace h := At.next (hs 28 28 29 rfl rfl) h
  refine T_bind (blkS_spec true _ _ _ _ _ _ _ _ _ _ _ _ _ _ _ _ _ 29 ⟨rfl, rfl, rfl, rfl, rfl, rfl⟩ h) ?_
  rintro ⟨m0, l0, m1, l1, s⟩ y h
  replace h := At.next (hs 29 29 30 rfl rfl) h
  refine T_bind (blkS_spec false _ _ _ _ _ _ _ _ _ _ _ _ _ _ _ _ _ 30 ⟨rfl, rfl, rfl, rfl, rfl, rfl⟩ h) ?_
  rintro ⟨m0, l0, m1, l1, s⟩ y h
  replace h := At.next (hs 30 30 31 rfl rfl) h
  refine T_bind (blkSL_spec true _ _ _ _ _ _ _ _ _ _ _ _ _ _ _ _ _ 31 ⟨rfl, rfl, rfl, rfl, rfl, rfl⟩ h) ?_
  rintro ⟨m0, l0, m1, l1, s⟩ y h
  replace h := At.next (hs 31 31 32 rfl rfl) h
  obtain ⟨ey, h1, h2, h3, h4, H⟩ := h
  dsimp only at h1 h2 h3 h4 H
  generalize ha : run 32 = a at *
  subst h1 h2 h3 h4 ey
  have hO : a.O = fun _ => none := by
    have : ∀ k, (runB (stepS x.f1 x.f2) (bs0 x.f12 x.f13) k).O = fun _ => none := by
      intro k
      induction k with
      | zero => rw [runB]; rfl
      | succ k ih =>
        rw [runB]; split
        · exact ih
        · exact ih
    rw [← ha, hr]; exact this _
  rw [hO, ma_empty] at H
  refine T_bind (stat_spec 0 _ _ _ _ _ _ rfl rfl) ?_
  rintro _ y ey; subst y
  refine T_bind (stat_spec 1 _ _ _ _ _ _ rfl rfl) ?_
  rintro _ y ey; subst y
  refine T_pure _ ⟨?_, H⟩
  subst ha hr
  rfl

end Cert.AttnIdeal.Body

end
-- ==== Proof.AttnBr2.lean ====
/- The loops and the five branches of the attention kernel, and its body, as functions of the state. -/
module

public import proofs.«01_k».proof.Proof.AttnTrips

@[expose] public section

set_option maxRecDepth 16384
set_option pp.maxSteps 300

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Facts₀ Facts
open Cert.MxuAbs Mxu Cert.Hoare

variable {F : FTy → Type} [FloatOps F] [Named F] [Facts]
variable {arg1 : Memref sig .tc .vmem S1x512x512 .bf16} (harg1 : arg1.IsWhole)
variable {arg2 : Memref sig .tc .vmem S1x8192x512 .bf16} (harg2 : arg2.IsWhole)
variable {arg3 : Memref sig .tc .vmem S1x512x8192 .bf16} (harg3 : arg3.IsWhole)
variable {arg4 : Memref sig .tc .vmem S1x512x512 .bf16} (harg4 : arg4.IsWhole)
variable {arg5 : Memref sig .tc .vmem S512x512 .fp8e4m3} (harg5 : arg5.IsWhole)
variable {arg6 : Memref sig .tc .vmem S512x1 .f32} (harg6 : arg6.IsWhole)
variable {arg7 : Memref sig .tc .vmem S512x1 .f32} (harg7 : arg7.IsWhole)
variable {arg8 : Memref sig .tc .vmem S1x512x512 .bf16} (harg8 : arg8.IsWhole)
variable {arg9 : Memref sig .tc .vmem S1x512x512 .bf16} (harg9 : arg9.IsWhole)
variable {arg10 : Memref sig .tc .vmem S1x512x512 .fp8e4m3} (harg10 : arg10.IsWhole)
variable {arg11 : Memref sig .tc .vmem S1x1x512 .f32} (harg11 : arg11.IsWhole)
variable {arg12 : Memref sig .tc .vmem S8192x512 .f32} (harg12 : arg12.IsWhole)
variable {arg13 : Memref sig .tc .vmem S256x512 .f32} (harg13 : arg13.IsWhole)
variable {arg14 : Memref sig .tc .vmem S2x8x512 .f32} (harg14 : arg14.IsWhole)
variable {arg15 : Memref sig .tc .vmem S512x512 .f32} (harg15 : arg15.IsWhole)
variable {c : Dev nD} {R : sProp (MM nD τ sig F)} {defs : Defs nD τ sig (Elt F) Λ₀}

attribute [local irreducible] runB

set_option maxHeartbeats 8000000 in
theorem br2_spec (i : grid0.Coords) (hc : k0_cond2 i = 1#1) {s : Mxu F} {x : Mem F} (H : Abs s MA.empty) :
    TT arg1 arg2 arg3 arg4 arg5 arg6 arg7 arg8 arg9 arg10 arg11 arg12 arg13 arg14 arg15 c R defs (br2 arg1 arg2 arg3 arg12 arg13 arg14 arg15 i hc s) x (fun s' y => y = svF x ∧ Abs s' MA.empty) := by
  rw [← ma_empty] at H
  unfold br2
  refine T_bind (pushQ_spec _ _ _ _ 0 rfl rfl H (by simp [ma, st0]) (by simp [ma, st0])) ?_
  rintro s y ⟨ey, H⟩; subst y
  rw [ma_push] at H
  obtain ⟨run, hr⟩ : ∃ run, run = runB (stepSV x.f1 x.f2 x.f3 x.f14) (bs0 x.f12 x.f13) := ⟨_, rfl⟩
  have hs : Runs (stepSV x.f1 x.f2 x.f3 x.f14) run := hr ▸ runs_runB _ _
  have h0 : run 0 = bs0 x.f12 x.f13 := by rw [hr, runB]
  have h : At x (run 0) (stQ x.f1 0)
      (broadcast S8x256 (Scalar.ofBits .f32 0xFF800000#32), broadcast S8x256 (Scalar.ofBits .f32 0x00000000#32), broadcast S8x256 (Scalar.ofBits .f32 0xFF800000#32), broadcast S8x256 (Scalar.ofBits .f32 0x00000000#32), s) x :=
    by rw [h0]; exact ⟨rfl, rfl, rfl, rfl, rfl, H⟩
  refine T_bind (blkSV_spec false _ _ _ _ _ _ _ _ _ _ _ _ _ _ _ _ _ _ _ 0 ⟨rfl, rfl, rfl, rfl, rfl, rfl⟩ ⟨rfl, rfl, rfl, rfl, rfl⟩ h) ?_
  rintro ⟨m0, l0, m1, l1, s⟩ y h
  replace h := At.next (hs 0 0 1 rfl rfl) h
  refine T_bind (blkSV_spec true _ _ _ _ _ _ _ _ _ _ _ _ _ _ _ _ _ _ _ 1 ⟨rfl, rfl, rfl, rfl, rfl, rfl⟩ ⟨rfl, rfl, rfl, rfl, rfl⟩ h) ?_
  rintro ⟨m0, l0, m1, l1, s⟩ y h
  replace h := At.next (hs 1 1 2 rfl rfl) h
  refine T_bind (blkSV_spec false _ _ _ _ _ _ _ _ _ _ _ _ _ _ _ _ _ _ _ 2 ⟨rfl, rfl, rfl, rfl, rfl, rfl⟩ ⟨rfl, rfl, rfl, rfl, rfl⟩ h) ?_
  rintro ⟨m0, l0, m1, l1, s⟩ y h
  replace h := At.next (hs 2 2 3 rfl rfl) h
  refine T_bind (blkSV_spec true _ _ _ _ _ _ _ _ _ _ _ _ _ _ _ _ _ _ _ 3 ⟨rfl, rfl, rfl, rfl, rfl, rfl⟩ ⟨rfl, rfl, rfl, rfl, rfl⟩ h) ?_
  rintro ⟨m0, l0, m1, l1, s⟩ y h
  replace h := At.next (hs 3 3 4 rfl rfl) h
  refine T_bind (T_for (fun k r y => At x (run (4 + 4 * k)) (stQ x.f1 0) r y) h
    (fun k r y h => trip2_spec i hc k r hs h)) ?_
  rintro ⟨m0, l0, m1, l1, s⟩ y h
  rw [trips2] at h
  replace h := At.next (show run (4 + 4 * 6) = run 28 from rfl) h
  refine T_bind (blkSV_spec false _ _ _ _ _ _ _ _ _ _ _ _ _ _ _ _ _ _ _ 28 ⟨rfl, rfl, rfl, rfl, rfl, rfl⟩ ⟨rfl, rfl, rfl, rfl, rfl⟩ h) ?_
  rintro ⟨m0, l0, m1, l1, s⟩ y h
  replace h := At.next (hs 28 28 29 rfl rfl) h
  refine T_bind (blkSV_spec true _ _ _ _ _ _ _ _ _ _ _ _ _ _ _ _ _ _ _ 29 ⟨rfl, rfl, rfl, rfl, rfl, rfl⟩ ⟨rfl, rfl, rfl, rfl, rfl⟩ h) ?_
  rintro ⟨m0, l0, m1, l1, s⟩ y h
  replace h := At.next (hs 29 29 30 rfl rfl) h
  refine T_bind (blkSV_spec false _ _ _ _ _ _ _ _ _ _ _ _ _ _ _ _ _ _ _ 30 ⟨rfl, rfl, rfl, rfl, rfl, rfl⟩ ⟨rfl, rfl, rfl, rfl, rfl⟩ h) ?_
  rintro ⟨m0, l0, m1, l1, s⟩ y h
  replace h := At.next (hs 30 30 31 rfl rfl) h
  refine T_bind (blkSVL_spec true _ _ _ _ _ _ _ _ _ _ _ _ _ _ _ _ _ _ _ 31 ⟨rfl, rfl, rfl, rfl, rfl, rfl⟩ ⟨rfl, rfl, rfl, rfl, rfl⟩ h) ?_
  rintro ⟨m0, l0, m1, l1, s⟩ y h
  replace h := At.next (hs 31 31 32 rfl rfl) h
  obtain ⟨ey, h1, h2, h3, h4, H⟩ := h
  dsimp only at h1 h2 h3 h4 H
  generalize ha : run 32 = a at *
  subst h1 h2 h3 h4 ey
  have hO : ∀ q, (a.O q).isSome = true := by
    intro q; rw [← ha, ← hs 31 31 32 rfl rfl]; rfl
  refine T_bind (popO_spec 0 _ _ rfl H (v := (a.O 0).getD _) (getD_some (hO 0) (fun _ => Scalar.ofBits .f32 0))) ?_
  rintro s y ⟨ey, H⟩; subst y
  refine T_bind (popO_spec 1 _ _ rfl H (v := (a.O 1).getD _) (getD_some (hO 1) (fun _ => Scalar.ofBits .f32 0))) ?_
  rintro s y ⟨ey, H⟩; subst y
  rw [ma_popO] at H
  refine T_bind (stat_spec 0 _ _ _ _ _ _ rfl rfl) ?_
  rintro _ y ey; subst y
  refine T_bind (stat_spec 1 _ _ _ _ _ _ rfl rfl) ?_
  rintro _ y ey; subst y
  refine T_pure _ ⟨?_, H⟩
  subst ha hr
  rfl

end Cert.AttnIdeal.Body

end
-- ==== Proof.AttnBr3.lean ====
/- The loops and the five branches of the attention kernel, and its body, as functions of the state. -/
module

public import proofs.«01_k».proof.Proof.AttnTrips

@[expose] public section

set_option maxRecDepth 16384
set_option pp.maxSteps 300

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Facts₀ Facts
open Cert.MxuAbs Mxu Cert.Hoare

variable {F : FTy → Type} [FloatOps F] [Named F] [Facts]
variable {arg1 : Memref sig .tc .vmem S1x512x512 .bf16} (harg1 : arg1.IsWhole)
variable {arg2 : Memref sig .tc .vmem S1x8192x512 .bf16} (harg2 : arg2.IsWhole)
variable {arg3 : Memref sig .tc .vmem S1x512x8192 .bf16} (harg3 : arg3.IsWhole)
variable {arg4 : Memref sig .tc .vmem S1x512x512 .bf16} (harg4 : arg4.IsWhole)
variable {arg5 : Memref sig .tc .vmem S512x512 .fp8e4m3} (harg5 : arg5.IsWhole)
variable {arg6 : Memref sig .tc .vmem S512x1 .f32} (harg6 : arg6.IsWhole)
variable {arg7 : Memref sig .tc .vmem S512x1 .f32} (harg7 : arg7.IsWhole)
variable {arg8 : Memref sig .tc .vmem S1x512x512 .bf16} (harg8 : arg8.IsWhole)
variable {arg9 : Memref sig .tc .vmem S1x512x512 .bf16} (harg9 : arg9.IsWhole)
variable {arg10 : Memref sig .tc .vmem S1x512x512 .fp8e4m3} (harg10 : arg10.IsWhole)
variable {arg11 : Memref sig .tc .vmem S1x1x512 .f32} (harg11 : arg11.IsWhole)
variable {arg12 : Memref sig .tc .vmem S8192x512 .f32} (harg12 : arg12.IsWhole)
variable {arg13 : Memref sig .tc .vmem S256x512 .f32} (harg13 : arg13.IsWhole)
variable {arg14 : Memref sig .tc .vmem S2x8x512 .f32} (harg14 : arg14.IsWhole)
variable {arg15 : Memref sig .tc .vmem S512x512 .f32} (harg15 : arg15.IsWhole)
variable {c : Dev nD} {R : sProp (MM nD τ sig F)} {defs : Defs nD τ sig (Elt F) Λ₀}

attribute [local irreducible] runB

set_option maxHeartbeats 8000000 in
theorem br3_spec (i : grid0.Coords) (hc : k0_cond3 i = 1#1) {s : Mxu F} {x : Mem F} (H : Abs s MA.empty) :
    TT arg1 arg2 arg3 arg4 arg5 arg6 arg7 arg8 arg9 arg10 arg11 arg12 arg13 arg14 arg15 c R defs (br3 arg1 arg2 arg3 arg4 arg5 arg6 arg7 arg8 harg8 arg9 harg9 arg10 harg10 arg11 arg12 arg13 arg14 arg15 i hc s) x (fun s' y => y = svF (pF x) ∧ Abs s' MA.empty) := by
  rw [← ma_empty] at H
  unfold br3
  refine T_bind (pushQ_spec _ _ _ _ 0 rfl rfl H (by simp [ma, st0]) (by simp [ma, st0])) ?_
  rintro s y ⟨ey, H⟩; subst y
  rw [ma_push] at H
  refine T_bind (quantO_spec harg10) ?_
  rintro _ y ey; subst y
  obtain ⟨z, hz⟩ : ∃ z, z = x.quant := ⟨_, rfl⟩
  rw [← hz]
  have e1 : stQ x.f1 0 = stQ z.f1 0 := by rw [hz]
  rw [e1] at H
  obtain ⟨run, hr⟩ : ∃ run, run = runB (stepSV z.f1 z.f2 z.f3 z.f14) (bs0 z.f12 z.f13) := ⟨_, rfl⟩
  have hs : Runs (stepSV z.f1 z.f2 z.f3 z.f14) run := hr ▸ runs_runB _ _
  have h0 : run 0 = bs0 z.f12 z.f13 := by rw [hr, runB]
  have h : At z (run 0) (stQ z.f1 0)
      (broadcast S8x256 (Scalar.ofBits .f32 0xFF800000#32), broadcast S8x256 (Scalar.ofBits .f32 0x00000000#32), broadcast S8x256 (Scalar.ofBits .f32 0xFF800000#32), broadcast S8x256 (Scalar.ofBits .f32 0x00000000#32), s) z :=
    by rw [h0]; exact ⟨rfl, rfl, rfl, rfl, rfl, H⟩
  refine T_bind (blkSV_spec false _ _ _ _ _ _ _ _ _ _ _ _ _ _ _ _ _ _ _ 0 ⟨rfl, rfl, rfl, rfl, rfl, rfl⟩ ⟨rfl, rfl, rfl, rfl, rfl⟩ h) ?_
  rintro ⟨m0, l0, m1, l1, s⟩ y h
  replace h := At.next (hs 0 0 1 rfl rfl) h
  refine T_bind (blkSV_spec true _ _ _ _ _ _ _ _ _ _ _ _ _ _ _ _ _ _ _ 1 ⟨rfl, rfl, rfl, rfl, rfl, rfl⟩ ⟨rfl, rfl, rfl, rfl, rfl⟩ h) ?_
  rintro ⟨m0, l0, m1, l1, s⟩ y h
  replace h := At.next (hs 1 1 2 rfl rfl) h
  refine T_bind (proj0_spec harg8 harg9 h.s) ?_
  rintro s y ⟨ey, Hs⟩
  replace h := h.proj 0 ey Hs
  refine T_bind (blkSV_spec false _ _ _ _ _ _ _ _ _ _ _ _ _ _ _ _ _ _ _ 2 ⟨rfl, rfl, rfl, rfl, rfl, rfl⟩ ⟨rfl, rfl, rfl, rfl, rfl⟩ h) ?_
  rintro ⟨m0, l0, m1, l1, s⟩ y h
  replace h := At.next (hs 2 2 3 rfl rfl) h
  refine T_bind (proj1_spec harg8 harg9 h.s) ?_
  rintro s y ⟨ey, Hs⟩
  replace h := h.proj 1 ey Hs
  refine T_bind (blkSV_spec true _ _ _ _ _ _ _ _ _ _ _ _ _ _ _ _ _ _ _ 3 ⟨rfl, rfl, rfl, rfl, rfl, rfl⟩ ⟨rfl, rfl, rfl, rfl, rfl⟩ h) ?_
  rintro ⟨m0, l0, m1, l1, s⟩ y h
  replace h := At.next (hs 3 3 4 rfl rfl) h
  refine T_bind (T_for (fun k r y => At ((z.proj 0).proj 1) (run (4 + 4 * k)) (stQ ((z.proj 0).proj 1).f1 0) r y) h
    (fun k r y h => trip3_spec i hc k r hs h)) ?_
  rintro ⟨m0, l0, m1, l1, s⟩ y h
  rw [trips3] at h
  replace h := At.next (show run (4 + 4 * 6) = run 28 from rfl) h
  refine T_bind (blkSV_spec false _ _ _ _ _ _ _ _ _ _ _ _ _ _ _ _ _ _ _ 28 ⟨rfl, rfl, rfl, rfl, rfl, rfl⟩ ⟨rfl, rfl, rfl, rfl, rfl⟩ h) ?_
  rintro ⟨m0, l0, m1, l1, s⟩ y h
  replace h := At.next (hs 28 28 29 rfl rfl) h
  refine T_bind (blkSV_spec true _ _ _ _ _ _ _ _ _ _ _ _ _ _ _ _ _ _ _ 29 ⟨rfl, rfl, rfl, rfl, rfl, rfl⟩ ⟨rfl, rfl, rfl, rfl, rfl⟩ h) ?_
  rintro ⟨m0, l0, m1, l1, s⟩ y h
  replace h := At.next (hs 29 29 30 rfl rfl) h
  refine T_bind (blkSV_spec false _ _ _ _ _ _ _ _ _ _ _ _ _ _ _ _ _ _ _ 30 ⟨rfl, rfl, rfl, rfl, rfl, rfl⟩ ⟨rfl, rfl, rfl, rfl, rfl⟩ h) ?_
  rintro ⟨m0, l0, m1, l1, s⟩ y h
  replace h := At.next (hs 30 30 31 rfl rfl) h
  refine T_bind (blkSVL_spec true _ _ _ _ _ _ _ _ _ _ _ _ _ _ _ _ _ _ _ 31 ⟨rfl, rfl, rfl, rfl, rfl, rfl⟩ ⟨rfl, rfl, rfl, rfl, rfl⟩ h) ?_
  rintro ⟨m0, l0, m1, l1, s⟩ y h
  replace h := At.next (hs 31 31 32 rfl rfl) h
  obtain ⟨ey, h1, h2, h3, h4, H⟩ := h
  dsimp only at h1 h2 h3 h4 H
  generalize ha : run 32 = a at *
  subst h1 h2 h3 h4 ey
  have hO : ∀ q, (a.O q).isSome = true := by
    intro q; rw [← ha, ← hs 31 31 32 rfl rfl]; rfl
  refine T_bind (popO_spec 0 _ _ rfl H (v := (a.O 0).getD _) (getD_some (hO 0) (fun _ => Scalar.ofBits .f32 0))) ?_
  rintro s y ⟨ey, H⟩; subst y
  refine T_bind (popO_spec 1 _ _ rfl H (v := (a.O 1).getD _) (getD_some (hO 1) (fun _ => Scalar.ofBits .f32 0))) ?_
  rintro s y ⟨ey, H⟩; subst y
  rw [ma_popO] at H
  refine T_bind (stat_spec 0 _ _ _ _ _ _ rfl rfl) ?_
  rintro _ y ey; subst y
  refine T_bind (stat_spec 1 _ _ _ _ _ _ rfl rfl) ?_
  rintro _ y ey; subst y
  refine T_pure _ ⟨?_, H⟩
  subst ha hr
  subst hz
  rfl

end Cert.AttnIdeal.Body

end
-- ==== Proof.AttnBr4.lean ====
/- The loops and the five branches of the attention kernel, and its body, as functions of the state. -/
module

public import proofs.«01_k».proof.Proof.AttnTrips

@[expose] public section

set_option maxRecDepth 16384
set_option pp.maxSteps 300

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Facts₀ Facts
open Cert.MxuAbs Mxu Cert.Hoare

variable {F : FTy → Type} [FloatOps F] [Named F] [Facts]
variable {arg1 : Memref sig .tc .vmem S1x512x512 .bf16} (harg1 : arg1.IsWhole)
variable {arg2 : Memref sig .tc .vmem S1x8192x512 .bf16} (harg2 : arg2.IsWhole)
variable {arg3 : Memref sig .tc .vmem S1x512x8192 .bf16} (harg3 : arg3.IsWhole)
variable {arg4 : Memref sig .tc .vmem S1x512x512 .bf16} (harg4 : arg4.IsWhole)
variable {arg5 : Memref sig .tc .vmem S512x512 .fp8e4m3} (harg5 : arg5.IsWhole)
variable {arg6 : Memref sig .tc .vmem S512x1 .f32} (harg6 : arg6.IsWhole)
variable {arg7 : Memref sig .tc .vmem S512x1 .f32} (harg7 : arg7.IsWhole)
variable {arg8 : Memref sig .tc .vmem S1x512x512 .bf16} (harg8 : arg8.IsWhole)
variable {arg9 : Memref sig .tc .vmem S1x512x512 .bf16} (harg9 : arg9.IsWhole)
variable {arg10 : Memref sig .tc .vmem S1x512x512 .fp8e4m3} (harg10 : arg10.IsWhole)
variable {arg11 : Memref sig .tc .vmem S1x1x512 .f32} (harg11 : arg11.IsWhole)
variable {arg12 : Memref sig .tc .vmem S8192x512 .f32} (harg12 : arg12.IsWhole)
variable {arg13 : Memref sig .tc .vmem S256x512 .f32} (harg13 : arg13.IsWhole)
variable {arg14 : Memref sig .tc .vmem S2x8x512 .f32} (harg14 : arg14.IsWhole)
variable {arg15 : Memref sig .tc .vmem S512x512 .f32} (harg15 : arg15.IsWhole)
variable {c : Dev nD} {R : sProp (MM nD τ sig F)} {defs : Defs nD τ sig (Elt F) Λ₀}

attribute [local irreducible] runB

theorem AtV.proj {x : Mem F} {a : BS F} {s s' : Mxu F} {y y' : Mem F}
    (h : AtV x a s y) (k : Fin 2) (ey : y' = y.proj k) (H : Abs s' (ma st0 a.O)) : AtV (x.proj k) a s' y' :=
  ⟨by rw [ey, h.y], H⟩

set_option maxHeartbeats 8000000 in
theorem br4_spec (i : grid0.Coords) (hc : k0_cond4 i = 1#1) {s : Mxu F} {x : Mem F} (H : Abs s MA.empty) :
    TT arg1 arg2 arg3 arg4 arg5 arg6 arg7 arg8 arg9 arg10 arg11 arg12 arg13 arg14 arg15 c R defs (br4 arg3 arg4 arg5 arg6 arg7 arg8 harg8 arg9 harg9 arg10 harg10 arg11 arg12 arg13 arg14 arg15 i hc s) x (fun s' y => y = vF (pF x) ∧ Abs s' MA.empty) := by
  rw [← ma_empty] at H
  unfold br4
  refine T_bind (quantO_spec harg10) ?_
  rintro _ y ey; subst y
  obtain ⟨z, hz⟩ : ∃ z, z = x.quant := ⟨_, rfl⟩
  rw [← hz]
  obtain ⟨run, hr⟩ : ∃ run, run = runB (stepV z.f3 z.f14) (bs0 z.f12 z.f13) := ⟨_, rfl⟩
  have hs : Runs (stepV z.f3 z.f14) run := hr ▸ runs_runB _ _
  have h0 : run 0 = bs0 z.f12 z.f13 := by rw [hr, runB]
  have h : AtV z (run 0) s z := by rw [h0]; exact ⟨rfl, H⟩
  refine T_bind (blkV_spec _ _ _ _ _ _ _ _ _ _ _ 0 ⟨rfl, rfl, rfl, rfl, rfl⟩ h.y h.s) ?_
  rintro s y h
  replace h := AtV.next (hs 0 0 1 rfl rfl) h
  refine T_bind (blkV_spec _ _ _ _ _ _ _ _ _ _ _ 1 ⟨rfl, rfl, rfl, rfl, rfl⟩ h.y h.s) ?_
  rintro s y h
  replace h := AtV.next (hs 1 1 2 rfl rfl) h
  refine T_bind (proj0_spec harg8 harg9 h.s) ?_
  rintro s y ⟨ey, Hs⟩
  replace h := h.proj 0 ey Hs
  refine T_bind (blkV_spec _ _ _ _ _ _ _ _ _ _ _ 2 ⟨rfl, rfl, rfl, rfl, rfl⟩ h.y h.s) ?_
  rintro s y h
  replace h := AtV.next (hs 2 2 3 rfl rfl) h
  refine T_bind (proj1_spec harg8 harg9 h.s) ?_
  rintro s y ⟨ey, Hs⟩
  replace h := h.proj 1 ey Hs
  refine T_bind (blkV_spec _ _ _ _ _ _ _ _ _ _ _ 3 ⟨rfl, rfl, rfl, rfl, rfl⟩ h.y h.s) ?_
  rintro s y h
  replace h := AtV.next (hs 3 3 4 rfl rfl) h
  refine T_bind (T_for (fun k s y => AtV ((z.proj 0).proj 1) (run (4 + 4 * k)) s y) h
    (fun k r y h => trip4_spec i hc k r hs h)) ?_
  rintro s y h
  rw [trips4] at h
  replace h : AtV ((z.proj 0).proj 1) (run 28) s y := h
  refine T_bind (blkV_spec _ _ _ _ _ _ _ _ _ _ _ 28 ⟨rfl, rfl, rfl, rfl, rfl⟩ h.y h.s) ?_
  rintro s y h
  replace h := AtV.next (hs 28 28 29 rfl rfl) h
  refine T_bind (blkV_spec _ _ _ _ _ _ _ _ _ _ _ 29 ⟨rfl, rfl, rfl, rfl, rfl⟩ h.y h.s) ?_
  rintro s y h
  replace h := AtV.next (hs 29 29 30 rfl rfl) h
  refine T_bind (blkV_spec _ _ _ _ _ _ _ _ _ _ _ 30 ⟨rfl, rfl, rfl, rfl, rfl⟩ h.y h.s) ?_
  rintro s y h
  replace h := AtV.next (hs 30 30 31 rfl rfl) h
  refine T_bind (blkV_spec _ _ _ _ _ _ _ _ _ _ _ 31 ⟨rfl, rfl, rfl, rfl, rfl⟩ h.y h.s) ?_
  rintro s y h
  replace h := AtV.next (hs 31 31 32 rfl rfl) h
  obtain ⟨ey, H⟩ := h
  generalize ha : run 32 = a at *
  subst ey
  have hO : ∀ q, (a.O q).isSome = true := by
    intro q; rw [← ha, ← hs 31 31 32 rfl rfl]; rfl
  refine T_bind (popO_spec 0 _ _ rfl H (v := (a.O 0).getD _) (getD_some (hO 0) (fun _ => Scalar.ofBits .f32 0))) ?_
  rintro s y ⟨ey, H⟩; subst y
  refine T_mono (popO_spec 1 _ _ rfl H (v := (a.O 1).getD _) (getD_some (hO 1) (fun _ => Scalar.ofBits .f32 0))) ?_
  rintro s y ⟨ey, H⟩; subst y
  rw [ma_popO] at H
  refine ⟨?_, H⟩
  have e : runB (stepV (pF x).f3 (pF x).f14) (bs0 (pF x).f12 (pF x).f13) 32 = a := by
    rw [← ha, hr, hz]; rfl
  unfold vF
  rw [e]
  subst hz
  rfl

end Cert.AttnIdeal.Body

end
-- ==== Proof.AttnBody.lean ====
/- The loops and the five branches of the attention kernel, and its body, as functions of the state. -/
module

public import proofs.«01_k».proof.Proof.AttnBr1
public import proofs.«01_k».proof.Proof.AttnBr2
public import proofs.«01_k».proof.Proof.AttnBr3
public import proofs.«01_k».proof.Proof.AttnBr4

@[expose] public section

set_option maxRecDepth 16384
set_option pp.maxSteps 300

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Facts₀ Facts
open Cert.MxuAbs Mxu Cert.Hoare

variable {F : FTy → Type} [FloatOps F] [Named F] [Facts]
variable {arg1 : Memref sig .tc .vmem S1x512x512 .bf16} (harg1 : arg1.IsWhole)
variable {arg2 : Memref sig .tc .vmem S1x8192x512 .bf16} (harg2 : arg2.IsWhole)
variable {arg3 : Memref sig .tc .vmem S1x512x8192 .bf16} (harg3 : arg3.IsWhole)
variable {arg4 : Memref sig .tc .vmem S1x512x512 .bf16} (harg4 : arg4.IsWhole)
variable {arg5 : Memref sig .tc .vmem S512x512 .fp8e4m3} (harg5 : arg5.IsWhole)
variable {arg6 : Memref sig .tc .vmem S512x1 .f32} (harg6 : arg6.IsWhole)
variable {arg7 : Memref sig .tc .vmem S512x1 .f32} (harg7 : arg7.IsWhole)
variable {arg8 : Memref sig .tc .vmem S1x512x512 .bf16} (harg8 : arg8.IsWhole)
variable {arg9 : Memref sig .tc .vmem S1x512x512 .bf16} (harg9 : arg9.IsWhole)
variable {arg10 : Memref sig .tc .vmem S1x512x512 .fp8e4m3} (harg10 : arg10.IsWhole)
variable {arg11 : Memref sig .tc .vmem S1x1x512 .f32} (harg11 : arg11.IsWhole)
variable {arg12 : Memref sig .tc .vmem S8192x512 .f32} (harg12 : arg12.IsWhole)
variable {arg13 : Memref sig .tc .vmem S256x512 .f32} (harg13 : arg13.IsWhole)
variable {arg14 : Memref sig .tc .vmem S2x8x512 .f32} (harg14 : arg14.IsWhole)
variable {arg15 : Memref sig .tc .vmem S512x512 .f32} (harg15 : arg15.IsWhole)
variable {c : Dev nD} {R : sProp (MM nD τ sig F)} {defs : Defs nD τ sig (Elt F) Λ₀}

theorem br5_spec {s : Mxu F} {x : Mem F} (H : Abs s MA.empty) :
    TT arg1 arg2 arg3 arg4 arg5 arg6 arg7 arg8 arg9 arg10 arg11 arg12 arg13 arg14 arg15 c R defs (br5 arg4 arg5 arg6 arg7 arg8 harg8 arg9 harg9 arg10 harg10 arg11 arg15 s) x (fun s' y => y = pF x ∧ Abs s' MA.empty) := by
  rw [← ma_empty] at H
  unfold br5
  refine T_bind (quantO_spec harg10) ?_
  rintro _ y ey; subst y
  refine T_bind (proj0_spec harg8 harg9 H) ?_
  rintro s y ⟨ey, H⟩; subst y
  refine T_mono (proj1_spec harg8 harg9 H) ?_
  rintro s y ⟨ey, H⟩; subst y
  rw [ma_empty] at H
  exact ⟨rfl, H⟩

/-- What the body leaves of the state at the grid point `i`. -/
def bodyF (i : grid0.Coords) (x0 : Mem F) : Mem F :=
  let x1 := if k0_cond1 i = 1#1 then scoresF x0 else x0
  let x2 := if k0_cond2 i = 1#1 then svF x1 else x1
  let x3 := if k0_cond3 i = 1#1 then svF (pF x2) else x2
  let x4 := if k0_cond4 i = 1#1 then vF (pF x3) else x3
  if k0_cond5 i = 1#1 then pF x4 else x4

/-- A conditional branch, from drained units to drained units, and the rest of the program. -/
theorem T_dite {P : Prop} [Decidable P] {β : Type} {p : P → Prog (TpuEff nD τ sig (Elt F) Λ₀ .tc) (Mxu F)} {k : Mxu F → Prog (TpuEff nD τ sig (Elt F) Λ₀ .tc) β}
    (f : Mem F → Mem F) {s : Mxu F} {x : Mem F} {Q : β → Mem F → Prop} (H : Abs s MA.empty)
    (hp : ∀ h, TT arg1 arg2 arg3 arg4 arg5 arg6 arg7 arg8 arg9 arg10 arg11 arg12 arg13 arg14 arg15 c R defs (p h) x (fun s' y => y = f x ∧ Abs s' MA.empty))
    (hk : ∀ s' y, y = (if P then f x else x) ∧ Abs s' MA.empty → TT arg1 arg2 arg3 arg4 arg5 arg6 arg7 arg8 arg9 arg10 arg11 arg12 arg13 arg14 arg15 c R defs (k s') y Q) :
    TT arg1 arg2 arg3 arg4 arg5 arg6 arg7 arg8 arg9 arg10 arg11 arg12 arg13 arg14 arg15 c R defs (if h : P then (p h >>= k) else (pure s >>= k)) x Q := by
  by_cases h : P
  · rw [dif_pos h]; rw [if_pos h] at hk; exact T_bind (hp h) hk
  · rw [dif_neg h]; rw [if_neg h] at hk; exact T_bind (T_pure s ⟨rfl, H⟩) hk

theorem bodyS_spec (i : grid0.Coords) {x : Mem F} :
    TT arg1 arg2 arg3 arg4 arg5 arg6 arg7 arg8 arg9 arg10 arg11 arg12 arg13 arg14 arg15 c R defs (bodyS i arg1 harg1 arg2 harg2 arg3 harg3 arg4 harg4 arg5 harg5 arg6 harg6 arg7 harg7 arg8 harg8 arg9 harg9 arg10 harg10 arg11 harg11 arg12 harg12 arg13 harg13 arg14 harg14 arg15 harg15) x (fun _ y => y = bodyF i x) := by
  unfold bodyS
  refine T_dite (scoresF (F := F)) abs_init (fun h => br1_spec i h abs_init) ?_
  rintro s y ⟨ey, H⟩; subst y
  refine T_dite (svF (F := F)) H (fun h => br2_spec i h H) ?_
  rintro s y ⟨ey, H⟩; subst y
  refine T_dite (fun x : Mem F => svF (pF x)) H (fun h => br3_spec harg8 harg9 harg10 i h H) ?_
  rintro s y ⟨ey, H⟩; subst y
  refine T_dite (fun x : Mem F => vF (pF x)) H (fun h => br4_spec harg8 harg9 harg10 i h H) ?_
  rintro s y ⟨ey, H⟩; subst y
  refine T_dite (pF (F := F)) H (fun h => br5_spec harg8 harg9 harg10 H) ?_
  rintro s y ⟨ey, H⟩; subst y
  exact T_exit H.drained rfl

end Cert.AttnIdeal.Body

end
-- ==== Proof.AttnFrame.lean ====
/- The frame of the attention kernel: its pipeline's proof data, its body at every grid point, and its run. What the body leaves
   in the outputs is held to what `bodyF` says of some scratch contents that the points before could have left. -/
module

public import proofs.«01_k».proof.Proof.AttnBody
public import proofs.«01_k».proof.Proof.Gen.AttnIdeal.Frame
public import Idealize.ShloMosaic.Lib.Pipeline.DatRel
public import Idealize.ShloMosaic.Lib.Pipeline.ArrRel
public import Idealize.ShloMosaic.Lib.Claim

@[expose] public section

set_option maxRecDepth 16384
set_option pp.maxSteps 300

noncomputable section

namespace Cert.AttnIdeal.Body

open Cert.AttnIdeal Cert.AttnIdeal.Gen Cert.Hoare
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

variable (m : (ℓ : Loc nD τ sig) → Buf (Elt F) ℓ) (ρ : Dev nD → PrngReg)

/-! ## The body leaves the inputs -/

/-- The same inputs. -/
def SameIns (y x : Mem F) : Prop :=
  y.f1 = x.f1 ∧ y.f2 = x.f2 ∧ y.f3 = x.f3 ∧ y.f4 = x.f4 ∧ y.f5 = x.f5 ∧ y.f6 = x.f6 ∧ y.f7 = x.f7

theorem SameIns.refl (x : Mem F) : SameIns x x := ⟨rfl, rfl, rfl, rfl, rfl, rfl, rfl⟩

theorem SameIns.trans {x y z : Mem F} (h : SameIns z y) (h' : SameIns y x) : SameIns z x :=
  ⟨h.1.trans h'.1, h.2.1.trans h'.2.1, h.2.2.1.trans h'.2.2.1, h.2.2.2.1.trans h'.2.2.2.1, h.2.2.2.2.1.trans h'.2.2.2.2.1,
    h.2.2.2.2.2.1.trans h'.2.2.2.2.2.1, h.2.2.2.2.2.2.trans h'.2.2.2.2.2.2⟩

theorem SameIns.ite {P : Prop} [Decidable P] {x y z : Mem F} (h : SameIns z x) (h' : SameIns y x) : SameIns (if P then z else y) x := by
  split
  · exact h
  · exact h'

theorem scoresF_ins (x : Mem F) : SameIns (scoresF x) x := by unfold scoresF; exact ⟨rfl, rfl, rfl, rfl, rfl, rfl, rfl⟩
theorem svF_ins (x : Mem F) : SameIns (svF x) x := by unfold svF; exact ⟨rfl, rfl, rfl, rfl, rfl, rfl, rfl⟩
theorem vF_ins (x : Mem F) : SameIns (vF x) x := by unfold vF; exact ⟨rfl, rfl, rfl, rfl, rfl, rfl, rfl⟩
theorem pF_ins (x : Mem F) : SameIns (pF x) x := by unfold pF; exact ⟨rfl, rfl, rfl, rfl, rfl, rfl, rfl⟩

theorem bodyF_ins (i : grid0.Coords) (x : Mem F) : SameIns (bodyF i x) x := by
  unfold bodyF
  have h1 : SameIns (if k0_cond1 i = 1#1 then scoresF x else x) x := (scoresF_ins x).ite (SameIns.refl x)
  generalize (if k0_cond1 i = 1#1 then scoresF x else x) = x1 at h1 ⊢
  have h2 : SameIns (if k0_cond2 i = 1#1 then svF x1 else x1) x := ((svF_ins x1).trans h1).ite h1
  dsimp only
  generalize (if k0_cond2 i = 1#1 then svF x1 else x1) = x2 at h2 ⊢
  have h3 : SameIns (if k0_cond3 i = 1#1 then svF (pF x2) else x2) x := (((svF_ins _).trans (pF_ins x2)).trans h2).ite h2
  generalize (if k0_cond3 i = 1#1 then svF (pF x2) else x2) = x3 at h3 ⊢
  have h4 : SameIns (if k0_cond4 i = 1#1 then vF (pF x3) else x3) x := (((vF_ins _).trans (pF_ins x3)).trans h3).ite h3
  generalize (if k0_cond4 i = 1#1 then vF (pF x3) else x3) = x4 at h4 ⊢
  exact ((pF_ins x4).trans h4).ite h4

/-! ## What the scratch may hold before a point -/

/-- The state's inputs are the blocks at the point. -/
def Ins (c : Dev nD) (t : Fin cfg0.N) (x : Mem F) : Prop :=
  x.f1 = iblk m c 0 t ∧ x.f2 = iblk m c 1 t ∧ x.f3 = iblk m c 2 t ∧ x.f4 = iblk m c 3 t ∧ x.f5 = iblk m c 4 t
    ∧ x.f6 = iblk m c 5 t ∧ x.f7 = iblk m c 6 t

/-- What the scratch may hold before point `n`: anything at first, then what the body leaves there. -/
def Scr (c : Dev nD) : ℕ → Vec F S8192x512 .f32 → Vec F S256x512 .f32 → Vec F S2x8x512 .f32 → Vec F S512x512 .f32 → Prop
  | 0, _, _, _, _ => True
  | n + 1, X12, X13, X14, X15 => ∃ (h : n < cfg0.N) (x : Mem F), Ins m c ⟨n, h⟩ x ∧ Scr c n x.f12 x.f13 x.f14 x.f15
      ∧ X12 = (bodyF (grid0.coords ⟨n, h⟩) x).f12 ∧ X13 = (bodyF (grid0.coords ⟨n, h⟩) x).f13
      ∧ X14 = (bodyF (grid0.coords ⟨n, h⟩) x).f14 ∧ X15 = (bodyF (grid0.coords ⟨n, h⟩) x).f15

/-- A state that the body may find at the point. -/
def At0 (c : Dev nD) (t : Fin cfg0.N) (x : Mem F) : Prop := Ins m c t x ∧ Scr m c t.val x.f12 x.f13 x.f14 x.f15

/-- The invariant before point `n`. -/
def PhiS (c : Dev nD) (n : ℕ) : sProp (MT nD τ sig Unit (Elt F) ℕ (UR sig nD τ) ℕ) :=
  iprop(∃ X12 X13 X14 X15, ⌜Scr m c n X12 X13 X14 X15⌝ ∗ owns (c : Thread nD τ) (Memref.whole cc0_scratch0) fullShare X12
    ∗ owns (c : Thread nD τ) (Memref.whole cc0_scratch1) fullShare X13 ∗ owns (c : Thread nD τ) (Memref.whole cc0_scratch2) fullShare X14
    ∗ owns (c : Thread nD τ) (Memref.whole cc0_scratch3) fullShare X15 ∗ (∃ r, prngReg c r))

theorem PhiA0_eq (c : Dev nD) :
    (Pipeline.ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-! ## The proof data -/

/-- The arrays as the region finds them, the inputs left in place, the outputs (`fgt`) not named here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ t := PhiS m c t.val
  q _ := fullShare
  owed _ := 0

/-- The outputs. -/
def fgt (w : Fin cfg0.W) : Bool := decide (7 ≤ w.val)

/-- What is said of an output: it is what the body leaves of some state it may find. -/
def Rl (c : Dev nD) (w : Fin cfg0.W) (t : Fin cfg0.N) : ((cfg0.win w).block.Idx → Elt F (cfg0.win w).elt) → Prop :=
  match w with
  | ⟨7, _⟩ => fun X => ∃ x : Mem F, At0 m c t x ∧ X = (bodyF (grid0.coords t) x).f8
  | ⟨8, _⟩ => fun X => ∃ x : Mem F, At0 m c t x ∧ X = (bodyF (grid0.coords t) x).f9
  | ⟨9, _⟩ => fun X => ∃ x : Mem F, At0 m c t x ∧ X = (bodyF (grid0.coords t) x).f10
  | ⟨10, _⟩ => fun X => ∃ x : Mem F, At0 m c t x ∧ X = (bodyF (grid0.coords t) x).f11
  | _ => fun _ => True

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

/-- The body from a state, to any continuation that the state it leaves gives. -/
theorem body_run {c : Dev nD} {R : sProp (MT nD τ sig Unit (Elt F) ℕ (UR sig nD τ) ℕ)} {defs : Defs nD τ sig (Elt F) Λ₀} (i : grid0.Coords) (arg1 : Memref sig .tc .vmem S1x512x512 .bf16) (harg1 : arg1.IsWhole) (arg2 : Memref sig .tc .vmem S1x8192x512 .bf16) (harg2 : arg2.IsWhole) (arg3 : Memref sig .tc .vmem S1x512x8192 .bf16) (harg3 : arg3.IsWhole) (arg4 : Memref sig .tc .vmem S1x512x512 .bf16) (harg4 : arg4.IsWhole) (arg5 : Memref sig .tc .vmem S512x512 .fp8e4m3) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .fp8e4m3) (harg10 : arg10.IsWhole) (arg11 : Memref sig .tc .vmem S1x1x512 .f32) (harg11 : arg11.IsWhole) (arg12 : Memref sig .tc .vmem S8192x512 .f32) (harg12 : arg12.IsWhole) (arg13 : Memref sig .tc .vmem S256x512 .f32) (harg13 : arg13.IsWhole) (arg14 : Memref sig .tc .vmem S2x8x512 .f32) (harg14 : arg14.IsWhole) (arg15 : Memref sig .tc .vmem S512x512 .f32) (harg15 : arg15.IsWhole)
    (x : Mem F) (K : PUnit → sProp (MT nD τ sig Unit (Elt F) ℕ (UR sig nD τ) ℕ)) :
    iprop(St arg1 arg2 arg3 arg4 arg5 arg6 arg7 arg8 arg9 arg10 arg11 arg12 arg13 arg14 arg15 c R x ∗ (St arg1 arg2 arg3 arg4 arg5 arg6 arg7 arg8 arg9 arg10 arg11 arg12 arg13 arg14 arg15 c R (bodyF i x) -∗ K ⟨⟩))
      ⊢ wp frame (wpE defs Variants.none (c : Thread nD τ) none) Set.univ (bodyS i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have h := bodyS_spec (c := c) (R := R) (defs := defs) harg1 harg2 harg3 harg4 harg5 harg6 harg7 harg8 harg9 harg10 harg11 harg12 harg13 harg14 harg15 i (x := x)
  unfold TT Cert.Hoare.T at h
  iintro ⟨H, Hk⟩
  iapply (wp_wand_r frame _ Set.univ)
  isplitl [H]
  · iapply h; iexact H
  · iintro %r ⟨%y, %hy, H⟩
    subst hy
    iapply Hk; iexact H

/-! ## The body at a point -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜((dats m 0 c).toRRel fgt (Rl m c)).Finds 7 t Y⌝ ∗ owns (c : Thread nD τ) (st0_7 t) fullShare Y)
    ∗ (∃ Y, ⌜((dats m 0 c).toRRel fgt (Rl m c)).Finds 8 t Y⌝ ∗ owns (c : Thread nD τ) (st0_8 t) fullShare Y)
    ∗ (∃ Y, ⌜((dats m 0 c).toRRel fgt (Rl m c)).Finds 9 t Y⌝ ∗ owns (c : Thread nD τ) (st0_9 t) fullShare Y)
    ∗ (∃ Y, ⌜((dats m 0 c).toRRel fgt (Rl m c)).Finds 10 t Y⌝ ∗ owns (c : Thread nD τ) (st0_10 t) fullShare Y))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜Rl m c 7 t X⌝ ∗ owns (c : Thread nD τ) (st0_7 t) fullShare X)
    ∗ (∃ X, ⌜Rl m c 8 t X⌝ ∗ owns (c : Thread nD τ) (st0_8 t) fullShare X)
    ∗ (∃ X, ⌜Rl m c 9 t X⌝ ∗ owns (c : Thread nD τ) (st0_9 t) fullShare X)
    ∗ (∃ X, ⌜Rl m c 10 t X⌝ ∗ owns (c : Thread nD τ) (st0_10 t) fullShare X))

variable (hbe : (cc0_attention (F := F)) = bodyS)

include hbe in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [hbe]
  simp only [before0_0, before0_1, before0_2, before0_3, before0_4, before0_5, before0_6, after0_0, after0_1, after0_2, after0_3, after0_4, after0_5, after0_6]
  rw [show (dats m 0 c).owesAt () t.succ = (dats m 0 c).owesAt () t.castSucc from rfl,
    show (dats m 0 c).Φ t.succ = PhiS m c (t.val + 1) from rfl, show (dats m 0 c).Φ t.castSucc = PhiS m c t.val from rfl]
  unfold PhiS
  iintro ⟨⟨%X12, %X13, %X14, %X15, %hS, HS12, HS13, HS14, HS15, Hg⟩, Ho, ⟨%d0, H1⟩, ⟨%d1, H2⟩, ⟨%d2, H3⟩, ⟨%d3, H4⟩, ⟨%d4, H5⟩, ⟨%d5, H6⟩, ⟨%d6, H7⟩, ⟨%Y8, -, H8⟩, ⟨%Y9, -, H9⟩, ⟨%Y10, -, H10⟩, ⟨%Y11, -, H11⟩⟩
  iapply (body_run (R := iprop((dats m 0 c).owesAt () t.castSucc ∗ (∃ r, prngReg c r))) (defs := defs₀ (F := F)) (c := c) (grid0.coords t)
    _ _ _ _ _ _ _ _ _ _ _ _ _ _ _ _ _ _ _ _ _ _ _ _ _ _ _ _ _ _ ({ f1 := iblk m c 0 t, f2 := iblk m c 1 t, f3 := iblk m c 2 t, f4 := iblk m c 3 t, f5 := iblk m c 4 t, f6 := iblk m c 5 t, f7 := iblk m c 6 t, f8 := Y8, f9 := Y9, f10 := Y10, f11 := Y11, f12 := X12, f13 := X13, f14 := X14, f15 := X15 } : Mem F) _)
  unfold St
  isplitl [H1 H2 H3 H4 H5 H6 H7 H8 H9 H10 H11 HS12 HS13 HS14 HS15 Hg Ho]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS12]; · iexact HS12
    isplitl [HS13]; · iexact HS13
    isplitl [HS14]; · iexact HS14
    isplitl [HS15]; · iexact HS15
    isplitl [Ho]; · iexact Ho
    iexact Hg
  iintro ⟨H1, H2, H3, H4, H5, H6, H7, H8, H9, H10, H11, H12, H13, H14, H15, Ho, Hg⟩
  have hx : At0 m c t ({ f1 := iblk m c 0 t, f2 := iblk m c 1 t, f3 := iblk m c 2 t, f4 := iblk m c 3 t, f5 := iblk m c 4 t, f6 := iblk m c 5 t, f7 := iblk m c 6 t, f8 := Y8, f9 := Y9, f10 := Y10, f11 := Y11, f12 := X12, f13 := X13, f14 := X14, f15 := X15 } : Mem F) := ⟨⟨rfl, rfl, rfl, rfl, rfl, rfl, rfl⟩, hS⟩
  obtain ⟨e1, e2, e3, e4, e5, e6, e7⟩ := bodyF_ins (grid0.coords t) ({ f1 := iblk m c 0 t, f2 := iblk m c 1 t, f3 := iblk m c 2 t, f4 := iblk m c 3 t, f5 := iblk m c 4 t, f6 := iblk m c 5 t, f7 := iblk m c 6 t, f8 := Y8, f9 := Y9, f10 := Y10, f11 := Y11, f12 := X12, f13 := X13, f14 := X14, f15 := X15 } : Mem F)
  rw [e1, e2, e3, e4, e5, e6, e7]
  isplitl [H12 H13 H14 H15 Hg]
  · iexists _, _, _, _
    isplitr
    swap
    · isplitl [H12]; · iexact H12
      isplitl [H13]; · iexact H13
      isplitl [H14]; · iexact H14
      isplitl [H15]; · iexact H15
      iexact Hg
    · ipureintro
      exact ⟨t.isLt, _, hx.1, hx.2, rfl, rfl, rfl, rfl⟩
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _
    isplitr
    swap
    · iexact H8
    · ipureintro
      exact ⟨_, hx, rfl⟩
  isplitl [H9]
  · iexists _
    isplitr
    swap
    · iexact H9
    · ipureintro
      exact ⟨_, hx, rfl⟩
  isplitl [H10]
  · iexists _
    isplitr
    swap
    · iexact H10
    · ipureintro
      exact ⟨_, hx, rfl⟩
  · iexists _
    isplitr
    swap
    · iexact H11
    · ipureintro
      exact ⟨_, hx, rfl⟩

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

include hbe in
theorem body_obligation (c : Dev nD) : Pipeline.BodyObligationRel (dats (F := F) m 0 c) (defs₀ (F := F)) Variants.none () Set.univ fgt (Rl m c) := fun t => by
  rw [bigSep_W0, bigSep_W0, defs₀_row]
  exact triple_restated (sound_body m hbe c t) rfl .rfl fun _ => .rfl

/-! ## The run and the frame -/

theorem hin (c : Dev nD) : Pipeline.ΦA spec0 c ⊢ (dats m 0 c).Φ 0 := by
  rw [show (dats m 0 c).Φ 0 = PhiS m c 0 from rfl, PhiA0_eq]
  unfold PhiS
  iintro ⟨⟨⟨%X12, H12⟩, ⟨%X13, H13⟩, ⟨%X14, H14⟩, ⟨%X15, H15⟩⟩, Hg⟩
  iexists X12, X13, X14, X15
  isplitr
  · ipureintro; exact trivial
  isplitl [H12]; · iexact H12
  isplitl [H13]; · iexact H13
  isplitl [H14]; · iexact H14
  isplitl [H15]; · iexact H15
  iexact Hg

theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨%X12, %X13, %X14, %X15, -, H12, H13, H14, H15, Hg⟩
  isplitl [H12 H13 H14 H15]
  · isplitl [H12]; · iexists _; iexact H12
    isplitl [H13]; · iexists _; iexact H13
    isplitl [H14]; · iexists _; iexact H14
    iexists _; iexact H15
  iexact Hg

/-- The proof data, the outputs held to `Rl`. -/
def rdats (c : Dev nD) : RDat τ (Elt F) Unit ℕ (UR sig nD τ) ℕ cfg0 c := (dats m 0 c).toRRel fgt (Rl m c)

set_option backward.isDefEq.respectTransparency.types false in
include hbe in
/-- The launch: every array of the pipeline ends at what the proof data allow, every counter at zero. -/
theorem run_main_quiescent : θ_run defs (onTc (τ := τ) (main (F := F))) (s₀ m ρ)
    (fun r => RDat.FramePost (cfgs 0) (rdats m) (V m) r ∧ r.2.sem = fun _ => 0) :=
  RDat.θ_run_frame_track (Q' := _) cfgs (0 : Fin 1) launch0 defs₀ Variants.none (rdats m) m ρ main
    (hbody := fun c => (body_obligation m hbe c).toRRel) (hshare := fun c => (dats m 0 c).share_full fun _ => rfl)
    (howed := fun _ _ => rfl) (V := V m) (hmain := hmain m Variants.none) (hA := A_eq m) (hin := hin m) (hout := hout m)
    (hQ' := fun _ h => h)

include hbe in
/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
      ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩)
    (run_main_quiescent m ρ hbe)

end Cert.AttnIdeal.Body

end
-- ==== Proof.AttnBitsProg.lean ====
/- The body of the attention kernel as a composition of named pieces. -/
module

public import proofs.«01_k».proof.Proof.Gen.Attn

@[expose] public section

set_option maxRecDepth 16384

namespace Cert.Attn.Body

open Idealize.ShloMosaic Idealize.SL.Sem
open Cert.Attn Facts₀ Facts

variable {F : FTy → Type} [FloatOps F] [Facts]
variable (arg1 : Memref sig .tc .vmem S1x512x512 .bf16) (harg1 : arg1.IsWhole) (arg2 : Memref sig .tc .vmem S1x8192x512 .bf16) (harg2 : arg2.IsWhole) (arg3 : Memref sig .tc .vmem S1x512x8192 .bf16) (harg3 : arg3.IsWhole)
  (arg4 : Memref sig .tc .vmem S1x512x512 .bf16) (harg4 : arg4.IsWhole) (arg5 : Memref sig .tc .vmem S512x512 .fp8e4m3) (harg5 : arg5.IsWhole) (arg6 : Memref sig .tc .vmem S512x1 .f32) (harg6 : arg6.IsWhole)
  (arg7 : Memref sig .tc .vmem S512x1 .f32) (harg7 : arg7.IsWhole) (arg8 : Memref sig .tc .vmem S1x512x512 .bf16) (harg8 : arg8.IsWhole) (arg9 : Memref sig .tc .vmem S1x512x512 .bf16) (harg9 : arg9.IsWhole)
  (arg10 : Memref sig .tc .vmem S1x512x512 .fp8e4m3) (harg10 : arg10.IsWhole) (arg11 : Memref sig .tc .vmem S1x1x512 .f32) (harg11 : arg11.IsWhole) (arg12 : Memref sig .tc .vmem S8192x512 .f32) (harg12 : arg12.IsWhole)
  (arg13 : Memref sig .tc .vmem S256x512 .f32) (harg13 : arg13.IsWhole) (arg14 : Memref sig .tc .vmem S2x8x512 .f32) (harg14 : arg14.IsWhole) (arg15 : Memref sig .tc .vmem S512x512 .f32) (harg15 : arg15.IsWhole)

/-- One fold of a key block accumulated against the query fold staged in register 0 of both units. -/
noncomputable def accK (A : Nat) (hA : Mxu.Fits A 256) (o : Fin 3 → Nat) (ho : ∀ a, o a + S1x256x256.size a ≤ S1x8192x512.size a) (s : Mxu F) :
    Prog (TpuEff nD τ sig (Elt F) Λ₀ .tc) (Mxu F) := do
  let v641 : Vec F S1x256x256 .bf16 ← Prog.lift (.load arg2 (Rect.unit (s := S1x8192x512) o S1x256x256.size ho).toLoadRect (View.loadsAt_vmem h_S1x256x256))
  have v642 : FVec F S256x256 .bf16 := shapeCast S256x256 v641 shapeCasts_S1x256x256_S256x256
  have k0_mxu363 : Mxu F := s.accLhs 0 0 A v642 hA
  let v644 : Vec F S1x256x256 .bf16 ← Prog.lift (.load arg2 (Rect.unit (s := S1x8192x512) o S1x256x256.size ho).toLoadRect (View.loadsAt_vmem h_S1x256x256))
  have v645 : FVec F S256x256 .bf16 := shapeCast S256x256 v644 shapeCasts_S1x256x256_S256x256
  have k0_mxu364 : Mxu F := k0_mxu363.accLhs 1 0 A v645 hA
  pure k0_mxu364

/-- One fold of the query tile pushed to register 0, lanes 0-255 to unit 0, lanes 256-511 to unit 1. -/
noncomputable def pushQ (o : Fin 3 → Nat) (ho : ∀ a, o a + S1x256x256.size a ≤ S1x512x512.size a) (p : Fin 3 → Nat) (hp : ∀ a, p a + S1x256x256.size a ≤ S1x512x512.size a) (s : Mxu F) :
    Prog (TpuEff nD τ sig (Elt F) Λ₀ .tc) (Mxu F) := do
  let v646 : Vec F S1x256x256 .bf16 ← Prog.lift (.load arg1 (Rect.unit (s := S1x512x512) o S1x256x256.size ho).toLoadRect (View.loadsAt_vmem h_S1x256x256))
  have v647 : FVec F S256x256 .bf16 := shapeCast S256x256 v646 shapeCasts_S1x256x256_S256x256
  let k0_mxu365 : Mxu F ← s.pushRhs 0 0 false v647
  let v648 : Vec F S1x256x256 .bf16 ← Prog.lift (.load arg1 (Rect.unit (s := S1x512x512) p S1x256x256.size hp).toLoadRect (View.loadsAt_vmem h_S1x256x256))
  have v649 : FVec F S256x256 .bf16 := shapeCast S256x256 v648 shapeCasts_S1x256x256_S256x256
  let k0_mxu366 : Mxu F ← k0_mxu365.pushRhs 1 0 false v649
  pure k0_mxu366

/-- The probabilities of a key block, from the stored exponentials, pushed to register 1 of unit `c`. -/
noncomputable def valP (c : Fin 2) (ob : Fin 2 → Nat) (hob : ∀ a, ob a + S8x256.size a ≤ S256x512.size a) (oa : Fin 3 → Nat) (hoa : ∀ a, oa a + S1x8x256.size a ≤ S2x8x512.size a) (ol : Fin 3 → Nat) (hol : ∀ a, ol a + S1x8x256.size a ≤ S2x8x512.size a)
    (oe : Fin 2 → Nat) (hoe : ∀ a, oe a + S256x256.size a ≤ S8192x512.size a) (s : Mxu F) :
    Prog (TpuEff nD τ sig (Elt F) Λ₀ .tc) (Mxu F) := do
  let v657 : Vec F S8x256 .f32 ← Prog.lift (.load arg13 (Rect.unit (s := S256x512) ob S8x256.size hob).toLoadRect (View.loadsAt_vmem h_S8x256))
  let v658 : Vec F S1x8x256 .f32 ← Prog.lift (.load arg14 (Rect.unit (s := S2x8x512) oa S1x8x256.size hoa).toLoadRect (View.loadsAt_vmem h_S1x8x256))
  have v659 : FVec F S8x256 .f32 := shapeCast S8x256 v658 shapeCasts_S1x8x256_S8x256
  have v660 : FVec F S8x256 .f32 := subf v657 v659
  have cst_335 : F .f32 := Scalar.ofBits .f32 0x3D8293EE#32
  have v661 : FVec F S8x256 .f32 := broadcast S8x256 cst_335
  have v662 : FVec F S8x256 .f32 := mulf v660 v661
  have v663 : FVec F S8x256 .f32 := exp2 v662
  let v664 : Vec F S1x8x256 .f32 ← Prog.lift (.load arg14 (Rect.unit (s := S2x8x512) ol S1x8x256.size hol).toLoadRect (View.loadsAt_vmem h_S1x8x256))
  have v665 : FVec F S8x256 .f32 := shapeCast S8x256 v664 shapeCasts_S1x8x256_S8x256
  have v666 : FVec F S8x256 .f32 := mulf v663 v665
  let v668 : Vec F S256x256 .f32 ← Prog.lift (.load arg12 (Rect.unit (s := S8192x512) oe S256x256.size hoe).toLoadRect (View.loadsAt_vmem h_S256x256))
  have v669 : FVec F S32x8x256 .f32 := shapeCast S32x8x256 v668 shapeCasts_S256x256_S32x8x256
  have v670 : FVec F S1x8x256 .f32 := shapeCast S1x8x256 v666 shapeCasts_S8x256_S1x8x256
  have v671 : FVec F S32x8x256 .f32 := broadcastTo S32x8x256 v670 broadcasts_S1x8x256_S32x8x256
  have v672 : FVec F S32x8x256 .f32 := mulf v669 v671
  have v673 : FVec F S256x256 .f32 := shapeCast S256x256 v672 shapeCasts_S32x8x256_S256x256
  have v674 : FVec F S256x256 .bf16 := truncf .bf16 v673 bitsLt_bf16_f32
  let k0_mxu369 : Mxu F ← s.pushRhs c 1 false v674
  pure k0_mxu369

/-- The value rows of a key block accumulated against the staged probabilities. -/
noncomputable def accV (o : Fin 3 → Nat) (ho : ∀ a, o a + S1x512x256.size a ≤ S1x512x8192.size a) (s : Mxu F) :
    Prog (TpuEff nD τ sig (Elt F) Λ₀ .tc) (Mxu F) := do
  let v695 : Vec F S1x512x256 .bf16 ← Prog.lift (.load arg3 (Rect.unit (s := S1x512x8192) o S1x512x256.size ho).toLoadRect (View.loadsAt_vmem h_S1x512x256))
  have v696 : FVec F S512x256 .bf16 := shapeCast S512x256 v695 shapeCasts_S1x512x256_S512x256
  have k0_mxu371 : Mxu F := s.accLhs 0 1 0 v696 fits_0_512
  let v698 : Vec F S1x512x256 .bf16 ← Prog.lift (.load arg3 (Rect.unit (s := S1x512x8192) o S1x512x256.size ho).toLoadRect (View.loadsAt_vmem h_S1x512x256))
  have v699 : FVec F S512x256 .bf16 := shapeCast S512x256 v698 shapeCasts_S1x512x256_S512x256
  have k0_mxu372 : Mxu F := k0_mxu371.accLhs 1 1 0 v699 fits_0_512
  pure k0_mxu372

/-- The scores of a key block popped from unit `c`: the running maximum and sum, the exponentials and the maximum stored. -/
noncomputable def scF (c : Fin 2) (A : Nat) (hA : Mxu.Fits A 256) (ob : Fin 2 → Nat) (hob : ∀ a, ob a + S8x256.size a ≤ S256x512.size a) (oe : Fin 2 → Nat) (hoe : ∀ a, oe a + S256x256.size a ≤ S8192x512.size a)
    (m l : FVec F S8x256 .f32) (s : Mxu F) :
    Prog (TpuEff nD τ sig (Elt F) Λ₀ .tc) (FVec F S8x256 .f32 × FVec F S8x256 .f32 × Mxu F) := do
  have v704 : FVec F S256x256 .f32 := s.read c A hA
  have k0_mxu375 : Mxu F := s.pop c A 256 hA
  have v705 : FVec F S32x8x256 .f32 := shapeCast S32x8x256 v704 shapeCasts_S256x256_S32x8x256
  have cst_359 : FVec F S8x256 .f32 := constant S8x256 .f32 0xFF800000#32
  have v706 : FVec F S8x256 .f32 := multiReduction .maximumf [0] S8x256 v705 0xFF800000#32 reduces_S32x8x256_S8x256 (.inl rfl) rfl
  have v707 : FVec F S8x256 .f32 := maximumf m v706
  have v708 : FVec F S1x8x256 .f32 := shapeCast S1x8x256 v707 shapeCasts_S8x256_S1x8x256
  have v709 : FVec F S32x8x256 .f32 := broadcastTo S32x8x256 v708 broadcasts_S1x8x256_S32x8x256
  have v710 : FVec F S32x8x256 .f32 := subf v705 v709
  have cst_360 : F .f32 := Scalar.ofBits .f32 0x3D8293EE#32
  have v711 : FVec F S32x8x256 .f32 := broadcast S32x8x256 cst_360
  have v712 : FVec F S32x8x256 .f32 := mulf v710 v711
  have v713 : FVec F S32x8x256 .f32 := exp2 v712
  have v714 : FVec F S8x256 .f32 := subf m v707
  have cst_361 : F .f32 := Scalar.ofBits .f32 0x3D8293EE#32
  have v715 : FVec F S8x256 .f32 := broadcast S8x256 cst_361
  have v716 : FVec F S8x256 .f32 := mulf v714 v715
  have v717 : FVec F S8x256 .f32 := exp2 v716
  have v718 : FVec F S8x256 .f32 := mulf l v717
  have cst_362 : FVec F S8x256 .f32 := constant S8x256 .f32 0x00000000#32
  have v719 : FVec F S8x256 .f32 := multiReduction .add [0] S8x256 v713 0x00000000#32 reduces_S32x8x256_S8x256 (.inl rfl) rfl
  have v720 : FVec F S8x256 .f32 := addf v718 v719
  have v721 : FVec F S256x256 .f32 := shapeCast S256x256 v713 shapeCasts_S32x8x256_S256x256
  let v723 : Vec F S256x256 .f32 ← Prog.lift (.load arg12 (Rect.unit (s := S8192x512) oe S256x256.size hoe).toLoadRect (View.loadsAt_vmem h_S256x256))
  have v724 : FVec F S256x256 .f32 := shapeCast S256x256 v723 shapeCasts_S256x256_S256x256
  have v725 : FVec F S256x256 .f32 := shapeCast S256x256 v721 shapeCasts_S256x256_S256x256
  Prog.lift (.store arg12 (Rect.unit (s := S8192x512) oe S256x256.size hoe) v725 Finset.univ (View.stores_vmem_bits_univ h_S256x256 rfl) (.inl rfl))
  let v727 : Vec F S8x256 .f32 ← Prog.lift (.load arg13 (Rect.unit (s := S256x512) ob S8x256.size hob).toLoadRect (View.loadsAt_vmem h_S8x256))
  have v728 : FVec F S8x256 .f32 := shapeCast S8x256 v727 shapeCasts_S8x256_S8x256
  have v729 : FVec F S8x256 .f32 := shapeCast S8x256 v707 shapeCasts_S8x256_S8x256
  Prog.lift (.store arg13 (Rect.unit (s := S256x512) ob S8x256.size hob) v729 Finset.univ (View.stores_vmem_bits_univ h_S8x256 rfl) (.inl rfl))
  pure (v707, v720, k0_mxu375)

/-- The output tile quantised: codes and scale stored. -/
noncomputable def quantO  :
    Prog (TpuEff nD τ sig (Elt F) Λ₀ .tc) PUnit := do
  let v21 : Vec F S512x512 .f32 ← Prog.lift (.load arg15 (Rect.unit (s := S512x512) ![0, 0] S512x512.size inb_S512x512_S512x512_0_0).toLoadRect (View.loadsAt_vmem h_S512x512))
  have v22 : FVec F S512x512 .f32 := absf v21
  have cst_10 : FVec F S512 .f32 := constant S512 .f32 0xFF800000#32
  have v23 : FVec F S512 .f32 := multiReduction .maximumf [0] S512 v22 0xFF800000#32 reduces_S512x512_S512 (.inl rfl) rfl
  have v24 : FVec F S1x512 .f32 := shapeCast S1x512 v23 shapeCasts_S512_S1x512
  have cst_11 : F .f32 := Scalar.ofBits .f32 0x3B124925#32
  have v25 : FVec F S1x512 .f32 := broadcast S1x512 cst_11
  have v26 : FVec F S1x512 .f32 := mulf v24 v25
  let c0_i32_12 : BitVec 32 := 0#32
  have v27 : IVec S1x512 32 := broadcast S1x512 c0_i32_12
  let c128_i32 : BitVec 32 := 128#32
  have v28 : IVec S1x512 32 := broadcast S1x512 c128_i32
  have v29 : IVec S1x512 32 := addi v27 v28
  let c23_i32 : BitVec 32 := 23#32
  have v30 : IVec S1x512 32 := broadcast S1x512 c23_i32
  have v31 : IVec S1x512 32 := shli v29 v30
  have v32 : FVec F S1x512 .f32 := bitcastToFloat .f32 v31
  have v33 : IVec S1x512 1 := cmpf .oge v26 v32
  let c128_i32_13 : BitVec 32 := 128#32
  have v34 : IVec S1x512 32 := broadcast S1x512 c128_i32_13
  have v35 : IVec S1x512 32 := addi v27 v34
  have v36 : IVec S1x512 32 := select v33 v35 v27
  let c64_i32 : BitVec 32 := 64#32
  have v37 : IVec S1x512 32 := broadcast S1x512 c64_i32
  have v38 : IVec S1x512 32 := addi v36 v37
  let c23_i32_14 : BitVec 32 := 23#32
  have v39 : IVec S1x512 32 := broadcast S1x512 c23_i32_14
  have v40 : IVec S1x512 32 := shli v38 v39
  have v41 : FVec F S1x512 .f32 := bitcastToFloat .f32 v40
  have v42 : IVec S1x512 1 := cmpf .oge v26 v41
  let c64_i32_15 : BitVec 32 := 64#32
  have v43 : IVec S1x512 32 := broadcast S1x512 c64_i32_15
  have v44 : IVec S1x512 32 := addi v36 v43
  have v45 : IVec S1x512 32 := select v42 v44 v36
  let c32_i32 : BitVec 32 := 32#32
  have v46 : IVec S1x512 32 := broadcast S1x512 c32_i32
  have v47 : IVec S1x512 32 := addi v45 v46
  let c23_i32_16 : BitVec 32 := 23#32
  have v48 : IVec S1x512 32 := broadcast S1x512 c23_i32_16
  have v49 : IVec S1x512 32 := shli v47 v48
  have v50 : FVec F S1x512 .f32 := bitcastToFloat .f32 v49
  have v51 : IVec S1x512 1 := cmpf .oge v26 v50
  let c32_i32_17 : BitVec 32 := 32#32
  have v52 : IVec S1x512 32 := broadcast S1x512 c32_i32_17
  have v53 : IVec S1x512 32 := addi v45 v52
  have v54 : IVec S1x512 32 := select v51 v53 v45
  let c16_i32 : BitVec 32 := 16#32
  have v55 : IVec S1x512 32 := broadcast S1x512 c16_i32
  have v56 : IVec S1x512 32 := addi v54 v55
  let c23_i32_18 : BitVec 32 := 23#32
  have v57 : IVec S1x512 32 := broadcast S1x512 c23_i32_18
  have v58 : IVec S1x512 32 := shli v56 v57
  have v59 : FVec F S1x512 .f32 := bitcastToFloat .f32 v58
  have v60 : IVec S1x512 1 := cmpf .oge v26 v59
  let c16_i32_19 : BitVec 32 := 16#32
  have v61 : IVec S1x512 32 := broadcast S1x512 c16_i32_19
  have v62 : IVec S1x512 32 := addi v54 v61
  have v63 : IVec S1x512 32 := select v60 v62 v54
  let c8_i32 : BitVec 32 := 8#32
  have v64 : IVec S1x512 32 := broadcast S1x512 c8_i32
  have v65 : IVec S1x512 32 := addi v63 v64
  let c23_i32_20 : BitVec 32 := 23#32
  have v66 : IVec S1x512 32 := broadcast S1x512 c23_i32_20
  have v67 : IVec S1x512 32 := shli v65 v66
  have v68 : FVec F S1x512 .f32 := bitcastToFloat .f32 v67
  have v69 : IVec S1x512 1 := cmpf .oge v26 v68
  let c8_i32_21 : BitVec 32 := 8#32
  have v70 : IVec S1x512 32 := broadcast S1x512 c8_i32_21
  have v71 : IVec S1x512 32 := addi v63 v70
  have v72 : IVec S1x512 32 := select v69 v71 v63
  let c4_i32 : BitVec 32 := 4#32
  have v73 : IVec S1x512 32 := broadcast S1x512 c4_i32
  have v74 : IVec S1x512 32 := addi v72 v73
  let c23_i32_22 : BitVec 32 := 23#32
  have v75 : IVec S1x512 32 := broadcast S1x512 c23_i32_22
  have v76 : IVec S1x512 32 := shli v74 v75
  have v77 : FVec F S1x512 .f32 := bitcastToFloat .f32 v76
  have v78 : IVec S1x512 1 := cmpf .oge v26 v77
  let c4_i32_23 : BitVec 32 := 4#32
  have v79 : IVec S1x512 32 := broadcast S1x512 c4_i32_23
  have v80 : IVec S1x512 32 := addi v72 v79
  have v81 : IVec S1x512 32 := select v78 v80 v72
  let c2_i32_24 : BitVec 32 := 2#32
  have v82 : IVec S1x512 32 := broadcast S1x512 c2_i32_24
  have v83 : IVec S1x512 32 := addi v81 v82
  let c23_i32_25 : BitVec 32 := 23#32
  have v84 : IVec S1x512 32 := broadcast S1x512 c23_i32_25
  have v85 : IVec S1x512 32 := shli v83 v84
  have v86 : FVec F S1x512 .f32 := bitcastToFloat .f32 v85
  have v87 : IVec S1x512 1 := cmpf .oge v26 v86
  let c2_i32_26 : BitVec 32 := 2#32
  have v88 : IVec S1x512 32 := broadcast S1x512 c2_i32_26
  have v89 : IVec S1x512 32 := addi v81 v88
  have v90 : IVec S1x512 32 := select v87 v89 v81
  let c1_i32_27 : BitVec 32 := 1#32
  have v91 : IVec S1x512 32 := broadcast S1x512 c1_i32_27
  have v92 : IVec S1x512 32 := addi v90 v91
  let c23_i32_28 : BitVec 32 := 23#32
  have v93 : IVec S1x512 32 := broadcast S1x512 c23_i32_28
  have v94 : IVec S1x512 32 := shli v92 v93
  have v95 : FVec F S1x512 .f32 := bitcastToFloat .f32 v94
  have v96 : IVec S1x512 1 := cmpf .oge v26 v95
  let c1_i32_29 : BitVec 32 := 1#32
  have v97 : IVec S1x512 32 := broadcast S1x512 c1_i32_29
  have v98 : IVec S1x512 32 := addi v90 v97
  have v99 : IVec S1x512 32 := select v96 v98 v90
  let c0_i32_30 : BitVec 32 := 0#32
  have v100 : IVec S1x512 32 := broadcast S1x512 c0_i32_30
  have v101 : IVec S1x512 1 := cmpi .eq v99 v100
  let c255_i32 : BitVec 32 := 255#32
  have v102 : IVec S1x512 32 := broadcast S1x512 c255_i32
  have v103 : IVec S1x512 1 := cmpi .eq v99 v102
  have v104 : IVec S1x512 1 := ori v101 v103
  let c126_i32 : BitVec 32 := 126#32
  have v105 : IVec S1x512 32 := broadcast S1x512 c126_i32
  have v106 : IVec S1x512 32 := select v104 v105 v99
  let c1_i32_31 : BitVec 32 := 1#32
  have v107 : IVec S1x512 32 := broadcast S1x512 c1_i32_31
  have v108 : IVec S1x512 32 := addi v106 v107
  let c23_i32_32 : BitVec 32 := 23#32
  have v109 : IVec S1x512 32 := broadcast S1x512 c23_i32_32
  have v110 : IVec S1x512 32 := shli v108 v109
  have v111 : FVec F S1x512 .f32 := bitcastToFloat .f32 v110
  let c253_i32 : BitVec 32 := 253#32
  have v112 : IVec S1x512 32 := broadcast S1x512 c253_i32
  have v113 : IVec S1x512 32 := subi v112 v106
  let c0_i32_33 : BitVec 32 := 0#32
  have v114 : IVec S1x512 32 := broadcast S1x512 c0_i32_33
  have v115 : IVec S1x512 32 := maxsi v113 v114
  let c23_i32_34 : BitVec 32 := 23#32
  have v116 : IVec S1x512 32 := broadcast S1x512 c23_i32_34
  have v117 : IVec S1x512 32 := shli v115 v116
  have v118 : FVec F S1x512 .f32 := bitcastToFloat .f32 v117
  have v119 : FVec F S512x512 .f32 := broadcastTo S512x512 v118 broadcasts_S1x512_S512x512
  have v120 : FVec F S512x512 .f32 := mulf v21 v119
  have cst_35 : F .f32 := Scalar.ofBits .f32 0xC3E00000#32
  have cst_36 : F .f32 := Scalar.ofBits .f32 0x43E00000#32
  have v121 : FVec F S512x512 .f32 := broadcast S512x512 cst_35
  have v122 : FVec F S512x512 .f32 := maximumf v121 v120
  have v123 : FVec F S512x512 .f32 := broadcast S512x512 cst_36
  have v124 : FVec F S512x512 .f32 := minimumf v123 v122
  have v125 : FVec F S512x512 .fp8e4m3 := truncf .fp8e4m3 v124 bitsLt_fp8e4m3_f32
  let v126 : Vec F S1x512x512 .fp8e4m3 ← Prog.lift (.load arg10 (Rect.unit (s := S1x512x512) ![0, 0, 0] S1x512x512.size inb_S1x512x512_S1x512x512_0_0_0).toLoadRect (View.loadsAt_vmem h_S1x512x512))
  have v127 : FVec F S512x512 .fp8e4m3 := shapeCast S512x512 v126 shapeCasts_S1x512x512_S512x512
  have v128 : FVec F S1x512x512 .fp8e4m3 := shapeCast S1x512x512 v125 shapeCasts_S512x512_S1x512x512
  Prog.lift (.store arg10 (Rect.unit (s := S1x512x512) ![0, 0, 0] S1x512x512.size inb_S1x512x512_S1x512x512_0_0_0) v128 Finset.univ (View.stores_vmem h_S1x512x512 (harg10.storeExact_slice rfl _ packedfp8e4m3_S1x512x512_S1x512x512_0_0_0) (fun _ => rfl)) (.inl rfl))
  let v129 : Vec F S1x1x512 .f32 ← Prog.lift (.load arg11 (Rect.unit (s := S1x1x512) ![0, 0, 0] S1x1x512.size inb_S1x1x512_S1x1x512_0_0_0).toLoadRect (View.loadsAt_vmem h_S1x1x512))
  have v130 : FVec F S1x512 .f32 := shapeCast S1x512 v129 shapeCasts_S1x1x512_S1x512
  have v131 : FVec F S1x1x512 .f32 := shapeCast S1x1x512 v111 shapeCasts_S1x512_S1x1x512
  Prog.lift (.store arg11 (Rect.unit (s := S1x1x512) ![0, 0, 0] S1x1x512.size inb_S1x1x512_S1x1x512_0_0_0) v131 Finset.univ (View.stores_vmem_bits_univ h_S1x1x512 rfl) (.inl rfl))
  pure PUnit.unit

/-- Half of the output projection accumulated: two folds of the codes against two tiles of the weight. -/
noncomputable def projAcc (A : Nat) (hA : Mxu.Fits A 256) (o : Fin 2 → Nat) (ho : ∀ a, o a + S256x256.size a ≤ S512x512.size a) (p : Fin 2 → Nat) (hp : ∀ a, p a + S256x256.size a ≤ S512x512.size a) (s : Mxu F) :
    Prog (TpuEff nD τ sig (Elt F) Λ₀ .tc) (Mxu F) := do
  let v132 : Vec F S1x256x256 .fp8e4m3 ← Prog.lift (.load arg10 (Rect.unit (s := S1x512x512) ![0, 0, 0] S1x256x256.size inb_S1x512x512_S1x256x256_0_0_0).toLoadRect (View.loadsAt_vmem h_S1x256x256))
  have v133 : FVec F S256x256 .fp8e4m3 := shapeCast S256x256 v132 shapeCasts_S1x256x256_S256x256
  have v134 : FVec F S256x256 .bf16 := extf .bf16 v133 bitsLt_fp8e4m3_bf16
  let k0_mxu565 : Mxu F ← s.pushRhs 0 1 false v134
  let v135 : Vec F S1x256x256 .fp8e4m3 ← Prog.lift (.load arg10 (Rect.unit (s := S1x512x512) ![0, 0, 256] S1x256x256.size inb_S1x512x512_S1x256x256_0_0_256).toLoadRect (View.loadsAt_vmem h_S1x256x256))
  have v136 : FVec F S256x256 .fp8e4m3 := shapeCast S256x256 v135 shapeCasts_S1x256x256_S256x256
  have v137 : FVec F S256x256 .bf16 := extf .bf16 v136 bitsLt_fp8e4m3_bf16
  let k0_mxu566 : Mxu F ← k0_mxu565.pushRhs 1 1 false v137
  let v138 : Vec F S256x256 .fp8e4m3 ← Prog.lift (.load arg5 (Rect.unit (s := S512x512) o S256x256.size ho).toLoadRect (View.loadsAt_vmem h_S256x256))
  have v139 : FVec F S256x256 .fp8e4m3 := shapeCast S256x256 v138 shapeCasts_S256x256_S256x256
  have v140 : FVec F S256x256 .bf16 := extf .bf16 v139 bitsLt_fp8e4m3_bf16
  have k0_mxu567 : Mxu F := k0_mxu566.accLhs 0 1 A v140 hA
  let v141 : Vec F S256x256 .fp8e4m3 ← Prog.lift (.load arg5 (Rect.unit (s := S512x512) o S256x256.size ho).toLoadRect (View.loadsAt_vmem h_S256x256))
  have v142 : FVec F S256x256 .fp8e4m3 := shapeCast S256x256 v141 shapeCasts_S256x256_S256x256
  have v143 : FVec F S256x256 .bf16 := extf .bf16 v142 bitsLt_fp8e4m3_bf16
  have k0_mxu568 : Mxu F := k0_mxu567.accLhs 1 1 A v143 hA
  let v144 : Vec F S1x256x256 .fp8e4m3 ← Prog.lift (.load arg10 (Rect.unit (s := S1x512x512) ![0, 256, 0] S1x256x256.size inb_S1x512x512_S1x256x256_0_256_0).toLoadRect (View.loadsAt_vmem h_S1x256x256))
  have v145 : FVec F S256x256 .fp8e4m3 := shapeCast S256x256 v144 shapeCasts_S1x256x256_S256x256
  have v146 : FVec F S256x256 .bf16 := extf .bf16 v145 bitsLt_fp8e4m3_bf16
  let k0_mxu569 : Mxu F ← k0_mxu568.pushRhs 0 1 false v146
  let v147 : Vec F S1x256x256 .fp8e4m3 ← Prog.lift (.load arg10 (Rect.unit (s := S1x512x512) ![0, 256, 256] S1x256x256.size inb_S1x512x512_S1x256x256_0_256_256).toLoadRect (View.loadsAt_vmem h_S1x256x256))
  have v148 : FVec F S256x256 .fp8e4m3 := shapeCast S256x256 v147 shapeCasts_S1x256x256_S256x256
  have v149 : FVec F S256x256 .bf16 := extf .bf16 v148 bitsLt_fp8e4m3_bf16
  let k0_mxu570 : Mxu F ← k0_mxu569.pushRhs 1 1 false v149
  let v150 : Vec F S256x256 .fp8e4m3 ← Prog.lift (.load arg5 (Rect.unit (s := S512x512) p S256x256.size hp).toLoadRect (View.loadsAt_vmem h_S256x256))
  have v151 : FVec F S256x256 .fp8e4m3 := shapeCast S256x256 v150 shapeCasts_S256x256_S256x256
  have v152 : FVec F S256x256 .bf16 := extf .bf16 v151 bitsLt_fp8e4m3_bf16
  have k0_mxu571 : Mxu F := k0_mxu570.accLhs 0 1 A v152 hA
  let v153 : Vec F S256x256 .fp8e4m3 ← Prog.lift (.load arg5 (Rect.unit (s := S512x512) p S256x256.size hp).toLoadRect (View.loadsAt_vmem h_S256x256))
  have v154 : FVec F S256x256 .fp8e4m3 := shapeCast S256x256 v153 shapeCasts_S256x256_S256x256
  have v155 : FVec F S256x256 .bf16 := extf .bf16 v154 bitsLt_fp8e4m3_bf16
  have k0_mxu572 : Mxu F := k0_mxu571.accLhs 1 1 A v155 hA
  pure k0_mxu572

/-- The projected half popped from unit `c`, scaled, with its bias: stored, and stored again with the residual added. -/
noncomputable def projF (c : Fin 2) (A : Nat) (hA : Mxu.Fits A 256) (os : Fin 3 → Nat) (hos : ∀ a, os a + S1x1x256.size a ≤ S1x1x512.size a) (ow : Fin 2 → Nat) (how : ∀ a, ow a + S256x1.size a ≤ S512x1.size a)
    (o : Fin 3 → Nat) (ho : ∀ a, o a + S1x256x256.size a ≤ S1x512x512.size a)
    (pk : (Rect.unit (s := S1x512x512) o S1x256x256.size ho).PackedRows (EltTy.packing .bf16)) (s : Mxu F) :
    Prog (TpuEff nD τ sig (Elt F) Λ₀ .tc) (Mxu F) := do
  have v156 : FVec F S256x256 .f32 := s.read c A hA
  have k0_mxu573 : Mxu F := s.pop c A 256 hA
  let v157 : Vec F S1x1x256 .f32 ← Prog.lift (.load arg11 (Rect.unit (s := S1x1x512) os S1x1x256.size hos).toLoadRect (View.loadsAt_vmem h_S1x1x256))
  have v158 : FVec F S1x256 .f32 := shapeCast S1x256 v157 shapeCasts_S1x1x256_S1x256
  have v159 : FVec F S256x256 .f32 := broadcastTo S256x256 v158 broadcasts_S1x256_S256x256
  have v160 : FVec F S256x256 .f32 := mulf v156 v159
  let v161 : Vec F S256x1 .f32 ← Prog.lift (.load arg6 (Rect.unit (s := S512x1) ow S256x1.size how).toLoadRect (View.loadsAt_vmem h_S256x1))
  have v162 : FVec F S256x1 .f32 := shapeCast S256x1 v161 shapeCasts_S256x1_S256x1
  have v163 : FVec F S256x256 .f32 := broadcastTo S256x256 v162 broadcasts_S256x1_S256x256
  have v164 : FVec F S256x256 .f32 := mulf v160 v163
  let v165 : Vec F S256x1 .f32 ← Prog.lift (.load arg7 (Rect.unit (s := S512x1) ow S256x1.size how).toLoadRect (View.loadsAt_vmem h_S256x1))
  have v166 : FVec F S256x1 .f32 := shapeCast S256x1 v165 shapeCasts_S256x1_S256x1
  have v167 : FVec F S256x256 .f32 := broadcastTo S256x256 v166 broadcasts_S256x1_S256x256
  have v168 : FVec F S256x256 .f32 := addf v164 v167
  have v169 : FVec F S256x256 .bf16 := truncf .bf16 v168 bitsLt_bf16_f32
  let v170 : Vec F S1x256x256 .bf16 ← Prog.lift (.load arg9 (Rect.unit (s := S1x512x512) o S1x256x256.size ho).toLoadRect (View.loadsAt_vmem h_S1x256x256))
  have v171 : FVec F S256x256 .bf16 := shapeCast S256x256 v170 shapeCasts_S1x256x256_S256x256
  have v172 : FVec F S1x256x256 .bf16 := shapeCast S1x256x256 v169 shapeCasts_S256x256_S1x256x256
  Prog.lift (.store arg9 (Rect.unit (s := S1x512x512) o S1x256x256.size ho) v172 Finset.univ (View.stores_vmem h_S1x256x256 (harg9.storeExact_slice rfl _ pk) (fun _ => rfl)) (.inl rfl))
  let v173 : Vec F S1x256x256 .bf16 ← Prog.lift (.load arg4 (Rect.unit (s := S1x512x512) o S1x256x256.size ho).toLoadRect (View.loadsAt_vmem h_S1x256x256))
  have v174 : FVec F S256x256 .bf16 := shapeCast S256x256 v173 shapeCasts_S1x256x256_S256x256
  have v175 : FVec F S256x256 .f32 := extf .f32 v174 bitsLt_bf16_f32
  have v176 : FVec F S256x256 .f32 := addf v175 v168
  have v177 : FVec F S256x256 .bf16 := truncf .bf16 v176 bitsLt_bf16_f32
  let v178 : Vec F S1x256x256 .bf16 ← Prog.lift (.load arg8 (Rect.unit (s := S1x512x512) o S1x256x256.size ho).toLoadRect (View.loadsAt_vmem h_S1x256x256))
  have v179 : FVec F S256x256 .bf16 := shapeCast S256x256 v178 shapeCasts_S1x256x256_S256x256
  have v180 : FVec F S1x256x256 .bf16 := shapeCast S1x256x256 v177 shapeCasts_S256x256_S1x256x256
  Prog.lift (.store arg8 (Rect.unit (s := S1x512x512) o S1x256x256.size ho) v180 Finset.univ (View.stores_vmem h_S1x256x256 (harg8.storeExact_slice rfl _ pk) (fun _ => rfl)) (.inl rfl))
  pure k0_mxu573

/-- The attention output of unit `c` popped and stored. -/
noncomputable def popO (c : Fin 2) (o : Fin 2 → Nat) (ho : ∀ a, o a + S512x256.size a ≤ S512x512.size a) (s : Mxu F) :
    Prog (TpuEff nD τ sig (Elt F) Λ₀ .tc) (Mxu F) := do
  have v1226 : FVec F S512x256 .f32 := s.read c 0 fits_0_512
  have k0_mxu489 : Mxu F := s.pop c 0 512 fits_0_512
  let v1227 : Vec F S512x256 .f32 ← Prog.lift (.load arg15 (Rect.unit (s := S512x512) o S512x256.size ho).toLoadRect (View.loadsAt_vmem h_S512x256))
  have v1228 : FVec F S512x256 .f32 := shapeCast S512x256 v1227 shapeCasts_S512x256_S512x256
  have v1229 : FVec F S512x256 .f32 := shapeCast S512x256 v1226 shapeCasts_S512x256_S512x256
  Prog.lift (.store arg15 (Rect.unit (s := S512x512) o S512x256.size ho) v1229 Finset.univ (View.stores_vmem_bits_univ h_S512x256 rfl) (.inl rfl))
  pure k0_mxu489

/-- The final maximum and the reciprocal of the final sum stored. -/
noncomputable def stat (oa : Fin 3 → Nat) (hoa : ∀ a, oa a + S1x8x256.size a ≤ S2x8x512.size a) (ol : Fin 3 → Nat) (hol : ∀ a, ol a + S1x8x256.size a ≤ S2x8x512.size a) (m l : FVec F S8x256 .f32) :
    Prog (TpuEff nD τ sig (Elt F) Λ₀ .tc) PUnit := do
  have v1234 : FVec F S256 .f32 := multiReduction .maximumf [0] S256 m 0xFF800000#32 reduces_S8x256_S256 (.inl rfl) rfl
  have v1235 : FVec F S1x256 .f32 := shapeCast S1x256 v1234 shapeCasts_S256_S1x256
  have v1236 : FVec F S8x256 .f32 := broadcastTo S8x256 v1235 broadcasts_S1x256_S8x256
  have v1237 : FVec F S8x256 .f32 := subf m v1236
  have cst_589 : F .f32 := Scalar.ofBits .f32 0x3D8293EE#32
  have v1238 : FVec F S8x256 .f32 := broadcast S8x256 cst_589
  have v1239 : FVec F S8x256 .f32 := mulf v1237 v1238
  have v1240 : FVec F S8x256 .f32 := exp2 v1239
  have v1241 : FVec F S8x256 .f32 := mulf l v1240
  have cst_590 : FVec F S256 .f32 := constant S256 .f32 0x00000000#32
  have v1242 : FVec F S256 .f32 := multiReduction .add [0] S256 v1241 0x00000000#32 reduces_S8x256_S256 (.inl rfl) rfl
  have v1243 : FVec F S1x256 .f32 := shapeCast S1x256 v1242 shapeCasts_S256_S1x256
  have v1244 : FVec F S1x256 .f32 := shapeCast S1x256 v1235 shapeCasts_S1x256_S1x256
  have v1245 : FVec F S8x256 .f32 := broadcastTo S8x256 v1244 broadcasts_S1x256_S8x256
  let v1246 : Vec F S1x8x256 .f32 ← Prog.lift (.load arg14 (Rect.unit (s := S2x8x512) oa S1x8x256.size hoa).toLoadRect (View.loadsAt_vmem h_S1x8x256))
  have v1247 : FVec F S8x256 .f32 := shapeCast S8x256 v1246 shapeCasts_S1x8x256_S8x256
  have v1248 : FVec F S1x8x256 .f32 := shapeCast S1x8x256 v1245 shapeCasts_S8x256_S1x8x256
  Prog.lift (.store arg14 (Rect.unit (s := S2x8x512) oa S1x8x256.size hoa) v1248 Finset.univ (View.stores_vmem_bits_univ h_S1x8x256 rfl) (.inl rfl))
  have cst_594 : F .f32 := Scalar.ofBits .f32 0x3F800000#32
  have v1249 : FVec F S1x256 .f32 := broadcast S1x256 cst_594
  have v1250 : FVec F S1x256 .f32 := divf v1249 v1243
  have v1251 : FVec F S1x256 .f32 := shapeCast S1x256 v1250 shapeCasts_S1x256_S1x256
  have v1252 : FVec F S8x256 .f32 := broadcastTo S8x256 v1251 broadcasts_S1x256_S8x256
  let v1253 : Vec F S1x8x256 .f32 ← Prog.lift (.load arg14 (Rect.unit (s := S2x8x512) ol S1x8x256.size hol).toLoadRect (View.loadsAt_vmem h_S1x8x256))
  have v1254 : FVec F S8x256 .f32 := shapeCast S8x256 v1253 shapeCasts_S1x8x256_S8x256
  have v1255 : FVec F S1x8x256 .f32 := shapeCast S1x8x256 v1252 shapeCasts_S8x256_S1x8x256
  Prog.lift (.store arg14 (Rect.unit (s := S2x8x512) ol S1x8x256.size hol) v1255 Finset.univ (View.stores_vmem_bits_univ h_S1x8x256 rfl) (.inl rfl))
  pure PUnit.unit

/-- A key block of the scores of one query tile and of the values of the one before; the next block's first query fold staged. -/
noncomputable def blkSV (A : Nat) (hA : Mxu.Fits A 256) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (v : Fin 3 → Nat) (hv : ∀ a, v a + S1x512x256.size a ≤ S1x512x8192.size a) (m0 l0 m1 l1 : FVec F S8x256 .f32) (s : Mxu F) :
    Prog (TpuEff nD τ sig (Elt F) Λ₀ .tc) (FVec F S8x256 .f32 × FVec F S8x256 .f32 × FVec F S8x256 .f32 × FVec F S8x256 .f32 × Mxu F) := do
  let s ← accK arg2 A hA kt0 hkt0 s
  let s ← pushQ arg1 ![0, 256, 0] inb_S1x512x512_S1x256x256_0_256_0 ![0, 256, 256] inb_S1x512x512_S1x256x256_0_256_256 s
  let s ← accK arg2 A hA kt1 hkt1 s
  let s ← valP arg12 arg13 arg14 0 b0 hb0 ![0, 0, 0] inb_S2x8x512_S1x8x256_0_0_0 ![1, 0, 0] inb_S2x8x512_S1x8x256_1_0_0 e0 he0 s
  let s ← valP arg12 arg13 arg14 1 b1 hb1 ![0, 0, 256] inb_S2x8x512_S1x8x256_0_0_256 ![1, 0, 256] inb_S2x8x512_S1x8x256_1_0_256 e1 he1 s
  let s ← accV arg3 v hv s
  let s ← pushQ arg1 ![0, 0, 0] inb_S1x512x512_S1x256x256_0_0_0 ![0, 0, 256] inb_S1x512x512_S1x256x256_0_0_256 s
  let (m0, l0, s) ← scF arg12 arg13 0 A hA b0 hb0 e0 he0 m0 l0 s
  let (m1, l1, s) ← scF arg12 arg13 1 A hA b1 hb1 e1 he1 m1 l1 s
  pure (m0, l0, m1, l1, s)

/-- The last such key block: nothing staged after it. -/
noncomputable def blkSVL (A : Nat) (hA : Mxu.Fits A 256) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (v : Fin 3 → Nat) (hv : ∀ a, v a + S1x512x256.size a ≤ S1x512x8192.size a) (m0 l0 m1 l1 : FVec F S8x256 .f32) (s : Mxu F) :
    Prog (TpuEff nD τ sig (Elt F) Λ₀ .tc) (FVec F S8x256 .f32 × FVec F S8x256 .f32 × FVec F S8x256 .f32 × FVec F S8x256 .f32 × Mxu F) := do
  let s ← accK arg2 A hA kt0 hkt0 s
  let s ← pushQ arg1 ![0, 256, 0] inb_S1x512x512_S1x256x256_0_256_0 ![0, 256, 256] inb_S1x512x512_S1x256x256_0_256_256 s
  let s ← accK arg2 A hA kt1 hkt1 s
  let s ← valP arg12 arg13 arg14 0 b0 hb0 ![0, 0, 0] inb_S2x8x512_S1x8x256_0_0_0 ![1, 0, 0] inb_S2x8x512_S1x8x256_1_0_0 e0 he0 s
  let s ← valP arg12 arg13 arg14 1 b1 hb1 ![0, 0, 256] inb_S2x8x512_S1x8x256_0_0_256 ![1, 0, 256] inb_S2x8x512_S1x8x256_1_0_256 e1 he1 s
  let s ← accV arg3 v hv s
  let (m0, l0, s) ← scF arg12 arg13 0 A hA b0 hb0 e0 he0 m0 l0 s
  let (m1, l1, s) ← scF arg12 arg13 1 A hA b1 hb1 e1 he1 m1 l1 s
  pure (m0, l0, m1, l1, s)

/-- A key block of the scores alone. -/
noncomputable def blkS (A : Nat) (hA : Mxu.Fits A 256) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (m0 l0 m1 l1 : FVec F S8x256 .f32) (s : Mxu F) :
    Prog (TpuEff nD τ sig (Elt F) Λ₀ .tc) (FVec F S8x256 .f32 × FVec F S8x256 .f32 × FVec F S8x256 .f32 × FVec F S8x256 .f32 × Mxu F) := do
  let s ← accK arg2 A hA kt0 hkt0 s
  let s ← pushQ arg1 ![0, 256, 0] inb_S1x512x512_S1x256x256_0_256_0 ![0, 256, 256] inb_S1x512x512_S1x256x256_0_256_256 s
  let s ← accK arg2 A hA kt1 hkt1 s
  let s ← pushQ arg1 ![0, 0, 0] inb_S1x512x512_S1x256x256_0_0_0 ![0, 0, 256] inb_S1x512x512_S1x256x256_0_0_256 s
  let (m0, l0, s) ← scF arg12 arg13 0 A hA b0 hb0 e0 he0 m0 l0 s
  let (m1, l1, s) ← scF arg12 arg13 1 A hA b1 hb1 e1 he1 m1 l1 s
  pure (m0, l0, m1, l1, s)

/-- The last key block of the scores alone. -/
noncomputable def blkSL (A : Nat) (hA : Mxu.Fits A 256) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (m0 l0 m1 l1 : FVec F S8x256 .f32) (s : Mxu F) :
    Prog (TpuEff nD τ sig (Elt F) Λ₀ .tc) (FVec F S8x256 .f32 × FVec F S8x256 .f32 × FVec F S8x256 .f32 × FVec F S8x256 .f32 × Mxu F) := do
  let s ← accK arg2 A hA kt0 hkt0 s
  let s ← pushQ arg1 ![0, 256, 0] inb_S1x512x512_S1x256x256_0_256_0 ![0, 256, 256] inb_S1x512x512_S1x256x256_0_256_256 s
  let s ← accK arg2 A hA kt1 hkt1 s
  let (m0, l0, s) ← scF arg12 arg13 0 A hA b0 hb0 e0 he0 m0 l0 s
  let (m1, l1, s) ← scF arg12 arg13 1 A hA b1 hb1 e1 he1 m1 l1 s
  pure (m0, l0, m1, l1, s)

/-- A key block of the values alone. -/
noncomputable def blkV (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (v : Fin 3 → Nat) (hv : ∀ a, v a + S1x512x256.size a ≤ S1x512x8192.size a) (s : Mxu F) :
    Prog (TpuEff nD τ sig (Elt F) Λ₀ .tc) (Mxu F) := do
  let s ← valP arg12 arg13 arg14 0 b0 hb0 ![0, 0, 0] inb_S2x8x512_S1x8x256_0_0_0 ![1, 0, 0] inb_S2x8x512_S1x8x256_1_0_0 e0 he0 s
  let s ← valP arg12 arg13 arg14 1 b1 hb1 ![0, 0, 256] inb_S2x8x512_S1x8x256_0_0_256 ![1, 0, 256] inb_S2x8x512_S1x8x256_1_0_256 e1 he1 s
  accV arg3 v hv s

/-- The first half of the output projection. -/
noncomputable def proj0 (s : Mxu F) :
    Prog (TpuEff nD τ sig (Elt F) Λ₀ .tc) (Mxu F) := do
  let s ← projAcc arg5 arg10 192 fits_192_256 ![0, 0] inb_S512x512_S256x256_0_0 ![0, 256] inb_S512x512_S256x256_0_256 s
  let s ← projF arg4 arg6 arg7 arg8 harg8 arg9 harg9 arg11 0 192 fits_192_256 ![0, 0, 0] inb_S1x1x512_S1x1x256_0_0_0 ![0, 0] inb_S512x1_S256x1_0_0 ![0, 0, 0] inb_S1x512x512_S1x256x256_0_0_0 packedbf16_S1x512x512_S1x256x256_0_0_0 s
  projF arg4 arg6 arg7 arg8 harg8 arg9 harg9 arg11 1 192 fits_192_256 ![0, 0, 256] inb_S1x1x512_S1x1x256_0_0_256 ![0, 0] inb_S512x1_S256x1_0_0 ![0, 0, 256] inb_S1x512x512_S1x256x256_0_0_256 packedbf16_S1x512x512_S1x256x256_0_0_256 s

/-- The second half of the output projection. -/
noncomputable def proj1 (s : Mxu F) :
    Prog (TpuEff nD τ sig (Elt F) Λ₀ .tc) (Mxu F) := do
  let s ← projAcc arg5 arg10 128 fits_128_256 ![256, 0] inb_S512x512_S256x256_256_0 ![256, 256] inb_S512x512_S256x256_256_256 s
  let s ← projF arg4 arg6 arg7 arg8 harg8 arg9 harg9 arg11 0 128 fits_128_256 ![0, 0, 0] inb_S1x1x512_S1x1x256_0_0_0 ![256, 0] inb_S512x1_S256x1_256_0 ![0, 256, 0] inb_S1x512x512_S1x256x256_0_256_0 packedbf16_S1x512x512_S1x256x256_0_256_0 s
  projF arg4 arg6 arg7 arg8 harg8 arg9 harg9 arg11 1 128 fits_128_256 ![0, 0, 256] inb_S1x1x512_S1x1x256_0_0_256 ![256, 0] inb_S512x1_S256x1_256_0 ![0, 256, 256] inb_S1x512x512_S1x256x256_0_256_256 packedbf16_S1x512x512_S1x256x256_0_256_256 s

/-- One trip of the counted loop of branch 1: four key blocks. -/
noncomputable def trip1 (i : grid0.Coords) (k0_h1 : k0_cond1 i = 1#1) (k0_t1 : Fin k0_t1_loop.trips) (x : FVec F S8x256 .f32 × FVec F S8x256 .f32 × FVec F S8x256 .f32 × FVec F S8x256 .f32 × Mxu F) :
    Prog (TpuEff nD τ sig (Elt F) Λ₀ .tc) (FVec F S8x256 .f32 × FVec F S8x256 .f32 × FVec F S8x256 .f32 × FVec F S8x256 .f32 × Mxu F) := do
  let (m0, l0, m1, l1, s) := x
  let (m0, l0, m1, l1, s) ← blkS arg1 arg2 arg12 arg13 128 fits_128_256 (k0_off1 k0_t1 0#32) (k0_off1_inb i k0_t1 k0_h1 0) (k0_off2 k0_t1 0#32) (k0_off2_inb i k0_t1 k0_h1 0) (k0_off4 k0_t1 0#32) (k0_off4_inb i k0_t1 k0_h1 0) (k0_off3 k0_t1 0#32) (k0_off3_inb i k0_t1 k0_h1 0) (k0_off6 k0_t1 0#32) (k0_off6_inb i k0_t1 k0_h1 0) (k0_off5 k0_t1 0#32) (k0_off5_inb i k0_t1 k0_h1 0) m0 l0 m1 l1 s
  let (m0, l0, m1, l1, s) ← blkS arg1 arg2 arg12 arg13 192 fits_192_256 (k0_off1 k0_t1 1#32) (k0_off1_inb i k0_t1 k0_h1 1) (k0_off2 k0_t1 1#32) (k0_off2_inb i k0_t1 k0_h1 1) (k0_off4 k0_t1 1#32) (k0_off4_inb i k0_t1 k0_h1 1) (k0_off3 k0_t1 1#32) (k0_off3_inb i k0_t1 k0_h1 1) (k0_off6 k0_t1 1#32) (k0_off6_inb i k0_t1 k0_h1 1) (k0_off5 k0_t1 1#32) (k0_off5_inb i k0_t1 k0_h1 1) m0 l0 m1 l1 s
  let (m0, l0, m1, l1, s) ← blkS arg1 arg2 arg12 arg13 128 fits_128_256 (k0_off1 k0_t1 2#32) (k0_off1_inb i k0_t1 k0_h1 2) (k0_off2 k0_t1 2#32) (k0_off2_inb i k0_t1 k0_h1 2) (k0_off4 k0_t1 2#32) (k0_off4_inb i k0_t1 k0_h1 2) (k0_off3 k0_t1 2#32) (k0_off3_inb i k0_t1 k0_h1 2) (k0_off6 k0_t1 2#32) (k0_off6_inb i k0_t1 k0_h1 2) (k0_off5 k0_t1 2#32) (k0_off5_inb i k0_t1 k0_h1 2) m0 l0 m1 l1 s
  blkS arg1 arg2 arg12 arg13 192 fits_192_256 (k0_off1 k0_t1 3#32) (k0_off1_inb i k0_t1 k0_h1 3) (k0_off2 k0_t1 3#32) (k0_off2_inb i k0_t1 k0_h1 3) (k0_off4 k0_t1 3#32) (k0_off4_inb i k0_t1 k0_h1 3) (k0_off3 k0_t1 3#32) (k0_off3_inb i k0_t1 k0_h1 3) (k0_off6 k0_t1 3#32) (k0_off6_inb i k0_t1 k0_h1 3) (k0_off5 k0_t1 3#32) (k0_off5_inb i k0_t1 k0_h1 3) m0 l0 m1 l1 s

/-- One trip of the counted loop of branch 2: four key blocks. -/
noncomputable def trip2 (i : grid0.Coords) (k0_h2 : k0_cond2 i = 1#1) (k0_t2 : Fin k0_t2_loop.trips) (x : FVec F S8x256 .f32 × FVec F S8x256 .f32 × FVec F S8x256 .f32 × FVec F S8x256 .f32 × Mxu F) :
    Prog (TpuEff nD τ sig (Elt F) Λ₀ .tc) (FVec F S8x256 .f32 × FVec F S8x256 .f32 × FVec F S8x256 .f32 × FVec F S8x256 .f32 × Mxu F) := do
  let (m0, l0, m1, l1, s) := x
  let (m0, l0, m1, l1, s) ← blkSV arg1 arg2 arg3 arg12 arg13 arg14 128 fits_128_256 (k0_off7 k0_t2 0#32) (k0_off7_inb i k0_t2 k0_h2 0) (k0_off8 k0_t2 0#32) (k0_off8_inb i k0_t2 k0_h2 0) (k0_off9 k0_t2 0#32) (k0_off9_inb i k0_t2 k0_h2 0) (k0_off10 k0_t2 0#32) (k0_off10_inb i k0_t2 k0_h2 0) (k0_off11 k0_t2 0#32) (k0_off11_inb i k0_t2 k0_h2 0) (k0_off12 k0_t2 0#32) (k0_off12_inb i k0_t2 k0_h2 0) (k0_off13 k0_t2 0#32) (k0_off13_inb i k0_t2 k0_h2 0) m0 l0 m1 l1 s
  let (m0, l0, m1, l1, s) ← blkSV arg1 arg2 arg3 arg12 arg13 arg14 192 fits_192_256 (k0_off7 k0_t2 1#32) (k0_off7_inb i k0_t2 k0_h2 1) (k0_off8 k0_t2 1#32) (k0_off8_inb i k0_t2 k0_h2 1) (k0_off9 k0_t2 1#32) (k0_off9_inb i k0_t2 k0_h2 1) (k0_off10 k0_t2 1#32) (k0_off10_inb i k0_t2 k0_h2 1) (k0_off11 k0_t2 1#32) (k0_off11_inb i k0_t2 k0_h2 1) (k0_off12 k0_t2 1#32) (k0_off12_inb i k0_t2 k0_h2 1) (k0_off13 k0_t2 1#32) (k0_off13_inb i k0_t2 k0_h2 1) m0 l0 m1 l1 s
  let (m0, l0, m1, l1, s) ← blkSV arg1 arg2 arg3 arg12 arg13 arg14 128 fits_128_256 (k0_off7 k0_t2 2#32) (k0_off7_inb i k0_t2 k0_h2 2) (k0_off8 k0_t2 2#32) (k0_off8_inb i k0_t2 k0_h2 2) (k0_off9 k0_t2 2#32) (k0_off9_inb i k0_t2 k0_h2 2) (k0_off10 k0_t2 2#32) (k0_off10_inb i k0_t2 k0_h2 2) (k0_off11 k0_t2 2#32) (k0_off11_inb i k0_t2 k0_h2 2) (k0_off12 k0_t2 2#32) (k0_off12_inb i k0_t2 k0_h2 2) (k0_off13 k0_t2 2#32) (k0_off13_inb i k0_t2 k0_h2 2) m0 l0 m1 l1 s
  blkSV arg1 arg2 arg3 arg12 arg13 arg14 192 fits_192_256 (k0_off7 k0_t2 3#32) (k0_off7_inb i k0_t2 k0_h2 3) (k0_off8 k0_t2 3#32) (k0_off8_inb i k0_t2 k0_h2 3) (k0_off9 k0_t2 3#32) (k0_off9_inb i k0_t2 k0_h2 3) (k0_off10 k0_t2 3#32) (k0_off10_inb i k0_t2 k0_h2 3) (k0_off11 k0_t2 3#32) (k0_off11_inb i k0_t2 k0_h2 3) (k0_off12 k0_t2 3#32) (k0_off12_inb i k0_t2 k0_h2 3) (k0_off13 k0_t2 3#32) (k0_off13_inb i k0_t2 k0_h2 3) m0 l0 m1 l1 s

/-- One trip of the counted loop of branch 3: four key blocks. -/
noncomputable def trip3 (i : grid0.Coords) (k0_h3 : k0_cond3 i = 1#1) (k0_t3 : Fin k0_t3_loop.trips) (x : FVec F S8x256 .f32 × FVec F S8x256 .f32 × FVec F S8x256 .f32 × FVec F S8x256 .f32 × Mxu F) :
    Prog (TpuEff nD τ sig (Elt F) Λ₀ .tc) (FVec F S8x256 .f32 × FVec F S8x256 .f32 × FVec F S8x256 .f32 × FVec F S8x256 .f32 × Mxu F) := do
  let (m0, l0, m1, l1, s) := x
  let (m0, l0, m1, l1, s) ← blkSV arg1 arg2 arg3 arg12 arg13 arg14 128 fits_128_256 (k0_off14 k0_t3 0#32) (k0_off14_inb i k0_t3 k0_h3 0) (k0_off15 k0_t3 0#32) (k0_off15_inb i k0_t3 k0_h3 0) (k0_off16 k0_t3 0#32) (k0_off16_inb i k0_t3 k0_h3 0) (k0_off17 k0_t3 0#32) (k0_off17_inb i k0_t3 k0_h3 0) (k0_off18 k0_t3 0#32) (k0_off18_inb i k0_t3 k0_h3 0) (k0_off19 k0_t3 0#32) (k0_off19_inb i k0_t3 k0_h3 0) (k0_off20 k0_t3 0#32) (k0_off20_inb i k0_t3 k0_h3 0) m0 l0 m1 l1 s
  let (m0, l0, m1, l1, s) ← blkSV arg1 arg2 arg3 arg12 arg13 arg14 192 fits_192_256 (k0_off14 k0_t3 1#32) (k0_off14_inb i k0_t3 k0_h3 1) (k0_off15 k0_t3 1#32) (k0_off15_inb i k0_t3 k0_h3 1) (k0_off16 k0_t3 1#32) (k0_off16_inb i k0_t3 k0_h3 1) (k0_off17 k0_t3 1#32) (k0_off17_inb i k0_t3 k0_h3 1) (k0_off18 k0_t3 1#32) (k0_off18_inb i k0_t3 k0_h3 1) (k0_off19 k0_t3 1#32) (k0_off19_inb i k0_t3 k0_h3 1) (k0_off20 k0_t3 1#32) (k0_off20_inb i k0_t3 k0_h3 1) m0 l0 m1 l1 s
  let (m0, l0, m1, l1, s) ← blkSV arg1 arg2 arg3 arg12 arg13 arg14 128 fits_128_256 (k0_off14 k0_t3 2#32) (k0_off14_inb i k0_t3 k0_h3 2) (k0_off15 k0_t3 2#32) (k0_off15_inb i k0_t3 k0_h3 2) (k0_off16 k0_t3 2#32) (k0_off16_inb i k0_t3 k0_h3 2) (k0_off17 k0_t3 2#32) (k0_off17_inb i k0_t3 k0_h3 2) (k0_off18 k0_t3 2#32) (k0_off18_inb i k0_t3 k0_h3 2) (k0_off19 k0_t3 2#32) (k0_off19_inb i k0_t3 k0_h3 2) (k0_off20 k0_t3 2#32) (k0_off20_inb i k0_t3 k0_h3 2) m0 l0 m1 l1 s
  blkSV arg1 arg2 arg3 arg12 arg13 arg14 192 fits_192_256 (k0_off14 k0_t3 3#32) (k0_off14_inb i k0_t3 k0_h3 3) (k0_off15 k0_t3 3#32) (k0_off15_inb i k0_t3 k0_h3 3) (k0_off16 k0_t3 3#32) (k0_off16_inb i k0_t3 k0_h3 3) (k0_off17 k0_t3 3#32) (k0_off17_inb i k0_t3 k0_h3 3) (k0_off18 k0_t3 3#32) (k0_off18_inb i k0_t3 k0_h3 3) (k0_off19 k0_t3 3#32) (k0_off19_inb i k0_t3 k0_h3 3) (k0_off20 k0_t3 3#32) (k0_off20_inb i k0_t3 k0_h3 3) m0 l0 m1 l1 s

/-- One trip of the counted loop of branch 4: four key blocks. -/
noncomputable def trip4 (i : grid0.Coords) (k0_h4 : k0_cond4 i = 1#1) (k0_t4 : Fin k0_t4_loop.trips) (s : Mxu F) :
    Prog (TpuEff nD τ sig (Elt F) Λ₀ .tc) (Mxu F) := do
  let s ← blkV arg3 arg12 arg13 arg14 (k0_off21 k0_t4 0#32) (k0_off21_inb i k0_t4 k0_h4 0) (k0_off22 k0_t4 0#32) (k0_off22_inb i k0_t4 k0_h4 0) (k0_off23 k0_t4 0#32) (k0_off23_inb i k0_t4 k0_h4 0) (k0_off24 k0_t4 0#32) (k0_off24_inb i k0_t4 k0_h4 0) (k0_off25 k0_t4 0#32) (k0_off25_inb i k0_t4 k0_h4 0) s
  let s ← blkV arg3 arg12 arg13 arg14 (k0_off21 k0_t4 1#32) (k0_off21_inb i k0_t4 k0_h4 1) (k0_off22 k0_t4 1#32) (k0_off22_inb i k0_t4 k0_h4 1) (k0_off23 k0_t4 1#32) (k0_off23_inb i k0_t4 k0_h4 1) (k0_off24 k0_t4 1#32) (k0_off24_inb i k0_t4 k0_h4 1) (k0_off25 k0_t4 1#32) (k0_off25_inb i k0_t4 k0_h4 1) s
  let s ← blkV arg3 arg12 arg13 arg14 (k0_off21 k0_t4 2#32) (k0_off21_inb i k0_t4 k0_h4 2) (k0_off22 k0_t4 2#32) (k0_off22_inb i k0_t4 k0_h4 2) (k0_off23 k0_t4 2#32) (k0_off23_inb i k0_t4 k0_h4 2) (k0_off24 k0_t4 2#32) (k0_off24_inb i k0_t4 k0_h4 2) (k0_off25 k0_t4 2#32) (k0_off25_inb i k0_t4 k0_h4 2) s
  blkV arg3 arg12 arg13 arg14 (k0_off21 k0_t4 3#32) (k0_off21_inb i k0_t4 k0_h4 3) (k0_off22 k0_t4 3#32) (k0_off22_inb i k0_t4 k0_h4 3) (k0_off23 k0_t4 3#32) (k0_off23_inb i k0_t4 k0_h4 3) (k0_off24 k0_t4 3#32) (k0_off24_inb i k0_t4 k0_h4 3) (k0_off25 k0_t4 3#32) (k0_off25_inb i k0_t4 k0_h4 3) s

/-- The body of branch 1. -/
noncomputable def br1 (i : grid0.Coords) (k0_h1 : k0_cond1 i = 1#1) (s : Mxu F) :
    Prog (TpuEff nD τ sig (Elt F) Λ₀ .tc) (Mxu F) := do
  have m0 : FVec F S8x256 .f32 := broadcast S8x256 (Scalar.ofBits .f32 0xFF800000#32)
  have l0 : FVec F S8x256 .f32 := broadcast S8x256 (Scalar.ofBits .f32 0x00000000#32)
  have m1 : FVec F S8x256 .f32 := broadcast S8x256 (Scalar.ofBits .f32 0xFF800000#32)
  have l1 : FVec F S8x256 .f32 := broadcast S8x256 (Scalar.ofBits .f32 0x00000000#32)
  let s ← pushQ arg1 ![0, 0, 0] inb_S1x512x512_S1x256x256_0_0_0 ![0, 0, 256] inb_S1x512x512_S1x256x256_0_0_256 s
  let (m0, l0, m1, l1, s) ← blkS arg1 arg2 arg12 arg13 128 fits_128_256 ![0, 0, 0] inb_S1x8192x512_S1x256x256_0_0_0 ![0, 0, 256] inb_S1x8192x512_S1x256x256_0_0_256 ![0, 0] inb_S256x512_S8x256_0_0 ![0, 0] inb_S8192x512_S256x256_0_0 ![0, 256] inb_S256x512_S8x256_0_256 ![0, 256] inb_S8192x512_S256x256_0_256 m0 l0 m1 l1 s
  let (m0, l0, m1, l1, s) ← blkS arg1 arg2 arg12 arg13 192 fits_192_256 ![0, 256, 0] inb_S1x8192x512_S1x256x256_0_256_0 ![0, 256, 256] inb_S1x8192x512_S1x256x256_0_256_256 ![8, 0] inb_S256x512_S8x256_8_0 ![256, 0] inb_S8192x512_S256x256_256_0 ![8, 256] inb_S256x512_S8x256_8_256 ![256, 256] inb_S8192x512_S256x256_256_256 m0 l0 m1 l1 s
  let (m0, l0, m1, l1, s) ← blkS arg1 arg2 arg12 arg13 128 fits_128_256 ![0, 512, 0] inb_S1x8192x512_S1x256x256_0_512_0 ![0, 512, 256] inb_S1x8192x512_S1x256x256_0_512_256 ![16, 0] inb_S256x512_S8x256_16_0 ![512, 0] inb_S8192x512_S256x256_512_0 ![16, 256] inb_S256x512_S8x256_16_256 ![512, 256] inb_S8192x512_S256x256_512_256 m0 l0 m1 l1 s
  let (m0, l0, m1, l1, s) ← blkS arg1 arg2 arg12 arg13 192 fits_192_256 ![0, 768, 0] inb_S1x8192x512_S1x256x256_0_768_0 ![0, 768, 256] inb_S1x8192x512_S1x256x256_0_768_256 ![24, 0] inb_S256x512_S8x256_24_0 ![768, 0] inb_S8192x512_S256x256_768_0 ![24, 256] inb_S256x512_S8x256_24_256 ![768, 256] inb_S8192x512_S256x256_768_256 m0 l0 m1 l1 s
  let (m0, l0, m1, l1, s) ← Scf.Loop.for k0_t1_loop (k0_t1_ok i k0_h1) (m0, l0, m1, l1, s) (trip1 arg1 arg2 arg12 arg13 i k0_h1)
  let (m0, l0, m1, l1, s) ← blkS arg1 arg2 arg12 arg13 128 fits_128_256 ![0, 7168, 0] inb_S1x8192x512_S1x256x256_0_7168_0 ![0, 7168, 256] inb_S1x8192x512_S1x256x256_0_7168_256 ![224, 0] inb_S256x512_S8x256_224_0 ![7168, 0] inb_S8192x512_S256x256_7168_0 ![224, 256] inb_S256x512_S8x256_224_256 ![7168, 256] inb_S8192x512_S256x256_7168_256 m0 l0 m1 l1 s
  let (m0, l0, m1, l1, s) ← blkS arg1 arg2 arg12 arg13 192 fits_192_256 ![0, 7424, 0] inb_S1x8192x512_S1x256x256_0_7424_0 ![0, 7424, 256] inb_S1x8192x512_S1x256x256_0_7424_256 ![232, 0] inb_S256x512_S8x256_232_0 ![7424, 0] inb_S8192x512_S256x256_7424_0 ![232, 256] inb_S256x512_S8x256_232_256 ![7424, 256] inb_S8192x512_S256x256_7424_256 m0 l0 m1 l1 s
  let (m0, l0, m1, l1, s) ← blkS arg1 arg2 arg12 arg13 128 fits_128_256 ![0, 7680, 0] inb_S1x8192x512_S1x256x256_0_7680_0 ![0, 7680, 256] inb_S1x8192x512_S1x256x256_0_7680_256 ![240, 0] inb_S256x512_S8x256_240_0 ![7680, 0] inb_S8192x512_S256x256_7680_0 ![240, 256] inb_S256x512_S8x256_240_256 ![7680, 256] inb_S8192x512_S256x256_7680_256 m0 l0 m1 l1 s
  let (m0, l0, m1, l1, s) ← blkSL arg1 arg2 arg12 arg13 192 fits_192_256 ![0, 7936, 0] inb_S1x8192x512_S1x256x256_0_7936_0 ![0, 7936, 256] inb_S1x8192x512_S1x256x256_0_7936_256 ![248, 0] inb_S256x512_S8x256_248_0 ![7936, 0] inb_S8192x512_S256x256_7936_0 ![248, 256] inb_S256x512_S8x256_248_256 ![7936, 256] inb_S8192x512_S256x256_7936_256 m0 l0 m1 l1 s
  stat arg14 ![0, 0, 0] inb_S2x8x512_S1x8x256_0_0_0 ![1, 0, 0] inb_S2x8x512_S1x8x256_1_0_0 m0 l0
  stat arg14 ![0, 0, 256] inb_S2x8x512_S1x8x256_0_0_256 ![1, 0, 256] inb_S2x8x512_S1x8x256_1_0_256 m1 l1
  pure s

/-- The body of branch 2. -/
noncomputable def br2 (i : grid0.Coords) (k0_h2 : k0_cond2 i = 1#1) (s : Mxu F) :
    Prog (TpuEff nD τ sig (Elt F) Λ₀ .tc) (Mxu F) := do
  have m0 : FVec F S8x256 .f32 := broadcast S8x256 (Scalar.ofBits .f32 0xFF800000#32)
  have l0 : FVec F S8x256 .f32 := broadcast S8x256 (Scalar.ofBits .f32 0x00000000#32)
  have m1 : FVec F S8x256 .f32 := broadcast S8x256 (Scalar.ofBits .f32 0xFF800000#32)
  have l1 : FVec F S8x256 .f32 := broadcast S8x256 (Scalar.ofBits .f32 0x00000000#32)
  let s ← pushQ arg1 ![0, 0, 0] inb_S1x512x512_S1x256x256_0_0_0 ![0, 0, 256] inb_S1x512x512_S1x256x256_0_0_256 s
  let (m0, l0, m1, l1, s) ← blkSV arg1 arg2 arg3 arg12 arg13 arg14 128 fits_128_256 ![0, 0, 0] inb_S1x8192x512_S1x256x256_0_0_0 ![0, 0, 256] inb_S1x8192x512_S1x256x256_0_0_256 ![0, 0] inb_S256x512_S8x256_0_0 ![0, 0] inb_S8192x512_S256x256_0_0 ![0, 256] inb_S256x512_S8x256_0_256 ![0, 256] inb_S8192x512_S256x256_0_256 ![0, 0, 0] inb_S1x512x8192_S1x512x256_0_0_0 m0 l0 m1 l1 s
  let (m0, l0, m1, l1, s) ← blkSV arg1 arg2 arg3 arg12 arg13 arg14 192 fits_192_256 ![0, 256, 0] inb_S1x8192x512_S1x256x256_0_256_0 ![0, 256, 256] inb_S1x8192x512_S1x256x256_0_256_256 ![8, 0] inb_S256x512_S8x256_8_0 ![256, 0] inb_S8192x512_S256x256_256_0 ![8, 256] inb_S256x512_S8x256_8_256 ![256, 256] inb_S8192x512_S256x256_256_256 ![0, 0, 256] inb_S1x512x8192_S1x512x256_0_0_256 m0 l0 m1 l1 s
  let (m0, l0, m1, l1, s) ← blkSV arg1 arg2 arg3 arg12 arg13 arg14 128 fits_128_256 ![0, 512, 0] inb_S1x8192x512_S1x256x256_0_512_0 ![0, 512, 256] inb_S1x8192x512_S1x256x256_0_512_256 ![16, 0] inb_S256x512_S8x256_16_0 ![512, 0] inb_S8192x512_S256x256_512_0 ![16, 256] inb_S256x512_S8x256_16_256 ![512, 256] inb_S8192x512_S256x256_512_256 ![0, 0, 512] inb_S1x512x8192_S1x512x256_0_0_512 m0 l0 m1 l1 s
  let (m0, l0, m1, l1, s) ← blkSV arg1 arg2 arg3 arg12 arg13 arg14 192 fits_192_256 ![0, 768, 0] inb_S1x8192x512_S1x256x256_0_768_0 ![0, 768, 256] inb_S1x8192x512_S1x256x256_0_768_256 ![24, 0] inb_S256x512_S8x256_24_0 ![768, 0] inb_S8192x512_S256x256_768_0 ![24, 256] inb_S256x512_S8x256_24_256 ![768, 256] inb_S8192x512_S256x256_768_256 ![0, 0, 768] inb_S1x512x8192_S1x512x256_0_0_768 m0 l0 m1 l1 s
  let (m0, l0, m1, l1, s) ← Scf.Loop.for k0_t2_loop (k0_t2_ok i k0_h2) (m0, l0, m1, l1, s) (trip2 arg1 arg2 arg3 arg12 arg13 arg14 i k0_h2)
  let (m0, l0, m1, l1, s) ← blkSV arg1 arg2 arg3 arg12 arg13 arg14 128 fits_128_256 ![0, 7168, 0] inb_S1x8192x512_S1x256x256_0_7168_0 ![0, 7168, 256] inb_S1x8192x512_S1x256x256_0_7168_256 ![224, 0] inb_S256x512_S8x256_224_0 ![7168, 0] inb_S8192x512_S256x256_7168_0 ![224, 256] inb_S256x512_S8x256_224_256 ![7168, 256] inb_S8192x512_S256x256_7168_256 ![0, 0, 7168] inb_S1x512x8192_S1x512x256_0_0_7168 m0 l0 m1 l1 s
  let (m0, l0, m1, l1, s) ← blkSV arg1 arg2 arg3 arg12 arg13 arg14 192 fits_192_256 ![0, 7424, 0] inb_S1x8192x512_S1x256x256_0_7424_0 ![0, 7424, 256] inb_S1x8192x512_S1x256x256_0_7424_256 ![232, 0] inb_S256x512_S8x256_232_0 ![7424, 0] inb_S8192x512_S256x256_7424_0 ![232, 256] inb_S256x512_S8x256_232_256 ![7424, 256] inb_S8192x512_S256x256_7424_256 ![0, 0, 7424] inb_S1x512x8192_S1x512x256_0_0_7424 m0 l0 m1 l1 s
  let (m0, l0, m1, l1, s) ← blkSV arg1 arg2 arg3 arg12 arg13 arg14 128 fits_128_256 ![0, 7680, 0] inb_S1x8192x512_S1x256x256_0_7680_0 ![0, 7680, 256] inb_S1x8192x512_S1x256x256_0_7680_256 ![240, 0] inb_S256x512_S8x256_240_0 ![7680, 0] inb_S8192x512_S256x256_7680_0 ![240, 256] inb_S256x512_S8x256_240_256 ![7680, 256] inb_S8192x512_S256x256_7680_256 ![0, 0, 7680] inb_S1x512x8192_S1x512x256_0_0_7680 m0 l0 m1 l1 s
  let (m0, l0, m1, l1, s) ← blkSVL arg1 arg2 arg3 arg12 arg13 arg14 192 fits_192_256 ![0, 7936, 0] inb_S1x8192x512_S1x256x256_0_7936_0 ![0, 7936, 256] inb_S1x8192x512_S1x256x256_0_7936_256 ![248, 0] inb_S256x512_S8x256_248_0 ![7936, 0] inb_S8192x512_S256x256_7936_0 ![248, 256] inb_S256x512_S8x256_248_256 ![7936, 256] inb_S8192x512_S256x256_7936_256 ![0, 0, 7936] inb_S1x512x8192_S1x512x256_0_0_7936 m0 l0 m1 l1 s
  let s ← popO arg15 0 ![0, 0] inb_S512x512_S512x256_0_0 s
  let s ← popO arg15 1 ![0, 256] inb_S512x512_S512x256_0_256 s
  stat arg14 ![0, 0, 0] inb_S2x8x512_S1x8x256_0_0_0 ![1, 0, 0] inb_S2x8x512_S1x8x256_1_0_0 m0 l0
  stat arg14 ![0, 0, 256] inb_S2x8x512_S1x8x256_0_0_256 ![1, 0, 256] inb_S2x8x512_S1x8x256_1_0_256 m1 l1
  pure s

/-- The body of branch 3. -/
noncomputable def br3 (i : grid0.Coords) (k0_h3 : k0_cond3 i = 1#1) (s : Mxu F) :
    Prog (TpuEff nD τ sig (Elt F) Λ₀ .tc) (Mxu F) := do
  have m0 : FVec F S8x256 .f32 := broadcast S8x256 (Scalar.ofBits .f32 0xFF800000#32)
  have l0 : FVec F S8x256 .f32 := broadcast S8x256 (Scalar.ofBits .f32 0x00000000#32)
  have m1 : FVec F S8x256 .f32 := broadcast S8x256 (Scalar.ofBits .f32 0xFF800000#32)
  have l1 : FVec F S8x256 .f32 := broadcast S8x256 (Scalar.ofBits .f32 0x00000000#32)
  let s ← pushQ arg1 ![0, 0, 0] inb_S1x512x512_S1x256x256_0_0_0 ![0, 0, 256] inb_S1x512x512_S1x256x256_0_0_256 s
  quantO arg10 harg10 arg11 arg15
  let (m0, l0, m1, l1, s) ← blkSV arg1 arg2 arg3 arg12 arg13 arg14 128 fits_128_256 ![0, 0, 0] inb_S1x8192x512_S1x256x256_0_0_0 ![0, 0, 256] inb_S1x8192x512_S1x256x256_0_0_256 ![0, 0] inb_S256x512_S8x256_0_0 ![0, 0] inb_S8192x512_S256x256_0_0 ![0, 256] inb_S256x512_S8x256_0_256 ![0, 256] inb_S8192x512_S256x256_0_256 ![0, 0, 0] inb_S1x512x8192_S1x512x256_0_0_0 m0 l0 m1 l1 s
  let (m0, l0, m1, l1, s) ← blkSV arg1 arg2 arg3 arg12 arg13 arg14 192 fits_192_256 ![0, 256, 0] inb_S1x8192x512_S1x256x256_0_256_0 ![0, 256, 256] inb_S1x8192x512_S1x256x256_0_256_256 ![8, 0] inb_S256x512_S8x256_8_0 ![256, 0] inb_S8192x512_S256x256_256_0 ![8, 256] inb_S256x512_S8x256_8_256 ![256, 256] inb_S8192x512_S256x256_256_256 ![0, 0, 256] inb_S1x512x8192_S1x512x256_0_0_256 m0 l0 m1 l1 s
  let s ← proj0 arg4 arg5 arg6 arg7 arg8 harg8 arg9 harg9 arg10 arg11 s
  let (m0, l0, m1, l1, s) ← blkSV arg1 arg2 arg3 arg12 arg13 arg14 128 fits_128_256 ![0, 512, 0] inb_S1x8192x512_S1x256x256_0_512_0 ![0, 512, 256] inb_S1x8192x512_S1x256x256_0_512_256 ![16, 0] inb_S256x512_S8x256_16_0 ![512, 0] inb_S8192x512_S256x256_512_0 ![16, 256] inb_S256x512_S8x256_16_256 ![512, 256] inb_S8192x512_S256x256_512_256 ![0, 0, 512] inb_S1x512x8192_S1x512x256_0_0_512 m0 l0 m1 l1 s
  let s ← proj1 arg4 arg5 arg6 arg7 arg8 harg8 arg9 harg9 arg10 arg11 s
  let (m0, l0, m1, l1, s) ← blkSV arg1 arg2 arg3 arg12 arg13 arg14 192 fits_192_256 ![0, 768, 0] inb_S1x8192x512_S1x256x256_0_768_0 ![0, 768, 256] inb_S1x8192x512_S1x256x256_0_768_256 ![24, 0] inb_S256x512_S8x256_24_0 ![768, 0] inb_S8192x512_S256x256_768_0 ![24, 256] inb_S256x512_S8x256_24_256 ![768, 256] inb_S8192x512_S256x256_768_256 ![0, 0, 768] inb_S1x512x8192_S1x512x256_0_0_768 m0 l0 m1 l1 s
  let (m0, l0, m1, l1, s) ← Scf.Loop.for k0_t3_loop (k0_t3_ok i k0_h3) (m0, l0, m1, l1, s) (trip3 arg1 arg2 arg3 arg12 arg13 arg14 i k0_h3)
  let (m0, l0, m1, l1, s) ← blkSV arg1 arg2 arg3 arg12 arg13 arg14 128 fits_128_256 ![0, 7168, 0] inb_S1x8192x512_S1x256x256_0_7168_0 ![0, 7168, 256] inb_S1x8192x512_S1x256x256_0_7168_256 ![224, 0] inb_S256x512_S8x256_224_0 ![7168, 0] inb_S8192x512_S256x256_7168_0 ![224, 256] inb_S256x512_S8x256_224_256 ![7168, 256] inb_S8192x512_S256x256_7168_256 ![0, 0, 7168] inb_S1x512x8192_S1x512x256_0_0_7168 m0 l0 m1 l1 s
  let (m0, l0, m1, l1, s) ← blkSV arg1 arg2 arg3 arg12 arg13 arg14 192 fits_192_256 ![0, 7424, 0] inb_S1x8192x512_S1x256x256_0_7424_0 ![0, 7424, 256] inb_S1x8192x512_S1x256x256_0_7424_256 ![232, 0] inb_S256x512_S8x256_232_0 ![7424, 0] inb_S8192x512_S256x256_7424_0 ![232, 256] inb_S256x512_S8x256_232_256 ![7424, 256] inb_S8192x512_S256x256_7424_256 ![0, 0, 7424] inb_S1x512x8192_S1x512x256_0_0_7424 m0 l0 m1 l1 s
  let (m0, l0, m1, l1, s) ← blkSV arg1 arg2 arg3 arg12 arg13 arg14 128 fits_128_256 ![0, 7680, 0] inb_S1x8192x512_S1x256x256_0_7680_0 ![0, 7680, 256] inb_S1x8192x512_S1x256x256_0_7680_256 ![240, 0] inb_S256x512_S8x256_240_0 ![7680, 0] inb_S8192x512_S256x256_7680_0 ![240, 256] inb_S256x512_S8x256_240_256 ![7680, 256] inb_S8192x512_S256x256_7680_256 ![0, 0, 7680] inb_S1x512x8192_S1x512x256_0_0_7680 m0 l0 m1 l1 s
  let (m0, l0, m1, l1, s) ← blkSVL arg1 arg2 arg3 arg12 arg13 arg14 192 fits_192_256 ![0, 7936, 0] inb_S1x8192x512_S1x256x256_0_7936_0 ![0, 7936, 256] inb_S1x8192x512_S1x256x256_0_7936_256 ![248, 0] inb_S256x512_S8x256_248_0 ![7936, 0] inb_S8192x512_S256x256_7936_0 ![248, 256] inb_S256x512_S8x256_248_256 ![7936, 256] inb_S8192x512_S256x256_7936_256 ![0, 0, 7936] inb_S1x512x8192_S1x512x256_0_0_7936 m0 l0 m1 l1 s
  let s ← popO arg15 0 ![0, 0] inb_S512x512_S512x256_0_0 s
  let s ← popO arg15 1 ![0, 256] inb_S512x512_S512x256_0_256 s
  stat arg14 ![0, 0, 0] inb_S2x8x512_S1x8x256_0_0_0 ![1, 0, 0] inb_S2x8x512_S1x8x256_1_0_0 m0 l0
  stat arg14 ![0, 0, 256] inb_S2x8x512_S1x8x256_0_0_256 ![1, 0, 256] inb_S2x8x512_S1x8x256_1_0_256 m1 l1
  pure s

/-- The body of branch 4. -/
noncomputable def br4 (i : grid0.Coords) (k0_h4 : k0_cond4 i = 1#1) (s : Mxu F) :
    Prog (TpuEff nD τ sig (Elt F) Λ₀ .tc) (Mxu F) := do
  quantO arg10 harg10 arg11 arg15
  let s ← blkV arg3 arg12 arg13 arg14 ![0, 0] inb_S256x512_S8x256_0_0 ![0, 0] inb_S8192x512_S256x256_0_0 ![0, 256] inb_S256x512_S8x256_0_256 ![0, 256] inb_S8192x512_S256x256_0_256 ![0, 0, 0] inb_S1x512x8192_S1x512x256_0_0_0 s
  let s ← blkV arg3 arg12 arg13 arg14 ![8, 0] inb_S256x512_S8x256_8_0 ![256, 0] inb_S8192x512_S256x256_256_0 ![8, 256] inb_S256x512_S8x256_8_256 ![256, 256] inb_S8192x512_S256x256_256_256 ![0, 0, 256] inb_S1x512x8192_S1x512x256_0_0_256 s
  let s ← proj0 arg4 arg5 arg6 arg7 arg8 harg8 arg9 harg9 arg10 arg11 s
  let s ← blkV arg3 arg12 arg13 arg14 ![16, 0] inb_S256x512_S8x256_16_0 ![512, 0] inb_S8192x512_S256x256_512_0 ![16, 256] inb_S256x512_S8x256_16_256 ![512, 256] inb_S8192x512_S256x256_512_256 ![0, 0, 512] inb_S1x512x8192_S1x512x256_0_0_512 s
  let s ← proj1 arg4 arg5 arg6 arg7 arg8 harg8 arg9 harg9 arg10 arg11 s
  let s ← blkV arg3 arg12 arg13 arg14 ![24, 0] inb_S256x512_S8x256_24_0 ![768, 0] inb_S8192x512_S256x256_768_0 ![24, 256] inb_S256x512_S8x256_24_256 ![768, 256] inb_S8192x512_S256x256_768_256 ![0, 0, 768] inb_S1x512x8192_S1x512x256_0_0_768 s
  let s ← Scf.Loop.for k0_t4_loop (k0_t4_ok i k0_h4) s (trip4 arg3 arg12 arg13 arg14 i k0_h4)
  let s ← blkV arg3 arg12 arg13 arg14 ![224, 0] inb_S256x512_S8x256_224_0 ![7168, 0] inb_S8192x512_S256x256_7168_0 ![224, 256] inb_S256x512_S8x256_224_256 ![7168, 256] inb_S8192x512_S256x256_7168_256 ![0, 0, 7168] inb_S1x512x8192_S1x512x256_0_0_7168 s
  let s ← blkV arg3 arg12 arg13 arg14 ![232, 0] inb_S256x512_S8x256_232_0 ![7424, 0] inb_S8192x512_S256x256_7424_0 ![232, 256] inb_S256x512_S8x256_232_256 ![7424, 256] inb_S8192x512_S256x256_7424_256 ![0, 0, 7424] inb_S1x512x8192_S1x512x256_0_0_7424 s
  let s ← blkV arg3 arg12 arg13 arg14 ![240, 0] inb_S256x512_S8x256_240_0 ![7680, 0] inb_S8192x512_S256x256_7680_0 ![240, 256] inb_S256x512_S8x256_240_256 ![7680, 256] inb_S8192x512_S256x256_7680_256 ![0, 0, 7680] inb_S1x512x8192_S1x512x256_0_0_7680 s
  let s ← blkV arg3 arg12 arg13 arg14 ![248, 0] inb_S256x512_S8x256_248_0 ![7936, 0] inb_S8192x512_S256x256_7936_0 ![248, 256] inb_S256x512_S8x256_248_256 ![7936, 256] inb_S8192x512_S256x256_7936_256 ![0, 0, 7936] inb_S1x512x8192_S1x512x256_0_0_7936 s
  let s ← popO arg15 0 ![0, 0] inb_S512x512_S512x256_0_0 s
  let s ← popO arg15 1 ![0, 256] inb_S512x512_S512x256_0_256 s
  pure s

/-- The body of branch 5: the last output tile. -/
noncomputable def br5 (s : Mxu F) :
    Prog (TpuEff nD τ sig (Elt F) Λ₀ .tc) (Mxu F) := do
  quantO arg10 harg10 arg11 arg15
  let s ← proj0 arg4 arg5 arg6 arg7 arg8 harg8 arg9 harg9 arg10 arg11 s
  let s ← proj1 arg4 arg5 arg6 arg7 arg8 harg8 arg9 harg9 arg10 arg11 s
  pure s

/-- The kernel's body, assembled from the named pieces. -/
noncomputable def bodyS (i : grid0.Coords) (arg1 : Memref sig .tc .vmem S1x512x512 .bf16) (harg1 : arg1.IsWhole) (arg2 : Memref sig .tc .vmem S1x8192x512 .bf16) (harg2 : arg2.IsWhole) (arg3 : Memref sig .tc .vmem S1x512x8192 .bf16) (harg3 : arg3.IsWhole)
  (arg4 : Memref sig .tc .vmem S1x512x512 .bf16) (harg4 : arg4.IsWhole) (arg5 : Memref sig .tc .vmem S512x512 .fp8e4m3) (harg5 : arg5.IsWhole) (arg6 : Memref sig .tc .vmem S512x1 .f32) (harg6 : arg6.IsWhole)
  (arg7 : Memref sig .tc .vmem S512x1 .f32) (harg7 : arg7.IsWhole) (arg8 : Memref sig .tc .vmem S1x512x512 .bf16) (harg8 : arg8.IsWhole) (arg9 : Memref sig .tc .vmem S1x512x512 .bf16) (harg9 : arg9.IsWhole)
  (arg10 : Memref sig .tc .vmem S1x512x512 .fp8e4m3) (harg10 : arg10.IsWhole) (arg11 : Memref sig .tc .vmem S1x1x512 .f32) (harg11 : arg11.IsWhole) (arg12 : Memref sig .tc .vmem S8192x512 .f32) (harg12 : arg12.IsWhole)
  (arg13 : Memref sig .tc .vmem S256x512 .f32) (harg13 : arg13.IsWhole) (arg14 : Memref sig .tc .vmem S2x8x512 .f32) (harg14 : arg14.IsWhole) (arg15 : Memref sig .tc .vmem S512x512 .f32) (harg15 : arg15.IsWhole) :
    Prog (TpuEff nD τ sig (Elt F) Λ₀ .tc) PUnit := do
  have s : Mxu F := Mxu.init
  let s ← if k0_h1 : k0_cond1 i = 1#1 then br1 arg1 arg2 arg12 arg13 arg14 i k0_h1 s else pure s
  let s ← if k0_h2 : k0_cond2 i = 1#1 then br2 arg1 arg2 arg3 arg12 arg13 arg14 arg15 i k0_h2 s else pure s
  let s ← if k0_h3 : k0_cond3 i = 1#1 then br3 arg1 arg2 arg3 arg4 arg5 arg6 arg7 arg8 harg8 arg9 harg9 arg10 harg10 arg11 arg12 arg13 arg14 arg15 i k0_h3 s else pure s
  let s ← if k0_h4 : k0_cond4 i = 1#1 then br4 arg3 arg4 arg5 arg6 arg7 arg8 harg8 arg9 harg9 arg10 harg10 arg11 arg12 arg13 arg14 arg15 i k0_h4 s else pure s
  let s ← if k0_h5 : k0_cond5 i = 1#1 then br5 arg4 arg5 arg6 arg7 arg8 harg8 arg9 harg9 arg10 harg10 arg11 arg15 s else pure s
  s.exit

end Cert.Attn.Body

end
-- ==== Proof.AttnBitsProgEq.lean ====
/- The attention kernel's body is the composition of named pieces. -/
module

public import proofs.«01_k».proof.Proof.AttnBitsProg
public import Idealize.ShloMosaic.Lib.Tactic.ProgEq
public import Idealize.ShloMosaic.PureOps.BitExact

@[expose] public section

set_option maxRecDepth 16384

open Idealize.ShloMosaic Idealize.SL.Sem
open scoped Idealize.ShloMosaic.ProgEq

set_option maxHeartbeats 4000000 in
prog_eq Cert.Attn.Body.body_eq : Cert.Attn.cc0_attention Cert.Attn.Body.bodyS from Cert.Attn to Cert.Attn at Bits inferInstance by
  intros; rfl

end
-- ==== Proof.AttnBitsFun.lean ====
/- What the pieces of the attention kernel compute, as functions of what they read. -/
module

public import proofs.«01_k».proof.Proof.AttnBitsProg
public import proofs.«01_k».proof.Proof.MxuAbs
public import proofs.«01_k».proof.Proof.Hoare

@[expose] public section

set_option maxRecDepth 16384

namespace Cert.Attn.Body

open Idealize.ShloMosaic Idealize.SL.Sem
open Cert.Attn Facts₀ Facts
open Cert.MxuAbs Mxu

variable {F : FTy → Type} [FloatOps F] [Facts]

/-- The probabilities of a key block, from its stored maximum, the final maximum and reciprocal sum, and its exponentials. -/
noncomputable def pT (v657 : Vec F S8x256 .f32) (v658 : Vec F S1x8x256 .f32) (v664 : Vec F S1x8x256 .f32) (v668 : Vec F S256x256 .f32) : FVec F S256x256 .bf16 :=
  have v659 : FVec F S8x256 .f32 := shapeCast S8x256 v658 shapeCasts_S1x8x256_S8x256
  have v660 : FVec F S8x256 .f32 := subf v657 v659
  have cst_335 : F .f32 := Scalar.ofBits .f32 0x3D8293EE#32
  have v661 : FVec F S8x256 .f32 := broadcast S8x256 cst_335
  have v662 : FVec F S8x256 .f32 := mulf v660 v661
  have v663 : FVec F S8x256 .f32 := exp2 v662
  have v665 : FVec F S8x256 .f32 := shapeCast S8x256 v664 shapeCasts_S1x8x256_S8x256
  have v666 : FVec F S8x256 .f32 := mulf v663 v665
  have v669 : FVec F S32x8x256 .f32 := shapeCast S32x8x256 v668 shapeCasts_S256x256_S32x8x256
  have v670 : FVec F S1x8x256 .f32 := shapeCast S1x8x256 v666 shapeCasts_S8x256_S1x8x256
  have v671 : FVec F S32x8x256 .f32 := broadcastTo S32x8x256 v670 broadcasts_S1x8x256_S32x8x256
  have v672 : FVec F S32x8x256 .f32 := mulf v669 v671
  have v673 : FVec F S256x256 .f32 := shapeCast S256x256 v672 shapeCasts_S32x8x256_S256x256
  truncf .bf16 v673 bitsLt_bf16_f32

/-- The running maximum after a block of scores. -/
noncomputable def scM (m : FVec F S8x256 .f32) (v704 : FVec F S256x256 .f32) : FVec F S8x256 .f32 :=
  have v705 : FVec F S32x8x256 .f32 := shapeCast S32x8x256 v704 shapeCasts_S256x256_S32x8x256
  have v706 : FVec F S8x256 .f32 := multiReduction .maximumf [0] S8x256 v705 0xFF800000#32 reduces_S32x8x256_S8x256 (.inl rfl) rfl
  maximumf m v706

/-- The running sum after a block of scores. -/
noncomputable def scL (m : FVec F S8x256 .f32) (l : FVec F S8x256 .f32) (v704 : FVec F S256x256 .f32) : FVec F S8x256 .f32 :=
  have v705 : FVec F S32x8x256 .f32 := shapeCast S32x8x256 v704 shapeCasts_S256x256_S32x8x256
  have v706 : FVec F S8x256 .f32 := multiReduction .maximumf [0] S8x256 v705 0xFF800000#32 reduces_S32x8x256_S8x256 (.inl rfl) rfl
  have v707 : FVec F S8x256 .f32 := maximumf m v706
  have v708 : FVec F S1x8x256 .f32 := shapeCast S1x8x256 v707 shapeCasts_S8x256_S1x8x256
  have v709 : FVec F S32x8x256 .f32 := broadcastTo S32x8x256 v708 broadcasts_S1x8x256_S32x8x256
  have v710 : FVec F S32x8x256 .f32 := subf v705 v709
  have cst_360 : F .f32 := Scalar.ofBits .f32 0x3D8293EE#32
  have v711 : FVec F S32x8x256 .f32 := broadcast S32x8x256 cst_360
  have v712 : FVec F S32x8x256 .f32 := mulf v710 v711
  have v713 : FVec F S32x8x256 .f32 := exp2 v712
  have v714 : FVec F S8x256 .f32 := subf m v707
  have cst_361 : F .f32 := Scalar.ofBits .f32 0x3D8293EE#32
  have v715 : FVec F S8x256 .f32 := broadcast S8x256 cst_361
  have v716 : FVec F S8x256 .f32 := mulf v714 v715
  have v717 : FVec F S8x256 .f32 := exp2 v716
  have v718 : FVec F S8x256 .f32 := mulf l v717
  have v719 : FVec F S8x256 .f32 := multiReduction .add [0] S8x256 v713 0x00000000#32 reduces_S32x8x256_S8x256 (.inl rfl) rfl
  addf v718 v719

/-- The exponentials stored of a block of scores. -/
noncomputable def scE (m : FVec F S8x256 .f32) (v704 : FVec F S256x256 .f32) : FVec F S256x256 .f32 :=
  have v705 : FVec F S32x8x256 .f32 := shapeCast S32x8x256 v704 shapeCasts_S256x256_S32x8x256
  have v706 : FVec F S8x256 .f32 := multiReduction .maximumf [0] S8x256 v705 0xFF800000#32 reduces_S32x8x256_S8x256 (.inl rfl) rfl
  have v707 : FVec F S8x256 .f32 := maximumf m v706
  have v708 : FVec F S1x8x256 .f32 := shapeCast S1x8x256 v707 shapeCasts_S8x256_S1x8x256
  have v709 : FVec F S32x8x256 .f32 := broadcastTo S32x8x256 v708 broadcasts_S1x8x256_S32x8x256
  have v710 : FVec F S32x8x256 .f32 := subf v705 v709
  have cst_360 : F .f32 := Scalar.ofBits .f32 0x3D8293EE#32
  have v711 : FVec F S32x8x256 .f32 := broadcast S32x8x256 cst_360
  have v712 : FVec F S32x8x256 .f32 := mulf v710 v711
  have v713 : FVec F S32x8x256 .f32 := exp2 v712
  have v721 : FVec F S256x256 .f32 := shapeCast S256x256 v713 shapeCasts_S32x8x256_S256x256
  shapeCast S256x256 v721 shapeCasts_S256x256_S256x256

/-- The maximum stored with a block of scores. -/
noncomputable def scB (m : FVec F S8x256 .f32) (v704 : FVec F S256x256 .f32) : FVec F S8x256 .f32 :=
  have v705 : FVec F S32x8x256 .f32 := shapeCast S32x8x256 v704 shapeCasts_S256x256_S32x8x256
  have v706 : FVec F S8x256 .f32 := multiReduction .maximumf [0] S8x256 v705 0xFF800000#32 reduces_S32x8x256_S8x256 (.inl rfl) rfl
  have v707 : FVec F S8x256 .f32 := maximumf m v706
  shapeCast S8x256 v707 shapeCasts_S8x256_S8x256

/-- The codes stored of an output tile. -/
noncomputable def qCodes (v21 : Vec F S512x512 .f32) : FVec F S1x512x512 .fp8e4m3 :=
  have v22 : FVec F S512x512 .f32 := absf v21
  have v23 : FVec F S512 .f32 := multiReduction .maximumf [0] S512 v22 0xFF800000#32 reduces_S512x512_S512 (.inl rfl) rfl
  have v24 : FVec F S1x512 .f32 := shapeCast S1x512 v23 shapeCasts_S512_S1x512
  have cst_11 : F .f32 := Scalar.ofBits .f32 0x3B124925#32
  have v25 : FVec F S1x512 .f32 := broadcast S1x512 cst_11
  have v26 : FVec F S1x512 .f32 := mulf v24 v25
  let c0_i32_12 : BitVec 32 := 0#32
  have v27 : IVec S1x512 32 := broadcast S1x512 c0_i32_12
  let c128_i32 : BitVec 32 := 128#32
  have v28 : IVec S1x512 32 := broadcast S1x512 c128_i32
  have v29 : IVec S1x512 32 := addi v27 v28
  let c23_i32 : BitVec 32 := 23#32
  have v30 : IVec S1x512 32 := broadcast S1x512 c23_i32
  have v31 : IVec S1x512 32 := shli v29 v30
  have v32 : FVec F S1x512 .f32 := bitcastToFloat .f32 v31
  have v33 : IVec S1x512 1 := cmpf .oge v26 v32
  let c128_i32_13 : BitVec 32 := 128#32
  have v34 : IVec S1x512 32 := broadcast S1x512 c128_i32_13
  have v35 : IVec S1x512 32 := addi v27 v34
  have v36 : IVec S1x512 32 := select v33 v35 v27
  let c64_i32 : BitVec 32 := 64#32
  have v37 : IVec S1x512 32 := broadcast S1x512 c64_i32
  have v38 : IVec S1x512 32 := addi v36 v37
  let c23_i32_14 : BitVec 32 := 23#32
  have v39 : IVec S1x512 32 := broadcast S1x512 c23_i32_14
  have v40 : IVec S1x512 32 := shli v38 v39
  have v41 : FVec F S1x512 .f32 := bitcastToFloat .f32 v40
  have v42 : IVec S1x512 1 := cmpf .oge v26 v41
  let c64_i32_15 : BitVec 32 := 64#32
  have v43 : IVec S1x512 32 := broadcast S1x512 c64_i32_15
  have v44 : IVec S1x512 32 := addi v36 v43
  have v45 : IVec S1x512 32 := select v42 v44 v36
  let c32_i32 : BitVec 32 := 32#32
  have v46 : IVec S1x512 32 := broadcast S1x512 c32_i32
  have v47 : IVec S1x512 32 := addi v45 v46
  let c23_i32_16 : BitVec 32 := 23#32
  have v48 : IVec S1x512 32 := broadcast S1x512 c23_i32_16
  have v49 : IVec S1x512 32 := shli v47 v48
  have v50 : FVec F S1x512 .f32 := bitcastToFloat .f32 v49
  have v51 : IVec S1x512 1 := cmpf .oge v26 v50
  let c32_i32_17 : BitVec 32 := 32#32
  have v52 : IVec S1x512 32 := broadcast S1x512 c32_i32_17
  have v53 : IVec S1x512 32 := addi v45 v52
  have v54 : IVec S1x512 32 := select v51 v53 v45
  let c16_i32 : BitVec 32 := 16#32
  have v55 : IVec S1x512 32 := broadcast S1x512 c16_i32
  have v56 : IVec S1x512 32 := addi v54 v55
  let c23_i32_18 : BitVec 32 := 23#32
  have v57 : IVec S1x512 32 := broadcast S1x512 c23_i32_18
  have v58 : IVec S1x512 32 := shli v56 v57
  have v59 : FVec F S1x512 .f32 := bitcastToFloat .f32 v58
  have v60 : IVec S1x512 1 := cmpf .oge v26 v59
  let c16_i32_19 : BitVec 32 := 16#32
  have v61 : IVec S1x512 32 := broadcast S1x512 c16_i32_19
  have v62 : IVec S1x512 32 := addi v54 v61
  have v63 : IVec S1x512 32 := select v60 v62 v54
  let c8_i32 : BitVec 32 := 8#32
  have v64 : IVec S1x512 32 := broadcast S1x512 c8_i32
  have v65 : IVec S1x512 32 := addi v63 v64
  let c23_i32_20 : BitVec 32 := 23#32
  have v66 : IVec S1x512 32 := broadcast S1x512 c23_i32_20
  have v67 : IVec S1x512 32 := shli v65 v66
  have v68 : FVec F S1x512 .f32 := bitcastToFloat .f32 v67
  have v69 : IVec S1x512 1 := cmpf .oge v26 v68
  let c8_i32_21 : BitVec 32 := 8#32
  have v70 : IVec S1x512 32 := broadcast S1x512 c8_i32_21
  have v71 : IVec S1x512 32 := addi v63 v70
  have v72 : IVec S1x512 32 := select v69 v71 v63
  let c4_i32 : BitVec 32 := 4#32
  have v73 : IVec S1x512 32 := broadcast S1x512 c4_i32
  have v74 : IVec S1x512 32 := addi v72 v73
  let c23_i32_22 : BitVec 32 := 23#32
  have v75 : IVec S1x512 32 := broadcast S1x512 c23_i32_22
  have v76 : IVec S1x512 32 := shli v74 v75
  have v77 : FVec F S1x512 .f32 := bitcastToFloat .f32 v76
  have v78 : IVec S1x512 1 := cmpf .oge v26 v77
  let c4_i32_23 : BitVec 32 := 4#32
  have v79 : IVec S1x512 32 := broadcast S1x512 c4_i32_23
  have v80 : IVec S1x512 32 := addi v72 v79
  have v81 : IVec S1x512 32 := select v78 v80 v72
  let c2_i32_24 : BitVec 32 := 2#32
  have v82 : IVec S1x512 32 := broadcast S1x512 c2_i32_24
  have v83 : IVec S1x512 32 := addi v81 v82
  let c23_i32_25 : BitVec 32 := 23#32
  have v84 : IVec S1x512 32 := broadcast S1x512 c23_i32_25
  have v85 : IVec S1x512 32 := shli v83 v84
  have v86 : FVec F S1x512 .f32 := bitcastToFloat .f32 v85
  have v87 : IVec S1x512 1 := cmpf .oge v26 v86
  let c2_i32_26 : BitVec 32 := 2#32
  have v88 : IVec S1x512 32 := broadcast S1x512 c2_i32_26
  have v89 : IVec S1x512 32 := addi v81 v88
  have v90 : IVec S1x512 32 := select v87 v89 v81
  let c1_i32_27 : BitVec 32 := 1#32
  have v91 : IVec S1x512 32 := broadcast S1x512 c1_i32_27
  have v92 : IVec S1x512 32 := addi v90 v91
  let c23_i32_28 : BitVec 32 := 23#32
  have v93 : IVec S1x512 32 := broadcast S1x512 c23_i32_28
  have v94 : IVec S1x512 32 := shli v92 v93
  have v95 : FVec F S1x512 .f32 := bitcastToFloat .f32 v94
  have v96 : IVec S1x512 1 := cmpf .oge v26 v95
  let c1_i32_29 : BitVec 32 := 1#32
  have v97 : IVec S1x512 32 := broadcast S1x512 c1_i32_29
  have v98 : IVec S1x512 32 := addi v90 v97
  have v99 : IVec S1x512 32 := select v96 v98 v90
  let c0_i32_30 : BitVec 32 := 0#32
  have v100 : IVec S1x512 32 := broadcast S1x512 c0_i32_30
  have v101 : IVec S1x512 1 := cmpi .eq v99 v100
  let c255_i32 : BitVec 32 := 255#32
  have v102 : IVec S1x512 32 := broadcast S1x512 c255_i32
  have v103 : IVec S1x512 1 := cmpi .eq v99 v102
  have v104 : IVec S1x512 1 := ori v101 v103
  let c126_i32 : BitVec 32 := 126#32
  have v105 : IVec S1x512 32 := broadcast S1x512 c126_i32
  have v106 : IVec S1x512 32 := select v104 v105 v99
  let c253_i32 : BitVec 32 := 253#32
  have v112 : IVec S1x512 32 := broadcast S1x512 c253_i32
  have v113 : IVec S1x512 32 := subi v112 v106
  let c0_i32_33 : BitVec 32 := 0#32
  have v114 : IVec S1x512 32 := broadcast S1x512 c0_i32_33
  have v115 : IVec S1x512 32 := maxsi v113 v114
  let c23_i32_34 : BitVec 32 := 23#32
  have v116 : IVec S1x512 32 := broadcast S1x512 c23_i32_34
  have v117 : IVec S1x512 32 := shli v115 v116
  have v118 : FVec F S1x512 .f32 := bitcastToFloat .f32 v117
  have v119 : FVec F S512x512 .f32 := broadcastTo S512x512 v118 broadcasts_S1x512_S512x512
  have v120 : FVec F S512x512 .f32 := mulf v21 v119
  have cst_35 : F .f32 := Scalar.ofBits .f32 0xC3E00000#32
  have cst_36 : F .f32 := Scalar.ofBits .f32 0x43E00000#32
  have v121 : FVec F S512x512 .f32 := broadcast S512x512 cst_35
  have v122 : FVec F S512x512 .f32 := maximumf v121 v120
  have v123 : FVec F S512x512 .f32 := broadcast S512x512 cst_36
  have v124 : FVec F S512x512 .f32 := minimumf v123 v122
  have v125 : FVec F S512x512 .fp8e4m3 := truncf .fp8e4m3 v124 bitsLt_fp8e4m3_f32
  shapeCast S1x512x512 v125 shapeCasts_S512x512_S1x512x512

/-- The scale stored of an output tile. -/
noncomputable def qScale (v21 : Vec F S512x512 .f32) : FVec F S1x1x512 .f32 :=
  have v22 : FVec F S512x512 .f32 := absf v21
  have v23 : FVec F S512 .f32 := multiReduction .maximumf [0] S512 v22 0xFF800000#32 reduces_S512x512_S512 (.inl rfl) rfl
  have v24 : FVec F S1x512 .f32 := shapeCast S1x512 v23 shapeCasts_S512_S1x512
  have cst_11 : F .f32 := Scalar.ofBits .f32 0x3B124925#32
  have v25 : FVec F S1x512 .f32 := broadcast S1x512 cst_11
  have v26 : FVec F S1x512 .f32 := mulf v24 v25
  let c0_i32_12 : BitVec 32 := 0#32
  have v27 : IVec S1x512 32 := broadcast S1x512 c0_i32_12
  let c128_i32 : BitVec 32 := 128#32
  have v28 : IVec S1x512 32 := broadcast S1x512 c128_i32
  have v29 : IVec S1x512 32 := addi v27 v28
  let c23_i32 : BitVec 32 := 23#32
  have v30 : IVec S1x512 32 := broadcast S1x512 c23_i32
  have v31 : IVec S1x512 32 := shli v29 v30
  have v32 : FVec F S1x512 .f32 := bitcastToFloat .f32 v31
  have v33 : IVec S1x512 1 := cmpf .oge v26 v32
  let c128_i32_13 : BitVec 32 := 128#32
  have v34 : IVec S1x512 32 := broadcast S1x512 c128_i32_13
  have v35 : IVec S1x512 32 := addi v27 v34
  have v36 : IVec S1x512 32 := select v33 v35 v27
  let c64_i32 : BitVec 32 := 64#32
  have v37 : IVec S1x512 32 := broadcast S1x512 c64_i32
  have v38 : IVec S1x512 32 := addi v36 v37
  let c23_i32_14 : BitVec 32 := 23#32
  have v39 : IVec S1x512 32 := broadcast S1x512 c23_i32_14
  have v40 : IVec S1x512 32 := shli v38 v39
  have v41 : FVec F S1x512 .f32 := bitcastToFloat .f32 v40
  have v42 : IVec S1x512 1 := cmpf .oge v26 v41
  let c64_i32_15 : BitVec 32 := 64#32
  have v43 : IVec S1x512 32 := broadcast S1x512 c64_i32_15
  have v44 : IVec S1x512 32 := addi v36 v43
  have v45 : IVec S1x512 32 := select v42 v44 v36
  let c32_i32 : BitVec 32 := 32#32
  have v46 : IVec S1x512 32 := broadcast S1x512 c32_i32
  have v47 : IVec S1x512 32 := addi v45 v46
  let c23_i32_16 : BitVec 32 := 23#32
  have v48 : IVec S1x512 32 := broadcast S1x512 c23_i32_16
  have v49 : IVec S1x512 32 := shli v47 v48
  have v50 : FVec F S1x512 .f32 := bitcastToFloat .f32 v49
  have v51 : IVec S1x512 1 := cmpf .oge v26 v50
  let c32_i32_17 : BitVec 32 := 32#32
  have v52 : IVec S1x512 32 := broadcast S1x512 c32_i32_17
  have v53 : IVec S1x512 32 := addi v45 v52
  have v54 : IVec S1x512 32 := select v51 v53 v45
  let c16_i32 : BitVec 32 := 16#32
  have v55 : IVec S1x512 32 := broadcast S1x512 c16_i32
  have v56 : IVec S1x512 32 := addi v54 v55
  let c23_i32_18 : BitVec 32 := 23#32
  have v57 : IVec S1x512 32 := broadcast S1x512 c23_i32_18
  have v58 : IVec S1x512 32 := shli v56 v57
  have v59 : FVec F S1x512 .f32 := bitcastToFloat .f32 v58
  have v60 : IVec S1x512 1 := cmpf .oge v26 v59
  let c16_i32_19 : BitVec 32 := 16#32
  have v61 : IVec S1x512 32 := broadcast S1x512 c16_i32_19
  have v62 : IVec S1x512 32 := addi v54 v61
  have v63 : IVec S1x512 32 := select v60 v62 v54
  let c8_i32 : BitVec 32 := 8#32
  have v64 : IVec S1x512 32 := broadcast S1x512 c8_i32
  have v65 : IVec S1x512 32 := addi v63 v64
  let c23_i32_20 : BitVec 32 := 23#32
  have v66 : IVec S1x512 32 := broadcast S1x512 c23_i32_20
  have v67 : IVec S1x512 32 := shli v65 v66
  have v68 : FVec F S1x512 .f32 := bitcastToFloat .f32 v67
  have v69 : IVec S1x512 1 := cmpf .oge v26 v68
  let c8_i32_21 : BitVec 32 := 8#32
  have v70 : IVec S1x512 32 := broadcast S1x512 c8_i32_21
  have v71 : IVec S1x512 32 := addi v63 v70
  have v72 : IVec S1x512 32 := select v69 v71 v63
  let c4_i32 : BitVec 32 := 4#32
  have v73 : IVec S1x512 32 := broadcast S1x512 c4_i32
  have v74 : IVec S1x512 32 := addi v72 v73
  let c23_i32_22 : BitVec 32 := 23#32
  have v75 : IVec S1x512 32 := broadcast S1x512 c23_i32_22
  have v76 : IVec S1x512 32 := shli v74 v75
  have v77 : FVec F S1x512 .f32 := bitcastToFloat .f32 v76
  have v78 : IVec S1x512 1 := cmpf .oge v26 v77
  let c4_i32_23 : BitVec 32 := 4#32
  have v79 : IVec S1x512 32 := broadcast S1x512 c4_i32_23
  have v80 : IVec S1x512 32 := addi v72 v79
  have v81 : IVec S1x512 32 := select v78 v80 v72
  let c2_i32_24 : BitVec 32 := 2#32
  have v82 : IVec S1x512 32 := broadcast S1x512 c2_i32_24
  have v83 : IVec S1x512 32 := addi v81 v82
  let c23_i32_25 : BitVec 32 := 23#32
  have v84 : IVec S1x512 32 := broadcast S1x512 c23_i32_25
  have v85 : IVec S1x512 32 := shli v83 v84
  have v86 : FVec F S1x512 .f32 := bitcastToFloat .f32 v85
  have v87 : IVec S1x512 1 := cmpf .oge v26 v86
  let c2_i32_26 : BitVec 32 := 2#32
  have v88 : IVec S1x512 32 := broadcast S1x512 c2_i32_26
  have v89 : IVec S1x512 32 := addi v81 v88
  have v90 : IVec S1x512 32 := select v87 v89 v81
  let c1_i32_27 : BitVec 32 := 1#32
  have v91 : IVec S1x512 32 := broadcast S1x512 c1_i32_27
  have v92 : IVec S1x512 32 := addi v90 v91
  let c23_i32_28 : BitVec 32 := 23#32
  have v93 : IVec S1x512 32 := broadcast S1x512 c23_i32_28
  have v94 : IVec S1x512 32 := shli v92 v93
  have v95 : FVec F S1x512 .f32 := bitcastToFloat .f32 v94
  have v96 : IVec S1x512 1 := cmpf .oge v26 v95
  let c1_i32_29 : BitVec 32 := 1#32
  have v97 : IVec S1x512 32 := broadcast S1x512 c1_i32_29
  have v98 : IVec S1x512 32 := addi v90 v97
  have v99 : IVec S1x512 32 := select v96 v98 v90
  let c0_i32_30 : BitVec 32 := 0#32
  have v100 : IVec S1x512 32 := broadcast S1x512 c0_i32_30
  have v101 : IVec S1x512 1 := cmpi .eq v99 v100
  let c255_i32 : BitVec 32 := 255#32
  have v102 : IVec S1x512 32 := broadcast S1x512 c255_i32
  have v103 : IVec S1x512 1 := cmpi .eq v99 v102
  have v104 : IVec S1x512 1 := ori v101 v103
  let c126_i32 : BitVec 32 := 126#32
  have v105 : IVec S1x512 32 := broadcast S1x512 c126_i32
  have v106 : IVec S1x512 32 := select v104 v105 v99
  let c1_i32_31 : BitVec 32 := 1#32
  have v107 : IVec S1x512 32 := broadcast S1x512 c1_i32_31
  have v108 : IVec S1x512 32 := addi v106 v107
  let c23_i32_32 : BitVec 32 := 23#32
  have v109 : IVec S1x512 32 := broadcast S1x512 c23_i32_32
  have v110 : IVec S1x512 32 := shli v108 v109
  have v111 : FVec F S1x512 .f32 := bitcastToFloat .f32 v110
  shapeCast S1x1x512 v111 shapeCasts_S1x512_S1x1x512

/-- The projected half stored. -/
noncomputable def prV (v156 : FVec F S256x256 .f32) (v157 : Vec F S1x1x256 .f32) (v161 : Vec F S256x1 .f32) (v165 : Vec F S256x1 .f32) : FVec F S1x256x256 .bf16 :=
  have v158 : FVec F S1x256 .f32 := shapeCast S1x256 v157 shapeCasts_S1x1x256_S1x256
  have v159 : FVec F S256x256 .f32 := broadcastTo S256x256 v158 broadcasts_S1x256_S256x256
  have v160 : FVec F S256x256 .f32 := mulf v156 v159
  have v162 : FVec F S256x1 .f32 := shapeCast S256x1 v161 shapeCasts_S256x1_S256x1
  have v163 : FVec F S256x256 .f32 := broadcastTo S256x256 v162 broadcasts_S256x1_S256x256
  have v164 : FVec F S256x256 .f32 := mulf v160 v163
  have v166 : FVec F S256x1 .f32 := shapeCast S256x1 v165 shapeCasts_S256x1_S256x1
  have v167 : FVec F S256x256 .f32 := broadcastTo S256x256 v166 broadcasts_S256x1_S256x256
  have v168 : FVec F S256x256 .f32 := addf v164 v167
  have v169 : FVec F S256x256 .bf16 := truncf .bf16 v168 bitsLt_bf16_f32
  shapeCast S1x256x256 v169 shapeCasts_S256x256_S1x256x256

/-- The projected half with the residual added. -/
noncomputable def prR (v156 : FVec F S256x256 .f32) (v157 : Vec F S1x1x256 .f32) (v161 : Vec F S256x1 .f32) (v165 : Vec F S256x1 .f32) (v173 : Vec F S1x256x256 .bf16) : FVec F S1x256x256 .bf16 :=
  have v158 : FVec F S1x256 .f32 := shapeCast S1x256 v157 shapeCasts_S1x1x256_S1x256
  have v159 : FVec F S256x256 .f32 := broadcastTo S256x256 v158 broadcasts_S1x256_S256x256
  have v160 : FVec F S256x256 .f32 := mulf v156 v159
  have v162 : FVec F S256x1 .f32 := shapeCast S256x1 v161 shapeCasts_S256x1_S256x1
  have v163 : FVec F S256x256 .f32 := broadcastTo S256x256 v162 broadcasts_S256x1_S256x256
  have v164 : FVec F S256x256 .f32 := mulf v160 v163
  have v166 : FVec F S256x1 .f32 := shapeCast S256x1 v165 shapeCasts_S256x1_S256x1
  have v167 : FVec F S256x256 .f32 := broadcastTo S256x256 v166 broadcasts_S256x1_S256x256
  have v168 : FVec F S256x256 .f32 := addf v164 v167
  have v174 : FVec F S256x256 .bf16 := shapeCast S256x256 v173 shapeCasts_S1x256x256_S256x256
  have v175 : FVec F S256x256 .f32 := extf .f32 v174 bitsLt_bf16_f32
  have v176 : FVec F S256x256 .f32 := addf v175 v168
  have v177 : FVec F S256x256 .bf16 := truncf .bf16 v176 bitsLt_bf16_f32
  shapeCast S1x256x256 v177 shapeCasts_S256x256_S1x256x256

/-- The final maximum stored. -/
noncomputable def stM (m : FVec F S8x256 .f32) : FVec F S1x8x256 .f32 :=
  have v1234 : FVec F S256 .f32 := multiReduction .maximumf [0] S256 m 0xFF800000#32 reduces_S8x256_S256 (.inl rfl) rfl
  have v1235 : FVec F S1x256 .f32 := shapeCast S1x256 v1234 shapeCasts_S256_S1x256
  have v1244 : FVec F S1x256 .f32 := shapeCast S1x256 v1235 shapeCasts_S1x256_S1x256
  have v1245 : FVec F S8x256 .f32 := broadcastTo S8x256 v1244 broadcasts_S1x256_S8x256
  shapeCast S1x8x256 v1245 shapeCasts_S8x256_S1x8x256

/-- The reciprocal of the final sum stored. -/
noncomputable def stL (m : FVec F S8x256 .f32) (l : FVec F S8x256 .f32) : FVec F S1x8x256 .f32 :=
  have v1234 : FVec F S256 .f32 := multiReduction .maximumf [0] S256 m 0xFF800000#32 reduces_S8x256_S256 (.inl rfl) rfl
  have v1235 : FVec F S1x256 .f32 := shapeCast S1x256 v1234 shapeCasts_S256_S1x256
  have v1236 : FVec F S8x256 .f32 := broadcastTo S8x256 v1235 broadcasts_S1x256_S8x256
  have v1237 : FVec F S8x256 .f32 := subf m v1236
  have cst_589 : F .f32 := Scalar.ofBits .f32 0x3D8293EE#32
  have v1238 : FVec F S8x256 .f32 := broadcast S8x256 cst_589
  have v1239 : FVec F S8x256 .f32 := mulf v1237 v1238
  have v1240 : FVec F S8x256 .f32 := exp2 v1239
  have v1241 : FVec F S8x256 .f32 := mulf l v1240
  have v1242 : FVec F S256 .f32 := multiReduction .add [0] S256 v1241 0x00000000#32 reduces_S8x256_S256 (.inl rfl) rfl
  have v1243 : FVec F S1x256 .f32 := shapeCast S1x256 v1242 shapeCasts_S256_S1x256
  have cst_594 : F .f32 := Scalar.ofBits .f32 0x3F800000#32
  have v1249 : FVec F S1x256 .f32 := broadcast S1x256 cst_594
  have v1250 : FVec F S1x256 .f32 := divf v1249 v1243
  have v1251 : FVec F S1x256 .f32 := shapeCast S1x256 v1250 shapeCasts_S1x256_S1x256
  have v1252 : FVec F S8x256 .f32 := broadcastTo S8x256 v1251 broadcasts_S1x256_S8x256
  shapeCast S1x8x256 v1252 shapeCasts_S8x256_S1x8x256

/-- The attention output stored. -/
noncomputable def oP (v1226 : FVec F S512x256 .f32) : FVec F S512x256 .f32 :=
  shapeCast S512x256 v1226 shapeCasts_S512x256_S512x256

/-- A staged bf16 tile. -/
abbrev sg (v : FVec F (STile 256) .bf16) : Staged F := ⟨.bf16, false, v⟩

theorem inbQ (f q : Fin 2) : ∀ a, (![0, 256 * f.val, 256 * q.val] : Fin 3 → Nat) a + S1x256x256.size a ≤ S1x512x512.size a := by
  revert f q; decide
theorem inbK (j : Fin 32) (f : Fin 2) : ∀ a, (![0, 256 * j.val, 256 * f.val] : Fin 3 → Nat) a + S1x256x256.size a ≤ S1x8192x512.size a := by
  revert j f; decide
theorem inbV (j : Fin 32) : ∀ a, (![0, 0, 256 * j.val] : Fin 3 → Nat) a + S1x512x256.size a ≤ S1x512x8192.size a := by
  revert j; decide
theorem inbE (j : Fin 32) (q : Fin 2) : ∀ a, (![256 * j.val, 256 * q.val] : Fin 2 → Nat) a + S256x256.size a ≤ S8192x512.size a := by
  revert j q; decide
theorem inbB (j : Fin 32) (q : Fin 2) : ∀ a, (![8 * j.val, 256 * q.val] : Fin 2 → Nat) a + S8x256.size a ≤ S256x512.size a := by
  revert j q; decide
theorem inbS (k q : Fin 2) : ∀ a, (![k.val, 0, 256 * q.val] : Fin 3 → Nat) a + S1x8x256.size a ≤ S2x8x512.size a := by
  revert k q; decide
theorem inbO (q : Fin 2) : ∀ a, (![0, 256 * q.val] : Fin 2 → Nat) a + S512x256.size a ≤ S512x512.size a := by
  revert q; decide
theorem inbW (h f : Fin 2) : ∀ a, (![256 * h.val, 256 * f.val] : Fin 2 → Nat) a + S256x256.size a ≤ S512x512.size a := by
  revert h f; decide
theorem inbC (h : Fin 2) : ∀ a, (![256 * h.val, 0] : Fin 2 → Nat) a + S256x1.size a ≤ S512x1.size a := by
  revert h; decide
theorem inbL (q : Fin 2) : ∀ a, (![0, 0, 256 * q.val] : Fin 3 → Nat) a + S1x1x256.size a ≤ S1x1x512.size a := by
  revert q; decide

/-- The rectangle of exponentials of block `j`, lanes of unit `q`. -/
abbrev eR (j : Fin 32) (q : Fin 2) : Rect S8192x512 := Rect.unit ![256 * j.val, 256 * q.val] S256x256.size (inbE j q)
/-- The rectangle of maxima of block `j`, lanes of unit `q`. -/
abbrev bR (j : Fin 32) (q : Fin 2) : Rect S256x512 := Rect.unit ![8 * j.val, 256 * q.val] S8x256.size (inbB j q)
/-- The rectangle of final maxima (`k = 0`) and reciprocal sums (`k = 1`), lanes of unit `q`. -/
abbrev sR (k q : Fin 2) : Rect S2x8x512 := Rect.unit ![k.val, 0, 256 * q.val] S1x8x256.size (inbS k q)
/-- The rectangle of the output tile, lanes of unit `q`. -/
abbrev oR (q : Fin 2) : Rect S512x512 := Rect.unit ![0, 256 * q.val] S512x256.size (inbO q)
/-- A quarter of a tile with a leading axis of one. -/
abbrev yR (h q : Fin 2) : Rect S1x512x512 := Rect.unit ![0, 256 * h.val, 256 * q.val] S1x256x256.size (inbQ h q)

/-- Fold `f` of the query tile, lanes of unit `q`. -/
noncomputable def qB (Q : Vec F S1x512x512 .bf16) (f q : Fin 2) : FVec F S256x256 .bf16 :=
  shapeCast S256x256 (View.ld Q (yR f q) : Vec F S1x256x256 .bf16) shapeCasts_S1x256x256_S256x256
/-- Fold `f` of key block `j`. -/
noncomputable def kB (K : Vec F S1x8192x512 .bf16) (j : Fin 32) (f : Fin 2) : FVec F S256x256 .bf16 :=
  shapeCast S256x256 (View.ld K (Rect.unit ![0, 256 * j.val, 256 * f.val] S1x256x256.size (inbK j f)) : Vec F S1x256x256 .bf16) shapeCasts_S1x256x256_S256x256
/-- The value columns of key block `j`. -/
noncomputable def vB (V : Vec F S1x512x8192 .bf16) (j : Fin 32) : FVec F S512x256 .bf16 :=
  shapeCast S512x256 (View.ld V (Rect.unit ![0, 0, 256 * j.val] S1x512x256.size (inbV j)) : Vec F S1x512x256 .bf16) shapeCasts_S1x512x256_S512x256
/-- Codes of fold `f` of the output tile, lanes of unit `q`. -/
noncomputable def cB (C : Vec F S1x512x512 .fp8e4m3) (f q : Fin 2) : FVec F S256x256 .bf16 :=
  extf .bf16 (shapeCast S256x256 (View.ld C (yR f q) : Vec F S1x256x256 .fp8e4m3) shapeCasts_S1x256x256_S256x256 : FVec F S256x256 .fp8e4m3) bitsLt_fp8e4m3_bf16
/-- Half `h`, fold `f` of the projection weight. -/
noncomputable def wB (W : Vec F S512x512 .fp8e4m3) (h f : Fin 2) : FVec F S256x256 .bf16 :=
  extf .bf16 (shapeCast S256x256 (View.ld W (Rect.unit ![256 * h.val, 256 * f.val] S256x256.size (inbW h f)) : Vec F S256x256 .fp8e4m3) shapeCasts_S256x256_S256x256 : FVec F S256x256 .fp8e4m3) bitsLt_fp8e4m3_bf16

/-- The scores of key block `j` as unit `q` computes them: two folds. -/
noncomputable def sc (Q : Vec F S1x512x512 .bf16) (K : Vec F S1x8192x512 .bf16) (j : Fin 32) (q : Fin 2) : FVec F S256x256 .f32 :=
  addf ((sg (qB Q 0 q)).pass (kB K j 0)) ((sg (qB Q 1 q)).pass (kB K j 1))
/-- The probabilities of key block `j`, lanes of unit `q`. -/
noncomputable def pB (E : Vec F S8192x512 .f32) (B : Vec F S256x512 .f32) (S : Vec F S2x8x512 .f32) (j : Fin 32) (q : Fin 2) : FVec F S256x256 .bf16 :=
  pT (View.ld B (bR j q)) (View.ld S (sR 0 q)) (View.ld S (sR 1 q)) (View.ld E (eR j q))
/-- The projection of half `h`, lanes of unit `q`. -/
noncomputable def pj (C : Vec F S1x512x512 .fp8e4m3) (W : Vec F S512x512 .fp8e4m3) (h q : Fin 2) : FVec F S256x256 .f32 :=
  addf ((sg (cB C 0 q)).pass (wB W h 0)) ((sg (cB C 1 q)).pass (wB W h 1))

/-- What the key blocks of a tile leave so far: exponentials, maxima, running maximum and sum, attention output. -/
@[ext] structure BS (F : FTy → Type) where
  f12 : Vec F S8192x512 .f32
  f13 : Vec F S256x512 .f32
  m : Fin 2 → FVec F S8x256 .f32
  l : Fin 2 → FVec F S8x256 .f32
  O : Fin 2 → Option (FVec F (STile 512) .f32)

/-- A key block of the scores. -/
noncomputable def stepS (Q : Vec F S1x512x512 .bf16) (K : Vec F S1x8192x512 .bf16) (j : Fin 32) (a : BS F) : BS F where
  f12 := (eR j 1).overlay ((eR j 0).overlay a.f12 (scE (a.m 0) (sc Q K j 0))) (scE (a.m 1) (sc Q K j 1))
  f13 := (bR j 1).overlay ((bR j 0).overlay a.f13 (scB (a.m 0) (sc Q K j 0))) (scB (a.m 1) (sc Q K j 1))
  m q := scM (a.m q) (sc Q K j q)
  l q := scL (a.m q) (a.l q) (sc Q K j q)
  O := a.O
/-- A key block of the values. -/
noncomputable def stepV (V : Vec F S1x512x8192 .bf16) (S : Vec F S2x8x512 .f32) (j : Fin 32) (a : BS F) : BS F :=
  { a with O := fun q => some (dep (a.O q) ((sg (pB a.f12 a.f13 S j q)).pass (vB V j))) }
/-- A key block of both: the values first, of what the tile before stored. -/
noncomputable def stepSV (Q : Vec F S1x512x512 .bf16) (K : Vec F S1x8192x512 .bf16) (V : Vec F S1x512x8192 .bf16) (S : Vec F S2x8x512 .f32) (j : Fin 32) (a : BS F) : BS F :=
  stepS Q K j (stepV V S j a)

/-- The first `n` blocks. -/
noncomputable def runB (step : Fin 32 → BS F → BS F) (a : BS F) : Nat → BS F
  | 0 => a
  | n + 1 => if h : n < 32 then step ⟨n, h⟩ (runB step a n) else runB step a n

theorem runB_succ (step : Fin 32 → BS F → BS F) (a : BS F) (j : Fin 32) : runB step a (j.val + 1) = step j (runB step a j.val) := by
  rw [runB, dif_pos j.isLt]

/-- Before the first block. -/
noncomputable def bs0 (E : Vec F S8192x512 .f32) (B : Vec F S256x512 .f32) : BS F :=
  ⟨E, B, fun _ => broadcast S8x256 (Scalar.ofBits .f32 0xFF800000#32), fun _ => broadcast S8x256 (Scalar.ofBits .f32 0x00000000#32), fun _ => none⟩

/-- The statistics stored after the last block. -/
noncomputable def statF (S : Vec F S2x8x512 .f32) (a : BS F) : Vec F S2x8x512 .f32 :=
  (sR 1 1).overlay ((sR 0 1).overlay ((sR 1 0).overlay ((sR 0 0).overlay S (stM (a.m 0))) (stL (a.m 0) (a.l 0))) (stM (a.m 1))) (stL (a.m 1) (a.l 1))
/-- The output tile stored after the last block. -/
noncomputable def outF (D : Vec F S512x512 .f32) (a : BS F) : Vec F S512x512 .f32 :=
  (oR 1).overlay ((oR 0).overlay D (oP ((a.O 0).getD (fun _ => Scalar.ofBits .f32 0)))) (oP ((a.O 1).getD (fun _ => Scalar.ofBits .f32 0)))

/-- The sixteenth part of the state each reference holds. -/
@[ext] structure Mem (F : FTy → Type) where
  f1 : Vec F S1x512x512 .bf16
  f2 : Vec F S1x8192x512 .bf16
  f3 : Vec F S1x512x8192 .bf16
  f4 : Vec F S1x512x512 .bf16
  f5 : Vec F S512x512 .fp8e4m3
  f6 : Vec F S512x1 .f32
  f7 : Vec F S512x1 .f32
  f8 : Vec F S1x512x512 .bf16
  f9 : Vec F S1x512x512 .bf16
  f10 : Vec F S1x512x512 .fp8e4m3
  f11 : Vec F S1x1x512 .f32
  f12 : Vec F S8192x512 .f32
  f13 : Vec F S256x512 .f32
  f14 : Vec F S2x8x512 .f32
  f15 : Vec F S512x512 .f32

namespace Mem
/-- The exponentials and maxima replaced. -/
abbrev up (x : Mem F) (a : BS F) : Mem F := { x with f12 := a.f12, f13 := a.f13 }
/-- The output tile quantised. -/
noncomputable abbrev quant (x : Mem F) : Mem F :=
  { x with
    f10 := (Rect.unit (s := S1x512x512) ![0, 0, 0] S1x512x512.size inb_S1x512x512_S1x512x512_0_0_0).overlay x.f10 (qCodes (View.ld x.f15 (Rect.unit (s := S512x512) ![0, 0] S512x512.size inb_S512x512_S512x512_0_0)))
    f11 := (Rect.unit (s := S1x1x512) ![0, 0, 0] S1x1x512.size inb_S1x1x512_S1x1x512_0_0_0).overlay x.f11 (qScale (View.ld x.f15 (Rect.unit (s := S512x512) ![0, 0] S512x512.size inb_S512x512_S512x512_0_0))) }
/-- What the projection of half `h`, lanes of unit `q`, stores. -/
noncomputable abbrev pv (x : Mem F) (h q : Fin 2) : FVec F S1x256x256 .bf16 :=
  prV (pj x.f10 x.f5 h q) (View.ld x.f11 (Rect.unit ![0, 0, 256 * q.val] S1x1x256.size (inbL q))) (View.ld x.f6 (Rect.unit ![256 * h.val, 0] S256x1.size (inbC h))) (View.ld x.f7 (Rect.unit ![256 * h.val, 0] S256x1.size (inbC h)))
/-- What it stores with the residual added. -/
noncomputable abbrev pr (x : Mem F) (h q : Fin 2) : FVec F S1x256x256 .bf16 :=
  prR (pj x.f10 x.f5 h q) (View.ld x.f11 (Rect.unit ![0, 0, 256 * q.val] S1x1x256.size (inbL q))) (View.ld x.f6 (Rect.unit ![256 * h.val, 0] S256x1.size (inbC h))) (View.ld x.f7 (Rect.unit ![256 * h.val, 0] S256x1.size (inbC h)))
    (View.ld x.f4 (yR h q))
/-- Half `h` of the projection, lanes of unit `q`, stored. -/
noncomputable abbrev proj1 (x : Mem F) (h q : Fin 2) : Mem F :=
  { x with f8 := (yR h q).overlay x.f8 (x.pr h q), f9 := (yR h q).overlay x.f9 (x.pv h q) }
/-- Half `h` of the projection stored. -/
noncomputable abbrev proj (x : Mem F) (h : Fin 2) : Mem F := (x.proj1 h 0).proj1 h 1
end Mem

end Cert.Attn.Body

end
-- ==== Proof.AttnBitsPieces.lean ====
/- What each piece of the attention kernel does to the state: the memory references and the two matrix units. -/
module

public import proofs.«01_k».proof.Proof.AttnBitsFun

@[expose] public section

set_option maxRecDepth 16384
set_option pp.maxSteps 300

noncomputable section

namespace Cert.Attn.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Attn Facts₀ Facts
open Cert.MxuAbs Mxu Cert.Hoare

variable {F : FTy → Type} [FloatOps F] [Facts]
variable (arg1 : Memref sig .tc .vmem S1x512x512 .bf16) (harg1 : arg1.IsWhole)
variable (arg2 : Memref sig .tc .vmem S1x8192x512 .bf16) (harg2 : arg2.IsWhole)
variable (arg3 : Memref sig .tc .vmem S1x512x8192 .bf16) (harg3 : arg3.IsWhole)
variable (arg4 : Memref sig .tc .vmem S1x512x512 .bf16) (harg4 : arg4.IsWhole)
variable (arg5 : Memref sig .tc .vmem S512x512 .fp8e4m3) (harg5 : arg5.IsWhole)
variable (arg6 : Memref sig .tc .vmem S512x1 .f32) (harg6 : arg6.IsWhole)
variable (arg7 : Memref sig .tc .vmem S512x1 .f32) (harg7 : arg7.IsWhole)
variable (arg8 : Memref sig .tc .vmem S1x512x512 .bf16) (harg8 : arg8.IsWhole)
variable (arg9 : Memref sig .tc .vmem S1x512x512 .bf16) (harg9 : arg9.IsWhole)
variable (arg10 : Memref sig .tc .vmem S1x512x512 .fp8e4m3) (harg10 : arg10.IsWhole)
variable (arg11 : Memref sig .tc .vmem S1x1x512 .f32) (harg11 : arg11.IsWhole)
variable (arg12 : Memref sig .tc .vmem S8192x512 .f32) (harg12 : arg12.IsWhole)
variable (arg13 : Memref sig .tc .vmem S256x512 .f32) (harg13 : arg13.IsWhole)
variable (arg14 : Memref sig .tc .vmem S2x8x512 .f32) (harg14 : arg14.IsWhole)
variable (arg15 : Memref sig .tc .vmem S512x512 .f32) (harg15 : arg15.IsWhole)
variable (c : Dev nD) (R : sProp (MM nD τ sig F))

/-- The references hold the state. -/
def St (x : Mem F) : sProp (MM nD τ sig F) :=
  iprop(owns (c : Thread nD τ) arg1 fullShare x.f1 ∗ owns (c : Thread nD τ) arg2 fullShare x.f2 ∗ owns (c : Thread nD τ) arg3 fullShare x.f3 ∗ owns (c : Thread nD τ) arg4 fullShare x.f4 ∗ owns (c : Thread nD τ) arg5 fullShare x.f5 ∗ owns (c : Thread nD τ) arg6 fullShare x.f6 ∗ owns (c : Thread nD τ) arg7 fullShare x.f7 ∗ owns (c : Thread nD τ) arg8 fullShare x.f8 ∗ owns (c : Thread nD τ) arg9 fullShare x.f9 ∗ owns (c : Thread nD τ) arg10 fullShare x.f10 ∗ owns (c : Thread nD τ) arg11 fullShare x.f11 ∗ owns (c : Thread nD τ) arg12 fullShare x.f12 ∗ owns (c : Thread nD τ) arg13 fullShare x.f13 ∗ owns (c : Thread nD τ) arg14 fullShare x.f14 ∗ owns (c : Thread nD τ) arg15 fullShare x.f15 ∗ R)

theorem fld1 : Field (τ := τ) (St arg1 arg2 arg3 arg4 arg5 arg6 arg7 arg8 arg9 arg10 arg11 arg12 arg13 arg14 arg15 c R) c arg1 Mem.f1 (fun x X => { x with f1 := X }) where
  out x := by
    unfold St
    iintro ⟨H1, H2, H3, H4, H5, H6, H7, H8, H9, H10, H11, H12, H13, H14, H15, HR⟩
    isplitl [H1]; · iexact H1
    iintro %X H1
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld2 : Field (τ := τ) (St arg1 arg2 arg3 arg4 arg5 arg6 arg7 arg8 arg9 arg10 arg11 arg12 arg13 arg14 arg15 c R) c arg2 Mem.f2 (fun x X => { x with f2 := X }) where
  out x := by
    unfold St
    iintro ⟨H1, H2, H3, H4, H5, H6, H7, H8, H9, H10, H11, H12, H13, H14, H15, HR⟩
    isplitl [H2]; · iexact H2
    iintro %X H2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld3 : Field (τ := τ) (St arg1 arg2 arg3 arg4 arg5 arg6 arg7 arg8 arg9 arg10 arg11 arg12 arg13 arg14 arg15 c R) c arg3 Mem.f3 (fun x X => { x with f3 := X }) where
  out x := by
    unfold St
    iintro ⟨H1, H2, H3, H4, H5, H6, H7, H8, H9, H10, H11, H12, H13, H14, H15, HR⟩
    isplitl [H3]; · iexact H3
    iintro %X H3
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld4 : Field (τ := τ) (St arg1 arg2 arg3 arg4 arg5 arg6 arg7 arg8 arg9 arg10 arg11 arg12 arg13 arg14 arg15 c R) c arg4 Mem.f4 (fun x X => { x with f4 := X }) where
  out x := by
    unfold St
    iintro ⟨H1, H2, H3, H4, H5, H6, H7, H8, H9, H10, H11, H12, H13, H14, H15, HR⟩
    isplitl [H4]; · iexact H4
    iintro %X H4
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld5 : Field (τ := τ) (St arg1 arg2 arg3 arg4 arg5 arg6 arg7 arg8 arg9 arg10 arg11 arg12 arg13 arg14 arg15 c R) c arg5 Mem.f5 (fun x X => { x with f5 := X }) where
  out x := by
    unfold St
    iintro ⟨H1, H2, H3, H4, H5, H6, H7, H8, H9, H10, H11, H12, H13, H14, H15, HR⟩
    isplitl [H5]; · iexact H5
    iintro %X H5
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld6 : Field (τ := τ) (St arg1 arg2 arg3 arg4 arg5 arg6 arg7 arg8 arg9 arg10 arg11 arg12 arg13 arg14 arg15 c R) c arg6 Mem.f6 (fun x X => { x with f6 := X }) where
  out x := by
    unfold St
    iintro ⟨H1, H2, H3, H4, H5, H6, H7, H8, H9, H10, H11, H12, H13, H14, H15, HR⟩
    isplitl [H6]; · iexact H6
    iintro %X H6
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld7 : Field (τ := τ) (St arg1 arg2 arg3 arg4 arg5 arg6 arg7 arg8 arg9 arg10 arg11 arg12 arg13 arg14 arg15 c R) c arg7 Mem.f7 (fun x X => { x with f7 := X }) where
  out x := by
    unfold St
    iintro ⟨H1, H2, H3, H4, H5, H6, H7, H8, H9, H10, H11, H12, H13, H14, H15, HR⟩
    isplitl [H7]; · iexact H7
    iintro %X H7
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld8 : Field (τ := τ) (St arg1 arg2 arg3 arg4 arg5 arg6 arg7 arg8 arg9 arg10 arg11 arg12 arg13 arg14 arg15 c R) c arg8 Mem.f8 (fun x X => { x with f8 := X }) where
  out x := by
    unfold St
    iintro ⟨H1, H2, H3, H4, H5, H6, H7, H8, H9, H10, H11, H12, H13, H14, H15, HR⟩
    isplitl [H8]; · iexact H8
    iintro %X H8
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld9 : Field (τ := τ) (St arg1 arg2 arg3 arg4 arg5 arg6 arg7 arg8 arg9 arg10 arg11 arg12 arg13 arg14 arg15 c R) c arg9 Mem.f9 (fun x X => { x with f9 := X }) where
  out x := by
    unfold St
    iintro ⟨H1, H2, H3, H4, H5, H6, H7, H8, H9, H10, H11, H12, H13, H14, H15, HR⟩
    isplitl [H9]; · iexact H9
    iintro %X H9
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld10 : Field (τ := τ) (St arg1 arg2 arg3 arg4 arg5 arg6 arg7 arg8 arg9 arg10 arg11 arg12 arg13 arg14 arg15 c R) c arg10 Mem.f10 (fun x X => { x with f10 := X }) where
  out x := by
    unfold St
    iintro ⟨H1, H2, H3, H4, H5, H6, H7, H8, H9, H10, H11, H12, H13, H14, H15, HR⟩
    isplitl [H10]; · iexact H10
    iintro %X H10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld11 : Field (τ := τ) (St arg1 arg2 arg3 arg4 arg5 arg6 arg7 arg8 arg9 arg10 arg11 arg12 arg13 arg14 arg15 c R) c arg11 Mem.f11 (fun x X => { x with f11 := X }) where
  out x := by
    unfold St
    iintro ⟨H1, H2, H3, H4, H5, H6, H7, H8, H9, H10, H11, H12, H13, H14, H15, HR⟩
    isplitl [H11]; · iexact H11
    iintro %X H11
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld12 : Field (τ := τ) (St arg1 arg2 arg3 arg4 arg5 arg6 arg7 arg8 arg9 arg10 arg11 arg12 arg13 arg14 arg15 c R) c arg12 Mem.f12 (fun x X => { x with f12 := X }) where
  out x := by
    unfold St
    iintro ⟨H1, H2, H3, H4, H5, H6, H7, H8, H9, H10, H11, H12, H13, H14, H15, HR⟩
    isplitl [H12]; · iexact H12
    iintro %X H12
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld13 : Field (τ := τ) (St arg1 arg2 arg3 arg4 arg5 arg6 arg7 arg8 arg9 arg10 arg11 arg12 arg13 arg14 arg15 c R) c arg13 Mem.f13 (fun x X => { x with f13 := X }) where
  out x := by
    unfold St
    iintro ⟨H1, H2, H3, H4, H5, H6, H7, H8, H9, H10, H11, H12, H13, H14, H15, HR⟩
    isplitl [H13]; · iexact H13
    iintro %X H13
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld14 : Field (τ := τ) (St arg1 arg2 arg3 arg4 arg5 arg6 arg7 arg8 arg9 arg10 arg11 arg12 arg13 arg14 arg15 c R) c arg14 Mem.f14 (fun x X => { x with f14 := X }) where
  out x := by
    unfold St
    iintro ⟨H1, H2, H3, H4, H5, H6, H7, H8, H9, H10, H11, H12, H13, H14, H15, HR⟩
    isplitl [H14]; · iexact H14
    iintro %X H14
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

theorem fld15 : Field (τ := τ) (St arg1 arg2 arg3 arg4 arg5 arg6 arg7 arg8 arg9 arg10 arg11 arg12 arg13 arg14 arg15 c R) c arg15 Mem.f15 (fun x X => { x with f15 := X }) where
  out x := by
    unfold St
    iintro ⟨H1, H2, H3, H4, H5, H6, H7, H8, H9, H10, H11, H12, H13, H14, H15, HR⟩
    isplitl [H15]; · iexact H15
    iintro %X H15
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  self _ := rfl

variable (defs : Defs nD τ sig (Elt F) Λ₀)

/-- Programs run from a state of the references. -/
abbrev TT {α : Type} (p : Prog (TpuEff nD τ sig (Elt F) Λ₀ .tc) α) (x : Mem F) (Q : α → Mem F → Prop) : Prop :=
  T defs c (St arg1 arg2 arg3 arg4 arg5 arg6 arg7 arg8 arg9 arg10 arg11 arg12 arg13 arg14 arg15 c R) p x Q

variable {arg1 arg2 arg3 arg4 arg5 arg6 arg7 arg8 arg9 arg10 arg11 arg12 arg13 arg14 arg15 c R defs}

theorem accK_spec (b : Bool) (o : Fin 3 → Nat) (ho : ∀ a, o a + S1x256x256.size a ≤ S1x8192x512.size a) {s : Mxu F} {m : MA F} {x : Mem F}
    (j : Fin 32) (f : Fin 2) (e : o = ![0, 256 * j.val, 256 * f.val]) (H : Abs s m) :
    TT arg1 arg2 arg3 arg4 arg5 arg6 arg7 arg8 arg9 arg10 arg11 arg12 arg13 arg14 arg15 c R defs (accK arg2 (adr b) (fitsA b) o ho s) x
      (fun s' y => y = x ∧ Abs s' ((m.accH 0 0 b (kB x.f2 j f)).accH 1 0 b (kB x.f2 j f))) := by
  subst e
  unfold accK
  refine T_bind (T_load (fld2 arg1 arg2 arg3 arg4 arg5 arg6 arg7 arg8 arg9 arg10 arg11 arg12 arg13 arg14 arg15 c R)) ?_
  rintro _ _ ⟨rfl, rfl⟩
  refine T_bind (T_load (fld2 arg1 arg2 arg3 arg4 arg5 arg6 arg7 arg8 arg9 arg10 arg11 arg12 arg13 arg14 arg15 c R)) ?_
  rintro _ _ ⟨rfl, rfl⟩
  exact T_pure _ ⟨rfl, (H.accH 0 0 b _ _).accH 1 0 b _ _⟩

theorem pushQ_spec (o : Fin 3 → Nat) (ho : ∀ a, o a + S1x256x256.size a ≤ S1x512x512.size a) (p : Fin 3 → Nat) (hp : ∀ a, p a + S1x256x256.size a ≤ S1x512x512.size a)
    {s : Mxu F} {m : MA F} {x : Mem F}
    (f : Fin 2) (e : o = ![0, 256 * f.val, 0]) (e' : p = ![0, 256 * f.val, 256]) (H : Abs s m) (h0 : m.reg 0 0 = none) (h1 : m.reg 1 0 = none) :
    TT arg1 arg2 arg3 arg4 arg5 arg6 arg7 arg8 arg9 arg10 arg11 arg12 arg13 arg14 arg15 c R defs (pushQ arg1 o ho p hp s) x
      (fun s' y => y = x ∧ Abs s' ((m.push 0 0 (qB x.f1 f 0)).push 1 0 (qB x.f1 f 1))) := by
  subst e e'
  unfold pushQ
  refine T_bind (T_load (fld1 arg1 arg2 arg3 arg4 arg5 arg6 arg7 arg8 arg9 arg10 arg11 arg12 arg13 arg14 arg15 c R)) ?_
  rintro v y ⟨rfl, ey⟩; subst y
  refine T_bind (T_push _ (by rw [H.reg, h0]) ⟨rfl, H.push 0 0 _ h0⟩ (Q := fun s' y => y = x ∧ Abs s' (m.push 0 0 (qB x.f1 f 0)))) ?_
  rintro s' y ⟨ey, H'⟩; subst y
  refine T_bind (T_load (fld1 arg1 arg2 arg3 arg4 arg5 arg6 arg7 arg8 arg9 arg10 arg11 arg12 arg13 arg14 arg15 c R)) ?_
  rintro v y ⟨rfl, ey⟩; subst y
  refine T_bind (T_push _ (by rw [H'.reg]; simp [MA.push, h1]) ⟨rfl, H'.push 1 0 _ (by simp [MA.push, h1])⟩ (Q := fun s' y' => y' = x ∧ Abs s' ((m.push 0 0 (qB x.f1 f 0)).push 1 0 (qB x.f1 f 1)))) ?_
  rintro s' y ⟨ey, H''⟩; subst y
  exact T_pure _ ⟨rfl, H''⟩

theorem valP_spec (q : Fin 2) (ob : Fin 2 → Nat) (hob : ∀ a, ob a + S8x256.size a ≤ S256x512.size a) (oa : Fin 3 → Nat) (hoa : ∀ a, oa a + S1x8x256.size a ≤ S2x8x512.size a) (ol : Fin 3 → Nat) (hol : ∀ a, ol a + S1x8x256.size a ≤ S2x8x512.size a)
    (oe : Fin 2 → Nat) (hoe : ∀ a, oe a + S256x256.size a ≤ S8192x512.size a) {s : Mxu F} {m : MA F} {x : Mem F}
    (j : Fin 32) (eb : ob = ![8 * j.val, 256 * q.val]) (ea : oa = ![0, 0, 256 * q.val]) (el : ol = ![1, 0, 256 * q.val]) (ee : oe = ![256 * j.val, 256 * q.val])
    (H : Abs s m) (h1 : m.reg q 1 = none) :
    TT arg1 arg2 arg3 arg4 arg5 arg6 arg7 arg8 arg9 arg10 arg11 arg12 arg13 arg14 arg15 c R defs (valP arg12 arg13 arg14 q ob hob oa hoa ol hol oe hoe s) x
      (fun s' y => y = x ∧ Abs s' (m.push q 1 (pB x.f12 x.f13 x.f14 j q))) := by
  subst eb ea el ee
  unfold valP
  refine T_bind (T_load (fld13 arg1 arg2 arg3 arg4 arg5 arg6 arg7 arg8 arg9 arg10 arg11 arg12 arg13 arg14 arg15 c R)) ?_
  rintro _ _ ⟨rfl, rfl⟩
  refine T_bind (T_load (fld14 arg1 arg2 arg3 arg4 arg5 arg6 arg7 arg8 arg9 arg10 arg11 arg12 arg13 arg14 arg15 c R)) ?_
  rintro _ _ ⟨rfl, rfl⟩
  refine T_bind (T_load (fld14 arg1 arg2 arg3 arg4 arg5 arg6 arg7 arg8 arg9 arg10 arg11 arg12 arg13 arg14 arg15 c R)) ?_
  rintro _ _ ⟨rfl, rfl⟩
  refine T_bind (T_load (fld12 arg1 arg2 arg3 arg4 arg5 arg6 arg7 arg8 arg9 arg10 arg11 arg12 arg13 arg14 arg15 c R)) ?_
  rintro _ y ⟨rfl, rfl⟩
  refine T_bind (T_push _ (by rw [H.reg, h1]) ⟨rfl, H.push q 1 _ h1⟩ (Q := fun s' y' => y' = y ∧ Abs s' (m.push q 1 (pB y.f12 y.f13 y.f14 j q)))) ?_
  rintro s' _ ⟨rfl, H'⟩
  exact T_pure _ ⟨rfl, H'⟩

theorem accV_spec (o : Fin 3 → Nat) (ho : ∀ a, o a + S1x512x256.size a ≤ S1x512x8192.size a) {s : Mxu F} {m : MA F} {x : Mem F}
    (j : Fin 32) (e : o = ![0, 0, 256 * j.val]) (H : Abs s m) :
    TT arg1 arg2 arg3 arg4 arg5 arg6 arg7 arg8 arg9 arg10 arg11 arg12 arg13 arg14 arg15 c R defs (accV arg3 o ho s) x
      (fun s' y => y = x ∧ Abs s' ((m.accO 0 1 (vB x.f3 j)).accO 1 1 (vB x.f3 j))) := by
  subst e
  unfold accV
  refine T_bind (T_load (fld3 arg1 arg2 arg3 arg4 arg5 arg6 arg7 arg8 arg9 arg10 arg11 arg12 arg13 arg14 arg15 c R)) ?_
  rintro _ _ ⟨rfl, rfl⟩
  refine T_bind (T_load (fld3 arg1 arg2 arg3 arg4 arg5 arg6 arg7 arg8 arg9 arg10 arg11 arg12 arg13 arg14 arg15 c R)) ?_
  rintro _ _ ⟨rfl, rfl⟩
  exact T_pure _ ⟨rfl, (H.accO 0 1 _ _).accO 1 1 _ _⟩

theorem scF_spec (q : Fin 2) (b : Bool) (ob : Fin 2 → Nat) (hob : ∀ a, ob a + S8x256.size a ≤ S256x512.size a) (oe : Fin 2 → Nat) (hoe : ∀ a, oe a + S256x256.size a ≤ S8192x512.size a)
    (mm ll : FVec F S8x256 .f32) {s : Mxu F} {m : MA F} {x : Mem F} (j : Fin 32) (eb : ob = ![8 * j.val, 256 * q.val]) (ee : oe = ![256 * j.val, 256 * q.val])
    (H : Abs s m) {v : FVec F S256x256 .f32} (hv : m.h q b = some v) :
    TT arg1 arg2 arg3 arg4 arg5 arg6 arg7 arg8 arg9 arg10 arg11 arg12 arg13 arg14 arg15 c R defs (scF arg12 arg13 q (adr b) (fitsA b) ob hob oe hoe mm ll s) x
      (fun r y => y = { x with f12 := (eR j q).overlay x.f12 (scE mm v), f13 := (bR j q).overlay x.f13 (scB mm v) }
        ∧ r.1 = scM mm v ∧ r.2.1 = scL mm ll v ∧ Abs r.2.2 (m.popH q b)) := by
  subst eb ee
  obtain rfl := H.read_h q b hv (fitsA b)
  unfold scF
  refine T_bind (T_load (fld12 arg1 arg2 arg3 arg4 arg5 arg6 arg7 arg8 arg9 arg10 arg11 arg12 arg13 arg14 arg15 c R)) ?_
  rintro _ _ ⟨rfl, rfl⟩
  refine T_bind (T_store (fld12 arg1 arg2 arg3 arg4 arg5 arg6 arg7 arg8 arg9 arg10 arg11 arg12 arg13 arg14 arg15 c R)) ?_
  rintro _ _ rfl
  refine T_bind (T_load (fld13 arg1 arg2 arg3 arg4 arg5 arg6 arg7 arg8 arg9 arg10 arg11 arg12 arg13 arg14 arg15 c R)) ?_
  rintro _ _ ⟨rfl, rfl⟩
  refine T_bind (T_store (fld13 arg1 arg2 arg3 arg4 arg5 arg6 arg7 arg8 arg9 arg10 arg11 arg12 arg13 arg14 arg15 c R)) ?_
  rintro _ _ rfl
  show T _ _ _ (pure (scM mm (s.read q (adr b) (fitsA b)), scL mm ll (s.read q (adr b) (fitsA b)), s.pop q (adr b) 256 (fitsA b))) _ _
  refine T_pure _ ?_
  exact ⟨rfl, rfl, rfl, H.popH q b (fitsA b)⟩

theorem quantO_spec {x : Mem F} :
    TT arg1 arg2 arg3 arg4 arg5 arg6 arg7 arg8 arg9 arg10 arg11 arg12 arg13 arg14 arg15 c R defs (quantO arg10 harg10 arg11 arg15) x (fun _ y => y = x.quant) := by
  unfold quantO
  refine T_bind (T_load (fld15 arg1 arg2 arg3 arg4 arg5 arg6 arg7 arg8 arg9 arg10 arg11 arg12 arg13 arg14 arg15 c R)) ?_
  rintro _ _ ⟨rfl, rfl⟩
  refine T_bind (T_load (fld10 arg1 arg2 arg3 arg4 arg5 arg6 arg7 arg8 arg9 arg10 arg11 arg12 arg13 arg14 arg15 c R)) ?_
  rintro _ _ ⟨rfl, rfl⟩
  refine T_bind (T_store (fld10 arg1 arg2 arg3 arg4 arg5 arg6 arg7 arg8 arg9 arg10 arg11 arg12 arg13 arg14 arg15 c R)) ?_
  rintro _ _ rfl
  refine T_bind (T_load (fld11 arg1 arg2 arg3 arg4 arg5 arg6 arg7 arg8 arg9 arg10 arg11 arg12 arg13 arg14 arg15 c R)) ?_
  rintro _ _ ⟨rfl, rfl⟩
  refine T_bind (T_store (fld11 arg1 arg2 arg3 arg4 arg5 arg6 arg7 arg8 arg9 arg10 arg11 arg12 arg13 arg14 arg15 c R)) ?_
  rintro _ _ rfl
  exact T_pure _ rfl

theorem popO_spec (q : Fin 2) (o : Fin 2 → Nat) (ho : ∀ a, o a + S512x256.size a ≤ S512x512.size a) {s : Mxu F} {m : MA F} {x : Mem F}
    (e : o = ![0, 256 * q.val]) (H : Abs s m) {v : FVec F S512x256 .f32} (hv : m.o q = some v) :
    TT arg1 arg2 arg3 arg4 arg5 arg6 arg7 arg8 arg9 arg10 arg11 arg12 arg13 arg14 arg15 c R defs (popO arg15 q o ho s) x (fun s' y => y = { x with f15 := (oR q).overlay x.f15 (oP v) } ∧ Abs s' (m.popO q)) := by
  subst e
  obtain rfl := H.read_o q hv fits_0_512
  unfold popO
  refine T_bind (T_load (fld15 arg1 arg2 arg3 arg4 arg5 arg6 arg7 arg8 arg9 arg10 arg11 arg12 arg13 arg14 arg15 c R)) ?_
  rintro _ _ ⟨rfl, rfl⟩
  refine T_bind (T_store (fld15 arg1 arg2 arg3 arg4 arg5 arg6 arg7 arg8 arg9 arg10 arg11 arg12 arg13 arg14 arg15 c R)) ?_
  rintro _ _ rfl
  exact T_pure _ ⟨rfl, H.popO q _⟩

set_option maxHeartbeats 4000000 in
theorem stat_spec (q : Fin 2) (oa : Fin 3 → Nat) (hoa : ∀ a, oa a + S1x8x256.size a ≤ S2x8x512.size a) (ol : Fin 3 → Nat) (hol : ∀ a, ol a + S1x8x256.size a ≤ S2x8x512.size a)
    (mm ll : FVec F S8x256 .f32) {x : Mem F} (ea : oa = ![0, 0, 256 * q.val]) (el : ol = ![1, 0, 256 * q.val]) :
    TT arg1 arg2 arg3 arg4 arg5 arg6 arg7 arg8 arg9 arg10 arg11 arg12 arg13 arg14 arg15 c R defs (stat arg14 oa hoa ol hol mm ll) x
      (fun _ y => y = { x with f14 := (sR 1 q).overlay ((sR 0 q).overlay x.f14 (stM mm)) (stL mm ll) }) := by
  subst ea el
  unfold stat
  refine T_bind (T_load (fld14 arg1 arg2 arg3 arg4 arg5 arg6 arg7 arg8 arg9 arg10 arg11 arg12 arg13 arg14 arg15 c R)) ?_
  rintro _ _ ⟨rfl, rfl⟩
  refine T_bind (T_store (fld14 arg1 arg2 arg3 arg4 arg5 arg6 arg7 arg8 arg9 arg10 arg11 arg12 arg13 arg14 arg15 c R)) ?_
  rintro _ _ rfl
  refine T_bind (T_load (fld14 arg1 arg2 arg3 arg4 arg5 arg6 arg7 arg8 arg9 arg10 arg11 arg12 arg13 arg14 arg15 c R)) ?_
  rintro _ _ ⟨rfl, rfl⟩
  refine T_bind (T_store (fld14 arg1 arg2 arg3 arg4 arg5 arg6 arg7 arg8 arg9 arg10 arg11 arg12 arg13 arg14 arg15 c R)) ?_
  rintro _ _ rfl
  exact T_pure _ rfl

set_option maxHeartbeats 4000000 in
theorem projF_spec (q h : Fin 2) (b : Bool) (os : Fin 3 → Nat) (hos : ∀ a, os a + S1x1x256.size a ≤ S1x1x512.size a) (ow : Fin 2 → Nat) (how : ∀ a, ow a + S256x1.size a ≤ S512x1.size a)
    (o : Fin 3 → Nat) (ho : ∀ a, o a + S1x256x256.size a ≤ S1x512x512.size a)
    (pk : (Rect.unit (s := S1x512x512) o S1x256x256.size ho).PackedRows (EltTy.packing .bf16)) {s : Mxu F} {m : MA F} {x : Mem F}
    (es : os = ![0, 0, 256 * q.val]) (ew : ow = ![256 * h.val, 0]) (e : o = ![0, 256 * h.val, 256 * q.val])
    (H : Abs s m) (hv : m.h q b = some (pj x.f10 x.f5 h q)) :
    TT arg1 arg2 arg3 arg4 arg5 arg6 arg7 arg8 arg9 arg10 arg11 arg12 arg13 arg14 arg15 c R defs (projF arg4 arg6 arg7 arg8 harg8 arg9 harg9 arg11 q (adr b) (fitsA b) os hos ow how o ho pk s) x
      (fun s' y => y = x.proj1 h q ∧ Abs s' (m.popH q b)) := by
  subst es ew e
  have hr := H.read_h q b hv (fitsA b)
  unfold projF
  rw [hr]
  refine T_bind (T_load (fld11 arg1 arg2 arg3 arg4 arg5 arg6 arg7 arg8 arg9 arg10 arg11 arg12 arg13 arg14 arg15 c R)) ?_
  rintro _ _ ⟨rfl, rfl⟩
  refine T_bind (T_load (fld6 arg1 arg2 arg3 arg4 arg5 arg6 arg7 arg8 arg9 arg10 arg11 arg12 arg13 arg14 arg15 c R)) ?_
  rintro _ _ ⟨rfl, rfl⟩
  refine T_bind (T_load (fld7 arg1 arg2 arg3 arg4 arg5 arg6 arg7 arg8 arg9 arg10 arg11 arg12 arg13 arg14 arg15 c R)) ?_
  rintro _ _ ⟨rfl, rfl⟩
  refine T_bind (T_load (fld9 arg1 arg2 arg3 arg4 arg5 arg6 arg7 arg8 arg9 arg10 arg11 arg12 arg13 arg14 arg15 c R)) ?_
  rintro _ _ ⟨rfl, rfl⟩
  refine T_bind (T_store (fld9 arg1 arg2 arg3 arg4 arg5 arg6 arg7 arg8 arg9 arg10 arg11 arg12 arg13 arg14 arg15 c R)) ?_
  rintro _ _ rfl
  refine T_bind (T_load (fld4 arg1 arg2 arg3 arg4 arg5 arg6 arg7 arg8 arg9 arg10 arg11 arg12 arg13 arg14 arg15 c R)) ?_
  rintro _ _ ⟨rfl, rfl⟩
  refine T_bind (T_load (fld8 arg1 arg2 arg3 arg4 arg5 arg6 arg7 arg8 arg9 arg10 arg11 arg12 arg13 arg14 arg15 c R)) ?_
  rintro _ _ ⟨rfl, rfl⟩
  refine T_bind (T_store (fld8 arg1 arg2 arg3 arg4 arg5 arg6 arg7 arg8 arg9 arg10 arg11 arg12 arg13 arg14 arg15 c R)) ?_
  rintro _ _ rfl
  exact T_pure _ ⟨rfl, H.popH q b _⟩

theorem projAcc_spec (b : Bool) (o : Fin 2 → Nat) (ho : ∀ a, o a + S256x256.size a ≤ S512x512.size a) (p : Fin 2 → Nat) (hp : ∀ a, p a + S256x256.size a ≤ S512x512.size a)
    {s : Mxu F} {m : MA F} {x : Mem F} (h : Fin 2) (eo : o = ![256 * h.val, 0]) (ep : p = ![256 * h.val, 256]) (H : Abs s m)
    (h0 : ∀ q, m.reg q 1 = none) (hh : ∀ q, m.h q b = none) :
    TT arg1 arg2 arg3 arg4 arg5 arg6 arg7 arg8 arg9 arg10 arg11 arg12 arg13 arg14 arg15 c R defs (projAcc arg5 arg10 (adr b) (fitsA b) o ho p hp s) x
      (fun s' y => y = x ∧ Abs s' { m with h := fun q b' => if b' = b then some (pj x.f10 x.f5 h q) else m.h q b' }) := by
  subst eo ep
  unfold projAcc
  refine T_bind (T_load (fld10 arg1 arg2 arg3 arg4 arg5 arg6 arg7 arg8 arg9 arg10 arg11 arg12 arg13 arg14 arg15 c R)) ?_
  rintro v y ⟨rfl, ey⟩; subst y
  refine T_bind (T_push _ (by rw [H.reg, h0]) ⟨rfl, H.push 0 1 _ (h0 0)⟩ (Q := fun s' y' => y' = x ∧ Abs s' (m.push 0 1 (cB x.f10 0 0)))) ?_
  rintro s1 y ⟨ey, H1⟩; subst y
  refine T_bind (T_load (fld10 arg1 arg2 arg3 arg4 arg5 arg6 arg7 arg8 arg9 arg10 arg11 arg12 arg13 arg14 arg15 c R)) ?_
  rintro v y ⟨rfl, ey⟩; subst y
  refine T_bind (T_push _ (by rw [H1.reg]; simp [MA.push, h0]) ⟨rfl, H1.push 1 1 _ (by simp [MA.push, h0])⟩ (Q := fun s' y' => y' = x ∧ Abs s' ((m.push 0 1 (cB x.f10 0 0)).push 1 1 (cB x.f10 0 1)))) ?_
  rintro s2 y ⟨ey, H2⟩; subst y
  refine T_bind (T_load (fld5 arg1 arg2 arg3 arg4 arg5 arg6 arg7 arg8 arg9 arg10 arg11 arg12 arg13 arg14 arg15 c R)) ?_
  rintro v y ⟨rfl, ey⟩; subst y
  refine T_bind (T_load (fld5 arg1 arg2 arg3 arg4 arg5 arg6 arg7 arg8 arg9 arg10 arg11 arg12 arg13 arg14 arg15 c R)) ?_
  rintro v y ⟨rfl, ey⟩; subst y
  have H3 := (H2.accH 0 1 b (wB x.f5 h 0) (fitsA b)).accH 1 1 b (wB x.f5 h 0) (fitsA b)
  refine T_bind (T_load (fld10 arg1 arg2 arg3 arg4 arg5 arg6 arg7 arg8 arg9 arg10 arg11 arg12 arg13 arg14 arg15 c R)) ?_
  rintro v y ⟨rfl, ey⟩; subst y
  refine T_bind (T_push _ (by refine (H3.reg 0 1).trans ?_; simp [MA.push, MA.accH]) ⟨rfl, H3.push 0 1 _ (by simp [MA.push, MA.accH])⟩ (Q := fun s' y' => y' = x ∧ Abs s' ((((m.push 0 1 (cB x.f10 0 0)).push 1 1 (cB x.f10 0 1)).accH 0 1 b (wB x.f5 h 0)).accH 1 1 b (wB x.f5 h 0) |>.push 0 1 (cB x.f10 1 0)))) ?_
  rintro s4 y ⟨ey, H4⟩; subst y
  refine T_bind (T_load (fld10 arg1 arg2 arg3 arg4 arg5 arg6 arg7 arg8 arg9 arg10 arg11 arg12 arg13 arg14 arg15 c R)) ?_
  rintro v y ⟨rfl, ey⟩; subst y
  refine T_bind (T_push _ (by rw [H4.reg]; simp [MA.push, MA.accH]) ⟨rfl, H4.push 1 1 _ (by simp [MA.push, MA.accH])⟩ (Q := fun s' y' => y' = x ∧ Abs s' ((((m.push 0 1 (cB x.f10 0 0)).push 1 1 (cB x.f10 0 1)).accH 0 1 b (wB x.f5 h 0)).accH 1 1 b (wB x.f5 h 0) |>.push 0 1 (cB x.f10 1 0) |>.push 1 1 (cB x.f10 1 1)))) ?_
  rintro s5 y ⟨ey, H5⟩; subst y
  refine T_bind (T_load (fld5 arg1 arg2 arg3 arg4 arg5 arg6 arg7 arg8 arg9 arg10 arg11 arg12 arg13 arg14 arg15 c R)) ?_
  rintro v y ⟨rfl, ey⟩; subst y
  refine T_bind (T_load (fld5 arg1 arg2 arg3 arg4 arg5 arg6 arg7 arg8 arg9 arg10 arg11 arg12 arg13 arg14 arg15 c R)) ?_
  rintro v y ⟨rfl, ey⟩; subst y
  have H6 := (H5.accH 0 1 b (wB x.f5 h 1) (fitsA b)).accH 1 1 b (wB x.f5 h 1) (fitsA b)
  refine T_pure _ ⟨rfl, ?_⟩
  have e : ((((((((m.push 0 1 (cB x.f10 0 0)).push 1 1 (cB x.f10 0 1)).accH 0 1 b (wB x.f5 h 0)).accH 1 1 b (wB x.f5 h 0)).push 0 1 (cB x.f10 1 0)).push 1 1 (cB x.f10 1 1)).accH 0 1 b (wB x.f5 h 1)).accH 1 1 b (wB x.f5 h 1))
      = { m with h := fun q b' => if b' = b then some (pj x.f10 x.f5 h q) else m.h q b' } := by
    refine MA.ext ?_ rfl ?_
    · funext q r
      fin_cases q <;> fin_cases r <;> simp [MA.push, MA.accH, h0]
    · funext q b'
      by_cases hb : b' = b
      · subst hb
        fin_cases q <;> simp [MA.push, MA.accH, hh, dep, stg, pj]
      · fin_cases q <;> simp [MA.push, MA.accH, hb]
  rw [← e]
  exact H6

end Cert.Attn.Body

end
-- ==== Proof.AttnBitsBlocks.lean ====
/- The key blocks of the attention kernel, its loops and its five branches, as functions of the state. -/
module

public import proofs.«01_k».proof.Proof.AttnBitsPieces

@[expose] public section

set_option maxRecDepth 16384
set_option pp.maxSteps 300

noncomputable section

namespace Cert.Attn.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Attn Facts₀ Facts
open Cert.MxuAbs Mxu Cert.Hoare

variable {F : FTy → Type} [FloatOps F] [Facts]
variable {arg1 : Memref sig .tc .vmem S1x512x512 .bf16} (harg1 : arg1.IsWhole)
variable {arg2 : Memref sig .tc .vmem S1x8192x512 .bf16} (harg2 : arg2.IsWhole)
variable {arg3 : Memref sig .tc .vmem S1x512x8192 .bf16} (harg3 : arg3.IsWhole)
variable {arg4 : Memref sig .tc .vmem S1x512x512 .bf16} (harg4 : arg4.IsWhole)
variable {arg5 : Memref sig .tc .vmem S512x512 .fp8e4m3} (harg5 : arg5.IsWhole)
variable {arg6 : Memref sig .tc .vmem S512x1 .f32} (harg6 : arg6.IsWhole)
variable {arg7 : Memref sig .tc .vmem S512x1 .f32} (harg7 : arg7.IsWhole)
variable {arg8 : Memref sig .tc .vmem S1x512x512 .bf16} (harg8 : arg8.IsWhole)
variable {arg9 : Memref sig .tc .vmem S1x512x512 .bf16} (harg9 : arg9.IsWhole)
variable {arg10 : Memref sig .tc .vmem S1x512x512 .fp8e4m3} (harg10 : arg10.IsWhole)
variable {arg11 : Memref sig .tc .vmem S1x1x512 .f32} (harg11 : arg11.IsWhole)
variable {arg12 : Memref sig .tc .vmem S8192x512 .f32} (harg12 : arg12.IsWhole)
variable {arg13 : Memref sig .tc .vmem S256x512 .f32} (harg13 : arg13.IsWhole)
variable {arg14 : Memref sig .tc .vmem S2x8x512 .f32} (harg14 : arg14.IsWhole)
variable {arg15 : Memref sig .tc .vmem S512x512 .f32} (harg15 : arg15.IsWhole)
variable {c : Dev nD} {R : sProp (MM nD τ sig F)} {defs : Defs nD τ sig (Elt F) Λ₀}

/-- The units with query tiles in register 0 and `O` in the large accumulators. -/
def ma (Rg : Fin 2 → Option (Staged F)) (O : Fin 2 → Option (FVec F (STile 512) .f32)) : MA F :=
  ⟨fun q r => if r = 0 then Rg q else none, O, fun _ _ => none⟩
/-- The same with the scores `S` in the small accumulators `b`. -/
def mh (b : Bool) (S : Fin 2 → FVec F (STile 256) .f32) (Rg : Fin 2 → Option (Staged F)) (O : Fin 2 → Option (FVec F (STile 512) .f32)) : MA F :=
  ⟨fun q r => if r = 0 then Rg q else none, O, fun q b' => if b' = b then some (S q) else none⟩
/-- Fold `f` of the query tile staged. -/
def stQ (Q : Vec F S1x512x512 .bf16) (f : Fin 2) : Fin 2 → Option (Staged F) := fun q => some (sg (qB Q f q))
/-- Nothing staged. -/
def st0 : Fin 2 → Option (Staged F) := fun _ => none

theorem ma_scores (b : Bool) (Q : Vec F S1x512x512 .bf16) (K0 K1 : FVec F S256x256 .bf16) (O : Fin 2 → Option (FVec F (STile 512) .f32)) :
    ((((((ma (stQ Q 0) O).accH 0 0 b K0).accH 1 0 b K0).push 0 0 (qB Q 1 0)).push 1 0 (qB Q 1 1)).accH 0 0 b K1).accH 1 0 b K1
      = mh b (fun q => addf ((sg (qB Q 0 q)).pass K0) ((sg (qB Q 1 q)).pass K1)) st0 O := by
  refine MA.ext ?_ rfl ?_
  · funext q r
    fin_cases q <;> fin_cases r <;> simp [ma, mh, MA.push, MA.accH, st0]
  · funext q b'
    by_cases hb : b' = b
    · subst hb
      fin_cases q <;> simp [ma, mh, MA.push, MA.accH, stQ, dep, stg]
    · fin_cases q <;> simp [ma, mh, MA.push, MA.accH, hb]

theorem mh_values (b : Bool) (S : Fin 2 → FVec F (STile 256) .f32) (Rg : Fin 2 → Option (Staged F)) (O : Fin 2 → Option (FVec F (STile 512) .f32))
    (p : Fin 2 → FVec F S256x256 .bf16) (V : FVec F S512x256 .bf16) :
    ((((mh b S Rg O).push 0 1 (p 0)).push 1 1 (p 1)).accO 0 1 V).accO 1 1 V
      = mh b S Rg (fun q => some (dep (O q) ((sg (p q)).pass V))) := by
  refine MA.ext ?_ ?_ rfl
  · funext q r
    fin_cases q <;> fin_cases r <;> simp [mh, MA.push, MA.accO]
  · funext q
    fin_cases q <;> simp [mh, MA.push, MA.accO, stg]

theorem ma_values (Rg : Fin 2 → Option (Staged F)) (O : Fin 2 → Option (FVec F (STile 512) .f32))
    (p : Fin 2 → FVec F S256x256 .bf16) (V : FVec F S512x256 .bf16) :
    ((((ma Rg O).push 0 1 (p 0)).push 1 1 (p 1)).accO 0 1 V).accO 1 1 V
      = ma Rg (fun q => some (dep (O q) ((sg (p q)).pass V))) := by
  refine MA.ext ?_ ?_ rfl
  · funext q r
    fin_cases q <;> fin_cases r <;> simp [ma, MA.push, MA.accO]
  · funext q
    fin_cases q <;> simp [ma, MA.push, MA.accO, stg]

theorem mh_push (b : Bool) (S : Fin 2 → FVec F (STile 256) .f32) (Q : Vec F S1x512x512 .bf16) (f : Fin 2) (O : Fin 2 → Option (FVec F (STile 512) .f32)) :
    ((mh b S st0 O).push 0 0 (qB Q f 0)).push 1 0 (qB Q f 1) = mh b S (stQ Q f) O := by
  refine MA.ext ?_ rfl rfl
  funext q r
  fin_cases q <;> fin_cases r <;> simp [mh, MA.push, stQ]

theorem ma_push (Q : Vec F S1x512x512 .bf16) (f : Fin 2) (O : Fin 2 → Option (FVec F (STile 512) .f32)) :
    ((ma st0 O).push 0 0 (qB Q f 0)).push 1 0 (qB Q f 1) = ma (stQ Q f) O := by
  refine MA.ext ?_ rfl rfl
  funext q r
  fin_cases q <;> fin_cases r <;> simp [ma, MA.push, stQ]

theorem mh_pop (b : Bool) (S : Fin 2 → FVec F (STile 256) .f32) (Rg : Fin 2 → Option (Staged F)) (O : Fin 2 → Option (FVec F (STile 512) .f32)) :
    ((mh b S Rg O).popH 0 b).popH 1 b = ma Rg O := by
  refine MA.ext rfl rfl ?_
  funext q b'
  by_cases hb : b' = b
  · subst hb; fin_cases q <;> simp [ma, mh, MA.popH]
  · fin_cases q <;> simp [ma, mh, MA.popH, hb]

theorem ma_popO (O : Fin 2 → Option (FVec F (STile 512) .f32)) : ((ma st0 O).popO 0).popO 1 = MA.empty := by
  refine MA.ext ?_ ?_ rfl
  · funext q r; simp [ma, MA.popO, MA.empty, st0]
  · funext q; fin_cases q <;> simp [ma, MA.popO, MA.empty]

theorem ma_empty : (ma st0 (fun _ => none) : MA F) = MA.empty := by
  refine MA.ext ?_ rfl rfl
  funext q r; simp [ma, MA.empty, st0]

/-- What a block hands on: running maxima and sums of both units, and the units. -/
abbrev R5 (F : FTy → Type) [FloatOps F] : Type := FVec F S8x256 .f32 × FVec F S8x256 .f32 × FVec F S8x256 .f32 × FVec F S8x256 .f32 × Mxu F

/-- Between two blocks: the state is `x` with what `a` says of the blocks so far. -/
structure At (x : Mem F) (a : BS F) (Rg : Fin 2 → Option (Staged F)) (r : R5 F) (y : Mem F) : Prop where
  y : y = x.up a
  m0 : r.1 = a.m 0
  l0 : r.2.1 = a.l 0
  m1 : r.2.2.1 = a.m 1
  l1 : r.2.2.2.1 = a.l 1
  s : Abs r.2.2.2.2 (ma Rg a.O)

/-- The offsets of the scores of block `j`. -/
structure OffS (j : Fin 32) (kt0 kt1 : Fin 3 → Nat) (b0 e0 b1 e1 : Fin 2 → Nat) : Prop where
  k0 : kt0 = ![0, 256 * j.val, 256 * (0 : Fin 2).val]
  k1 : kt1 = ![0, 256 * j.val, 256 * (1 : Fin 2).val]
  b0 : b0 = ![8 * j.val, 256 * (0 : Fin 2).val]
  e0 : e0 = ![256 * j.val, 256 * (0 : Fin 2).val]
  b1 : b1 = ![8 * j.val, 256 * (1 : Fin 2).val]
  e1 : e1 = ![256 * j.val, 256 * (1 : Fin 2).val]

/-- The offsets of the values of block `j`. -/
structure OffV (j : Fin 32) (b0 e0 b1 e1 : Fin 2 → Nat) (v : Fin 3 → Nat) : Prop where
  b0 : b0 = ![8 * j.val, 256 * (0 : Fin 2).val]
  e0 : e0 = ![256 * j.val, 256 * (0 : Fin 2).val]
  b1 : b1 = ![8 * j.val, 256 * (1 : Fin 2).val]
  e1 : e1 = ![256 * j.val, 256 * (1 : Fin 2).val]
  v : v = ![0, 0, 256 * j.val]

set_option maxHeartbeats 4000000 in
theorem blkSV_spec (b : Bool) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (v : Fin 3 → Nat) (hv : ∀ a, v a + S1x512x256.size a ≤ S1x512x8192.size a)
    (m0 l0 m1 l1 : FVec F S8x256 .f32) (s : Mxu F) {x y : Mem F} {a : BS F} (j : Fin 32) (ho : OffS j kt0 kt1 b0 e0 b1 e1) (hw : OffV j b0 e0 b1 e1 v)
    (h : At x a (stQ x.f1 0) (m0, l0, m1, l1, s) y) :
    TT arg1 arg2 arg3 arg4 arg5 arg6 arg7 arg8 arg9 arg10 arg11 arg12 arg13 arg14 arg15 c R defs (blkSV arg1 arg2 arg3 arg12 arg13 arg14 (adr b) (fitsA b) kt0 hkt0 kt1 hkt1 b0 hb0 e0 he0 b1 hb1 e1 he1 v hv m0 l0 m1 l1 s) y
      (At x (stepSV x.f1 x.f2 x.f3 x.f14 j a) (stQ x.f1 0)) := by
  obtain ⟨ey, h1, h2, h3, h4, H⟩ := h
  subst y
  dsimp only at h1 h2 h3 h4 H
  subst h1 h2 h3 h4
  unfold blkSV
  refine T_bind (accK_spec b _ _ j 0 ho.k0 H) ?_
  rintro s1 y ⟨ey, H1⟩; subst y
  refine T_bind (pushQ_spec _ _ _ _ 1 rfl rfl H1 (by simp [MA.accH]) (by simp [MA.accH])) ?_
  rintro s2 y ⟨ey, H2⟩; subst y
  refine T_bind (accK_spec b _ _ j 1 ho.k1 H2) ?_
  rintro s3 y ⟨ey, H3⟩; subst y
  have H3 : Abs s3 (mh b (sc x.f1 x.f2 j) st0 a.O) := by
    rw [show sc x.f1 x.f2 j = (fun q => addf ((sg (qB x.f1 0 q)).pass (kB x.f2 j 0)) ((sg (qB x.f1 1 q)).pass (kB x.f2 j 1))) from rfl, ← ma_scores]
    exact H3
  refine T_bind (valP_spec 0 _ _ _ _ _ _ _ _ j hw.b0 rfl rfl hw.e0 H3 (by simp [mh])) ?_
  rintro s4 y ⟨ey, H4⟩; subst y
  refine T_bind (valP_spec 1 _ _ _ _ _ _ _ _ j hw.b1 rfl rfl hw.e1 H4 (by simp [mh, MA.push])) ?_
  rintro s5 y ⟨ey, H5⟩; subst y
  refine T_bind (accV_spec _ _ j hw.v H5) ?_
  rintro s6 y ⟨ey, H6⟩; subst y
  have H6 : Abs s6 (mh b (sc x.f1 x.f2 j) st0 (stepV x.f3 x.f14 j a).O) := by
    rw [show (stepV x.f3 x.f14 j a).O = (fun q => some (dep (a.O q) ((sg (pB a.f12 a.f13 x.f14 j q)).pass (vB x.f3 j)))) from rfl,
      ← mh_values b _ _ _ (fun q => pB a.f12 a.f13 x.f14 j q)]
    exact H6
  refine T_bind (pushQ_spec _ _ _ _ 0 rfl rfl H6 (by simp [mh, st0]) (by simp [mh, st0])) ?_
  rintro s7 y ⟨ey, H7⟩; subst y
  have H7 : Abs s7 (mh b (sc x.f1 x.f2 j) (stQ x.f1 0) (stepV x.f3 x.f14 j a).O) := by
    rw [← mh_push]; exact H7
  refine T_bind (scF_spec 0 b _ _ _ _ _ _ j ho.b0 ho.e0 H7 (v := sc x.f1 x.f2 j 0) (by simp [mh])) ?_
  rintro ⟨m0', l0', s8⟩ y ⟨ey, h1, h2, H8⟩; subst y
  dsimp only at h1 h2 H8
  subst h1 h2
  refine T_bind (scF_spec 1 b _ _ _ _ _ _ j ho.b1 ho.e1 H8 (v := sc x.f1 x.f2 j 1) (by simp [mh, MA.popH])) ?_
  rintro ⟨m1', l1', s9⟩ y ⟨ey, h1, h2, H9⟩; subst y
  dsimp only at h1 h2 H9
  subst h1 h2
  rw [mh_pop] at H9
  exact T_pure _ ⟨rfl, rfl, rfl, rfl, rfl, H9⟩

set_option maxHeartbeats 4000000 in
theorem blkSVL_spec (b : Bool) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (v : Fin 3 → Nat) (hv : ∀ a, v a + S1x512x256.size a ≤ S1x512x8192.size a)
    (m0 l0 m1 l1 : FVec F S8x256 .f32) (s : Mxu F) {x y : Mem F} {a : BS F} (j : Fin 32) (ho : OffS j kt0 kt1 b0 e0 b1 e1) (hw : OffV j b0 e0 b1 e1 v)
    (h : At x a (stQ x.f1 0) (m0, l0, m1, l1, s) y) :
    TT arg1 arg2 arg3 arg4 arg5 arg6 arg7 arg8 arg9 arg10 arg11 arg12 arg13 arg14 arg15 c R defs (blkSVL arg1 arg2 arg3 arg12 arg13 arg14 (adr b) (fitsA b) kt0 hkt0 kt1 hkt1 b0 hb0 e0 he0 b1 hb1 e1 he1 v hv m0 l0 m1 l1 s) y
      (At x (stepSV x.f1 x.f2 x.f3 x.f14 j a) st0) := by
  obtain ⟨ey, h1, h2, h3, h4, H⟩ := h
  subst y
  dsimp only at h1 h2 h3 h4 H
  subst h1 h2 h3 h4
  unfold blkSVL
  refine T_bind (accK_spec b _ _ j 0 ho.k0 H) ?_
  rintro s1 y ⟨ey, H1⟩; subst y
  refine T_bind (pushQ_spec _ _ _ _ 1 rfl rfl H1 (by simp [MA.accH]) (by simp [MA.accH])) ?_
  rintro s2 y ⟨ey, H2⟩; subst y
  refine T_bind (accK_spec b _ _ j 1 ho.k1 H2) ?_
  rintro s3 y ⟨ey, H3⟩; subst y
  have H3 : Abs s3 (mh b (sc x.f1 x.f2 j) st0 a.O) := by
    rw [show sc x.f1 x.f2 j = (fun q => addf ((sg (qB x.f1 0 q)).pass (kB x.f2 j 0)) ((sg (qB x.f1 1 q)).pass (kB x.f2 j 1))) from rfl, ← ma_scores]
    exact H3
  refine T_bind (valP_spec 0 _ _ _ _ _ _ _ _ j hw.b0 rfl rfl hw.e0 H3 (by simp [mh])) ?_
  rintro s4 y ⟨ey, H4⟩; subst y
  refine T_bind (valP_spec 1 _ _ _ _ _ _ _ _ j hw.b1 rfl rfl hw.e1 H4 (by simp [mh, MA.push])) ?_
  rintro s5 y ⟨ey, H5⟩; subst y
  refine T_bind (accV_spec _ _ j hw.v H5) ?_
  rintro s6 y ⟨ey, H6⟩; subst y
  have H6 : Abs s6 (mh b (sc x.f1 x.f2 j) st0 (stepV x.f3 x.f14 j a).O) := by
    rw [show (stepV x.f3 x.f14 j a).O = (fun q => some (dep (a.O q) ((sg (pB a.f12 a.f13 x.f14 j q)).pass (vB x.f3 j)))) from rfl,
      ← mh_values b _ _ _ (fun q => pB a.f12 a.f13 x.f14 j q)]
    exact H6
  have H7 := H6
  refine T_bind (scF_spec 0 b _ _ _ _ _ _ j ho.b0 ho.e0 H7 (v := sc x.f1 x.f2 j 0) (by simp [mh])) ?_
  rintro ⟨m0', l0', s8⟩ y ⟨ey, h1, h2, H8⟩; subst y
  dsimp only at h1 h2 H8
  subst h1 h2
  refine T_bind (scF_spec 1 b _ _ _ _ _ _ j ho.b1 ho.e1 H8 (v := sc x.f1 x.f2 j 1) (by simp [mh, MA.popH])) ?_
  rintro ⟨m1', l1', s9⟩ y ⟨ey, h1, h2, H9⟩; subst y
  dsimp only at h1 h2 H9
  subst h1 h2
  rw [mh_pop] at H9
  exact T_pure _ ⟨rfl, rfl, rfl, rfl, rfl, H9⟩

set_option maxHeartbeats 4000000 in
theorem blkS_spec (b : Bool) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (m0 l0 m1 l1 : FVec F S8x256 .f32) (s : Mxu F) {x y : Mem F} {a : BS F} (j : Fin 32) (ho : OffS j kt0 kt1 b0 e0 b1 e1)
    (h : At x a (stQ x.f1 0) (m0, l0, m1, l1, s) y) :
    TT arg1 arg2 arg3 arg4 arg5 arg6 arg7 arg8 arg9 arg10 arg11 arg12 arg13 arg14 arg15 c R defs (blkS arg1 arg2 arg12 arg13 (adr b) (fitsA b) kt0 hkt0 kt1 hkt1 b0 hb0 e0 he0 b1 hb1 e1 he1 m0 l0 m1 l1 s) y
      (At x (stepS x.f1 x.f2 j a) (stQ x.f1 0)) := by
  obtain ⟨ey, h1, h2, h3, h4, H⟩ := h
  subst y
  dsimp only at h1 h2 h3 h4 H
  subst h1 h2 h3 h4
  unfold blkS
  refine T_bind (accK_spec b _ _ j 0 ho.k0 H) ?_
  rintro s1 y ⟨ey, H1⟩; subst y
  refine T_bind (pushQ_spec _ _ _ _ 1 rfl rfl H1 (by simp [MA.accH]) (by simp [MA.accH])) ?_
  rintro s2 y ⟨ey, H2⟩; subst y
  refine T_bind (accK_spec b _ _ j 1 ho.k1 H2) ?_
  rintro s3 y ⟨ey, H3⟩; subst y
  have H3 : Abs s3 (mh b (sc x.f1 x.f2 j) st0 a.O) := by
    rw [show sc x.f1 x.f2 j = (fun q => addf ((sg (qB x.f1 0 q)).pass (kB x.f2 j 0)) ((sg (qB x.f1 1 q)).pass (kB x.f2 j 1))) from rfl, ← ma_scores]
    exact H3
  have H6 := H3
  refine T_bind (pushQ_spec _ _ _ _ 0 rfl rfl H6 (by simp [mh, st0]) (by simp [mh, st0])) ?_
  rintro s7 y ⟨ey, H7⟩; subst y
  have H7 : Abs s7 (mh b (sc x.f1 x.f2 j) (stQ x.f1 0) a.O) := by
    rw [← mh_push]; exact H7
  refine T_bind (scF_spec 0 b _ _ _ _ _ _ j ho.b0 ho.e0 H7 (v := sc x.f1 x.f2 j 0) (by simp [mh])) ?_
  rintro ⟨m0', l0', s8⟩ y ⟨ey, h1, h2, H8⟩; subst y
  dsimp only at h1 h2 H8
  subst h1 h2
  refine T_bind (scF_spec 1 b _ _ _ _ _ _ j ho.b1 ho.e1 H8 (v := sc x.f1 x.f2 j 1) (by simp [mh, MA.popH])) ?_
  rintro ⟨m1', l1', s9⟩ y ⟨ey, h1, h2, H9⟩; subst y
  dsimp only at h1 h2 H9
  subst h1 h2
  rw [mh_pop] at H9
  exact T_pure _ ⟨rfl, rfl, rfl, rfl, rfl, H9⟩

set_option maxHeartbeats 4000000 in
theorem blkSL_spec (b : Bool) (kt0 : Fin 3 → Nat) (hkt0 : ∀ a, kt0 a + S1x256x256.size a ≤ S1x8192x512.size a) (kt1 : Fin 3 → Nat) (hkt1 : ∀ a, kt1 a + S1x256x256.size a ≤ S1x8192x512.size a)
    (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (m0 l0 m1 l1 : FVec F S8x256 .f32) (s : Mxu F) {x y : Mem F} {a : BS F} (j : Fin 32) (ho : OffS j kt0 kt1 b0 e0 b1 e1)
    (h : At x a (stQ x.f1 0) (m0, l0, m1, l1, s) y) :
    TT arg1 arg2 arg3 arg4 arg5 arg6 arg7 arg8 arg9 arg10 arg11 arg12 arg13 arg14 arg15 c R defs (blkSL arg1 arg2 arg12 arg13 (adr b) (fitsA b) kt0 hkt0 kt1 hkt1 b0 hb0 e0 he0 b1 hb1 e1 he1 m0 l0 m1 l1 s) y
      (At x (stepS x.f1 x.f2 j a) st0) := by
  obtain ⟨ey, h1, h2, h3, h4, H⟩ := h
  subst y
  dsimp only at h1 h2 h3 h4 H
  subst h1 h2 h3 h4
  unfold blkSL
  refine T_bind (accK_spec b _ _ j 0 ho.k0 H) ?_
  rintro s1 y ⟨ey, H1⟩; subst y
  refine T_bind (pushQ_spec _ _ _ _ 1 rfl rfl H1 (by simp [MA.accH]) (by simp [MA.accH])) ?_
  rintro s2 y ⟨ey, H2⟩; subst y
  refine T_bind (accK_spec b _ _ j 1 ho.k1 H2) ?_
  rintro s3 y ⟨ey, H3⟩; subst y
  have H3 : Abs s3 (mh b (sc x.f1 x.f2 j) st0 a.O) := by
    rw [show sc x.f1 x.f2 j = (fun q => addf ((sg (qB x.f1 0 q)).pass (kB x.f2 j 0)) ((sg (qB x.f1 1 q)).pass (kB x.f2 j 1))) from rfl, ← ma_scores]
    exact H3
  have H6 := H3
  have H7 := H6
  refine T_bind (scF_spec 0 b _ _ _ _ _ _ j ho.b0 ho.e0 H7 (v := sc x.f1 x.f2 j 0) (by simp [mh])) ?_
  rintro ⟨m0', l0', s8⟩ y ⟨ey, h1, h2, H8⟩; subst y
  dsimp only at h1 h2 H8
  subst h1 h2
  refine T_bind (scF_spec 1 b _ _ _ _ _ _ j ho.b1 ho.e1 H8 (v := sc x.f1 x.f2 j 1) (by simp [mh, MA.popH])) ?_
  rintro ⟨m1', l1', s9⟩ y ⟨ey, h1, h2, H9⟩; subst y
  dsimp only at h1 h2 H9
  subst h1 h2
  rw [mh_pop] at H9
  exact T_pure _ ⟨rfl, rfl, rfl, rfl, rfl, H9⟩

theorem blkV_spec (b0 : Fin 2 → Nat) (hb0 : ∀ a, b0 a + S8x256.size a ≤ S256x512.size a) (e0 : Fin 2 → Nat) (he0 : ∀ a, e0 a + S256x256.size a ≤ S8192x512.size a)
    (b1 : Fin 2 → Nat) (hb1 : ∀ a, b1 a + S8x256.size a ≤ S256x512.size a) (e1 : Fin 2 → Nat) (he1 : ∀ a, e1 a + S256x256.size a ≤ S8192x512.size a)
    (v : Fin 3 → Nat) (hv : ∀ a, v a + S1x512x256.size a ≤ S1x512x8192.size a) (s : Mxu F) {x y : Mem F} {a : BS F} (j : Fin 32) (hw : OffV j b0 e0 b1 e1 v) (ey : y = x.up a) (H : Abs s (ma st0 a.O)) :
    TT arg1 arg2 arg3 arg4 arg5 arg6 arg7 arg8 arg9 arg10 arg11 arg12 arg13 arg14 arg15 c R defs (blkV arg3 arg12 arg13 arg14 b0 hb0 e0 he0 b1 hb1 e1 he1 v hv s) y
      (fun s' y => y = x.up (stepV x.f3 x.f14 j a) ∧ Abs s' (ma st0 (stepV x.f3 x.f14 j a).O)) := by
  subst y
  unfold blkV
  refine T_bind (valP_spec 0 _ _ _ _ _ _ _ _ j hw.b0 rfl rfl hw.e0 H (by simp [ma])) ?_
  rintro s4 y ⟨ey, H4⟩; subst y
  refine T_bind (valP_spec 1 _ _ _ _ _ _ _ _ j hw.b1 rfl rfl hw.e1 H4 (by simp [ma, MA.push])) ?_
  rintro s5 y ⟨ey, H5⟩; subst y
  refine T_mono (accV_spec _ _ j hw.v H5) ?_
  rintro s6 y ⟨ey, H6⟩; subst y
  refine ⟨rfl, ?_⟩
  rw [show (stepV x.f3 x.f14 j a).O = (fun q => some (dep (a.O q) ((sg (pB a.f12 a.f13 x.f14 j q)).pass (vB x.f3 j)))) from rfl,
    ← ma_values _ _ (fun q => pB a.f12 a.f13 x.f14 j q)]
  exact H6

theorem ma_proj (b : Bool) (S : Fin 2 → FVec F (STile 256) .f32) (Rg : Fin 2 → Option (Staged F)) (O : Fin 2 → Option (FVec F (STile 512) .f32)) :
    ({ (ma Rg O) with h := fun q b' => if b' = b then some (S q) else (ma Rg O).h q b' } : MA F) = mh b S Rg O := rfl

theorem proj0_spec {Rg : Fin 2 → Option (Staged F)} {O : Fin 2 → Option (FVec F (STile 512) .f32)} {s : Mxu F} {x : Mem F}
    (H : Abs s (ma Rg O)) :
    TT arg1 arg2 arg3 arg4 arg5 arg6 arg7 arg8 arg9 arg10 arg11 arg12 arg13 arg14 arg15 c R defs (proj0 arg4 arg5 arg6 arg7 arg8 harg8 arg9 harg9 arg10 arg11 s) x (fun s' y => y = x.proj 0 ∧ Abs s' (ma Rg O)) := by
  unfold proj0
  refine T_bind (projAcc_spec true _ _ _ _ 0 rfl rfl H (fun q => by simp [ma]) (fun q => by simp [ma])) ?_
  rintro s1 y ⟨ey, H1⟩; subst y
  have H1 : Abs s1 (mh true (fun q => pj x.f10 x.f5 0 q) Rg O) := H1
  refine T_bind (projF_spec harg8 harg9 0 0 true _ _ _ _ _ _ _ rfl rfl rfl H1 (by simp [mh])) ?_
  rintro s2 y ⟨ey, H2⟩; subst y
  refine T_mono (projF_spec harg8 harg9 1 0 true _ _ _ _ _ _ _ rfl rfl rfl H2 (by simp [mh, MA.popH])) ?_
  rintro s3 y ⟨ey, H3⟩; subst y
  rw [mh_pop] at H3
  exact ⟨rfl, H3⟩

theorem proj1_spec {Rg : Fin 2 → Option (Staged F)} {O : Fin 2 → Option (FVec F (STile 512) .f32)} {s : Mxu F} {x : Mem F}
    (H : Abs s (ma Rg O)) :
    TT arg1 arg2 arg3 arg4 arg5 arg6 arg7 arg8 arg9 arg10 arg11 arg12 arg13 arg14 arg15 c R defs (proj1 arg4 arg5 arg6 arg7 arg8 harg8 arg9 harg9 arg10 arg11 s) x (fun s' y => y = x.proj 1 ∧ Abs s' (ma Rg O)) := by
  unfold proj1
  refine T_bind (projAcc_spec false _ _ _ _ 1 rfl rfl H (fun q => by simp [ma]) (fun q => by simp [ma])) ?_
  rintro s1 y ⟨ey, H1⟩; subst y
  have H1 : Abs s1 (mh false (fun q => pj x.f10 x.f5 1 q) Rg O) := H1
  refine T_bind (projF_spec harg8 harg9 0 1 false _ _ _ _ _ _ _ rfl rfl rfl H1 (by simp [mh])) ?_
  rintro s2 y ⟨ey, H2⟩; subst y
  refine T_mono (projF_spec harg8 harg9 1 1 false _ _ _ _ _ _ _ rfl rfl rfl H2 (by simp [mh, MA.popH])) ?_
  rintro s3 y ⟨ey, H3⟩; subst y
  rw [mh_pop] at H3
  exact ⟨rfl, H3⟩

end Cert.Attn.Body

end
-- ==== Proof.AttnBitsTrips.lean ====
/- The loops and the five branches of the attention kernel, and its body, as functions of the state. -/
module

public import proofs.«01_k».proof.Proof.AttnBitsBlocks

@[expose] public section

set_option maxRecDepth 16384
set_option pp.maxSteps 300

noncomputable section

namespace Cert.Attn.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Attn Facts₀ Facts
open Cert.MxuAbs Mxu Cert.Hoare

variable {F : FTy → Type} [FloatOps F] [Facts]
variable {arg1 : Memref sig .tc .vmem S1x512x512 .bf16} (harg1 : arg1.IsWhole)
variable {arg2 : Memref sig .tc .vmem S1x8192x512 .bf16} (harg2 : arg2.IsWhole)
variable {arg3 : Memref sig .tc .vmem S1x512x8192 .bf16} (harg3 : arg3.IsWhole)
variable {arg4 : Memref sig .tc .vmem S1x512x512 .bf16} (harg4 : arg4.IsWhole)
variable {arg5 : Memref sig .tc .vmem S512x512 .fp8e4m3} (harg5 : arg5.IsWhole)
variable {arg6 : Memref sig .tc .vmem S512x1 .f32} (harg6 : arg6.IsWhole)
variable {arg7 : Memref sig .tc .vmem S512x1 .f32} (harg7 : arg7.IsWhole)
variable {arg8 : Memref sig .tc .vmem S1x512x512 .bf16} (harg8 : arg8.IsWhole)
variable {arg9 : Memref sig .tc .vmem S1x512x512 .bf16} (harg9 : arg9.IsWhole)
variable {arg10 : Memref sig .tc .vmem S1x512x512 .fp8e4m3} (harg10 : arg10.IsWhole)
variable {arg11 : Memref sig .tc .vmem S1x1x512 .f32} (harg11 : arg11.IsWhole)
variable {arg12 : Memref sig .tc .vmem S8192x512 .f32} (harg12 : arg12.IsWhole)
variable {arg13 : Memref sig .tc .vmem S256x512 .f32} (harg13 : arg13.IsWhole)
variable {arg14 : Memref sig .tc .vmem S2x8x512 .f32} (harg14 : arg14.IsWhole)
variable {arg15 : Memref sig .tc .vmem S512x512 .f32} (harg15 : arg15.IsWhole)
variable {c : Dev nD} {R : sProp (MM nD τ sig F)} {defs : Defs nD τ sig (Elt F) Λ₀}

/-- The scores of a tile. -/
def scoresF (x : Mem F) : Mem F :=
  { x.up (runB (stepS x.f1 x.f2) (bs0 x.f12 x.f13) 32) with
    f14 := statF x.f14 (runB (stepS x.f1 x.f2) (bs0 x.f12 x.f13) 32) }
/-- The scores of a tile, and the values of the one before. -/
def svF (x : Mem F) : Mem F :=
  { x.up (runB (stepSV x.f1 x.f2 x.f3 x.f14) (bs0 x.f12 x.f13) 32) with
    f14 := statF x.f14 (runB (stepSV x.f1 x.f2 x.f3 x.f14) (bs0 x.f12 x.f13) 32)
    f15 := outF x.f15 (runB (stepSV x.f1 x.f2 x.f3 x.f14) (bs0 x.f12 x.f13) 32) }
/-- The values of a tile. -/
def vF (x : Mem F) : Mem F :=
  { x.up (runB (stepV x.f3 x.f14) (bs0 x.f12 x.f13) 32) with f15 := outF x.f15 (runB (stepV x.f3 x.f14) (bs0 x.f12 x.f13) 32) }
/-- An output tile quantised and projected. -/
def pF (x : Mem F) : Mem F := (x.quant.proj 0).proj 1

theorem At.next {x : Mem F} {a a' : BS F} {Rg : Fin 2 → Option (Staged F)} {r : R5 F} {y : Mem F}
    (e : a = a') (h : At x a Rg r y) : At x a' Rg r y := e ▸ h

/-- `run k` is the state after `k` blocks. -/
def Runs (step : Fin 32 → BS F → BS F) (run : Nat → BS F) : Prop := ∀ (j : Fin 32) (k k' : Nat), j.val = k → k + 1 = k' → step j (run k) = run k'

theorem runs_runB (step : Fin 32 → BS F → BS F) (a0 : BS F) : Runs step (runB step a0) := by
  rintro j _ _ rfl rfl; exact (runB_succ step a0 j).symm

theorem o3 (t u k : Nat) : (![0, 1024 * t + 256 * u + 1024, k] : Fin 3 → Nat) = ![0, 256 * (4 + 4 * t + u), k] := by
  rw [show 1024 * t + 256 * u + 1024 = 256 * (4 + 4 * t + u) by omega]
theorem o3' (t u : Nat) : (![0, 0, 1024 * t + 256 * u + 1024] : Fin 3 → Nat) = ![0, 0, 256 * (4 + 4 * t + u)] := by
  rw [show 1024 * t + 256 * u + 1024 = 256 * (4 + 4 * t + u) by omega]
theorem o2 (t u k : Nat) : (![1024 * t + 256 * u + 1024, k] : Fin 2 → Nat) = ![256 * (4 + 4 * t + u), k] := by
  rw [show 1024 * t + 256 * u + 1024 = 256 * (4 + 4 * t + u) by omega]
theorem o2' (t u k : Nat) : (![32 * t + 8 * u + 32, k] : Fin 2 → Nat) = ![8 * (4 + 4 * t + u), k] := by
  rw [show 32 * t + 8 * u + 32 = 8 * (4 + 4 * t + u) by omega]

theorem trips1 : k0_t1_loop.trips = 6 := by decide +kernel
theorem trips2 : k0_t2_loop.trips = 6 := by decide +kernel
theorem trips3 : k0_t3_loop.trips = 6 := by decide +kernel
theorem trips4 : k0_t4_loop.trips = 6 := by decide +kernel

set_option maxHeartbeats 4000000 in
theorem trip1_spec (i : grid0.Coords) (hc : k0_cond1 i = 1#1) (t : Fin k0_t1_loop.trips) (r : R5 F) {x y : Mem F} {run : Nat → BS F} (hs : Runs (stepS x.f1 x.f2) run)
    (h : At x (run (4 + 4 * t.val)) (stQ x.f1 0) r y) :
    TT arg1 arg2 arg3 arg4 arg5 arg6 arg7 arg8 arg9 arg10 arg11 arg12 arg13 arg14 arg15 c R defs (trip1 arg1 arg2 arg12 arg13 i hc t r) y (At x (run (4 + 4 * (t.val + 1))) (stQ x.f1 0)) := by
  have ht : t.val < 6 := lt_of_lt_of_eq t.isLt trips1
  obtain ⟨m0, l0, m1, l1, s⟩ := r
  unfold trip1
  refine T_bind (blkS_spec false _ _ _ _ _ _ _ _ _ _ _ _ _ _ _ _ _ ⟨4 + 4 * t.val + 0, by omega⟩ ⟨((Gen.k0_off1_eq t 0).trans (o3 t.val 0 0)), ((Gen.k0_off2_eq t 0).trans (o3 t.val 0 256)), ((Gen.k0_off4_eq t 0).trans (o2' t.val 0 0)), ((Gen.k0_off3_eq t 0).trans (o2 t.val 0 0)), ((Gen.k0_off6_eq t 0).trans (o2' t.val 0 256)), ((Gen.k0_off5_eq t 0).trans (o2 t.val 0 256))⟩ h) ?_
  rintro ⟨m0, l0, m1, l1, s⟩ y h
  replace h := At.next (hs ⟨4 + 4 * t.val + 0, by omega⟩ (4 + 4 * t.val + 0) (4 + 4 * t.val + 1) rfl rfl) h
  refine T_bind (blkS_spec true _ _ _ _ _ _ _ _ _ _ _ _ _ _ _ _ _ ⟨4 + 4 * t.val + 1, by omega⟩ ⟨((Gen.k0_off1_eq t 1).trans (o3 t.val 1 0)), ((Gen.k0_off2_eq t 1).trans (o3 t.val 1 256)), ((Gen.k0_off4_eq t 1).trans (o2' t.val 1 0)), ((Gen.k0_off3_eq t 1).trans (o2 t.val 1 0)), ((Gen.k0_off6_eq t 1).trans (o2' t.val 1 256)), ((Gen.k0_off5_eq t 1).trans (o2 t.val 1 256))⟩ h) ?_
  rintro ⟨m0, l0, m1, l1, s⟩ y h
  replace h := At.next (hs ⟨4 + 4 * t.val + 1, by omega⟩ (4 + 4 * t.val + 1) (4 + 4 * t.val + 2) rfl rfl) h
  refine T_bind (blkS_spec false _ _ _ _ _ _ _ _ _ _ _ _ _ _ _ _ _ ⟨4 + 4 * t.val + 2, by omega⟩ ⟨((Gen.k0_off1_eq t 2).trans (o3 t.val 2 0)), ((Gen.k0_off2_eq t 2).trans (o3 t.val 2 256)), ((Gen.k0_off4_eq t 2).trans (o2' t.val 2 0)), ((Gen.k0_off3_eq t 2).trans (o2 t.val 2 0)), ((Gen.k0_off6_eq t 2).trans (o2' t.val 2 256)), ((Gen.k0_off5_eq t 2).trans (o2 t.val 2 256))⟩ h) ?_
  rintro ⟨m0, l0, m1, l1, s⟩ y h
  replace h := At.next (hs ⟨4 + 4 * t.val + 2, by omega⟩ (4 + 4 * t.val + 2) (4 + 4 * t.val + 3) rfl rfl) h
  refine T_mono (blkS_spec true _ _ _ _ _ _ _ _ _ _ _ _ _ _ _ _ _ ⟨4 + 4 * t.val + 3, by omega⟩ ⟨((Gen.k0_off1_eq t 3).trans (o3 t.val 3 0)), ((Gen.k0_off2_eq t 3).trans (o3 t.val 3 256)), ((Gen.k0_off4_eq t 3).trans (o2' t.val 3 0)), ((Gen.k0_off3_eq t 3).trans (o2 t.val 3 0)), ((Gen.k0_off6_eq t 3).trans (o2' t.val 3 256)), ((Gen.k0_off5_eq t 3).trans (o2 t.val 3 256))⟩ h) ?_
  rintro r y h
  exact At.next (hs ⟨4 + 4 * t.val + 3, by omega⟩ (4 + 4 * t.val + 3) (4 + 4 * t.val + 4) rfl rfl) h

set_option maxHeartbeats 4000000 in
theorem trip2_spec (i : grid0.Coords) (hc : k0_cond2 i = 1#1) (t : Fin k0_t2_loop.trips) (r : R5 F) {x y : Mem F} {run : Nat → BS F} (hs : Runs (stepSV x.f1 x.f2 x.f3 x.f14) run)
    (h : At x (run (4 + 4 * t.val)) (stQ x.f1 0) r y) :
    TT arg1 arg2 arg3 arg4 arg5 arg6 arg7 arg8 arg9 arg10 arg11 arg12 arg13 arg14 arg15 c R defs (trip2 arg1 arg2 arg3 arg12 arg13 arg14 i hc t r) y (At x (run (4 + 4 * (t.val + 1))) (stQ x.f1 0)) := by
  have ht : t.val < 6 := lt_of_lt_of_eq t.isLt trips2
  obtain ⟨m0, l0, m1, l1, s⟩ := r
  unfold trip2
  refine T_bind (blkSV_spec false _ _ _ _ _ _ _ _ _ _ _ _ _ _ _ _ _ _ _ ⟨4 + 4 * t.val + 0, by omega⟩ ⟨((Gen.k0_off7_eq t 0).trans (o3 t.val 0 0)), ((Gen.k0_off8_eq t 0).trans (o3 t.val 0 256)), ((Gen.k0_off9_eq t 0).trans (o2' t.val 0 0)), ((Gen.k0_off10_eq t 0).trans (o2 t.val 0 0)), ((Gen.k0_off11_eq t 0).trans (o2' t.val 0 256)), ((Gen.k0_off12_eq t 0).trans (o2 t.val 0 256))⟩ ⟨((Gen.k0_off9_eq t 0).trans (o2' t.val 0 0)), ((Gen.k0_off10_eq t 0).trans (o2 t.val 0 0)), ((Gen.k0_off11_eq t 0).trans (o2' t.val 0 256)), ((Gen.k0_off12_eq t 0).trans (o2 t.val 0 256)), ((Gen.k0_off13_eq t 0).trans (o3' t.val 0))⟩ h) ?_
  rintro ⟨m0, l0, m1, l1, s⟩ y h
  replace h := At.next (hs ⟨4 + 4 * t.val + 0, by omega⟩ (4 + 4 * t.val + 0) (4 + 4 * t.val + 1) rfl rfl) h
  refine T_bind (blkSV_spec true _ _ _ _ _ _ _ _ _ _ _ _ _ _ _ _ _ _ _ ⟨4 + 4 * t.val + 1, by omega⟩ ⟨((Gen.k0_off7_eq t 1).trans (o3 t.val 1 0)), ((Gen.k0_off8_eq t 1).trans (o3 t.val 1 256)), ((Gen.k0_off9_eq t 1).trans (o2' t.val 1 0)), ((Gen.k0_off10_eq t 1).trans (o2 t.val 1 0)), ((Gen.k0_off11_eq t 1).trans (o2' t.val 1 256)), ((Gen.k0_off12_eq t 1).trans (o2 t.val 1 256))⟩ ⟨((Gen.k0_off9_eq t 1).trans (o2' t.val 1 0)), ((Gen.k0_off10_eq t 1).trans (o2 t.val 1 0)), ((Gen.k0_off11_eq t 1).trans (o2' t.val 1 256)), ((Gen.k0_off12_eq t 1).trans (o2 t.val 1 256)), ((Gen.k0_off13_eq t 1).trans (o3' t.val 1))⟩ h) ?_
  rintro ⟨m0, l0, m1, l1, s⟩ y h
  replace h := At.next (hs ⟨4 + 4 * t.val + 1, by omega⟩ (4 + 4 * t.val + 1) (4 + 4 * t.val + 2) rfl rfl) h
  refine T_bind (blkSV_spec false _ _ _ _ _ _ _ _ _ _ _ _ _ _ _ _ _ _ _ ⟨4 + 4 * t.val + 2, by omega⟩ ⟨((Gen.k0_off7_eq t 2).trans (o3 t.val 2 0)), ((Gen.k0_off8_eq t 2).trans (o3 t.val 2 256)), ((Gen.k0_off9_eq t 2).trans (o2' t.val 2 0)), ((Gen.k0_off10_eq t 2).trans (o2 t.val 2 0)), ((Gen.k0_off11_eq t 2).trans (o2' t.val 2 256)), ((Gen.k0_off12_eq t 2).trans (o2 t.val 2 256))⟩ ⟨((Gen.k0_off9_eq t 2).trans (o2' t.val 2 0)), ((Gen.k0_off10_eq t 2).trans (o2 t.val 2 0)), ((Gen.k0_off11_eq t 2).trans (o2' t.val 2 256)), ((Gen.k0_off12_eq t 2).trans (o2 t.val 2 256)), ((Gen.k0_off13_eq t 2).trans (o3' t.val 2))⟩ h) ?_
  rintro ⟨m0, l0, m1, l1, s⟩ y h
  replace h := At.next (hs ⟨4 + 4 * t.val + 2, by omega⟩ (4 + 4 * t.val + 2) (4 + 4 * t.val + 3) rfl rfl) h
  refine T_mono (blkSV_spec true _ _ _ _ _ _ _ _ _ _ _ _ _ _ _ _ _ _ _ ⟨4 + 4 * t.val + 3, by omega⟩ ⟨((Gen.k0_off7_eq t 3).trans (o3 t.val 3 0)), ((Gen.k0_off8_eq t 3).trans (o3 t.val 3 256)), ((Gen.k0_off9_eq t 3).trans (o2' t.val 3 0)), ((Gen.k0_off10_eq t 3).trans (o2 t.val 3 0)), ((Gen.k0_off11_eq t 3).trans (o2' t.val 3 256)), ((Gen.k0_off12_eq t 3).trans (o2 t.val 3 256))⟩ ⟨((Gen.k0_off9_eq t 3).trans (o2' t.val 3 0)), ((Gen.k0_off10_eq t 3).trans (o2 t.val 3 0)), ((Gen.k0_off11_eq t 3).trans (o2' t.val 3 256)), ((Gen.k0_off12_eq t 3).trans (o2 t.val 3 256)), ((Gen.k0_off13_eq t 3).trans (o3' t.val 3))⟩ h) ?_
  rintro r y h
  exact At.next (hs ⟨4 + 4 * t.val + 3, by omega⟩ (4 + 4 * t.val + 3) (4 + 4 * t.val + 4) rfl rfl) h

set_option maxHeartbeats 4000000 in
theorem trip3_spec (i : grid0.Coords) (hc : k0_cond3 i = 1#1) (t : Fin k0_t3_loop.trips) (r : R5 F) {x y : Mem F} {run : Nat → BS F} (hs : Runs (stepSV x.f1 x.f2 x.f3 x.f14) run)
    (h : At x (run (4 + 4 * t.val)) (stQ x.f1 0) r y) :
    TT arg1 arg2 arg3 arg4 arg5 arg6 arg7 arg8 arg9 arg10 arg11 arg12 arg13 arg14 arg15 c R defs (trip3 arg1 arg2 arg3 arg12 arg13 arg14 i hc t r) y (At x (run (4 + 4 * (t.val + 1))) (stQ x.f1 0)) := by
  have ht : t.val < 6 := lt_of_lt_of_eq t.isLt trips3
  obtain ⟨m0, l0, m1, l1, s⟩ := r
  unfold trip3
  refine T_bind (blkSV_spec false _ _ _ _ _ _ _ _ _ _ _ _ _ _ _ _ _ _ _ ⟨4 + 4 * t.val + 0, by omega⟩ ⟨((Gen.k0_off14_eq t 0).trans (o3 t.val 0 0)), ((Gen.k0_off15_eq t 0).trans (o3 t.val 0 256)), ((Gen.k0_off16_eq t 0).trans (o2' t.val 0 0)), ((Gen.k0_off17_eq t 0).trans (o2 t.val 0 0)), ((Gen.k0_off18_eq t 0).trans (o2' t.val 0 256)), ((Gen.k0_off19_eq t 0).trans (o2 t.val 0 256))⟩ ⟨((Gen.k0_off16_eq t 0).trans (o2' t.val 0 0)), ((Gen.k0_off17_eq t 0).trans (o2 t.val 0 0)), ((Gen.k0_off18_eq t 0).trans (o2' t.val 0 256)), ((Gen.k0_off19_eq t 0).trans (o2 t.val 0 256)), ((Gen.k0_off20_eq t 0).trans (o3' t.val 0))⟩ h) ?_
  rintro ⟨m0, l0, m1, l1, s⟩ y h
  replace h := At.next (hs ⟨4 + 4 * t.val + 0, by omega⟩ (4 + 4 * t.val + 0) (4 + 4 * t.val + 1) rfl rfl) h
  refine T_bind (blkSV_spec true _ _ _ _ _ _ _ _ _ _ _ _ _ _ _ _ _ _ _ ⟨4 + 4 * t.val + 1, by omega⟩ ⟨((Gen.k0_off14_eq t 1).trans (o3 t.val 1 0)), ((Gen.k0_off15_eq t 1).trans (o3 t.val 1 256)), ((Gen.k0_off16_eq t 1).trans (o2' t.val 1 0)), ((Gen.k0_off17_eq t 1).trans (o2 t.val 1 0)), ((Gen.k0_off18_eq t 1).trans (o2' t.val 1 256)), ((Gen.k0_off19_eq t 1).trans (o2 t.val 1 256))⟩ ⟨((Gen.k0_off16_eq t 1).trans (o2' t.val 1 0)), ((Gen.k0_off17_eq t 1).trans (o2 t.val 1 0)), ((Gen.k0_off18_eq t 1).trans (o2' t.val 1 256)), ((Gen.k0_off19_eq t 1).trans (o2 t.val 1 256)), ((Gen.k0_off20_eq t 1).trans (o3' t.val 1))⟩ h) ?_
  rintro ⟨m0, l0, m1, l1, s⟩ y h
  replace h := At.next (hs ⟨4 + 4 * t.val + 1, by omega⟩ (4 + 4 * t.val + 1) (4 + 4 * t.val + 2) rfl rfl) h
  refine T_bind (blkSV_spec false _ _ _ _ _ _ _ _ _ _ _ _ _ _ _ _ _ _ _ ⟨4 + 4 * t.val + 2, by omega⟩ ⟨((Gen.k0_off14_eq t 2).trans (o3 t.val 2 0)), ((Gen.k0_off15_eq t 2).trans (o3 t.val 2 256)), ((Gen.k0_off16_eq t 2).trans (o2' t.val 2 0)), ((Gen.k0_off17_eq t 2).trans (o2 t.val 2 0)), ((Gen.k0_off18_eq t 2).trans (o2' t.val 2 256)), ((Gen.k0_off19_eq t 2).trans (o2 t.val 2 256))⟩ ⟨((Gen.k0_off16_eq t 2).trans (o2' t.val 2 0)), ((Gen.k0_off17_eq t 2).trans (o2 t.val 2 0)), ((Gen.k0_off18_eq t 2).trans (o2' t.val 2 256)), ((Gen.k0_off19_eq t 2).trans (o2 t.val 2 256)), ((Gen.k0_off20_eq t 2).trans (o3' t.val 2))⟩ h) ?_
  rintro ⟨m0, l0, m1, l1, s⟩ y h
  replace h := At.next (hs ⟨4 + 4 * t.val + 2, by omega⟩ (4 + 4 * t.val + 2) (4 + 4 * t.val + 3) rfl rfl) h
  refine T_mono (blkSV_spec true _ _ _ _ _ _ _ _ _ _ _ _ _ _ _ _ _ _ _ ⟨4 + 4 * t.val + 3, by omega⟩ ⟨((Gen.k0_off14_eq t 3).trans (o3 t.val 3 0)), ((Gen.k0_off15_eq t 3).trans (o3 t.val 3 256)), ((Gen.k0_off16_eq t 3).trans (o2' t.val 3 0)), ((Gen.k0_off17_eq t 3).trans (o2 t.val 3 0)), ((Gen.k0_off18_eq t 3).trans (o2' t.val 3 256)), ((Gen.k0_off19_eq t 3).trans (o2 t.val 3 256))⟩ ⟨((Gen.k0_off16_eq t 3).trans (o2' t.val 3 0)), ((Gen.k0_off17_eq t 3).trans (o2 t.val 3 0)), ((Gen.k0_off18_eq t 3).trans (o2' t.val 3 256)), ((Gen.k0_off19_eq t 3).trans (o2 t.val 3 256)), ((Gen.k0_off20_eq t 3).trans (o3' t.val 3))⟩ h) ?_
  rintro r y h
  exact At.next (hs ⟨4 + 4 * t.val + 3, by omega⟩ (4 + 4 * t.val + 3) (4 + 4 * t.val + 4) rfl rfl) h

/-- Between two blocks of the values alone. -/
structure AtV (x : Mem F) (a : BS F) (s : Mxu F) (y : Mem F) : Prop where
  y : y = x.up a
  s : Abs s (ma st0 a.O)

theorem AtV.next {x : Mem F} {a a' : BS F} {s : Mxu F} {y : Mem F}
    (e : a = a') (h : y = x.up a ∧ Abs s (ma st0 a.O)) : AtV x a' s y := e ▸ ⟨h.1, h.2⟩

set_option maxHeartbeats 4000000 in
theorem trip4_spec (i : grid0.Coords) (hc : k0_cond4 i = 1#1) (t : Fin k0_t4_loop.trips) (s : Mxu F) {x y : Mem F} {run : Nat → BS F} (hs : Runs (stepV x.f3 x.f14) run)
    (h : AtV x (run (4 + 4 * t.val)) s y) :
    TT arg1 arg2 arg3 arg4 arg5 arg6 arg7 arg8 arg9 arg10 arg11 arg12 arg13 arg14 arg15 c R defs (trip4 arg3 arg12 arg13 arg14 i hc t s) y (AtV x (run (4 + 4 * (t.val + 1)))) := by
  have ht : t.val < 6 := lt_of_lt_of_eq t.isLt trips4
  unfold trip4
  refine T_bind (blkV_spec _ _ _ _ _ _ _ _ _ _ _ ⟨4 + 4 * t.val + 0, by omega⟩ ⟨((Gen.k0_off21_eq t 0).trans (o2' t.val 0 0)), ((Gen.k0_off22_eq t 0).trans (o2 t.val 0 0)), ((Gen.k0_off23_eq t 0).trans (o2' t.val 0 256)), ((Gen.k0_off24_eq t 0).trans (o2 t.val 0 256)), ((Gen.k0_off25_eq t 0).trans (o3' t.val 0))⟩ h.y h.s) ?_
  rintro s y h
  replace h := AtV.next (hs ⟨4 + 4 * t.val + 0, by omega⟩ (4 + 4 * t.val + 0) (4 + 4 * t.val + 1) rfl rfl) h
  refine T_bind (blkV_spec _ _ _ _ _ _ _ _ _ _ _ ⟨4 + 4 * t.val + 1, by omega⟩ ⟨((Gen.k0_off21_eq t 1).trans (o2' t.val 1 0)), ((Gen.k0_off22_eq t 1).trans (o2 t.val 1 0)), ((Gen.k0_off23_eq t 1).trans (o2' t.val 1 256)), ((Gen.k0_off24_eq t 1).trans (o2 t.val 1 256)), ((Gen.k0_off25_eq t 1).trans (o3' t.val 1))⟩ h.y h.s) ?_
  rintro s y h
  replace h := AtV.next (hs ⟨4 + 4 * t.val + 1, by omega⟩ (4 + 4 * t.val + 1) (4 + 4 * t.val + 2) rfl rfl) h
  refine T_bind (blkV_spec _ _ _ _ _ _ _ _ _ _ _ ⟨4 + 4 * t.val + 2, by omega⟩ ⟨((Gen.k0_off21_eq t 2).trans (o2' t.val 2 0)), ((Gen.k0_off22_eq t 2).trans (o2 t.val 2 0)), ((Gen.k0_off23_eq t 2).trans (o2' t.val 2 256)), ((Gen.k0_off24_eq t 2).trans (o2 t.val 2 256)), ((Gen.k0_off25_eq t 2).trans (o3' t.val 2))⟩ h.y h.s) ?_
  rintro s y h
  replace h := AtV.next (hs ⟨4 + 4 * t.val + 2, by omega⟩ (4 + 4 * t.val + 2) (4 + 4 * t.val + 3) rfl rfl) h
  refine T_mono (blkV_spec _ _ _ _ _ _ _ _ _ _ _ ⟨4 + 4 * t.val + 3, by omega⟩ ⟨((Gen.k0_off21_eq t 3).trans (o2' t.val 3 0)), ((Gen.k0_off22_eq t 3).trans (o2 t.val 3 0)), ((Gen.k0_off23_eq t 3).trans (o2' t.val 3 256)), ((Gen.k0_off24_eq t 3).trans (o2 t.val 3 256)), ((Gen.k0_off25_eq t 3).trans (o3' t.val 3))⟩ h.y h.s) ?_
  rintro s y h
  exact AtV.next (hs ⟨4 + 4 * t.val + 3, by omega⟩ (4 + 4 * t.val + 3) (4 + 4 * t.val + 4) rfl rfl) h

theorem getD_some {α : Type} {o : Option α} (h : o.isSome = true) (d : α) : o = some (o.getD d) := by
  cases o with
  | none => cases h
  | some v => rfl

theorem At.proj {x : Mem F} {a : BS F} {Rg : Fin 2 → Option (Staged F)} {m0 l0 m1 l1 : FVec F S8x256 .f32} {s s' : Mxu F} {y y' : Mem F}
    (h : At x a Rg (m0, l0, m1, l1, s) y) (k : Fin 2) (ey : y' = y.proj k) (H : Abs s' (ma Rg a.O)) :
    At (x.proj k) a Rg (m0, l0, m1, l1, s') y' :=
  ⟨by rw [ey, h.y], h.m0, h.l0, h.m1, h.l1, H⟩

end Cert.Attn.Body

end
-- ==== Proof.AttnBitsBr1.lean ====
/- The loops and the five branches of the attention kernel, and its body, as functions of the state. -/
module

public import proofs.«01_k».proof.Proof.AttnBitsTrips

@[expose] public section

set_option maxRecDepth 16384
set_option pp.maxSteps 300

noncomputable section

namespace Cert.Attn.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Attn Facts₀ Facts
open Cert.MxuAbs Mxu Cert.Hoare

variable {F : FTy → Type} [FloatOps F] [Facts]
variable {arg1 : Memref sig .tc .vmem S1x512x512 .bf16} (harg1 : arg1.IsWhole)
variable {arg2 : Memref sig .tc .vmem S1x8192x512 .bf16} (harg2 : arg2.IsWhole)
variable {arg3 : Memref sig .tc .vmem S1x512x8192 .bf16} (harg3 : arg3.IsWhole)
variable {arg4 : Memref sig .tc .vmem S1x512x512 .bf16} (harg4 : arg4.IsWhole)
variable {arg5 : Memref sig .tc .vmem S512x512 .fp8e4m3} (harg5 : arg5.IsWhole)
variable {arg6 : Memref sig .tc .vmem S512x1 .f32} (harg6 : arg6.IsWhole)
variable {arg7 : Memref sig .tc .vmem S512x1 .f32} (harg7 : arg7.IsWhole)
variable {arg8 : Memref sig .tc .vmem S1x512x512 .bf16} (harg8 : arg8.IsWhole)
variable {arg9 : Memref sig .tc .vmem S1x512x512 .bf16} (harg9 : arg9.IsWhole)
variable {arg10 : Memref sig .tc .vmem S1x512x512 .fp8e4m3} (harg10 : arg10.IsWhole)
variable {arg11 : Memref sig .tc .vmem S1x1x512 .f32} (harg11 : arg11.IsWhole)
variable {arg12 : Memref sig .tc .vmem S8192x512 .f32} (harg12 : arg12.IsWhole)
variable {arg13 : Memref sig .tc .vmem S256x512 .f32} (harg13 : arg13.IsWhole)
variable {arg14 : Memref sig .tc .vmem S2x8x512 .f32} (harg14 : arg14.IsWhole)
variable {arg15 : Memref sig .tc .vmem S512x512 .f32} (harg15 : arg15.IsWhole)
variable {c : Dev nD} {R : sProp (MM nD τ sig F)} {defs : Defs nD τ sig (Elt F) Λ₀}

attribute [local irreducible] runB

set_option maxHeartbeats 8000000 in
theorem br1_spec (i : grid0.Coords) (hc : k0_cond1 i = 1#1) {s : Mxu F} {x : Mem F} (H : Abs s MA.empty) :
    TT arg1 arg2 arg3 arg4 arg5 arg6 arg7 arg8 arg9 arg10 arg11 arg12 arg13 arg14 arg15 c R defs (br1 arg1 arg2 arg12 arg13 arg14 i hc s) x (fun s' y => y = scoresF x ∧ Abs s' MA.empty) := by
  rw [← ma_empty] at H
  unfold br1
  refine T_bind (pushQ_spec _ _ _ _ 0 rfl rfl H (by simp [ma, st0]) (by simp [ma, st0])) ?_
  rintro s y ⟨ey, H⟩; subst y
  rw [ma_push] at H
  obtain ⟨run, hr⟩ : ∃ run, run = runB (stepS x.f1 x.f2) (bs0 x.f12 x.f13) := ⟨_, rfl⟩
  have hs : Runs (stepS x.f1 x.f2) run := hr ▸ runs_runB _ _
  have h0 : run 0 = bs0 x.f12 x.f13 := by rw [hr, runB]
  have h : At x (run 0) (stQ x.f1 0)
      (broadcast S8x256 (Scalar.ofBits .f32 0xFF800000#32), broadcast S8x256 (Scalar.ofBits .f32 0x00000000#32), broadcast S8x256 (Scalar.ofBits .f32 0xFF800000#32), broadcast S8x256 (Scalar.ofBits .f32 0x00000000#32), s) x :=
    by rw [h0]; exact ⟨rfl, rfl, rfl, rfl, rfl, H⟩
  refine T_bind (blkS_spec false _ _ _ _ _ _ _ _ _ _ _ _ _ _ _ _ _ 0 ⟨rfl, rfl, rfl, rfl, rfl, rfl⟩ h) ?_
  rintro ⟨m0, l0, m1, l1, s⟩ y h
  replace h := At.next (hs 0 0 1 rfl rfl) h
  refine T_bind (blkS_spec true _ _ _ _ _ _ _ _ _ _ _ _ _ _ _ _ _ 1 ⟨rfl, rfl, rfl, rfl, rfl, rfl⟩ h) ?_
  rintro ⟨m0, l0, m1, l1, s⟩ y h
  replace h := At.next (hs 1 1 2 rfl rfl) h
  refine T_bind (blkS_spec false _ _ _ _ _ _ _ _ _ _ _ _ _ _ _ _ _ 2 ⟨rfl, rfl, rfl, rfl, rfl, rfl⟩ h) ?_
  rintro ⟨m0, l0, m1, l1, s⟩ y h
  replace h := At.next (hs 2 2 3 rfl rfl) h
  refine T_bind (blkS_spec true _ _ _ _ _ _ _ _ _ _ _ _ _ _ _ _ _ 3 ⟨rfl, rfl, rfl, rfl, rfl, rfl⟩ h) ?_
  rintro ⟨m0, l0, m1, l1, s⟩ y h
  replace h := At.next (hs 3 3 4 rfl rfl) h
  refine T_bind (T_for (fun k r y => At x (run (4 + 4 * k)) (stQ x.f1 0) r y) h
    (fun k r y h => trip1_spec i hc k r hs h)) ?_
  rintro ⟨m0, l0, m1, l1, s⟩ y h
  rw [trips1] at h
  replace h := At.next (show run (4 + 4 * 6) = run 28 from rfl) h
  refine T_bind (blkS_spec false _ _ _ _ _ _ _ _ _ _ _ _ _ _ _ _ _ 28 ⟨rfl, rfl, rfl, rfl, rfl, rfl⟩ h) ?_
  rintro ⟨m0, l0, m1, l1, s⟩ y h
  replace h := At.next (hs 28 28 29 rfl rfl) h
  refine T_bind (blkS_spec true _ _ _ _ _ _ _ _ _ _ _ _ _ _ _ _ _ 29 ⟨rfl, rfl, rfl, rfl, rfl, rfl⟩ h) ?_
  rintro ⟨m0, l0, m1, l1, s⟩ y h
  replace h := At.next (hs 29 29 30 rfl rfl) h
  refine T_bind (blkS_spec false _ _ _ _ _ _ _ _ _ _ _ _ _ _ _ _ _ 30 ⟨rfl, rfl, rfl, rfl, rfl, rfl⟩ h) ?_
  rintro ⟨m0, l0, m1, l1, s⟩ y h
  replace h := At.next (hs 30 30 31 rfl rfl) h
  refine T_bind (blkSL_spec true _ _ _ _ _ _ _ _ _ _ _ _ _ _ _ _ _ 31 ⟨rfl, rfl, rfl, rfl, rfl, rfl⟩ h) ?_
  rintro ⟨m0, l0, m1, l1, s⟩ y h
  replace h := At.next (hs 31 31 32 rfl rfl) h
  obtain ⟨ey, h1, h2, h3, h4, H⟩ := h
  dsimp only at h1 h2 h3 h4 H
  generalize ha : run 32 = a at *
  subst h1 h2 h3 h4 ey
  have hO : a.O = fun _ => none := by
    have : ∀ k, (runB (stepS x.f1 x.f2) (bs0 x.f12 x.f13) k).O = fun _ => none := by
      intro k
      induction k with
      | zero => rw [runB]; rfl
      | succ k ih =>
        rw [runB]; split
        · exact ih
        · exact ih
    rw [← ha, hr]; exact this _
  rw [hO, ma_empty] at H
  refine T_bind (stat_spec 0 _ _ _ _ _ _ rfl rfl) ?_
  rintro _ y ey; subst y
  refine T_bind (stat_spec 1 _ _ _ _ _ _ rfl rfl) ?_
  rintro _ y ey; subst y
  refine T_pure _ ⟨?_, H⟩
  subst ha hr
  rfl

end Cert.Attn.Body

end
-- ==== Proof.AttnBitsBr2.lean ====
/- The loops and the five branches of the attention kernel, and its body, as functions of the state. -/
module

public import proofs.«01_k».proof.Proof.AttnBitsTrips

@[expose] public section

set_option maxRecDepth 16384
set_option pp.maxSteps 300

noncomputable section

namespace Cert.Attn.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Attn Facts₀ Facts
open Cert.MxuAbs Mxu Cert.Hoare

variable {F : FTy → Type} [FloatOps F] [Facts]
variable {arg1 : Memref sig .tc .vmem S1x512x512 .bf16} (harg1 : arg1.IsWhole)
variable {arg2 : Memref sig .tc .vmem S1x8192x512 .bf16} (harg2 : arg2.IsWhole)
variable {arg3 : Memref sig .tc .vmem S1x512x8192 .bf16} (harg3 : arg3.IsWhole)
variable {arg4 : Memref sig .tc .vmem S1x512x512 .bf16} (harg4 : arg4.IsWhole)
variable {arg5 : Memref sig .tc .vmem S512x512 .fp8e4m3} (harg5 : arg5.IsWhole)
variable {arg6 : Memref sig .tc .vmem S512x1 .f32} (harg6 : arg6.IsWhole)
variable {arg7 : Memref sig .tc .vmem S512x1 .f32} (harg7 : arg7.IsWhole)
variable {arg8 : Memref sig .tc .vmem S1x512x512 .bf16} (harg8 : arg8.IsWhole)
variable {arg9 : Memref sig .tc .vmem S1x512x512 .bf16} (harg9 : arg9.IsWhole)
variable {arg10 : Memref sig .tc .vmem S1x512x512 .fp8e4m3} (harg10 : arg10.IsWhole)
variable {arg11 : Memref sig .tc .vmem S1x1x512 .f32} (harg11 : arg11.IsWhole)
variable {arg12 : Memref sig .tc .vmem S8192x512 .f32} (harg12 : arg12.IsWhole)
variable {arg13 : Memref sig .tc .vmem S256x512 .f32} (harg13 : arg13.IsWhole)
variable {arg14 : Memref sig .tc .vmem S2x8x512 .f32} (harg14 : arg14.IsWhole)
variable {arg15 : Memref sig .tc .vmem S512x512 .f32} (harg15 : arg15.IsWhole)
variable {c : Dev nD} {R : sProp (MM nD τ sig F)} {defs : Defs nD τ sig (Elt F) Λ₀}

attribute [local irreducible] runB

set_option maxHeartbeats 8000000 in
theorem br2_spec (i : grid0.Coords) (hc : k0_cond2 i = 1#1) {s : Mxu F} {x : Mem F} (H : Abs s MA.empty) :
    TT arg1 arg2 arg3 arg4 arg5 arg6 arg7 arg8 arg9 arg10 arg11 arg12 arg13 arg14 arg15 c R defs (br2 arg1 arg2 arg3 arg12 arg13 arg14 arg15 i hc s) x (fun s' y => y = svF x ∧ Abs s' MA.empty) := by
  rw [← ma_empty] at H
  unfold br2
  refine T_bind (pushQ_spec _ _ _ _ 0 rfl rfl H (by simp [ma, st0]) (by simp [ma, st0])) ?_
  rintro s y ⟨ey, H⟩; subst y
  rw [ma_push] at H
  obtain ⟨run, hr⟩ : ∃ run, run = runB (stepSV x.f1 x.f2 x.f3 x.f14) (bs0 x.f12 x.f13) := ⟨_, rfl⟩
  have hs : Runs (stepSV x.f1 x.f2 x.f3 x.f14) run := hr ▸ runs_runB _ _
  have h0 : run 0 = bs0 x.f12 x.f13 := by rw [hr, runB]
  have h : At x (run 0) (stQ x.f1 0)
      (broadcast S8x256 (Scalar.ofBits .f32 0xFF800000#32), broadcast S8x256 (Scalar.ofBits .f32 0x00000000#32), broadcast S8x256 (Scalar.ofBits .f32 0xFF800000#32), broadcast S8x256 (Scalar.ofBits .f32 0x00000000#32), s) x :=
    by rw [h0]; exact ⟨rfl, rfl, rfl, rfl, rfl, H⟩
  refine T_bind (blkSV_spec false _ _ _ _ _ _ _ _ _ _ _ _ _ _ _ _ _ _ _ 0 ⟨rfl, rfl, rfl, rfl, rfl, rfl⟩ ⟨rfl, rfl, rfl, rfl, rfl⟩ h) ?_
  rintro ⟨m0, l0, m1, l1, s⟩ y h
  replace h := At.next (hs 0 0 1 rfl rfl) h
  refine T_bind (blkSV_spec true _ _ _ _ _ _ _ _ _ _ _ _ _ _ _ _ _ _ _ 1 ⟨rfl, rfl, rfl, rfl, rfl, rfl⟩ ⟨rfl, rfl, rfl, rfl, rfl⟩ h) ?_
  rintro ⟨m0, l0, m1, l1, s⟩ y h
  replace h := At.next (hs 1 1 2 rfl rfl) h
  refine T_bind (blkSV_spec false _ _ _ _ _ _ _ _ _ _ _ _ _ _ _ _ _ _ _ 2 ⟨rfl, rfl, rfl, rfl, rfl, rfl⟩ ⟨rfl, rfl, rfl, rfl, rfl⟩ h) ?_
  rintro ⟨m0, l0, m1, l1, s⟩ y h
  replace h := At.next (hs 2 2 3 rfl rfl) h
  refine T_bind (blkSV_spec true _ _ _ _ _ _ _ _ _ _ _ _ _ _ _ _ _ _ _ 3 ⟨rfl, rfl, rfl, rfl, rfl, rfl⟩ ⟨rfl, rfl, rfl, rfl, rfl⟩ h) ?_
  rintro ⟨m0, l0, m1, l1, s⟩ y h
  replace h := At.next (hs 3 3 4 rfl rfl) h
  refine T_bind (T_for (fun k r y => At x (run (4 + 4 * k)) (stQ x.f1 0) r y) h
    (fun k r y h => trip2_spec i hc k r hs h)) ?_
  rintro ⟨m0, l0, m1, l1, s⟩ y h
  rw [trips2] at h
  replace h := At.next (show run (4 + 4 * 6) = run 28 from rfl) h
  refine T_bind (blkSV_spec false _ _ _ _ _ _ _ _ _ _ _ _ _ _ _ _ _ _ _ 28 ⟨rfl, rfl, rfl, rfl, rfl, rfl⟩ ⟨rfl, rfl, rfl, rfl, rfl⟩ h) ?_
  rintro ⟨m0, l0, m1, l1, s⟩ y h
  replace h := At.next (hs 28 28 29 rfl rfl) h
  refine T_bind (blkSV_spec true _ _ _ _ _ _ _ _ _ _ _ _ _ _ _ _ _ _ _ 29 ⟨rfl, rfl, rfl, rfl, rfl, rfl⟩ ⟨rfl, rfl, rfl, rfl, rfl⟩ h) ?_
  rintro ⟨m0, l0, m1, l1, s⟩ y h
  replace h := At.next (hs 29 29 30 rfl rfl) h
  refine T_bind (blkSV_spec false _ _ _ _ _ _ _ _ _ _ _ _ _ _ _ _ _ _ _ 30 ⟨rfl, rfl, rfl, rfl, rfl, rfl⟩ ⟨rfl, rfl, rfl, rfl, rfl⟩ h) ?_
  rintro ⟨m0, l0, m1, l1, s⟩ y h
  replace h := At.next (hs 30 30 31 rfl rfl) h
  refine T_bind (blkSVL_spec true _ _ _ _ _ _ _ _ _ _ _ _ _ _ _ _ _ _ _ 31 ⟨rfl, rfl, rfl, rfl, rfl, rfl⟩ ⟨rfl, rfl, rfl, rfl, rfl⟩ h) ?_
  rintro ⟨m0, l0, m1, l1, s⟩ y h
  replace h := At.next (hs 31 31 32 rfl rfl) h
  obtain ⟨ey, h1, h2, h3, h4, H⟩ := h
  dsimp only at h1 h2 h3 h4 H
  generalize ha : run 32 = a at *
  subst h1 h2 h3 h4 ey
  have hO : ∀ q, (a.O q).isSome = true := by
    intro q; rw [← ha, ← hs 31 31 32 rfl rfl]; rfl
  refine T_bind (popO_spec 0 _ _ rfl H (v := (a.O 0).getD _) (getD_some (hO 0) (fun _ => Scalar.ofBits .f32 0))) ?_
  rintro s y ⟨ey, H⟩; subst y
  refine T_bind (popO_spec 1 _ _ rfl H (v := (a.O 1).getD _) (getD_some (hO 1) (fun _ => Scalar.ofBits .f32 0))) ?_
  rintro s y ⟨ey, H⟩; subst y
  rw [ma_popO] at H
  refine T_bind (stat_spec 0 _ _ _ _ _ _ rfl rfl) ?_
  rintro _ y ey; subst y
  refine T_bind (stat_spec 1 _ _ _ _ _ _ rfl rfl) ?_
  rintro _ y ey; subst y
  refine T_pure _ ⟨?_, H⟩
  subst ha hr
  rfl

end Cert.Attn.Body

end
-- ==== Proof.AttnBitsBr3.lean ====
/- The loops and the five branches of the attention kernel, and its body, as functions of the state. -/
module

public import proofs.«01_k».proof.Proof.AttnBitsTrips

@[expose] public section

set_option maxRecDepth 16384
set_option pp.maxSteps 300

noncomputable section

namespace Cert.Attn.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Attn Facts₀ Facts
open Cert.MxuAbs Mxu Cert.Hoare

variable {F : FTy → Type} [FloatOps F] [Facts]
variable {arg1 : Memref sig .tc .vmem S1x512x512 .bf16} (harg1 : arg1.IsWhole)
variable {arg2 : Memref sig .tc .vmem S1x8192x512 .bf16} (harg2 : arg2.IsWhole)
variable {arg3 : Memref sig .tc .vmem S1x512x8192 .bf16} (harg3 : arg3.IsWhole)
variable {arg4 : Memref sig .tc .vmem S1x512x512 .bf16} (harg4 : arg4.IsWhole)
variable {arg5 : Memref sig .tc .vmem S512x512 .fp8e4m3} (harg5 : arg5.IsWhole)
variable {arg6 : Memref sig .tc .vmem S512x1 .f32} (harg6 : arg6.IsWhole)
variable {arg7 : Memref sig .tc .vmem S512x1 .f32} (harg7 : arg7.IsWhole)
variable {arg8 : Memref sig .tc .vmem S1x512x512 .bf16} (harg8 : arg8.IsWhole)
variable {arg9 : Memref sig .tc .vmem S1x512x512 .bf16} (harg9 : arg9.IsWhole)
variable {arg10 : Memref sig .tc .vmem S1x512x512 .fp8e4m3} (harg10 : arg10.IsWhole)
variable {arg11 : Memref sig .tc .vmem S1x1x512 .f32} (harg11 : arg11.IsWhole)
variable {arg12 : Memref sig .tc .vmem S8192x512 .f32} (harg12 : arg12.IsWhole)
variable {arg13 : Memref sig .tc .vmem S256x512 .f32} (harg13 : arg13.IsWhole)
variable {arg14 : Memref sig .tc .vmem S2x8x512 .f32} (harg14 : arg14.IsWhole)
variable {arg15 : Memref sig .tc .vmem S512x512 .f32} (harg15 : arg15.IsWhole)
variable {c : Dev nD} {R : sProp (MM nD τ sig F)} {defs : Defs nD τ sig (Elt F) Λ₀}

attribute [local irreducible] runB

set_option maxHeartbeats 8000000 in
theorem br3_spec (i : grid0.Coords) (hc : k0_cond3 i = 1#1) {s : Mxu F} {x : Mem F} (H : Abs s MA.empty) :
    TT arg1 arg2 arg3 arg4 arg5 arg6 arg7 arg8 arg9 arg10 arg11 arg12 arg13 arg14 arg15 c R defs (br3 arg1 arg2 arg3 arg4 arg5 arg6 arg7 arg8 harg8 arg9 harg9 arg10 harg10 arg11 arg12 arg13 arg14 arg15 i hc s) x (fun s' y => y = svF (pF x) ∧ Abs s' MA.empty) := by
  rw [← ma_empty] at H
  unfold br3
  refine T_bind (pushQ_spec _ _ _ _ 0 rfl rfl H (by simp [ma, st0]) (by simp [ma, st0])) ?_
  rintro s y ⟨ey, H⟩; subst y
  rw [ma_push] at H
  refine T_bind (quantO_spec harg10) ?_
  rintro _ y ey; subst y
  obtain ⟨z, hz⟩ : ∃ z, z = x.quant := ⟨_, rfl⟩
  rw [← hz]
  have e1 : stQ x.f1 0 = stQ z.f1 0 := by rw [hz]
  rw [e1] at H
  obtain ⟨run, hr⟩ : ∃ run, run = runB (stepSV z.f1 z.f2 z.f3 z.f14) (bs0 z.f12 z.f13) := ⟨_, rfl⟩
  have hs : Runs (stepSV z.f1 z.f2 z.f3 z.f14) run := hr ▸ runs_runB _ _
  have h0 : run 0 = bs0 z.f12 z.f13 := by rw [hr, runB]
  have h : At z (run 0) (stQ z.f1 0)
      (broadcast S8x256 (Scalar.ofBits .f32 0xFF800000#32), broadcast S8x256 (Scalar.ofBits .f32 0x00000000#32), broadcast S8x256 (Scalar.ofBits .f32 0xFF800000#32), broadcast S8x256 (Scalar.ofBits .f32 0x00000000#32), s) z :=
    by rw [h0]; exact ⟨rfl, rfl, rfl, rfl, rfl, H⟩
  refine T_bind (blkSV_spec false _ _ _ _ _ _ _ _ _ _ _ _ _ _ _ _ _ _ _ 0 ⟨rfl, rfl, rfl, rfl, rfl, rfl⟩ ⟨rfl, rfl, rfl, rfl, rfl⟩ h) ?_
  rintro ⟨m0, l0, m1, l1, s⟩ y h
  replace h := At.next (hs 0 0 1 rfl rfl) h
  refine T_bind (blkSV_spec true _ _ _ _ _ _ _ _ _ _ _ _ _ _ _ _ _ _ _ 1 ⟨rfl, rfl, rfl, rfl, rfl, rfl⟩ ⟨rfl, rfl, rfl, rfl, rfl⟩ h) ?_
  rintro ⟨m0, l0, m1, l1, s⟩ y h
  replace h := At.next (hs 1 1 2 rfl rfl) h
  refine T_bind (proj0_spec harg8 harg9 h.s) ?_
  rintro s y ⟨ey, Hs⟩
  replace h := h.proj 0 ey Hs
  refine T_bind (blkSV_spec false _ _ _ _ _ _ _ _ _ _ _ _ _ _ _ _ _ _ _ 2 ⟨rfl, rfl, rfl, rfl, rfl, rfl⟩ ⟨rfl, rfl, rfl, rfl, rfl⟩ h) ?_
  rintro ⟨m0, l0, m1, l1, s⟩ y h
  replace h := At.next (hs 2 2 3 rfl rfl) h
  refine T_bind (proj1_spec harg8 harg9 h.s) ?_
  rintro s y ⟨ey, Hs⟩
  replace h := h.proj 1 ey Hs
  refine T_bind (blkSV_spec true _ _ _ _ _ _ _ _ _ _ _ _ _ _ _ _ _ _ _ 3 ⟨rfl, rfl, rfl, rfl, rfl, rfl⟩ ⟨rfl, rfl, rfl, rfl, rfl⟩ h) ?_
  rintro ⟨m0, l0, m1, l1, s⟩ y h
  replace h := At.next (hs 3 3 4 rfl rfl) h
  refine T_bind (T_for (fun k r y => At ((z.proj 0).proj 1) (run (4 + 4 * k)) (stQ ((z.proj 0).proj 1).f1 0) r y) h
    (fun k r y h => trip3_spec i hc k r hs h)) ?_
  rintro ⟨m0, l0, m1, l1, s⟩ y h
  rw [trips3] at h
  replace h := At.next (show run (4 + 4 * 6) = run 28 from rfl) h
  refine T_bind (blkSV_spec false _ _ _ _ _ _ _ _ _ _ _ _ _ _ _ _ _ _ _ 28 ⟨rfl, rfl, rfl, rfl, rfl, rfl⟩ ⟨rfl, rfl, rfl, rfl, rfl⟩ h) ?_
  rintro ⟨m0, l0, m1, l1, s⟩ y h
  replace h := At.next (hs 28 28 29 rfl rfl) h
  refine T_bind (blkSV_spec true _ _ _ _ _ _ _ _ _ _ _ _ _ _ _ _ _ _ _ 29 ⟨rfl, rfl, rfl, rfl, rfl, rfl⟩ ⟨rfl, rfl, rfl, rfl, rfl⟩ h) ?_
  rintro ⟨m0, l0, m1, l1, s⟩ y h
  replace h := At.next (hs 29 29 30 rfl rfl) h
  refine T_bind (blkSV_spec false _ _ _ _ _ _ _ _ _ _ _ _ _ _ _ _ _ _ _ 30 ⟨rfl, rfl, rfl, rfl, rfl, rfl⟩ ⟨rfl, rfl, rfl, rfl, rfl⟩ h) ?_
  rintro ⟨m0, l0, m1, l1, s⟩ y h
  replace h := At.next (hs 30 30 31 rfl rfl) h
  refine T_bind (blkSVL_spec true _ _ _ _ _ _ _ _ _ _ _ _ _ _ _ _ _ _ _ 31 ⟨rfl, rfl, rfl, rfl, rfl, rfl⟩ ⟨rfl, rfl, rfl, rfl, rfl⟩ h) ?_
  rintro ⟨m0, l0, m1, l1, s⟩ y h
  replace h := At.next (hs 31 31 32 rfl rfl) h
  obtain ⟨ey, h1, h2, h3, h4, H⟩ := h
  dsimp only at h1 h2 h3 h4 H
  generalize ha : run 32 = a at *
  subst h1 h2 h3 h4 ey
  have hO : ∀ q, (a.O q).isSome = true := by
    intro q; rw [← ha, ← hs 31 31 32 rfl rfl]; rfl
  refine T_bind (popO_spec 0 _ _ rfl H (v := (a.O 0).getD _) (getD_some (hO 0) (fun _ => Scalar.ofBits .f32 0))) ?_
  rintro s y ⟨ey, H⟩; subst y
  refine T_bind (popO_spec 1 _ _ rfl H (v := (a.O 1).getD _) (getD_some (hO 1) (fun _ => Scalar.ofBits .f32 0))) ?_
  rintro s y ⟨ey, H⟩; subst y
  rw [ma_popO] at H
  refine T_bind (stat_spec 0 _ _ _ _ _ _ rfl rfl) ?_
  rintro _ y ey; subst y
  refine T_bind (stat_spec 1 _ _ _ _ _ _ rfl rfl) ?_
  rintro _ y ey; subst y
  refine T_pure _ ⟨?_, H⟩
  subst ha hr
  subst hz
  rfl

end Cert.Attn.Body

end
-- ==== Proof.AttnBitsBr4.lean ====
/- The loops and the five branches of the attention kernel, and its body, as functions of the state. -/
module

public import proofs.«01_k».proof.Proof.AttnBitsTrips

@[expose] public section

set_option maxRecDepth 16384
set_option pp.maxSteps 300

noncomputable section

namespace Cert.Attn.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Attn Facts₀ Facts
open Cert.MxuAbs Mxu Cert.Hoare

variable {F : FTy → Type} [FloatOps F] [Facts]
variable {arg1 : Memref sig .tc .vmem S1x512x512 .bf16} (harg1 : arg1.IsWhole)
variable {arg2 : Memref sig .tc .vmem S1x8192x512 .bf16} (harg2 : arg2.IsWhole)
variable {arg3 : Memref sig .tc .vmem S1x512x8192 .bf16} (harg3 : arg3.IsWhole)
variable {arg4 : Memref sig .tc .vmem S1x512x512 .bf16} (harg4 : arg4.IsWhole)
variable {arg5 : Memref sig .tc .vmem S512x512 .fp8e4m3} (harg5 : arg5.IsWhole)
variable {arg6 : Memref sig .tc .vmem S512x1 .f32} (harg6 : arg6.IsWhole)
variable {arg7 : Memref sig .tc .vmem S512x1 .f32} (harg7 : arg7.IsWhole)
variable {arg8 : Memref sig .tc .vmem S1x512x512 .bf16} (harg8 : arg8.IsWhole)
variable {arg9 : Memref sig .tc .vmem S1x512x512 .bf16} (harg9 : arg9.IsWhole)
variable {arg10 : Memref sig .tc .vmem S1x512x512 .fp8e4m3} (harg10 : arg10.IsWhole)
variable {arg11 : Memref sig .tc .vmem S1x1x512 .f32} (harg11 : arg11.IsWhole)
variable {arg12 : Memref sig .tc .vmem S8192x512 .f32} (harg12 : arg12.IsWhole)
variable {arg13 : Memref sig .tc .vmem S256x512 .f32} (harg13 : arg13.IsWhole)
variable {arg14 : Memref sig .tc .vmem S2x8x512 .f32} (harg14 : arg14.IsWhole)
variable {arg15 : Memref sig .tc .vmem S512x512 .f32} (harg15 : arg15.IsWhole)
variable {c : Dev nD} {R : sProp (MM nD τ sig F)} {defs : Defs nD τ sig (Elt F) Λ₀}

attribute [local irreducible] runB

theorem AtV.proj {x : Mem F} {a : BS F} {s s' : Mxu F} {y y' : Mem F}
    (h : AtV x a s y) (k : Fin 2) (ey : y' = y.proj k) (H : Abs s' (ma st0 a.O)) : AtV (x.proj k) a s' y' :=
  ⟨by rw [ey, h.y], H⟩

set_option maxHeartbeats 8000000 in
theorem br4_spec (i : grid0.Coords) (hc : k0_cond4 i = 1#1) {s : Mxu F} {x : Mem F} (H : Abs s MA.empty) :
    TT arg1 arg2 arg3 arg4 arg5 arg6 arg7 arg8 arg9 arg10 arg11 arg12 arg13 arg14 arg15 c R defs (br4 arg3 arg4 arg5 arg6 arg7 arg8 harg8 arg9 harg9 arg10 harg10 arg11 arg12 arg13 arg14 arg15 i hc s) x (fun s' y => y = vF (pF x) ∧ Abs s' MA.empty) := by
  rw [← ma_empty] at H
  unfold br4
  refine T_bind (quantO_spec harg10) ?_
  rintro _ y ey; subst y
  obtain ⟨z, hz⟩ : ∃ z, z = x.quant := ⟨_, rfl⟩
  rw [← hz]
  obtain ⟨run, hr⟩ : ∃ run, run = runB (stepV z.f3 z.f14) (bs0 z.f12 z.f13) := ⟨_, rfl⟩
  have hs : Runs (stepV z.f3 z.f14) run := hr ▸ runs_runB _ _
  have h0 : run 0 = bs0 z.f12 z.f13 := by rw [hr, runB]
  have h : AtV z (run 0) s z := by rw [h0]; exact ⟨rfl, H⟩
  refine T_bind (blkV_spec _ _ _ _ _ _ _ _ _ _ _ 0 ⟨rfl, rfl, rfl, rfl, rfl⟩ h.y h.s) ?_
  rintro s y h
  replace h := AtV.next (hs 0 0 1 rfl rfl) h
  refine T_bind (blkV_spec _ _ _ _ _ _ _ _ _ _ _ 1 ⟨rfl, rfl, rfl, rfl, rfl⟩ h.y h.s) ?_
  rintro s y h
  replace h := AtV.next (hs 1 1 2 rfl rfl) h
  refine T_bind (proj0_spec harg8 harg9 h.s) ?_
  rintro s y ⟨ey, Hs⟩
  replace h := h.proj 0 ey Hs
  refine T_bind (blkV_spec _ _ _ _ _ _ _ _ _ _ _ 2 ⟨rfl, rfl, rfl, rfl, rfl⟩ h.y h.s) ?_
  rintro s y h
  replace h := AtV.next (hs 2 2 3 rfl rfl) h
  refine T_bind (proj1_spec harg8 harg9 h.s) ?_
  rintro s y ⟨ey, Hs⟩
  replace h := h.proj 1 ey Hs
  refine T_bind (blkV_spec _ _ _ _ _ _ _ _ _ _ _ 3 ⟨rfl, rfl, rfl, rfl, rfl⟩ h.y h.s) ?_
  rintro s y h
  replace h := AtV.next (hs 3 3 4 rfl rfl) h
  refine T_bind (T_for (fun k s y => AtV ((z.proj 0).proj 1) (run (4 + 4 * k)) s y) h
    (fun k r y h => trip4_spec i hc k r hs h)) ?_
  rintro s y h
  rw [trips4] at h
  replace h : AtV ((z.proj 0).proj 1) (run 28) s y := h
  refine T_bind (blkV_spec _ _ _ _ _ _ _ _ _ _ _ 28 ⟨rfl, rfl, rfl, rfl, rfl⟩ h.y h.s) ?_
  rintro s y h
  replace h := AtV.next (hs 28 28 29 rfl rfl) h
  refine T_bind (blkV_spec _ _ _ _ _ _ _ _ _ _ _ 29 ⟨rfl, rfl, rfl, rfl, rfl⟩ h.y h.s) ?_
  rintro s y h
  replace h := AtV.next (hs 29 29 30 rfl rfl) h
  refine T_bind (blkV_spec _ _ _ _ _ _ _ _ _ _ _ 30 ⟨rfl, rfl, rfl, rfl, rfl⟩ h.y h.s) ?_
  rintro s y h
  replace h := AtV.next (hs 30 30 31 rfl rfl) h
  refine T_bind (blkV_spec _ _ _ _ _ _ _ _ _ _ _ 31 ⟨rfl, rfl, rfl, rfl, rfl⟩ h.y h.s) ?_
  rintro s y h
  replace h := AtV.next (hs 31 31 32 rfl rfl) h
  obtain ⟨ey, H⟩ := h
  generalize ha : run 32 = a at *
  subst ey
  have hO : ∀ q, (a.O q).isSome = true := by
    intro q; rw [← ha, ← hs 31 31 32 rfl rfl]; rfl
  refine T_bind (popO_spec 0 _ _ rfl H (v := (a.O 0).getD _) (getD_some (hO 0) (fun _ => Scalar.ofBits .f32 0))) ?_
  rintro s y ⟨ey, H⟩; subst y
  refine T_mono (popO_spec 1 _ _ rfl H (v := (a.O 1).getD _) (getD_some (hO 1) (fun _ => Scalar.ofBits .f32 0))) ?_
  rintro s y ⟨ey, H⟩; subst y
  rw [ma_popO] at H
  refine ⟨?_, H⟩
  have e : runB (stepV (pF x).f3 (pF x).f14) (bs0 (pF x).f12 (pF x).f13) 32 = a := by
    rw [← ha, hr, hz]; rfl
  unfold vF
  rw [e]
  subst hz
  rfl

end Cert.Attn.Body

end
-- ==== Proof.AttnBitsBody.lean ====
/- The loops and the five branches of the attention kernel, and its body, as functions of the state. -/
module

public import proofs.«01_k».proof.Proof.AttnBitsBr1
public import proofs.«01_k».proof.Proof.AttnBitsBr2
public import proofs.«01_k».proof.Proof.AttnBitsBr3
public import proofs.«01_k».proof.Proof.AttnBitsBr4

@[expose] public section

set_option maxRecDepth 16384
set_option pp.maxSteps 300

noncomputable section

namespace Cert.Attn.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Attn Facts₀ Facts
open Cert.MxuAbs Mxu Cert.Hoare

variable {F : FTy → Type} [FloatOps F] [Facts]
variable {arg1 : Memref sig .tc .vmem S1x512x512 .bf16} (harg1 : arg1.IsWhole)
variable {arg2 : Memref sig .tc .vmem S1x8192x512 .bf16} (harg2 : arg2.IsWhole)
variable {arg3 : Memref sig .tc .vmem S1x512x8192 .bf16} (harg3 : arg3.IsWhole)
variable {arg4 : Memref sig .tc .vmem S1x512x512 .bf16} (harg4 : arg4.IsWhole)
variable {arg5 : Memref sig .tc .vmem S512x512 .fp8e4m3} (harg5 : arg5.IsWhole)
variable {arg6 : Memref sig .tc .vmem S512x1 .f32} (harg6 : arg6.IsWhole)
variable {arg7 : Memref sig .tc .vmem S512x1 .f32} (harg7 : arg7.IsWhole)
variable {arg8 : Memref sig .tc .vmem S1x512x512 .bf16} (harg8 : arg8.IsWhole)
variable {arg9 : Memref sig .tc .vmem S1x512x512 .bf16} (harg9 : arg9.IsWhole)
variable {arg10 : Memref sig .tc .vmem S1x512x512 .fp8e4m3} (harg10 : arg10.IsWhole)
variable {arg11 : Memref sig .tc .vmem S1x1x512 .f32} (harg11 : arg11.IsWhole)
variable {arg12 : Memref sig .tc .vmem S8192x512 .f32} (harg12 : arg12.IsWhole)
variable {arg13 : Memref sig .tc .vmem S256x512 .f32} (harg13 : arg13.IsWhole)
variable {arg14 : Memref sig .tc .vmem S2x8x512 .f32} (harg14 : arg14.IsWhole)
variable {arg15 : Memref sig .tc .vmem S512x512 .f32} (harg15 : arg15.IsWhole)
variable {c : Dev nD} {R : sProp (MM nD τ sig F)} {defs : Defs nD τ sig (Elt F) Λ₀}

theorem br5_spec {s : Mxu F} {x : Mem F} (H : Abs s MA.empty) :
    TT arg1 arg2 arg3 arg4 arg5 arg6 arg7 arg8 arg9 arg10 arg11 arg12 arg13 arg14 arg15 c R defs (br5 arg4 arg5 arg6 arg7 arg8 harg8 arg9 harg9 arg10 harg10 arg11 arg15 s) x (fun s' y => y = pF x ∧ Abs s' MA.empty) := by
  rw [← ma_empty] at H
  unfold br5
  refine T_bind (quantO_spec harg10) ?_
  rintro _ y ey; subst y
  refine T_bind (proj0_spec harg8 harg9 H) ?_
  rintro s y ⟨ey, H⟩; subst y
  refine T_mono (proj1_spec harg8 harg9 H) ?_
  rintro s y ⟨ey, H⟩; subst y
  rw [ma_empty] at H
  exact ⟨rfl, H⟩

/-- What the body leaves of the state at the grid point `i`. -/
def bodyF (i : grid0.Coords) (x0 : Mem F) : Mem F :=
  let x1 := if k0_cond1 i = 1#1 then scoresF x0 else x0
  let x2 := if k0_cond2 i = 1#1 then svF x1 else x1
  let x3 := if k0_cond3 i = 1#1 then svF (pF x2) else x2
  let x4 := if k0_cond4 i = 1#1 then vF (pF x3) else x3
  if k0_cond5 i = 1#1 then pF x4 else x4

/-- A conditional branch, from drained units to drained units, and the rest of the program. -/
theorem T_dite {P : Prop} [Decidable P] {β : Type} {p : P → Prog (TpuEff nD τ sig (Elt F) Λ₀ .tc) (Mxu F)} {k : Mxu F → Prog (TpuEff nD τ sig (Elt F) Λ₀ .tc) β}
    (f : Mem F → Mem F) {s : Mxu F} {x : Mem F} {Q : β → Mem F → Prop} (H : Abs s MA.empty)
    (hp : ∀ h, TT arg1 arg2 arg3 arg4 arg5 arg6 arg7 arg8 arg9 arg10 arg11 arg12 arg13 arg14 arg15 c R defs (p h) x (fun s' y => y = f x ∧ Abs s' MA.empty))
    (hk : ∀ s' y, y = (if P then f x else x) ∧ Abs s' MA.empty → TT arg1 arg2 arg3 arg4 arg5 arg6 arg7 arg8 arg9 arg10 arg11 arg12 arg13 arg14 arg15 c R defs (k s') y Q) :
    TT arg1 arg2 arg3 arg4 arg5 arg6 arg7 arg8 arg9 arg10 arg11 arg12 arg13 arg14 arg15 c R defs (if h : P then (p h >>= k) else (pure s >>= k)) x Q := by
  by_cases h : P
  · rw [dif_pos h]; rw [if_pos h] at hk; exact T_bind (hp h) hk
  · rw [dif_neg h]; rw [if_neg h] at hk; exact T_bind (T_pure s ⟨rfl, H⟩) hk

theorem bodyS_spec (i : grid0.Coords) {x : Mem F} :
    TT arg1 arg2 arg3 arg4 arg5 arg6 arg7 arg8 arg9 arg10 arg11 arg12 arg13 arg14 arg15 c R defs (bodyS i arg1 harg1 arg2 harg2 arg3 harg3 arg4 harg4 arg5 harg5 arg6 harg6 arg7 harg7 arg8 harg8 arg9 harg9 arg10 harg10 arg11 harg11 arg12 harg12 arg13 harg13 arg14 harg14 arg15 harg15) x (fun _ y => y = bodyF i x) := by
  unfold bodyS
  refine T_dite (scoresF (F := F)) abs_init (fun h => br1_spec i h abs_init) ?_
  rintro s y ⟨ey, H⟩; subst y
  refine T_dite (svF (F := F)) H (fun h => br2_spec i h H) ?_
  rintro s y ⟨ey, H⟩; subst y
  refine T_dite (fun x : Mem F => svF (pF x)) H (fun h => br3_spec harg8 harg9 harg10 i h H) ?_
  rintro s y ⟨ey, H⟩; subst y
  refine T_dite (fun x : Mem F => vF (pF x)) H (fun h => br4_spec harg8 harg9 harg10 i h H) ?_
  rintro s y ⟨ey, H⟩; subst y
  refine T_dite (pF (F := F)) H (fun h => br5_spec harg8 harg9 harg10 H) ?_
  rintro s y ⟨ey, H⟩; subst y
  exact T_exit H.drained rfl

end Cert.Attn.Body

end
-- ==== Proof.AttnBitsFrame.lean ====
/- The frame of the attention kernel: its pipeline's proof data, its body at every grid point, and its run. What the body leaves
   in the outputs is held to what `bodyF` says of some scratch contents that the points before could have left. -/
module

public import proofs.«01_k».proof.Proof.AttnBitsBody
public import proofs.«01_k».proof.Proof.Gen.Attn.Frame
public import Idealize.ShloMosaic.Lib.Pipeline.DatRel
public import Idealize.ShloMosaic.Lib.Pipeline.ArrRel
public import Idealize.ShloMosaic.Lib.Claim

@[expose] public section

set_option maxRecDepth 16384
set_option pp.maxSteps 300

noncomputable section

namespace Cert.Attn.Body

open Cert.Attn Cert.Attn.Gen Cert.Hoare
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ) (ρ : Dev nD → PrngReg)

/-! ## The body leaves the inputs -/

/-- The same inputs. -/
def SameIns (y x : Mem F) : Prop :=
  y.f1 = x.f1 ∧ y.f2 = x.f2 ∧ y.f3 = x.f3 ∧ y.f4 = x.f4 ∧ y.f5 = x.f5 ∧ y.f6 = x.f6 ∧ y.f7 = x.f7

theorem SameIns.refl (x : Mem F) : SameIns x x := ⟨rfl, rfl, rfl, rfl, rfl, rfl, rfl⟩

theorem SameIns.trans {x y z : Mem F} (h : SameIns z y) (h' : SameIns y x) : SameIns z x :=
  ⟨h.1.trans h'.1, h.2.1.trans h'.2.1, h.2.2.1.trans h'.2.2.1, h.2.2.2.1.trans h'.2.2.2.1, h.2.2.2.2.1.trans h'.2.2.2.2.1,
    h.2.2.2.2.2.1.trans h'.2.2.2.2.2.1, h.2.2.2.2.2.2.trans h'.2.2.2.2.2.2⟩

theorem SameIns.ite {P : Prop} [Decidable P] {x y z : Mem F} (h : SameIns z x) (h' : SameIns y x) : SameIns (if P then z else y) x := by
  split
  · exact h
  · exact h'

theorem scoresF_ins (x : Mem F) : SameIns (scoresF x) x := by unfold scoresF; exact ⟨rfl, rfl, rfl, rfl, rfl, rfl, rfl⟩
theorem svF_ins (x : Mem F) : SameIns (svF x) x := by unfold svF; exact ⟨rfl, rfl, rfl, rfl, rfl, rfl, rfl⟩
theorem vF_ins (x : Mem F) : SameIns (vF x) x := by unfold vF; exact ⟨rfl, rfl, rfl, rfl, rfl, rfl, rfl⟩
theorem pF_ins (x : Mem F) : SameIns (pF x) x := by unfold pF; exact ⟨rfl, rfl, rfl, rfl, rfl, rfl, rfl⟩

theorem bodyF_ins (i : grid0.Coords) (x : Mem F) : SameIns (bodyF i x) x := by
  unfold bodyF
  have h1 : SameIns (if k0_cond1 i = 1#1 then scoresF x else x) x := (scoresF_ins x).ite (SameIns.refl x)
  generalize (if k0_cond1 i = 1#1 then scoresF x else x) = x1 at h1 ⊢
  have h2 : SameIns (if k0_cond2 i = 1#1 then svF x1 else x1) x := ((svF_ins x1).trans h1).ite h1
  dsimp only
  generalize (if k0_cond2 i = 1#1 then svF x1 else x1) = x2 at h2 ⊢
  have h3 : SameIns (if k0_cond3 i = 1#1 then svF (pF x2) else x2) x := (((svF_ins _).trans (pF_ins x2)).trans h2).ite h2
  generalize (if k0_cond3 i = 1#1 then svF (pF x2) else x2) = x3 at h3 ⊢
  have h4 : SameIns (if k0_cond4 i = 1#1 then vF (pF x3) else x3) x := (((vF_ins _).trans (pF_ins x3)).trans h3).ite h3
  generalize (if k0_cond4 i = 1#1 then vF (pF x3) else x3) = x4 at h4 ⊢
  exact ((pF_ins x4).trans h4).ite h4

/-! ## What the scratch may hold before a point -/

/-- The state's inputs are the blocks at the point. -/
def Ins (c : Dev nD) (t : Fin cfg0.N) (x : Mem F) : Prop :=
  x.f1 = iblk m c 0 t ∧ x.f2 = iblk m c 1 t ∧ x.f3 = iblk m c 2 t ∧ x.f4 = iblk m c 3 t ∧ x.f5 = iblk m c 4 t
    ∧ x.f6 = iblk m c 5 t ∧ x.f7 = iblk m c 6 t

/-- What the scratch may hold before point `n`: anything at first, then what the body leaves there. -/
def Scr (c : Dev nD) : ℕ → Vec F S8192x512 .f32 → Vec F S256x512 .f32 → Vec F S2x8x512 .f32 → Vec F S512x512 .f32 → Prop
  | 0, _, _, _, _ => True
  | n + 1, X12, X13, X14, X15 => ∃ (h : n < cfg0.N) (x : Mem F), Ins m c ⟨n, h⟩ x ∧ Scr c n x.f12 x.f13 x.f14 x.f15
      ∧ X12 = (bodyF (grid0.coords ⟨n, h⟩) x).f12 ∧ X13 = (bodyF (grid0.coords ⟨n, h⟩) x).f13
      ∧ X14 = (bodyF (grid0.coords ⟨n, h⟩) x).f14 ∧ X15 = (bodyF (grid0.coords ⟨n, h⟩) x).f15

/-- A state that the body may find at the point. -/
def At0 (c : Dev nD) (t : Fin cfg0.N) (x : Mem F) : Prop := Ins m c t x ∧ Scr m c t.val x.f12 x.f13 x.f14 x.f15

/-- The invariant before point `n`. -/
def PhiS (c : Dev nD) (n : ℕ) : sProp (MT nD τ sig Unit (Elt F) ℕ (UR sig nD τ) ℕ) :=
  iprop(∃ X12 X13 X14 X15, ⌜Scr m c n X12 X13 X14 X15⌝ ∗ owns (c : Thread nD τ) (Memref.whole cc0_scratch0) fullShare X12
    ∗ owns (c : Thread nD τ) (Memref.whole cc0_scratch1) fullShare X13 ∗ owns (c : Thread nD τ) (Memref.whole cc0_scratch2) fullShare X14
    ∗ owns (c : Thread nD τ) (Memref.whole cc0_scratch3) fullShare X15 ∗ (∃ r, prngReg c r))

theorem PhiA0_eq (c : Dev nD) :
    (Pipeline.ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-! ## The proof data -/

/-- The arrays as the region finds them, the inputs left in place, the outputs (`fgt`) not named here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ t := PhiS m c t.val
  q _ := fullShare
  owed _ := 0

/-- The outputs. -/
def fgt (w : Fin cfg0.W) : Bool := decide (7 ≤ w.val)

/-- What is said of an output: it is what the body leaves of some state it may find. -/
def Rl (c : Dev nD) (w : Fin cfg0.W) (t : Fin cfg0.N) : ((cfg0.win w).block.Idx → Elt F (cfg0.win w).elt) → Prop :=
  match w with
  | ⟨7, _⟩ => fun X => ∃ x : Mem F, At0 m c t x ∧ X = (bodyF (grid0.coords t) x).f8
  | ⟨8, _⟩ => fun X => ∃ x : Mem F, At0 m c t x ∧ X = (bodyF (grid0.coords t) x).f9
  | ⟨9, _⟩ => fun X => ∃ x : Mem F, At0 m c t x ∧ X = (bodyF (grid0.coords t) x).f10
  | ⟨10, _⟩ => fun X => ∃ x : Mem F, At0 m c t x ∧ X = (bodyF (grid0.coords t) x).f11
  | _ => fun _ => True

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

/-- The body from a state, to any continuation that the state it leaves gives. -/
theorem body_run {c : Dev nD} {R : sProp (MT nD τ sig Unit (Elt F) ℕ (UR sig nD τ) ℕ)} {defs : Defs nD τ sig (Elt F) Λ₀} (i : grid0.Coords) (arg1 : Memref sig .tc .vmem S1x512x512 .bf16) (harg1 : arg1.IsWhole) (arg2 : Memref sig .tc .vmem S1x8192x512 .bf16) (harg2 : arg2.IsWhole) (arg3 : Memref sig .tc .vmem S1x512x8192 .bf16) (harg3 : arg3.IsWhole) (arg4 : Memref sig .tc .vmem S1x512x512 .bf16) (harg4 : arg4.IsWhole) (arg5 : Memref sig .tc .vmem S512x512 .fp8e4m3) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .fp8e4m3) (harg10 : arg10.IsWhole) (arg11 : Memref sig .tc .vmem S1x1x512 .f32) (harg11 : arg11.IsWhole) (arg12 : Memref sig .tc .vmem S8192x512 .f32) (harg12 : arg12.IsWhole) (arg13 : Memref sig .tc .vmem S256x512 .f32) (harg13 : arg13.IsWhole) (arg14 : Memref sig .tc .vmem S2x8x512 .f32) (harg14 : arg14.IsWhole) (arg15 : Memref sig .tc .vmem S512x512 .f32) (harg15 : arg15.IsWhole)
    (x : Mem F) (K : PUnit → sProp (MT nD τ sig Unit (Elt F) ℕ (UR sig nD τ) ℕ)) :
    iprop(St arg1 arg2 arg3 arg4 arg5 arg6 arg7 arg8 arg9 arg10 arg11 arg12 arg13 arg14 arg15 c R x ∗ (St arg1 arg2 arg3 arg4 arg5 arg6 arg7 arg8 arg9 arg10 arg11 arg12 arg13 arg14 arg15 c R (bodyF i x) -∗ K ⟨⟩))
      ⊢ wp frame (wpE defs Variants.none (c : Thread nD τ) none) Set.univ (bodyS i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have h := bodyS_spec (c := c) (R := R) (defs := defs) harg1 harg2 harg3 harg4 harg5 harg6 harg7 harg8 harg9 harg10 harg11 harg12 harg13 harg14 harg15 i (x := x)
  unfold TT Cert.Hoare.T at h
  iintro ⟨H, Hk⟩
  iapply (wp_wand_r frame _ Set.univ)
  isplitl [H]
  · iapply h; iexact H
  · iintro %r ⟨%y, %hy, H⟩
    subst hy
    iapply Hk; iexact H

/-! ## The body at a point -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜((dats m 0 c).toRRel fgt (Rl m c)).Finds 7 t Y⌝ ∗ owns (c : Thread nD τ) (st0_7 t) fullShare Y)
    ∗ (∃ Y, ⌜((dats m 0 c).toRRel fgt (Rl m c)).Finds 8 t Y⌝ ∗ owns (c : Thread nD τ) (st0_8 t) fullShare Y)
    ∗ (∃ Y, ⌜((dats m 0 c).toRRel fgt (Rl m c)).Finds 9 t Y⌝ ∗ owns (c : Thread nD τ) (st0_9 t) fullShare Y)
    ∗ (∃ Y, ⌜((dats m 0 c).toRRel fgt (Rl m c)).Finds 10 t Y⌝ ∗ owns (c : Thread nD τ) (st0_10 t) fullShare Y))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜Rl m c 7 t X⌝ ∗ owns (c : Thread nD τ) (st0_7 t) fullShare X)
    ∗ (∃ X, ⌜Rl m c 8 t X⌝ ∗ owns (c : Thread nD τ) (st0_8 t) fullShare X)
    ∗ (∃ X, ⌜Rl m c 9 t X⌝ ∗ owns (c : Thread nD τ) (st0_9 t) fullShare X)
    ∗ (∃ X, ⌜Rl m c 10 t X⌝ ∗ owns (c : Thread nD τ) (st0_10 t) fullShare X))

variable (hbe : (cc0_attention (F := F)) = bodyS)

include hbe in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [hbe]
  simp only [before0_0, before0_1, before0_2, before0_3, before0_4, before0_5, before0_6, after0_0, after0_1, after0_2, after0_3, after0_4, after0_5, after0_6]
  rw [show (dats m 0 c).owesAt () t.succ = (dats m 0 c).owesAt () t.castSucc from rfl,
    show (dats m 0 c).Φ t.succ = PhiS m c (t.val + 1) from rfl, show (dats m 0 c).Φ t.castSucc = PhiS m c t.val from rfl]
  unfold PhiS
  iintro ⟨⟨%X12, %X13, %X14, %X15, %hS, HS12, HS13, HS14, HS15, Hg⟩, Ho, ⟨%d0, H1⟩, ⟨%d1, H2⟩, ⟨%d2, H3⟩, ⟨%d3, H4⟩, ⟨%d4, H5⟩, ⟨%d5, H6⟩, ⟨%d6, H7⟩, ⟨%Y8, -, H8⟩, ⟨%Y9, -, H9⟩, ⟨%Y10, -, H10⟩, ⟨%Y11, -, H11⟩⟩
  iapply (body_run (R := iprop((dats m 0 c).owesAt () t.castSucc ∗ (∃ r, prngReg c r))) (defs := defs₀ (F := F)) (c := c) (grid0.coords t)
    _ _ _ _ _ _ _ _ _ _ _ _ _ _ _ _ _ _ _ _ _ _ _ _ _ _ _ _ _ _ ({ f1 := iblk m c 0 t, f2 := iblk m c 1 t, f3 := iblk m c 2 t, f4 := iblk m c 3 t, f5 := iblk m c 4 t, f6 := iblk m c 5 t, f7 := iblk m c 6 t, f8 := Y8, f9 := Y9, f10 := Y10, f11 := Y11, f12 := X12, f13 := X13, f14 := X14, f15 := X15 } : Mem F) _)
  unfold St
  isplitl [H1 H2 H3 H4 H5 H6 H7 H8 H9 H10 H11 HS12 HS13 HS14 HS15 Hg Ho]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS12]; · iexact HS12
    isplitl [HS13]; · iexact HS13
    isplitl [HS14]; · iexact HS14
    isplitl [HS15]; · iexact HS15
    isplitl [Ho]; · iexact Ho
    iexact Hg
  iintro ⟨H1, H2, H3, H4, H5, H6, H7, H8, H9, H10, H11, H12, H13, H14, H15, Ho, Hg⟩
  have hx : At0 m c t ({ f1 := iblk m c 0 t, f2 := iblk m c 1 t, f3 := iblk m c 2 t, f4 := iblk m c 3 t, f5 := iblk m c 4 t, f6 := iblk m c 5 t, f7 := iblk m c 6 t, f8 := Y8, f9 := Y9, f10 := Y10, f11 := Y11, f12 := X12, f13 := X13, f14 := X14, f15 := X15 } : Mem F) := ⟨⟨rfl, rfl, rfl, rfl, rfl, rfl, rfl⟩, hS⟩
  obtain ⟨e1, e2, e3, e4, e5, e6, e7⟩ := bodyF_ins (grid0.coords t) ({ f1 := iblk m c 0 t, f2 := iblk m c 1 t, f3 := iblk m c 2 t, f4 := iblk m c 3 t, f5 := iblk m c 4 t, f6 := iblk m c 5 t, f7 := iblk m c 6 t, f8 := Y8, f9 := Y9, f10 := Y10, f11 := Y11, f12 := X12, f13 := X13, f14 := X14, f15 := X15 } : Mem F)
  rw [e1, e2, e3, e4, e5, e6, e7]
  isplitl [H12 H13 H14 H15 Hg]
  · iexists _, _, _, _
    isplitr
    swap
    · isplitl [H12]; · iexact H12
      isplitl [H13]; · iexact H13
      isplitl [H14]; · iexact H14
      isplitl [H15]; · iexact H15
      iexact Hg
    · ipureintro
      exact ⟨t.isLt, _, hx.1, hx.2, rfl, rfl, rfl, rfl⟩
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _
    isplitr
    swap
    · iexact H8
    · ipureintro
      exact ⟨_, hx, rfl⟩
  isplitl [H9]
  · iexists _
    isplitr
    swap
    · iexact H9
    · ipureintro
      exact ⟨_, hx, rfl⟩
  isplitl [H10]
  · iexists _
    isplitr
    swap
    · iexact H10
    · ipureintro
      exact ⟨_, hx, rfl⟩
  · iexists _
    isplitr
    swap
    · iexact H11
    · ipureintro
      exact ⟨_, hx, rfl⟩

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

include hbe in
theorem body_obligation (c : Dev nD) : Pipeline.BodyObligationRel (dats (F := F) m 0 c) (defs₀ (F := F)) Variants.none () Set.univ fgt (Rl m c) := fun t => by
  rw [bigSep_W0, bigSep_W0, defs₀_row]
  exact triple_restated (sound_body m hbe c t) rfl .rfl fun _ => .rfl

/-! ## The run and the frame -/

theorem hin (c : Dev nD) : Pipeline.ΦA spec0 c ⊢ (dats m 0 c).Φ 0 := by
  rw [show (dats m 0 c).Φ 0 = PhiS m c 0 from rfl, PhiA0_eq]
  unfold PhiS
  iintro ⟨⟨⟨%X12, H12⟩, ⟨%X13, H13⟩, ⟨%X14, H14⟩, ⟨%X15, H15⟩⟩, Hg⟩
  iexists X12, X13, X14, X15
  isplitr
  · ipureintro; exact trivial
  isplitl [H12]; · iexact H12
  isplitl [H13]; · iexact H13
  isplitl [H14]; · iexact H14
  isplitl [H15]; · iexact H15
  iexact Hg

theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨%X12, %X13, %X14, %X15, -, H12, H13, H14, H15, Hg⟩
  isplitl [H12 H13 H14 H15]
  · isplitl [H12]; · iexists _; iexact H12
    isplitl [H13]; · iexists _; iexact H13
    isplitl [H14]; · iexists _; iexact H14
    iexists _; iexact H15
  iexact Hg

/-- The proof data, the outputs held to `Rl`. -/
def rdats (c : Dev nD) : RDat τ (Elt F) Unit ℕ (UR sig nD τ) ℕ cfg0 c := (dats m 0 c).toRRel fgt (Rl m c)

set_option backward.isDefEq.respectTransparency.types false in
include hbe in
/-- The launch: every array of the pipeline ends at what the proof data allow, every counter at zero. -/
theorem run_main_quiescent : θ_run defs (onTc (τ := τ) (main (F := F))) (s₀ m ρ)
    (fun r => RDat.FramePost (cfgs 0) (rdats m) (V m) r ∧ r.2.sem = fun _ => 0) :=
  RDat.θ_run_frame_track (Q' := _) cfgs (0 : Fin 1) launch0 defs₀ Variants.none (rdats m) m ρ main
    (hbody := fun c => (body_obligation m hbe c).toRRel) (hshare := fun c => (dats m 0 c).share_full fun _ => rfl)
    (howed := fun _ _ => rfl) (V := V m) (hmain := hmain m Variants.none) (hA := A_eq m) (hin := hin m) (hout := hout m)
    (hQ' := fun _ h => h)

include hbe in
/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
      ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩)
    (run_main_quiescent m ρ hbe)

end Cert.Attn.Body

end
-- ==== Proof.Softmax.lean ====
/- The softmax in blocks: a running maximum and a running sum per class of rows give the weights that one maximum and one sum
   over all the rows give, over the extended reals and at the infinities too. -/
module

public import Idealize.ShloMosaic.PureOps.Ideal
public import Idealize.ShloMosaic.Lib.IdealHost

@[expose] public section

noncomputable section

namespace Cert.Softmax

open Idealize.ShloMosaic

theorem exp2_bot_sub {κ : ℝ} (hκ : 0 < κ) (m : EReal) : Ideal.exp2 ((⊥ - m) * (κ : EReal)) = 0 := by
  rw [EReal.bot_sub, EReal.bot_mul_coe_of_pos hκ]; rfl

theorem exp2_sub_top {κ : ℝ} (hκ : 0 < κ) (m : EReal) : Ideal.exp2 ((m - ⊤) * (κ : EReal)) = 0 := by
  rw [EReal.sub_top, EReal.bot_mul_coe_of_pos hκ]; rfl

theorem exp2_nonneg (x : EReal) : 0 ≤ Ideal.exp2 x := by
  induction x with
  | bot => simp
  | top => simp
  | coe r => rw [Ideal.exp2_coe]; exact_mod_cast Real.rpow_nonneg (by norm_num) r

/-- A weight against a running maximum, rescaled to a later one, is the weight against the later one. -/
theorem exp2_split {κ : ℝ} (hκ : 0 < κ) {x m M : EReal} (hxm : x ≤ m) (hmM : m ≤ M) (hM : M ≠ ⊤) (hM' : M ≠ ⊥) :
    Ideal.exp2 ((x - m) * (κ : EReal)) * Ideal.exp2 ((m - M) * (κ : EReal)) = Ideal.exp2 ((x - M) * (κ : EReal)) := by
  lift M to ℝ using ⟨hM, hM'⟩
  induction x with
  | bot => rw [exp2_bot_sub hκ, exp2_bot_sub hκ, zero_mul]
  | top =>
    have : m = ⊤ := top_le_iff.mp hxm
    subst this
    exact absurd (top_le_iff.mp hmM) (EReal.coe_ne_top M)
  | coe x =>
    induction m with
    | bot => exact absurd (le_bot_iff.mp hxm) (EReal.coe_ne_bot x)
    | top => exact absurd (top_le_iff.mp hmM) (EReal.coe_ne_top M)
    | coe m =>
      rw [← EReal.coe_sub, ← EReal.coe_sub, ← EReal.coe_sub, ← EReal.coe_mul, ← EReal.coe_mul, ← EReal.coe_mul, Ideal.exp2_coe,
        Ideal.exp2_coe, Ideal.exp2_coe, ← EReal.coe_mul]
      congr 1
      have := Real.rpow_add (x := 2) (by norm_num) ((x - m) * κ) ((m - M) * κ)
      rw [← add_mul, sub_add_sub_cancel] at this
      exact this.symm

/-- The natural exponential of scaled scores is the power of two of the scores scaled by the constant over `log 2`. -/
theorem exp_scaled {c : ℝ} (hc : 0 < c) {x M : EReal} (hx : x ≤ M) (hM : M ≠ ⊤) (hM' : M ≠ ⊥) :
    Ideal.exp (x * (c : EReal) - M * (c : EReal)) = Ideal.exp2 ((x - M) * ((c * (Real.log 2)⁻¹ : ℝ) : EReal)) := by
  have h2 : 0 < Real.log 2 := Real.log_pos (by norm_num)
  have hκ : 0 < c * (Real.log 2)⁻¹ := mul_pos hc (inv_pos.mpr h2)
  lift M to ℝ using ⟨hM, hM'⟩
  induction x with
  | bot => rw [exp2_bot_sub hκ, EReal.bot_mul_coe_of_pos hc, EReal.bot_sub]; rfl
  | top => exact absurd (top_le_iff.mp hx) (EReal.coe_ne_top M)
  | coe x =>
    rw [← EReal.coe_mul, ← EReal.coe_mul, ← EReal.coe_sub, ← EReal.coe_sub, ← EReal.coe_mul, Ideal.exp2_coe, Ideal.exp_coe]
    rw [show Real.rpow 2 ((x - M) * (c * (Real.log 2)⁻¹)) = Real.exp (Real.log 2 * ((x - M) * (c * (Real.log 2)⁻¹))) from
      Real.rpow_def_of_pos (by norm_num : (0 : ℝ) < 2) _]
    congr 2
    field_simp

variable (κ : ℝ) (s : ℕ → Fin 32 → Fin 8 → EReal)

/-- The running maximum of a class of rows after `n` blocks. -/
def mN : ℕ → Fin 8 → EReal
  | 0, _ => ⊥
  | n + 1, r => max (mN n r) (Finset.univ.sup fun a => s n a r)
/-- The running sum. -/
def lN : ℕ → Fin 8 → EReal
  | 0, _ => 0
  | n + 1, r => lN n r * Ideal.exp2 ((mN s n r - mN s (n + 1) r) * (κ : EReal)) + ∑ a, Ideal.exp2 ((s n a r - mN s (n + 1) r) * (κ : EReal))
/-- The maximum over all the rows. -/
def MM : EReal := Finset.univ.sup fun r => mN s 32 r
/-- The sum over all the rows. -/
def LL : EReal := ∑ r, lN κ s 32 r * Ideal.exp2 ((mN s 32 r - MM s) * (κ : EReal))
/-- The weight of a row. -/
def pK (n : ℕ) (a : Fin 32) (r : Fin 8) : EReal :=
  Ideal.exp2 ((s n a r - mN s (n + 1) r) * (κ : EReal)) * (Ideal.exp2 ((mN s (n + 1) r - MM s) * (κ : EReal)) * Ideal.div 1 (LL κ s))

theorem mN_mono (r : Fin 8) : Monotone fun n => mN s n r := monotone_nat_of_le_succ fun n => le_max_left _ _

theorem s_le_mN (n : ℕ) (a : Fin 32) (r : Fin 8) : s n a r ≤ mN s (n + 1) r :=
  (Finset.le_sup (f := fun a => s n a r) (Finset.mem_univ a)).trans (le_max_right _ _)

theorem mN_le_MM (n : ℕ) (hn : n ≤ 32) (r : Fin 8) : mN s n r ≤ MM s :=
  (mN_mono s r hn).trans (Finset.le_sup (f := fun r => mN s 32 r) (Finset.mem_univ r))

theorem lN_nonneg (n : ℕ) (r : Fin 8) : 0 ≤ lN κ s n r := by
  induction n with
  | zero => exact le_rfl
  | succ n ih => exact add_nonneg (mul_nonneg ih (exp2_nonneg _)) (Finset.sum_nonneg fun a _ => exp2_nonneg _)

theorem sum_mul_of_nonneg {ι : Type} (S : Finset ι) (f : ι → EReal) (hf : ∀ i, 0 ≤ f i) (y : EReal) : (∑ i ∈ S, f i) * y = ∑ i ∈ S, f i * y := by
  classical
  induction S using Finset.induction_on with
  | empty => simp
  | insert i S hi ih => rw [Finset.sum_insert hi, Finset.sum_insert hi, EReal.right_distrib_of_nonneg (hf i) (Finset.sum_nonneg fun j _ => hf j), ih]

theorem lN_eq (hκ : 0 < κ) (hM : MM s ≠ ⊤) (hM' : MM s ≠ ⊥) (n : ℕ) (hn : n ≤ 32) (r : Fin 8) :
    lN κ s n r * Ideal.exp2 ((mN s n r - MM s) * (κ : EReal)) = ∑ k ∈ Finset.range n, ∑ a, Ideal.exp2 ((s k a r - MM s) * (κ : EReal)) := by
  induction n with
  | zero => simp [lN]
  | succ n ih =>
    rw [Finset.sum_range_succ, ← ih (by omega), lN, EReal.right_distrib_of_nonneg (mul_nonneg (lN_nonneg κ s n r) (exp2_nonneg _)) (Finset.sum_nonneg fun a _ => exp2_nonneg _),
      mul_assoc, exp2_split hκ (mN_mono s r (Nat.le_succ n)) (mN_le_MM s _ hn r) hM hM', sum_mul_of_nonneg _ _ (fun a => exp2_nonneg _)]
    congr 1
    exact Finset.sum_congr rfl fun a _ => exp2_split hκ (s_le_mN s n a r) (mN_le_MM s _ hn r) hM hM'

theorem LL_eq (hκ : 0 < κ) (hM : MM s ≠ ⊤) (hM' : MM s ≠ ⊥) :
    LL κ s = ∑ r, ∑ k ∈ Finset.range 32, ∑ a, Ideal.exp2 ((s k a r - MM s) * (κ : EReal)) :=
  Finset.sum_congr rfl fun r _ => lN_eq κ s hκ hM hM' 32 le_rfl r

/-- The weight of a row among all the rows `T`, by the natural exponential of the scores scaled by `c`. -/
def pR {ι : Type} [Fintype ι] (c : ℝ) (T : ι → EReal) (i : ι) : EReal :=
  Ideal.exp (T i * (c : EReal) - Finset.univ.sup fun j => T j * (c : EReal))
    * Ideal.div 1 (∑ k, Ideal.exp (T k * (c : EReal) - Finset.univ.sup fun j => T j * (c : EReal)))

theorem sup_scaled {ι : Type} [Fintype ι] {c : ℝ} (hc : 0 < c) (T : ι → EReal) :
    (Finset.univ.sup fun j => T j * (c : EReal)) = Finset.univ.sup T * (c : EReal) := by
  have hm : Monotone fun x : EReal => x * (c : EReal) := fun x y h => mul_le_mul_of_nonneg_right h (by exact_mod_cast hc.le)
  exact (Finset.comp_sup_eq_sup_comp_of_is_total _ hm (EReal.bot_mul_coe_of_pos hc)).symm

/-- The weights in blocks are the weights. -/
theorem pK_eq {ι : Type} [Fintype ι] {c : ℝ} (hc : 0 < c) (T : ι → EReal) (e : ι ≃ Fin 32 × Fin 32 × Fin 8)
    (hT : ∀ i, T i = s (e i).1.val (e i).2.1 (e i).2.2) (i : ι) :
    pK (c * (Real.log 2)⁻¹) s (e i).1.val (e i).2.1 (e i).2.2 = pR c T i := by
  have h2 : 0 < Real.log 2 := Real.log_pos (by norm_num)
  have hκ : 0 < c * (Real.log 2)⁻¹ := mul_pos hc (inv_pos.mpr h2)
  have hTM : ∀ i, T i ≤ MM s := fun i => by
    rw [hT]; exact (s_le_mN s _ _ _).trans (mN_le_MM s _ (e i).1.isLt _)
  have hs : ∀ (n : ℕ), n ≤ 32 → ∀ r, mN s n r ≤ Finset.univ.sup T := by
    intro n
    induction n with
    | zero => intro _ r; exact bot_le
    | succ n ih =>
      intro hn r
      refine max_le (ih (by omega) r) (Finset.sup_le fun a _ => ?_)
      have := hT (e.symm (⟨n, by omega⟩, a, r))
      rw [e.apply_symm_apply] at this
      exact this ▸ Finset.le_sup (f := T) (Finset.mem_univ _)
  have hMM : Finset.univ.sup T = MM s := le_antisymm (Finset.sup_le fun i _ => hTM i) (Finset.sup_le fun r _ => hs 32 le_rfl r)
  rw [pR, sup_scaled hc, hMM, pK, ← hT]
  by_cases hM' : MM s = ⊥
  · have hb : T i = ⊥ := le_bot_iff.mp (hM' ▸ hTM i)
    rw [hb, exp2_bot_sub hκ, EReal.bot_mul_coe_of_pos hc, EReal.bot_sub, zero_mul, Ideal.exp_bot, zero_mul]
  by_cases hM : MM s = ⊤
  · rw [hM, exp2_sub_top hκ, EReal.top_mul_coe_of_pos hc, EReal.sub_top, Ideal.exp_bot, zero_mul, zero_mul, mul_zero]
  rw [← mul_assoc, hT i, exp2_split hκ (s_le_mN s _ _ _) (mN_le_MM s _ (e i).1.isLt _) hM hM', ← hT i, exp_scaled hc (hTM i) hM hM']
  congr 2
  rw [LL_eq _ s hκ hM hM']
  rw [Finset.sum_congr rfl fun k _ => exp_scaled hc (hTM k) hM hM', ← e.symm.sum_comp, Fintype.sum_prod_type, Finset.sum_comm]
  rw [Finset.sum_range]
  refine Finset.sum_congr rfl fun k _ => ?_
  rw [Fintype.sum_prod_type, Finset.sum_comm]
  refine Finset.sum_congr rfl fun a _ => Finset.sum_congr rfl fun r _ => ?_
  rw [hT, e.apply_symm_apply]

end Cert.Softmax

end
-- ==== Proof.Quant.lean ====
/- The power-of-two scale of a group and its reciprocal, by the exponent field of its scaled maximum: the field found by halving, and
   by counting powers of two, over the extended reals. -/
module

public import Idealize.ShloMosaic.PureOps.Ideal
public import Idealize.ShloMosaic.Lib.IdealHost

@[expose] public section

noncomputable section

namespace Cert.Quant

open Idealize.ShloMosaic

/-- What the pattern with exponent field `k` and no fraction denotes. -/
def T (k : ℕ) : EReal := Ideal.ofBits .f32 (BitVec.ofNat 32 (k * 8388608))

theorem T_zero : T 0 = 0 := by simp [T, Ideal.ofBits, Ideal.ieee]

theorem T_top : T 255 = ⊤ := by simp [T, Ideal.ofBits, Ideal.ieee]

theorem T_coe {k : ℕ} (h0 : 0 < k) (h1 : k < 255) : T k = (((2 : ℝ) ^ ((k : ℤ) - 127) : ℝ) : EReal) := by
  have e1 : ((BitVec.ofNat 32 (k * 8388608)).extractLsb' 23 8).toNat = k := by
    rw [BitVec.extractLsb'_toNat, BitVec.toNat_ofNat, Nat.shiftRight_eq_div_pow]; omega
  have e2 : ((BitVec.ofNat 32 (k * 8388608)).extractLsb' 0 23).toNat = 0 := by
    rw [BitVec.extractLsb'_toNat, BitVec.toNat_ofNat, Nat.shiftRight_eq_div_pow]; omega
  have e3 : ((BitVec.ofNat 32 (k * 8388608)).extractLsb' 31 1) = 0#1 := by
    apply BitVec.eq_of_toNat_eq
    rw [BitVec.extractLsb'_toNat, BitVec.toNat_ofNat, Nat.shiftRight_eq_div_pow]; simp; omega
  show Ideal.ieee 8 23 _ = _
  unfold Ideal.ieee
  simp only [e1, e2, e3]
  rw [if_neg (by omega), if_neg (by omega)]
  congr 1
  have : (2 : ℝ) ^ ((k : ℤ) - 127) = (2 : ℝ) ^ (23 : ℤ) * (2 : ℝ) ^ ((k : ℤ) - (2 ^ (8 - 1) - 1) - (23 : ℕ)) := by
    rw [← zpow_add₀ (by norm_num)]; congr 1; push_cast; ring
  rw [this]
  norm_num

theorem T_lt {j k : ℕ} (h : j < k) (hk : k ≤ 255) : T j < T k := by
  rcases Nat.eq_zero_or_pos j with rfl | hj
  · rw [T_zero]
    rcases Nat.lt_or_eq_of_le hk with hk | rfl
    · rw [T_coe h hk]; exact_mod_cast zpow_pos (by norm_num : (0 : ℝ) < 2) _
    · rw [T_top]; exact EReal.zero_lt_top
  · rcases Nat.lt_or_eq_of_le hk with hk | rfl
    · rw [T_coe hj (by omega), T_coe (by omega) hk]
      exact_mod_cast zpow_lt_zpow_right₀ (by norm_num : (1 : ℝ) < 2) (sub_lt_sub_right (Int.ofNat_lt.mpr h) 127)
    · rw [T_top, T_coe hj h]; exact EReal.coe_lt_top _

theorem T_le {j k : ℕ} (h : j ≤ k) (hk : k ≤ 255) : T j ≤ T k := by
  rcases Nat.lt_or_eq_of_le h with h | rfl
  · exact (T_lt h hk).le
  · exact le_rfl

/-- The exponent field of `x`: the greatest `k` whose power is not above it. -/
def N (x : EReal) : ℕ := ((Finset.range 255).filter fun k => T (k + 1) ≤ x).card

theorem N_le (x : EReal) : N x ≤ 255 := (Finset.card_filter_le _ _).trans (by simp)

theorem le_N {x : EReal} {k : ℕ} (h0 : 0 < k) (h1 : k ≤ 255) : T k ≤ x ↔ k ≤ N x := by
  constructor
  · intro h
    have : Finset.range k ⊆ (Finset.range 255).filter fun k => T (k + 1) ≤ x := fun j hj => by
      rw [Finset.mem_range] at hj
      exact Finset.mem_filter.mpr ⟨Finset.mem_range.mpr (by omega), (T_le (by omega) h1).trans h⟩
    have := Finset.card_le_card this
    rwa [Finset.card_range] at this
  · intro h
    by_contra hn
    have : ((Finset.range 255).filter fun k => T (k + 1) ≤ x) ⊆ Finset.range (k - 1) := fun j hj => by
      rw [Finset.mem_filter, Finset.mem_range] at hj
      rw [Finset.mem_range]
      by_contra hj'
      exact hn ((T_le (by omega) (by omega)).trans hj.2)
    have := Finset.card_le_card this
    rw [Finset.card_range] at this
    unfold N at h
    omega

theorem N_top {x : EReal} : N x = 255 ↔ x = ⊤ := by
  have h := le_N (x := x) (k := 255) (by omega) le_rfl
  rw [T_top, top_le_iff] at h
  have := N_le x
  rw [h]; omega

/-- The count of the powers `2^(-126)` to `2^127` that are not above `x`. -/
theorem count_eq (x : EReal) : ((Finset.range 254).filter fun k => T (k + 1) ≤ x).card = min (N x) 254 := by
  have : ((Finset.range 254).filter fun k => T (k + 1) ≤ x) = Finset.range (min (N x) 254) := by
    ext k
    rw [Finset.mem_filter, Finset.mem_range, Finset.mem_range]
    by_cases hk : k < 254
    · rw [le_N (by omega) (by omega)]; omega
    · omega
  rw [this, Finset.card_range]

/-- The field used: of zero and of the infinity that of one half. -/
def bq (x : EReal) : ℕ := if N x = 0 ∨ N x = 255 then 126 else N x
/-- The scale of the group. -/
def scl (x : EReal) : EReal := T (bq x + 1)
/-- Its reciprocal. -/
def inv (x : EReal) : EReal := T (253 - bq x)

theorem bq_pos (x : EReal) : 0 < bq x := by unfold bq; split <;> omega
theorem bq_lt (x : EReal) : bq x < 255 := by have := N_le x; unfold bq; split <;> omega

/-- One halving: the bit of weight `w` kept if the power is not above `x`. -/
def stp (x : EReal) (w b : BitVec 32) : BitVec 32 := if Ideal.ofBits .f32 ((b + w) <<< (23 : ℕ)) ≤ x then b + w else b

theorem stp_eq {x : EReal} {w b : ℕ} (hw : 0 < w) (h : b + w ≤ 255) :
    stp x (BitVec.ofNat 32 w) (BitVec.ofNat 32 b) = BitVec.ofNat 32 (if b + w ≤ N x then b + w else b) := by
  have e : (BitVec.ofNat 32 b + BitVec.ofNat 32 w) <<< (23 : ℕ) = BitVec.ofNat 32 ((b + w) * 8388608) := by
    rw [← BitVec.ofNat_add]
    apply BitVec.eq_of_toNat_eq
    rw [BitVec.toNat_shiftLeft, BitVec.toNat_ofNat, BitVec.toNat_ofNat, Nat.shiftLeft_eq]; omega
  unfold stp
  rw [e, ← BitVec.ofNat_add]
  have := le_N (x := x) (k := b + w) (by omega) h
  unfold T at this
  by_cases hc : b + w ≤ N x
  · rw [if_pos (this.mpr hc), if_pos hc]
  · rw [if_neg fun h => hc (this.mp h), if_neg hc]

/-- Eight halvings find the exponent field. -/
theorem search_eq (x : EReal) :
    stp x 1#32 (stp x 2#32 (stp x 4#32 (stp x 8#32 (stp x 16#32 (stp x 32#32 (stp x 64#32 (stp x 128#32 0#32))))))) = BitVec.ofNat 32 (N x) := by
  have hN := N_le x
  rw [show stp x 128#32 0#32 = BitVec.ofNat 32 (N x / 128 * 128) from
      (stp_eq (w := 128) (b := 0) (by omega) (by omega)).trans (congrArg _ (by split <;> omega)),
    show stp x 64#32 (BitVec.ofNat 32 (N x / 128 * 128)) = BitVec.ofNat 32 (N x / 64 * 64) from
      (stp_eq (w := 64) (by omega) (by omega)).trans (congrArg _ (by split <;> omega)),
    show stp x 32#32 (BitVec.ofNat 32 (N x / 64 * 64)) = BitVec.ofNat 32 (N x / 32 * 32) from
      (stp_eq (w := 32) (by omega) (by omega)).trans (congrArg _ (by split <;> omega)),
    show stp x 16#32 (BitVec.ofNat 32 (N x / 32 * 32)) = BitVec.ofNat 32 (N x / 16 * 16) from
      (stp_eq (w := 16) (by omega) (by omega)).trans (congrArg _ (by split <;> omega)),
    show stp x 8#32 (BitVec.ofNat 32 (N x / 16 * 16)) = BitVec.ofNat 32 (N x / 8 * 8) from
      (stp_eq (w := 8) (by omega) (by omega)).trans (congrArg _ (by split <;> omega)),
    show stp x 4#32 (BitVec.ofNat 32 (N x / 8 * 8)) = BitVec.ofNat 32 (N x / 4 * 4) from
      (stp_eq (w := 4) (by omega) (by omega)).trans (congrArg _ (by split <;> omega)),
    show stp x 2#32 (BitVec.ofNat 32 (N x / 4 * 4)) = BitVec.ofNat 32 (N x / 2 * 2) from
      (stp_eq (w := 2) (by omega) (by omega)).trans (congrArg _ (by split <;> omega))]
  exact (stp_eq (w := 1) (by omega) (by omega)).trans (congrArg _ (by split <;> omega))

/-- The power of two of an exponent, the infinity above the range and zero below it. -/
def p2 (e : BitVec 32) : EReal :=
  if 127 < e.toInt then ⊤ else if e.toInt < -126 then 0 else Ideal.pow (Ideal.ofBits .f32 0x40000000#32) ((e.toInt : ℝ) : EReal)

theorem ofBits_two : Ideal.ofBits .f32 0x40000000#32 = ((2 : ℝ) : EReal) := by
  have h := T_coe (k := 128) (by omega) (by omega)
  have e : ((2 : ℝ) ^ (((128 : ℕ) : ℤ) - 127)) = 2 := by norm_num
  rw [e] at h
  exact h

theorem pow_two (z : ℤ) : Ideal.pow (Ideal.ofBits .f32 0x40000000#32) ((z : ℝ) : EReal) = (((2 : ℝ) ^ z : ℝ) : EReal) := by
  rw [ofBits_two, Ideal.pow_coe_coe]
  exact congrArg _ (Real.rpow_intCast 2 z)

theorem p2_eq {e : BitVec 32} {k : ℕ} (hk : k ≤ 255) (he : e.toInt = (k : ℤ) - 127) : p2 e = T k := by
  unfold p2
  rw [he]
  by_cases h1 : k = 255
  · subst h1; rw [if_pos (by norm_num), T_top]
  rw [if_neg (by omega)]
  by_cases h0 : k = 0
  · subst h0; rw [if_pos (by norm_num), T_zero]
  rw [if_neg (by omega), pow_two, T_coe (by omega) (by omega)]

theorem p2_zero {e : BitVec 32} (he : e.toInt < -126) : p2 e = T 0 := by
  unfold p2
  rw [if_neg (by omega), if_pos he, T_zero]

/-- The exponent the count of powers gives. -/
def ex (x : EReal) : BitVec 32 := if BitVec.ofNat 32 (min (N x) 254) = 0#32 ∨ x = ⊤ then 0#32 else BitVec.ofNat 32 (min (N x) 254) - 126#32

theorem ex_eq (x : EReal) : (ex x).toInt = (bq x : ℤ) - 126 := by
  have hN := N_le x
  have e0 : BitVec.ofNat 32 (min (N x) 254) = 0#32 ↔ N x = 0 := by
    constructor
    · intro h
      have := congrArg BitVec.toNat h
      rw [BitVec.toNat_ofNat, BitVec.toNat_ofNat] at this
      omega
    · intro h; rw [h]; rfl
  unfold ex bq
  simp only [e0, ← N_top]
  split
  · rfl
  · rename_i h
    rw [show min (N x) 254 = N x by omega, BitVec.toInt_eq_toNat_cond, BitVec.toNat_sub, BitVec.toNat_ofNat, BitVec.toNat_ofNat]
    split <;> omega

theorem ex_scl (x : EReal) : p2 (ex x) = scl x := by
  have := bq_lt x
  exact p2_eq (by omega) (by rw [ex_eq]; push_cast; ring)

theorem ex_inv (x : EReal) : p2 (-ex x) = inv x := by
  have h0 := bq_lt x
  have h1 := bq_pos x
  have e : (-ex x).toInt = 126 - (bq x : ℤ) := by
    rw [BitVec.toInt_neg, ex_eq, Int.bmod_def]; omega
  unfold inv
  by_cases h : bq x ≤ 253
  · exact p2_eq (by omega) (by rw [e]; omega)
  · rw [show 253 - bq x = 0 by omega]
    exact p2_zero (by rw [e]; omega)

end Cert.Quant

end
-- ==== Proof.AttnPoint.lean ====
/- What the pieces of the attention kernel compute, entry by entry, over the extended reals. -/
module

public import proofs.«01_k».proof.Proof.AttnFun
public import proofs.«01_k».proof.Proof.Softmax
public import proofs.«01_k».proof.Proof.Quant
public import Idealize.ShloMosaic.Lib.Pointwise
public import Idealize.ShloMosaic.PureOps.Ideal.Laws

@[expose] public section

set_option maxRecDepth 16384
set_option pp.maxSteps 300

noncomputable section

namespace Cert.AttnIdeal.Body

open Idealize.ShloMosaic Idealize.SL.Sem
open Cert.AttnIdeal Facts₀ Facts
open Cert.MxuAbs Mxu

variable [Facts]

theorem bot_bits : Ideal.ofBits .f32 0xFF800000#32 = ⊥ := by
  simp [Ideal.ofBits, Ideal.ieee]

theorem fold_sup {ι : Type} [Fintype ι] (f : ι → EReal) : Finset.univ.fold max (Ideal.ofBits .f32 0xFF800000#32) f = Finset.univ.sup f := by
  rw [bot_bits]; rfl

/-- The scale of the exponents. -/
def kE : EReal := Named.named (F := Ideal) κ "exp_scale" (φ := .f32) 0x3D8293EE#32

variable (p : Fin 8) (q r : Fin 256) (a : Fin 32) (d : Fin 512)

theorem scM_apply (m : FVec Ideal S8x256 .f32) (v : FVec Ideal S256x256 .f32) :
    scM m v (ix2 p q) = max (m (ix2 p q)) (Finset.univ.sup fun a : Fin 32 => v (ix2 ⟨a.val * 8 + p.val, by omega⟩ q)) := by
  rw [← fold_sup]; unfold scM; pointwise

theorem scB_eq (m : FVec Ideal S8x256 .f32) (v : FVec Ideal S256x256 .f32) : scB m v (ix2 p q) = scM m v (ix2 p q) := by
  unfold scB scM; pointwise

theorem scL_apply (m l : FVec Ideal S8x256 .f32) (v : FVec Ideal S256x256 .f32) :
    scL m l v (ix2 p q) = l (ix2 p q) * Ideal.exp2 ((m (ix2 p q) - scM m v (ix2 p q)) * kE) +
      ∑ a : Fin 32, Ideal.exp2 ((v (ix2 ⟨a.val * 8 + p.val, by omega⟩ q) - scM m v (ix2 p q)) * kE) := by
  unfold scL scM kE; pointwise; rfl

theorem scE_apply (m : FVec Ideal S8x256 .f32) (v : FVec Ideal S256x256 .f32) :
    scE m v (ix2 ⟨a.val * 8 + p.val, by omega⟩ q) = Ideal.exp2 ((v (ix2 ⟨a.val * 8 + p.val, by omega⟩ q) - scM m v (ix2 p q)) * kE) := by
  unfold scE scM kE; pointwise; rfl

theorem pT_apply (B : Vec Ideal S8x256 .f32) (M L : Vec Ideal S1x8x256 .f32) (E : Vec Ideal S256x256 .f32) :
    pT B M L E (ix2 ⟨a.val * 8 + p.val, by omega⟩ q) = E (ix2 ⟨a.val * 8 + p.val, by omega⟩ q) * (Ideal.exp2 ((B (ix2 p q) - M (ix3 0 p q)) * kE) * L (ix3 0 p q)) := by
  unfold pT kE; pointwise; rfl

theorem stM_apply (m : FVec Ideal S8x256 .f32) :
    stM m (ix3 0 p q) = Finset.univ.sup fun p : Fin 8 => m (ix2 p q) := by
  rw [← fold_sup]; unfold stM; pointwise

theorem stL_apply (m l : FVec Ideal S8x256 .f32) :
    stL m l (ix3 0 p q) = Ideal.div 1 (∑ p' : Fin 8, l (ix2 p' q) * Ideal.exp2 ((m (ix2 p' q) - Finset.univ.sup fun p : Fin 8 => m (ix2 p q)) * kE)) := by
  rw [← fold_sup]; unfold stL kE; pointwise; rfl

theorem oP_apply (v : FVec Ideal S512x256 .f32) : oP v (ix2 d q) = v (ix2 d q) := by
  unfold oP; pointwise

theorem prV_apply (v : FVec Ideal S256x256 .f32) (s : Vec Ideal S1x1x256 .f32) (w u : Vec Ideal S256x1 .f32) :
    prV v s w u (ix3 0 r q) = v (ix2 r q) * s (ix3 0 0 q) * w (ix2 r 0) + u (ix2 r 0) := by
  unfold prV; pointwise

theorem prR_apply (v : FVec Ideal S256x256 .f32) (s : Vec Ideal S1x1x256 .f32) (w u : Vec Ideal S256x1 .f32) (x : Vec Ideal S1x256x256 .bf16) :
    prR v s w u x (ix3 0 r q) = x (ix3 0 r q) + (v (ix2 r q) * s (ix3 0 0 q) * w (ix2 r 0) + u (ix2 r 0)) := by
  unfold prR; pointwise

theorem pass_apply (x w : FVec Ideal (STile 256) .bf16) :
    (sg x).pass w (ix2 r q) = ∑ k : Fin 256, w (ix2 r k) * x (ix2 k q) := by
  have h := Ideal.matmul_apply₁ (DotDims.plain 256 256 256) (a := 1) rfl (K := 256) rfl w x (fun _ => 0) (ix2 r q)
  refine (zero_add _).symm.trans (h.trans ((zero_add _).trans ?_))
  refine Finset.sum_congr rfl fun k _ => ?_
  pointwise

theorem pass512_apply (x : FVec Ideal (STile 256) .bf16) (w : FVec Ideal (STile 512) .bf16) :
    (sg x).pass w (ix2 d q) = ∑ k : Fin 256, w (ix2 d k) * x (ix2 k q) := by
  have h := Ideal.matmul_apply₁ (DotDims.plain 512 256 256) (a := 1) rfl (K := 256) rfl w x (fun _ => 0) (ix2 d q)
  refine (zero_add _).symm.trans (h.trans ((zero_add _).trans ?_))
  refine Finset.sum_congr rfl fun k _ => ?_
  pointwise

/-- The scaled maximum of each column. -/
def gV (v : Vec Ideal S512x512 .f32) : FVec Ideal S1x512 .f32 :=
  mulf (shapeCast S1x512 (multiReduction .maximumf [0] S512 (absf v) 0xFF800000#32 reduces_S512x512_S512 (.inl rfl) rfl) shapeCasts_S512_S1x512)
    (broadcast S1x512 (Scalar.ofBits .f32 0x3B124925#32))
/-- One halving of the search. -/
def stpV (g : FVec Ideal S1x512 .f32) (w : BitVec 32) (b : IVec S1x512 32) : IVec S1x512 32 :=
  select (cmpf .oge g (bitcastToFloat .f32 (shli (addi b (broadcast S1x512 w)) (broadcast S1x512 23#32)))) (addi b (broadcast S1x512 w)) b
/-- The search. -/
def srV (g : FVec Ideal S1x512 .f32) : IVec S1x512 32 :=
  stpV g 1#32 (stpV g 2#32 (stpV g 4#32 (stpV g 8#32 (stpV g 16#32 (stpV g 32#32 (stpV g 64#32 (stpV g 128#32 (broadcast S1x512 0#32))))))))
/-- The exponent field kept. -/
def bqV (b : IVec S1x512 32) : IVec S1x512 32 :=
  select (ori (cmpi .eq b (broadcast S1x512 0#32)) (cmpi .eq b (broadcast S1x512 255#32))) (broadcast S1x512 126#32) b
/-- The scale. -/
def sclV (b : IVec S1x512 32) : FVec Ideal S1x512 .f32 :=
  bitcastToFloat .f32 (shli (addi b (broadcast S1x512 1#32)) (broadcast S1x512 23#32))
/-- Its reciprocal. -/
def invV (b : IVec S1x512 32) : FVec Ideal S1x512 .f32 :=
  bitcastToFloat .f32 (shli (maxsi (subi (broadcast S1x512 253#32) b) (broadcast S1x512 0#32)) (broadcast S1x512 23#32))
/-- The codes. -/
def cdV (v : Vec Ideal S512x512 .f32) (s : FVec Ideal S1x512 .f32) : FVec Ideal S1x512x512 .fp8e4m3 :=
  shapeCast S1x512x512 (truncf .fp8e4m3 (minimumf (broadcast S512x512 (Scalar.ofBits .f32 0x43E00000#32)) (maximumf (broadcast S512x512 (Scalar.ofBits .f32 0xC3E00000#32))
    (mulf v (broadcastTo S512x512 s broadcasts_S1x512_S512x512)))) bitsLt_fp8e4m3_f32) shapeCasts_S512x512_S1x512x512

theorem qCodes_eq (v : Vec Ideal S512x512 .f32) : qCodes v = cdV v (invV (bqV (srV (gV v)))) := rfl
theorem qScale_eq (v : Vec Ideal S512x512 .f32) : qScale v = shapeCast S1x1x512 (sclV (bqV (srV (gV v)))) shapeCasts_S1x512_S1x1x512 := rfl

variable (e : Fin 512)

theorem gV_apply (v : Vec Ideal S512x512 .f32) :
    gV v (ix2 0 e) = (Finset.univ.sup fun d : Fin 512 => max (v (ix2 d e)) (-v (ix2 d e))) * Ideal.ofBits .f32 0x3B124925#32 := by
  rw [← fold_sup]; unfold gV; pointwise; rfl

theorem stpV_apply (g : FVec Ideal S1x512 .f32) (w : BitVec 32) (b : IVec S1x512 32) :
    stpV g w b (ix2 0 e) = Quant.stp (g (ix2 0 e)) w (b (ix2 0 e)) := by
  unfold stpV Quant.stp; pointwise
  rfl
theorem srV_apply (g : FVec Ideal S1x512 .f32) :
    srV g (ix2 0 e) = BitVec.ofNat 32 (Quant.N (g (ix2 0 e))) := by
  unfold srV; simp only [stpV_apply]; exact Quant.search_eq _
theorem bqV_apply (b : IVec S1x512 32) (x : EReal) (h : b (ix2 0 e) = BitVec.ofNat 32 (Quant.N x)) :
    bqV b (ix2 0 e) = BitVec.ofNat 32 (Quant.bq x) := by
  unfold bqV; pointwise
  rw [h]
  unfold Quant.bq
  unfold Scalar.select IntOp.ori IntOp.cmpi
  have hN := Quant.N_le x
  generalize Quant.N x = n at hN
  have e0 : (BitVec.ofNat 32 n == 0#32) = decide (n = 0) := by
    rw [Bool.eq_iff_iff, beq_iff_eq, decide_eq_true_iff]
    constructor
    · intro h; have := congrArg BitVec.toNat h; simp only [BitVec.toNat_ofNat] at this; omega
    · rintro rfl; rfl
  have e1 : (BitVec.ofNat 32 n == 255#32) = decide (n = 255) := by
    rw [Bool.eq_iff_iff, beq_iff_eq, decide_eq_true_iff]
    constructor
    · intro h; have := congrArg BitVec.toNat h; simp only [BitVec.toNat_ofNat] at this; omega
    · rintro rfl; rfl
  simp only [e0, e1]
  by_cases h0 : n = 0
  · subst h0; rfl
  · by_cases h1 : n = 255
    · subst h1; rfl
    · simp [h0, h1]
theorem shl_scl : ∀ n : Fin 255, IntOp.shli ArithUnit.vector (IntOp.addi (BitVec.ofNat 32 n.val) 1#32) 23#32 = BitVec.ofNat 32 ((n.val + 1) * 8388608) := by
  decide +kernel
theorem shl_inv : ∀ n : Fin 255, IntOp.shli ArithUnit.vector (IntOp.maxsi (IntOp.subi (253#32) (BitVec.ofNat 32 n.val)) 0#32) 23#32 = BitVec.ofNat 32 ((253 - n.val) * 8388608) := by
  decide +kernel

theorem sclV_apply (b : IVec S1x512 32) (x : EReal) (h : b (ix2 0 e) = BitVec.ofNat 32 (Quant.bq x)) :
    sclV b (ix2 0 e) = Quant.scl x := by
  unfold sclV; pointwise
  rw [h]
  exact congrArg (Ideal.ofBits .f32) (shl_scl ⟨Quant.bq x, Quant.bq_lt x⟩)
theorem invV_apply (b : IVec S1x512 32) (x : EReal) (h : b (ix2 0 e) = BitVec.ofNat 32 (Quant.bq x)) :
    invV b (ix2 0 e) = Quant.inv x := by
  unfold invV; pointwise
  rw [h]
  exact congrArg (Ideal.ofBits .f32) (shl_inv ⟨Quant.bq x, Quant.bq_lt x⟩)
theorem cdV_apply (v : Vec Ideal S512x512 .f32) (s : FVec Ideal S1x512 .f32) :
    cdV v s (ix3 0 d e) = min (Ideal.ofBits .f32 0x43E00000#32) (max (Ideal.ofBits .f32 0xC3E00000#32) (v (ix2 d e) * s (ix2 0 e))) := by
  unfold cdV; pointwise

end Cert.AttnIdeal.Body

end
-- ==== Proof.AttnCells.lean ====
/- What the attention kernel's blocks leave in the scratch, cell by cell, over the extended reals. -/
module

public import proofs.«01_k».proof.Proof.AttnPoint

@[expose] public section

set_option maxRecDepth 16384
set_option pp.maxSteps 300

noncomputable section

namespace Cert.AttnIdeal.Body

open Idealize.ShloMosaic Idealize.SL.Sem
open Cert.AttnIdeal Facts₀ Facts
open Cert.MxuAbs Mxu

variable [Facts]

/-- The exponents' scale is the reference's over the logarithm of two. -/
theorem kE_eq : kE = (((11863283 / 268435456 * (Real.log 2)⁻¹ : ℝ)) : EReal) :=
  IdealRules.named_const.ideal_named_scalar _ _ _ _ rfl

/-- Column `r` of unit `q`. -/
def ln (q : Fin 2) (r : Fin 256) : Fin 512 := ⟨256 * q.val + r.val, by omega⟩
/-- Row `i` of block `j`. -/
def rw' (j : Fin 32) (i : Fin 256) : Fin 8192 := ⟨256 * j.val + i.val, by omega⟩
/-- Row `p` of the maxima of block `j`. -/
def rb (j : Fin 32) (p : Fin 8) : Fin 256 := ⟨8 * j.val + p.val, by omega⟩
/-- Row `8 a + p` of a block. -/
def r8 (a : Fin 32) (p : Fin 8) : Fin 256 := ⟨a.val * 8 + p.val, by omega⟩

/-! ## Stores, cell by cell -/

theorem ov_hit {s : Shape} {α : Type} (r : Rect s) (X : s.Idx → α) (G : r.shape.Idx → α) (i : r.shape.Idx) (j : s.Idx)
    (h : ∀ a, (r.emb i a).val = (j a).val) : r.overlay X G j = G i := by
  rw [show j = r.emb i from funext fun a => Fin.ext (h a).symm]
  exact r.overlay_emb X G i

theorem ov_miss {s : Shape} {α : Type} (r : Rect s) (X : s.Idx → α) (G : r.shape.Idx → α) (j : s.Idx) (a : Fin s.rank)
    (h : ∀ i : r.shape.Idx, (r.emb i a).val ≠ (j a).val) : r.overlay X G j = X j := by
  refine r.overlay_of_not_mem X G fun hm => ?_
  rw [← Rect.map_emb_univ] at hm
  obtain ⟨i, _, hi⟩ := Finset.mem_map.mp hm
  exact h i (by rw [hi])

section
variable {α : Type} (j j' : Fin 32) (q q' : Fin 2) (i r : Fin 256) (p : Fin 8) (k k' : Fin 2) (d : Fin 512)

theorem eR_hit (X : S8192x512.Idx → α) (G : S256x256.Idx → α) : (eR j q).overlay X G (ix2 (rw' j i) (ln q r)) = G (ix2 i r) := by
  refine ov_hit (eR j q) X G (ix2 i r) _ fun a => ?_
  match a with
  | 0 => show 256 * j.val + 1 * i.val = 256 * j.val + i.val; omega
  | 1 => show 256 * q.val + 1 * r.val = 256 * q.val + r.val; omega
theorem eR_col (h : q' ≠ q) (X : S8192x512.Idx → α) (G : S256x256.Idx → α) : (eR j' q').overlay X G (ix2 (rw' j i) (ln q r)) = X (ix2 (rw' j i) (ln q r)) := by
  refine ov_miss (eR j' q') X G _ 1 fun x => ?_
  show 256 * q'.val + 1 * (x 1).val ≠ 256 * q.val + r.val
  have : (x 1).val < 256 := (x 1).isLt
  have : q'.val ≠ q.val := fun e => h (Fin.ext e)
  omega
theorem eR_row (h : j' ≠ j) (X : S8192x512.Idx → α) (G : S256x256.Idx → α) : (eR j' q').overlay X G (ix2 (rw' j i) (ln q r)) = X (ix2 (rw' j i) (ln q r)) := by
  refine ov_miss (eR j' q') X G _ 0 fun x => ?_
  show 256 * j'.val + 1 * (x 0).val ≠ 256 * j.val + i.val
  have : (x 0).val < 256 := (x 0).isLt
  have : j'.val ≠ j.val := fun e => h (Fin.ext e)
  omega
theorem bR_hit (X : S256x512.Idx → α) (G : S8x256.Idx → α) : (bR j q).overlay X G (ix2 (rb j p) (ln q r)) = G (ix2 p r) := by
  refine ov_hit (bR j q) X G (ix2 p r) _ fun a => ?_
  match a with
  | 0 => show 8 * j.val + 1 * p.val = 8 * j.val + p.val; omega
  | 1 => show 256 * q.val + 1 * r.val = 256 * q.val + r.val; omega
theorem bR_col (h : q' ≠ q) (X : S256x512.Idx → α) (G : S8x256.Idx → α) : (bR j' q').overlay X G (ix2 (rb j p) (ln q r)) = X (ix2 (rb j p) (ln q r)) := by
  refine ov_miss (bR j' q') X G _ 1 fun x => ?_
  show 256 * q'.val + 1 * (x 1).val ≠ 256 * q.val + r.val
  have : (x 1).val < 256 := (x 1).isLt
  have : q'.val ≠ q.val := fun e => h (Fin.ext e)
  omega
theorem bR_row (h : j' ≠ j) (X : S256x512.Idx → α) (G : S8x256.Idx → α) : (bR j' q').overlay X G (ix2 (rb j p) (ln q r)) = X (ix2 (rb j p) (ln q r)) := by
  refine ov_miss (bR j' q') X G _ 0 fun x => ?_
  show 8 * j'.val + 1 * (x 0).val ≠ 8 * j.val + p.val
  have : (x 0).val < 8 := (x 0).isLt
  have : j'.val ≠ j.val := fun e => h (Fin.ext e)
  omega
theorem sR_hit (X : S2x8x512.Idx → α) (G : S1x8x256.Idx → α) : (sR k q).overlay X G (ix3 k p (ln q r)) = G (ix3 0 p r) := by
  refine ov_hit (sR k q) X G (ix3 0 p r) _ fun a => ?_
  match a with
  | 0 => show k.val + 1 * 0 = k.val; omega
  | 1 => show 0 + 1 * p.val = p.val; omega
  | 2 => show 256 * q.val + 1 * r.val = 256 * q.val + r.val; omega
theorem sR_col (h : q' ≠ q) (X : S2x8x512.Idx → α) (G : S1x8x256.Idx → α) : (sR k' q').overlay X G (ix3 k p (ln q r)) = X (ix3 k p (ln q r)) := by
  refine ov_miss (sR k' q') X G _ 2 fun x => ?_
  show 256 * q'.val + 1 * (x 2).val ≠ 256 * q.val + r.val
  have : (x 2).val < 256 := (x 2).isLt
  have : q'.val ≠ q.val := fun e => h (Fin.ext e)
  omega
theorem sR_row (h : k' ≠ k) (X : S2x8x512.Idx → α) (G : S1x8x256.Idx → α) : (sR k' q').overlay X G (ix3 k p (ln q r)) = X (ix3 k p (ln q r)) := by
  refine ov_miss (sR k' q') X G _ 0 fun x => ?_
  show k'.val + 1 * (x 0).val ≠ k.val
  have : (x 0).val < 1 := (x 0).isLt
  have : k'.val ≠ k.val := fun e => h (Fin.ext e)
  omega
theorem oR_hit (X : S512x512.Idx → α) (G : S512x256.Idx → α) : (oR q).overlay X G (ix2 d (ln q r)) = G (ix2 d r) := by
  refine ov_hit (oR q) X G (ix2 d r) _ fun a => ?_
  match a with
  | 0 => show 0 + 1 * d.val = d.val; omega
  | 1 => show 256 * q.val + 1 * r.val = 256 * q.val + r.val; omega
theorem oR_col (h : q' ≠ q) (X : S512x512.Idx → α) (G : S512x256.Idx → α) : (oR q').overlay X G (ix2 d (ln q r)) = X (ix2 d (ln q r)) := by
  refine ov_miss (oR q') X G _ 1 fun x => ?_
  show 256 * q'.val + 1 * (x 1).val ≠ 256 * q.val + r.val
  have : (x 1).val < 256 := (x 1).isLt
  have : q'.val ≠ q.val := fun e => h (Fin.ext e)
  omega
theorem yR_hit (X : S1x512x512.Idx → α) (G : S1x256x256.Idx → α) : (yR k q).overlay X G (ix3 0 (ln k i) (ln q r)) = G (ix3 0 i r) := by
  refine ov_hit (yR k q) X G (ix3 0 i r) _ fun a => ?_
  match a with
  | 0 => rfl
  | 1 => show 256 * k.val + 1 * i.val = 256 * k.val + i.val; omega
  | 2 => show 256 * q.val + 1 * r.val = 256 * q.val + r.val; omega
theorem yR_col (h : q' ≠ q) (X : S1x512x512.Idx → α) (G : S1x256x256.Idx → α) : (yR k' q').overlay X G (ix3 0 (ln k i) (ln q r)) = X (ix3 0 (ln k i) (ln q r)) := by
  refine ov_miss (yR k' q') X G _ 2 fun x => ?_
  show 256 * q'.val + 1 * (x 2).val ≠ 256 * q.val + r.val
  have : (x 2).val < 256 := (x 2).isLt
  have : q'.val ≠ q.val := fun e => h (Fin.ext e)
  omega
theorem yR_row (h : k' ≠ k) (X : S1x512x512.Idx → α) (G : S1x256x256.Idx → α) : (yR k' q').overlay X G (ix3 0 (ln k i) (ln q r)) = X (ix3 0 (ln k i) (ln q r)) := by
  refine ov_miss (yR k' q') X G _ 1 fun x => ?_
  show 256 * k'.val + 1 * (x 1).val ≠ 256 * k.val + i.val
  have : (x 1).val < 256 := (x 1).isLt
  have : k'.val ≠ k.val := fun e => h (Fin.ext e)
  omega
end

theorem q01 (q : Fin 2) : q = 0 ∨ q = 1 := by omega

section
variable (Q : Vec Ideal S1x512x512 .bf16) (K : Vec Ideal S1x8192x512 .bf16) (V : Vec Ideal S1x512x8192 .bf16) (S : Vec Ideal S2x8x512 .f32)

/-- The scores of column `r` of unit `q`, by block, row over eight and row modulo eight. -/
def sK (q : Fin 2) (r : Fin 256) (n : ℕ) (a : Fin 32) (p : Fin 8) : EReal :=
  if h : n < 32 then sc Q K ⟨n, h⟩ q (ix2 (r8 a p) r) else 0

theorem sK_eq (q : Fin 2) (r : Fin 256) (j : Fin 32) (a : Fin 32) (p : Fin 8) : sK Q K q r j.val a p = sc Q K j q (ix2 (r8 a p) r) := by
  unfold sK; rw [dif_pos j.isLt]

/-- A run whose blocks take the scores. -/
structure SRun (E : Vec Ideal S8192x512 .f32) (B : Vec Ideal S256x512 .f32) (run : ℕ → BS Ideal) : Prop where
  zero : run 0 = bs0 E B
  m : ∀ (j : Fin 32) (q : Fin 2), (run (j.val + 1)).m q = scM ((run j.val).m q) (sc Q K j q)
  l : ∀ (j : Fin 32) (q : Fin 2), (run (j.val + 1)).l q = scL ((run j.val).m q) ((run j.val).l q) (sc Q K j q)
  e : ∀ j : Fin 32, (run (j.val + 1)).f12 = (eR j 1).overlay ((eR j 0).overlay (run j.val).f12 (scE ((run j.val).m 0) (sc Q K j 0))) (scE ((run j.val).m 1) (sc Q K j 1))
  b : ∀ j : Fin 32, (run (j.val + 1)).f13 = (bR j 1).overlay ((bR j 0).overlay (run j.val).f13 (scB ((run j.val).m 0) (sc Q K j 0))) (scB ((run j.val).m 1) (sc Q K j 1))

theorem srun_S (E : Vec Ideal S8192x512 .f32) (B : Vec Ideal S256x512 .f32) : SRun Q K E B (runB (stepS Q K) (bs0 E B)) where
  zero := rfl
  m j q := by rw [runB_succ]; rfl
  l j q := by rw [runB_succ]; rfl
  e j := by rw [runB_succ]; rfl
  b j := by rw [runB_succ]; rfl
theorem srun_SV (E : Vec Ideal S8192x512 .f32) (B : Vec Ideal S256x512 .f32) : SRun Q K E B (runB (stepSV Q K V S) (bs0 E B)) where
  zero := rfl
  m j q := by rw [runB_succ]; rfl
  l j q := by rw [runB_succ]; rfl
  e j := by rw [runB_succ]; rfl
  b j := by rw [runB_succ]; rfl

variable {Q K} {E : Vec Ideal S8192x512 .f32} {B : Vec Ideal S256x512 .f32} {run : ℕ → BS Ideal} (R : SRun Q K E B run)
include R

/-- The scale as a real number. -/
abbrev kR : ℝ := 11863283 / 268435456 * (Real.log 2)⁻¹

theorem SRun.m_eq (q : Fin 2) (r : Fin 256) (n : ℕ) (hn : n ≤ 32) (p : Fin 8) : (run n).m q (ix2 p r) = Softmax.mN (sK Q K q r) n p := by
  induction n with
  | zero => rw [R.zero]; exact bot_bits
  | succ n ih =>
    rw [R.m ⟨n, hn⟩ q, scM_apply, ih (by omega), Softmax.mN]
    congr 2
    funext a
    exact (sK_eq Q K q r ⟨n, hn⟩ a p).symm

theorem SRun.l_eq (q : Fin 2) (r : Fin 256) (n : ℕ) (hn : n ≤ 32) (p : Fin 8) : (run n).l q (ix2 p r) = Softmax.lN kR (sK Q K q r) n p := by
  induction n with
  | zero => rw [R.zero]; exact Ideal.ofBits_zero .f32
  | succ n ih =>
    have hm := R.m_eq q r (n + 1) hn p
    rw [R.m ⟨n, hn⟩ q] at hm
    rw [R.l ⟨n, hn⟩ q, scL_apply, ih (by omega), Softmax.lN, hm, R.m_eq q r n (by omega) p, kE_eq]
    congr 1
    refine Finset.sum_congr rfl fun a _ => ?_
    rw [show sK Q K q r n a p = _ from sK_eq Q K q r ⟨n, hn⟩ a p]
    rfl

/-- A cell of the exponentials after `n` blocks: of its block if that is done, as at first if not. -/
theorem SRun.e_old (j : Fin 32) (i : Fin 256) (q : Fin 2) (r : Fin 256) (n : ℕ) (hn : n ≤ j.val) :
    (run n).f12 (ix2 (rw' j i) (ln q r)) = E (ix2 (rw' j i) (ln q r)) := by
  induction n with
  | zero => rw [R.zero]; rfl
  | succ n ih =>
    have hne : (⟨n, by omega⟩ : Fin 32) ≠ j := fun h => by have := congrArg Fin.val h; simp only at this; omega
    rw [R.e ⟨n, by omega⟩, eR_row _ _ _ _ _ _ hne, eR_row _ _ _ _ _ _ hne, ih (by omega)]
theorem SRun.b_old (j : Fin 32) (p : Fin 8) (q : Fin 2) (r : Fin 256) (n : ℕ) (hn : n ≤ j.val) :
    (run n).f13 (ix2 (rb j p) (ln q r)) = B (ix2 (rb j p) (ln q r)) := by
  induction n with
  | zero => rw [R.zero]; rfl
  | succ n ih =>
    have hne : (⟨n, by omega⟩ : Fin 32) ≠ j := fun h => by have := congrArg Fin.val h; simp only at this; omega
    rw [R.b ⟨n, by omega⟩, bR_row _ _ _ _ _ _ hne, bR_row _ _ _ _ _ _ hne, ih (by omega)]

theorem SRun.e_new (j : Fin 32) (a : Fin 32) (p : Fin 8) (q : Fin 2) (r : Fin 256) (n : ℕ) (hn : j.val < n) (h32 : n ≤ 32) :
    (run n).f12 (ix2 (rw' j (r8 a p)) (ln q r)) = Ideal.exp2 ((sK Q K q r j.val a p - Softmax.mN (sK Q K q r) (j.val + 1) p) * kE) := by
  induction n, hn using Nat.le_induction with
  | base =>
    have hm := R.m_eq q r (j.val + 1) h32 p
    rw [R.m j q] at hm
    rw [sK_eq, ← hm, R.e j]
    have hs : scE ((run j.val).m q) (sc Q K j q) (ix2 (r8 a p) r) = _ := scE_apply p r a _ _
    refine Eq.trans ?_ hs
    rcases q01 q with rfl | rfl
    · rw [eR_col _ _ _ _ _ _ (by decide), eR_hit]
    · rw [eR_hit]
  | succ n hn ih =>
    have hne : (⟨n, by omega⟩ : Fin 32) ≠ j := fun h => by have := congrArg Fin.val h; simp only at this; omega
    rw [R.e ⟨n, by omega⟩, eR_row _ _ _ _ _ _ hne, eR_row _ _ _ _ _ _ hne, ih (by omega)]

theorem SRun.b_new (j : Fin 32) (p : Fin 8) (q : Fin 2) (r : Fin 256) (n : ℕ) (hn : j.val < n) (h32 : n ≤ 32) :
    (run n).f13 (ix2 (rb j p) (ln q r)) = Softmax.mN (sK Q K q r) (j.val + 1) p := by
  induction n, hn using Nat.le_induction with
  | base =>
    have hm := R.m_eq q r (j.val + 1) h32 p
    rw [R.m j q] at hm
    rw [← hm, R.b j, ← scB_eq]
    clear hm
    rcases q01 q with rfl | rfl
    · rw [bR_col _ _ _ _ _ _ (by decide), bR_hit]
    · rw [bR_hit]
  | succ n hn ih =>
    have hne : (⟨n, by omega⟩ : Fin 32) ≠ j := fun h => by have := congrArg Fin.val h; simp only at this; omega
    rw [R.b ⟨n, by omega⟩, bR_row _ _ _ _ _ _ hne, bR_row _ _ _ _ _ _ hne, ih (by omega)]

/-- The statistics stored. -/
theorem SRun.stat0 (X : Vec Ideal S2x8x512 .f32) (p : Fin 8) (q : Fin 2) (r : Fin 256) :
    statF X (run 32) (ix3 0 p (ln q r)) = Softmax.MM (sK Q K q r) := by
  have h : stM ((run 32).m q) (ix3 0 p r) = Softmax.MM (sK Q K q r) := by
    rw [stM_apply, Softmax.MM]; congr 1; funext p'; exact R.m_eq q r 32 le_rfl p'
  rw [← h]; clear h
  unfold statF
  rcases q01 q with rfl | rfl
  · rw [sR_row _ _ _ _ _ _ (by decide), sR_col _ _ _ _ _ _ (by decide), sR_row _ _ _ _ _ _ (by decide), sR_hit]
  · rw [sR_row _ _ _ _ _ _ (by decide), sR_hit]
theorem SRun.stat1 (X : Vec Ideal S2x8x512 .f32) (p : Fin 8) (q : Fin 2) (r : Fin 256) :
    statF X (run 32) (ix3 1 p (ln q r)) = Ideal.div 1 (Softmax.LL kR (sK Q K q r)) := by
  have h : stL ((run 32).m q) ((run 32).l q) (ix3 0 p r) = Ideal.div 1 (Softmax.LL kR (sK Q K q r)) := by
    rw [stL_apply, Softmax.LL, Softmax.MM, kE_eq]
    congr 1
    refine Finset.sum_congr rfl fun p' _ => ?_
    rw [R.m_eq q r 32 le_rfl p', R.l_eq q r 32 le_rfl p']
    congr 5
    funext p''; exact R.m_eq q r 32 le_rfl p''
  rw [← h]; clear h
  unfold statF
  rcases q01 q with rfl | rfl
  · rw [sR_col _ _ _ _ _ _ (by decide), sR_col _ _ _ _ _ _ (by decide), sR_hit]
  · rw [sR_hit]
end

end Cert.AttnIdeal.Body

end
-- ==== Proof.AttnOut.lean ====
/- What the attention kernel's blocks of values and its projection leave, cell by cell, over the extended reals. -/
module

public import proofs.«01_k».proof.Proof.AttnCells
public import proofs.«01_k».proof.Proof.AttnTrips

@[expose] public section

set_option maxRecDepth 16384
set_option pp.maxSteps 300

noncomputable section

namespace Cert.AttnIdeal.Body

open Idealize.ShloMosaic Idealize.SL.Sem
open Cert.AttnIdeal Facts₀ Facts
open Cert.MxuAbs Mxu

variable [Facts]

/-! ## Sums cut in tiles -/

/-- A sum over 512 in two halves. -/
theorem sum512 (f : Fin 512 → EReal) : (∑ k, f (ln 0 k)) + (∑ k, f (ln 1 k)) = ∑ c, f c := by
  have h := Fin.sum_univ_add (M := EReal) (a := 256) (b := 256) f
  refine Eq.trans ?_ h.symm
  congr 1

/-- A row of 8192 as its block and the row in it. -/
def e2 : Fin 8192 ≃ Fin 32 × Fin 256 where
  toFun i := (⟨i.val / 256, by omega⟩, ⟨i.val % 256, by omega⟩)
  invFun x := rw' x.1 x.2
  left_inv i := Fin.ext (by show 256 * (i.val / 256) + i.val % 256 = i.val; omega)
  right_inv x := Prod.ext (Fin.ext (by show (256 * x.1.val + x.2.val) / 256 = x.1.val; omega)) (Fin.ext (by show (256 * x.1.val + x.2.val) % 256 = x.2.val; omega))

/-- A row of 8192 as its block, row over eight and row modulo eight. -/
def e3 : Fin 8192 ≃ Fin 32 × Fin 32 × Fin 8 where
  toFun i := (⟨i.val / 256, by omega⟩, ⟨i.val % 256 / 8, by omega⟩, ⟨i.val % 8, by omega⟩)
  invFun x := rw' x.1 (r8 x.2.1 x.2.2)
  left_inv i := Fin.ext (by show 256 * (i.val / 256) + (i.val % 256 / 8 * 8 + i.val % 8) = i.val; omega)
  right_inv x := Prod.ext (Fin.ext (by show (256 * x.1.val + (x.2.1.val * 8 + x.2.2.val)) / 256 = x.1.val; omega))
    (Prod.ext (Fin.ext (by show (256 * x.1.val + (x.2.1.val * 8 + x.2.2.val)) % 256 / 8 = x.2.1.val; omega))
      (Fin.ext (by show (256 * x.1.val + (x.2.1.val * 8 + x.2.2.val)) % 8 = x.2.2.val; omega)))

theorem sum8192 (f : Fin 8192 → EReal) : (∑ j : Fin 32, ∑ k : Fin 256, f (rw' j k)) = ∑ i, f i := by
  rw [← Fintype.sum_prod_type' (fun j k => f (rw' j k))]
  exact (Equiv.sum_comp e2.symm f)

/-! ## Loads and tiles -/

section
variable (j : Fin 32) (f h q : Fin 2) (k i r : Fin 256) (d : Fin 512) (a : Fin 32) (p : Fin 8)

theorem cast3 {φ : FTy} (G : FVec Ideal S1x256x256 φ) : shapeCast S256x256 G shapeCasts_S1x256x256_S256x256 (ix2 i r) = G (ix3 0 i r) := by pointwise
theorem castV {φ : FTy} (G : FVec Ideal S1x512x256 φ) : shapeCast S512x256 G shapeCasts_S1x512x256_S512x256 (ix2 d r) = G (ix3 0 d r) := by pointwise
theorem cast2 {φ : FTy} (G : FVec Ideal S256x256 φ) : shapeCast S256x256 G shapeCasts_S256x256_S256x256 (ix2 i r) = G (ix2 i r) := by pointwise

theorem ldY {e : EltTy} (Q : Vec Ideal S1x512x512 e) : View.ld Q (yR f q) (ix3 0 k r) = Q (ix3 0 (ln f k) (ln q r)) := by unfold ln; pointwise
theorem ldK (K : Vec Ideal S1x8192x512 .bf16) : View.ld K (Rect.unit ![0, 256 * j.val, 256 * f.val] S1x256x256.size (inbK j f)) (ix3 0 i k) = K (ix3 0 (rw' j i) (ln f k)) := by unfold ln rw'; pointwise
theorem ldV (V : Vec Ideal S1x512x8192 .bf16) : View.ld V (Rect.unit ![0, 0, 256 * j.val] S1x512x256.size (inbV j)) (ix3 0 d k) = V (ix3 0 d (rw' j k)) := by unfold rw'; pointwise
theorem ldW (W : Vec Ideal S512x512 .fp8e4m3) : View.ld W (Rect.unit ![256 * h.val, 256 * f.val] S256x256.size (inbW h f)) (ix2 i k) = W (ix2 (ln h i) (ln f k)) := by unfold ln; pointwise

theorem qB_apply (Q : Vec Ideal S1x512x512 .bf16) : qB Q f q (ix2 k r) = Q (ix3 0 (ln f k) (ln q r)) :=
  (cast3 k r _).trans (ldY f q k r Q)
theorem kB_apply (K : Vec Ideal S1x8192x512 .bf16) : kB K j f (ix2 i k) = K (ix3 0 (rw' j i) (ln f k)) :=
  (cast3 i k _).trans (ldK j f k i K)
theorem vB_apply (V : Vec Ideal S1x512x8192 .bf16) : vB V j (ix2 d k) = V (ix3 0 d (rw' j k)) :=
  (castV k d _).trans (ldV j k d V)
theorem cB_apply (C : Vec Ideal S1x512x512 .fp8e4m3) : cB C f q (ix2 k r) = C (ix3 0 (ln f k) (ln q r)) :=
  (cast3 (φ := .fp8e4m3) k r _).trans (ldY f q k r C)
theorem wB_apply (W : Vec Ideal S512x512 .fp8e4m3) : wB W h f (ix2 i k) = W (ix2 (ln h i) (ln f k)) :=
  (cast2 (φ := .fp8e4m3) i k _).trans (ldW f h k i W)

theorem sc_apply (Q : Vec Ideal S1x512x512 .bf16) (K : Vec Ideal S1x8192x512 .bf16) :
    sc Q K j q (ix2 i r) = ∑ c : Fin 512, Q (ix3 0 c (ln q r)) * K (ix3 0 (rw' j i) c) := by
  rw [← sum512]
  show (sg (qB Q 0 q)).pass (kB K j 0) (ix2 i r) + (sg (qB Q 1 q)).pass (kB K j 1) (ix2 i r) = _
  have e : ∀ f, (sg (qB Q f q)).pass (kB K j f) (ix2 i r) = ∑ k, Q (ix3 0 (ln f k) (ln q r)) * K (ix3 0 (rw' j i) (ln f k)) := fun f => by
    rw [pass_apply]
    refine Finset.sum_congr rfl fun k _ => ?_
    rw [qB_apply, kB_apply, mul_comm]
  rw [e, e]

theorem pj_apply (C : Vec Ideal S1x512x512 .fp8e4m3) (W : Vec Ideal S512x512 .fp8e4m3) :
    pj C W h q (ix2 i r) = ∑ c : Fin 512, W (ix2 (ln h i) c) * C (ix3 0 c (ln q r)) := by
  rw [← sum512]
  show (sg (cB C 0 q)).pass (wB W h 0) (ix2 i r) + (sg (cB C 1 q)).pass (wB W h 1) (ix2 i r) = _
  have e : ∀ f, (sg (cB C f q)).pass (wB W h f) (ix2 i r) = ∑ k, W (ix2 (ln h i) (ln f k)) * C (ix3 0 (ln f k) (ln q r)) := fun f => by
    rw [pass_apply]
    refine Finset.sum_congr rfl fun k _ => ?_
    rw [cB_apply, wB_apply]
  rw [e, e]

theorem pB_apply (E : Vec Ideal S8192x512 .f32) (B : Vec Ideal S256x512 .f32) (S : Vec Ideal S2x8x512 .f32) :
    pB E B S j q (ix2 (r8 a p) r) = E (ix2 (rw' j (r8 a p)) (ln q r)) * (Ideal.exp2 ((B (ix2 (rb j p) (ln q r)) - S (ix3 0 p (ln q r))) * kE) * S (ix3 1 p (ln q r))) := by
  have h1 : View.ld E (eR j q) (ix2 (r8 a p) r) = E (ix2 (rw' j (r8 a p)) (ln q r)) := by unfold ln rw'; pointwise
  have h2 : View.ld B (bR j q) (ix2 p r) = B (ix2 (rb j p) (ln q r)) := by unfold ln rb; pointwise
  have h3 : View.ld S (sR 0 q) (ix3 0 p r) = S (ix3 0 p (ln q r)) := by unfold ln; pointwise
  have h4 : View.ld S (sR 1 q) (ix3 0 p r) = S (ix3 1 p (ln q r)) := by unfold ln; pointwise
  unfold pB
  rw [← h1, ← h2, ← h3, ← h4]
  exact pT_apply p r a _ _ _ _

theorem r8_eq : r8 ⟨i.val / 8, by omega⟩ ⟨i.val % 8, by omega⟩ = i := Fin.ext (by show i.val / 8 * 8 + i.val % 8 = i.val; omega)
end

/-! ## The values -/

section
variable (V : Vec Ideal S1x512x8192 .bf16) (S : Vec Ideal S2x8x512 .f32) (E : Vec Ideal S8192x512 .f32) (B : Vec Ideal S256x512 .f32)

/-- The sum of the first `n` blocks. -/
def oN (q : Fin 2) (r : Fin 256) (d : Fin 512) (n : ℕ) : EReal :=
  ∑ j ∈ Finset.range n, if h : j < 32 then ∑ k : Fin 256, V (ix3 0 d (rw' ⟨j, h⟩ k)) * pB E B S ⟨j, h⟩ q (ix2 k r) else 0

/-- A run whose blocks add the values. -/
structure VRun (run : ℕ → BS Ideal) : Prop where
  zero : ∀ q, (run 0).O q = none
  o : ∀ (j : Fin 32) (q : Fin 2), (run (j.val + 1)).O q = some (dep ((run j.val).O q) ((sg (pB (run j.val).f12 (run j.val).f13 S j q)).pass (vB V j)))
  e : ∀ (j : Fin 32) (i : Fin 256) (q : Fin 2) (r : Fin 256), (run j.val).f12 (ix2 (rw' j i) (ln q r)) = E (ix2 (rw' j i) (ln q r))
  b : ∀ (j : Fin 32) (p : Fin 8) (q : Fin 2) (r : Fin 256), (run j.val).f13 (ix2 (rb j p) (ln q r)) = B (ix2 (rb j p) (ln q r))

theorem vrun_SV (Q : Vec Ideal S1x512x512 .bf16) (K : Vec Ideal S1x8192x512 .bf16) : VRun V S E B (runB (stepSV Q K V S) (bs0 E B)) where
  zero q := rfl
  o j q := by rw [runB_succ]; rfl
  e j i q r := (srun_SV Q K V S E B).e_old j i q r j.val le_rfl
  b j p q r := (srun_SV Q K V S E B).b_old j p q r j.val le_rfl

theorem vrun_keep (n : ℕ) : (runB (stepV V S) (bs0 E B) n).f12 = E ∧ (runB (stepV V S) (bs0 E B) n).f13 = B := by
  induction n with
  | zero => exact ⟨rfl, rfl⟩
  | succ n ih =>
    rw [runB]
    split
    · exact ih
    · exact ih

theorem vrun_V : VRun V S E B (runB (stepV V S) (bs0 E B)) where
  zero q := rfl
  o j q := by rw [runB_succ]; rfl
  e j i q r := by rw [(vrun_keep V S E B j.val).1]
  b j p q r := by rw [(vrun_keep V S E B j.val).2]

variable {V S E B} {run : ℕ → BS Ideal} (R : VRun V S E B run)
include R

theorem VRun.o_eq (q : Fin 2) (r : Fin 256) (d : Fin 512) (n : ℕ) (hn : n ≤ 32) :
    ((run n).O q).getD (fun _ => Scalar.ofBits .f32 0) (ix2 d r) = oN V S E B q r d n := by
  induction n with
  | zero => rw [R.zero]; exact (Ideal.ofBits_zero .f32).trans (by simp [oN])
  | succ n ih =>
    have hd : ∀ (o : Option (FVec Ideal (STile 512) .f32)) (p : FVec Ideal (STile 512) .f32),
        dep o p (ix2 d r) = o.getD (fun _ => Scalar.ofBits .f32 0) (ix2 d r) + p (ix2 d r) := fun o p => by
      cases o with
      | none => exact ((congrArg (· + p (ix2 d r)) (Ideal.ofBits_zero .f32)).trans (zero_add _)).symm
      | some v => rfl
    rw [R.o ⟨n, hn⟩ q, Option.getD_some]
    refine (hd _ _).trans ?_
    rw [ih (by omega), oN, oN, Finset.sum_range_succ, dif_pos (by omega : n < 32)]
    congr 1
    refine (pass512_apply r d _ _).trans (Finset.sum_congr rfl fun k _ => ?_)
    rw [vB_apply]
    congr 1
    have hk := r8_eq k
    rw [← hk, pB_apply, pB_apply, R.e ⟨n, hn⟩, R.b ⟨n, hn⟩]

theorem VRun.out (D : Vec Ideal S512x512 .f32) (q : Fin 2) (r : Fin 256) (d : Fin 512) :
    outF D (run 32) (ix2 d (ln q r)) = oN V S E B q r d 32 := by
  rw [← R.o_eq q r d 32 le_rfl]
  unfold outF
  rcases q01 q with rfl | rfl
  · rw [oR_col _ _ _ _ (by decide), oR_hit, oP_apply]
  · rw [oR_hit, oP_apply]
end

/-! ## A tile -/

/-- The scores of a query column. -/
def TT' (Q : Vec Ideal S1x512x512 .bf16) (K : Vec Ideal S1x8192x512 .bf16) (e : Fin 512) (i : Fin 8192) : EReal :=
  ∑ c : Fin 512, Q (ix3 0 c e) * K (ix3 0 i c)

/-- The scratch holds the scores' exponentials, maxima and statistics. -/
structure TileS (Q : Vec Ideal S1x512x512 .bf16) (K : Vec Ideal S1x8192x512 .bf16) (E : Vec Ideal S8192x512 .f32) (B : Vec Ideal S256x512 .f32) (S : Vec Ideal S2x8x512 .f32) : Prop where
  e : ∀ (j a : Fin 32) (p : Fin 8) (q : Fin 2) (r : Fin 256), E (ix2 (rw' j (r8 a p)) (ln q r)) = Ideal.exp2 ((sK Q K q r j.val a p - Softmax.mN (sK Q K q r) (j.val + 1) p) * kE)
  b : ∀ (j : Fin 32) (p : Fin 8) (q : Fin 2) (r : Fin 256), B (ix2 (rb j p) (ln q r)) = Softmax.mN (sK Q K q r) (j.val + 1) p
  s0 : ∀ (p : Fin 8) (q : Fin 2) (r : Fin 256), S (ix3 0 p (ln q r)) = Softmax.MM (sK Q K q r)
  s1 : ∀ (p : Fin 8) (q : Fin 2) (r : Fin 256), S (ix3 1 p (ln q r)) = Ideal.div 1 (Softmax.LL kR (sK Q K q r))

theorem SRun.tile {Q : Vec Ideal S1x512x512 .bf16} {K : Vec Ideal S1x8192x512 .bf16} {E : Vec Ideal S8192x512 .f32} {B : Vec Ideal S256x512 .f32} {run : ℕ → BS Ideal} (R : SRun Q K E B run)
    (X : Vec Ideal S2x8x512 .f32) : TileS Q K (run 32).f12 (run 32).f13 (statF X (run 32)) where
  e j a p q r := R.e_new j a p q r 32 j.isLt le_rfl
  b j p q r := R.b_new j p q r 32 j.isLt le_rfl
  s0 p q r := R.stat0 X p q r
  s1 p q r := R.stat1 X p q r

/-- A state with a run's scratch and statistics. -/
def mkS (x : Mem Ideal) (a : BS Ideal) : Mem Ideal := { x.up a with f14 := statF x.f14 a }
/-- The same with its output tile. -/
def mkSV (x : Mem Ideal) (a : BS Ideal) : Mem Ideal := { x.up a with f14 := statF x.f14 a, f15 := outF x.f15 a }
/-- A state with a run's scratch and output tile. -/
def mkV (x : Mem Ideal) (a : BS Ideal) : Mem Ideal := { x.up a with f15 := outF x.f15 a }
theorem scoresF_eq (x : Mem Ideal) : scoresF x = mkS x (runB (stepS x.f1 x.f2) (bs0 x.f12 x.f13) 32) := by unfold scoresF mkS; rfl
theorem svF_eq (x : Mem Ideal) : svF x = mkSV x (runB (stepSV x.f1 x.f2 x.f3 x.f14) (bs0 x.f12 x.f13) 32) := by unfold svF mkSV; rfl
theorem vF_eq (x : Mem Ideal) : vF x = mkV x (runB (stepV x.f3 x.f14) (bs0 x.f12 x.f13) 32) := by unfold vF mkV; rfl

section
variable (x : Mem Ideal) (a : BS Ideal)
theorem mkS_12 : (mkS x a).f12 = a.f12 := by unfold mkS; rfl
theorem mkS_13 : (mkS x a).f13 = a.f13 := by unfold mkS; rfl
theorem mkS_14 : (mkS x a).f14 = statF x.f14 a := by unfold mkS; rfl
theorem mkSV_12 : (mkSV x a).f12 = a.f12 := by unfold mkSV; rfl
theorem mkSV_13 : (mkSV x a).f13 = a.f13 := by unfold mkSV; rfl
theorem mkSV_14 : (mkSV x a).f14 = statF x.f14 a := by unfold mkSV; rfl
theorem mkSV_15 : (mkSV x a).f15 = outF x.f15 a := by unfold mkSV; rfl
theorem mkV_15 : (mkV x a).f15 = outF x.f15 a := by unfold mkV; rfl
end

theorem scoresF_tile (x : Mem Ideal) : TileS x.f1 x.f2 (scoresF x).f12 (scoresF x).f13 (scoresF x).f14 := by
  rw [scoresF_eq, mkS_12, mkS_13, mkS_14]; exact (srun_S x.f1 x.f2 x.f12 x.f13).tile x.f14
theorem svF_tile (x : Mem Ideal) : TileS x.f1 x.f2 (svF x).f12 (svF x).f13 (svF x).f14 := by
  rw [svF_eq, mkSV_12, mkSV_13, mkSV_14]; exact (srun_SV x.f1 x.f2 x.f3 x.f14 x.f12 x.f13).tile x.f14

/-- The output tile holds the values' sums weighted by the softmax of the scores. -/
def TileO (Q : Vec Ideal S1x512x512 .bf16) (K : Vec Ideal S1x8192x512 .bf16) (V : Vec Ideal S1x512x8192 .bf16) (D : Vec Ideal S512x512 .f32) : Prop :=
  ∀ (d e : Fin 512), D (ix2 d e) = ∑ i : Fin 8192, V (ix3 0 d i) * Softmax.pR (11863283 / 268435456) (TT' Q K e) i

theorem ln_eq (e : Fin 512) : ∃ (q : Fin 2) (r : Fin 256), e = ln q r :=
  ⟨⟨e.val / 256, by omega⟩, ⟨e.val % 256, by omega⟩, Fin.ext (by show e.val = 256 * (e.val / 256) + e.val % 256; omega)⟩

theorem tile_out {Q : Vec Ideal S1x512x512 .bf16} {K : Vec Ideal S1x8192x512 .bf16} {V : Vec Ideal S1x512x8192 .bf16} {E : Vec Ideal S8192x512 .f32} {B : Vec Ideal S256x512 .f32} {S : Vec Ideal S2x8x512 .f32}
    (hT : TileS Q K E B S) (q : Fin 2) (r : Fin 256) (d : Fin 512) :
    oN V S E B q r d 32 = ∑ i : Fin 8192, V (ix3 0 d i) * Softmax.pR (11863283 / 268435456) (TT' Q K (ln q r)) i := by
  rw [← sum8192, oN, Finset.sum_range]
  refine Finset.sum_congr rfl fun j _ => ?_
  rw [dif_pos j.isLt]
  refine Finset.sum_congr rfl fun k _ => ?_
  congr 1
  have hs : ∀ i : Fin 8192, TT' Q K (ln q r) i = sK Q K q r (e3 i).1.val (e3 i).2.1 (e3 i).2.2 := fun i => by
    rw [sK_eq, sc_apply]
    have : rw' (e3 i).1 (r8 (e3 i).2.1 (e3 i).2.2) = i := e3.symm_apply_apply i
    rw [this]; rfl
  have hp := Softmax.pK_eq (sK Q K q r) (c := 11863283 / 268435456) (by norm_num) (TT' Q K (ln q r)) e3 hs (rw' j k)
  have hk := r8_eq k
  have he : e3 (rw' j k) = (j, ⟨k.val / 8, by omega⟩, ⟨k.val % 8, by omega⟩) := by
    conv_lhs => rw [← hk]
    exact e3.apply_symm_apply (j, ⟨k.val / 8, by omega⟩, ⟨k.val % 8, by omega⟩)
  rw [← hp, he]
  conv_lhs => rw [← hk]
  rw [pB_apply, hT.e, hT.b, hT.s0, hT.s1, Softmax.pK, kE_eq]

theorem svF_out {Q : Vec Ideal S1x512x512 .bf16} {K : Vec Ideal S1x8192x512 .bf16} (x : Mem Ideal) (hT : TileS Q K x.f12 x.f13 x.f14) : TileO Q K x.f3 (svF x).f15 := fun d e => by
  obtain ⟨q, r, rfl⟩ := ln_eq e
  rw [← tile_out hT]
  rw [svF_eq, mkSV_15]
  exact (vrun_SV x.f3 x.f14 x.f12 x.f13 x.f1 x.f2).out x.f15 q r d
theorem vF_out {Q : Vec Ideal S1x512x512 .bf16} {K : Vec Ideal S1x8192x512 .bf16} (x : Mem Ideal) (hT : TileS Q K x.f12 x.f13 x.f14) : TileO Q K x.f3 (vF x).f15 := fun d e => by
  obtain ⟨q, r, rfl⟩ := ln_eq e
  rw [← tile_out hT]
  rw [vF_eq, mkV_15]
  exact (vrun_V x.f3 x.f14 x.f12 x.f13).out x.f15 q r d

/-! ## The quantised output and its projection -/

/-- The scaled maximum of a column. -/
def gD (D : Vec Ideal S512x512 .f32) (e : Fin 512) : EReal :=
  (Finset.univ.sup fun d : Fin 512 => max (D (ix2 d e)) (-D (ix2 d e))) * Ideal.ofBits .f32 0x3B124925#32
/-- A code. -/
def cD (D : Vec Ideal S512x512 .f32) (d e : Fin 512) : EReal :=
  min (Ideal.ofBits .f32 0x43E00000#32) (max (Ideal.ofBits .f32 0xC3E00000#32) (D (ix2 d e) * Quant.inv (gD D e)))
/-- A projected value. -/
def jD (D : Vec Ideal S512x512 .f32) (W : Vec Ideal S512x512 .fp8e4m3) (w u : Vec Ideal S512x1 .f32) (h e : Fin 512) : EReal :=
  (∑ c : Fin 512, W (ix2 h c) * cD D c e) * Quant.scl (gD D e) * w (ix2 h 0) + u (ix2 h 0)

section
variable (x : Mem Ideal) (d e : Fin 512)

theorem whole2 {α : Type} (X : S512x512.Idx → α) : (fun i => X ((Rect.unit (s := S512x512) ![0, 0] S512x512.size inb_S512x512_S512x512_0_0).idx i)) (ix2 d e) = X (ix2 d e) := by
  refine congrArg X (funext fun a => Fin.ext ?_)
  match a with
  | 0 => show 0 + 1 * d.val = d.val; omega
  | 1 => show 0 + 1 * e.val = e.val; omega

theorem ld2 (D : Vec Ideal S512x512 .f32) : (View.ld D (Rect.unit (s := S512x512) ![0, 0] S512x512.size inb_S512x512_S512x512_0_0) : Vec Ideal S512x512 .f32) = D := by
  funext i
  refine congrArg D (funext fun a => Fin.ext ?_)
  match a with
  | 0 => show 0 + 1 * (i 0).val = (i 0).val; omega
  | 1 => show 0 + 1 * (i 1).val = (i 1).val; omega

theorem quant10 : x.quant.f10 (ix3 0 d e) = cD x.f15 d e := by
  refine (ov_hit _ _ _ (ix3 0 d e) _ fun a => ?_).trans ?_
  · match a with
    | 0 => rfl
    | 1 => show 0 + 1 * d.val = d.val; omega
    | 2 => show 0 + 1 * e.val = e.val; omega
  · rw [ld2, qCodes_eq, cdV_apply, invV_apply e _ (gV x.f15 (ix2 0 e)) (bqV_apply e _ _ (srV_apply e _)), gV_apply]
    rfl

theorem quant11 : x.quant.f11 (ix3 0 0 e) = Quant.scl (gD x.f15 e) := by
  refine (ov_hit _ _ _ (ix3 0 0 e) _ fun a => ?_).trans ?_
  · match a with
    | 0 => rfl
    | 1 => rfl
    | 2 => show 0 + 1 * e.val = e.val; omega
  · rw [ld2, qScale_eq]
    have h : shapeCast S1x1x512 (sclV (bqV (srV (gV x.f15)))) shapeCasts_S1x512_S1x1x512 (ix3 0 0 e) = sclV (bqV (srV (gV x.f15))) (ix2 0 e) := by pointwise
    refine h.trans ?_
    rw [sclV_apply e _ (gV x.f15 (ix2 0 e)) (bqV_apply e _ _ (srV_apply e _)), gV_apply]
    rfl

theorem pv_apply (h q : Fin 2) (i r : Fin 256) : x.quant.pv h q (ix3 0 i r) = jD x.f15 x.f5 x.f6 x.f7 (ln h i) (ln q r) := by
  have h1 : View.ld x.quant.f11 (Rect.unit ![0, 0, 256 * q.val] S1x1x256.size (inbL q)) (ix3 0 0 r) = x.quant.f11 (ix3 0 0 (ln q r)) := by unfold ln; pointwise
  have h2 : ∀ w : Vec Ideal S512x1 .f32, View.ld w (Rect.unit ![256 * h.val, 0] S256x1.size (inbC h)) (ix2 i 0) = w (ix2 (ln h i) 0) := fun w => by unfold ln; pointwise
  refine (prV_apply r i _ _ _ _).trans ?_
  rw [h1, h2, h2, pj_apply, quant11, jD]
  have hc : (∑ c : Fin 512, x.quant.f5 (ix2 (ln h i) c) * x.quant.f10 (ix3 0 c (ln q r))) = ∑ c : Fin 512, x.f5 (ix2 (ln h i) c) * cD x.f15 c (ln q r) :=
    Finset.sum_congr rfl fun c _ => congrArg (x.f5 (ix2 (ln h i) c) * ·) (quant10 x c (ln q r))
  rw [hc]

theorem pr_apply (h q : Fin 2) (i r : Fin 256) : x.quant.pr h q (ix3 0 i r) = x.f4 (ix3 0 (ln h i) (ln q r)) + jD x.f15 x.f5 x.f6 x.f7 (ln h i) (ln q r) := by
  have h1 : View.ld x.quant.f11 (Rect.unit ![0, 0, 256 * q.val] S1x1x256.size (inbL q)) (ix3 0 0 r) = x.quant.f11 (ix3 0 0 (ln q r)) := by unfold ln; pointwise
  have h2 : ∀ w : Vec Ideal S512x1 .f32, View.ld w (Rect.unit ![256 * h.val, 0] S256x1.size (inbC h)) (ix2 i 0) = w (ix2 (ln h i) 0) := fun w => by unfold ln; pointwise
  have h3 : View.ld x.f4 (yR h q) (ix3 0 i r) = x.f4 (ix3 0 (ln h i) (ln q r)) := by unfold ln; pointwise
  refine (prR_apply r i _ _ _ _ _).trans ?_
  rw [h1, h2, h2, h3, pj_apply, quant11, jD]
  have hc : (∑ c : Fin 512, x.quant.f5 (ix2 (ln h i) c) * x.quant.f10 (ix3 0 c (ln q r))) = ∑ c : Fin 512, x.f5 (ix2 (ln h i) c) * cD x.f15 c (ln q r) :=
    Finset.sum_congr rfl fun c _ => congrArg (x.f5 (ix2 (ln h i) c) * ·) (quant10 x c (ln q r))
  rw [hc]

attribute [local irreducible] prV prR Rect.overlay qCodes qScale pj

theorem proj_8 (y : Mem Ideal) : ((y.proj 0).proj 1).f8 = (yR 1 1).overlay ((yR 1 0).overlay ((yR 0 1).overlay ((yR 0 0).overlay y.f8 (y.pr 0 0)) (y.pr 0 1)) (y.pr 1 0)) (y.pr 1 1) := rfl

theorem proj_9 (y : Mem Ideal) : ((y.proj 0).proj 1).f9 = (yR 1 1).overlay ((yR 1 0).overlay ((yR 0 1).overlay ((yR 0 0).overlay y.f9 (y.pv 0 0)) (y.pv 0 1)) (y.pv 1 0)) (y.pv 1 1) := rfl

theorem pF_9 : (pF x).f9 (ix3 0 d e) = jD x.f15 x.f5 x.f6 x.f7 d e := by
  obtain ⟨h, i, rfl⟩ := ln_eq d
  obtain ⟨q, r, rfl⟩ := ln_eq e
  rw [← pv_apply]
  unfold pF
  rw [proj_9]
  rcases q01 h with rfl | rfl <;> rcases q01 q with rfl | rfl
  · rw [yR_row _ _ _ _ _ _ (by decide), yR_row _ _ _ _ _ _ (by decide), yR_col _ _ _ _ _ _ (by decide), yR_hit]
  · rw [yR_row _ _ _ _ _ _ (by decide), yR_row _ _ _ _ _ _ (by decide), yR_hit]
  · rw [yR_col _ _ _ _ _ _ (by decide), yR_hit]
  · rw [yR_hit]

theorem pF_8 : (pF x).f8 (ix3 0 d e) = x.f4 (ix3 0 d e) + jD x.f15 x.f5 x.f6 x.f7 d e := by
  obtain ⟨h, i, rfl⟩ := ln_eq d
  obtain ⟨q, r, rfl⟩ := ln_eq e
  rw [← pr_apply]
  unfold pF
  rw [proj_8]
  rcases q01 h with rfl | rfl <;> rcases q01 q with rfl | rfl
  · rw [yR_row _ _ _ _ _ _ (by decide), yR_row _ _ _ _ _ _ (by decide), yR_col _ _ _ _ _ _ (by decide), yR_hit]
  · rw [yR_row _ _ _ _ _ _ (by decide), yR_row _ _ _ _ _ _ (by decide), yR_hit]
  · rw [yR_col _ _ _ _ _ _ (by decide), yR_hit]
  · rw [yR_hit]

theorem pF_10 : (pF x).f10 (ix3 0 d e) = cD x.f15 d e := quant10 x d e
theorem pF_11 : (pF x).f11 (ix3 0 0 e) = Quant.scl (gD x.f15 e) := quant11 x e
end

end Cert.AttnIdeal.Body

end
-- ==== Proof.AttnTile.lean ====
/- The attention kernel from point to point: which part of the body runs where, and what the scratch and the outputs hold of a tile. -/
module

public import proofs.«01_k».proof.Proof.AttnOut
public import proofs.«01_k».proof.Proof.AttnFrame

@[expose] public section

set_option maxRecDepth 16384
set_option pp.maxSteps 300

noncomputable section

namespace Cert.AttnIdeal.Body

open Cert.AttnIdeal Cert.AttnIdeal.Gen
open Idealize.ShloMosaic Idealize.ShloMosaic.TcCoe Idealize.ShloMosaic.Tactic

/-! ## Which part runs -/

theorem cond1_iff (t : Fin cfg0.N) : k0_cond1 (grid0.coords t) = 1#1 ↔ t.val = 0 := by revert t; decide +kernel
theorem cond2_iff (t : Fin cfg0.N) : k0_cond2 (grid0.coords t) = 1#1 ↔ t.val = 1 := by revert t; decide +kernel
theorem cond3_iff (t : Fin cfg0.N) : k0_cond3 (grid0.coords t) = 1#1 ↔ 2 ≤ t.val ∧ t.val < 160 := by revert t; decide +kernel
theorem cond4_iff (t : Fin cfg0.N) : k0_cond4 (grid0.coords t) = 1#1 ↔ t.val = 160 := by revert t; decide +kernel
theorem cond5_iff (t : Fin cfg0.N) : k0_cond5 (grid0.coords t) = 1#1 ↔ t.val = 161 := by revert t; decide +kernel

variable [Facts]

attribute [local irreducible] scoresF svF vF pF

section
variable (t : Fin cfg0.N) (x : Mem Ideal)
theorem body_0 (h : t.val = 0) : bodyF (grid0.coords t) x = scoresF x := by
  have n1 := (cond1_iff t).2 h
  have n2 : ¬ k0_cond2 (grid0.coords t) = 1#1 := fun k => by have := (cond2_iff t).1 k; omega
  have n3 : ¬ k0_cond3 (grid0.coords t) = 1#1 := fun k => by have := (cond3_iff t).1 k; omega
  have n4 : ¬ k0_cond4 (grid0.coords t) = 1#1 := fun k => by have := (cond4_iff t).1 k; omega
  have n5 : ¬ k0_cond5 (grid0.coords t) = 1#1 := fun k => by have := (cond5_iff t).1 k; omega
  unfold bodyF
  simp only [n1, n2, n3, n4, n5, if_true, if_false]
theorem body_1 (h : t.val = 1) : bodyF (grid0.coords t) x = svF x := by
  have n1 : ¬ k0_cond1 (grid0.coords t) = 1#1 := fun k => by have := (cond1_iff t).1 k; omega
  have n2 := (cond2_iff t).2 h
  have n3 : ¬ k0_cond3 (grid0.coords t) = 1#1 := fun k => by have := (cond3_iff t).1 k; omega
  have n4 : ¬ k0_cond4 (grid0.coords t) = 1#1 := fun k => by have := (cond4_iff t).1 k; omega
  have n5 : ¬ k0_cond5 (grid0.coords t) = 1#1 := fun k => by have := (cond5_iff t).1 k; omega
  unfold bodyF
  simp only [n1, n2, n3, n4, n5, if_true, if_false]
theorem body_2 (h : 2 ≤ t.val ∧ t.val < 160) : bodyF (grid0.coords t) x = svF (pF x) := by
  have n1 : ¬ k0_cond1 (grid0.coords t) = 1#1 := fun k => by have := (cond1_iff t).1 k; omega
  have n2 : ¬ k0_cond2 (grid0.coords t) = 1#1 := fun k => by have := (cond2_iff t).1 k; omega
  have n3 := (cond3_iff t).2 h
  have n4 : ¬ k0_cond4 (grid0.coords t) = 1#1 := fun k => by have := (cond4_iff t).1 k; omega
  have n5 : ¬ k0_cond5 (grid0.coords t) = 1#1 := fun k => by have := (cond5_iff t).1 k; omega
  unfold bodyF
  simp only [n1, n2, n3, n4, n5, if_true, if_false]
theorem body_160 (h : t.val = 160) : bodyF (grid0.coords t) x = vF (pF x) := by
  have n1 : ¬ k0_cond1 (grid0.coords t) = 1#1 := fun k => by have := (cond1_iff t).1 k; omega
  have n2 : ¬ k0_cond2 (grid0.coords t) = 1#1 := fun k => by have := (cond2_iff t).1 k; omega
  have n3 : ¬ k0_cond3 (grid0.coords t) = 1#1 := fun k => by have := (cond3_iff t).1 k; omega
  have n4 := (cond4_iff t).2 h
  have n5 : ¬ k0_cond5 (grid0.coords t) = 1#1 := fun k => by have := (cond5_iff t).1 k; omega
  unfold bodyF
  simp only [n1, n2, n3, n4, n5, if_true, if_false]
theorem body_161 (h : t.val = 161) : bodyF (grid0.coords t) x = pF x := by
  have n1 : ¬ k0_cond1 (grid0.coords t) = 1#1 := fun k => by have := (cond1_iff t).1 k; omega
  have n2 : ¬ k0_cond2 (grid0.coords t) = 1#1 := fun k => by have := (cond2_iff t).1 k; omega
  have n3 : ¬ k0_cond3 (grid0.coords t) = 1#1 := fun k => by have := (cond3_iff t).1 k; omega
  have n4 : ¬ k0_cond4 (grid0.coords t) = 1#1 := fun k => by have := (cond4_iff t).1 k; omega
  have n5 := (cond5_iff t).2 h
  unfold bodyF
  simp only [n1, n2, n3, n4, n5, if_true, if_false]
end

/-! ## What a part leaves alone -/

section
variable (x : Mem Ideal)
theorem pF_12 : (pF x).f12 = x.f12 := by unfold pF; rfl
theorem pF_13 : (pF x).f13 = x.f13 := by unfold pF; rfl
theorem pF_14 : (pF x).f14 = x.f14 := by unfold pF; rfl
theorem svF_8 : (svF x).f8 = x.f8 := by rw [svF_eq]; unfold mkSV; rfl
theorem svF_9 : (svF x).f9 = x.f9 := by rw [svF_eq]; unfold mkSV; rfl
theorem svF_10 : (svF x).f10 = x.f10 := by rw [svF_eq]; unfold mkSV; rfl
theorem svF_11 : (svF x).f11 = x.f11 := by rw [svF_eq]; unfold mkSV; rfl
theorem vF_8 : (vF x).f8 = x.f8 := by rw [vF_eq]; unfold mkV; rfl
theorem vF_9 : (vF x).f9 = x.f9 := by rw [vF_eq]; unfold mkV; rfl
theorem vF_10 : (vF x).f10 = x.f10 := by rw [vF_eq]; unfold mkV; rfl
theorem vF_11 : (vF x).f11 = x.f11 := by rw [vF_eq]; unfold mkV; rfl
end

/-! ## The scratch -/

variable (m : (ℓ : Loc nD τ sig) → Buf (Elt Ideal) ℓ) (c : Dev nD)

/-- The blocks of the inputs. -/
abbrev bQ (t : Fin cfg0.N) : Vec Ideal S1x512x512 .bf16 := iblk m c 0 t
abbrev bK (t : Fin cfg0.N) : Vec Ideal S1x8192x512 .bf16 := iblk m c 1 t
abbrev bV (t : Fin cfg0.N) : Vec Ideal S1x512x8192 .bf16 := iblk m c 2 t
abbrev bX (t : Fin cfg0.N) : Vec Ideal S1x512x512 .bf16 := iblk m c 3 t
abbrev bW (t : Fin cfg0.N) : Vec Ideal S512x512 .fp8e4m3 := iblk m c 4 t
abbrev bA (t : Fin cfg0.N) : Vec Ideal S512x1 .f32 := iblk m c 5 t
abbrev bB (t : Fin cfg0.N) : Vec Ideal S512x1 .f32 := iblk m c 6 t

theorem scr_S (n : ℕ) (hn : n < 160) (h : n < cfg0.N) {X12 X13 X14 X15} (H : Scr m c (n + 1) X12 X13 X14 X15) :
    TileS (bQ m c ⟨n, h⟩) (bK m c ⟨n, h⟩) X12 X13 X14 := by
  obtain ⟨_, x, hI, _, rfl, rfl, rfl, rfl⟩ := H
  rw [bQ, bK, ← hI.1, ← hI.2.1]
  rcases Nat.lt_or_ge n 2 with h2 | h2
  · rcases Nat.lt_or_ge n 1 with h1 | h1
    · rw [body_0 _ _ (show n = 0 by omega)]; exact scoresF_tile x
    · rw [body_1 _ _ (show n = 1 by omega)]; exact svF_tile x
  · rw [body_2 _ _ ⟨h2, hn⟩, ← (pF_ins x).1, ← (pF_ins x).2.1]; exact svF_tile (pF x)

theorem scr_O (n : ℕ) (hn : n < 160) (h : n < cfg0.N) (h' : n + 1 < cfg0.N) {X12 X13 X14 X15} (H : Scr m c (n + 1 + 1) X12 X13 X14 X15) :
    TileO (bQ m c ⟨n, h⟩) (bK m c ⟨n, h⟩) (bV m c ⟨n + 1, h'⟩) X15 := by
  obtain ⟨_, x, hI, hS, rfl, rfl, rfl, rfl⟩ := H
  have hT := scr_S m c n hn h hS
  rw [bV, ← hI.2.2.1]
  rcases Nat.lt_or_ge n 1 with h1 | h1
  · rw [body_1 _ _ (show n + 1 = 1 by omega)]; exact svF_out x hT
  · rw [← (pF_ins x).2.2.1]
    rw [← pF_12, ← pF_13, ← pF_14] at hT
    rcases Nat.lt_or_ge (n + 1) 160 with h2 | h2
    · rw [body_2 _ _ ⟨show 2 ≤ n + 1 by omega, h2⟩]; exact svF_out (pF x) hT
    · rw [body_160 _ _ (show n + 1 = 160 by omega)]; exact vF_out (pF x) hT

/-! ## The outputs -/

theorem body_outs (t : Fin cfg0.N) (x : Mem Ideal) (h : 2 ≤ t.val) :
    (bodyF (grid0.coords t) x).f8 = (pF x).f8 ∧ (bodyF (grid0.coords t) x).f9 = (pF x).f9
      ∧ (bodyF (grid0.coords t) x).f10 = (pF x).f10 ∧ (bodyF (grid0.coords t) x).f11 = (pF x).f11 := by
  have ht : t.val < 162 := t.isLt
  rcases Nat.lt_or_ge t.val 160 with h2 | h2
  · rw [body_2 _ _ ⟨h, h2⟩]; exact ⟨svF_8 _, svF_9 _, svF_10 _, svF_11 _⟩
  · rcases Nat.lt_or_ge t.val 161 with h3 | h3
    · rw [body_160 _ _ (show t.val = 160 by omega)]; exact ⟨vF_8 _, vF_9 _, vF_10 _, vF_11 _⟩
    · rw [body_161 _ _ (show t.val = 161 by omega)]; exact ⟨rfl, rfl, rfl, rfl⟩

/-- A state at a point from the third on: its output tile is that of the tile two points before. -/
theorem at0_O (n : ℕ) (hn : n < 160) (h0 : n < cfg0.N) (h1 : n + 1 < cfg0.N) (h2 : n + 1 + 1 < cfg0.N) {x : Mem Ideal} (H : At0 m c ⟨n + 1 + 1, h2⟩ x) :
    TileO (bQ m c ⟨n, h0⟩) (bK m c ⟨n, h0⟩) (bV m c ⟨n + 1, h1⟩) x.f15 := scr_O m c n hn h0 h1 H.2

/-- What the four outputs' blocks hold after that point, of an output tile `D`. -/
theorem rl_out (n : ℕ) (hn : n < 160) (h0 : n < cfg0.N) (h1 : n + 1 < cfg0.N) (h2 : n + 1 + 1 < cfg0.N) {x : Mem Ideal} (H : At0 m c ⟨n + 1 + 1, h2⟩ x) (d e : Fin 512) :
    (bodyF (grid0.coords ⟨n + 1 + 1, h2⟩) x).f8 (ix3 0 d e) = bX m c ⟨n + 1 + 1, h2⟩ (ix3 0 d e) + jD x.f15 (bW m c ⟨n + 1 + 1, h2⟩) (bA m c ⟨n + 1 + 1, h2⟩) (bB m c ⟨n + 1 + 1, h2⟩) d e
      ∧ (bodyF (grid0.coords ⟨n + 1 + 1, h2⟩) x).f9 (ix3 0 d e) = jD x.f15 (bW m c ⟨n + 1 + 1, h2⟩) (bA m c ⟨n + 1 + 1, h2⟩) (bB m c ⟨n + 1 + 1, h2⟩) d e
      ∧ (bodyF (grid0.coords ⟨n + 1 + 1, h2⟩) x).f10 (ix3 0 d e) = cD x.f15 d e
      ∧ (bodyF (grid0.coords ⟨n + 1 + 1, h2⟩) x).f11 (ix3 0 0 e) = Quant.scl (gD x.f15 e) := by
  obtain ⟨_, _, _, i4, i5, i6, i7⟩ := H.1
  obtain ⟨o8, o9, o10, o11⟩ := body_outs ⟨n + 1 + 1, h2⟩ x (show 2 ≤ n + 1 + 1 by omega)
  rw [o8, o9, o10, o11, pF_8, pF_9, pF_10, pF_11, bX, bW, bA, bB, ← i4, ← i5, ← i6, ← i7]
  exact ⟨rfl, rfl, rfl, rfl⟩

end Cert.AttnIdeal.Body

end
-- ==== Proof.AttnIdx.lean ====
/- The attention kernel's windows: which block each grid point works on, and that the blocks written back cover the results. -/
module

public import proofs.«01_k».proof.Proof.Gen.AttnIdeal.Frame
public import Idealize.ShloMosaic.Lib.Pipeline.ValueKit.Geometry

@[expose] public section

set_option maxRecDepth 16384
set_option pp.maxSteps 300

noncomputable section

namespace Cert.AttnIdeal.Body

open Cert.AttnIdeal Cert.AttnIdeal.Gen
open Idealize.ShloMosaic Idealize.ShloMosaic.TcCoe Idealize.ShloMosaic.Tactic

/-! ## Which block a point works on -/

theorem i0 : ∀ t : Fin cfg0.N, win0_0.index t = ![min t.val 159 / 16, 0, min t.val 159 % 16] := by decide +kernel
theorem i1 : ∀ t : Fin cfg0.N, win0_1.index t = ![min t.val 159 / 16, 0, 0] := by decide +kernel
theorem i2 : ∀ t : Fin cfg0.N, win0_2.index t = ![min (t.val - 1) 159 / 16, 0, 0] := by decide +kernel
theorem i3 : ∀ t : Fin cfg0.N, win0_3.index t = ![min (t.val - 2) 159 / 16, 0, min (t.val - 2) 159 % 16] := by decide +kernel
theorem i4 : ∀ t : Fin cfg0.N, win0_4.index t = ![0, 0] := by decide +kernel
theorem i5 : ∀ t : Fin cfg0.N, win0_5.index t = ![0, 0] := by decide +kernel
theorem i6 : ∀ t : Fin cfg0.N, win0_6.index t = ![0, 0] := by decide +kernel
theorem i7 : ∀ t : Fin cfg0.N, win0_7.index t = ![min (t.val - 2) 159 / 16, 0, min (t.val - 2) 159 % 16] := by decide +kernel
theorem i8 : ∀ t : Fin cfg0.N, win0_8.index t = ![min (t.val - 2) 159 / 16, 0, min (t.val - 2) 159 % 16] := by decide +kernel
theorem i9 : ∀ t : Fin cfg0.N, win0_9.index t = ![min (t.val - 2) 159 / 16, 0, min (t.val - 2) 159 % 16] := by decide +kernel
theorem i10 : ∀ t : Fin cfg0.N, win0_10.index t = ![min (t.val - 2) 159 / 16, 0, min (t.val - 2) 159 % 16] := by decide +kernel

theorem fl7 : ∀ t : Fin cfg0.N, (cfg0.win 7).flush t = true → 2 ≤ t.val := by decide +kernel
theorem fl8 : ∀ t : Fin cfg0.N, (cfg0.win 8).flush t = true → 2 ≤ t.val := by decide +kernel
theorem fl9 : ∀ t : Fin cfg0.N, (cfg0.win 9).flush t = true → 2 ≤ t.val := by decide +kernel
theorem fl10 : ∀ t : Fin cfg0.N, (cfg0.win 10).flush t = true → 2 ≤ t.val := by decide +kernel

theorem cov7 : (cfg0.win 7).Covers := by decide +kernel
theorem cov8 : (cfg0.win 8).Covers := by decide +kernel
theorem cov9 : (cfg0.win 9).Covers := by decide +kernel
theorem cov10 : (cfg0.win 10).Covers := by decide +kernel

end Cert.AttnIdeal.Body

end
-- ==== Proof.AttnArr.lean ====
/- The attention kernel's arrays: its blocks read off the arguments, and its results as functions of the arguments. -/
module

public import proofs.«01_k».proof.Proof.AttnTile
public import proofs.«01_k».proof.Proof.AttnIdx
public import Idealize.ShloMosaic.Lib.Pointwise

@[expose] public section

set_option maxRecDepth 16384
set_option pp.maxSteps 300

noncomputable section

namespace Cert.AttnIdeal.Body

open Cert.AttnIdeal Cert.AttnIdeal.Gen
open Idealize.ShloMosaic Idealize.ShloMosaic.TcCoe Idealize.ShloMosaic.Tactic

variable [Facts]
variable (m : (ℓ : Loc nD τ sig) → Buf (Elt Ideal) ℓ) (c : Dev nD)

/-- The arguments. -/
abbrev a0 : Vec Ideal S10x512x8192 .bf16 := m ((c : Thread nD τ).loc main_arg0)
abbrev a1 : Vec Ideal S10x8192x512 .bf16 := m ((c : Thread nD τ).loc main_arg1)
abbrev a2 : Vec Ideal S10x512x8192 .bf16 := m ((c : Thread nD τ).loc main_arg2)
abbrev a3 : Vec Ideal S10x512x8192 .bf16 := m ((c : Thread nD τ).loc main_arg3)
abbrev a4 : Vec Ideal S512x512 .fp8e4m3 := m ((c : Thread nD τ).loc main_arg4)
abbrev a5 : Vec Ideal S512 .f32 := m ((c : Thread nD τ).loc main_arg5)
abbrev a6 : Vec Ideal S512 .f32 := m ((c : Thread nD τ).loc main_arg6)

/-- The batch of a tile, and a column of a tile. -/
def tb (n : ℕ) (hn : n < 160) : Fin 10 := ⟨n / 16, by omega⟩
def tc (n : ℕ) (e : Fin 512) : Fin 8192 := ⟨n % 16 * 512 + e.val, by omega⟩

theorem tb_val (n : ℕ) (hn : n < 160) : (tb n hn).val = n / 16 := rfl
theorem tc_val (n : ℕ) (e : Fin 512) : (tc n e).val = n % 16 * 512 + e.val := rfl

theorem bQ_apply (n : ℕ) (hn : n < 160) (h : n < cfg0.N) (k e : Fin 512) : bQ m c ⟨n, h⟩ (ix3 0 k e) = a0 m c (ix3 (tb n hn) k (tc n e)) := by
  unfold bQ
  blk_simp [iblk]
  rw [V_main_arg0]
  refine congrArg (a0 m c) (funext fun a => Fin.ext ?_)
  have hm : min n 159 = n := by omega
  match a with
  | 0 => blk_simp [i0, hm, tb_val, tc_val]; rfl
  | 1 => blk_simp [i0, hm, tb_val, tc_val]
  | 2 => blk_simp [i0, hm, tb_val, tc_val]

theorem bK_apply (n : ℕ) (hn : n < 160) (h : n < cfg0.N) (i : Fin 8192) (k : Fin 512) : bK m c ⟨n, h⟩ (ix3 0 i k) = a1 m c (ix3 (tb n hn) i k) := by
  unfold bK
  blk_simp [iblk]
  rw [V_main_arg1]
  refine congrArg (a1 m c) (funext fun a => Fin.ext ?_)
  have hm : min n 159 = n := by omega
  match a with
  | 0 => blk_simp [i1, hm, tb_val, tc_val]; rfl
  | 1 => blk_simp [i1, hm, tb_val, tc_val]
  | 2 => blk_simp [i1, hm, tb_val, tc_val]

theorem bV_apply (n : ℕ) (hn : n < 160) (h : n + 1 < cfg0.N) (d : Fin 512) (i : Fin 8192) : bV m c ⟨n + 1, h⟩ (ix3 0 d i) = a2 m c (ix3 (tb n hn) d i) := by
  unfold bV
  blk_simp [iblk]
  rw [V_main_arg2]
  refine congrArg (a2 m c) (funext fun a => Fin.ext ?_)
  have hm : min (n + 1 - 1) 159 = n := by omega
  match a with
  | 0 => blk_simp [i2, hm, tb_val, tc_val]; rfl
  | 1 => blk_simp [i2, hm, tb_val, tc_val]
  | 2 => blk_simp [i2, hm, tb_val, tc_val]

theorem bX_apply (n : ℕ) (hn : n < 160) (h : n + 1 + 1 < cfg0.N) (d e : Fin 512) : bX m c ⟨n + 1 + 1, h⟩ (ix3 0 d e) = a3 m c (ix3 (tb n hn) d (tc n e)) := by
  unfold bX
  blk_simp [iblk]
  rw [V_main_arg3]
  refine congrArg (a3 m c) (funext fun a => Fin.ext ?_)
  have hm : min (n + 1 + 1 - 2) 159 = n := by omega
  match a with
  | 0 => blk_simp [i3, hm, tb_val, tc_val]; rfl
  | 1 => blk_simp [i3, hm, tb_val, tc_val]
  | 2 => blk_simp [i3, hm, tb_val, tc_val]

theorem V_main_v0 : V m c main_v0 = transpose S512x512 [1, 0] (a4 m c) transposes_S512x512_S512x512_1_0 := by
  entry_read
  rfl
theorem V_main_v1 : V m c main_v1 = shapeCast S512x1 (a5 m c) shapeCasts_S512_S512x1 := by
  entry_read
  rfl
theorem V_main_v2 : V m c main_v2 = shapeCast S512x1 (a6 m c) shapeCasts_S512_S512x1 := by
  entry_read
  rfl

theorem tr_apply (W : Vec Ideal S512x512 .fp8e4m3) (d e : Fin 512) : transpose S512x512 [1, 0] W transposes_S512x512_S512x512_1_0 (ix2 d e) = W (ix2 e d) := by pointwise
theorem col_apply (w : Vec Ideal S512 .f32) (d : Fin 512) : shapeCast S512x1 w shapeCasts_S512_S512x1 (ix2 d 0) = w (ix1 d) := by pointwise

theorem bW_apply (t : Fin cfg0.N) (d e : Fin 512) : bW m c t (ix2 d e) = a4 m c (ix2 e d) := by
  unfold bW
  blk_simp [iblk]
  rw [V_main_v0, ← tr_apply (a4 m c) d e]
  refine congrArg (transpose S512x512 [1, 0] (a4 m c) transposes_S512x512_S512x512_1_0) (funext fun a => Fin.ext ?_)
  match a with
  | 0 => blk_simp [i4]
  | 1 => blk_simp [i4]
theorem bA_apply (t : Fin cfg0.N) (d : Fin 512) : bA m c t (ix2 d 0) = a5 m c (ix1 d) := by
  unfold bA
  blk_simp [iblk]
  rw [V_main_v1, ← col_apply (a5 m c) d]
  refine congrArg (shapeCast S512x1 (a5 m c) shapeCasts_S512_S512x1) (funext fun a => Fin.ext ?_)
  match a with
  | 0 => blk_simp [i5]
  | 1 => blk_simp [i5]
theorem bB_apply (t : Fin cfg0.N) (d : Fin 512) : bB m c t (ix2 d 0) = a6 m c (ix1 d) := by
  unfold bB
  blk_simp [iblk]
  rw [V_main_v2, ← col_apply (a6 m c) d]
  refine congrArg (shapeCast S512x1 (a6 m c) shapeCasts_S512_S512x1) (funext fun a => Fin.ext ?_)
  match a with
  | 0 => blk_simp [i6]
  | 1 => blk_simp [i6]

end Cert.AttnIdeal.Body

end
-- ==== Proof.AttnForm.lean ====
/- The attention's results as formulas: the output of a column, its quantisation and its projection. -/
module

public import proofs.«01_k».proof.Proof.Softmax
public import proofs.«01_k».proof.Proof.Quant

@[expose] public section

noncomputable section

namespace Cert.AttnForm

open Idealize.ShloMosaic

variable (q : Fin 10 → Fin 512 → Fin 8192 → EReal) (k : Fin 10 → Fin 8192 → Fin 512 → EReal) (v : Fin 10 → Fin 512 → Fin 8192 → EReal)

/-- The scores of a column. -/
def sc (b : Fin 10) (i j : Fin 8192) : EReal := ∑ c : Fin 512, q b c i * k b j c

/-- The attention output. -/
def oA (b : Fin 10) (i : Fin 8192) (d : Fin 512) : EReal := ∑ j : Fin 8192, v b d j * Softmax.pR (11863283 / 268435456) (sc q k b i) j

/-- The scaled maximum of a column. -/
def gc (o : Fin 512 → EReal) : EReal := (Finset.univ.sup fun d : Fin 512 => max (o d) (-o d)) * Ideal.ofBits .f32 0x3B124925#32

/-- The codes of a column. -/
def cc (o : Fin 512 → EReal) (d : Fin 512) : EReal :=
  min (Ideal.ofBits .f32 0x43E00000#32) (max (Ideal.ofBits .f32 0xC3E00000#32) (o d * Quant.inv (gc o)))

/-- The projection of a column. -/
def jc (W : Fin 512 → Fin 512 → EReal) (w u : Fin 512 → EReal) (o : Fin 512 → EReal) (h : Fin 512) : EReal :=
  (∑ c : Fin 512, W c h * cc o c) * Quant.scl (gc o) * w h + u h

end Cert.AttnForm

end
-- ==== Proof.AttnRes.lean ====
/- The attention kernel's results: what every run leaves in the four arrays, as formulas of the arguments. -/
module

public import proofs.«01_k».proof.Proof.AttnArr
public import proofs.«01_k».proof.Proof.AttnForm

@[expose] public section

set_option maxRecDepth 16384
set_option pp.maxSteps 300

noncomputable section

namespace Cert.AttnIdeal.Body

open Cert.AttnIdeal Cert.AttnIdeal.Gen
open Idealize.ShloMosaic Idealize.ShloMosaic.TcCoe Idealize.ShloMosaic.Tactic
open Idealize.ShloMosaic.Pipeline (Dat RDat)
open Idealize.SL.Sem

variable [Facts]
variable (m : (ℓ : Loc nD τ sig) → Buf (Elt Ideal) ℓ) (c : Dev nD) (ρ : Dev nD → PrngReg)

/-- The attention output of the arguments, by column. -/
def oM (b : Fin 10) (i : Fin 8192) : Fin 512 → EReal :=
  AttnForm.oA (fun b k i => a0 m c (ix3 b k i)) (fun b i k => a1 m c (ix3 b i k)) (fun b d i => a2 m c (ix3 b d i)) b i
/-- The projection of the arguments, by column. -/
def jM (b : Fin 10) (i : Fin 8192) : Fin 512 → EReal :=
  AttnForm.jc (fun k h => a4 m c (ix2 k h)) (fun h => a5 m c (ix1 h)) (fun h => a6 m c (ix1 h)) (oM m c b i)

/-- The results. -/
def res0 : Vec Ideal S10x512x8192 .bf16 := fun i => a3 m c i + jM m c (i 0) (i 2) (i 1)
def res1 : Vec Ideal S10x512x8192 .bf16 := fun i => jM m c (i 0) (i 2) (i 1)
def res2 : Vec Ideal S10x512x8192 .fp8e4m3 := fun i => AttnForm.cc (oM m c (i 0) (i 2)) (i 1)
def res3 : Vec Ideal S10x1x8192 .f32 := fun i => Quant.scl (AttnForm.gc (oM m c (i 0) (i 2)))

theorem tile_o (n : ℕ) (hn : n < 160) (h0 : n < cfg0.N) (h1 : n + 1 < cfg0.N) {D : Vec Ideal S512x512 .f32}
    (H : TileO (bQ m c ⟨n, h0⟩) (bK m c ⟨n, h0⟩) (bV m c ⟨n + 1, h1⟩) D) (e : Fin 512) : (fun d => D (ix2 d e)) = oM m c (tb n hn) (tc n e) := by
  funext d
  rw [H d e]
  unfold oM AttnForm.oA
  have hs : TT' (bQ m c ⟨n, h0⟩) (bK m c ⟨n, h0⟩) e = AttnForm.sc (fun b k i => a0 m c (ix3 b k i)) (fun b i k => a1 m c (ix3 b i k)) (tb n hn) (tc n e) := by
    funext i
    unfold TT' AttnForm.sc
    exact Finset.sum_congr rfl fun k _ => by rw [bQ_apply m c n hn, bK_apply m c n hn]
  rw [hs]
  exact Finset.sum_congr rfl fun i _ => by rw [bV_apply m c n hn]

theorem gD_eq (D : Vec Ideal S512x512 .f32) (e : Fin 512) : gD D e = AttnForm.gc (fun d => D (ix2 d e)) := rfl
theorem cD_eq (D : Vec Ideal S512x512 .f32) (d e : Fin 512) : cD D d e = AttnForm.cc (fun d => D (ix2 d e)) d := rfl
theorem jD_eq (D : Vec Ideal S512x512 .f32) (t : Fin cfg0.N) (h e : Fin 512) :
    jD D (bW m c t) (bA m c t) (bB m c t) h e = AttnForm.jc (fun k h => a4 m c (ix2 k h)) (fun h => a5 m c (ix1 h)) (fun h => a6 m c (ix1 h)) (fun d => D (ix2 d e)) h := by
  unfold jD AttnForm.jc
  rw [bA_apply, bB_apply]
  have hc : (∑ k : Fin 512, bW m c t (ix2 h k) * cD D k e) = ∑ k : Fin 512, a4 m c (ix2 k h) * AttnForm.cc (fun d => D (ix2 d e)) k :=
    Finset.sum_congr rfl fun k _ => by rw [bW_apply]; rfl
  rw [hc]; rfl

/-- What the body leaves in the four blocks of a tile. -/
theorem blk_out (n : ℕ) (hn : n < 160) (h2 : n + 1 + 1 < cfg0.N) {x : Mem Ideal} (H : At0 m c ⟨n + 1 + 1, h2⟩ x) (d e : Fin 512) :
    (bodyF (grid0.coords ⟨n + 1 + 1, h2⟩) x).f8 (ix3 0 d e) = res0 m c (ix3 (tb n hn) d (tc n e))
      ∧ (bodyF (grid0.coords ⟨n + 1 + 1, h2⟩) x).f9 (ix3 0 d e) = res1 m c (ix3 (tb n hn) d (tc n e))
      ∧ (bodyF (grid0.coords ⟨n + 1 + 1, h2⟩) x).f10 (ix3 0 d e) = res2 m c (ix3 (tb n hn) d (tc n e))
      ∧ (bodyF (grid0.coords ⟨n + 1 + 1, h2⟩) x).f11 (ix3 0 0 e) = res3 m c (ix3 (tb n hn) 0 (tc n e)) := by
  have h0 : n < cfg0.N := by omega
  have h1 : n + 1 < cfg0.N := by omega
  obtain ⟨o8, o9, o10, o11⟩ := rl_out m c n hn h0 h1 h2 H d e
  have ho := tile_o m c n hn h0 h1 (at0_O m c n hn h0 h1 h2 H) e
  rw [o8, o9, o10, o11, jD_eq, cD_eq, gD_eq, ho, bX_apply m c n hn]
  exact ⟨rfl, rfl, rfl, rfl⟩

theorem ext3 (y : S1x512x512.Idx) : y = ix3 (0 : Fin 1) (y 1) (y 2) :=
  funext fun a => match a with
    | 0 => Subsingleton.elim (α := Fin 1) _ _
    | 1 => rfl
    | 2 => rfl
theorem ext31 (y : S1x1x512.Idx) : y = ix3 (0 : Fin 1) (0 : Fin 1) (y 2) :=
  funext fun a => match a with
    | 0 => Subsingleton.elim (α := Fin 1) _ _
    | 1 => Subsingleton.elim (α := Fin 1) _ _
    | 2 => rfl

/-- A point from the third on, by its tile. -/
theorem pt (t : Fin cfg0.N) (h : 2 ≤ t.val) : ∃ (n : ℕ) (hn : n < 160) (h2 : n + 1 + 1 < cfg0.N), t = ⟨n + 1 + 1, h2⟩ := by
  have ht : t.val < 162 := t.isLt
  exact ⟨t.val - 2, by omega, by have := t.isLt; omega, Fin.ext (by show t.val = t.val - 2 + 1 + 1; omega)⟩

section
variable {after : (w' : Fin cfg0.W) → Fin cfg0.N → (cfg0.win w').block.Idx → Elt Ideal (cfg0.win w').elt}
  (hL : ∀ (w : Fin cfg0.W) (u : Fin cfg0.N), (cfg0.win w).flush u = true → (rdats m c).Leaves w u (after w u))
include hL

theorem arr7 : ((rdats m c).withAfter after).arrAt 7 cfg0.N = res0 m c := by
  refine Dat.arrAt_eq_of_covers _ 7 _ cov7 fun t hf y => ?_
  obtain ⟨x, hx, hX⟩ : Rl m c 7 t (after 7 t) := Dat.toRRel_leaves (dats m 0 c) rfl (hL 7 t hf)
  obtain ⟨n, hn, h2, rfl⟩ := pt t (fl7 t hf)
  have hm : min (n + 1 + 1 - 2) 159 = n := by omega
  have hy := ext3 y
  blk_simp
  rw [RDat.withAfter_after, hX]
  refine (congrArg _ hy).trans ((blk_out m c n hn h2 hx (y 1) (y 2)).1.trans (congrArg (res0 m c) (funext fun a => Fin.ext ?_)))
  match a with
  | 0 => blk_simp [i7, hm, tb_val, tc_val]
  | 1 => blk_simp [i7, hm, tb_val, tc_val]
  | 2 => blk_simp [i7, hm, tb_val, tc_val]; rfl

theorem arr8 : ((rdats m c).withAfter after).arrAt 8 cfg0.N = res1 m c := by
  refine Dat.arrAt_eq_of_covers _ 8 _ cov8 fun t hf y => ?_
  obtain ⟨x, hx, hX⟩ : Rl m c 8 t (after 8 t) := Dat.toRRel_leaves (dats m 0 c) rfl (hL 8 t hf)
  obtain ⟨n, hn, h2, rfl⟩ := pt t (fl8 t hf)
  have hm : min (n + 1 + 1 - 2) 159 = n := by omega
  have hy := ext3 y
  blk_simp
  rw [RDat.withAfter_after, hX]
  refine (congrArg _ hy).trans ((blk_out m c n hn h2 hx (y 1) (y 2)).2.1.trans (congrArg (res1 m c) (funext fun a => Fin.ext ?_)))
  match a with
  | 0 => blk_simp [i8, hm, tb_val, tc_val]
  | 1 => blk_simp [i8, hm, tb_val, tc_val]
  | 2 => blk_simp [i8, hm, tb_val, tc_val]; rfl

theorem arr9 : ((rdats m c).withAfter after).arrAt 9 cfg0.N = res2 m c := by
  refine Dat.arrAt_eq_of_covers _ 9 _ cov9 fun t hf y => ?_
  obtain ⟨x, hx, hX⟩ : Rl m c 9 t (after 9 t) := Dat.toRRel_leaves (dats m 0 c) rfl (hL 9 t hf)
  obtain ⟨n, hn, h2, rfl⟩ := pt t (fl9 t hf)
  have hm : min (n + 1 + 1 - 2) 159 = n := by omega
  have hy := ext3 y
  blk_simp
  rw [RDat.withAfter_after, hX]
  refine (congrArg _ hy).trans ((blk_out m c n hn h2 hx (y 1) (y 2)).2.2.1.trans (congrArg (res2 m c) (funext fun a => Fin.ext ?_)))
  match a with
  | 0 => blk_simp [i9, hm, tb_val, tc_val]
  | 1 => blk_simp [i9, hm, tb_val, tc_val]
  | 2 => blk_simp [i9, hm, tb_val, tc_val]; rfl

theorem arr10 : ((rdats m c).withAfter after).arrAt 10 cfg0.N = res3 m c := by
  refine Dat.arrAt_eq_of_covers _ 10 _ cov10 fun t hf y => ?_
  obtain ⟨x, hx, hX⟩ : Rl m c 10 t (after 10 t) := Dat.toRRel_leaves (dats m 0 c) rfl (hL 10 t hf)
  obtain ⟨n, hn, h2, rfl⟩ := pt t (fl10 t hf)
  have hm : min (n + 1 + 1 - 2) 159 = n := by omega
  have hy := ext31 y
  blk_simp
  rw [RDat.withAfter_after, hX]
  refine (congrArg _ hy).trans ((blk_out m c n hn h2 hx 0 (y 2)).2.2.2.trans (congrArg (res3 m c) (funext fun a => Fin.ext ?_)))
  match a with
  | 0 => blk_simp [i10, hm, tb_val, tc_val]
  | 1 => blk_simp [i10, hm, tb_val, tc_val]; rfl
  | 2 => blk_simp [i10, hm, tb_val, tc_val]; rfl

end

/-- Every run leaves the results named, and the arguments unchanged. -/
theorem value_run (hbe : cc0_attention (F := Ideal) = bodyS) : θ_run defs (onTc (τ := τ) (main (F := Ideal))) ⟨m, fun _ => 0, ρ⟩ (fun r => ∀ c : Dev nD,
      r.2.mem ((c.tc : Thread nD τ).loc main_v3_0) = res0 m c
      ∧ r.2.mem ((c.tc : Thread nD τ).loc main_v3_1) = res1 m c
      ∧ r.2.mem ((c.tc : Thread nD τ).loc main_v3_2) = res2 m c
      ∧ r.2.mem ((c.tc : Thread nD τ).loc main_v3_3) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain ⟨after, hL, hA⟩ := RDat.FramePost.exists_exact h.1 c
    exact ⟨(hA 7).trans (arr7 m c hL), (hA 8).trans (arr8 m c hL), (hA 9).trans (arr9 m c hL), (hA 10).trans (arr10 m c hL),
      (h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩)
    (run_main_quiescent m ρ hbe)

end Cert.AttnIdeal.Body

end
-- ==== Proof.AttnRefHost.lean ====
/- What the attention reference computes on the host, before its last call: the attention output, and the scale of each group and
   its reciprocal, as functions of the arguments. -/
module

public import proofs.«01_k».proof.Proof.Gen.AttnRefIdeal.Frame
public import Idealize.ShloMosaic.Lib.StableHlo.RunRead

@[expose] public section

set_option maxRecDepth 16384
set_option pp.maxSteps 300

noncomputable section

namespace Cert.AttnRefHost

open Cert.AttnRefIdeal Cert.AttnRefIdeal.Gen Idealize.ShloMosaic Idealize.ShloMosaic.TcCoe Idealize.SL.Sem Idealize.ShloMosaic.StableHlo

variable {F : FTy → Type} [FloatOps F]

/-- The scaled scores. -/
def stT (q : FVec F S10x512x8192 .bf16) (kt : FVec F S10x8192x512 .bf16) : FVec F S10x8192x8192 .f32 :=
  mulf (Host.dotGeneral dot_S10x512x8192_S10x8192x512_S10x8192x8192_1_2_2_1_0_0 none q kt)
    (broadcastInDim S10x8192x8192 ![] bcast_S_S10x8192x8192 (constant S_ .f32 0x3D3504F3#32))
/-- A value per row, for every column. -/
def rowsT (x : FVec F S10x8192x1 .f32) : FVec F S10x8192x8192 .f32 :=
  broadcastInDim S10x8192x8192 ![0, 1, 2] bcast_S10x8192x1_S10x8192x8192_0_1_2 x
/-- The exponentials of the scores less their row's maximum. -/
def eT (s : FVec F S10x8192x8192 .f32) : FVec F S10x8192x8192 .f32 :=
  Host.exp (subf s (rowsT (broadcastInDim S10x8192x1 ![0, 1] bcast_S10x8192_S10x8192x1_0_1
    (Host.reduce FloatOps.maximumf s (constant S_ .f32 0xFF800000#32) reducesTo_S10x8192x8192_S10x8192_d2 h_S_))))
/-- The probabilities. -/
def pT (e : FVec F S10x8192x8192 .f32) : FVec F S10x8192x8192 .f32 :=
  mulf e (rowsT (Host.divf (broadcastInDim S10x8192x1 ![] bcast_S_S10x8192x1 (constant S_ .f32 0x3F800000#32))
    (broadcastInDim S10x8192x1 ![0, 1] bcast_S10x8192_S10x8192x1_0_1
      (Host.reduceAdd e (constant S_ .f32 0x00000000#32) reducesTo_S10x8192x8192_S10x8192_d2 h_S_))))
/-- The attention output. -/
def oT (v : FVec F S10x512x8192 .bf16) (p : FVec F S10x8192x8192 .f32) : FVec F S10x512x8192 .f32 :=
  Host.dotGeneral dot_S10x512x8192_S10x8192x8192_S10x512x8192_2_2_1_1_0_0 none v (truncf .bf16 p bitsLt_bf16_f32)
/-- The scaled maximum of each group. -/
def gT (o : FVec F S10x512x8192 .f32) : FVec F S10x8192 .f32 :=
  mulf (Host.reduce FloatOps.maximumf (Host.absf o) (constant S_ .f32 0xFF800000#32) reducesTo_S10x512x8192_S10x8192_d1 h_S_)
    (broadcastInDim S10x8192 ![] bcast_S_S10x8192 (constant S_ .f32 0x3B124925#32))
/-- The powers of two counted. -/
def powT : FVec F S254 .f32 :=
  Host.powf (broadcastInDim S254 ![] bcast_S_S254 (constant S_ .f32 0x40000000#32))
    (sitofp .f32 (addi (broadcastInDim S254 ![] bcast_S_S254 (constantI S_ 32 4294967170#32)) (iotaInDim S254 32 0)))
/-- How many of the powers are not above each group's value. -/
def cntT (g : FVec F S10x8192 .f32) : IVec S10x8192 32 :=
  Host.reduce IntOp.addi (extui 32 (cmpf .oge
      (broadcastInDim S10x8192x254 ![0, 1, 2] bcast_S10x8192x1_S10x8192x254_0_1_2 (broadcastInDim S10x8192x1 ![0, 1] bcast_S10x8192_S10x8192x1_0_1 g))
      (broadcastInDim S10x8192x254 ![0, 1, 2] bcast_S1x1x254_S10x8192x254_0_1_2 (broadcastInDim S1x1x254 ![2] bcast_S254_S1x1x254_2 powT)))
    natLt_1_32) (constantI S_ 32 0#32) reducesTo_S10x8192x254_S10x8192_d2 h_S_
/-- An integer constant for every group. -/
def cT (w : BitVec 32) : IVec S10x8192 32 := broadcastInDim S10x8192 ![] bcast_S_S10x8192 (constantI S_ 32 w)
/-- A float constant for every group. -/
def fT (w : BitVec 32) : FVec F S10x8192 .f32 := broadcastInDim S10x8192 ![] bcast_S_S10x8192 (constant S_ .f32 w)
/-- The exponent of each group. -/
def exT (g : FVec F S10x8192 .f32) : IVec S10x8192 32 :=
  select (ori (cmpi .eq (cntT g) (cT 0#32)) (cmpf .oeq g (fT 0x7F800000#32))) (cT 0#32) (subi (cntT g) (cT 126#32))
/-- The power of two of each exponent. -/
def p2T (e : IVec S10x8192 32) : FVec F S10x8192 .f32 :=
  select (cmpi .sgt e (cT 127#32)) (fT 0x7F800000#32) (select (cmpi .slt e (cT 4294967170#32)) (fT 0x00000000#32)
    (Host.powf (fT 0x40000000#32) (sitofp .f32 e)))

variable (m : (ℓ : Loc nD τ sig) → Buf (Elt F) ℓ) (c : Dev nD)

/-- The attention output of the arguments. -/
def oV : FVec F S10x512x8192 .f32 :=
  oT (m ((c : Thread nD τ).loc main_arg2)) (pT (eT (stT (m ((c : Thread nD τ).loc main_arg0)) (m ((c : Thread nD τ).loc main_arg1)))))

set_option maxHeartbeats 4000000 in
theorem V_main_v15 : V m c main_v15 = oV m c := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append]
  after_reads_simp
  rfl

set_option maxHeartbeats 4000000 in
theorem V_main_v60 : V m c main_v60 = broadcastInDim S1x512x1 ![1] bcast_S512_S1x512x1_1 (m ((c : Thread nD τ).loc main_arg5)) := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append]
  after_reads_simp

set_option maxHeartbeats 4000000 in
theorem V_main_v61 : V m c main_v61 = broadcastInDim S1x512x1 ![1] bcast_S512_S1x512x1_1 (m ((c : Thread nD τ).loc main_arg6)) := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append]
  after_reads_simp

end Cert.AttnRefHost

end
-- ==== Proof.AttnRefVal.lean ====
/- The attention reference's results, entry by entry, over the extended reals. -/
module

public import proofs.«01_k».proof.Proof.AttnRefHost
public import proofs.«01_k».proof.Proof.Softmax
public import proofs.«01_k».proof.Proof.Quant
public import Idealize.ShloMosaic.Lib.Pointwise
public import Idealize.ShloMosaic.Lib.IndicatorCount
public import Idealize.ShloMosaic.PureOps.Ideal.Laws

@[expose] public section

set_option maxRecDepth 16384
set_option pp.maxSteps 300

noncomputable section

namespace Cert.AttnRefHost

open Cert.AttnRefIdeal Cert.AttnRefIdeal.Gen Idealize.ShloMosaic Idealize.ShloMosaic.TcCoe Idealize.SL.Sem Idealize.ShloMosaic.StableHlo

theorem bot_bits : Ideal.ofBits .f32 0xFF800000#32 = ⊥ := by
  simp [Ideal.ofBits, Ideal.ieee]

theorem top_bits : Ideal.ofBits .f32 0x7F800000#32 = ⊤ := by
  simp [Ideal.ofBits, Ideal.ieee]

theorem fold_sup {ι : Type} [Fintype ι] (f : ι → EReal) : Finset.univ.fold max (Ideal.ofBits .f32 0xFF800000#32) f = Finset.univ.sup f := by
  rw [bot_bits]; rfl

variable (b : Fin 10) (i j : Fin 8192) (d : Fin 512)

theorem stT_apply (q : FVec Ideal S10x512x8192 .bf16) (kt : FVec Ideal S10x8192x512 .bf16) :
    stT q kt (ix3 b i j) = (∑ c : Fin 512, q (ix3 b c i) * kt (ix3 b j c)) * Ideal.ofBits .f32 0x3D3504F3#32 := by
  unfold stT; pointwise

theorem eT_apply (s : FVec Ideal S10x8192x8192 .f32) :
    eT s (ix3 b i j) = Ideal.exp (s (ix3 b i j) - Finset.univ.sup fun k => s (ix3 b i k)) := by
  rw [← fold_sup]; unfold eT rowsT; pointwise

theorem pT_apply (e : FVec Ideal S10x8192x8192 .f32) :
    pT e (ix3 b i j) = e (ix3 b i j) * Ideal.div 1 (∑ k, e (ix3 b i k)) := by
  unfold pT rowsT; pointwise

theorem oT_apply (v : FVec Ideal S10x512x8192 .bf16) (p : FVec Ideal S10x8192x8192 .f32) :
    oT v p (ix3 b d i) = ∑ j, v (ix3 b d j) * p (ix3 b i j) := by
  unfold oT; pointwise

theorem gT_apply (o : FVec Ideal S10x512x8192 .f32) :
    gT o (ix2 b i) = (Finset.univ.sup fun d => max (o (ix3 b d i)) (-o (ix3 b d i))) * Ideal.ofBits .f32 0x3B124925#32 := by
  rw [← fold_sup]; unfold gT; rw [mulf_apply]
  pointwise
  rfl

theorem powT_apply (k : Fin 254) : powT (F := Ideal) (ix1 k) = Quant.T (k.val + 1) := by
  unfold powT
  pointwise
  have e : FloatOps.sitofp (F := Ideal) .f32 (IntOp.addi 4294967170#32 (BitVec.ofNat 32 k.val)) = ((((k.val : ℤ) - 126 : ℤ) : ℝ) : EReal) := by
    have : (IntOp.addi 4294967170#32 (BitVec.ofNat 32 k.val)).toInt = (k.val : ℤ) - 126 := by
      have := k.isLt
      rw [IntOp.addi, BitVec.toInt_eq_toNat_cond, BitVec.toNat_add, BitVec.toNat_ofNat, BitVec.toNat_ofNat]
      split <;> omega
    rw [← this]; rfl
  rw [e, Quant.pow_two, Quant.T_coe (by omega) (by have := k.isLt; omega)]
  rw [show ((k.val + 1 : ℕ) : ℤ) - 127 = (k.val : ℤ) - 126 by push_cast; ring]

theorem cntT_apply (hp : ∀ k : Fin 254, powT (F := Ideal) (ix1 k) = Quant.T (k.val + 1)) (g : FVec Ideal S10x8192 .f32) : cntT g (ix2 b i) = BitVec.ofNat 32 (min (Quant.N (g (ix2 b i))) 254) := by
  unfold cntT; pointwise
  rw [IndicatorCount.fold_addi_setWidth_eq_card, ← Quant.count_eq]
  congr 1
  refine Finset.card_bij (fun k _ => k.val) ?_ ?_ ?_
  · intro k hk
    simp only [Finset.mem_filter, Finset.mem_univ, true_and, hp, Finset.mem_range] at hk ⊢
    exact ⟨k.isLt, by by_contra hc; simp [hc] at hk⟩
  · intro a _ b _ h; exact Fin.ext h
  · intro k hk
    simp only [Finset.mem_filter, Finset.mem_range] at hk
    exact ⟨⟨k, hk.1⟩, by simp [hp, hk.2], rfl⟩

theorem exT_apply (g : FVec Ideal S10x8192 .f32) (hp : cntT (F := Ideal) g (ix2 b i) = BitVec.ofNat 32 (min (Quant.N (g (ix2 b i))) 254)) : exT g (ix2 b i) = Quant.ex (g (ix2 b i)) := by
  unfold exT cT fT; pointwise
  rw [hp, top_bits]
  unfold Quant.ex Scalar.select IntOp.ori IntOp.cmpi IntOp.subi
  generalize BitVec.ofNat 32 (min (Quant.N (g (ix2 b i))) 254) = n
  generalize g (ix2 b i) = x
  by_cases h1 : n = 0#32
  · subst h1; by_cases h2 : x = ⊤ <;> simp [h2]
  · by_cases h2 : x = ⊤
    · have e : (n == 0#32) = false := by simpa using h1
      simp only [h1, h2, e, false_or]; simp
    · have e : (n == 0#32) = false := by simpa using h1
      simp [h1, h2, e]

theorem p2T_apply (e : IVec S10x8192 32) : p2T (F := Ideal) e (ix2 b i) = Quant.p2 (e (ix2 b i)) := by
  unfold p2T cT fT; pointwise
  rw [top_bits]
  unfold Quant.p2 Scalar.select IntOp.cmpi
  by_cases h1 : 127 < (e (ix2 b i)).toInt <;> by_cases h2 : (e (ix2 b i)).toInt < -126 <;> simp [h1, h2, BitVec.slt] <;> rfl

theorem negT_apply (e : IVec S10x8192 32) : negi e (ix2 b i) = -(e (ix2 b i)) := rfl

theorem k0_pay3_apply (o : Vec Ideal S10x512x8192 .f32) (s : Vec Ideal S10x8192 .f32) :
    k0_pay3 (F := Ideal) o s (ix3 b d i) = min (Ideal.ofBits .f32 0x43E00000#32) (max (Ideal.ofBits .f32 0xC3E00000#32) (o (ix3 b d i) * s (ix2 b i))) := by
  unfold k0_pay3; pointwise

theorem k0_pay4_apply (o : Vec Ideal S10x512x8192 .f32) (s : Vec Ideal S10x8192 .f32) (w : Vec Ideal S512x512 .fp8e4m3) (r : Vec Ideal S10x8192 .f32) (p u : Vec Ideal S1x512x1 .f32) :
    k0_pay4 (F := Ideal) o s w r p u (ix3 b d i) = (∑ c : Fin 512, w (ix2 c d) * k0_pay3 (F := Ideal) o s (ix3 b c i)) * r (ix2 b i) * p (ix3 0 d 0) + u (ix3 0 d 0) := by
  unfold k0_pay4; pointwise

theorem k0_pay5_apply (o : Vec Ideal S10x512x8192 .f32) (s : Vec Ideal S10x8192 .f32) (w : Vec Ideal S512x512 .fp8e4m3) (r : Vec Ideal S10x8192 .f32) (p u : Vec Ideal S1x512x1 .f32) (x : Vec Ideal S10x512x8192 .bf16) :
    k0_pay5 (F := Ideal) o s w r p u x (ix3 b d i) = x (ix3 b d i) + k0_pay4 (F := Ideal) o s w r p u (ix3 b d i) := by
  unfold k0_pay5; pointwise

end Cert.AttnRefHost

end
-- ==== Proof.AttnRefScale.lean ====
/- The reference's scale and its reciprocal, read off its host operations in stages: each stage over any contents of the buffers before it. -/
module

public import proofs.«01_k».proof.Proof.AttnRefVal

@[expose] public section

set_option maxRecDepth 16384
set_option pp.maxSteps 300
set_option maxHeartbeats 1000000

noncomputable section

namespace Cert.AttnRefHost

open Cert.AttnRefIdeal Cert.AttnRefIdeal.Gen
open Idealize.ShloMosaic Idealize.ShloMosaic.TcCoe Idealize.ShloMosaic.Tactic

variable {F : FTy → Type} [FloatOps F]

/-- The operations up to the scaled maxima, those counting, and those after them. -/
abbrev opsA : List (HloOp τ sig (Elt F)) := (hostOps0 (F := F)).take 26
abbrev opsB : List (HloOp τ sig (Elt F)) := ((hostOps0 (F := F)).drop 26).take 16
abbrev opsC : List (HloOp τ sig (Elt F)) := ((hostOps0 (F := F)).drop 26).drop 16

theorem ops_split : (hostOps0 : List (HloOp τ sig (Elt F))) = opsA ++ (opsB ++ opsC) := by
  unfold opsA opsB opsC
  rw [List.take_append_drop, List.take_append_drop]

variable (m : (ℓ : Loc nD τ sig) → Buf (Elt F) ℓ) (c : Dev nD) (M : Valuation τ sig (Elt F))

theorem after_C40 : StableHlo.after (opsC ++ hostOps0_1) M (Proc.devRef .tc main_v40)
    = select (ori (cmpi .eq (M (Proc.devRef .tc main_v32)) (cT 0#32)) (cmpf .oeq (M (Proc.devRef .tc main_v19)) (fT 0x7F800000#32))) (cT 0#32) (subi (M (Proc.devRef .tc main_v32)) (cT 126#32)) := by
  simp only [opsC, hostOps0, hostOps0_1, List.drop_succ_cons, List.drop_zero, List.cons_append, List.nil_append]
  after_reads_simp
  rfl

theorem after_D49 : StableHlo.after (hostOps0_2 ++ (hostOps0_3 ++ (hostOps0_4 ++ hostOps0_5))) M (Proc.devRef .tc main_v49) = p2T (M (Proc.devRef .tc main_v40)) := by
  simp only [hostOps0_2, hostOps0_3, hostOps0_4, hostOps0_5, List.cons_append, List.nil_append]
  after_reads_simp
  rfl
theorem after_D40 : StableHlo.after (hostOps0_2 ++ (hostOps0_3 ++ (hostOps0_4 ++ hostOps0_5))) M (Proc.devRef .tc main_v40) = M (Proc.devRef .tc main_v40) := by
  simp only [hostOps0_2, hostOps0_3, hostOps0_4, hostOps0_5, List.cons_append, List.nil_append]
  after_reads_simp
theorem after_E59 : StableHlo.after (hostOps0_6 ++ (hostOps0_7 ++ (hostOps0_8 ++ hostOps0_9))) M (Proc.devRef .tc main_v59) = p2T (negi (M (Proc.devRef .tc main_v40))) := by
  simp only [hostOps0_6, hostOps0_7, hostOps0_8, hostOps0_9, List.cons_append, List.nil_append]
  after_reads_simp
  rfl
theorem after_E49 : StableHlo.after (hostOps0_6 ++ (hostOps0_7 ++ (hostOps0_8 ++ hostOps0_9))) M (Proc.devRef .tc main_v49) = M (Proc.devRef .tc main_v49) := by
  simp only [hostOps0_6, hostOps0_7, hostOps0_8, hostOps0_9, List.cons_append, List.nil_append]
  after_reads_simp
theorem after_F49 : StableHlo.after hostOps0_10 M (Proc.devRef .tc main_v49) = M (Proc.devRef .tc main_v49) := by
  simp only [hostOps0_10]
  after_reads_simp
theorem after_F59 : StableHlo.after hostOps0_10 M (Proc.devRef .tc main_v59) = M (Proc.devRef .tc main_v59) := by
  simp only [hostOps0_10]
  after_reads_simp
theorem after_B32 : StableHlo.after opsB M (Proc.devRef .tc main_v32) = cntT (M (Proc.devRef .tc main_v19)) := by
  simp only [opsB, hostOps0, List.drop_succ_cons, List.drop_zero, List.take_succ_cons, List.take_zero]
  after_reads_simp
  rfl
theorem after_B19 : StableHlo.after opsB M (Proc.devRef .tc main_v19) = M (Proc.devRef .tc main_v19) := by
  simp only [opsB, hostOps0, List.drop_succ_cons, List.drop_zero, List.take_succ_cons, List.take_zero]
  after_reads_simp
theorem after_A19 : StableHlo.after opsA (fun b => m (c, b)) (Proc.devRef .tc main_v19) = gT (oV m c) := by
  simp only [opsA, hostOps0, List.take_succ_cons, List.take_zero]
  after_reads_simp
  rfl

theorem flat_split : List.flatten [hostOps0 (F := F), hostOps0_1, hostOps0_2, hostOps0_3, hostOps0_4, hostOps0_5, hostOps0_6, hostOps0_7, hostOps0_8, hostOps0_9, hostOps0_10]
    = opsA ++ (opsB ++ ((opsC ++ hostOps0_1) ++ ((hostOps0_2 ++ (hostOps0_3 ++ (hostOps0_4 ++ hostOps0_5))) ++ ((hostOps0_6 ++ (hostOps0_7 ++ (hostOps0_8 ++ hostOps0_9))) ++ hostOps0_10)))) := by
  rw [ops_split]
  simp only [List.flatten_cons, List.flatten_nil, List.append_nil, List.append_assoc]

theorem V_main_v49 : V m c main_v49 = p2T (exT (gT (oV m c))) := by
  unfold V V0
  rw [flat_split]
  rw [StableHlo.after_append opsA, StableHlo.after_append opsB, StableHlo.after_append (opsC ++ hostOps0_1), StableHlo.after_append (hostOps0_2 ++ _), StableHlo.after_append (hostOps0_6 ++ _),
    after_F49, after_E49, after_D49, after_C40, after_B32, after_B19, after_A19]
  rfl

theorem V_main_v59 : V m c main_v59 = p2T (negi (exT (gT (oV m c)))) := by
  unfold V V0
  rw [flat_split]
  rw [StableHlo.after_append opsA, StableHlo.after_append opsB, StableHlo.after_append (opsC ++ hostOps0_1), StableHlo.after_append (hostOps0_2 ++ _), StableHlo.after_append (hostOps0_6 ++ _),
    after_F59, after_E59, after_D40, after_C40, after_B32, after_B19, after_A19]
  rfl

end Cert.AttnRefHost

end
-- ==== Proof.AttnRefRes.lean ====
/- The reference's results: what every run leaves in its four arrays, as formulas of the arguments. -/
module

public import proofs.«01_k».proof.Proof.AttnRefScale
public import proofs.«01_k».proof.Proof.AttnForm
public import proofs.«01_k».proof.Proof.Gen.AttnRefIdeal.Run
public import proofs.«01_k».proof.Proof.Gen.AttnRefIdeal.Read
public import Idealize.ShloMosaic.Lib.Pipeline.ValueKit.Geometry
public import Idealize.ShloMosaic.Lib.Pipeline.ValueKit.Acc

@[expose] public section

set_option maxRecDepth 16384
set_option pp.maxSteps 300

noncomputable section

namespace Cert.AttnRefHost

open Cert.AttnRefIdeal Cert.AttnRefIdeal.Gen
open Idealize.ShloMosaic Idealize.ShloMosaic.TcCoe Idealize.ShloMosaic.Tactic
open Idealize.ShloMosaic.Pipeline (Dat)

theorem cov7 : (cfg0.win 7).Covers := by decide +kernel
theorem cov8 : (cfg0.win 8).Covers := by decide +kernel
theorem cov9 : (cfg0.win 9).Covers := by decide +kernel
theorem cov10 : (cfg0.win 10).Covers := by decide +kernel

variable [Facts]
variable (m : (ℓ : Loc nD τ sig) → Buf (Elt Ideal) ℓ) (c : Dev nD)

theorem rd0 (t : Fin cfg0.N) (X : Vec Ideal S10x512x8192 .f32) : (((cfg0.win 0).blk t).view.read (Elt Ideal) X : Vec Ideal S10x512x8192 .f32) = X := by
  funext i
  refine congrArg X (funext fun a => Fin.ext ?_)
  show 0 * _ + 1 * (i a).val = (i a).val
  omega
theorem b0 (t : Fin cfg0.N) : (iblk m c 0 t : Vec Ideal S10x512x8192 .f32) = V m c main_v15 := rd0 t _
theorem rd1 (t : Fin cfg0.N) (X : Vec Ideal S10x8192 .f32) : (((cfg0.win 1).blk t).view.read (Elt Ideal) X : Vec Ideal S10x8192 .f32) = X := by
  funext i
  refine congrArg X (funext fun a => Fin.ext ?_)
  show 0 * _ + 1 * (i a).val = (i a).val
  omega
theorem b1 (t : Fin cfg0.N) : (iblk m c 1 t : Vec Ideal S10x8192 .f32) = V m c main_v49 := rd1 t _
theorem rd2 (t : Fin cfg0.N) (X : Vec Ideal S10x8192 .f32) : (((cfg0.win 2).blk t).view.read (Elt Ideal) X : Vec Ideal S10x8192 .f32) = X := by
  funext i
  refine congrArg X (funext fun a => Fin.ext ?_)
  show 0 * _ + 1 * (i a).val = (i a).val
  omega
theorem b2 (t : Fin cfg0.N) : (iblk m c 2 t : Vec Ideal S10x8192 .f32) = V m c main_v59 := rd2 t _
theorem rd3 (t : Fin cfg0.N) (X : Vec Ideal S10x512x8192 .bf16) : (((cfg0.win 3).blk t).view.read (Elt Ideal) X : Vec Ideal S10x512x8192 .bf16) = X := by
  funext i
  refine congrArg X (funext fun a => Fin.ext ?_)
  show 0 * _ + 1 * (i a).val = (i a).val
  omega
theorem b3 (t : Fin cfg0.N) : (iblk m c 3 t : Vec Ideal S10x512x8192 .bf16) = V m c main_arg3 := rd3 t _
theorem rd4 (t : Fin cfg0.N) (X : Vec Ideal S512x512 .fp8e4m3) : (((cfg0.win 4).blk t).view.read (Elt Ideal) X : Vec Ideal S512x512 .fp8e4m3) = X := by
  funext i
  refine congrArg X (funext fun a => Fin.ext ?_)
  show 0 * _ + 1 * (i a).val = (i a).val
  omega
theorem b4 (t : Fin cfg0.N) : (iblk m c 4 t : Vec Ideal S512x512 .fp8e4m3) = V m c main_arg4 := rd4 t _
theorem rd5 (t : Fin cfg0.N) (X : Vec Ideal S1x512x1 .f32) : (((cfg0.win 5).blk t).view.read (Elt Ideal) X : Vec Ideal S1x512x1 .f32) = X := by
  funext i
  refine congrArg X (funext fun a => Fin.ext ?_)
  show 0 * _ + 1 * (i a).val = (i a).val
  omega
theorem b5 (t : Fin cfg0.N) : (iblk m c 5 t : Vec Ideal S1x512x1 .f32) = V m c main_v60 := rd5 t _
theorem rd6 (t : Fin cfg0.N) (X : Vec Ideal S1x512x1 .f32) : (((cfg0.win 6).blk t).view.read (Elt Ideal) X : Vec Ideal S1x512x1 .f32) = X := by
  funext i
  refine congrArg X (funext fun a => Fin.ext ?_)
  show 0 * _ + 1 * (i a).val = (i a).val
  omega
theorem b6 (t : Fin cfg0.N) : (iblk m c 6 t : Vec Ideal S1x512x1 .f32) = V m c main_v61 := rd6 t _
theorem em7 (t : Fin cfg0.N) (y : S10x512x8192.Idx) : (((cfg0.win 7).blk t).view.emb y : S10x512x8192.Idx) = y := by
  refine funext fun a => Fin.ext ?_
  show 0 * _ + 1 * (y a).val = (y a).val
  omega
theorem final7 (P : S10x512x8192.Idx → EReal) (hP : ∀ y, k0_pay5 (F := Ideal) (V m c main_v15) (V m c main_v59) (V m c main_arg4) (V m c main_v49) (V m c main_v60) (V m c main_v61) (V m c main_arg3) y = P y) : (Gen.dats m 0 c).arrAt 7 cfg0.N = P := by
  refine Dat.arrAt_eq_of_covers _ 7 _ cov7 fun t hf y => ?_
  blk_simp
  rw [Gen.after0_7]; frame_out
  rw [b0, b1, b2, b3, b4, b5, b6]
  exact (hP y).trans (congrArg P (em7 t y).symm)
theorem em8 (t : Fin cfg0.N) (y : S10x512x8192.Idx) : (((cfg0.win 8).blk t).view.emb y : S10x512x8192.Idx) = y := by
  refine funext fun a => Fin.ext ?_
  show 0 * _ + 1 * (y a).val = (y a).val
  omega
theorem final8 (P : S10x512x8192.Idx → EReal) (hP : ∀ y, k0_pay4 (F := Ideal) (V m c main_v15) (V m c main_v59) (V m c main_arg4) (V m c main_v49) (V m c main_v60) (V m c main_v61) y = P y) : (Gen.dats m 0 c).arrAt 8 cfg0.N = P := by
  refine Dat.arrAt_eq_of_covers _ 8 _ cov8 fun t hf y => ?_
  blk_simp
  rw [Gen.after0_8]; frame_out
  rw [b0, b1, b2, b4, b5, b6]
  exact (hP y).trans (congrArg P (em8 t y).symm)
theorem em9 (t : Fin cfg0.N) (y : S10x512x8192.Idx) : (((cfg0.win 9).blk t).view.emb y : S10x512x8192.Idx) = y := by
  refine funext fun a => Fin.ext ?_
  show 0 * _ + 1 * (y a).val = (y a).val
  omega
theorem final9 (P : S10x512x8192.Idx → EReal) (hP : ∀ y, k0_pay3 (F := Ideal) (V m c main_v15) (V m c main_v59) y = P y) : (Gen.dats m 0 c).arrAt 9 cfg0.N = P := by
  refine Dat.arrAt_eq_of_covers _ 9 _ cov9 fun t hf y => ?_
  blk_simp
  rw [Gen.after0_9]; frame_out
  rw [b0, b2]
  exact (hP y).trans (congrArg P (em9 t y).symm)
theorem em10 (t : Fin cfg0.N) (y : S10x8192.Idx) : (((cfg0.win 10).blk t).view.emb y : S10x8192.Idx) = y := by
  refine funext fun a => Fin.ext ?_
  show 0 * _ + 1 * (y a).val = (y a).val
  omega
theorem final10 (P : S10x8192.Idx → EReal) (hP : ∀ y, k0_pay2 (F := Ideal) (V m c main_v49) y = P y) : (Gen.dats m 0 c).arrAt 10 cfg0.N = P := by
  refine Dat.arrAt_eq_of_covers _ 10 _ cov10 fun t hf y => ?_
  blk_simp
  rw [Gen.after0_10]; frame_out
  rw [b1]
  exact (hP y).trans (congrArg P (em10 t y).symm)

/-! ## The stages at an index -/

theorem scale_bits : Ideal.ofBits .f32 0x3D3504F3#32 = ((11863283 / 268435456 : ℝ) : EReal) := by
  simp [Ideal.ofBits, Ideal.ieee]
  rw [← EReal.coe_mul]
  norm_num

abbrev r0 : Vec Ideal S10x512x8192 .bf16 := m ((c : Thread nD τ).loc main_arg0)
abbrev r1 : Vec Ideal S10x8192x512 .bf16 := m ((c : Thread nD τ).loc main_arg1)
abbrev r2 : Vec Ideal S10x512x8192 .bf16 := m ((c : Thread nD τ).loc main_arg2)
abbrev r3 : Vec Ideal S10x512x8192 .bf16 := m ((c : Thread nD τ).loc main_arg3)
abbrev r4 : Vec Ideal S512x512 .fp8e4m3 := m ((c : Thread nD τ).loc main_arg4)
abbrev r5 : Vec Ideal S512 .f32 := m ((c : Thread nD τ).loc main_arg5)
abbrev r6 : Vec Ideal S512 .f32 := m ((c : Thread nD τ).loc main_arg6)

/-- The attention output of the arguments, by column. -/
def oR (b : Fin 10) (i : Fin 8192) : Fin 512 → EReal :=
  AttnForm.oA (fun b k i => r0 m c (ix3 b k i)) (fun b i k => r1 m c (ix3 b i k)) (fun b d i => r2 m c (ix3 b d i)) b i
/-- The projection of the arguments, by column. -/
def jR (b : Fin 10) (i : Fin 8192) : Fin 512 → EReal :=
  AttnForm.jc (fun k h => r4 m c (ix2 k h)) (fun h => r5 m c (ix1 h)) (fun h => r6 m c (ix1 h)) (oR m c b i)

variable (b : Fin 10) (i : Fin 8192) (d : Fin 512)

theorem oV_apply : oV m c (ix3 b d i) = oR m c b i d := by
  unfold oV oR AttnForm.oA
  rw [oT_apply]
  refine Finset.sum_congr rfl fun j _ => ?_
  have hs : ∀ k : Fin 8192, stT (F := Ideal) (r0 m c) (r1 m c) (ix3 b i k) = AttnForm.sc (fun b k i => r0 m c (ix3 b k i)) (fun b i k => r1 m c (ix3 b i k)) b i k * ((11863283 / 268435456 : ℝ) : EReal) := fun k => by
    rw [stT_apply, scale_bits]; rfl
  have he : ∀ k : Fin 8192, eT (stT (F := Ideal) (r0 m c) (r1 m c)) (ix3 b i k)
      = Ideal.exp (AttnForm.sc (fun b k i => r0 m c (ix3 b k i)) (fun b i k => r1 m c (ix3 b i k)) b i k * ((11863283 / 268435456 : ℝ) : EReal)
        - Finset.univ.sup fun j => AttnForm.sc (fun b k i => r0 m c (ix3 b k i)) (fun b i k => r1 m c (ix3 b i k)) b i j * ((11863283 / 268435456 : ℝ) : EReal)) := fun k => by
    rw [eT_apply, hs]
    simp only [hs]
  rw [pT_apply, he]
  simp only [he]
  rfl

theorem gV_apply : gT (oV m c) (ix2 b i) = AttnForm.gc (oR m c b i) := by
  rw [gT_apply]
  simp only [oV_apply]
  rfl

theorem exV_apply : exT (gT (oV m c)) (ix2 b i) = Quant.ex (AttnForm.gc (oR m c b i)) := by
  rw [exT_apply _ _ _ (cntT_apply _ _ powT_apply _), gV_apply]
theorem v49_apply : V m c main_v49 (ix2 b i) = Quant.scl (AttnForm.gc (oR m c b i)) := by
  rw [V_main_v49, p2T_apply, exV_apply, Quant.ex_scl]
theorem v59_apply : V m c main_v59 (ix2 b i) = Quant.inv (AttnForm.gc (oR m c b i)) := by
  rw [V_main_v59, p2T_apply, negT_apply, exV_apply, Quant.ex_inv]
theorem bc_apply (w : Vec Ideal S512 .f32) : broadcastInDim S1x512x1 ![1] bcast_S512_S1x512x1_1 w (ix3 0 d 0) = w (ix1 d) := by pointwise

theorem cod_apply : k0_pay3 (F := Ideal) (V m c main_v15) (V m c main_v59) (ix3 b d i) = AttnForm.cc (oR m c b i) d := by
  rw [k0_pay3_apply, v59_apply, V_main_v15, oV_apply]
  rfl
theorem prj_apply : k0_pay4 (F := Ideal) (V m c main_v15) (V m c main_v59) (V m c main_arg4) (V m c main_v49) (V m c main_v60) (V m c main_v61) (ix3 b d i) = jR m c b i d := by
  rw [k0_pay4_apply, v49_apply, V_main_v60, V_main_v61, bc_apply, bc_apply, V_main_arg4]
  unfold jR AttnForm.jc
  exact congrArg₂ (· + ·) (congrArg₂ (· * ·) (congrArg₂ (· * ·) (Finset.sum_congr rfl fun k _ => congrArg (r4 m c (ix2 k d) * ·) (cod_apply m c b i k)) rfl) rfl) rfl
theorem sum_apply : k0_pay5 (F := Ideal) (V m c main_v15) (V m c main_v59) (V m c main_arg4) (V m c main_v49) (V m c main_v60) (V m c main_v61) (V m c main_arg3) (ix3 b d i) = r3 m c (ix3 b d i) + jR m c b i d := by
  rw [k0_pay5_apply, prj_apply, V_main_arg3]

/-! ## The results -/

theorem x3 (y : S10x512x8192.Idx) : y = ix3 (y 0) (y 1) (y 2) :=
  funext fun a => match a with
    | 0 => rfl
    | 1 => rfl
    | 2 => rfl
theorem x2 (y : S10x8192.Idx) : y = ix2 (y 0) (y 1) :=
  funext fun a => match a with
    | 0 => rfl
    | 1 => rfl

theorem of3 (f g : S10x512x8192.Idx → EReal) (h : ∀ b d i, f (ix3 b d i) = g (ix3 b d i)) (y : S10x512x8192.Idx) : f y = g y :=
  (congrArg f (x3 y)).trans ((h (y 0) (y 1) (y 2)).trans (congrArg g (x3 y)).symm)
theorem of2 (f g : S10x8192.Idx → EReal) (h : ∀ b i, f (ix2 b i) = g (ix2 b i)) (y : S10x8192.Idx) : f y = g y :=
  (congrArg f (x2 y)).trans ((h (y 0) (y 1)).trans (congrArg g (x2 y)).symm)

theorem pay2_apply (v : Vec Ideal S10x8192 .f32) (b : Fin 10) (i : Fin 8192) : k0_pay2 (F := Ideal) v (ix2 b i) = v (ix2 b i) := by
  unfold k0_pay2; pointwise

theorem reg0 : (Gen.dats m 0 c).arrAt 7 cfg0.N = fun y => r3 m c y + jR m c (y 0) (y 2) (y 1) :=
  final7 m c (fun y => r3 m c y + jR m c (y 0) (y 2) (y 1)) (of3 _ _ fun b d i => sum_apply m c b i d)
theorem reg1 : (Gen.dats m 0 c).arrAt 8 cfg0.N = fun y => jR m c (y 0) (y 2) (y 1) :=
  final8 m c (fun y => jR m c (y 0) (y 2) (y 1)) (of3 _ _ fun b d i => prj_apply m c b i d)
theorem reg2 : (Gen.dats m 0 c).arrAt 9 cfg0.N = fun y => AttnForm.cc (oR m c (y 0) (y 2)) (y 1) :=
  final9 m c (fun y => AttnForm.cc (oR m c (y 0) (y 2)) (y 1)) (of3 _ _ fun b d i => cod_apply m c b i d)
theorem reg3 : (Gen.dats m 0 c).arrAt 10 cfg0.N = fun y => Quant.scl (AttnForm.gc (oR m c (y 0) (y 1))) :=
  final10 m c (fun y => Quant.scl (AttnForm.gc (oR m c (y 0) (y 1)))) (of2 _ _ fun b i => (pay2_apply (V m c main_v49) b i).trans (v49_apply m c b i))

theorem wide_apply (r : Vec Ideal S10x8192 .f32) (y : S10x1x8192.Idx) : broadcastInDim S10x1x8192 ![0, 2] bcast_S10x8192_S10x1x8192_0_2 r y = r (ix2 (y 0) (y 2)) := by
  refine (Read.val_main_v63_apply r y).trans (congrArg r (funext fun a => ?_))
  match a with
  | 0 => rfl
  | 1 => rfl
theorem reg3w : broadcastInDim S10x1x8192 ![0, 2] bcast_S10x8192_S10x1x8192_0_2 (Value.reg_main_v62_3 m c) = fun y => Quant.scl (AttnForm.gc (oR m c (y 0) (y 2))) :=
  funext fun y => (wide_apply _ y).trans (congrFun (reg3 m c) (ix2 (y 0) (y 2)))

end Cert.AttnRefHost

end
-- ==== Proof.AttnValue.lean ====
/- The kernel and the reference of the attention give equal results: both are the same form of the arguments. -/
module

public import proofs.«01_k».proof.Defs
public import proofs.«01_k».proof.Proof.AttnProgEq
public import proofs.«01_k».proof.Proof.AttnRes
public import proofs.«01_k».proof.Proof.AttnRefRes

@[expose] public section

namespace Cert.AttnValue

open Idealize.ShloMosaic

/-- The claim. -/
theorem value [hAttnIdeal : Cert.AttnIdeal.Facts] [hAttnRefIdeal : Cert.AttnRefIdeal.Facts]
    (hbe : Cert.AttnIdeal.cc0_attention (F := Ideal) = Cert.AttnIdeal.Body.bodyS) : Cert.algebraic_AttnIdeal_AttnRefIdeal := by
  intro m g m' g' _ ha
  have hO : ∀ c, Cert.AttnRefHost.oR m' c = Cert.AttnIdeal.Body.oM m c := fun c => by
    obtain ⟨e0, e1, e2, e3, e4, e5, e6⟩ := ha c
    unfold Cert.AttnRefHost.oR Cert.AttnIdeal.Body.oM Cert.AttnRefHost.r0 Cert.AttnRefHost.r1 Cert.AttnRefHost.r2
    rw [e0, e1, e2]
  have hJ : ∀ c, Cert.AttnRefHost.jR m' c = Cert.AttnIdeal.Body.jM m c := fun c => by
    obtain ⟨e0, e1, e2, e3, e4, e5, e6⟩ := ha c
    unfold Cert.AttnRefHost.jR Cert.AttnIdeal.Body.jM Cert.AttnRefHost.r4 Cert.AttnRefHost.r5 Cert.AttnRefHost.r6
    rw [e4, e5, e6, hO c]
  have h3 : ∀ c, Cert.AttnRefHost.r3 m' c = Cert.AttnIdeal.Body.a3 m c := fun c => (ha c).2.2.2.1
  refine ⟨fun c => Cert.AttnIdeal.Body.res0 m c, fun c => Cert.AttnIdeal.Body.res1 m c, fun c => Cert.AttnIdeal.Body.res2 m c,
    fun c => Cert.AttnIdeal.Body.res3 m c, Cert.AttnIdeal.Body.value_run m g hbe, ?_⟩
  refine (θ_run _ _ _).mono (fun r h c => ?_) (Cert.AttnRefIdeal.Value.run m' g')
  obtain ⟨q0, q1, q2, q3, q⟩ := h c
  refine ⟨q0.trans ?_, q1.trans ?_, q2.trans ?_, q3.trans ?_, q⟩
  · refine (Cert.AttnRefHost.reg0 m' c).trans ?_
    rw [hJ c, h3 c]; rfl
  · refine (Cert.AttnRefHost.reg1 m' c).trans ?_
    rw [hJ c]; rfl
  · refine (Cert.AttnRefHost.reg2 m' c).trans ?_
    rw [hO c]; rfl
  · refine (Cert.AttnRefHost.reg3w m' c).trans ?_
    rw [hO c]; rfl

end Cert.AttnValue

end
-- ==== Proof.lean ====
/- The proof of the claim: the frames of the programs, and their idealizations, and the values. -/
module

public import proofs.«01_k».proof.Defs
public import proofs.«01_k».proof.Proof.Gen.Prep.Frame
public import proofs.«01_k».proof.Proof.Gen.PrepIdeal.Frame
public import proofs.«01_k».proof.Proof.Gen.PrepRefIdeal.Frame
public import proofs.«01_k».proof.Proof.Gen.AttnRefIdeal.Frame
public import proofs.«01_k».proof.Proof.AttnProgEq
public import proofs.«01_k».proof.Proof.AttnFrame
public import proofs.«01_k».proof.Proof.AttnBitsProgEq
public import proofs.«01_k».proof.Proof.AttnBitsFrame
public import proofs.«01_k».proof.Proof.AttnValue

@[expose] public section

open Idealize.ShloMosaic

theorem Cert.Proof.attn_body : Cert.Attn.cc0_attention (F := Bits) = Cert.Attn.Body.bodyS := by
  funext i a1 h1 a2 h2 a3 h3 a4 h4 a5 h5 a6 h6 a7 h7 a8 h8 a9 h9 a10 h10 a11 h11 a12 h12 a13 h13 a14 h14 a15 h15
  exact Cert.Attn.Body.body_eq _ _ _ _ _ _ _ _ _ _ _ _ _ _ _ _ _ _ _ _ _ _ _ _ _ _ _ _ _ _ _ _

theorem Cert.Proof.attnIdeal_body : Cert.AttnIdeal.cc0_attention (F := Ideal) = Cert.AttnIdeal.Body.bodyS := by
  funext i a1 h1 a2 h2 a3 h3 a4 h4 a5 h5 a6 h6 a7 h7 a8 h8 a9 h9 a10 h10 a11 h11 a12 h12 a13 h13 a14 h14 a15 h15
  exact Cert.AttnIdeal.Body.body_eq _ _ _ _ _ _ _ _ _ _ _ _ _ _ _ _ _ _ _ _ _ _ _ _ _ _ _ _ _ _ _ _

theorem Cert.Proof.claim : Cert.Claim :=
  ⟨Cert.Prep.Gen.facts, Cert.PrepIdeal.Gen.facts, Cert.PrepRefIdeal.Gen.facts, Cert.Attn.Gen.facts, Cert.AttnIdeal.Gen.facts, Cert.AttnRefIdeal.Gen.facts,
    fun m ρ _ => Cert.Prep.Gen.frame m ρ,
    fun m ρ _ => Cert.PrepIdeal.Gen.frame m ρ,
    fun m ρ _ => Cert.PrepRefIdeal.Gen.frame m ρ,
    fun m ρ _ => Cert.Attn.Body.frame_run m ρ Cert.Proof.attn_body,
    fun m ρ _ => Cert.AttnIdeal.Body.frame_run m ρ Cert.Proof.attnIdeal_body,
    fun m ρ _ => Cert.AttnRefIdeal.Gen.frame m ρ,
    trivial,
    IdealRules.named_const.statement Cert.AttnIdeal.κ "exp_scale" .f32 0x3D8293EE#32 (((11863283 / 268435456) * (Real.log 2)⁻¹ : ℝ) : EReal) rfl,
    Cert.AttnValue.value Cert.Proof.attnIdeal_body⟩

end
